-- ==== Defs.lean ====
def Pre_BwdIn (m : (ℓ : Loc Cert.BwdIn.nD Cert.BwdIn.τ Cert.BwdIn.sig) → Buf (Elt Bits) ℓ) : Prop :=
  True

def Pre_BwdInIdeal (m : (ℓ : Loc Cert.BwdInIdeal.nD Cert.BwdInIdeal.τ Cert.BwdInIdeal.sig) → Buf (Elt Ideal) ℓ) : Prop :=
  True

def Pre_BwdInIdeal_bwd_in_finite [hPre_bwd_in_finite : Cert.Pre_bwd_in_finite.Facts] (m : (ℓ : Loc Cert.BwdInIdeal.nD Cert.BwdInIdeal.τ Cert.BwdInIdeal.sig) → Buf (Elt Ideal) ℓ) : Prop :=
  ∀ c : Dev Cert.BwdInIdeal.nD,
    (Cert.Pre_bwd_in_finite.fn (F := Ideal) (m ((c.tc : Thread Cert.BwdInIdeal.nD Cert.BwdInIdeal.τ).loc Cert.BwdInIdeal.main_arg0)) (m ((c.tc : Thread Cert.BwdInIdeal.nD Cert.BwdInIdeal.τ).loc Cert.BwdInIdeal.main_arg1)) (m ((c.tc : Thread Cert.BwdInIdeal.nD Cert.BwdInIdeal.τ).loc Cert.BwdInIdeal.main_arg2)) (m ((c.tc : Thread Cert.BwdInIdeal.nD Cert.BwdInIdeal.τ).loc Cert.BwdInIdeal.main_arg3)) (m ((c.tc : Thread Cert.BwdInIdeal.nD Cert.BwdInIdeal.τ).loc Cert.BwdInIdeal.main_arg4))) = (fun _ => 1#1)

def Pre_BwdInRefIdeal (m : (ℓ : Loc Cert.BwdInRefIdeal.nD Cert.BwdInRefIdeal.τ Cert.BwdInRefIdeal.sig) → Buf (Elt Ideal) ℓ) : Prop :=
  True

def Pre_BwdInRefIdeal_bwd_in_finite [hPre_bwd_in_finite : Cert.Pre_bwd_in_finite.Facts] (m : (ℓ : Loc Cert.BwdInRefIdeal.nD Cert.BwdInRefIdeal.τ Cert.BwdInRefIdeal.sig) → Buf (Elt Ideal) ℓ) : Prop :=
  ∀ c : Dev Cert.BwdInRefIdeal.nD,
    (Cert.Pre_bwd_in_finite.fn (F := Ideal) (m ((c.tc : Thread Cert.BwdInRefIdeal.nD Cert.BwdInRefIdeal.τ).loc Cert.BwdInRefIdeal.main_arg0)) (m ((c.tc : Thread Cert.BwdInRefIdeal.nD Cert.BwdInRefIdeal.τ).loc Cert.BwdInRefIdeal.main_arg1)) (m ((c.tc : Thread Cert.BwdInRefIdeal.nD Cert.BwdInRefIdeal.τ).loc Cert.BwdInRefIdeal.main_arg2)) (m ((c.tc : Thread Cert.BwdInRefIdeal.nD Cert.BwdInRefIdeal.τ).loc Cert.BwdInRefIdeal.main_arg3)) (m ((c.tc : Thread Cert.BwdInRefIdeal.nD Cert.BwdInRefIdeal.τ).loc Cert.BwdInRefIdeal.main_arg4))) = (fun _ => 1#1)

def Pre_BwdFfnA (m : (ℓ : Loc Cert.BwdFfnA.nD Cert.BwdFfnA.τ Cert.BwdFfnA.sig) → Buf (Elt Bits) ℓ) : Prop :=
  True

def Pre_BwdFfnAIdeal (m : (ℓ : Loc Cert.BwdFfnAIdeal.nD Cert.BwdFfnAIdeal.τ Cert.BwdFfnAIdeal.sig) → Buf (Elt Ideal) ℓ) : Prop :=
  True

def Pre_BwdFfnAIdeal_bwd_ffn_a_finite [hPre_bwd_ffn_a_finite : Cert.Pre_bwd_ffn_a_finite.Facts] (m : (ℓ : Loc Cert.BwdFfnAIdeal.nD Cert.BwdFfnAIdeal.τ Cert.BwdFfnAIdeal.sig) → Buf (Elt Ideal) ℓ) : Prop :=
  ∀ c : Dev Cert.BwdFfnAIdeal.nD,
    (Cert.Pre_bwd_ffn_a_finite.fn (F := Ideal) (m ((c.tc : Thread Cert.BwdFfnAIdeal.nD Cert.BwdFfnAIdeal.τ).loc Cert.BwdFfnAIdeal.main_arg0)) (m ((c.tc : Thread Cert.BwdFfnAIdeal.nD Cert.BwdFfnAIdeal.τ).loc Cert.BwdFfnAIdeal.main_arg1)) (m ((c.tc : Thread Cert.BwdFfnAIdeal.nD Cert.BwdFfnAIdeal.τ).loc Cert.BwdFfnAIdeal.main_arg2)) (m ((c.tc : Thread Cert.BwdFfnAIdeal.nD Cert.BwdFfnAIdeal.τ).loc Cert.BwdFfnAIdeal.main_arg3)) (m ((c.tc : Thread Cert.BwdFfnAIdeal.nD Cert.BwdFfnAIdeal.τ).loc Cert.BwdFfnAIdeal.main_arg4)) (m ((c.tc : Thread Cert.BwdFfnAIdeal.nD Cert.BwdFfnAIdeal.τ).loc Cert.BwdFfnAIdeal.main_arg5))) = (fun _ => 1#1)

def Pre_BwdFfnARefIdeal (m : (ℓ : Loc Cert.BwdFfnARefIdeal.nD Cert.BwdFfnARefIdeal.τ Cert.BwdFfnARefIdeal.sig) → Buf (Elt Ideal) ℓ) : Prop :=
  True

def Pre_BwdFfnARefIdeal_bwd_ffn_a_finite [hPre_bwd_ffn_a_finite : Cert.Pre_bwd_ffn_a_finite.Facts] (m : (ℓ : Loc Cert.BwdFfnARefIdeal.nD Cert.BwdFfnARefIdeal.τ Cert.BwdFfnARefIdeal.sig) → Buf (Elt Ideal) ℓ) : Prop :=
  ∀ c : Dev Cert.BwdFfnARefIdeal.nD,
    (Cert.Pre_bwd_ffn_a_finite.fn (F := Ideal) (m ((c.tc : Thread Cert.BwdFfnARefIdeal.nD Cert.BwdFfnARefIdeal.τ).loc Cert.BwdFfnARefIdeal.main_arg0)) (m ((c.tc : Thread Cert.BwdFfnARefIdeal.nD Cert.BwdFfnARefIdeal.τ).loc Cert.BwdFfnARefIdeal.main_arg1)) (m ((c.tc : Thread Cert.BwdFfnARefIdeal.nD Cert.BwdFfnARefIdeal.τ).loc Cert.BwdFfnARefIdeal.main_arg2)) (m ((c.tc : Thread Cert.BwdFfnARefIdeal.nD Cert.BwdFfnARefIdeal.τ).loc Cert.BwdFfnARefIdeal.main_arg3)) (m ((c.tc : Thread Cert.BwdFfnARefIdeal.nD Cert.BwdFfnARefIdeal.τ).loc Cert.BwdFfnARefIdeal.main_arg4)) (m ((c.tc : Thread Cert.BwdFfnARefIdeal.nD Cert.BwdFfnARefIdeal.τ).loc Cert.BwdFfnARefIdeal.main_arg5))) = (fun _ => 1#1)

def Pre_BwdFfnB (m : (ℓ : Loc Cert.BwdFfnB.nD Cert.BwdFfnB.τ Cert.BwdFfnB.sig) → Buf (Elt Bits) ℓ) : Prop :=
  True

def Pre_BwdFfnBIdeal (m : (ℓ : Loc Cert.BwdFfnBIdeal.nD Cert.BwdFfnBIdeal.τ Cert.BwdFfnBIdeal.sig) → Buf (Elt Ideal) ℓ) : Prop :=
  True

def Pre_BwdFfnBIdeal_bwd_ffn_b_finite [hPre_bwd_ffn_b_finite : Cert.Pre_bwd_ffn_b_finite.Facts] (m : (ℓ : Loc Cert.BwdFfnBIdeal.nD Cert.BwdFfnBIdeal.τ Cert.BwdFfnBIdeal.sig) → Buf (Elt Ideal) ℓ) : Prop :=
  ∀ c : Dev Cert.BwdFfnBIdeal.nD,
    (Cert.Pre_bwd_ffn_b_finite.fn (F := Ideal) (m ((c.tc : Thread Cert.BwdFfnBIdeal.nD Cert.BwdFfnBIdeal.τ).loc Cert.BwdFfnBIdeal.main_arg0)) (m ((c.tc : Thread Cert.BwdFfnBIdeal.nD Cert.BwdFfnBIdeal.τ).loc Cert.BwdFfnBIdeal.main_arg1)) (m ((c.tc : Thread Cert.BwdFfnBIdeal.nD Cert.BwdFfnBIdeal.τ).loc Cert.BwdFfnBIdeal.main_arg2)) (m ((c.tc : Thread Cert.BwdFfnBIdeal.nD Cert.BwdFfnBIdeal.τ).loc Cert.BwdFfnBIdeal.main_arg3)) (m ((c.tc : Thread Cert.BwdFfnBIdeal.nD Cert.BwdFfnBIdeal.τ).loc Cert.BwdFfnBIdeal.main_arg4)) (m ((c.tc : Thread Cert.BwdFfnBIdeal.nD Cert.BwdFfnBIdeal.τ).loc Cert.BwdFfnBIdeal.main_arg5)) (m ((c.tc : Thread Cert.BwdFfnBIdeal.nD Cert.BwdFfnBIdeal.τ).loc Cert.BwdFfnBIdeal.main_arg6)) (m ((c.tc : Thread Cert.BwdFfnBIdeal.nD Cert.BwdFfnBIdeal.τ).loc Cert.BwdFfnBIdeal.main_arg7)) (m ((c.tc : Thread Cert.BwdFfnBIdeal.nD Cert.BwdFfnBIdeal.τ).loc Cert.BwdFfnBIdeal.main_arg8)) (m ((c.tc : Thread Cert.BwdFfnBIdeal.nD Cert.BwdFfnBIdeal.τ).loc Cert.BwdFfnBIdeal.main_arg9)) (m ((c.tc : Thread Cert.BwdFfnBIdeal.nD Cert.BwdFfnBIdeal.τ).loc Cert.BwdFfnBIdeal.main_arg10))) = (fun _ => 1#1)

def Pre_BwdFfnBRefIdeal (m : (ℓ : Loc Cert.BwdFfnBRefIdeal.nD Cert.BwdFfnBRefIdeal.τ Cert.BwdFfnBRefIdeal.sig) → Buf (Elt Ideal) ℓ) : Prop :=
  True

def Pre_BwdFfnBRefIdeal_bwd_ffn_b_finite [hPre_bwd_ffn_b_finite : Cert.Pre_bwd_ffn_b_finite.Facts] (m : (ℓ : Loc Cert.BwdFfnBRefIdeal.nD Cert.BwdFfnBRefIdeal.τ Cert.BwdFfnBRefIdeal.sig) → Buf (Elt Ideal) ℓ) : Prop :=
  ∀ c : Dev Cert.BwdFfnBRefIdeal.nD,
    (Cert.Pre_bwd_ffn_b_finite.fn (F := Ideal) (m ((c.tc : Thread Cert.BwdFfnBRefIdeal.nD Cert.BwdFfnBRefIdeal.τ).loc Cert.BwdFfnBRefIdeal.main_arg0)) (m ((c.tc : Thread Cert.BwdFfnBRefIdeal.nD Cert.BwdFfnBRefIdeal.τ).loc Cert.BwdFfnBRefIdeal.main_arg1)) (m ((c.tc : Thread Cert.BwdFfnBRefIdeal.nD Cert.BwdFfnBRefIdeal.τ).loc Cert.BwdFfnBRefIdeal.main_arg2)) (m ((c.tc : Thread Cert.BwdFfnBRefIdeal.nD Cert.BwdFfnBRefIdeal.τ).loc Cert.BwdFfnBRefIdeal.main_arg3)) (m ((c.tc : Thread Cert.BwdFfnBRefIdeal.nD Cert.BwdFfnBRefIdeal.τ).loc Cert.BwdFfnBRefIdeal.main_arg4)) (m ((c.tc : Thread Cert.BwdFfnBRefIdeal.nD Cert.BwdFfnBRefIdeal.τ).loc Cert.BwdFfnBRefIdeal.main_arg5)) (m ((c.tc : Thread Cert.BwdFfnBRefIdeal.nD Cert.BwdFfnBRefIdeal.τ).loc Cert.BwdFfnBRefIdeal.main_arg6)) (m ((c.tc : Thread Cert.BwdFfnBRefIdeal.nD Cert.BwdFfnBRefIdeal.τ).loc Cert.BwdFfnBRefIdeal.main_arg7)) (m ((c.tc : Thread Cert.BwdFfnBRefIdeal.nD Cert.BwdFfnBRefIdeal.τ).loc Cert.BwdFfnBRefIdeal.main_arg8)) (m ((c.tc : Thread Cert.BwdFfnBRefIdeal.nD Cert.BwdFfnBRefIdeal.τ).loc Cert.BwdFfnBRefIdeal.main_arg9)) (m ((c.tc : Thread Cert.BwdFfnBRefIdeal.nD Cert.BwdFfnBRefIdeal.τ).loc Cert.BwdFfnBRefIdeal.main_arg10))) = (fun _ => 1#1)

def Pre_FwdTail (m : (ℓ : Loc Cert.FwdTail.nD Cert.FwdTail.τ Cert.FwdTail.sig) → Buf (Elt Bits) ℓ) : Prop :=
  True

def Pre_FwdTailIdeal (m : (ℓ : Loc Cert.FwdTailIdeal.nD Cert.FwdTailIdeal.τ Cert.FwdTailIdeal.sig) → Buf (Elt Ideal) ℓ) : Prop :=
  True

def Pre_FwdTailIdeal_fwd_tail_finite [hPre_fwd_tail_finite : Cert.Pre_fwd_tail_finite.Facts] (m : (ℓ : Loc Cert.FwdTailIdeal.nD Cert.FwdTailIdeal.τ Cert.FwdTailIdeal.sig) → Buf (Elt Ideal) ℓ) : Prop :=
  ∀ c : Dev Cert.FwdTailIdeal.nD,
    (Cert.Pre_fwd_tail_finite.fn (F := Ideal) (m ((c.tc : Thread Cert.FwdTailIdeal.nD Cert.FwdTailIdeal.τ).loc Cert.FwdTailIdeal.main_arg0)) (m ((c.tc : Thread Cert.FwdTailIdeal.nD Cert.FwdTailIdeal.τ).loc Cert.FwdTailIdeal.main_arg1)) (m ((c.tc : Thread Cert.FwdTailIdeal.nD Cert.FwdTailIdeal.τ).loc Cert.FwdTailIdeal.main_arg2)) (m ((c.tc : Thread Cert.FwdTailIdeal.nD Cert.FwdTailIdeal.τ).loc Cert.FwdTailIdeal.main_arg3)) (m ((c.tc : Thread Cert.FwdTailIdeal.nD Cert.FwdTailIdeal.τ).loc Cert.FwdTailIdeal.main_arg4)) (m ((c.tc : Thread Cert.FwdTailIdeal.nD Cert.FwdTailIdeal.τ).loc Cert.FwdTailIdeal.main_arg5)) (m ((c.tc : Thread Cert.FwdTailIdeal.nD Cert.FwdTailIdeal.τ).loc Cert.FwdTailIdeal.main_arg6)) (m ((c.tc : Thread Cert.FwdTailIdeal.nD Cert.FwdTailIdeal.τ).loc Cert.FwdTailIdeal.main_arg7))) = (fun _ => 1#1)

def Pre_FwdTailRefIdeal (m : (ℓ : Loc Cert.FwdTailRefIdeal.nD Cert.FwdTailRefIdeal.τ Cert.FwdTailRefIdeal.sig) → Buf (Elt Ideal) ℓ) : Prop :=
  True

def Pre_FwdTailRefIdeal_fwd_tail_finite [hPre_fwd_tail_finite : Cert.Pre_fwd_tail_finite.Facts] (m : (ℓ : Loc Cert.FwdTailRefIdeal.nD Cert.FwdTailRefIdeal.τ Cert.FwdTailRefIdeal.sig) → Buf (Elt Ideal) ℓ) : Prop :=
  ∀ c : Dev Cert.FwdTailRefIdeal.nD,
    (Cert.Pre_fwd_tail_finite.fn (F := Ideal) (m ((c.tc : Thread Cert.FwdTailRefIdeal.nD Cert.FwdTailRefIdeal.τ).loc Cert.FwdTailRefIdeal.main_arg0)) (m ((c.tc : Thread Cert.FwdTailRefIdeal.nD Cert.FwdTailRefIdeal.τ).loc Cert.FwdTailRefIdeal.main_arg1)) (m ((c.tc : Thread Cert.FwdTailRefIdeal.nD Cert.FwdTailRefIdeal.τ).loc Cert.FwdTailRefIdeal.main_arg2)) (m ((c.tc : Thread Cert.FwdTailRefIdeal.nD Cert.FwdTailRefIdeal.τ).loc Cert.FwdTailRefIdeal.main_arg3)) (m ((c.tc : Thread Cert.FwdTailRefIdeal.nD Cert.FwdTailRefIdeal.τ).loc Cert.FwdTailRefIdeal.main_arg4)) (m ((c.tc : Thread Cert.FwdTailRefIdeal.nD Cert.FwdTailRefIdeal.τ).loc Cert.FwdTailRefIdeal.main_arg5)) (m ((c.tc : Thread Cert.FwdTailRefIdeal.nD Cert.FwdTailRefIdeal.τ).loc Cert.FwdTailRefIdeal.main_arg6)) (m ((c.tc : Thread Cert.FwdTailRefIdeal.nD Cert.FwdTailRefIdeal.τ).loc Cert.FwdTailRefIdeal.main_arg7))) = (fun _ => 1#1)

def Pre_FwdMix (m : (ℓ : Loc Cert.FwdMix.nD Cert.FwdMix.τ Cert.FwdMix.sig) → Buf (Elt Bits) ℓ) : Prop :=
  True

def Pre_FwdMixIdeal (m : (ℓ : Loc Cert.FwdMixIdeal.nD Cert.FwdMixIdeal.τ Cert.FwdMixIdeal.sig) → Buf (Elt Ideal) ℓ) : Prop :=
  True

def Pre_FwdMixIdeal_fwd_mix_finite [hPre_fwd_mix_finite : Cert.Pre_fwd_mix_finite.Facts] (m : (ℓ : Loc Cert.FwdMixIdeal.nD Cert.FwdMixIdeal.τ Cert.FwdMixIdeal.sig) → Buf (Elt Ideal) ℓ) : Prop :=
  ∀ c : Dev Cert.FwdMixIdeal.nD,
    (Cert.Pre_fwd_mix_finite.fn (F := Ideal) (m ((c.tc : Thread Cert.FwdMixIdeal.nD Cert.FwdMixIdeal.τ).loc Cert.FwdMixIdeal.main_arg0)) (m ((c.tc : Thread Cert.FwdMixIdeal.nD Cert.FwdMixIdeal.τ).loc Cert.FwdMixIdeal.main_arg1)) (m ((c.tc : Thread Cert.FwdMixIdeal.nD Cert.FwdMixIdeal.τ).loc Cert.FwdMixIdeal.main_arg2)) (m ((c.tc : Thread Cert.FwdMixIdeal.nD Cert.FwdMixIdeal.τ).loc Cert.FwdMixIdeal.main_arg3)) (m ((c.tc : Thread Cert.FwdMixIdeal.nD Cert.FwdMixIdeal.τ).loc Cert.FwdMixIdeal.main_arg4)) (m ((c.tc : Thread Cert.FwdMixIdeal.nD Cert.FwdMixIdeal.τ).loc Cert.FwdMixIdeal.main_arg5)) (m ((c.tc : Thread Cert.FwdMixIdeal.nD Cert.FwdMixIdeal.τ).loc Cert.FwdMixIdeal.main_arg6)) (m ((c.tc : Thread Cert.FwdMixIdeal.nD Cert.FwdMixIdeal.τ).loc Cert.FwdMixIdeal.main_arg7))) = (fun _ => 1#1)

def Pre_FwdMixRefIdeal (m : (ℓ : Loc Cert.FwdMixRefIdeal.nD Cert.FwdMixRefIdeal.τ Cert.FwdMixRefIdeal.sig) → Buf (Elt Ideal) ℓ) : Prop :=
  True

def Pre_FwdMixRefIdeal_fwd_mix_finite [hPre_fwd_mix_finite : Cert.Pre_fwd_mix_finite.Facts] (m : (ℓ : Loc Cert.FwdMixRefIdeal.nD Cert.FwdMixRefIdeal.τ Cert.FwdMixRefIdeal.sig) → Buf (Elt Ideal) ℓ) : Prop :=
  ∀ c : Dev Cert.FwdMixRefIdeal.nD,
    (Cert.Pre_fwd_mix_finite.fn (F := Ideal) (m ((c.tc : Thread Cert.FwdMixRefIdeal.nD Cert.FwdMixRefIdeal.τ).loc Cert.FwdMixRefIdeal.main_arg0)) (m ((c.tc : Thread Cert.FwdMixRefIdeal.nD Cert.FwdMixRefIdeal.τ).loc Cert.FwdMixRefIdeal.main_arg1)) (m ((c.tc : Thread Cert.FwdMixRefIdeal.nD Cert.FwdMixRefIdeal.τ).loc Cert.FwdMixRefIdeal.main_arg2)) (m ((c.tc : Thread Cert.FwdMixRefIdeal.nD Cert.FwdMixRefIdeal.τ).loc Cert.FwdMixRefIdeal.main_arg3)) (m ((c.tc : Thread Cert.FwdMixRefIdeal.nD Cert.FwdMixRefIdeal.τ).loc Cert.FwdMixRefIdeal.main_arg4)) (m ((c.tc : Thread Cert.FwdMixRefIdeal.nD Cert.FwdMixRefIdeal.τ).loc Cert.FwdMixRefIdeal.main_arg5)) (m ((c.tc : Thread Cert.FwdMixRefIdeal.nD Cert.FwdMixRefIdeal.τ).loc Cert.FwdMixRefIdeal.main_arg6)) (m ((c.tc : Thread Cert.FwdMixRefIdeal.nD Cert.FwdMixRefIdeal.τ).loc Cert.FwdMixRefIdeal.main_arg7))) = (fun _ => 1#1)

def Pre_FwdFfn (m : (ℓ : Loc Cert.FwdFfn.nD Cert.FwdFfn.τ Cert.FwdFfn.sig) → Buf (Elt Bits) ℓ) : Prop :=
  True

def Pre_FwdFfnIdeal (m : (ℓ : Loc Cert.FwdFfnIdeal.nD Cert.FwdFfnIdeal.τ Cert.FwdFfnIdeal.sig) → Buf (Elt Ideal) ℓ) : Prop :=
  True

def Pre_FwdFfnIdeal_fwd_ffn_finite [hPre_fwd_ffn_finite : Cert.Pre_fwd_ffn_finite.Facts] (m : (ℓ : Loc Cert.FwdFfnIdeal.nD Cert.FwdFfnIdeal.τ Cert.FwdFfnIdeal.sig) → Buf (Elt Ideal) ℓ) : Prop :=
  ∀ c : Dev Cert.FwdFfnIdeal.nD,
    (Cert.Pre_fwd_ffn_finite.fn (F := Ideal) (m ((c.tc : Thread Cert.FwdFfnIdeal.nD Cert.FwdFfnIdeal.τ).loc Cert.FwdFfnIdeal.main_arg0)) (m ((c.tc : Thread Cert.FwdFfnIdeal.nD Cert.FwdFfnIdeal.τ).loc Cert.FwdFfnIdeal.main_arg1)) (m ((c.tc : Thread Cert.FwdFfnIdeal.nD Cert.FwdFfnIdeal.τ).loc Cert.FwdFfnIdeal.main_arg2)) (m ((c.tc : Thread Cert.FwdFfnIdeal.nD Cert.FwdFfnIdeal.τ).loc Cert.FwdFfnIdeal.main_arg3)) (m ((c.tc : Thread Cert.FwdFfnIdeal.nD Cert.FwdFfnIdeal.τ).loc Cert.FwdFfnIdeal.main_arg4)) (m ((c.tc : Thread Cert.FwdFfnIdeal.nD Cert.FwdFfnIdeal.τ).loc Cert.FwdFfnIdeal.main_arg5)) (m ((c.tc : Thread Cert.FwdFfnIdeal.nD Cert.FwdFfnIdeal.τ).loc Cert.FwdFfnIdeal.main_arg6)) (m ((c.tc : Thread Cert.FwdFfnIdeal.nD Cert.FwdFfnIdeal.τ).loc Cert.FwdFfnIdeal.main_arg7)) (m ((c.tc : Thread Cert.FwdFfnIdeal.nD Cert.FwdFfnIdeal.τ).loc Cert.FwdFfnIdeal.main_arg8)) (m ((c.tc : Thread Cert.FwdFfnIdeal.nD Cert.FwdFfnIdeal.τ).loc Cert.FwdFfnIdeal.main_arg9))) = (fun _ => 1#1)

def Pre_FwdFfnRefIdeal (m : (ℓ : Loc Cert.FwdFfnRefIdeal.nD Cert.FwdFfnRefIdeal.τ Cert.FwdFfnRefIdeal.sig) → Buf (Elt Ideal) ℓ) : Prop :=
  True

def Pre_FwdFfnRefIdeal_fwd_ffn_finite [hPre_fwd_ffn_finite : Cert.Pre_fwd_ffn_finite.Facts] (m : (ℓ : Loc Cert.FwdFfnRefIdeal.nD Cert.FwdFfnRefIdeal.τ Cert.FwdFfnRefIdeal.sig) → Buf (Elt Ideal) ℓ) : Prop :=
  ∀ c : Dev Cert.FwdFfnRefIdeal.nD,
    (Cert.Pre_fwd_ffn_finite.fn (F := Ideal) (m ((c.tc : Thread Cert.FwdFfnRefIdeal.nD Cert.FwdFfnRefIdeal.τ).loc Cert.FwdFfnRefIdeal.main_arg0)) (m ((c.tc : Thread Cert.FwdFfnRefIdeal.nD Cert.FwdFfnRefIdeal.τ).loc Cert.FwdFfnRefIdeal.main_arg1)) (m ((c.tc : Thread Cert.FwdFfnRefIdeal.nD Cert.FwdFfnRefIdeal.τ).loc Cert.FwdFfnRefIdeal.main_arg2)) (m ((c.tc : Thread Cert.FwdFfnRefIdeal.nD Cert.FwdFfnRefIdeal.τ).loc Cert.FwdFfnRefIdeal.main_arg3)) (m ((c.tc : Thread Cert.FwdFfnRefIdeal.nD Cert.FwdFfnRefIdeal.τ).loc Cert.FwdFfnRefIdeal.main_arg4)) (m ((c.tc : Thread Cert.FwdFfnRefIdeal.nD Cert.FwdFfnRefIdeal.τ).loc Cert.FwdFfnRefIdeal.main_arg5)) (m ((c.tc : Thread Cert.FwdFfnRefIdeal.nD Cert.FwdFfnRefIdeal.τ).loc Cert.FwdFfnRefIdeal.main_arg6)) (m ((c.tc : Thread Cert.FwdFfnRefIdeal.nD Cert.FwdFfnRefIdeal.τ).loc Cert.FwdFfnRefIdeal.main_arg7)) (m ((c.tc : Thread Cert.FwdFfnRefIdeal.nD Cert.FwdFfnRefIdeal.τ).loc Cert.FwdFfnRefIdeal.main_arg8)) (m ((c.tc : Thread Cert.FwdFfnRefIdeal.nD Cert.FwdFfnRefIdeal.τ).loc Cert.FwdFfnRefIdeal.main_arg9))) = (fun _ => 1#1)

def Pre_AttnF (m : (ℓ : Loc Cert.AttnF.nD Cert.AttnF.τ Cert.AttnF.sig) → Buf (Elt Bits) ℓ) : Prop :=
  True

def Pre_AttnFIdeal (m : (ℓ : Loc Cert.AttnFIdeal.nD Cert.AttnFIdeal.τ Cert.AttnFIdeal.sig) → Buf (Elt Ideal) ℓ) : Prop :=
  True

def Pre_AttnFIdeal_attn_fwd_finite [hPre_attn_fwd_finite : Cert.Pre_attn_fwd_finite.Facts] (m : (ℓ : Loc Cert.AttnFIdeal.nD Cert.AttnFIdeal.τ Cert.AttnFIdeal.sig) → Buf (Elt Ideal) ℓ) : Prop :=
  ∀ c : Dev Cert.AttnFIdeal.nD,
    (Cert.Pre_attn_fwd_finite.fn (F := Ideal) (m ((c.tc : Thread Cert.AttnFIdeal.nD Cert.AttnFIdeal.τ).loc Cert.AttnFIdeal.main_arg0)) (m ((c.tc : Thread Cert.AttnFIdeal.nD Cert.AttnFIdeal.τ).loc Cert.AttnFIdeal.main_arg1)) (m ((c.tc : Thread Cert.AttnFIdeal.nD Cert.AttnFIdeal.τ).loc Cert.AttnFIdeal.main_arg2))) = (fun _ => 1#1)

def Pre_AttnFRefIdeal (m : (ℓ : Loc Cert.AttnFRefIdeal.nD Cert.AttnFRefIdeal.τ Cert.AttnFRefIdeal.sig) → Buf (Elt Ideal) ℓ) : Prop :=
  True

def Pre_AttnFRefIdeal_attn_fwd_finite [hPre_attn_fwd_finite : Cert.Pre_attn_fwd_finite.Facts] (m : (ℓ : Loc Cert.AttnFRefIdeal.nD Cert.AttnFRefIdeal.τ Cert.AttnFRefIdeal.sig) → Buf (Elt Ideal) ℓ) : Prop :=
  ∀ c : Dev Cert.AttnFRefIdeal.nD,
    (Cert.Pre_attn_fwd_finite.fn (F := Ideal) (m ((c.tc : Thread Cert.AttnFRefIdeal.nD Cert.AttnFRefIdeal.τ).loc Cert.AttnFRefIdeal.main_arg0)) (m ((c.tc : Thread Cert.AttnFRefIdeal.nD Cert.AttnFRefIdeal.τ).loc Cert.AttnFRefIdeal.main_arg1)) (m ((c.tc : Thread Cert.AttnFRefIdeal.nD Cert.AttnFRefIdeal.τ).loc Cert.AttnFRefIdeal.main_arg2))) = (fun _ => 1#1)

def quiescent_BwdIn [hBwdIn : Cert.BwdIn.Facts] : Prop :=
  ∀ (m : (ℓ : Loc Cert.BwdIn.nD Cert.BwdIn.τ Cert.BwdIn.sig) → Buf (Elt Bits) ℓ) (g : Dev Cert.BwdIn.nD → PrngReg), Pre_BwdIn m →
    θ_run (Cert.BwdIn.defs (F := Bits)) (onTc (τ := Cert.BwdIn.τ) (Cert.BwdIn.main (F := Bits))) ⟨m, fun _ => 0, g⟩ (fun r => (∀ c : Dev Cert.BwdIn.nD,
      r.2.mem ((c.tc : Thread Cert.BwdIn.nD Cert.BwdIn.τ).loc Cert.BwdIn.main_arg0) = m ((c.tc : Thread Cert.BwdIn.nD Cert.BwdIn.τ).loc Cert.BwdIn.main_arg0)
      ∧ r.2.mem ((c.tc : Thread Cert.BwdIn.nD Cert.BwdIn.τ).loc Cert.BwdIn.main_arg1) = m ((c.tc : Thread Cert.BwdIn.nD Cert.BwdIn.τ).loc Cert.BwdIn.main_arg1)
      ∧ r.2.mem ((c.tc : Thread Cert.BwdIn.nD Cert.BwdIn.τ).loc Cert.BwdIn.main_arg2) = m ((c.tc : Thread Cert.BwdIn.nD Cert.BwdIn.τ).loc Cert.BwdIn.main_arg2)
      ∧ r.2.mem ((c.tc : Thread Cert.BwdIn.nD Cert.BwdIn.τ).loc Cert.BwdIn.main_arg3) = m ((c.tc : Thread Cert.BwdIn.nD Cert.BwdIn.τ).loc Cert.BwdIn.main_arg3)
      ∧ r.2.mem ((c.tc : Thread Cert.BwdIn.nD Cert.BwdIn.τ).loc Cert.BwdIn.main_arg4) = m ((c.tc : Thread Cert.BwdIn.nD Cert.BwdIn.τ).loc Cert.BwdIn.main_arg4))
      ∧ r.2.sem = fun _ => 0)

def quiescent_BwdInIdeal [hBwdInIdeal : Cert.BwdInIdeal.Facts] : Prop :=
  ∀ (m : (ℓ : Loc Cert.BwdInIdeal.nD Cert.BwdInIdeal.τ Cert.BwdInIdeal.sig) → Buf (Elt Ideal) ℓ) (g : Dev Cert.BwdInIdeal.nD → PrngReg), Pre_BwdInIdeal m →
    θ_run (Cert.BwdInIdeal.defs (F := Ideal)) (onTc (τ := Cert.BwdInIdeal.τ) (Cert.BwdInIdeal.main (F := Ideal))) ⟨m, fun _ => 0, g⟩ (fun r => (∀ c : Dev Cert.BwdInIdeal.nD,
      r.2.mem ((c.tc : Thread Cert.BwdInIdeal.nD Cert.BwdInIdeal.τ).loc Cert.BwdInIdeal.main_arg0) = m ((c.tc : Thread Cert.BwdInIdeal.nD Cert.BwdInIdeal.τ).loc Cert.BwdInIdeal.main_arg0)
      ∧ r.2.mem ((c.tc : Thread Cert.BwdInIdeal.nD Cert.BwdInIdeal.τ).loc Cert.BwdInIdeal.main_arg1) = m ((c.tc : Thread Cert.BwdInIdeal.nD Cert.BwdInIdeal.τ).loc Cert.BwdInIdeal.main_arg1)
      ∧ r.2.mem ((c.tc : Thread Cert.BwdInIdeal.nD Cert.BwdInIdeal.τ).loc Cert.BwdInIdeal.main_arg2) = m ((c.tc : Thread Cert.BwdInIdeal.nD Cert.BwdInIdeal.τ).loc Cert.BwdInIdeal.main_arg2)
      ∧ r.2.mem ((c.tc : Thread Cert.BwdInIdeal.nD Cert.BwdInIdeal.τ).loc Cert.BwdInIdeal.main_arg3) = m ((c.tc : Thread Cert.BwdInIdeal.nD Cert.BwdInIdeal.τ).loc Cert.BwdInIdeal.main_arg3)
      ∧ r.2.mem ((c.tc : Thread Cert.BwdInIdeal.nD Cert.BwdInIdeal.τ).loc Cert.BwdInIdeal.main_arg4) = m ((c.tc : Thread Cert.BwdInIdeal.nD Cert.BwdInIdeal.τ).loc Cert.BwdInIdeal.main_arg4))
      ∧ r.2.sem = fun _ => 0)

def quiescent_BwdInIdeal_pre_bwd_in_finite [hBwdInIdeal : Cert.BwdInIdeal.Facts] [hPre_bwd_in_finite : Cert.Pre_bwd_in_finite.Facts] : Prop :=
  ∀ (m : (ℓ : Loc Cert.BwdInIdeal.nD Cert.BwdInIdeal.τ Cert.BwdInIdeal.sig) → Buf (Elt Ideal) ℓ) (g : Dev Cert.BwdInIdeal.nD → PrngReg), Pre_BwdInIdeal_bwd_in_finite m →
    θ_run (Cert.BwdInIdeal.defs (F := Ideal)) (onTc (τ := Cert.BwdInIdeal.τ) (Cert.BwdInIdeal.main (F := Ideal))) ⟨m, fun _ => 0, g⟩ (fun r => (∀ c : Dev Cert.BwdInIdeal.nD,
      r.2.mem ((c.tc : Thread Cert.BwdInIdeal.nD Cert.BwdInIdeal.τ).loc Cert.BwdInIdeal.main_arg0) = m ((c.tc : Thread Cert.BwdInIdeal.nD Cert.BwdInIdeal.τ).loc Cert.BwdInIdeal.main_arg0)
      ∧ r.2.mem ((c.tc : Thread Cert.BwdInIdeal.nD Cert.BwdInIdeal.τ).loc Cert.BwdInIdeal.main_arg1) = m ((c.tc : Thread Cert.BwdInIdeal.nD Cert.BwdInIdeal.τ).loc Cert.BwdInIdeal.main_arg1)
      ∧ r.2.mem ((c.tc : Thread Cert.BwdInIdeal.nD Cert.BwdInIdeal.τ).loc Cert.BwdInIdeal.main_arg2) = m ((c.tc : Thread Cert.BwdInIdeal.nD Cert.BwdInIdeal.τ).loc Cert.BwdInIdeal.main_arg2)
      ∧ r.2.mem ((c.tc : Thread Cert.BwdInIdeal.nD Cert.BwdInIdeal.τ).loc Cert.BwdInIdeal.main_arg3) = m ((c.tc : Thread Cert.BwdInIdeal.nD Cert.BwdInIdeal.τ).loc Cert.BwdInIdeal.main_arg3)
      ∧ r.2.mem ((c.tc : Thread Cert.BwdInIdeal.nD Cert.BwdInIdeal.τ).loc Cert.BwdInIdeal.main_arg4) = m ((c.tc : Thread Cert.BwdInIdeal.nD Cert.BwdInIdeal.τ).loc Cert.BwdInIdeal.main_arg4))
      ∧ r.2.sem = fun _ => 0)

def quiescent_BwdInRefIdeal [hBwdInRefIdeal : Cert.BwdInRefIdeal.Facts] : Prop :=
  ∀ (m : (ℓ : Loc Cert.BwdInRefIdeal.nD Cert.BwdInRefIdeal.τ Cert.BwdInRefIdeal.sig) → Buf (Elt Ideal) ℓ) (g : Dev Cert.BwdInRefIdeal.nD → PrngReg), Pre_BwdInRefIdeal m →
    θ_run (Cert.BwdInRefIdeal.defs (F := Ideal)) (onTc (τ := Cert.BwdInRefIdeal.τ) (Cert.BwdInRefIdeal.main (F := Ideal))) ⟨m, fun _ => 0, g⟩ (fun r => (∀ c : Dev Cert.BwdInRefIdeal.nD,
      r.2.mem ((c.tc : Thread Cert.BwdInRefIdeal.nD Cert.BwdInRefIdeal.τ).loc Cert.BwdInRefIdeal.main_arg0) = m ((c.tc : Thread Cert.BwdInRefIdeal.nD Cert.BwdInRefIdeal.τ).loc Cert.BwdInRefIdeal.main_arg0)
      ∧ r.2.mem ((c.tc : Thread Cert.BwdInRefIdeal.nD Cert.BwdInRefIdeal.τ).loc Cert.BwdInRefIdeal.main_arg1) = m ((c.tc : Thread Cert.BwdInRefIdeal.nD Cert.BwdInRefIdeal.τ).loc Cert.BwdInRefIdeal.main_arg1)
      ∧ r.2.mem ((c.tc : Thread Cert.BwdInRefIdeal.nD Cert.BwdInRefIdeal.τ).loc Cert.BwdInRefIdeal.main_arg2) = m ((c.tc : Thread Cert.BwdInRefIdeal.nD Cert.BwdInRefIdeal.τ).loc Cert.BwdInRefIdeal.main_arg2)
      ∧ r.2.mem ((c.tc : Thread Cert.BwdInRefIdeal.nD Cert.BwdInRefIdeal.τ).loc Cert.BwdInRefIdeal.main_arg3) = m ((c.tc : Thread Cert.BwdInRefIdeal.nD Cert.BwdInRefIdeal.τ).loc Cert.BwdInRefIdeal.main_arg3)
      ∧ r.2.mem ((c.tc : Thread Cert.BwdInRefIdeal.nD Cert.BwdInRefIdeal.τ).loc Cert.BwdInRefIdeal.main_arg4) = m ((c.tc : Thread Cert.BwdInRefIdeal.nD Cert.BwdInRefIdeal.τ).loc Cert.BwdInRefIdeal.main_arg4))
      ∧ r.2.sem = fun _ => 0)

def quiescent_BwdInRefIdeal_pre_bwd_in_finite [hBwdInRefIdeal : Cert.BwdInRefIdeal.Facts] [hPre_bwd_in_finite : Cert.Pre_bwd_in_finite.Facts] : Prop :=
  ∀ (m : (ℓ : Loc Cert.BwdInRefIdeal.nD Cert.BwdInRefIdeal.τ Cert.BwdInRefIdeal.sig) → Buf (Elt Ideal) ℓ) (g : Dev Cert.BwdInRefIdeal.nD → PrngReg), Pre_BwdInRefIdeal_bwd_in_finite m →
    θ_run (Cert.BwdInRefIdeal.defs (F := Ideal)) (onTc (τ := Cert.BwdInRefIdeal.τ) (Cert.BwdInRefIdeal.main (F := Ideal))) ⟨m, fun _ => 0, g⟩ (fun r => (∀ c : Dev Cert.BwdInRefIdeal.nD,
      r.2.mem ((c.tc : Thread Cert.BwdInRefIdeal.nD Cert.BwdInRefIdeal.τ).loc Cert.BwdInRefIdeal.main_arg0) = m ((c.tc : Thread Cert.BwdInRefIdeal.nD Cert.BwdInRefIdeal.τ).loc Cert.BwdInRefIdeal.main_arg0)
      ∧ r.2.mem ((c.tc : Thread Cert.BwdInRefIdeal.nD Cert.BwdInRefIdeal.τ).loc Cert.BwdInRefIdeal.main_arg1) = m ((c.tc : Thread Cert.BwdInRefIdeal.nD Cert.BwdInRefIdeal.τ).loc Cert.BwdInRefIdeal.main_arg1)
      ∧ r.2.mem ((c.tc : Thread Cert.BwdInRefIdeal.nD Cert.BwdInRefIdeal.τ).loc Cert.BwdInRefIdeal.main_arg2) = m ((c.tc : Thread Cert.BwdInRefIdeal.nD Cert.BwdInRefIdeal.τ).loc Cert.BwdInRefIdeal.main_arg2)
      ∧ r.2.mem ((c.tc : Thread Cert.BwdInRefIdeal.nD Cert.BwdInRefIdeal.τ).loc Cert.BwdInRefIdeal.main_arg3) = m ((c.tc : Thread Cert.BwdInRefIdeal.nD Cert.BwdInRefIdeal.τ).loc Cert.BwdInRefIdeal.main_arg3)
      ∧ r.2.mem ((c.tc : Thread Cert.BwdInRefIdeal.nD Cert.BwdInRefIdeal.τ).loc Cert.BwdInRefIdeal.main_arg4) = m ((c.tc : Thread Cert.BwdInRefIdeal.nD Cert.BwdInRefIdeal.τ).loc Cert.BwdInRefIdeal.main_arg4))
      ∧ r.2.sem = fun _ => 0)

def quiescent_BwdFfnA [hBwdFfnA : Cert.BwdFfnA.Facts] : Prop :=
  ∀ (m : (ℓ : Loc Cert.BwdFfnA.nD Cert.BwdFfnA.τ Cert.BwdFfnA.sig) → Buf (Elt Bits) ℓ) (g : Dev Cert.BwdFfnA.nD → PrngReg), Pre_BwdFfnA m →
    θ_run (Cert.BwdFfnA.defs (F := Bits)) (onTc (τ := Cert.BwdFfnA.τ) (Cert.BwdFfnA.main (F := Bits))) ⟨m, fun _ => 0, g⟩ (fun r => (∀ c : Dev Cert.BwdFfnA.nD,
      r.2.mem ((c.tc : Thread Cert.BwdFfnA.nD Cert.BwdFfnA.τ).loc Cert.BwdFfnA.main_arg0) = m ((c.tc : Thread Cert.BwdFfnA.nD Cert.BwdFfnA.τ).loc Cert.BwdFfnA.main_arg0)
      ∧ r.2.mem ((c.tc : Thread Cert.BwdFfnA.nD Cert.BwdFfnA.τ).loc Cert.BwdFfnA.main_arg1) = m ((c.tc : Thread Cert.BwdFfnA.nD Cert.BwdFfnA.τ).loc Cert.BwdFfnA.main_arg1)
      ∧ r.2.mem ((c.tc : Thread Cert.BwdFfnA.nD Cert.BwdFfnA.τ).loc Cert.BwdFfnA.main_arg2) = m ((c.tc : Thread Cert.BwdFfnA.nD Cert.BwdFfnA.τ).loc Cert.BwdFfnA.main_arg2)
      ∧ r.2.mem ((c.tc : Thread Cert.BwdFfnA.nD Cert.BwdFfnA.τ).loc Cert.BwdFfnA.main_arg3) = m ((c.tc : Thread Cert.BwdFfnA.nD Cert.BwdFfnA.τ).loc Cert.BwdFfnA.main_arg3)
      ∧ r.2.mem ((c.tc : Thread Cert.BwdFfnA.nD Cert.BwdFfnA.τ).loc Cert.BwdFfnA.main_arg4) = m ((c.tc : Thread Cert.BwdFfnA.nD Cert.BwdFfnA.τ).loc Cert.BwdFfnA.main_arg4)
      ∧ r.2.mem ((c.tc : Thread Cert.BwdFfnA.nD Cert.BwdFfnA.τ).loc Cert.BwdFfnA.main_arg5) = m ((c.tc : Thread Cert.BwdFfnA.nD Cert.BwdFfnA.τ).loc Cert.BwdFfnA.main_arg5))
      ∧ r.2.sem = fun _ => 0)

def quiescent_BwdFfnAIdeal [hBwdFfnAIdeal : Cert.BwdFfnAIdeal.Facts] : Prop :=
  ∀ (m : (ℓ : Loc Cert.BwdFfnAIdeal.nD Cert.BwdFfnAIdeal.τ Cert.BwdFfnAIdeal.sig) → Buf (Elt Ideal) ℓ) (g : Dev Cert.BwdFfnAIdeal.nD → PrngReg), Pre_BwdFfnAIdeal m →
    θ_run (Cert.BwdFfnAIdeal.defs (F := Ideal)) (onTc (τ := Cert.BwdFfnAIdeal.τ) (Cert.BwdFfnAIdeal.main (F := Ideal))) ⟨m, fun _ => 0, g⟩ (fun r => (∀ c : Dev Cert.BwdFfnAIdeal.nD,
      r.2.mem ((c.tc : Thread Cert.BwdFfnAIdeal.nD Cert.BwdFfnAIdeal.τ).loc Cert.BwdFfnAIdeal.main_arg0) = m ((c.tc : Thread Cert.BwdFfnAIdeal.nD Cert.BwdFfnAIdeal.τ).loc Cert.BwdFfnAIdeal.main_arg0)
      ∧ r.2.mem ((c.tc : Thread Cert.BwdFfnAIdeal.nD Cert.BwdFfnAIdeal.τ).loc Cert.BwdFfnAIdeal.main_arg1) = m ((c.tc : Thread Cert.BwdFfnAIdeal.nD Cert.BwdFfnAIdeal.τ).loc Cert.BwdFfnAIdeal.main_arg1)
      ∧ r.2.mem ((c.tc : Thread Cert.BwdFfnAIdeal.nD Cert.BwdFfnAIdeal.τ).loc Cert.BwdFfnAIdeal.main_arg2) = m ((c.tc : Thread Cert.BwdFfnAIdeal.nD Cert.BwdFfnAIdeal.τ).loc Cert.BwdFfnAIdeal.main_arg2)
      ∧ r.2.mem ((c.tc : Thread Cert.BwdFfnAIdeal.nD Cert.BwdFfnAIdeal.τ).loc Cert.BwdFfnAIdeal.main_arg3) = m ((c.tc : Thread Cert.BwdFfnAIdeal.nD Cert.BwdFfnAIdeal.τ).loc Cert.BwdFfnAIdeal.main_arg3)
      ∧ r.2.mem ((c.tc : Thread Cert.BwdFfnAIdeal.nD Cert.BwdFfnAIdeal.τ).loc Cert.BwdFfnAIdeal.main_arg4) = m ((c.tc : Thread Cert.BwdFfnAIdeal.nD Cert.BwdFfnAIdeal.τ).loc Cert.BwdFfnAIdeal.main_arg4)
      ∧ r.2.mem ((c.tc : Thread Cert.BwdFfnAIdeal.nD Cert.BwdFfnAIdeal.τ).loc Cert.BwdFfnAIdeal.main_arg5) = m ((c.tc : Thread Cert.BwdFfnAIdeal.nD Cert.BwdFfnAIdeal.τ).loc Cert.BwdFfnAIdeal.main_arg5))
      ∧ r.2.sem = fun _ => 0)

def quiescent_BwdFfnAIdeal_pre_bwd_ffn_a_finite [hBwdFfnAIdeal : Cert.BwdFfnAIdeal.Facts] [hPre_bwd_ffn_a_finite : Cert.Pre_bwd_ffn_a_finite.Facts] : Prop :=
  ∀ (m : (ℓ : Loc Cert.BwdFfnAIdeal.nD Cert.BwdFfnAIdeal.τ Cert.BwdFfnAIdeal.sig) → Buf (Elt Ideal) ℓ) (g : Dev Cert.BwdFfnAIdeal.nD → PrngReg), Pre_BwdFfnAIdeal_bwd_ffn_a_finite m →
    θ_run (Cert.BwdFfnAIdeal.defs (F := Ideal)) (onTc (τ := Cert.BwdFfnAIdeal.τ) (Cert.BwdFfnAIdeal.main (F := Ideal))) ⟨m, fun _ => 0, g⟩ (fun r => (∀ c : Dev Cert.BwdFfnAIdeal.nD,
      r.2.mem ((c.tc : Thread Cert.BwdFfnAIdeal.nD Cert.BwdFfnAIdeal.τ).loc Cert.BwdFfnAIdeal.main_arg0) = m ((c.tc : Thread Cert.BwdFfnAIdeal.nD Cert.BwdFfnAIdeal.τ).loc Cert.BwdFfnAIdeal.main_arg0)
      ∧ r.2.mem ((c.tc : Thread Cert.BwdFfnAIdeal.nD Cert.BwdFfnAIdeal.τ).loc Cert.BwdFfnAIdeal.main_arg1) = m ((c.tc : Thread Cert.BwdFfnAIdeal.nD Cert.BwdFfnAIdeal.τ).loc Cert.BwdFfnAIdeal.main_arg1)
      ∧ r.2.mem ((c.tc : Thread Cert.BwdFfnAIdeal.nD Cert.BwdFfnAIdeal.τ).loc Cert.BwdFfnAIdeal.main_arg2) = m ((c.tc : Thread Cert.BwdFfnAIdeal.nD Cert.BwdFfnAIdeal.τ).loc Cert.BwdFfnAIdeal.main_arg2)
      ∧ r.2.mem ((c.tc : Thread Cert.BwdFfnAIdeal.nD Cert.BwdFfnAIdeal.τ).loc Cert.BwdFfnAIdeal.main_arg3) = m ((c.tc : Thread Cert.BwdFfnAIdeal.nD Cert.BwdFfnAIdeal.τ).loc Cert.BwdFfnAIdeal.main_arg3)
      ∧ r.2.mem ((c.tc : Thread Cert.BwdFfnAIdeal.nD Cert.BwdFfnAIdeal.τ).loc Cert.BwdFfnAIdeal.main_arg4) = m ((c.tc : Thread Cert.BwdFfnAIdeal.nD Cert.BwdFfnAIdeal.τ).loc Cert.BwdFfnAIdeal.main_arg4)
      ∧ r.2.mem ((c.tc : Thread Cert.BwdFfnAIdeal.nD Cert.BwdFfnAIdeal.τ).loc Cert.BwdFfnAIdeal.main_arg5) = m ((c.tc : Thread Cert.BwdFfnAIdeal.nD Cert.BwdFfnAIdeal.τ).loc Cert.BwdFfnAIdeal.main_arg5))
      ∧ r.2.sem = fun _ => 0)

def quiescent_BwdFfnARefIdeal [hBwdFfnARefIdeal : Cert.BwdFfnARefIdeal.Facts] : Prop :=
  ∀ (m : (ℓ : Loc Cert.BwdFfnARefIdeal.nD Cert.BwdFfnARefIdeal.τ Cert.BwdFfnARefIdeal.sig) → Buf (Elt Ideal) ℓ) (g : Dev Cert.BwdFfnARefIdeal.nD → PrngReg), Pre_BwdFfnARefIdeal m →
    θ_run (Cert.BwdFfnARefIdeal.defs (F := Ideal)) (onTc (τ := Cert.BwdFfnARefIdeal.τ) (Cert.BwdFfnARefIdeal.main (F := Ideal))) ⟨m, fun _ => 0, g⟩ (fun r => (∀ c : Dev Cert.BwdFfnARefIdeal.nD,
      r.2.mem ((c.tc : Thread Cert.BwdFfnARefIdeal.nD Cert.BwdFfnARefIdeal.τ).loc Cert.BwdFfnARefIdeal.main_arg0) = m ((c.tc : Thread Cert.BwdFfnARefIdeal.nD Cert.BwdFfnARefIdeal.τ).loc Cert.BwdFfnARefIdeal.main_arg0)
      ∧ r.2.mem ((c.tc : Thread Cert.BwdFfnARefIdeal.nD Cert.BwdFfnARefIdeal.τ).loc Cert.BwdFfnARefIdeal.main_arg1) = m ((c.tc : Thread Cert.BwdFfnARefIdeal.nD Cert.BwdFfnARefIdeal.τ).loc Cert.BwdFfnARefIdeal.main_arg1)
      ∧ r.2.mem ((c.tc : Thread Cert.BwdFfnARefIdeal.nD Cert.BwdFfnARefIdeal.τ).loc Cert.BwdFfnARefIdeal.main_arg2) = m ((c.tc : Thread Cert.BwdFfnARefIdeal.nD Cert.BwdFfnARefIdeal.τ).loc Cert.BwdFfnARefIdeal.main_arg2)
      ∧ r.2.mem ((c.tc : Thread Cert.BwdFfnARefIdeal.nD Cert.BwdFfnARefIdeal.τ).loc Cert.BwdFfnARefIdeal.main_arg3) = m ((c.tc : Thread Cert.BwdFfnARefIdeal.nD Cert.BwdFfnARefIdeal.τ).loc Cert.BwdFfnARefIdeal.main_arg3)
      ∧ r.2.mem ((c.tc : Thread Cert.BwdFfnARefIdeal.nD Cert.BwdFfnARefIdeal.τ).loc Cert.BwdFfnARefIdeal.main_arg4) = m ((c.tc : Thread Cert.BwdFfnARefIdeal.nD Cert.BwdFfnARefIdeal.τ).loc Cert.BwdFfnARefIdeal.main_arg4)
      ∧ r.2.mem ((c.tc : Thread Cert.BwdFfnARefIdeal.nD Cert.BwdFfnARefIdeal.τ).loc Cert.BwdFfnARefIdeal.main_arg5) = m ((c.tc : Thread Cert.BwdFfnARefIdeal.nD Cert.BwdFfnARefIdeal.τ).loc Cert.BwdFfnARefIdeal.main_arg5))
      ∧ r.2.sem = fun _ => 0)

def quiescent_BwdFfnARefIdeal_pre_bwd_ffn_a_finite [hBwdFfnARefIdeal : Cert.BwdFfnARefIdeal.Facts] [hPre_bwd_ffn_a_finite : Cert.Pre_bwd_ffn_a_finite.Facts] : Prop :=
  ∀ (m : (ℓ : Loc Cert.BwdFfnARefIdeal.nD Cert.BwdFfnARefIdeal.τ Cert.BwdFfnARefIdeal.sig) → Buf (Elt Ideal) ℓ) (g : Dev Cert.BwdFfnARefIdeal.nD → PrngReg), Pre_BwdFfnARefIdeal_bwd_ffn_a_finite m →
    θ_run (Cert.BwdFfnARefIdeal.defs (F := Ideal)) (onTc (τ := Cert.BwdFfnARefIdeal.τ) (Cert.BwdFfnARefIdeal.main (F := Ideal))) ⟨m, fun _ => 0, g⟩ (fun r => (∀ c : Dev Cert.BwdFfnARefIdeal.nD,
      r.2.mem ((c.tc : Thread Cert.BwdFfnARefIdeal.nD Cert.BwdFfnARefIdeal.τ).loc Cert.BwdFfnARefIdeal.main_arg0) = m ((c.tc : Thread Cert.BwdFfnARefIdeal.nD Cert.BwdFfnARefIdeal.τ).loc Cert.BwdFfnARefIdeal.main_arg0)
      ∧ r.2.mem ((c.tc : Thread Cert.BwdFfnARefIdeal.nD Cert.BwdFfnARefIdeal.τ).loc Cert.BwdFfnARefIdeal.main_arg1) = m ((c.tc : Thread Cert.BwdFfnARefIdeal.nD Cert.BwdFfnARefIdeal.τ).loc Cert.BwdFfnARefIdeal.main_arg1)
      ∧ r.2.mem ((c.tc : Thread Cert.BwdFfnARefIdeal.nD Cert.BwdFfnARefIdeal.τ).loc Cert.BwdFfnARefIdeal.main_arg2) = m ((c.tc : Thread Cert.BwdFfnARefIdeal.nD Cert.BwdFfnARefIdeal.τ).loc Cert.BwdFfnARefIdeal.main_arg2)
      ∧ r.2.mem ((c.tc : Thread Cert.BwdFfnARefIdeal.nD Cert.BwdFfnARefIdeal.τ).loc Cert.BwdFfnARefIdeal.main_arg3) = m ((c.tc : Thread Cert.BwdFfnARefIdeal.nD Cert.BwdFfnARefIdeal.τ).loc Cert.BwdFfnARefIdeal.main_arg3)
      ∧ r.2.mem ((c.tc : Thread Cert.BwdFfnARefIdeal.nD Cert.BwdFfnARefIdeal.τ).loc Cert.BwdFfnARefIdeal.main_arg4) = m ((c.tc : Thread Cert.BwdFfnARefIdeal.nD Cert.BwdFfnARefIdeal.τ).loc Cert.BwdFfnARefIdeal.main_arg4)
      ∧ r.2.mem ((c.tc : Thread Cert.BwdFfnARefIdeal.nD Cert.BwdFfnARefIdeal.τ).loc Cert.BwdFfnARefIdeal.main_arg5) = m ((c.tc : Thread Cert.BwdFfnARefIdeal.nD Cert.BwdFfnARefIdeal.τ).loc Cert.BwdFfnARefIdeal.main_arg5))
      ∧ r.2.sem = fun _ => 0)

def quiescent_BwdFfnB [hBwdFfnB : Cert.BwdFfnB.Facts] : Prop :=
  ∀ (m : (ℓ : Loc Cert.BwdFfnB.nD Cert.BwdFfnB.τ Cert.BwdFfnB.sig) → Buf (Elt Bits) ℓ) (g : Dev Cert.BwdFfnB.nD → PrngReg), Pre_BwdFfnB m →
    θ_run (Cert.BwdFfnB.defs (F := Bits)) (onTc (τ := Cert.BwdFfnB.τ) (Cert.BwdFfnB.main (F := Bits))) ⟨m, fun _ => 0, g⟩ (fun r => (∀ c : Dev Cert.BwdFfnB.nD,
      r.2.mem ((c.tc : Thread Cert.BwdFfnB.nD Cert.BwdFfnB.τ).loc Cert.BwdFfnB.main_arg0) = m ((c.tc : Thread Cert.BwdFfnB.nD Cert.BwdFfnB.τ).loc Cert.BwdFfnB.main_arg0)
      ∧ r.2.mem ((c.tc : Thread Cert.BwdFfnB.nD Cert.BwdFfnB.τ).loc Cert.BwdFfnB.main_arg1) = m ((c.tc : Thread Cert.BwdFfnB.nD Cert.BwdFfnB.τ).loc Cert.BwdFfnB.main_arg1)
      ∧ r.2.mem ((c.tc : Thread Cert.BwdFfnB.nD Cert.BwdFfnB.τ).loc Cert.BwdFfnB.main_arg2) = m ((c.tc : Thread Cert.BwdFfnB.nD Cert.BwdFfnB.τ).loc Cert.BwdFfnB.main_arg2)
      ∧ r.2.mem ((c.tc : Thread Cert.BwdFfnB.nD Cert.BwdFfnB.τ).loc Cert.BwdFfnB.main_arg3) = m ((c.tc : Thread Cert.BwdFfnB.nD Cert.BwdFfnB.τ).loc Cert.BwdFfnB.main_arg3)
      ∧ r.2.mem ((c.tc : Thread Cert.BwdFfnB.nD Cert.BwdFfnB.τ).loc Cert.BwdFfnB.main_arg4) = m ((c.tc : Thread Cert.BwdFfnB.nD Cert.BwdFfnB.τ).loc Cert.BwdFfnB.main_arg4)
      ∧ r.2.mem ((c.tc : Thread Cert.BwdFfnB.nD Cert.BwdFfnB.τ).loc Cert.BwdFfnB.main_arg5) = m ((c.tc : Thread Cert.BwdFfnB.nD Cert.BwdFfnB.τ).loc Cert.BwdFfnB.main_arg5)
      ∧ r.2.mem ((c.tc : Thread Cert.BwdFfnB.nD Cert.BwdFfnB.τ).loc Cert.BwdFfnB.main_arg6) = m ((c.tc : Thread Cert.BwdFfnB.nD Cert.BwdFfnB.τ).loc Cert.BwdFfnB.main_arg6)
      ∧ r.2.mem ((c.tc : Thread Cert.BwdFfnB.nD Cert.BwdFfnB.τ).loc Cert.BwdFfnB.main_arg7) = m ((c.tc : Thread Cert.BwdFfnB.nD Cert.BwdFfnB.τ).loc Cert.BwdFfnB.main_arg7)
      ∧ r.2.mem ((c.tc : Thread Cert.BwdFfnB.nD Cert.BwdFfnB.τ).loc Cert.BwdFfnB.main_arg8) = m ((c.tc : Thread Cert.BwdFfnB.nD Cert.BwdFfnB.τ).loc Cert.BwdFfnB.main_arg8)
      ∧ r.2.mem ((c.tc : Thread Cert.BwdFfnB.nD Cert.BwdFfnB.τ).loc Cert.BwdFfnB.main_arg9) = m ((c.tc : Thread Cert.BwdFfnB.nD Cert.BwdFfnB.τ).loc Cert.BwdFfnB.main_arg9)
      ∧ r.2.mem ((c.tc : Thread Cert.BwdFfnB.nD Cert.BwdFfnB.τ).loc Cert.BwdFfnB.main_arg10) = m ((c.tc : Thread Cert.BwdFfnB.nD Cert.BwdFfnB.τ).loc Cert.BwdFfnB.main_arg10))
      ∧ r.2.sem = fun _ => 0)

def quiescent_BwdFfnBIdeal [hBwdFfnBIdeal : Cert.BwdFfnBIdeal.Facts] : Prop :=
  ∀ (m : (ℓ : Loc Cert.BwdFfnBIdeal.nD Cert.BwdFfnBIdeal.τ Cert.BwdFfnBIdeal.sig) → Buf (Elt Ideal) ℓ) (g : Dev Cert.BwdFfnBIdeal.nD → PrngReg), Pre_BwdFfnBIdeal m →
    θ_run (Cert.BwdFfnBIdeal.defs (F := Ideal)) (onTc (τ := Cert.BwdFfnBIdeal.τ) (Cert.BwdFfnBIdeal.main (F := Ideal))) ⟨m, fun _ => 0, g⟩ (fun r => (∀ c : Dev Cert.BwdFfnBIdeal.nD,
      r.2.mem ((c.tc : Thread Cert.BwdFfnBIdeal.nD Cert.BwdFfnBIdeal.τ).loc Cert.BwdFfnBIdeal.main_arg0) = m ((c.tc : Thread Cert.BwdFfnBIdeal.nD Cert.BwdFfnBIdeal.τ).loc Cert.BwdFfnBIdeal.main_arg0)
      ∧ r.2.mem ((c.tc : Thread Cert.BwdFfnBIdeal.nD Cert.BwdFfnBIdeal.τ).loc Cert.BwdFfnBIdeal.main_arg1) = m ((c.tc : Thread Cert.BwdFfnBIdeal.nD Cert.BwdFfnBIdeal.τ).loc Cert.BwdFfnBIdeal.main_arg1)
      ∧ r.2.mem ((c.tc : Thread Cert.BwdFfnBIdeal.nD Cert.BwdFfnBIdeal.τ).loc Cert.BwdFfnBIdeal.main_arg2) = m ((c.tc : Thread Cert.BwdFfnBIdeal.nD Cert.BwdFfnBIdeal.τ).loc Cert.BwdFfnBIdeal.main_arg2)
      ∧ r.2.mem ((c.tc : Thread Cert.BwdFfnBIdeal.nD Cert.BwdFfnBIdeal.τ).loc Cert.BwdFfnBIdeal.main_arg3) = m ((c.tc : Thread Cert.BwdFfnBIdeal.nD Cert.BwdFfnBIdeal.τ).loc Cert.BwdFfnBIdeal.main_arg3)
      ∧ r.2.mem ((c.tc : Thread Cert.BwdFfnBIdeal.nD Cert.BwdFfnBIdeal.τ).loc Cert.BwdFfnBIdeal.main_arg4) = m ((c.tc : Thread Cert.BwdFfnBIdeal.nD Cert.BwdFfnBIdeal.τ).loc Cert.BwdFfnBIdeal.main_arg4)
      ∧ r.2.mem ((c.tc : Thread Cert.BwdFfnBIdeal.nD Cert.BwdFfnBIdeal.τ).loc Cert.BwdFfnBIdeal.main_arg5) = m ((c.tc : Thread Cert.BwdFfnBIdeal.nD Cert.BwdFfnBIdeal.τ).loc Cert.BwdFfnBIdeal.main_arg5)
      ∧ r.2.mem ((c.tc : Thread Cert.BwdFfnBIdeal.nD Cert.BwdFfnBIdeal.τ).loc Cert.BwdFfnBIdeal.main_arg6) = m ((c.tc : Thread Cert.BwdFfnBIdeal.nD Cert.BwdFfnBIdeal.τ).loc Cert.BwdFfnBIdeal.main_arg6)
      ∧ r.2.mem ((c.tc : Thread Cert.BwdFfnBIdeal.nD Cert.BwdFfnBIdeal.τ).loc Cert.BwdFfnBIdeal.main_arg7) = m ((c.tc : Thread Cert.BwdFfnBIdeal.nD Cert.BwdFfnBIdeal.τ).loc Cert.BwdFfnBIdeal.main_arg7)
      ∧ r.2.mem ((c.tc : Thread Cert.BwdFfnBIdeal.nD Cert.BwdFfnBIdeal.τ).loc Cert.BwdFfnBIdeal.main_arg8) = m ((c.tc : Thread Cert.BwdFfnBIdeal.nD Cert.BwdFfnBIdeal.τ).loc Cert.BwdFfnBIdeal.main_arg8)
      ∧ r.2.mem ((c.tc : Thread Cert.BwdFfnBIdeal.nD Cert.BwdFfnBIdeal.τ).loc Cert.BwdFfnBIdeal.main_arg9) = m ((c.tc : Thread Cert.BwdFfnBIdeal.nD Cert.BwdFfnBIdeal.τ).loc Cert.BwdFfnBIdeal.main_arg9)
      ∧ r.2.mem ((c.tc : Thread Cert.BwdFfnBIdeal.nD Cert.BwdFfnBIdeal.τ).loc Cert.BwdFfnBIdeal.main_arg10) = m ((c.tc : Thread Cert.BwdFfnBIdeal.nD Cert.BwdFfnBIdeal.τ).loc Cert.BwdFfnBIdeal.main_arg10))
      ∧ r.2.sem = fun _ => 0)

def quiescent_BwdFfnBIdeal_pre_bwd_ffn_b_finite [hBwdFfnBIdeal : Cert.BwdFfnBIdeal.Facts] [hPre_bwd_ffn_b_finite : Cert.Pre_bwd_ffn_b_finite.Facts] : Prop :=
  ∀ (m : (ℓ : Loc Cert.BwdFfnBIdeal.nD Cert.BwdFfnBIdeal.τ Cert.BwdFfnBIdeal.sig) → Buf (Elt Ideal) ℓ) (g : Dev Cert.BwdFfnBIdeal.nD → PrngReg), Pre_BwdFfnBIdeal_bwd_ffn_b_finite m →
    θ_run (Cert.BwdFfnBIdeal.defs (F := Ideal)) (onTc (τ := Cert.BwdFfnBIdeal.τ) (Cert.BwdFfnBIdeal.main (F := Ideal))) ⟨m, fun _ => 0, g⟩ (fun r => (∀ c : Dev Cert.BwdFfnBIdeal.nD,
      r.2.mem ((c.tc : Thread Cert.BwdFfnBIdeal.nD Cert.BwdFfnBIdeal.τ).loc Cert.BwdFfnBIdeal.main_arg0) = m ((c.tc : Thread Cert.BwdFfnBIdeal.nD Cert.BwdFfnBIdeal.τ).loc Cert.BwdFfnBIdeal.main_arg0)
      ∧ r.2.mem ((c.tc : Thread Cert.BwdFfnBIdeal.nD Cert.BwdFfnBIdeal.τ).loc Cert.BwdFfnBIdeal.main_arg1) = m ((c.tc : Thread Cert.BwdFfnBIdeal.nD Cert.BwdFfnBIdeal.τ).loc Cert.BwdFfnBIdeal.main_arg1)
      ∧ r.2.mem ((c.tc : Thread Cert.BwdFfnBIdeal.nD Cert.BwdFfnBIdeal.τ).loc Cert.BwdFfnBIdeal.main_arg2) = m ((c.tc : Thread Cert.BwdFfnBIdeal.nD Cert.BwdFfnBIdeal.τ).loc Cert.BwdFfnBIdeal.main_arg2)
      ∧ r.2.mem ((c.tc : Thread Cert.BwdFfnBIdeal.nD Cert.BwdFfnBIdeal.τ).loc Cert.BwdFfnBIdeal.main_arg3) = m ((c.tc : Thread Cert.BwdFfnBIdeal.nD Cert.BwdFfnBIdeal.τ).loc Cert.BwdFfnBIdeal.main_arg3)
      ∧ r.2.mem ((c.tc : Thread Cert.BwdFfnBIdeal.nD Cert.BwdFfnBIdeal.τ).loc Cert.BwdFfnBIdeal.main_arg4) = m ((c.tc : Thread Cert.BwdFfnBIdeal.nD Cert.BwdFfnBIdeal.τ).loc Cert.BwdFfnBIdeal.main_arg4)
      ∧ r.2.mem ((c.tc : Thread Cert.BwdFfnBIdeal.nD Cert.BwdFfnBIdeal.τ).loc Cert.BwdFfnBIdeal.main_arg5) = m ((c.tc : Thread Cert.BwdFfnBIdeal.nD Cert.BwdFfnBIdeal.τ).loc Cert.BwdFfnBIdeal.main_arg5)
      ∧ r.2.mem ((c.tc : Thread Cert.BwdFfnBIdeal.nD Cert.BwdFfnBIdeal.τ).loc Cert.BwdFfnBIdeal.main_arg6) = m ((c.tc : Thread Cert.BwdFfnBIdeal.nD Cert.BwdFfnBIdeal.τ).loc Cert.BwdFfnBIdeal.main_arg6)
      ∧ r.2.mem ((c.tc : Thread Cert.BwdFfnBIdeal.nD Cert.BwdFfnBIdeal.τ).loc Cert.BwdFfnBIdeal.main_arg7) = m ((c.tc : Thread Cert.BwdFfnBIdeal.nD Cert.BwdFfnBIdeal.τ).loc Cert.BwdFfnBIdeal.main_arg7)
      ∧ r.2.mem ((c.tc : Thread Cert.BwdFfnBIdeal.nD Cert.BwdFfnBIdeal.τ).loc Cert.BwdFfnBIdeal.main_arg8) = m ((c.tc : Thread Cert.BwdFfnBIdeal.nD Cert.BwdFfnBIdeal.τ).loc Cert.BwdFfnBIdeal.main_arg8)
      ∧ r.2.mem ((c.tc : Thread Cert.BwdFfnBIdeal.nD Cert.BwdFfnBIdeal.τ).loc Cert.BwdFfnBIdeal.main_arg9) = m ((c.tc : Thread Cert.BwdFfnBIdeal.nD Cert.BwdFfnBIdeal.τ).loc Cert.BwdFfnBIdeal.main_arg9)
      ∧ r.2.mem ((c.tc : Thread Cert.BwdFfnBIdeal.nD Cert.BwdFfnBIdeal.τ).loc Cert.BwdFfnBIdeal.main_arg10) = m ((c.tc : Thread Cert.BwdFfnBIdeal.nD Cert.BwdFfnBIdeal.τ).loc Cert.BwdFfnBIdeal.main_arg10))
      ∧ r.2.sem = fun _ => 0)

def quiescent_BwdFfnBRefIdeal [hBwdFfnBRefIdeal : Cert.BwdFfnBRefIdeal.Facts] : Prop :=
  ∀ (m : (ℓ : Loc Cert.BwdFfnBRefIdeal.nD Cert.BwdFfnBRefIdeal.τ Cert.BwdFfnBRefIdeal.sig) → Buf (Elt Ideal) ℓ) (g : Dev Cert.BwdFfnBRefIdeal.nD → PrngReg), Pre_BwdFfnBRefIdeal m →
    θ_run (Cert.BwdFfnBRefIdeal.defs (F := Ideal)) (onTc (τ := Cert.BwdFfnBRefIdeal.τ) (Cert.BwdFfnBRefIdeal.main (F := Ideal))) ⟨m, fun _ => 0, g⟩ (fun r => (∀ c : Dev Cert.BwdFfnBRefIdeal.nD,
      r.2.mem ((c.tc : Thread Cert.BwdFfnBRefIdeal.nD Cert.BwdFfnBRefIdeal.τ).loc Cert.BwdFfnBRefIdeal.main_arg0) = m ((c.tc : Thread Cert.BwdFfnBRefIdeal.nD Cert.BwdFfnBRefIdeal.τ).loc Cert.BwdFfnBRefIdeal.main_arg0)
      ∧ r.2.mem ((c.tc : Thread Cert.BwdFfnBRefIdeal.nD Cert.BwdFfnBRefIdeal.τ).loc Cert.BwdFfnBRefIdeal.main_arg1) = m ((c.tc : Thread Cert.BwdFfnBRefIdeal.nD Cert.BwdFfnBRefIdeal.τ).loc Cert.BwdFfnBRefIdeal.main_arg1)
      ∧ r.2.mem ((c.tc : Thread Cert.BwdFfnBRefIdeal.nD Cert.BwdFfnBRefIdeal.τ).loc Cert.BwdFfnBRefIdeal.main_arg2) = m ((c.tc : Thread Cert.BwdFfnBRefIdeal.nD Cert.BwdFfnBRefIdeal.τ).loc Cert.BwdFfnBRefIdeal.main_arg2)
      ∧ r.2.mem ((c.tc : Thread Cert.BwdFfnBRefIdeal.nD Cert.BwdFfnBRefIdeal.τ).loc Cert.BwdFfnBRefIdeal.main_arg3) = m ((c.tc : Thread Cert.BwdFfnBRefIdeal.nD Cert.BwdFfnBRefIdeal.τ).loc Cert.BwdFfnBRefIdeal.main_arg3)
      ∧ r.2.mem ((c.tc : Thread Cert.BwdFfnBRefIdeal.nD Cert.BwdFfnBRefIdeal.τ).loc Cert.BwdFfnBRefIdeal.main_arg4) = m ((c.tc : Thread Cert.BwdFfnBRefIdeal.nD Cert.BwdFfnBRefIdeal.τ).loc Cert.BwdFfnBRefIdeal.main_arg4)
      ∧ r.2.mem ((c.tc : Thread Cert.BwdFfnBRefIdeal.nD Cert.BwdFfnBRefIdeal.τ).loc Cert.BwdFfnBRefIdeal.main_arg5) = m ((c.tc : Thread Cert.BwdFfnBRefIdeal.nD Cert.BwdFfnBRefIdeal.τ).loc Cert.BwdFfnBRefIdeal.main_arg5)
      ∧ r.2.mem ((c.tc : Thread Cert.BwdFfnBRefIdeal.nD Cert.BwdFfnBRefIdeal.τ).loc Cert.BwdFfnBRefIdeal.main_arg6) = m ((c.tc : Thread Cert.BwdFfnBRefIdeal.nD Cert.BwdFfnBRefIdeal.τ).loc Cert.BwdFfnBRefIdeal.main_arg6)
      ∧ r.2.mem ((c.tc : Thread Cert.BwdFfnBRefIdeal.nD Cert.BwdFfnBRefIdeal.τ).loc Cert.BwdFfnBRefIdeal.main_arg7) = m ((c.tc : Thread Cert.BwdFfnBRefIdeal.nD Cert.BwdFfnBRefIdeal.τ).loc Cert.BwdFfnBRefIdeal.main_arg7)
      ∧ r.2.mem ((c.tc : Thread Cert.BwdFfnBRefIdeal.nD Cert.BwdFfnBRefIdeal.τ).loc Cert.BwdFfnBRefIdeal.main_arg8) = m ((c.tc : Thread Cert.BwdFfnBRefIdeal.nD Cert.BwdFfnBRefIdeal.τ).loc Cert.BwdFfnBRefIdeal.main_arg8)
      ∧ r.2.mem ((c.tc : Thread Cert.BwdFfnBRefIdeal.nD Cert.BwdFfnBRefIdeal.τ).loc Cert.BwdFfnBRefIdeal.main_arg9) = m ((c.tc : Thread Cert.BwdFfnBRefIdeal.nD Cert.BwdFfnBRefIdeal.τ).loc Cert.BwdFfnBRefIdeal.main_arg9)
      ∧ r.2.mem ((c.tc : Thread Cert.BwdFfnBRefIdeal.nD Cert.BwdFfnBRefIdeal.τ).loc Cert.BwdFfnBRefIdeal.main_arg10) = m ((c.tc : Thread Cert.BwdFfnBRefIdeal.nD Cert.BwdFfnBRefIdeal.τ).loc Cert.BwdFfnBRefIdeal.main_arg10))
      ∧ r.2.sem = fun _ => 0)

def quiescent_BwdFfnBRefIdeal_pre_bwd_ffn_b_finite [hBwdFfnBRefIdeal : Cert.BwdFfnBRefIdeal.Facts] [hPre_bwd_ffn_b_finite : Cert.Pre_bwd_ffn_b_finite.Facts] : Prop :=
  ∀ (m : (ℓ : Loc Cert.BwdFfnBRefIdeal.nD Cert.BwdFfnBRefIdeal.τ Cert.BwdFfnBRefIdeal.sig) → Buf (Elt Ideal) ℓ) (g : Dev Cert.BwdFfnBRefIdeal.nD → PrngReg), Pre_BwdFfnBRefIdeal_bwd_ffn_b_finite m →
    θ_run (Cert.BwdFfnBRefIdeal.defs (F := Ideal)) (onTc (τ := Cert.BwdFfnBRefIdeal.τ) (Cert.BwdFfnBRefIdeal.main (F := Ideal))) ⟨m, fun _ => 0, g⟩ (fun r => (∀ c : Dev Cert.BwdFfnBRefIdeal.nD,
      r.2.mem ((c.tc : Thread Cert.BwdFfnBRefIdeal.nD Cert.BwdFfnBRefIdeal.τ).loc Cert.BwdFfnBRefIdeal.main_arg0) = m ((c.tc : Thread Cert.BwdFfnBRefIdeal.nD Cert.BwdFfnBRefIdeal.τ).loc Cert.BwdFfnBRefIdeal.main_arg0)
      ∧ r.2.mem ((c.tc : Thread Cert.BwdFfnBRefIdeal.nD Cert.BwdFfnBRefIdeal.τ).loc Cert.BwdFfnBRefIdeal.main_arg1) = m ((c.tc : Thread Cert.BwdFfnBRefIdeal.nD Cert.BwdFfnBRefIdeal.τ).loc Cert.BwdFfnBRefIdeal.main_arg1)
      ∧ r.2.mem ((c.tc : Thread Cert.BwdFfnBRefIdeal.nD Cert.BwdFfnBRefIdeal.τ).loc Cert.BwdFfnBRefIdeal.main_arg2) = m ((c.tc : Thread Cert.BwdFfnBRefIdeal.nD Cert.BwdFfnBRefIdeal.τ).loc Cert.BwdFfnBRefIdeal.main_arg2)
      ∧ r.2.mem ((c.tc : Thread Cert.BwdFfnBRefIdeal.nD Cert.BwdFfnBRefIdeal.τ).loc Cert.BwdFfnBRefIdeal.main_arg3) = m ((c.tc : Thread Cert.BwdFfnBRefIdeal.nD Cert.BwdFfnBRefIdeal.τ).loc Cert.BwdFfnBRefIdeal.main_arg3)
      ∧ r.2.mem ((c.tc : Thread Cert.BwdFfnBRefIdeal.nD Cert.BwdFfnBRefIdeal.τ).loc Cert.BwdFfnBRefIdeal.main_arg4) = m ((c.tc : Thread Cert.BwdFfnBRefIdeal.nD Cert.BwdFfnBRefIdeal.τ).loc Cert.BwdFfnBRefIdeal.main_arg4)
      ∧ r.2.mem ((c.tc : Thread Cert.BwdFfnBRefIdeal.nD Cert.BwdFfnBRefIdeal.τ).loc Cert.BwdFfnBRefIdeal.main_arg5) = m ((c.tc : Thread Cert.BwdFfnBRefIdeal.nD Cert.BwdFfnBRefIdeal.τ).loc Cert.BwdFfnBRefIdeal.main_arg5)
      ∧ r.2.mem ((c.tc : Thread Cert.BwdFfnBRefIdeal.nD Cert.BwdFfnBRefIdeal.τ).loc Cert.BwdFfnBRefIdeal.main_arg6) = m ((c.tc : Thread Cert.BwdFfnBRefIdeal.nD Cert.BwdFfnBRefIdeal.τ).loc Cert.BwdFfnBRefIdeal.main_arg6)
      ∧ r.2.mem ((c.tc : Thread Cert.BwdFfnBRefIdeal.nD Cert.BwdFfnBRefIdeal.τ).loc Cert.BwdFfnBRefIdeal.main_arg7) = m ((c.tc : Thread Cert.BwdFfnBRefIdeal.nD Cert.BwdFfnBRefIdeal.τ).loc Cert.BwdFfnBRefIdeal.main_arg7)
      ∧ r.2.mem ((c.tc : Thread Cert.BwdFfnBRefIdeal.nD Cert.BwdFfnBRefIdeal.τ).loc Cert.BwdFfnBRefIdeal.main_arg8) = m ((c.tc : Thread Cert.BwdFfnBRefIdeal.nD Cert.BwdFfnBRefIdeal.τ).loc Cert.BwdFfnBRefIdeal.main_arg8)
      ∧ r.2.mem ((c.tc : Thread Cert.BwdFfnBRefIdeal.nD Cert.BwdFfnBRefIdeal.τ).loc Cert.BwdFfnBRefIdeal.main_arg9) = m ((c.tc : Thread Cert.BwdFfnBRefIdeal.nD Cert.BwdFfnBRefIdeal.τ).loc Cert.BwdFfnBRefIdeal.main_arg9)
      ∧ r.2.mem ((c.tc : Thread Cert.BwdFfnBRefIdeal.nD Cert.BwdFfnBRefIdeal.τ).loc Cert.BwdFfnBRefIdeal.main_arg10) = m ((c.tc : Thread Cert.BwdFfnBRefIdeal.nD Cert.BwdFfnBRefIdeal.τ).loc Cert.BwdFfnBRefIdeal.main_arg10))
      ∧ r.2.sem = fun _ => 0)

def quiescent_FwdTail [hFwdTail : Cert.FwdTail.Facts] : Prop :=
  ∀ (m : (ℓ : Loc Cert.FwdTail.nD Cert.FwdTail.τ Cert.FwdTail.sig) → Buf (Elt Bits) ℓ) (g : Dev Cert.FwdTail.nD → PrngReg), Pre_FwdTail m →
    θ_run (Cert.FwdTail.defs (F := Bits)) (onTc (τ := Cert.FwdTail.τ) (Cert.FwdTail.main (F := Bits))) ⟨m, fun _ => 0, g⟩ (fun r => (∀ c : Dev Cert.FwdTail.nD,
      r.2.mem ((c.tc : Thread Cert.FwdTail.nD Cert.FwdTail.τ).loc Cert.FwdTail.main_arg0) = m ((c.tc : Thread Cert.FwdTail.nD Cert.FwdTail.τ).loc Cert.FwdTail.main_arg0)
      ∧ r.2.mem ((c.tc : Thread Cert.FwdTail.nD Cert.FwdTail.τ).loc Cert.FwdTail.main_arg1) = m ((c.tc : Thread Cert.FwdTail.nD Cert.FwdTail.τ).loc Cert.FwdTail.main_arg1)
      ∧ r.2.mem ((c.tc : Thread Cert.FwdTail.nD Cert.FwdTail.τ).loc Cert.FwdTail.main_arg2) = m ((c.tc : Thread Cert.FwdTail.nD Cert.FwdTail.τ).loc Cert.FwdTail.main_arg2)
      ∧ r.2.mem ((c.tc : Thread Cert.FwdTail.nD Cert.FwdTail.τ).loc Cert.FwdTail.main_arg3) = m ((c.tc : Thread Cert.FwdTail.nD Cert.FwdTail.τ).loc Cert.FwdTail.main_arg3)
      ∧ r.2.mem ((c.tc : Thread Cert.FwdTail.nD Cert.FwdTail.τ).loc Cert.FwdTail.main_arg4) = m ((c.tc : Thread Cert.FwdTail.nD Cert.FwdTail.τ).loc Cert.FwdTail.main_arg4)
      ∧ r.2.mem ((c.tc : Thread Cert.FwdTail.nD Cert.FwdTail.τ).loc Cert.FwdTail.main_arg5) = m ((c.tc : Thread Cert.FwdTail.nD Cert.FwdTail.τ).loc Cert.FwdTail.main_arg5)
      ∧ r.2.mem ((c.tc : Thread Cert.FwdTail.nD Cert.FwdTail.τ).loc Cert.FwdTail.main_arg6) = m ((c.tc : Thread Cert.FwdTail.nD Cert.FwdTail.τ).loc Cert.FwdTail.main_arg6)
      ∧ r.2.mem ((c.tc : Thread Cert.FwdTail.nD Cert.FwdTail.τ).loc Cert.FwdTail.main_arg7) = m ((c.tc : Thread Cert.FwdTail.nD Cert.FwdTail.τ).loc Cert.FwdTail.main_arg7))
      ∧ r.2.sem = fun _ => 0)

def quiescent_FwdTailIdeal [hFwdTailIdeal : Cert.FwdTailIdeal.Facts] : Prop :=
  ∀ (m : (ℓ : Loc Cert.FwdTailIdeal.nD Cert.FwdTailIdeal.τ Cert.FwdTailIdeal.sig) → Buf (Elt Ideal) ℓ) (g : Dev Cert.FwdTailIdeal.nD → PrngReg), Pre_FwdTailIdeal m →
    θ_run (Cert.FwdTailIdeal.defs (F := Ideal)) (onTc (τ := Cert.FwdTailIdeal.τ) (Cert.FwdTailIdeal.main (F := Ideal))) ⟨m, fun _ => 0, g⟩ (fun r => (∀ c : Dev Cert.FwdTailIdeal.nD,
      r.2.mem ((c.tc : Thread Cert.FwdTailIdeal.nD Cert.FwdTailIdeal.τ).loc Cert.FwdTailIdeal.main_arg0) = m ((c.tc : Thread Cert.FwdTailIdeal.nD Cert.FwdTailIdeal.τ).loc Cert.FwdTailIdeal.main_arg0)
      ∧ r.2.mem ((c.tc : Thread Cert.FwdTailIdeal.nD Cert.FwdTailIdeal.τ).loc Cert.FwdTailIdeal.main_arg1) = m ((c.tc : Thread Cert.FwdTailIdeal.nD Cert.FwdTailIdeal.τ).loc Cert.FwdTailIdeal.main_arg1)
      ∧ r.2.mem ((c.tc : Thread Cert.FwdTailIdeal.nD Cert.FwdTailIdeal.τ).loc Cert.FwdTailIdeal.main_arg2) = m ((c.tc : Thread Cert.FwdTailIdeal.nD Cert.FwdTailIdeal.τ).loc Cert.FwdTailIdeal.main_arg2)
      ∧ r.2.mem ((c.tc : Thread Cert.FwdTailIdeal.nD Cert.FwdTailIdeal.τ).loc Cert.FwdTailIdeal.main_arg3) = m ((c.tc : Thread Cert.FwdTailIdeal.nD Cert.FwdTailIdeal.τ).loc Cert.FwdTailIdeal.main_arg3)
      ∧ r.2.mem ((c.tc : Thread Cert.FwdTailIdeal.nD Cert.FwdTailIdeal.τ).loc Cert.FwdTailIdeal.main_arg4) = m ((c.tc : Thread Cert.FwdTailIdeal.nD Cert.FwdTailIdeal.τ).loc Cert.FwdTailIdeal.main_arg4)
      ∧ r.2.mem ((c.tc : Thread Cert.FwdTailIdeal.nD Cert.FwdTailIdeal.τ).loc Cert.FwdTailIdeal.main_arg5) = m ((c.tc : Thread Cert.FwdTailIdeal.nD Cert.FwdTailIdeal.τ).loc Cert.FwdTailIdeal.main_arg5)
      ∧ r.2.mem ((c.tc : Thread Cert.FwdTailIdeal.nD Cert.FwdTailIdeal.τ).loc Cert.FwdTailIdeal.main_arg6) = m ((c.tc : Thread Cert.FwdTailIdeal.nD Cert.FwdTailIdeal.τ).loc Cert.FwdTailIdeal.main_arg6)
      ∧ r.2.mem ((c.tc : Thread Cert.FwdTailIdeal.nD Cert.FwdTailIdeal.τ).loc Cert.FwdTailIdeal.main_arg7) = m ((c.tc : Thread Cert.FwdTailIdeal.nD Cert.FwdTailIdeal.τ).loc Cert.FwdTailIdeal.main_arg7))
      ∧ r.2.sem = fun _ => 0)

def quiescent_FwdTailIdeal_pre_fwd_tail_finite [hFwdTailIdeal : Cert.FwdTailIdeal.Facts] [hPre_fwd_tail_finite : Cert.Pre_fwd_tail_finite.Facts] : Prop :=
  ∀ (m : (ℓ : Loc Cert.FwdTailIdeal.nD Cert.FwdTailIdeal.τ Cert.FwdTailIdeal.sig) → Buf (Elt Ideal) ℓ) (g : Dev Cert.FwdTailIdeal.nD → PrngReg), Pre_FwdTailIdeal_fwd_tail_finite m →
    θ_run (Cert.FwdTailIdeal.defs (F := Ideal)) (onTc (τ := Cert.FwdTailIdeal.τ) (Cert.FwdTailIdeal.main (F := Ideal))) ⟨m, fun _ => 0, g⟩ (fun r => (∀ c : Dev Cert.FwdTailIdeal.nD,
      r.2.mem ((c.tc : Thread Cert.FwdTailIdeal.nD Cert.FwdTailIdeal.τ).loc Cert.FwdTailIdeal.main_arg0) = m ((c.tc : Thread Cert.FwdTailIdeal.nD Cert.FwdTailIdeal.τ).loc Cert.FwdTailIdeal.main_arg0)
      ∧ r.2.mem ((c.tc : Thread Cert.FwdTailIdeal.nD Cert.FwdTailIdeal.τ).loc Cert.FwdTailIdeal.main_arg1) = m ((c.tc : Thread Cert.FwdTailIdeal.nD Cert.FwdTailIdeal.τ).loc Cert.FwdTailIdeal.main_arg1)
      ∧ r.2.mem ((c.tc : Thread Cert.FwdTailIdeal.nD Cert.FwdTailIdeal.τ).loc Cert.FwdTailIdeal.main_arg2) = m ((c.tc : Thread Cert.FwdTailIdeal.nD Cert.FwdTailIdeal.τ).loc Cert.FwdTailIdeal.main_arg2)
      ∧ r.2.mem ((c.tc : Thread Cert.FwdTailIdeal.nD Cert.FwdTailIdeal.τ).loc Cert.FwdTailIdeal.main_arg3) = m ((c.tc : Thread Cert.FwdTailIdeal.nD Cert.FwdTailIdeal.τ).loc Cert.FwdTailIdeal.main_arg3)
      ∧ r.2.mem ((c.tc : Thread Cert.FwdTailIdeal.nD Cert.FwdTailIdeal.τ).loc Cert.FwdTailIdeal.main_arg4) = m ((c.tc : Thread Cert.FwdTailIdeal.nD Cert.FwdTailIdeal.τ).loc Cert.FwdTailIdeal.main_arg4)
      ∧ r.2.mem ((c.tc : Thread Cert.FwdTailIdeal.nD Cert.FwdTailIdeal.τ).loc Cert.FwdTailIdeal.main_arg5) = m ((c.tc : Thread Cert.FwdTailIdeal.nD Cert.FwdTailIdeal.τ).loc Cert.FwdTailIdeal.main_arg5)
      ∧ r.2.mem ((c.tc : Thread Cert.FwdTailIdeal.nD Cert.FwdTailIdeal.τ).loc Cert.FwdTailIdeal.main_arg6) = m ((c.tc : Thread Cert.FwdTailIdeal.nD Cert.FwdTailIdeal.τ).loc Cert.FwdTailIdeal.main_arg6)
      ∧ r.2.mem ((c.tc : Thread Cert.FwdTailIdeal.nD Cert.FwdTailIdeal.τ).loc Cert.FwdTailIdeal.main_arg7) = m ((c.tc : Thread Cert.FwdTailIdeal.nD Cert.FwdTailIdeal.τ).loc Cert.FwdTailIdeal.main_arg7))
      ∧ r.2.sem = fun _ => 0)

def quiescent_FwdTailRefIdeal [hFwdTailRefIdeal : Cert.FwdTailRefIdeal.Facts] : Prop :=
  ∀ (m : (ℓ : Loc Cert.FwdTailRefIdeal.nD Cert.FwdTailRefIdeal.τ Cert.FwdTailRefIdeal.sig) → Buf (Elt Ideal) ℓ) (g : Dev Cert.FwdTailRefIdeal.nD → PrngReg), Pre_FwdTailRefIdeal m →
    θ_run (Cert.FwdTailRefIdeal.defs (F := Ideal)) (onTc (τ := Cert.FwdTailRefIdeal.τ) (Cert.FwdTailRefIdeal.main (F := Ideal))) ⟨m, fun _ => 0, g⟩ (fun r => (∀ c : Dev Cert.FwdTailRefIdeal.nD,
      r.2.mem ((c.tc : Thread Cert.FwdTailRefIdeal.nD Cert.FwdTailRefIdeal.τ).loc Cert.FwdTailRefIdeal.main_arg0) = m ((c.tc : Thread Cert.FwdTailRefIdeal.nD Cert.FwdTailRefIdeal.τ).loc Cert.FwdTailRefIdeal.main_arg0)
      ∧ r.2.mem ((c.tc : Thread Cert.FwdTailRefIdeal.nD Cert.FwdTailRefIdeal.τ).loc Cert.FwdTailRefIdeal.main_arg1) = m ((c.tc : Thread Cert.FwdTailRefIdeal.nD Cert.FwdTailRefIdeal.τ).loc Cert.FwdTailRefIdeal.main_arg1)
      ∧ r.2.mem ((c.tc : Thread Cert.FwdTailRefIdeal.nD Cert.FwdTailRefIdeal.τ).loc Cert.FwdTailRefIdeal.main_arg2) = m ((c.tc : Thread Cert.FwdTailRefIdeal.nD Cert.FwdTailRefIdeal.τ).loc Cert.FwdTailRefIdeal.main_arg2)
      ∧ r.2.mem ((c.tc : Thread Cert.FwdTailRefIdeal.nD Cert.FwdTailRefIdeal.τ).loc Cert.FwdTailRefIdeal.main_arg3) = m ((c.tc : Thread Cert.FwdTailRefIdeal.nD Cert.FwdTailRefIdeal.τ).loc Cert.FwdTailRefIdeal.main_arg3)
      ∧ r.2.mem ((c.tc : Thread Cert.FwdTailRefIdeal.nD Cert.FwdTailRefIdeal.τ).loc Cert.FwdTailRefIdeal.main_arg4) = m ((c.tc : Thread Cert.FwdTailRefIdeal.nD Cert.FwdTailRefIdeal.τ).loc Cert.FwdTailRefIdeal.main_arg4)
      ∧ r.2.mem ((c.tc : Thread Cert.FwdTailRefIdeal.nD Cert.FwdTailRefIdeal.τ).loc Cert.FwdTailRefIdeal.main_arg5) = m ((c.tc : Thread Cert.FwdTailRefIdeal.nD Cert.FwdTailRefIdeal.τ).loc Cert.FwdTailRefIdeal.main_arg5)
      ∧ r.2.mem ((c.tc : Thread Cert.FwdTailRefIdeal.nD Cert.FwdTailRefIdeal.τ).loc Cert.FwdTailRefIdeal.main_arg6) = m ((c.tc : Thread Cert.FwdTailRefIdeal.nD Cert.FwdTailRefIdeal.τ).loc Cert.FwdTailRefIdeal.main_arg6)
      ∧ r.2.mem ((c.tc : Thread Cert.FwdTailRefIdeal.nD Cert.FwdTailRefIdeal.τ).loc Cert.FwdTailRefIdeal.main_arg7) = m ((c.tc : Thread Cert.FwdTailRefIdeal.nD Cert.FwdTailRefIdeal.τ).loc Cert.FwdTailRefIdeal.main_arg7))
      ∧ r.2.sem = fun _ => 0)

def quiescent_FwdTailRefIdeal_pre_fwd_tail_finite [hFwdTailRefIdeal : Cert.FwdTailRefIdeal.Facts] [hPre_fwd_tail_finite : Cert.Pre_fwd_tail_finite.Facts] : Prop :=
  ∀ (m : (ℓ : Loc Cert.FwdTailRefIdeal.nD Cert.FwdTailRefIdeal.τ Cert.FwdTailRefIdeal.sig) → Buf (Elt Ideal) ℓ) (g : Dev Cert.FwdTailRefIdeal.nD → PrngReg), Pre_FwdTailRefIdeal_fwd_tail_finite m →
    θ_run (Cert.FwdTailRefIdeal.defs (F := Ideal)) (onTc (τ := Cert.FwdTailRefIdeal.τ) (Cert.FwdTailRefIdeal.main (F := Ideal))) ⟨m, fun _ => 0, g⟩ (fun r => (∀ c : Dev Cert.FwdTailRefIdeal.nD,
      r.2.mem ((c.tc : Thread Cert.FwdTailRefIdeal.nD Cert.FwdTailRefIdeal.τ).loc Cert.FwdTailRefIdeal.main_arg0) = m ((c.tc : Thread Cert.FwdTailRefIdeal.nD Cert.FwdTailRefIdeal.τ).loc Cert.FwdTailRefIdeal.main_arg0)
      ∧ r.2.mem ((c.tc : Thread Cert.FwdTailRefIdeal.nD Cert.FwdTailRefIdeal.τ).loc Cert.FwdTailRefIdeal.main_arg1) = m ((c.tc : Thread Cert.FwdTailRefIdeal.nD Cert.FwdTailRefIdeal.τ).loc Cert.FwdTailRefIdeal.main_arg1)
      ∧ r.2.mem ((c.tc : Thread Cert.FwdTailRefIdeal.nD Cert.FwdTailRefIdeal.τ).loc Cert.FwdTailRefIdeal.main_arg2) = m ((c.tc : Thread Cert.FwdTailRefIdeal.nD Cert.FwdTailRefIdeal.τ).loc Cert.FwdTailRefIdeal.main_arg2)
      ∧ r.2.mem ((c.tc : Thread Cert.FwdTailRefIdeal.nD Cert.FwdTailRefIdeal.τ).loc Cert.FwdTailRefIdeal.main_arg3) = m ((c.tc : Thread Cert.FwdTailRefIdeal.nD Cert.FwdTailRefIdeal.τ).loc Cert.FwdTailRefIdeal.main_arg3)
      ∧ r.2.mem ((c.tc : Thread Cert.FwdTailRefIdeal.nD Cert.FwdTailRefIdeal.τ).loc Cert.FwdTailRefIdeal.main_arg4) = m ((c.tc : Thread Cert.FwdTailRefIdeal.nD Cert.FwdTailRefIdeal.τ).loc Cert.FwdTailRefIdeal.main_arg4)
      ∧ r.2.mem ((c.tc : Thread Cert.FwdTailRefIdeal.nD Cert.FwdTailRefIdeal.τ).loc Cert.FwdTailRefIdeal.main_arg5) = m ((c.tc : Thread Cert.FwdTailRefIdeal.nD Cert.FwdTailRefIdeal.τ).loc Cert.FwdTailRefIdeal.main_arg5)
      ∧ r.2.mem ((c.tc : Thread Cert.FwdTailRefIdeal.nD Cert.FwdTailRefIdeal.τ).loc Cert.FwdTailRefIdeal.main_arg6) = m ((c.tc : Thread Cert.FwdTailRefIdeal.nD Cert.FwdTailRefIdeal.τ).loc Cert.FwdTailRefIdeal.main_arg6)
      ∧ r.2.mem ((c.tc : Thread Cert.FwdTailRefIdeal.nD Cert.FwdTailRefIdeal.τ).loc Cert.FwdTailRefIdeal.main_arg7) = m ((c.tc : Thread Cert.FwdTailRefIdeal.nD Cert.FwdTailRefIdeal.τ).loc Cert.FwdTailRefIdeal.main_arg7))
      ∧ r.2.sem = fun _ => 0)

def quiescent_FwdMix [hFwdMix : Cert.FwdMix.Facts] : Prop :=
  ∀ (m : (ℓ : Loc Cert.FwdMix.nD Cert.FwdMix.τ Cert.FwdMix.sig) → Buf (Elt Bits) ℓ) (g : Dev Cert.FwdMix.nD → PrngReg), Pre_FwdMix m →
    θ_run (Cert.FwdMix.defs (F := Bits)) (onTc (τ := Cert.FwdMix.τ) (Cert.FwdMix.main (F := Bits))) ⟨m, fun _ => 0, g⟩ (fun r => (∀ c : Dev Cert.FwdMix.nD,
      r.2.mem ((c.tc : Thread Cert.FwdMix.nD Cert.FwdMix.τ).loc Cert.FwdMix.main_arg0) = m ((c.tc : Thread Cert.FwdMix.nD Cert.FwdMix.τ).loc Cert.FwdMix.main_arg0)
      ∧ r.2.mem ((c.tc : Thread Cert.FwdMix.nD Cert.FwdMix.τ).loc Cert.FwdMix.main_arg1) = m ((c.tc : Thread Cert.FwdMix.nD Cert.FwdMix.τ).loc Cert.FwdMix.main_arg1)
      ∧ r.2.mem ((c.tc : Thread Cert.FwdMix.nD Cert.FwdMix.τ).loc Cert.FwdMix.main_arg2) = m ((c.tc : Thread Cert.FwdMix.nD Cert.FwdMix.τ).loc Cert.FwdMix.main_arg2)
      ∧ r.2.mem ((c.tc : Thread Cert.FwdMix.nD Cert.FwdMix.τ).loc Cert.FwdMix.main_arg3) = m ((c.tc : Thread Cert.FwdMix.nD Cert.FwdMix.τ).loc Cert.FwdMix.main_arg3)
      ∧ r.2.mem ((c.tc : Thread Cert.FwdMix.nD Cert.FwdMix.τ).loc Cert.FwdMix.main_arg4) = m ((c.tc : Thread Cert.FwdMix.nD Cert.FwdMix.τ).loc Cert.FwdMix.main_arg4)
      ∧ r.2.mem ((c.tc : Thread Cert.FwdMix.nD Cert.FwdMix.τ).loc Cert.FwdMix.main_arg5) = m ((c.tc : Thread Cert.FwdMix.nD Cert.FwdMix.τ).loc Cert.FwdMix.main_arg5)
      ∧ r.2.mem ((c.tc : Thread Cert.FwdMix.nD Cert.FwdMix.τ).loc Cert.FwdMix.main_arg6) = m ((c.tc : Thread Cert.FwdMix.nD Cert.FwdMix.τ).loc Cert.FwdMix.main_arg6)
      ∧ r.2.mem ((c.tc : Thread Cert.FwdMix.nD Cert.FwdMix.τ).loc Cert.FwdMix.main_arg7) = m ((c.tc : Thread Cert.FwdMix.nD Cert.FwdMix.τ).loc Cert.FwdMix.main_arg7))
      ∧ r.2.sem = fun _ => 0)

def quiescent_FwdMixIdeal [hFwdMixIdeal : Cert.FwdMixIdeal.Facts] : Prop :=
  ∀ (m : (ℓ : Loc Cert.FwdMixIdeal.nD Cert.FwdMixIdeal.τ Cert.FwdMixIdeal.sig) → Buf (Elt Ideal) ℓ) (g : Dev Cert.FwdMixIdeal.nD → PrngReg), Pre_FwdMixIdeal m →
    θ_run (Cert.FwdMixIdeal.defs (F := Ideal)) (onTc (τ := Cert.FwdMixIdeal.τ) (Cert.FwdMixIdeal.main (F := Ideal))) ⟨m, fun _ => 0, g⟩ (fun r => (∀ c : Dev Cert.FwdMixIdeal.nD,
      r.2.mem ((c.tc : Thread Cert.FwdMixIdeal.nD Cert.FwdMixIdeal.τ).loc Cert.FwdMixIdeal.main_arg0) = m ((c.tc : Thread Cert.FwdMixIdeal.nD Cert.FwdMixIdeal.τ).loc Cert.FwdMixIdeal.main_arg0)
      ∧ r.2.mem ((c.tc : Thread Cert.FwdMixIdeal.nD Cert.FwdMixIdeal.τ).loc Cert.FwdMixIdeal.main_arg1) = m ((c.tc : Thread Cert.FwdMixIdeal.nD Cert.FwdMixIdeal.τ).loc Cert.FwdMixIdeal.main_arg1)
      ∧ r.2.mem ((c.tc : Thread Cert.FwdMixIdeal.nD Cert.FwdMixIdeal.τ).loc Cert.FwdMixIdeal.main_arg2) = m ((c.tc : Thread Cert.FwdMixIdeal.nD Cert.FwdMixIdeal.τ).loc Cert.FwdMixIdeal.main_arg2)
      ∧ r.2.mem ((c.tc : Thread Cert.FwdMixIdeal.nD Cert.FwdMixIdeal.τ).loc Cert.FwdMixIdeal.main_arg3) = m ((c.tc : Thread Cert.FwdMixIdeal.nD Cert.FwdMixIdeal.τ).loc Cert.FwdMixIdeal.main_arg3)
      ∧ r.2.mem ((c.tc : Thread Cert.FwdMixIdeal.nD Cert.FwdMixIdeal.τ).loc Cert.FwdMixIdeal.main_arg4) = m ((c.tc : Thread Cert.FwdMixIdeal.nD Cert.FwdMixIdeal.τ).loc Cert.FwdMixIdeal.main_arg4)
      ∧ r.2.mem ((c.tc : Thread Cert.FwdMixIdeal.nD Cert.FwdMixIdeal.τ).loc Cert.FwdMixIdeal.main_arg5) = m ((c.tc : Thread Cert.FwdMixIdeal.nD Cert.FwdMixIdeal.τ).loc Cert.FwdMixIdeal.main_arg5)
      ∧ r.2.mem ((c.tc : Thread Cert.FwdMixIdeal.nD Cert.FwdMixIdeal.τ).loc Cert.FwdMixIdeal.main_arg6) = m ((c.tc : Thread Cert.FwdMixIdeal.nD Cert.FwdMixIdeal.τ).loc Cert.FwdMixIdeal.main_arg6)
      ∧ r.2.mem ((c.tc : Thread Cert.FwdMixIdeal.nD Cert.FwdMixIdeal.τ).loc Cert.FwdMixIdeal.main_arg7) = m ((c.tc : Thread Cert.FwdMixIdeal.nD Cert.FwdMixIdeal.τ).loc Cert.FwdMixIdeal.main_arg7))
      ∧ r.2.sem = fun _ => 0)

def quiescent_FwdMixIdeal_pre_fwd_mix_finite [hFwdMixIdeal : Cert.FwdMixIdeal.Facts] [hPre_fwd_mix_finite : Cert.Pre_fwd_mix_finite.Facts] : Prop :=
  ∀ (m : (ℓ : Loc Cert.FwdMixIdeal.nD Cert.FwdMixIdeal.τ Cert.FwdMixIdeal.sig) → Buf (Elt Ideal) ℓ) (g : Dev Cert.FwdMixIdeal.nD → PrngReg), Pre_FwdMixIdeal_fwd_mix_finite m →
    θ_run (Cert.FwdMixIdeal.defs (F := Ideal)) (onTc (τ := Cert.FwdMixIdeal.τ) (Cert.FwdMixIdeal.main (F := Ideal))) ⟨m, fun _ => 0, g⟩ (fun r => (∀ c : Dev Cert.FwdMixIdeal.nD,
      r.2.mem ((c.tc : Thread Cert.FwdMixIdeal.nD Cert.FwdMixIdeal.τ).loc Cert.FwdMixIdeal.main_arg0) = m ((c.tc : Thread Cert.FwdMixIdeal.nD Cert.FwdMixIdeal.τ).loc Cert.FwdMixIdeal.main_arg0)
      ∧ r.2.mem ((c.tc : Thread Cert.FwdMixIdeal.nD Cert.FwdMixIdeal.τ).loc Cert.FwdMixIdeal.main_arg1) = m ((c.tc : Thread Cert.FwdMixIdeal.nD Cert.FwdMixIdeal.τ).loc Cert.FwdMixIdeal.main_arg1)
      ∧ r.2.mem ((c.tc : Thread Cert.FwdMixIdeal.nD Cert.FwdMixIdeal.τ).loc Cert.FwdMixIdeal.main_arg2) = m ((c.tc : Thread Cert.FwdMixIdeal.nD Cert.FwdMixIdeal.τ).loc Cert.FwdMixIdeal.main_arg2)
      ∧ r.2.mem ((c.tc : Thread Cert.FwdMixIdeal.nD Cert.FwdMixIdeal.τ).loc Cert.FwdMixIdeal.main_arg3) = m ((c.tc : Thread Cert.FwdMixIdeal.nD Cert.FwdMixIdeal.τ).loc Cert.FwdMixIdeal.main_arg3)
      ∧ r.2.mem ((c.tc : Thread Cert.FwdMixIdeal.nD Cert.FwdMixIdeal.τ).loc Cert.FwdMixIdeal.main_arg4) = m ((c.tc : Thread Cert.FwdMixIdeal.nD Cert.FwdMixIdeal.τ).loc Cert.FwdMixIdeal.main_arg4)
      ∧ r.2.mem ((c.tc : Thread Cert.FwdMixIdeal.nD Cert.FwdMixIdeal.τ).loc Cert.FwdMixIdeal.main_arg5) = m ((c.tc : Thread Cert.FwdMixIdeal.nD Cert.FwdMixIdeal.τ).loc Cert.FwdMixIdeal.main_arg5)
      ∧ r.2.mem ((c.tc : Thread Cert.FwdMixIdeal.nD Cert.FwdMixIdeal.τ).loc Cert.FwdMixIdeal.main_arg6) = m ((c.tc : Thread Cert.FwdMixIdeal.nD Cert.FwdMixIdeal.τ).loc Cert.FwdMixIdeal.main_arg6)
      ∧ r.2.mem ((c.tc : Thread Cert.FwdMixIdeal.nD Cert.FwdMixIdeal.τ).loc Cert.FwdMixIdeal.main_arg7) = m ((c.tc : Thread Cert.FwdMixIdeal.nD Cert.FwdMixIdeal.τ).loc Cert.FwdMixIdeal.main_arg7))
      ∧ r.2.sem = fun _ => 0)

def quiescent_FwdMixRefIdeal [hFwdMixRefIdeal : Cert.FwdMixRefIdeal.Facts] : Prop :=
  ∀ (m : (ℓ : Loc Cert.FwdMixRefIdeal.nD Cert.FwdMixRefIdeal.τ Cert.FwdMixRefIdeal.sig) → Buf (Elt Ideal) ℓ) (g : Dev Cert.FwdMixRefIdeal.nD → PrngReg), Pre_FwdMixRefIdeal m →
    θ_run (Cert.FwdMixRefIdeal.defs (F := Ideal)) (onTc (τ := Cert.FwdMixRefIdeal.τ) (Cert.FwdMixRefIdeal.main (F := Ideal))) ⟨m, fun _ => 0, g⟩ (fun r => (∀ c : Dev Cert.FwdMixRefIdeal.nD,
      r.2.mem ((c.tc : Thread Cert.FwdMixRefIdeal.nD Cert.FwdMixRefIdeal.τ).loc Cert.FwdMixRefIdeal.main_arg0) = m ((c.tc : Thread Cert.FwdMixRefIdeal.nD Cert.FwdMixRefIdeal.τ).loc Cert.FwdMixRefIdeal.main_arg0)
      ∧ r.2.mem ((c.tc : Thread Cert.FwdMixRefIdeal.nD Cert.FwdMixRefIdeal.τ).loc Cert.FwdMixRefIdeal.main_arg1) = m ((c.tc : Thread Cert.FwdMixRefIdeal.nD Cert.FwdMixRefIdeal.τ).loc Cert.FwdMixRefIdeal.main_arg1)
      ∧ r.2.mem ((c.tc : Thread Cert.FwdMixRefIdeal.nD Cert.FwdMixRefIdeal.τ).loc Cert.FwdMixRefIdeal.main_arg2) = m ((c.tc : Thread Cert.FwdMixRefIdeal.nD Cert.FwdMixRefIdeal.τ).loc Cert.FwdMixRefIdeal.main_arg2)
      ∧ r.2.mem ((c.tc : Thread Cert.FwdMixRefIdeal.nD Cert.FwdMixRefIdeal.τ).loc Cert.FwdMixRefIdeal.main_arg3) = m ((c.tc : Thread Cert.FwdMixRefIdeal.nD Cert.FwdMixRefIdeal.τ).loc Cert.FwdMixRefIdeal.main_arg3)
      ∧ r.2.mem ((c.tc : Thread Cert.FwdMixRefIdeal.nD Cert.FwdMixRefIdeal.τ).loc Cert.FwdMixRefIdeal.main_arg4) = m ((c.tc : Thread Cert.FwdMixRefIdeal.nD Cert.FwdMixRefIdeal.τ).loc Cert.FwdMixRefIdeal.main_arg4)
      ∧ r.2.mem ((c.tc : Thread Cert.FwdMixRefIdeal.nD Cert.FwdMixRefIdeal.τ).loc Cert.FwdMixRefIdeal.main_arg5) = m ((c.tc : Thread Cert.FwdMixRefIdeal.nD Cert.FwdMixRefIdeal.τ).loc Cert.FwdMixRefIdeal.main_arg5)
      ∧ r.2.mem ((c.tc : Thread Cert.FwdMixRefIdeal.nD Cert.FwdMixRefIdeal.τ).loc Cert.FwdMixRefIdeal.main_arg6) = m ((c.tc : Thread Cert.FwdMixRefIdeal.nD Cert.FwdMixRefIdeal.τ).loc Cert.FwdMixRefIdeal.main_arg6)
      ∧ r.2.mem ((c.tc : Thread Cert.FwdMixRefIdeal.nD Cert.FwdMixRefIdeal.τ).loc Cert.FwdMixRefIdeal.main_arg7) = m ((c.tc : Thread Cert.FwdMixRefIdeal.nD Cert.FwdMixRefIdeal.τ).loc Cert.FwdMixRefIdeal.main_arg7))
      ∧ r.2.sem = fun _ => 0)

def quiescent_FwdMixRefIdeal_pre_fwd_mix_finite [hFwdMixRefIdeal : Cert.FwdMixRefIdeal.Facts] [hPre_fwd_mix_finite : Cert.Pre_fwd_mix_finite.Facts] : Prop :=
  ∀ (m : (ℓ : Loc Cert.FwdMixRefIdeal.nD Cert.FwdMixRefIdeal.τ Cert.FwdMixRefIdeal.sig) → Buf (Elt Ideal) ℓ) (g : Dev Cert.FwdMixRefIdeal.nD → PrngReg), Pre_FwdMixRefIdeal_fwd_mix_finite m →
    θ_run (Cert.FwdMixRefIdeal.defs (F := Ideal)) (onTc (τ := Cert.FwdMixRefIdeal.τ) (Cert.FwdMixRefIdeal.main (F := Ideal))) ⟨m, fun _ => 0, g⟩ (fun r => (∀ c : Dev Cert.FwdMixRefIdeal.nD,
      r.2.mem ((c.tc : Thread Cert.FwdMixRefIdeal.nD Cert.FwdMixRefIdeal.τ).loc Cert.FwdMixRefIdeal.main_arg0) = m ((c.tc : Thread Cert.FwdMixRefIdeal.nD Cert.FwdMixRefIdeal.τ).loc Cert.FwdMixRefIdeal.main_arg0)
      ∧ r.2.mem ((c.tc : Thread Cert.FwdMixRefIdeal.nD Cert.FwdMixRefIdeal.τ).loc Cert.FwdMixRefIdeal.main_arg1) = m ((c.tc : Thread Cert.FwdMixRefIdeal.nD Cert.FwdMixRefIdeal.τ).loc Cert.FwdMixRefIdeal.main_arg1)
      ∧ r.2.mem ((c.tc : Thread Cert.FwdMixRefIdeal.nD Cert.FwdMixRefIdeal.τ).loc Cert.FwdMixRefIdeal.main_arg2) = m ((c.tc : Thread Cert.FwdMixRefIdeal.nD Cert.FwdMixRefIdeal.τ).loc Cert.FwdMixRefIdeal.main_arg2)
      ∧ r.2.mem ((c.tc : Thread Cert.FwdMixRefIdeal.nD Cert.FwdMixRefIdeal.τ).loc Cert.FwdMixRefIdeal.main_arg3) = m ((c.tc : Thread Cert.FwdMixRefIdeal.nD Cert.FwdMixRefIdeal.τ).loc Cert.FwdMixRefIdeal.main_arg3)
      ∧ r.2.mem ((c.tc : Thread Cert.FwdMixRefIdeal.nD Cert.FwdMixRefIdeal.τ).loc Cert.FwdMixRefIdeal.main_arg4) = m ((c.tc : Thread Cert.FwdMixRefIdeal.nD Cert.FwdMixRefIdeal.τ).loc Cert.FwdMixRefIdeal.main_arg4)
      ∧ r.2.mem ((c.tc : Thread Cert.FwdMixRefIdeal.nD Cert.FwdMixRefIdeal.τ).loc Cert.FwdMixRefIdeal.main_arg5) = m ((c.tc : Thread Cert.FwdMixRefIdeal.nD Cert.FwdMixRefIdeal.τ).loc Cert.FwdMixRefIdeal.main_arg5)
      ∧ r.2.mem ((c.tc : Thread Cert.FwdMixRefIdeal.nD Cert.FwdMixRefIdeal.τ).loc Cert.FwdMixRefIdeal.main_arg6) = m ((c.tc : Thread Cert.FwdMixRefIdeal.nD Cert.FwdMixRefIdeal.τ).loc Cert.FwdMixRefIdeal.main_arg6)
      ∧ r.2.mem ((c.tc : Thread Cert.FwdMixRefIdeal.nD Cert.FwdMixRefIdeal.τ).loc Cert.FwdMixRefIdeal.main_arg7) = m ((c.tc : Thread Cert.FwdMixRefIdeal.nD Cert.FwdMixRefIdeal.τ).loc Cert.FwdMixRefIdeal.main_arg7))
      ∧ r.2.sem = fun _ => 0)

def quiescent_FwdFfn [hFwdFfn : Cert.FwdFfn.Facts] : Prop :=
  ∀ (m : (ℓ : Loc Cert.FwdFfn.nD Cert.FwdFfn.τ Cert.FwdFfn.sig) → Buf (Elt Bits) ℓ) (g : Dev Cert.FwdFfn.nD → PrngReg), Pre_FwdFfn m →
    θ_run (Cert.FwdFfn.defs (F := Bits)) (onTc (τ := Cert.FwdFfn.τ) (Cert.FwdFfn.main (F := Bits))) ⟨m, fun _ => 0, g⟩ (fun r => (∀ c : Dev Cert.FwdFfn.nD,
      r.2.mem ((c.tc : Thread Cert.FwdFfn.nD Cert.FwdFfn.τ).loc Cert.FwdFfn.main_arg0) = m ((c.tc : Thread Cert.FwdFfn.nD Cert.FwdFfn.τ).loc Cert.FwdFfn.main_arg0)
      ∧ r.2.mem ((c.tc : Thread Cert.FwdFfn.nD Cert.FwdFfn.τ).loc Cert.FwdFfn.main_arg1) = m ((c.tc : Thread Cert.FwdFfn.nD Cert.FwdFfn.τ).loc Cert.FwdFfn.main_arg1)
      ∧ r.2.mem ((c.tc : Thread Cert.FwdFfn.nD Cert.FwdFfn.τ).loc Cert.FwdFfn.main_arg2) = m ((c.tc : Thread Cert.FwdFfn.nD Cert.FwdFfn.τ).loc Cert.FwdFfn.main_arg2)
      ∧ r.2.mem ((c.tc : Thread Cert.FwdFfn.nD Cert.FwdFfn.τ).loc Cert.FwdFfn.main_arg3) = m ((c.tc : Thread Cert.FwdFfn.nD Cert.FwdFfn.τ).loc Cert.FwdFfn.main_arg3)
      ∧ r.2.mem ((c.tc : Thread Cert.FwdFfn.nD Cert.FwdFfn.τ).loc Cert.FwdFfn.main_arg4) = m ((c.tc : Thread Cert.FwdFfn.nD Cert.FwdFfn.τ).loc Cert.FwdFfn.main_arg4)
      ∧ r.2.mem ((c.tc : Thread Cert.FwdFfn.nD Cert.FwdFfn.τ).loc Cert.FwdFfn.main_arg5) = m ((c.tc : Thread Cert.FwdFfn.nD Cert.FwdFfn.τ).loc Cert.FwdFfn.main_arg5)
      ∧ r.2.mem ((c.tc : Thread Cert.FwdFfn.nD Cert.FwdFfn.τ).loc Cert.FwdFfn.main_arg6) = m ((c.tc : Thread Cert.FwdFfn.nD Cert.FwdFfn.τ).loc Cert.FwdFfn.main_arg6)
      ∧ r.2.mem ((c.tc : Thread Cert.FwdFfn.nD Cert.FwdFfn.τ).loc Cert.FwdFfn.main_arg7) = m ((c.tc : Thread Cert.FwdFfn.nD Cert.FwdFfn.τ).loc Cert.FwdFfn.main_arg7)
      ∧ r.2.mem ((c.tc : Thread Cert.FwdFfn.nD Cert.FwdFfn.τ).loc Cert.FwdFfn.main_arg8) = m ((c.tc : Thread Cert.FwdFfn.nD Cert.FwdFfn.τ).loc Cert.FwdFfn.main_arg8)
      ∧ r.2.mem ((c.tc : Thread Cert.FwdFfn.nD Cert.FwdFfn.τ).loc Cert.FwdFfn.main_arg9) = m ((c.tc : Thread Cert.FwdFfn.nD Cert.FwdFfn.τ).loc Cert.FwdFfn.main_arg9))
      ∧ r.2.sem = fun _ => 0)

def quiescent_FwdFfnIdeal [hFwdFfnIdeal : Cert.FwdFfnIdeal.Facts] : Prop :=
  ∀ (m : (ℓ : Loc Cert.FwdFfnIdeal.nD Cert.FwdFfnIdeal.τ Cert.FwdFfnIdeal.sig) → Buf (Elt Ideal) ℓ) (g : Dev Cert.FwdFfnIdeal.nD → PrngReg), Pre_FwdFfnIdeal m →
    θ_run (Cert.FwdFfnIdeal.defs (F := Ideal)) (onTc (τ := Cert.FwdFfnIdeal.τ) (Cert.FwdFfnIdeal.main (F := Ideal))) ⟨m, fun _ => 0, g⟩ (fun r => (∀ c : Dev Cert.FwdFfnIdeal.nD,
      r.2.mem ((c.tc : Thread Cert.FwdFfnIdeal.nD Cert.FwdFfnIdeal.τ).loc Cert.FwdFfnIdeal.main_arg0) = m ((c.tc : Thread Cert.FwdFfnIdeal.nD Cert.FwdFfnIdeal.τ).loc Cert.FwdFfnIdeal.main_arg0)
      ∧ r.2.mem ((c.tc : Thread Cert.FwdFfnIdeal.nD Cert.FwdFfnIdeal.τ).loc Cert.FwdFfnIdeal.main_arg1) = m ((c.tc : Thread Cert.FwdFfnIdeal.nD Cert.FwdFfnIdeal.τ).loc Cert.FwdFfnIdeal.main_arg1)
      ∧ r.2.mem ((c.tc : Thread Cert.FwdFfnIdeal.nD Cert.FwdFfnIdeal.τ).loc Cert.FwdFfnIdeal.main_arg2) = m ((c.tc : Thread Cert.FwdFfnIdeal.nD Cert.FwdFfnIdeal.τ).loc Cert.FwdFfnIdeal.main_arg2)
      ∧ r.2.mem ((c.tc : Thread Cert.FwdFfnIdeal.nD Cert.FwdFfnIdeal.τ).loc Cert.FwdFfnIdeal.main_arg3) = m ((c.tc : Thread Cert.FwdFfnIdeal.nD Cert.FwdFfnIdeal.τ).loc Cert.FwdFfnIdeal.main_arg3)
      ∧ r.2.mem ((c.tc : Thread Cert.FwdFfnIdeal.nD Cert.FwdFfnIdeal.τ).loc Cert.FwdFfnIdeal.main_arg4) = m ((c.tc : Thread Cert.FwdFfnIdeal.nD Cert.FwdFfnIdeal.τ).loc Cert.FwdFfnIdeal.main_arg4)
      ∧ r.2.mem ((c.tc : Thread Cert.FwdFfnIdeal.nD Cert.FwdFfnIdeal.τ).loc Cert.FwdFfnIdeal.main_arg5) = m ((c.tc : Thread Cert.FwdFfnIdeal.nD Cert.FwdFfnIdeal.τ).loc Cert.FwdFfnIdeal.main_arg5)
      ∧ r.2.mem ((c.tc : Thread Cert.FwdFfnIdeal.nD Cert.FwdFfnIdeal.τ).loc Cert.FwdFfnIdeal.main_arg6) = m ((c.tc : Thread Cert.FwdFfnIdeal.nD Cert.FwdFfnIdeal.τ).loc Cert.FwdFfnIdeal.main_arg6)
      ∧ r.2.mem ((c.tc : Thread Cert.FwdFfnIdeal.nD Cert.FwdFfnIdeal.τ).loc Cert.FwdFfnIdeal.main_arg7) = m ((c.tc : Thread Cert.FwdFfnIdeal.nD Cert.FwdFfnIdeal.τ).loc Cert.FwdFfnIdeal.main_arg7)
      ∧ r.2.mem ((c.tc : Thread Cert.FwdFfnIdeal.nD Cert.FwdFfnIdeal.τ).loc Cert.FwdFfnIdeal.main_arg8) = m ((c.tc : Thread Cert.FwdFfnIdeal.nD Cert.FwdFfnIdeal.τ).loc Cert.FwdFfnIdeal.main_arg8)
      ∧ r.2.mem ((c.tc : Thread Cert.FwdFfnIdeal.nD Cert.FwdFfnIdeal.τ).loc Cert.FwdFfnIdeal.main_arg9) = m ((c.tc : Thread Cert.FwdFfnIdeal.nD Cert.FwdFfnIdeal.τ).loc Cert.FwdFfnIdeal.main_arg9))
      ∧ r.2.sem = fun _ => 0)

def quiescent_FwdFfnIdeal_pre_fwd_ffn_finite [hFwdFfnIdeal : Cert.FwdFfnIdeal.Facts] [hPre_fwd_ffn_finite : Cert.Pre_fwd_ffn_finite.Facts] : Prop :=
  ∀ (m : (ℓ : Loc Cert.FwdFfnIdeal.nD Cert.FwdFfnIdeal.τ Cert.FwdFfnIdeal.sig) → Buf (Elt Ideal) ℓ) (g : Dev Cert.FwdFfnIdeal.nD → PrngReg), Pre_FwdFfnIdeal_fwd_ffn_finite m →
    θ_run (Cert.FwdFfnIdeal.defs (F := Ideal)) (onTc (τ := Cert.FwdFfnIdeal.τ) (Cert.FwdFfnIdeal.main (F := Ideal))) ⟨m, fun _ => 0, g⟩ (fun r => (∀ c : Dev Cert.FwdFfnIdeal.nD,
      r.2.mem ((c.tc : Thread Cert.FwdFfnIdeal.nD Cert.FwdFfnIdeal.τ).loc Cert.FwdFfnIdeal.main_arg0) = m ((c.tc : Thread Cert.FwdFfnIdeal.nD Cert.FwdFfnIdeal.τ).loc Cert.FwdFfnIdeal.main_arg0)
      ∧ r.2.mem ((c.tc : Thread Cert.FwdFfnIdeal.nD Cert.FwdFfnIdeal.τ).loc Cert.FwdFfnIdeal.main_arg1) = m ((c.tc : Thread Cert.FwdFfnIdeal.nD Cert.FwdFfnIdeal.τ).loc Cert.FwdFfnIdeal.main_arg1)
      ∧ r.2.mem ((c.tc : Thread Cert.FwdFfnIdeal.nD Cert.FwdFfnIdeal.τ).loc Cert.FwdFfnIdeal.main_arg2) = m ((c.tc : Thread Cert.FwdFfnIdeal.nD Cert.FwdFfnIdeal.τ).loc Cert.FwdFfnIdeal.main_arg2)
      ∧ r.2.mem ((c.tc : Thread Cert.FwdFfnIdeal.nD Cert.FwdFfnIdeal.τ).loc Cert.FwdFfnIdeal.main_arg3) = m ((c.tc : Thread Cert.FwdFfnIdeal.nD Cert.FwdFfnIdeal.τ).loc Cert.FwdFfnIdeal.main_arg3)
      ∧ r.2.mem ((c.tc : Thread Cert.FwdFfnIdeal.nD Cert.FwdFfnIdeal.τ).loc Cert.FwdFfnIdeal.main_arg4) = m ((c.tc : Thread Cert.FwdFfnIdeal.nD Cert.FwdFfnIdeal.τ).loc Cert.FwdFfnIdeal.main_arg4)
      ∧ r.2.mem ((c.tc : Thread Cert.FwdFfnIdeal.nD Cert.FwdFfnIdeal.τ).loc Cert.FwdFfnIdeal.main_arg5) = m ((c.tc : Thread Cert.FwdFfnIdeal.nD Cert.FwdFfnIdeal.τ).loc Cert.FwdFfnIdeal.main_arg5)
      ∧ r.2.mem ((c.tc : Thread Cert.FwdFfnIdeal.nD Cert.FwdFfnIdeal.τ).loc Cert.FwdFfnIdeal.main_arg6) = m ((c.tc : Thread Cert.FwdFfnIdeal.nD Cert.FwdFfnIdeal.τ).loc Cert.FwdFfnIdeal.main_arg6)
      ∧ r.2.mem ((c.tc : Thread Cert.FwdFfnIdeal.nD Cert.FwdFfnIdeal.τ).loc Cert.FwdFfnIdeal.main_arg7) = m ((c.tc : Thread Cert.FwdFfnIdeal.nD Cert.FwdFfnIdeal.τ).loc Cert.FwdFfnIdeal.main_arg7)
      ∧ r.2.mem ((c.tc : Thread Cert.FwdFfnIdeal.nD Cert.FwdFfnIdeal.τ).loc Cert.FwdFfnIdeal.main_arg8) = m ((c.tc : Thread Cert.FwdFfnIdeal.nD Cert.FwdFfnIdeal.τ).loc Cert.FwdFfnIdeal.main_arg8)
      ∧ r.2.mem ((c.tc : Thread Cert.FwdFfnIdeal.nD Cert.FwdFfnIdeal.τ).loc Cert.FwdFfnIdeal.main_arg9) = m ((c.tc : Thread Cert.FwdFfnIdeal.nD Cert.FwdFfnIdeal.τ).loc Cert.FwdFfnIdeal.main_arg9))
      ∧ r.2.sem = fun _ => 0)

def quiescent_FwdFfnRefIdeal [hFwdFfnRefIdeal : Cert.FwdFfnRefIdeal.Facts] : Prop :=
  ∀ (m : (ℓ : Loc Cert.FwdFfnRefIdeal.nD Cert.FwdFfnRefIdeal.τ Cert.FwdFfnRefIdeal.sig) → Buf (Elt Ideal) ℓ) (g : Dev Cert.FwdFfnRefIdeal.nD → PrngReg), Pre_FwdFfnRefIdeal m →
    θ_run (Cert.FwdFfnRefIdeal.defs (F := Ideal)) (onTc (τ := Cert.FwdFfnRefIdeal.τ) (Cert.FwdFfnRefIdeal.main (F := Ideal))) ⟨m, fun _ => 0, g⟩ (fun r => (∀ c : Dev Cert.FwdFfnRefIdeal.nD,
      r.2.mem ((c.tc : Thread Cert.FwdFfnRefIdeal.nD Cert.FwdFfnRefIdeal.τ).loc Cert.FwdFfnRefIdeal.main_arg0) = m ((c.tc : Thread Cert.FwdFfnRefIdeal.nD Cert.FwdFfnRefIdeal.τ).loc Cert.FwdFfnRefIdeal.main_arg0)
      ∧ r.2.mem ((c.tc : Thread Cert.FwdFfnRefIdeal.nD Cert.FwdFfnRefIdeal.τ).loc Cert.FwdFfnRefIdeal.main_arg1) = m ((c.tc : Thread Cert.FwdFfnRefIdeal.nD Cert.FwdFfnRefIdeal.τ).loc Cert.FwdFfnRefIdeal.main_arg1)
      ∧ r.2.mem ((c.tc : Thread Cert.FwdFfnRefIdeal.nD Cert.FwdFfnRefIdeal.τ).loc Cert.FwdFfnRefIdeal.main_arg2) = m ((c.tc : Thread Cert.FwdFfnRefIdeal.nD Cert.FwdFfnRefIdeal.τ).loc Cert.FwdFfnRefIdeal.main_arg2)
      ∧ r.2.mem ((c.tc : Thread Cert.FwdFfnRefIdeal.nD Cert.FwdFfnRefIdeal.τ).loc Cert.FwdFfnRefIdeal.main_arg3) = m ((c.tc : Thread Cert.FwdFfnRefIdeal.nD Cert.FwdFfnRefIdeal.τ).loc Cert.FwdFfnRefIdeal.main_arg3)
      ∧ r.2.mem ((c.tc : Thread Cert.FwdFfnRefIdeal.nD Cert.FwdFfnRefIdeal.τ).loc Cert.FwdFfnRefIdeal.main_arg4) = m ((c.tc : Thread Cert.FwdFfnRefIdeal.nD Cert.FwdFfnRefIdeal.τ).loc Cert.FwdFfnRefIdeal.main_arg4)
      ∧ r.2.mem ((c.tc : Thread Cert.FwdFfnRefIdeal.nD Cert.FwdFfnRefIdeal.τ).loc Cert.FwdFfnRefIdeal.main_arg5) = m ((c.tc : Thread Cert.FwdFfnRefIdeal.nD Cert.FwdFfnRefIdeal.τ).loc Cert.FwdFfnRefIdeal.main_arg5)
      ∧ r.2.mem ((c.tc : Thread Cert.FwdFfnRefIdeal.nD Cert.FwdFfnRefIdeal.τ).loc Cert.FwdFfnRefIdeal.main_arg6) = m ((c.tc : Thread Cert.FwdFfnRefIdeal.nD Cert.FwdFfnRefIdeal.τ).loc Cert.FwdFfnRefIdeal.main_arg6)
      ∧ r.2.mem ((c.tc : Thread Cert.FwdFfnRefIdeal.nD Cert.FwdFfnRefIdeal.τ).loc Cert.FwdFfnRefIdeal.main_arg7) = m ((c.tc : Thread Cert.FwdFfnRefIdeal.nD Cert.FwdFfnRefIdeal.τ).loc Cert.FwdFfnRefIdeal.main_arg7)
      ∧ r.2.mem ((c.tc : Thread Cert.FwdFfnRefIdeal.nD Cert.FwdFfnRefIdeal.τ).loc Cert.FwdFfnRefIdeal.main_arg8) = m ((c.tc : Thread Cert.FwdFfnRefIdeal.nD Cert.FwdFfnRefIdeal.τ).loc Cert.FwdFfnRefIdeal.main_arg8)
      ∧ r.2.mem ((c.tc : Thread Cert.FwdFfnRefIdeal.nD Cert.FwdFfnRefIdeal.τ).loc Cert.FwdFfnRefIdeal.main_arg9) = m ((c.tc : Thread Cert.FwdFfnRefIdeal.nD Cert.FwdFfnRefIdeal.τ).loc Cert.FwdFfnRefIdeal.main_arg9))
      ∧ r.2.sem = fun _ => 0)

def quiescent_FwdFfnRefIdeal_pre_fwd_ffn_finite [hFwdFfnRefIdeal : Cert.FwdFfnRefIdeal.Facts] [hPre_fwd_ffn_finite : Cert.Pre_fwd_ffn_finite.Facts] : Prop :=
  ∀ (m : (ℓ : Loc Cert.FwdFfnRefIdeal.nD Cert.FwdFfnRefIdeal.τ Cert.FwdFfnRefIdeal.sig) → Buf (Elt Ideal) ℓ) (g : Dev Cert.FwdFfnRefIdeal.nD → PrngReg), Pre_FwdFfnRefIdeal_fwd_ffn_finite m →
    θ_run (Cert.FwdFfnRefIdeal.defs (F := Ideal)) (onTc (τ := Cert.FwdFfnRefIdeal.τ) (Cert.FwdFfnRefIdeal.main (F := Ideal))) ⟨m, fun _ => 0, g⟩ (fun r => (∀ c : Dev Cert.FwdFfnRefIdeal.nD,
      r.2.mem ((c.tc : Thread Cert.FwdFfnRefIdeal.nD Cert.FwdFfnRefIdeal.τ).loc Cert.FwdFfnRefIdeal.main_arg0) = m ((c.tc : Thread Cert.FwdFfnRefIdeal.nD Cert.FwdFfnRefIdeal.τ).loc Cert.FwdFfnRefIdeal.main_arg0)
      ∧ r.2.mem ((c.tc : Thread Cert.FwdFfnRefIdeal.nD Cert.FwdFfnRefIdeal.τ).loc Cert.FwdFfnRefIdeal.main_arg1) = m ((c.tc : Thread Cert.FwdFfnRefIdeal.nD Cert.FwdFfnRefIdeal.τ).loc Cert.FwdFfnRefIdeal.main_arg1)
      ∧ r.2.mem ((c.tc : Thread Cert.FwdFfnRefIdeal.nD Cert.FwdFfnRefIdeal.τ).loc Cert.FwdFfnRefIdeal.main_arg2) = m ((c.tc : Thread Cert.FwdFfnRefIdeal.nD Cert.FwdFfnRefIdeal.τ).loc Cert.FwdFfnRefIdeal.main_arg2)
      ∧ r.2.mem ((c.tc : Thread Cert.FwdFfnRefIdeal.nD Cert.FwdFfnRefIdeal.τ).loc Cert.FwdFfnRefIdeal.main_arg3) = m ((c.tc : Thread Cert.FwdFfnRefIdeal.nD Cert.FwdFfnRefIdeal.τ).loc Cert.FwdFfnRefIdeal.main_arg3)
      ∧ r.2.mem ((c.tc : Thread Cert.FwdFfnRefIdeal.nD Cert.FwdFfnRefIdeal.τ).loc Cert.FwdFfnRefIdeal.main_arg4) = m ((c.tc : Thread Cert.FwdFfnRefIdeal.nD Cert.FwdFfnRefIdeal.τ).loc Cert.FwdFfnRefIdeal.main_arg4)
      ∧ r.2.mem ((c.tc : Thread Cert.FwdFfnRefIdeal.nD Cert.FwdFfnRefIdeal.τ).loc Cert.FwdFfnRefIdeal.main_arg5) = m ((c.tc : Thread Cert.FwdFfnRefIdeal.nD Cert.FwdFfnRefIdeal.τ).loc Cert.FwdFfnRefIdeal.main_arg5)
      ∧ r.2.mem ((c.tc : Thread Cert.FwdFfnRefIdeal.nD Cert.FwdFfnRefIdeal.τ).loc Cert.FwdFfnRefIdeal.main_arg6) = m ((c.tc : Thread Cert.FwdFfnRefIdeal.nD Cert.FwdFfnRefIdeal.τ).loc Cert.FwdFfnRefIdeal.main_arg6)
      ∧ r.2.mem ((c.tc : Thread Cert.FwdFfnRefIdeal.nD Cert.FwdFfnRefIdeal.τ).loc Cert.FwdFfnRefIdeal.main_arg7) = m ((c.tc : Thread Cert.FwdFfnRefIdeal.nD Cert.FwdFfnRefIdeal.τ).loc Cert.FwdFfnRefIdeal.main_arg7)
      ∧ r.2.mem ((c.tc : Thread Cert.FwdFfnRefIdeal.nD Cert.FwdFfnRefIdeal.τ).loc Cert.FwdFfnRefIdeal.main_arg8) = m ((c.tc : Thread Cert.FwdFfnRefIdeal.nD Cert.FwdFfnRefIdeal.τ).loc Cert.FwdFfnRefIdeal.main_arg8)
      ∧ r.2.mem ((c.tc : Thread Cert.FwdFfnRefIdeal.nD Cert.FwdFfnRefIdeal.τ).loc Cert.FwdFfnRefIdeal.main_arg9) = m ((c.tc : Thread Cert.FwdFfnRefIdeal.nD Cert.FwdFfnRefIdeal.τ).loc Cert.FwdFfnRefIdeal.main_arg9))
      ∧ r.2.sem = fun _ => 0)

def quiescent_AttnF [hAttnF : Cert.AttnF.Facts] : Prop :=
  ∀ (m : (ℓ : Loc Cert.AttnF.nD Cert.AttnF.τ Cert.AttnF.sig) → Buf (Elt Bits) ℓ) (g : Dev Cert.AttnF.nD → PrngReg), Pre_AttnF m →
    θ_run (Cert.AttnF.defs (F := Bits)) (onTc (τ := Cert.AttnF.τ) (Cert.AttnF.main (F := Bits))) ⟨m, fun _ => 0, g⟩ (fun r => (∀ c : Dev Cert.AttnF.nD,
      r.2.mem ((c.tc : Thread Cert.AttnF.nD Cert.AttnF.τ).loc Cert.AttnF.main_arg0) = m ((c.tc : Thread Cert.AttnF.nD Cert.AttnF.τ).loc Cert.AttnF.main_arg0)
      ∧ r.2.mem ((c.tc : Thread Cert.AttnF.nD Cert.AttnF.τ).loc Cert.AttnF.main_arg1) = m ((c.tc : Thread Cert.AttnF.nD Cert.AttnF.τ).loc Cert.AttnF.main_arg1)
      ∧ r.2.mem ((c.tc : Thread Cert.AttnF.nD Cert.AttnF.τ).loc Cert.AttnF.main_arg2) = m ((c.tc : Thread Cert.AttnF.nD Cert.AttnF.τ).loc Cert.AttnF.main_arg2))
      ∧ r.2.sem = fun _ => 0)

def quiescent_AttnFIdeal [hAttnFIdeal : Cert.AttnFIdeal.Facts] : Prop :=
  ∀ (m : (ℓ : Loc Cert.AttnFIdeal.nD Cert.AttnFIdeal.τ Cert.AttnFIdeal.sig) → Buf (Elt Ideal) ℓ) (g : Dev Cert.AttnFIdeal.nD → PrngReg), Pre_AttnFIdeal m →
    θ_run (Cert.AttnFIdeal.defs (F := Ideal)) (onTc (τ := Cert.AttnFIdeal.τ) (Cert.AttnFIdeal.main (F := Ideal))) ⟨m, fun _ => 0, g⟩ (fun r => (∀ c : Dev Cert.AttnFIdeal.nD,
      r.2.mem ((c.tc : Thread Cert.AttnFIdeal.nD Cert.AttnFIdeal.τ).loc Cert.AttnFIdeal.main_arg0) = m ((c.tc : Thread Cert.AttnFIdeal.nD Cert.AttnFIdeal.τ).loc Cert.AttnFIdeal.main_arg0)
      ∧ r.2.mem ((c.tc : Thread Cert.AttnFIdeal.nD Cert.AttnFIdeal.τ).loc Cert.AttnFIdeal.main_arg1) = m ((c.tc : Thread Cert.AttnFIdeal.nD Cert.AttnFIdeal.τ).loc Cert.AttnFIdeal.main_arg1)
      ∧ r.2.mem ((c.tc : Thread Cert.AttnFIdeal.nD Cert.AttnFIdeal.τ).loc Cert.AttnFIdeal.main_arg2) = m ((c.tc : Thread Cert.AttnFIdeal.nD Cert.AttnFIdeal.τ).loc Cert.AttnFIdeal.main_arg2))
      ∧ r.2.sem = fun _ => 0)

def quiescent_AttnFIdeal_pre_attn_fwd_finite [hAttnFIdeal : Cert.AttnFIdeal.Facts] [hPre_attn_fwd_finite : Cert.Pre_attn_fwd_finite.Facts] : Prop :=
  ∀ (m : (ℓ : Loc Cert.AttnFIdeal.nD Cert.AttnFIdeal.τ Cert.AttnFIdeal.sig) → Buf (Elt Ideal) ℓ) (g : Dev Cert.AttnFIdeal.nD → PrngReg), Pre_AttnFIdeal_attn_fwd_finite m →
    θ_run (Cert.AttnFIdeal.defs (F := Ideal)) (onTc (τ := Cert.AttnFIdeal.τ) (Cert.AttnFIdeal.main (F := Ideal))) ⟨m, fun _ => 0, g⟩ (fun r => (∀ c : Dev Cert.AttnFIdeal.nD,
      r.2.mem ((c.tc : Thread Cert.AttnFIdeal.nD Cert.AttnFIdeal.τ).loc Cert.AttnFIdeal.main_arg0) = m ((c.tc : Thread Cert.AttnFIdeal.nD Cert.AttnFIdeal.τ).loc Cert.AttnFIdeal.main_arg0)
      ∧ r.2.mem ((c.tc : Thread Cert.AttnFIdeal.nD Cert.AttnFIdeal.τ).loc Cert.AttnFIdeal.main_arg1) = m ((c.tc : Thread Cert.AttnFIdeal.nD Cert.AttnFIdeal.τ).loc Cert.AttnFIdeal.main_arg1)
      ∧ r.2.mem ((c.tc : Thread Cert.AttnFIdeal.nD Cert.AttnFIdeal.τ).loc Cert.AttnFIdeal.main_arg2) = m ((c.tc : Thread Cert.AttnFIdeal.nD Cert.AttnFIdeal.τ).loc Cert.AttnFIdeal.main_arg2))
      ∧ r.2.sem = fun _ => 0)

def quiescent_AttnFRefIdeal [hAttnFRefIdeal : Cert.AttnFRefIdeal.Facts] : Prop :=
  ∀ (m : (ℓ : Loc Cert.AttnFRefIdeal.nD Cert.AttnFRefIdeal.τ Cert.AttnFRefIdeal.sig) → Buf (Elt Ideal) ℓ) (g : Dev Cert.AttnFRefIdeal.nD → PrngReg), Pre_AttnFRefIdeal m →
    θ_run (Cert.AttnFRefIdeal.defs (F := Ideal)) (onTc (τ := Cert.AttnFRefIdeal.τ) (Cert.AttnFRefIdeal.main (F := Ideal))) ⟨m, fun _ => 0, g⟩ (fun r => (∀ c : Dev Cert.AttnFRefIdeal.nD,
      r.2.mem ((c.tc : Thread Cert.AttnFRefIdeal.nD Cert.AttnFRefIdeal.τ).loc Cert.AttnFRefIdeal.main_arg0) = m ((c.tc : Thread Cert.AttnFRefIdeal.nD Cert.AttnFRefIdeal.τ).loc Cert.AttnFRefIdeal.main_arg0)
      ∧ r.2.mem ((c.tc : Thread Cert.AttnFRefIdeal.nD Cert.AttnFRefIdeal.τ).loc Cert.AttnFRefIdeal.main_arg1) = m ((c.tc : Thread Cert.AttnFRefIdeal.nD Cert.AttnFRefIdeal.τ).loc Cert.AttnFRefIdeal.main_arg1)
      ∧ r.2.mem ((c.tc : Thread Cert.AttnFRefIdeal.nD Cert.AttnFRefIdeal.τ).loc Cert.AttnFRefIdeal.main_arg2) = m ((c.tc : Thread Cert.AttnFRefIdeal.nD Cert.AttnFRefIdeal.τ).loc Cert.AttnFRefIdeal.main_arg2))
      ∧ r.2.sem = fun _ => 0)

def quiescent_AttnFRefIdeal_pre_attn_fwd_finite [hAttnFRefIdeal : Cert.AttnFRefIdeal.Facts] [hPre_attn_fwd_finite : Cert.Pre_attn_fwd_finite.Facts] : Prop :=
  ∀ (m : (ℓ : Loc Cert.AttnFRefIdeal.nD Cert.AttnFRefIdeal.τ Cert.AttnFRefIdeal.sig) → Buf (Elt Ideal) ℓ) (g : Dev Cert.AttnFRefIdeal.nD → PrngReg), Pre_AttnFRefIdeal_attn_fwd_finite m →
    θ_run (Cert.AttnFRefIdeal.defs (F := Ideal)) (onTc (τ := Cert.AttnFRefIdeal.τ) (Cert.AttnFRefIdeal.main (F := Ideal))) ⟨m, fun _ => 0, g⟩ (fun r => (∀ c : Dev Cert.AttnFRefIdeal.nD,
      r.2.mem ((c.tc : Thread Cert.AttnFRefIdeal.nD Cert.AttnFRefIdeal.τ).loc Cert.AttnFRefIdeal.main_arg0) = m ((c.tc : Thread Cert.AttnFRefIdeal.nD Cert.AttnFRefIdeal.τ).loc Cert.AttnFRefIdeal.main_arg0)
      ∧ r.2.mem ((c.tc : Thread Cert.AttnFRefIdeal.nD Cert.AttnFRefIdeal.τ).loc Cert.AttnFRefIdeal.main_arg1) = m ((c.tc : Thread Cert.AttnFRefIdeal.nD Cert.AttnFRefIdeal.τ).loc Cert.AttnFRefIdeal.main_arg1)
      ∧ r.2.mem ((c.tc : Thread Cert.AttnFRefIdeal.nD Cert.AttnFRefIdeal.τ).loc Cert.AttnFRefIdeal.main_arg2) = m ((c.tc : Thread Cert.AttnFRefIdeal.nD Cert.AttnFRefIdeal.τ).loc Cert.AttnFRefIdeal.main_arg2))
      ∧ r.2.sem = fun _ => 0)

def preserves_BwdIn_BwdInIdeal : Prop :=
  True

def algebraic_BwdInIdeal_BwdInRefIdeal_pre_bwd_in_finite [hBwdInIdeal : Cert.BwdInIdeal.Facts] [hBwdInRefIdeal : Cert.BwdInRefIdeal.Facts] [hPre_bwd_in_finite : Cert.Pre_bwd_in_finite.Facts] : Prop :=
  ∀ (m : (ℓ : Loc Cert.BwdInIdeal.nD Cert.BwdInIdeal.τ Cert.BwdInIdeal.sig) → Buf (Elt Ideal) ℓ) (g : Dev Cert.BwdInIdeal.nD → PrngReg)
    (m' : (ℓ : Loc Cert.BwdInRefIdeal.nD Cert.BwdInRefIdeal.τ Cert.BwdInRefIdeal.sig) → Buf (Elt Ideal) ℓ) (g' : Dev Cert.BwdInRefIdeal.nD → PrngReg), Pre_BwdInIdeal_bwd_in_finite m →
    (∀ c : Dev Cert.BwdInIdeal.nD,
      m' ((c.tc : Thread Cert.BwdInRefIdeal.nD Cert.BwdInRefIdeal.τ).loc Cert.BwdInRefIdeal.main_arg0) = m ((c.tc : Thread Cert.BwdInIdeal.nD Cert.BwdInIdeal.τ).loc Cert.BwdInIdeal.main_arg0)
      ∧ m' ((c.tc : Thread Cert.BwdInRefIdeal.nD Cert.BwdInRefIdeal.τ).loc Cert.BwdInRefIdeal.main_arg1) = m ((c.tc : Thread Cert.BwdInIdeal.nD Cert.BwdInIdeal.τ).loc Cert.BwdInIdeal.main_arg1)
      ∧ m' ((c.tc : Thread Cert.BwdInRefIdeal.nD Cert.BwdInRefIdeal.τ).loc Cert.BwdInRefIdeal.main_arg2) = m ((c.tc : Thread Cert.BwdInIdeal.nD Cert.BwdInIdeal.τ).loc Cert.BwdInIdeal.main_arg2)
      ∧ m' ((c.tc : Thread Cert.BwdInRefIdeal.nD Cert.BwdInRefIdeal.τ).loc Cert.BwdInRefIdeal.main_arg3) = m ((c.tc : Thread Cert.BwdInIdeal.nD Cert.BwdInIdeal.τ).loc Cert.BwdInIdeal.main_arg3)
      ∧ m' ((c.tc : Thread Cert.BwdInRefIdeal.nD Cert.BwdInRefIdeal.τ).loc Cert.BwdInRefIdeal.main_arg4) = m ((c.tc : Thread Cert.BwdInIdeal.nD Cert.BwdInIdeal.τ).loc Cert.BwdInIdeal.main_arg4)) →
    ∃ (v0 : (c : Dev Cert.BwdInIdeal.nD) → Buf (Elt Ideal) ((c.tc : Thread Cert.BwdInIdeal.nD Cert.BwdInIdeal.τ).loc Cert.BwdInIdeal.main_v4_0)) (v1 : (c : Dev Cert.BwdInIdeal.nD) → Buf (Elt Ideal) ((c.tc : Thread Cert.BwdInIdeal.nD Cert.BwdInIdeal.τ).loc Cert.BwdInIdeal.main_v4_1)),
      θ_run (Cert.BwdInIdeal.defs (F := Ideal)) (onTc (τ := Cert.BwdInIdeal.τ) (Cert.BwdInIdeal.main (F := Ideal))) ⟨m, fun _ => 0, g⟩ (fun r => ∀ c : Dev Cert.BwdInIdeal.nD,
          r.2.mem ((c.tc : Thread Cert.BwdInIdeal.nD Cert.BwdInIdeal.τ).loc Cert.BwdInIdeal.main_v4_0) = v0 c
          ∧ r.2.mem ((c.tc : Thread Cert.BwdInIdeal.nD Cert.BwdInIdeal.τ).loc Cert.BwdInIdeal.main_v4_1) = v1 c
          ∧ r.2.mem ((c.tc : Thread Cert.BwdInIdeal.nD Cert.BwdInIdeal.τ).loc Cert.BwdInIdeal.main_arg0) = m ((c.tc : Thread Cert.BwdInIdeal.nD Cert.BwdInIdeal.τ).loc Cert.BwdInIdeal.main_arg0)
          ∧ r.2.mem ((c.tc : Thread Cert.BwdInIdeal.nD Cert.BwdInIdeal.τ).loc Cert.BwdInIdeal.main_arg1) = m ((c.tc : Thread Cert.BwdInIdeal.nD Cert.BwdInIdeal.τ).loc Cert.BwdInIdeal.main_arg1)
          ∧ r.2.mem ((c.tc : Thread Cert.BwdInIdeal.nD Cert.BwdInIdeal.τ).loc Cert.BwdInIdeal.main_arg2) = m ((c.tc : Thread Cert.BwdInIdeal.nD Cert.BwdInIdeal.τ).loc Cert.BwdInIdeal.main_arg2)
          ∧ r.2.mem ((c.tc : Thread Cert.BwdInIdeal.nD Cert.BwdInIdeal.τ).loc Cert.BwdInIdeal.main_arg3) = m ((c.tc : Thread Cert.BwdInIdeal.nD Cert.BwdInIdeal.τ).loc Cert.BwdInIdeal.main_arg3)
          ∧ r.2.mem ((c.tc : Thread Cert.BwdInIdeal.nD Cert.BwdInIdeal.τ).loc Cert.BwdInIdeal.main_arg4) = m ((c.tc : Thread Cert.BwdInIdeal.nD Cert.BwdInIdeal.τ).loc Cert.BwdInIdeal.main_arg4))
      ∧ θ_run (Cert.BwdInRefIdeal.defs (F := Ideal)) (onTc (τ := Cert.BwdInRefIdeal.τ) (Cert.BwdInRefIdeal.main (F := Ideal))) ⟨m', fun _ => 0, g'⟩ (fun r => ∀ c : Dev Cert.BwdInRefIdeal.nD,
          r.2.mem ((c.tc : Thread Cert.BwdInRefIdeal.nD Cert.BwdInRefIdeal.τ).loc Cert.BwdInRefIdeal.main_v36) = v0 c
          ∧ r.2.mem ((c.tc : Thread Cert.BwdInRefIdeal.nD Cert.BwdInRefIdeal.τ).loc Cert.BwdInRefIdeal.main_v19) = v1 c
          ∧ r.2.mem ((c.tc : Thread Cert.BwdInRefIdeal.nD Cert.BwdInRefIdeal.τ).loc Cert.BwdInRefIdeal.main_arg0) = m' ((c.tc : Thread Cert.BwdInRefIdeal.nD Cert.BwdInRefIdeal.τ).loc Cert.BwdInRefIdeal.main_arg0)
          ∧ r.2.mem ((c.tc : Thread Cert.BwdInRefIdeal.nD Cert.BwdInRefIdeal.τ).loc Cert.BwdInRefIdeal.main_arg1) = m' ((c.tc : Thread Cert.BwdInRefIdeal.nD Cert.BwdInRefIdeal.τ).loc Cert.BwdInRefIdeal.main_arg1)
          ∧ r.2.mem ((c.tc : Thread Cert.BwdInRefIdeal.nD Cert.BwdInRefIdeal.τ).loc Cert.BwdInRefIdeal.main_arg2) = m' ((c.tc : Thread Cert.BwdInRefIdeal.nD Cert.BwdInRefIdeal.τ).loc Cert.BwdInRefIdeal.main_arg2)
          ∧ r.2.mem ((c.tc : Thread Cert.BwdInRefIdeal.nD Cert.BwdInRefIdeal.τ).loc Cert.BwdInRefIdeal.main_arg3) = m' ((c.tc : Thread Cert.BwdInRefIdeal.nD Cert.BwdInRefIdeal.τ).loc Cert.BwdInRefIdeal.main_arg3)
          ∧ r.2.mem ((c.tc : Thread Cert.BwdInRefIdeal.nD Cert.BwdInRefIdeal.τ).loc Cert.BwdInRefIdeal.main_arg4) = m' ((c.tc : Thread Cert.BwdInRefIdeal.nD Cert.BwdInRefIdeal.τ).loc Cert.BwdInRefIdeal.main_arg4))

def preserves_BwdFfnA_BwdFfnAIdeal : Prop :=
  True

def algebraic_BwdFfnAIdeal_BwdFfnARefIdeal_pre_bwd_ffn_a_finite [hBwdFfnAIdeal : Cert.BwdFfnAIdeal.Facts] [hBwdFfnARefIdeal : Cert.BwdFfnARefIdeal.Facts] [hPre_bwd_ffn_a_finite : Cert.Pre_bwd_ffn_a_finite.Facts] : Prop :=
  ∀ (m : (ℓ : Loc Cert.BwdFfnAIdeal.nD Cert.BwdFfnAIdeal.τ Cert.BwdFfnAIdeal.sig) → Buf (Elt Ideal) ℓ) (g : Dev Cert.BwdFfnAIdeal.nD → PrngReg)
    (m' : (ℓ : Loc Cert.BwdFfnARefIdeal.nD Cert.BwdFfnARefIdeal.τ Cert.BwdFfnARefIdeal.sig) → Buf (Elt Ideal) ℓ) (g' : Dev Cert.BwdFfnARefIdeal.nD → PrngReg), Pre_BwdFfnAIdeal_bwd_ffn_a_finite m →
    (∀ c : Dev Cert.BwdFfnAIdeal.nD,
      m' ((c.tc : Thread Cert.BwdFfnARefIdeal.nD Cert.BwdFfnARefIdeal.τ).loc Cert.BwdFfnARefIdeal.main_arg0) = m ((c.tc : Thread Cert.BwdFfnAIdeal.nD Cert.BwdFfnAIdeal.τ).loc Cert.BwdFfnAIdeal.main_arg0)
      ∧ m' ((c.tc : Thread Cert.BwdFfnARefIdeal.nD Cert.BwdFfnARefIdeal.τ).loc Cert.BwdFfnARefIdeal.main_arg1) = m ((c.tc : Thread Cert.BwdFfnAIdeal.nD Cert.BwdFfnAIdeal.τ).loc Cert.BwdFfnAIdeal.main_arg1)
      ∧ m' ((c.tc : Thread Cert.BwdFfnARefIdeal.nD Cert.BwdFfnARefIdeal.τ).loc Cert.BwdFfnARefIdeal.main_arg2) = m ((c.tc : Thread Cert.BwdFfnAIdeal.nD Cert.BwdFfnAIdeal.τ).loc Cert.BwdFfnAIdeal.main_arg2)
      ∧ m' ((c.tc : Thread Cert.BwdFfnARefIdeal.nD Cert.BwdFfnARefIdeal.τ).loc Cert.BwdFfnARefIdeal.main_arg3) = m ((c.tc : Thread Cert.BwdFfnAIdeal.nD Cert.BwdFfnAIdeal.τ).loc Cert.BwdFfnAIdeal.main_arg3)
      ∧ m' ((c.tc : Thread Cert.BwdFfnARefIdeal.nD Cert.BwdFfnARefIdeal.τ).loc Cert.BwdFfnARefIdeal.main_arg4) = m ((c.tc : Thread Cert.BwdFfnAIdeal.nD Cert.BwdFfnAIdeal.τ).loc Cert.BwdFfnAIdeal.main_arg4)
      ∧ m' ((c.tc : Thread Cert.BwdFfnARefIdeal.nD Cert.BwdFfnARefIdeal.τ).loc Cert.BwdFfnARefIdeal.main_arg5) = m ((c.tc : Thread Cert.BwdFfnAIdeal.nD Cert.BwdFfnAIdeal.τ).loc Cert.BwdFfnAIdeal.main_arg5)) →
    ∃ (v0 : (c : Dev Cert.BwdFfnAIdeal.nD) → Buf (Elt Ideal) ((c.tc : Thread Cert.BwdFfnAIdeal.nD Cert.BwdFfnAIdeal.τ).loc Cert.BwdFfnAIdeal.main_v28_0)) (v1 : (c : Dev Cert.BwdFfnAIdeal.nD) → Buf (Elt Ideal) ((c.tc : Thread Cert.BwdFfnAIdeal.nD Cert.BwdFfnAIdeal.τ).loc Cert.BwdFfnAIdeal.main_v28_1)) (v2 : (c : Dev Cert.BwdFfnAIdeal.nD) → Buf (Elt Ideal) ((c.tc : Thread Cert.BwdFfnAIdeal.nD Cert.BwdFfnAIdeal.τ).loc Cert.BwdFfnAIdeal.main_v28_2)) (v3 : (c : Dev Cert.BwdFfnAIdeal.nD) → Buf (Elt Ideal) ((c.tc : Thread Cert.BwdFfnAIdeal.nD Cert.BwdFfnAIdeal.τ).loc Cert.BwdFfnAIdeal.main_v28_3)),
      θ_run (Cert.BwdFfnAIdeal.defs (F := Ideal)) (onTc (τ := Cert.BwdFfnAIdeal.τ) (Cert.BwdFfnAIdeal.main (F := Ideal))) ⟨m, fun _ => 0, g⟩ (fun r => ∀ c : Dev Cert.BwdFfnAIdeal.nD,
          r.2.mem ((c.tc : Thread Cert.BwdFfnAIdeal.nD Cert.BwdFfnAIdeal.τ).loc Cert.BwdFfnAIdeal.main_v28_0) = v0 c
          ∧ r.2.mem ((c.tc : Thread Cert.BwdFfnAIdeal.nD Cert.BwdFfnAIdeal.τ).loc Cert.BwdFfnAIdeal.main_v28_1) = v1 c
          ∧ r.2.mem ((c.tc : Thread Cert.BwdFfnAIdeal.nD Cert.BwdFfnAIdeal.τ).loc Cert.BwdFfnAIdeal.main_v28_2) = v2 c
          ∧ r.2.mem ((c.tc : Thread Cert.BwdFfnAIdeal.nD Cert.BwdFfnAIdeal.τ).loc Cert.BwdFfnAIdeal.main_v28_3) = v3 c
          ∧ r.2.mem ((c.tc : Thread Cert.BwdFfnAIdeal.nD Cert.BwdFfnAIdeal.τ).loc Cert.BwdFfnAIdeal.main_arg0) = m ((c.tc : Thread Cert.BwdFfnAIdeal.nD Cert.BwdFfnAIdeal.τ).loc Cert.BwdFfnAIdeal.main_arg0)
          ∧ r.2.mem ((c.tc : Thread Cert.BwdFfnAIdeal.nD Cert.BwdFfnAIdeal.τ).loc Cert.BwdFfnAIdeal.main_arg1) = m ((c.tc : Thread Cert.BwdFfnAIdeal.nD Cert.BwdFfnAIdeal.τ).loc Cert.BwdFfnAIdeal.main_arg1)
          ∧ r.2.mem ((c.tc : Thread Cert.BwdFfnAIdeal.nD Cert.BwdFfnAIdeal.τ).loc Cert.BwdFfnAIdeal.main_arg2) = m ((c.tc : Thread Cert.BwdFfnAIdeal.nD Cert.BwdFfnAIdeal.τ).loc Cert.BwdFfnAIdeal.main_arg2)
          ∧ r.2.mem ((c.tc : Thread Cert.BwdFfnAIdeal.nD Cert.BwdFfnAIdeal.τ).loc Cert.BwdFfnAIdeal.main_arg3) = m ((c.tc : Thread Cert.BwdFfnAIdeal.nD Cert.BwdFfnAIdeal.τ).loc Cert.BwdFfnAIdeal.main_arg3)
          ∧ r.2.mem ((c.tc : Thread Cert.BwdFfnAIdeal.nD Cert.BwdFfnAIdeal.τ).loc Cert.BwdFfnAIdeal.main_arg4) = m ((c.tc : Thread Cert.BwdFfnAIdeal.nD Cert.BwdFfnAIdeal.τ).loc Cert.BwdFfnAIdeal.main_arg4)
          ∧ r.2.mem ((c.tc : Thread Cert.BwdFfnAIdeal.nD Cert.BwdFfnAIdeal.τ).loc Cert.BwdFfnAIdeal.main_arg5) = m ((c.tc : Thread Cert.BwdFfnAIdeal.nD Cert.BwdFfnAIdeal.τ).loc Cert.BwdFfnAIdeal.main_arg5))
      ∧ θ_run (Cert.BwdFfnARefIdeal.defs (F := Ideal)) (onTc (τ := Cert.BwdFfnARefIdeal.τ) (Cert.BwdFfnARefIdeal.main (F := Ideal))) ⟨m', fun _ => 0, g'⟩ (fun r => ∀ c : Dev Cert.BwdFfnARefIdeal.nD,
          r.2.mem ((c.tc : Thread Cert.BwdFfnARefIdeal.nD Cert.BwdFfnARefIdeal.τ).loc Cert.BwdFfnARefIdeal.main_v67) = v0 c
          ∧ r.2.mem ((c.tc : Thread Cert.BwdFfnARefIdeal.nD Cert.BwdFfnARefIdeal.τ).loc Cert.BwdFfnARefIdeal.main_v68) = v1 c
          ∧ r.2.mem ((c.tc : Thread Cert.BwdFfnARefIdeal.nD Cert.BwdFfnARefIdeal.τ).loc Cert.BwdFfnARefIdeal.main_v62) = v2 c
          ∧ r.2.mem ((c.tc : Thread Cert.BwdFfnARefIdeal.nD Cert.BwdFfnARefIdeal.τ).loc Cert.BwdFfnARefIdeal.main_v33) = v3 c
          ∧ r.2.mem ((c.tc : Thread Cert.BwdFfnARefIdeal.nD Cert.BwdFfnARefIdeal.τ).loc Cert.BwdFfnARefIdeal.main_arg0) = m' ((c.tc : Thread Cert.BwdFfnARefIdeal.nD Cert.BwdFfnARefIdeal.τ).loc Cert.BwdFfnARefIdeal.main_arg0)
          ∧ r.2.mem ((c.tc : Thread Cert.BwdFfnARefIdeal.nD Cert.BwdFfnARefIdeal.τ).loc Cert.BwdFfnARefIdeal.main_arg1) = m' ((c.tc : Thread Cert.BwdFfnARefIdeal.nD Cert.BwdFfnARefIdeal.τ).loc Cert.BwdFfnARefIdeal.main_arg1)
          ∧ r.2.mem ((c.tc : Thread Cert.BwdFfnARefIdeal.nD Cert.BwdFfnARefIdeal.τ).loc Cert.BwdFfnARefIdeal.main_arg2) = m' ((c.tc : Thread Cert.BwdFfnARefIdeal.nD Cert.BwdFfnARefIdeal.τ).loc Cert.BwdFfnARefIdeal.main_arg2)
          ∧ r.2.mem ((c.tc : Thread Cert.BwdFfnARefIdeal.nD Cert.BwdFfnARefIdeal.τ).loc Cert.BwdFfnARefIdeal.main_arg3) = m' ((c.tc : Thread Cert.BwdFfnARefIdeal.nD Cert.BwdFfnARefIdeal.τ).loc Cert.BwdFfnARefIdeal.main_arg3)
          ∧ r.2.mem ((c.tc : Thread Cert.BwdFfnARefIdeal.nD Cert.BwdFfnARefIdeal.τ).loc Cert.BwdFfnARefIdeal.main_arg4) = m' ((c.tc : Thread Cert.BwdFfnARefIdeal.nD Cert.BwdFfnARefIdeal.τ).loc Cert.BwdFfnARefIdeal.main_arg4)
          ∧ r.2.mem ((c.tc : Thread Cert.BwdFfnARefIdeal.nD Cert.BwdFfnARefIdeal.τ).loc Cert.BwdFfnARefIdeal.main_arg5) = m' ((c.tc : Thread Cert.BwdFfnARefIdeal.nD Cert.BwdFfnARefIdeal.τ).loc Cert.BwdFfnARefIdeal.main_arg5))

def preserves_BwdFfnB_BwdFfnBIdeal : Prop :=
  True

def algebraic_BwdFfnBIdeal_BwdFfnBRefIdeal_pre_bwd_ffn_b_finite [hBwdFfnBIdeal : Cert.BwdFfnBIdeal.Facts] [hBwdFfnBRefIdeal : Cert.BwdFfnBRefIdeal.Facts] [hPre_bwd_ffn_b_finite : Cert.Pre_bwd_ffn_b_finite.Facts] : Prop :=
  ∀ (m : (ℓ : Loc Cert.BwdFfnBIdeal.nD Cert.BwdFfnBIdeal.τ Cert.BwdFfnBIdeal.sig) → Buf (Elt Ideal) ℓ) (g : Dev Cert.BwdFfnBIdeal.nD → PrngReg)
    (m' : (ℓ : Loc Cert.BwdFfnBRefIdeal.nD Cert.BwdFfnBRefIdeal.τ Cert.BwdFfnBRefIdeal.sig) → Buf (Elt Ideal) ℓ) (g' : Dev Cert.BwdFfnBRefIdeal.nD → PrngReg), Pre_BwdFfnBIdeal_bwd_ffn_b_finite m →
    (∀ c : Dev Cert.BwdFfnBIdeal.nD,
      m' ((c.tc : Thread Cert.BwdFfnBRefIdeal.nD Cert.BwdFfnBRefIdeal.τ).loc Cert.BwdFfnBRefIdeal.main_arg0) = m ((c.tc : Thread Cert.BwdFfnBIdeal.nD Cert.BwdFfnBIdeal.τ).loc Cert.BwdFfnBIdeal.main_arg0)
      ∧ m' ((c.tc : Thread Cert.BwdFfnBRefIdeal.nD Cert.BwdFfnBRefIdeal.τ).loc Cert.BwdFfnBRefIdeal.main_arg1) = m ((c.tc : Thread Cert.BwdFfnBIdeal.nD Cert.BwdFfnBIdeal.τ).loc Cert.BwdFfnBIdeal.main_arg1)
      ∧ m' ((c.tc : Thread Cert.BwdFfnBRefIdeal.nD Cert.BwdFfnBRefIdeal.τ).loc Cert.BwdFfnBRefIdeal.main_arg2) = m ((c.tc : Thread Cert.BwdFfnBIdeal.nD Cert.BwdFfnBIdeal.τ).loc Cert.BwdFfnBIdeal.main_arg2)
      ∧ m' ((c.tc : Thread Cert.BwdFfnBRefIdeal.nD Cert.BwdFfnBRefIdeal.τ).loc Cert.BwdFfnBRefIdeal.main_arg3) = m ((c.tc : Thread Cert.BwdFfnBIdeal.nD Cert.BwdFfnBIdeal.τ).loc Cert.BwdFfnBIdeal.main_arg3)
      ∧ m' ((c.tc : Thread Cert.BwdFfnBRefIdeal.nD Cert.BwdFfnBRefIdeal.τ).loc Cert.BwdFfnBRefIdeal.main_arg4) = m ((c.tc : Thread Cert.BwdFfnBIdeal.nD Cert.BwdFfnBIdeal.τ).loc Cert.BwdFfnBIdeal.main_arg4)
      ∧ m' ((c.tc : Thread Cert.BwdFfnBRefIdeal.nD Cert.BwdFfnBRefIdeal.τ).loc Cert.BwdFfnBRefIdeal.main_arg5) = m ((c.tc : Thread Cert.BwdFfnBIdeal.nD Cert.BwdFfnBIdeal.τ).loc Cert.BwdFfnBIdeal.main_arg5)
      ∧ m' ((c.tc : Thread Cert.BwdFfnBRefIdeal.nD Cert.BwdFfnBRefIdeal.τ).loc Cert.BwdFfnBRefIdeal.main_arg6) = m ((c.tc : Thread Cert.BwdFfnBIdeal.nD Cert.BwdFfnBIdeal.τ).loc Cert.BwdFfnBIdeal.main_arg6)
      ∧ m' ((c.tc : Thread Cert.BwdFfnBRefIdeal.nD Cert.BwdFfnBRefIdeal.τ).loc Cert.BwdFfnBRefIdeal.main_arg7) = m ((c.tc : Thread Cert.BwdFfnBIdeal.nD Cert.BwdFfnBIdeal.τ).loc Cert.BwdFfnBIdeal.main_arg7)
      ∧ m' ((c.tc : Thread Cert.BwdFfnBRefIdeal.nD Cert.BwdFfnBRefIdeal.τ).loc Cert.BwdFfnBRefIdeal.main_arg8) = m ((c.tc : Thread Cert.BwdFfnBIdeal.nD Cert.BwdFfnBIdeal.τ).loc Cert.BwdFfnBIdeal.main_arg8)
      ∧ m' ((c.tc : Thread Cert.BwdFfnBRefIdeal.nD Cert.BwdFfnBRefIdeal.τ).loc Cert.BwdFfnBRefIdeal.main_arg9) = m ((c.tc : Thread Cert.BwdFfnBIdeal.nD Cert.BwdFfnBIdeal.τ).loc Cert.BwdFfnBIdeal.main_arg9)
      ∧ m' ((c.tc : Thread Cert.BwdFfnBRefIdeal.nD Cert.BwdFfnBRefIdeal.τ).loc Cert.BwdFfnBRefIdeal.main_arg10) = m ((c.tc : Thread Cert.BwdFfnBIdeal.nD Cert.BwdFfnBIdeal.τ).loc Cert.BwdFfnBIdeal.main_arg10)) →
    ∃ (v0 : (c : Dev Cert.BwdFfnBIdeal.nD) → Buf (Elt Ideal) ((c.tc : Thread Cert.BwdFfnBIdeal.nD Cert.BwdFfnBIdeal.τ).loc Cert.BwdFfnBIdeal.main_v22_0)) (v1 : (c : Dev Cert.BwdFfnBIdeal.nD) → Buf (Elt Ideal) ((c.tc : Thread Cert.BwdFfnBIdeal.nD Cert.BwdFfnBIdeal.τ).loc Cert.BwdFfnBIdeal.main_v22_1)) (v2 : (c : Dev Cert.BwdFfnBIdeal.nD) → Buf (Elt Ideal) ((c.tc : Thread Cert.BwdFfnBIdeal.nD Cert.BwdFfnBIdeal.τ).loc Cert.BwdFfnBIdeal.main_v22_2)) (v3 : (c : Dev Cert.BwdFfnBIdeal.nD) → Buf (Elt Ideal) ((c.tc : Thread Cert.BwdFfnBIdeal.nD Cert.BwdFfnBIdeal.τ).loc Cert.BwdFfnBIdeal.main_v22_3)) (v4 : (c : Dev Cert.BwdFfnBIdeal.nD) → Buf (Elt Ideal) ((c.tc : Thread Cert.BwdFfnBIdeal.nD Cert.BwdFfnBIdeal.τ).loc Cert.BwdFfnBIdeal.main_v22_4)),
      θ_run (Cert.BwdFfnBIdeal.defs (F := Ideal)) (onTc (τ := Cert.BwdFfnBIdeal.τ) (Cert.BwdFfnBIdeal.main (F := Ideal))) ⟨m, fun _ => 0, g⟩ (fun r => ∀ c : Dev Cert.BwdFfnBIdeal.nD,
          r.2.mem ((c.tc : Thread Cert.BwdFfnBIdeal.nD Cert.BwdFfnBIdeal.τ).loc Cert.BwdFfnBIdeal.main_v22_0) = v0 c
          ∧ r.2.mem ((c.tc : Thread Cert.BwdFfnBIdeal.nD Cert.BwdFfnBIdeal.τ).loc Cert.BwdFfnBIdeal.main_v22_1) = v1 c
          ∧ r.2.mem ((c.tc : Thread Cert.BwdFfnBIdeal.nD Cert.BwdFfnBIdeal.τ).loc Cert.BwdFfnBIdeal.main_v22_2) = v2 c
          ∧ r.2.mem ((c.tc : Thread Cert.BwdFfnBIdeal.nD Cert.BwdFfnBIdeal.τ).loc Cert.BwdFfnBIdeal.main_v22_3) = v3 c
          ∧ r.2.mem ((c.tc : Thread Cert.BwdFfnBIdeal.nD Cert.BwdFfnBIdeal.τ).loc Cert.BwdFfnBIdeal.main_v22_4) = v4 c
          ∧ r.2.mem ((c.tc : Thread Cert.BwdFfnBIdeal.nD Cert.BwdFfnBIdeal.τ).loc Cert.BwdFfnBIdeal.main_arg0) = m ((c.tc : Thread Cert.BwdFfnBIdeal.nD Cert.BwdFfnBIdeal.τ).loc Cert.BwdFfnBIdeal.main_arg0)
          ∧ r.2.mem ((c.tc : Thread Cert.BwdFfnBIdeal.nD Cert.BwdFfnBIdeal.τ).loc Cert.BwdFfnBIdeal.main_arg1) = m ((c.tc : Thread Cert.BwdFfnBIdeal.nD Cert.BwdFfnBIdeal.τ).loc Cert.BwdFfnBIdeal.main_arg1)
          ∧ r.2.mem ((c.tc : Thread Cert.BwdFfnBIdeal.nD Cert.BwdFfnBIdeal.τ).loc Cert.BwdFfnBIdeal.main_arg2) = m ((c.tc : Thread Cert.BwdFfnBIdeal.nD Cert.BwdFfnBIdeal.τ).loc Cert.BwdFfnBIdeal.main_arg2)
          ∧ r.2.mem ((c.tc : Thread Cert.BwdFfnBIdeal.nD Cert.BwdFfnBIdeal.τ).loc Cert.BwdFfnBIdeal.main_arg3) = m ((c.tc : Thread Cert.BwdFfnBIdeal.nD Cert.BwdFfnBIdeal.τ).loc Cert.BwdFfnBIdeal.main_arg3)
          ∧ r.2.mem ((c.tc : Thread Cert.BwdFfnBIdeal.nD Cert.BwdFfnBIdeal.τ).loc Cert.BwdFfnBIdeal.main_arg4) = m ((c.tc : Thread Cert.BwdFfnBIdeal.nD Cert.BwdFfnBIdeal.τ).loc Cert.BwdFfnBIdeal.main_arg4)
          ∧ r.2.mem ((c.tc : Thread Cert.BwdFfnBIdeal.nD Cert.BwdFfnBIdeal.τ).loc Cert.BwdFfnBIdeal.main_arg5) = m ((c.tc : Thread Cert.BwdFfnBIdeal.nD Cert.BwdFfnBIdeal.τ).loc Cert.BwdFfnBIdeal.main_arg5)
          ∧ r.2.mem ((c.tc : Thread Cert.BwdFfnBIdeal.nD Cert.BwdFfnBIdeal.τ).loc Cert.BwdFfnBIdeal.main_arg6) = m ((c.tc : Thread Cert.BwdFfnBIdeal.nD Cert.BwdFfnBIdeal.τ).loc Cert.BwdFfnBIdeal.main_arg6)
          ∧ r.2.mem ((c.tc : Thread Cert.BwdFfnBIdeal.nD Cert.BwdFfnBIdeal.τ).loc Cert.BwdFfnBIdeal.main_arg7) = m ((c.tc : Thread Cert.BwdFfnBIdeal.nD Cert.BwdFfnBIdeal.τ).loc Cert.BwdFfnBIdeal.main_arg7)
          ∧ r.2.mem ((c.tc : Thread Cert.BwdFfnBIdeal.nD Cert.BwdFfnBIdeal.τ).loc Cert.BwdFfnBIdeal.main_arg8) = m ((c.tc : Thread Cert.BwdFfnBIdeal.nD Cert.BwdFfnBIdeal.τ).loc Cert.BwdFfnBIdeal.main_arg8)
          ∧ r.2.mem ((c.tc : Thread Cert.BwdFfnBIdeal.nD Cert.BwdFfnBIdeal.τ).loc Cert.BwdFfnBIdeal.main_arg9) = m ((c.tc : Thread Cert.BwdFfnBIdeal.nD Cert.BwdFfnBIdeal.τ).loc Cert.BwdFfnBIdeal.main_arg9)
          ∧ r.2.mem ((c.tc : Thread Cert.BwdFfnBIdeal.nD Cert.BwdFfnBIdeal.τ).loc Cert.BwdFfnBIdeal.main_arg10) = m ((c.tc : Thread Cert.BwdFfnBIdeal.nD Cert.BwdFfnBIdeal.τ).loc Cert.BwdFfnBIdeal.main_arg10))
      ∧ θ_run (Cert.BwdFfnBRefIdeal.defs (F := Ideal)) (onTc (τ := Cert.BwdFfnBRefIdeal.τ) (Cert.BwdFfnBRefIdeal.main (F := Ideal))) ⟨m', fun _ => 0, g'⟩ (fun r => ∀ c : Dev Cert.BwdFfnBRefIdeal.nD,
          r.2.mem ((c.tc : Thread Cert.BwdFfnBRefIdeal.nD Cert.BwdFfnBRefIdeal.τ).loc Cert.BwdFfnBRefIdeal.main_v57) = v0 c
          ∧ r.2.mem ((c.tc : Thread Cert.BwdFfnBRefIdeal.nD Cert.BwdFfnBRefIdeal.τ).loc Cert.BwdFfnBRefIdeal.main_v60) = v1 c
          ∧ r.2.mem ((c.tc : Thread Cert.BwdFfnBRefIdeal.nD Cert.BwdFfnBRefIdeal.τ).loc Cert.BwdFfnBRefIdeal.main_v80) = v2 c
          ∧ r.2.mem ((c.tc : Thread Cert.BwdFfnBRefIdeal.nD Cert.BwdFfnBRefIdeal.τ).loc Cert.BwdFfnBRefIdeal.main_v40) = v3 c
          ∧ r.2.mem ((c.tc : Thread Cert.BwdFfnBRefIdeal.nD Cert.BwdFfnBRefIdeal.τ).loc Cert.BwdFfnBRefIdeal.main_v64) = v4 c
          ∧ r.2.mem ((c.tc : Thread Cert.BwdFfnBRefIdeal.nD Cert.BwdFfnBRefIdeal.τ).loc Cert.BwdFfnBRefIdeal.main_arg0) = m' ((c.tc : Thread Cert.BwdFfnBRefIdeal.nD Cert.BwdFfnBRefIdeal.τ).loc Cert.BwdFfnBRefIdeal.main_arg0)
          ∧ r.2.mem ((c.tc : Thread Cert.BwdFfnBRefIdeal.nD Cert.BwdFfnBRefIdeal.τ).loc Cert.BwdFfnBRefIdeal.main_arg1) = m' ((c.tc : Thread Cert.BwdFfnBRefIdeal.nD Cert.BwdFfnBRefIdeal.τ).loc Cert.BwdFfnBRefIdeal.main_arg1)
          ∧ r.2.mem ((c.tc : Thread Cert.BwdFfnBRefIdeal.nD Cert.BwdFfnBRefIdeal.τ).loc Cert.BwdFfnBRefIdeal.main_arg2) = m' ((c.tc : Thread Cert.BwdFfnBRefIdeal.nD Cert.BwdFfnBRefIdeal.τ).loc Cert.BwdFfnBRefIdeal.main_arg2)
          ∧ r.2.mem ((c.tc : Thread Cert.BwdFfnBRefIdeal.nD Cert.BwdFfnBRefIdeal.τ).loc Cert.BwdFfnBRefIdeal.main_arg3) = m' ((c.tc : Thread Cert.BwdFfnBRefIdeal.nD Cert.BwdFfnBRefIdeal.τ).loc Cert.BwdFfnBRefIdeal.main_arg3)
          ∧ r.2.mem ((c.tc : Thread Cert.BwdFfnBRefIdeal.nD Cert.BwdFfnBRefIdeal.τ).loc Cert.BwdFfnBRefIdeal.main_arg4) = m' ((c.tc : Thread Cert.BwdFfnBRefIdeal.nD Cert.BwdFfnBRefIdeal.τ).loc Cert.BwdFfnBRefIdeal.main_arg4)
          ∧ r.2.mem ((c.tc : Thread Cert.BwdFfnBRefIdeal.nD Cert.BwdFfnBRefIdeal.τ).loc Cert.BwdFfnBRefIdeal.main_arg5) = m' ((c.tc : Thread Cert.BwdFfnBRefIdeal.nD Cert.BwdFfnBRefIdeal.τ).loc Cert.BwdFfnBRefIdeal.main_arg5)
          ∧ r.2.mem ((c.tc : Thread Cert.BwdFfnBRefIdeal.nD Cert.BwdFfnBRefIdeal.τ).loc Cert.BwdFfnBRefIdeal.main_arg6) = m' ((c.tc : Thread Cert.BwdFfnBRefIdeal.nD Cert.BwdFfnBRefIdeal.τ).loc Cert.BwdFfnBRefIdeal.main_arg6)
          ∧ r.2.mem ((c.tc : Thread Cert.BwdFfnBRefIdeal.nD Cert.BwdFfnBRefIdeal.τ).loc Cert.BwdFfnBRefIdeal.main_arg7) = m' ((c.tc : Thread Cert.BwdFfnBRefIdeal.nD Cert.BwdFfnBRefIdeal.τ).loc Cert.BwdFfnBRefIdeal.main_arg7)
          ∧ r.2.mem ((c.tc : Thread Cert.BwdFfnBRefIdeal.nD Cert.BwdFfnBRefIdeal.τ).loc Cert.BwdFfnBRefIdeal.main_arg8) = m' ((c.tc : Thread Cert.BwdFfnBRefIdeal.nD Cert.BwdFfnBRefIdeal.τ).loc Cert.BwdFfnBRefIdeal.main_arg8)
          ∧ r.2.mem ((c.tc : Thread Cert.BwdFfnBRefIdeal.nD Cert.BwdFfnBRefIdeal.τ).loc Cert.BwdFfnBRefIdeal.main_arg9) = m' ((c.tc : Thread Cert.BwdFfnBRefIdeal.nD Cert.BwdFfnBRefIdeal.τ).loc Cert.BwdFfnBRefIdeal.main_arg9)
          ∧ r.2.mem ((c.tc : Thread Cert.BwdFfnBRefIdeal.nD Cert.BwdFfnBRefIdeal.τ).loc Cert.BwdFfnBRefIdeal.main_arg10) = m' ((c.tc : Thread Cert.BwdFfnBRefIdeal.nD Cert.BwdFfnBRefIdeal.τ).loc Cert.BwdFfnBRefIdeal.main_arg10))

def preserves_FwdTail_FwdTailIdeal : Prop :=
  True

def algebraic_FwdTailIdeal_FwdTailRefIdeal_pre_fwd_tail_finite [hFwdTailIdeal : Cert.FwdTailIdeal.Facts] [hFwdTailRefIdeal : Cert.FwdTailRefIdeal.Facts] [hPre_fwd_tail_finite : Cert.Pre_fwd_tail_finite.Facts] : Prop :=
  ∀ (m : (ℓ : Loc Cert.FwdTailIdeal.nD Cert.FwdTailIdeal.τ Cert.FwdTailIdeal.sig) → Buf (Elt Ideal) ℓ) (g : Dev Cert.FwdTailIdeal.nD → PrngReg)
    (m' : (ℓ : Loc Cert.FwdTailRefIdeal.nD Cert.FwdTailRefIdeal.τ Cert.FwdTailRefIdeal.sig) → Buf (Elt Ideal) ℓ) (g' : Dev Cert.FwdTailRefIdeal.nD → PrngReg), Pre_FwdTailIdeal_fwd_tail_finite m →
    (∀ c : Dev Cert.FwdTailIdeal.nD,
      m' ((c.tc : Thread Cert.FwdTailRefIdeal.nD Cert.FwdTailRefIdeal.τ).loc Cert.FwdTailRefIdeal.main_arg0) = m ((c.tc : Thread Cert.FwdTailIdeal.nD Cert.FwdTailIdeal.τ).loc Cert.FwdTailIdeal.main_arg0)
      ∧ m' ((c.tc : Thread Cert.FwdTailRefIdeal.nD Cert.FwdTailRefIdeal.τ).loc Cert.FwdTailRefIdeal.main_arg1) = m ((c.tc : Thread Cert.FwdTailIdeal.nD Cert.FwdTailIdeal.τ).loc Cert.FwdTailIdeal.main_arg1)
      ∧ m' ((c.tc : Thread Cert.FwdTailRefIdeal.nD Cert.FwdTailRefIdeal.τ).loc Cert.FwdTailRefIdeal.main_arg2) = m ((c.tc : Thread Cert.FwdTailIdeal.nD Cert.FwdTailIdeal.τ).loc Cert.FwdTailIdeal.main_arg2)
      ∧ m' ((c.tc : Thread Cert.FwdTailRefIdeal.nD Cert.FwdTailRefIdeal.τ).loc Cert.FwdTailRefIdeal.main_arg3) = m ((c.tc : Thread Cert.FwdTailIdeal.nD Cert.FwdTailIdeal.τ).loc Cert.FwdTailIdeal.main_arg3)
      ∧ m' ((c.tc : Thread Cert.FwdTailRefIdeal.nD Cert.FwdTailRefIdeal.τ).loc Cert.FwdTailRefIdeal.main_arg4) = m ((c.tc : Thread Cert.FwdTailIdeal.nD Cert.FwdTailIdeal.τ).loc Cert.FwdTailIdeal.main_arg4)
      ∧ m' ((c.tc : Thread Cert.FwdTailRefIdeal.nD Cert.FwdTailRefIdeal.τ).loc Cert.FwdTailRefIdeal.main_arg5) = m ((c.tc : Thread Cert.FwdTailIdeal.nD Cert.FwdTailIdeal.τ).loc Cert.FwdTailIdeal.main_arg5)
      ∧ m' ((c.tc : Thread Cert.FwdTailRefIdeal.nD Cert.FwdTailRefIdeal.τ).loc Cert.FwdTailRefIdeal.main_arg6) = m ((c.tc : Thread Cert.FwdTailIdeal.nD Cert.FwdTailIdeal.τ).loc Cert.FwdTailIdeal.main_arg6)
      ∧ m' ((c.tc : Thread Cert.FwdTailRefIdeal.nD Cert.FwdTailRefIdeal.τ).loc Cert.FwdTailRefIdeal.main_arg7) = m ((c.tc : Thread Cert.FwdTailIdeal.nD Cert.FwdTailIdeal.τ).loc Cert.FwdTailIdeal.main_arg7)) →
    ∃ (v0 : (c : Dev Cert.FwdTailIdeal.nD) → Buf (Elt Ideal) ((c.tc : Thread Cert.FwdTailIdeal.nD Cert.FwdTailIdeal.τ).loc Cert.FwdTailIdeal.main_v6_0)) (v1 : (c : Dev Cert.FwdTailIdeal.nD) → Buf (Elt Ideal) ((c.tc : Thread Cert.FwdTailIdeal.nD Cert.FwdTailIdeal.τ).loc Cert.FwdTailIdeal.main_v6_1)) (v2 : (c : Dev Cert.FwdTailIdeal.nD) → Buf (Elt Ideal) ((c.tc : Thread Cert.FwdTailIdeal.nD Cert.FwdTailIdeal.τ).loc Cert.FwdTailIdeal.main_v6_2)) (v3 : (c : Dev Cert.FwdTailIdeal.nD) → Buf (Elt Ideal) ((c.tc : Thread Cert.FwdTailIdeal.nD Cert.FwdTailIdeal.τ).loc Cert.FwdTailIdeal.main_v6_3)) (v4 : (c : Dev Cert.FwdTailIdeal.nD) → Buf (Elt Ideal) ((c.tc : Thread Cert.FwdTailIdeal.nD Cert.FwdTailIdeal.τ).loc Cert.FwdTailIdeal.main_v6_4)) (v5 : (c : Dev Cert.FwdTailIdeal.nD) → Buf (Elt Ideal) ((c.tc : Thread Cert.FwdTailIdeal.nD Cert.FwdTailIdeal.τ).loc Cert.FwdTailIdeal.main_v6_5)),
      θ_run (Cert.FwdTailIdeal.defs (F := Ideal)) (onTc (τ := Cert.FwdTailIdeal.τ) (Cert.FwdTailIdeal.main (F := Ideal))) ⟨m, fun _ => 0, g⟩ (fun r => ∀ c : Dev Cert.FwdTailIdeal.nD,
          r.2.mem ((c.tc : Thread Cert.FwdTailIdeal.nD Cert.FwdTailIdeal.τ).loc Cert.FwdTailIdeal.main_v6_0) = v0 c
          ∧ r.2.mem ((c.tc : Thread Cert.FwdTailIdeal.nD Cert.FwdTailIdeal.τ).loc Cert.FwdTailIdeal.main_v6_1) = v1 c
          ∧ r.2.mem ((c.tc : Thread Cert.FwdTailIdeal.nD Cert.FwdTailIdeal.τ).loc Cert.FwdTailIdeal.main_v6_2) = v2 c
          ∧ r.2.mem ((c.tc : Thread Cert.FwdTailIdeal.nD Cert.FwdTailIdeal.τ).loc Cert.FwdTailIdeal.main_v6_3) = v3 c
          ∧ r.2.mem ((c.tc : Thread Cert.FwdTailIdeal.nD Cert.FwdTailIdeal.τ).loc Cert.FwdTailIdeal.main_v6_4) = v4 c
          ∧ r.2.mem ((c.tc : Thread Cert.FwdTailIdeal.nD Cert.FwdTailIdeal.τ).loc Cert.FwdTailIdeal.main_v6_5) = v5 c
          ∧ r.2.mem ((c.tc : Thread Cert.FwdTailIdeal.nD Cert.FwdTailIdeal.τ).loc Cert.FwdTailIdeal.main_arg0) = m ((c.tc : Thread Cert.FwdTailIdeal.nD Cert.FwdTailIdeal.τ).loc Cert.FwdTailIdeal.main_arg0)
          ∧ r.2.mem ((c.tc : Thread Cert.FwdTailIdeal.nD Cert.FwdTailIdeal.τ).loc Cert.FwdTailIdeal.main_arg1) = m ((c.tc : Thread Cert.FwdTailIdeal.nD Cert.FwdTailIdeal.τ).loc Cert.FwdTailIdeal.main_arg1)
          ∧ r.2.mem ((c.tc : Thread Cert.FwdTailIdeal.nD Cert.FwdTailIdeal.τ).loc Cert.FwdTailIdeal.main_arg2) = m ((c.tc : Thread Cert.FwdTailIdeal.nD Cert.FwdTailIdeal.τ).loc Cert.FwdTailIdeal.main_arg2)
          ∧ r.2.mem ((c.tc : Thread Cert.FwdTailIdeal.nD Cert.FwdTailIdeal.τ).loc Cert.FwdTailIdeal.main_arg3) = m ((c.tc : Thread Cert.FwdTailIdeal.nD Cert.FwdTailIdeal.τ).loc Cert.FwdTailIdeal.main_arg3)
          ∧ r.2.mem ((c.tc : Thread Cert.FwdTailIdeal.nD Cert.FwdTailIdeal.τ).loc Cert.FwdTailIdeal.main_arg4) = m ((c.tc : Thread Cert.FwdTailIdeal.nD Cert.FwdTailIdeal.τ).loc Cert.FwdTailIdeal.main_arg4)
          ∧ r.2.mem ((c.tc : Thread Cert.FwdTailIdeal.nD Cert.FwdTailIdeal.τ).loc Cert.FwdTailIdeal.main_arg5) = m ((c.tc : Thread Cert.FwdTailIdeal.nD Cert.FwdTailIdeal.τ).loc Cert.FwdTailIdeal.main_arg5)
          ∧ r.2.mem ((c.tc : Thread Cert.FwdTailIdeal.nD Cert.FwdTailIdeal.τ).loc Cert.FwdTailIdeal.main_arg6) = m ((c.tc : Thread Cert.FwdTailIdeal.nD Cert.FwdTailIdeal.τ).loc Cert.FwdTailIdeal.main_arg6)
          ∧ r.2.mem ((c.tc : Thread Cert.FwdTailIdeal.nD Cert.FwdTailIdeal.τ).loc Cert.FwdTailIdeal.main_arg7) = m ((c.tc : Thread Cert.FwdTailIdeal.nD Cert.FwdTailIdeal.τ).loc Cert.FwdTailIdeal.main_arg7))
      ∧ θ_run (Cert.FwdTailRefIdeal.defs (F := Ideal)) (onTc (τ := Cert.FwdTailRefIdeal.τ) (Cert.FwdTailRefIdeal.main (F := Ideal))) ⟨m', fun _ => 0, g'⟩ (fun r => ∀ c : Dev Cert.FwdTailRefIdeal.nD,
          r.2.mem ((c.tc : Thread Cert.FwdTailRefIdeal.nD Cert.FwdTailRefIdeal.τ).loc Cert.FwdTailRefIdeal.main_v71) = v0 c
          ∧ r.2.mem ((c.tc : Thread Cert.FwdTailRefIdeal.nD Cert.FwdTailRefIdeal.τ).loc Cert.FwdTailRefIdeal.main_v72) = v1 c
          ∧ r.2.mem ((c.tc : Thread Cert.FwdTailRefIdeal.nD Cert.FwdTailRefIdeal.τ).loc Cert.FwdTailRefIdeal.main_v73) = v2 c
          ∧ r.2.mem ((c.tc : Thread Cert.FwdTailRefIdeal.nD Cert.FwdTailRefIdeal.τ).loc Cert.FwdTailRefIdeal.main_v74) = v3 c
          ∧ r.2.mem ((c.tc : Thread Cert.FwdTailRefIdeal.nD Cert.FwdTailRefIdeal.τ).loc Cert.FwdTailRefIdeal.main_v54) = v4 c
          ∧ r.2.mem ((c.tc : Thread Cert.FwdTailRefIdeal.nD Cert.FwdTailRefIdeal.τ).loc Cert.FwdTailRefIdeal.main_v75) = v5 c
          ∧ r.2.mem ((c.tc : Thread Cert.FwdTailRefIdeal.nD Cert.FwdTailRefIdeal.τ).loc Cert.FwdTailRefIdeal.main_arg0) = m' ((c.tc : Thread Cert.FwdTailRefIdeal.nD Cert.FwdTailRefIdeal.τ).loc Cert.FwdTailRefIdeal.main_arg0)
          ∧ r.2.mem ((c.tc : Thread Cert.FwdTailRefIdeal.nD Cert.FwdTailRefIdeal.τ).loc Cert.FwdTailRefIdeal.main_arg1) = m' ((c.tc : Thread Cert.FwdTailRefIdeal.nD Cert.FwdTailRefIdeal.τ).loc Cert.FwdTailRefIdeal.main_arg1)
          ∧ r.2.mem ((c.tc : Thread Cert.FwdTailRefIdeal.nD Cert.FwdTailRefIdeal.τ).loc Cert.FwdTailRefIdeal.main_arg2) = m' ((c.tc : Thread Cert.FwdTailRefIdeal.nD Cert.FwdTailRefIdeal.τ).loc Cert.FwdTailRefIdeal.main_arg2)
          ∧ r.2.mem ((c.tc : Thread Cert.FwdTailRefIdeal.nD Cert.FwdTailRefIdeal.τ).loc Cert.FwdTailRefIdeal.main_arg3) = m' ((c.tc : Thread Cert.FwdTailRefIdeal.nD Cert.FwdTailRefIdeal.τ).loc Cert.FwdTailRefIdeal.main_arg3)
          ∧ r.2.mem ((c.tc : Thread Cert.FwdTailRefIdeal.nD Cert.FwdTailRefIdeal.τ).loc Cert.FwdTailRefIdeal.main_arg4) = m' ((c.tc : Thread Cert.FwdTailRefIdeal.nD Cert.FwdTailRefIdeal.τ).loc Cert.FwdTailRefIdeal.main_arg4)
          ∧ r.2.mem ((c.tc : Thread Cert.FwdTailRefIdeal.nD Cert.FwdTailRefIdeal.τ).loc Cert.FwdTailRefIdeal.main_arg5) = m' ((c.tc : Thread Cert.FwdTailRefIdeal.nD Cert.FwdTailRefIdeal.τ).loc Cert.FwdTailRefIdeal.main_arg5)
          ∧ r.2.mem ((c.tc : Thread Cert.FwdTailRefIdeal.nD Cert.FwdTailRefIdeal.τ).loc Cert.FwdTailRefIdeal.main_arg6) = m' ((c.tc : Thread Cert.FwdTailRefIdeal.nD Cert.FwdTailRefIdeal.τ).loc Cert.FwdTailRefIdeal.main_arg6)
          ∧ r.2.mem ((c.tc : Thread Cert.FwdTailRefIdeal.nD Cert.FwdTailRefIdeal.τ).loc Cert.FwdTailRefIdeal.main_arg7) = m' ((c.tc : Thread Cert.FwdTailRefIdeal.nD Cert.FwdTailRefIdeal.τ).loc Cert.FwdTailRefIdeal.main_arg7))

def preserves_FwdMix_FwdMixIdeal : Prop :=
  True

def algebraic_FwdMixIdeal_FwdMixRefIdeal_pre_fwd_mix_finite [hFwdMixIdeal : Cert.FwdMixIdeal.Facts] [hFwdMixRefIdeal : Cert.FwdMixRefIdeal.Facts] [hPre_fwd_mix_finite : Cert.Pre_fwd_mix_finite.Facts] : Prop :=
  ∀ (m : (ℓ : Loc Cert.FwdMixIdeal.nD Cert.FwdMixIdeal.τ Cert.FwdMixIdeal.sig) → Buf (Elt Ideal) ℓ) (g : Dev Cert.FwdMixIdeal.nD → PrngReg)
    (m' : (ℓ : Loc Cert.FwdMixRefIdeal.nD Cert.FwdMixRefIdeal.τ Cert.FwdMixRefIdeal.sig) → Buf (Elt Ideal) ℓ) (g' : Dev Cert.FwdMixRefIdeal.nD → PrngReg), Pre_FwdMixIdeal_fwd_mix_finite m →
    (∀ c : Dev Cert.FwdMixIdeal.nD,
      m' ((c.tc : Thread Cert.FwdMixRefIdeal.nD Cert.FwdMixRefIdeal.τ).loc Cert.FwdMixRefIdeal.main_arg0) = m ((c.tc : Thread Cert.FwdMixIdeal.nD Cert.FwdMixIdeal.τ).loc Cert.FwdMixIdeal.main_arg0)
      ∧ m' ((c.tc : Thread Cert.FwdMixRefIdeal.nD Cert.FwdMixRefIdeal.τ).loc Cert.FwdMixRefIdeal.main_arg1) = m ((c.tc : Thread Cert.FwdMixIdeal.nD Cert.FwdMixIdeal.τ).loc Cert.FwdMixIdeal.main_arg1)
      ∧ m' ((c.tc : Thread Cert.FwdMixRefIdeal.nD Cert.FwdMixRefIdeal.τ).loc Cert.FwdMixRefIdeal.main_arg2) = m ((c.tc : Thread Cert.FwdMixIdeal.nD Cert.FwdMixIdeal.τ).loc Cert.FwdMixIdeal.main_arg2)
      ∧ m' ((c.tc : Thread Cert.FwdMixRefIdeal.nD Cert.FwdMixRefIdeal.τ).loc Cert.FwdMixRefIdeal.main_arg3) = m ((c.tc : Thread Cert.FwdMixIdeal.nD Cert.FwdMixIdeal.τ).loc Cert.FwdMixIdeal.main_arg3)
      ∧ m' ((c.tc : Thread Cert.FwdMixRefIdeal.nD Cert.FwdMixRefIdeal.τ).loc Cert.FwdMixRefIdeal.main_arg4) = m ((c.tc : Thread Cert.FwdMixIdeal.nD Cert.FwdMixIdeal.τ).loc Cert.FwdMixIdeal.main_arg4)
      ∧ m' ((c.tc : Thread Cert.FwdMixRefIdeal.nD Cert.FwdMixRefIdeal.τ).loc Cert.FwdMixRefIdeal.main_arg5) = m ((c.tc : Thread Cert.FwdMixIdeal.nD Cert.FwdMixIdeal.τ).loc Cert.FwdMixIdeal.main_arg5)
      ∧ m' ((c.tc : Thread Cert.FwdMixRefIdeal.nD Cert.FwdMixRefIdeal.τ).loc Cert.FwdMixRefIdeal.main_arg6) = m ((c.tc : Thread Cert.FwdMixIdeal.nD Cert.FwdMixIdeal.τ).loc Cert.FwdMixIdeal.main_arg6)
      ∧ m' ((c.tc : Thread Cert.FwdMixRefIdeal.nD Cert.FwdMixRefIdeal.τ).loc Cert.FwdMixRefIdeal.main_arg7) = m ((c.tc : Thread Cert.FwdMixIdeal.nD Cert.FwdMixIdeal.τ).loc Cert.FwdMixIdeal.main_arg7)) →
    ∃ (v0 : (c : Dev Cert.FwdMixIdeal.nD) → Buf (Elt Ideal) ((c.tc : Thread Cert.FwdMixIdeal.nD Cert.FwdMixIdeal.τ).loc Cert.FwdMixIdeal.main_v18_0)) (v1 : (c : Dev Cert.FwdMixIdeal.nD) → Buf (Elt Ideal) ((c.tc : Thread Cert.FwdMixIdeal.nD Cert.FwdMixIdeal.τ).loc Cert.FwdMixIdeal.main_v18_1)) (v2 : (c : Dev Cert.FwdMixIdeal.nD) → Buf (Elt Ideal) ((c.tc : Thread Cert.FwdMixIdeal.nD Cert.FwdMixIdeal.τ).loc Cert.FwdMixIdeal.main_v18_2)) (v3 : (c : Dev Cert.FwdMixIdeal.nD) → Buf (Elt Ideal) ((c.tc : Thread Cert.FwdMixIdeal.nD Cert.FwdMixIdeal.τ).loc Cert.FwdMixIdeal.main_v18_3)),
      θ_run (Cert.FwdMixIdeal.defs (F := Ideal)) (onTc (τ := Cert.FwdMixIdeal.τ) (Cert.FwdMixIdeal.main (F := Ideal))) ⟨m, fun _ => 0, g⟩ (fun r => ∀ c : Dev Cert.FwdMixIdeal.nD,
          r.2.mem ((c.tc : Thread Cert.FwdMixIdeal.nD Cert.FwdMixIdeal.τ).loc Cert.FwdMixIdeal.main_v18_0) = v0 c
          ∧ r.2.mem ((c.tc : Thread Cert.FwdMixIdeal.nD Cert.FwdMixIdeal.τ).loc Cert.FwdMixIdeal.main_v18_1) = v1 c
          ∧ r.2.mem ((c.tc : Thread Cert.FwdMixIdeal.nD Cert.FwdMixIdeal.τ).loc Cert.FwdMixIdeal.main_v18_2) = v2 c
          ∧ r.2.mem ((c.tc : Thread Cert.FwdMixIdeal.nD Cert.FwdMixIdeal.τ).loc Cert.FwdMixIdeal.main_v18_3) = v3 c
          ∧ r.2.mem ((c.tc : Thread Cert.FwdMixIdeal.nD Cert.FwdMixIdeal.τ).loc Cert.FwdMixIdeal.main_arg0) = m ((c.tc : Thread Cert.FwdMixIdeal.nD Cert.FwdMixIdeal.τ).loc Cert.FwdMixIdeal.main_arg0)
          ∧ r.2.mem ((c.tc : Thread Cert.FwdMixIdeal.nD Cert.FwdMixIdeal.τ).loc Cert.FwdMixIdeal.main_arg1) = m ((c.tc : Thread Cert.FwdMixIdeal.nD Cert.FwdMixIdeal.τ).loc Cert.FwdMixIdeal.main_arg1)
          ∧ r.2.mem ((c.tc : Thread Cert.FwdMixIdeal.nD Cert.FwdMixIdeal.τ).loc Cert.FwdMixIdeal.main_arg2) = m ((c.tc : Thread Cert.FwdMixIdeal.nD Cert.FwdMixIdeal.τ).loc Cert.FwdMixIdeal.main_arg2)
          ∧ r.2.mem ((c.tc : Thread Cert.FwdMixIdeal.nD Cert.FwdMixIdeal.τ).loc Cert.FwdMixIdeal.main_arg3) = m ((c.tc : Thread Cert.FwdMixIdeal.nD Cert.FwdMixIdeal.τ).loc Cert.FwdMixIdeal.main_arg3)
          ∧ r.2.mem ((c.tc : Thread Cert.FwdMixIdeal.nD Cert.FwdMixIdeal.τ).loc Cert.FwdMixIdeal.main_arg4) = m ((c.tc : Thread Cert.FwdMixIdeal.nD Cert.FwdMixIdeal.τ).loc Cert.FwdMixIdeal.main_arg4)
          ∧ r.2.mem ((c.tc : Thread Cert.FwdMixIdeal.nD Cert.FwdMixIdeal.τ).loc Cert.FwdMixIdeal.main_arg5) = m ((c.tc : Thread Cert.FwdMixIdeal.nD Cert.FwdMixIdeal.τ).loc Cert.FwdMixIdeal.main_arg5)
          ∧ r.2.mem ((c.tc : Thread Cert.FwdMixIdeal.nD Cert.FwdMixIdeal.τ).loc Cert.FwdMixIdeal.main_arg6) = m ((c.tc : Thread Cert.FwdMixIdeal.nD Cert.FwdMixIdeal.τ).loc Cert.FwdMixIdeal.main_arg6)
          ∧ r.2.mem ((c.tc : Thread Cert.FwdMixIdeal.nD Cert.FwdMixIdeal.τ).loc Cert.FwdMixIdeal.main_arg7) = m ((c.tc : Thread Cert.FwdMixIdeal.nD Cert.FwdMixIdeal.τ).loc Cert.FwdMixIdeal.main_arg7))
      ∧ θ_run (Cert.FwdMixRefIdeal.defs (F := Ideal)) (onTc (τ := Cert.FwdMixRefIdeal.τ) (Cert.FwdMixRefIdeal.main (F := Ideal))) ⟨m', fun _ => 0, g'⟩ (fun r => ∀ c : Dev Cert.FwdMixRefIdeal.nD,
          r.2.mem ((c.tc : Thread Cert.FwdMixRefIdeal.nD Cert.FwdMixRefIdeal.τ).loc Cert.FwdMixRefIdeal.main_v77) = v0 c
          ∧ r.2.mem ((c.tc : Thread Cert.FwdMixRefIdeal.nD Cert.FwdMixRefIdeal.τ).loc Cert.FwdMixRefIdeal.main_v78) = v1 c
          ∧ r.2.mem ((c.tc : Thread Cert.FwdMixRefIdeal.nD Cert.FwdMixRefIdeal.τ).loc Cert.FwdMixRefIdeal.main_v91) = v2 c
          ∧ r.2.mem ((c.tc : Thread Cert.FwdMixRefIdeal.nD Cert.FwdMixRefIdeal.τ).loc Cert.FwdMixRefIdeal.main_v92) = v3 c
          ∧ r.2.mem ((c.tc : Thread Cert.FwdMixRefIdeal.nD Cert.FwdMixRefIdeal.τ).loc Cert.FwdMixRefIdeal.main_arg0) = m' ((c.tc : Thread Cert.FwdMixRefIdeal.nD Cert.FwdMixRefIdeal.τ).loc Cert.FwdMixRefIdeal.main_arg0)
          ∧ r.2.mem ((c.tc : Thread Cert.FwdMixRefIdeal.nD Cert.FwdMixRefIdeal.τ).loc Cert.FwdMixRefIdeal.main_arg1) = m' ((c.tc : Thread Cert.FwdMixRefIdeal.nD Cert.FwdMixRefIdeal.τ).loc Cert.FwdMixRefIdeal.main_arg1)
          ∧ r.2.mem ((c.tc : Thread Cert.FwdMixRefIdeal.nD Cert.FwdMixRefIdeal.τ).loc Cert.FwdMixRefIdeal.main_arg2) = m' ((c.tc : Thread Cert.FwdMixRefIdeal.nD Cert.FwdMixRefIdeal.τ).loc Cert.FwdMixRefIdeal.main_arg2)
          ∧ r.2.mem ((c.tc : Thread Cert.FwdMixRefIdeal.nD Cert.FwdMixRefIdeal.τ).loc Cert.FwdMixRefIdeal.main_arg3) = m' ((c.tc : Thread Cert.FwdMixRefIdeal.nD Cert.FwdMixRefIdeal.τ).loc Cert.FwdMixRefIdeal.main_arg3)
          ∧ r.2.mem ((c.tc : Thread Cert.FwdMixRefIdeal.nD Cert.FwdMixRefIdeal.τ).loc Cert.FwdMixRefIdeal.main_arg4) = m' ((c.tc : Thread Cert.FwdMixRefIdeal.nD Cert.FwdMixRefIdeal.τ).loc Cert.FwdMixRefIdeal.main_arg4)
          ∧ r.2.mem ((c.tc : Thread Cert.FwdMixRefIdeal.nD Cert.FwdMixRefIdeal.τ).loc Cert.FwdMixRefIdeal.main_arg5) = m' ((c.tc : Thread Cert.FwdMixRefIdeal.nD Cert.FwdMixRefIdeal.τ).loc Cert.FwdMixRefIdeal.main_arg5)
          ∧ r.2.mem ((c.tc : Thread Cert.FwdMixRefIdeal.nD Cert.FwdMixRefIdeal.τ).loc Cert.FwdMixRefIdeal.main_arg6) = m' ((c.tc : Thread Cert.FwdMixRefIdeal.nD Cert.FwdMixRefIdeal.τ).loc Cert.FwdMixRefIdeal.main_arg6)
          ∧ r.2.mem ((c.tc : Thread Cert.FwdMixRefIdeal.nD Cert.FwdMixRefIdeal.τ).loc Cert.FwdMixRefIdeal.main_arg7) = m' ((c.tc : Thread Cert.FwdMixRefIdeal.nD Cert.FwdMixRefIdeal.τ).loc Cert.FwdMixRefIdeal.main_arg7))

def preserves_FwdFfn_FwdFfnIdeal : Prop :=
  True

def algebraic_FwdFfnIdeal_FwdFfnRefIdeal_pre_fwd_ffn_finite [hFwdFfnIdeal : Cert.FwdFfnIdeal.Facts] [hFwdFfnRefIdeal : Cert.FwdFfnRefIdeal.Facts] [hPre_fwd_ffn_finite : Cert.Pre_fwd_ffn_finite.Facts] : Prop :=
  ∀ (m : (ℓ : Loc Cert.FwdFfnIdeal.nD Cert.FwdFfnIdeal.τ Cert.FwdFfnIdeal.sig) → Buf (Elt Ideal) ℓ) (g : Dev Cert.FwdFfnIdeal.nD → PrngReg)
    (m' : (ℓ : Loc Cert.FwdFfnRefIdeal.nD Cert.FwdFfnRefIdeal.τ Cert.FwdFfnRefIdeal.sig) → Buf (Elt Ideal) ℓ) (g' : Dev Cert.FwdFfnRefIdeal.nD → PrngReg), Pre_FwdFfnIdeal_fwd_ffn_finite m →
    (∀ c : Dev Cert.FwdFfnIdeal.nD,
      m' ((c.tc : Thread Cert.FwdFfnRefIdeal.nD Cert.FwdFfnRefIdeal.τ).loc Cert.FwdFfnRefIdeal.main_arg0) = m ((c.tc : Thread Cert.FwdFfnIdeal.nD Cert.FwdFfnIdeal.τ).loc Cert.FwdFfnIdeal.main_arg0)
      ∧ m' ((c.tc : Thread Cert.FwdFfnRefIdeal.nD Cert.FwdFfnRefIdeal.τ).loc Cert.FwdFfnRefIdeal.main_arg1) = m ((c.tc : Thread Cert.FwdFfnIdeal.nD Cert.FwdFfnIdeal.τ).loc Cert.FwdFfnIdeal.main_arg1)
      ∧ m' ((c.tc : Thread Cert.FwdFfnRefIdeal.nD Cert.FwdFfnRefIdeal.τ).loc Cert.FwdFfnRefIdeal.main_arg2) = m ((c.tc : Thread Cert.FwdFfnIdeal.nD Cert.FwdFfnIdeal.τ).loc Cert.FwdFfnIdeal.main_arg2)
      ∧ m' ((c.tc : Thread Cert.FwdFfnRefIdeal.nD Cert.FwdFfnRefIdeal.τ).loc Cert.FwdFfnRefIdeal.main_arg3) = m ((c.tc : Thread Cert.FwdFfnIdeal.nD Cert.FwdFfnIdeal.τ).loc Cert.FwdFfnIdeal.main_arg3)
      ∧ m' ((c.tc : Thread Cert.FwdFfnRefIdeal.nD Cert.FwdFfnRefIdeal.τ).loc Cert.FwdFfnRefIdeal.main_arg4) = m ((c.tc : Thread Cert.FwdFfnIdeal.nD Cert.FwdFfnIdeal.τ).loc Cert.FwdFfnIdeal.main_arg4)
      ∧ m' ((c.tc : Thread Cert.FwdFfnRefIdeal.nD Cert.FwdFfnRefIdeal.τ).loc Cert.FwdFfnRefIdeal.main_arg5) = m ((c.tc : Thread Cert.FwdFfnIdeal.nD Cert.FwdFfnIdeal.τ).loc Cert.FwdFfnIdeal.main_arg5)
      ∧ m' ((c.tc : Thread Cert.FwdFfnRefIdeal.nD Cert.FwdFfnRefIdeal.τ).loc Cert.FwdFfnRefIdeal.main_arg6) = m ((c.tc : Thread Cert.FwdFfnIdeal.nD Cert.FwdFfnIdeal.τ).loc Cert.FwdFfnIdeal.main_arg6)
      ∧ m' ((c.tc : Thread Cert.FwdFfnRefIdeal.nD Cert.FwdFfnRefIdeal.τ).loc Cert.FwdFfnRefIdeal.main_arg7) = m ((c.tc : Thread Cert.FwdFfnIdeal.nD Cert.FwdFfnIdeal.τ).loc Cert.FwdFfnIdeal.main_arg7)
      ∧ m' ((c.tc : Thread Cert.FwdFfnRefIdeal.nD Cert.FwdFfnRefIdeal.τ).loc Cert.FwdFfnRefIdeal.main_arg8) = m ((c.tc : Thread Cert.FwdFfnIdeal.nD Cert.FwdFfnIdeal.τ).loc Cert.FwdFfnIdeal.main_arg8)
      ∧ m' ((c.tc : Thread Cert.FwdFfnRefIdeal.nD Cert.FwdFfnRefIdeal.τ).loc Cert.FwdFfnRefIdeal.main_arg9) = m ((c.tc : Thread Cert.FwdFfnIdeal.nD Cert.FwdFfnIdeal.τ).loc Cert.FwdFfnIdeal.main_arg9)) →
    ∃ (v0 : (c : Dev Cert.FwdFfnIdeal.nD) → Buf (Elt Ideal) ((c.tc : Thread Cert.FwdFfnIdeal.nD Cert.FwdFfnIdeal.τ).loc Cert.FwdFfnIdeal.main_v6_0)) (v1 : (c : Dev Cert.FwdFfnIdeal.nD) → Buf (Elt Ideal) ((c.tc : Thread Cert.FwdFfnIdeal.nD Cert.FwdFfnIdeal.τ).loc Cert.FwdFfnIdeal.main_v6_1)) (v2 : (c : Dev Cert.FwdFfnIdeal.nD) → Buf (Elt Ideal) ((c.tc : Thread Cert.FwdFfnIdeal.nD Cert.FwdFfnIdeal.τ).loc Cert.FwdFfnIdeal.main_v6_2)) (v3 : (c : Dev Cert.FwdFfnIdeal.nD) → Buf (Elt Ideal) ((c.tc : Thread Cert.FwdFfnIdeal.nD Cert.FwdFfnIdeal.τ).loc Cert.FwdFfnIdeal.main_v6_3)) (v4 : (c : Dev Cert.FwdFfnIdeal.nD) → Buf (Elt Ideal) ((c.tc : Thread Cert.FwdFfnIdeal.nD Cert.FwdFfnIdeal.τ).loc Cert.FwdFfnIdeal.main_v6_4)) (v5 : (c : Dev Cert.FwdFfnIdeal.nD) → Buf (Elt Ideal) ((c.tc : Thread Cert.FwdFfnIdeal.nD Cert.FwdFfnIdeal.τ).loc Cert.FwdFfnIdeal.main_v6_5)) (v6 : (c : Dev Cert.FwdFfnIdeal.nD) → Buf (Elt Ideal) ((c.tc : Thread Cert.FwdFfnIdeal.nD Cert.FwdFfnIdeal.τ).loc Cert.FwdFfnIdeal.main_v6_6)),
      θ_run (Cert.FwdFfnIdeal.defs (F := Ideal)) (onTc (τ := Cert.FwdFfnIdeal.τ) (Cert.FwdFfnIdeal.main (F := Ideal))) ⟨m, fun _ => 0, g⟩ (fun r => ∀ c : Dev Cert.FwdFfnIdeal.nD,
          r.2.mem ((c.tc : Thread Cert.FwdFfnIdeal.nD Cert.FwdFfnIdeal.τ).loc Cert.FwdFfnIdeal.main_v6_0) = v0 c
          ∧ r.2.mem ((c.tc : Thread Cert.FwdFfnIdeal.nD Cert.FwdFfnIdeal.τ).loc Cert.FwdFfnIdeal.main_v6_1) = v1 c
          ∧ r.2.mem ((c.tc : Thread Cert.FwdFfnIdeal.nD Cert.FwdFfnIdeal.τ).loc Cert.FwdFfnIdeal.main_v6_2) = v2 c
          ∧ r.2.mem ((c.tc : Thread Cert.FwdFfnIdeal.nD Cert.FwdFfnIdeal.τ).loc Cert.FwdFfnIdeal.main_v6_3) = v3 c
          ∧ r.2.mem ((c.tc : Thread Cert.FwdFfnIdeal.nD Cert.FwdFfnIdeal.τ).loc Cert.FwdFfnIdeal.main_v6_4) = v4 c
          ∧ r.2.mem ((c.tc : Thread Cert.FwdFfnIdeal.nD Cert.FwdFfnIdeal.τ).loc Cert.FwdFfnIdeal.main_v6_5) = v5 c
          ∧ r.2.mem ((c.tc : Thread Cert.FwdFfnIdeal.nD Cert.FwdFfnIdeal.τ).loc Cert.FwdFfnIdeal.main_v6_6) = v6 c
          ∧ r.2.mem ((c.tc : Thread Cert.FwdFfnIdeal.nD Cert.FwdFfnIdeal.τ).loc Cert.FwdFfnIdeal.main_arg0) = m ((c.tc : Thread Cert.FwdFfnIdeal.nD Cert.FwdFfnIdeal.τ).loc Cert.FwdFfnIdeal.main_arg0)
          ∧ r.2.mem ((c.tc : Thread Cert.FwdFfnIdeal.nD Cert.FwdFfnIdeal.τ).loc Cert.FwdFfnIdeal.main_arg1) = m ((c.tc : Thread Cert.FwdFfnIdeal.nD Cert.FwdFfnIdeal.τ).loc Cert.FwdFfnIdeal.main_arg1)
          ∧ r.2.mem ((c.tc : Thread Cert.FwdFfnIdeal.nD Cert.FwdFfnIdeal.τ).loc Cert.FwdFfnIdeal.main_arg2) = m ((c.tc : Thread Cert.FwdFfnIdeal.nD Cert.FwdFfnIdeal.τ).loc Cert.FwdFfnIdeal.main_arg2)
          ∧ r.2.mem ((c.tc : Thread Cert.FwdFfnIdeal.nD Cert.FwdFfnIdeal.τ).loc Cert.FwdFfnIdeal.main_arg3) = m ((c.tc : Thread Cert.FwdFfnIdeal.nD Cert.FwdFfnIdeal.τ).loc Cert.FwdFfnIdeal.main_arg3)
          ∧ r.2.mem ((c.tc : Thread Cert.FwdFfnIdeal.nD Cert.FwdFfnIdeal.τ).loc Cert.FwdFfnIdeal.main_arg4) = m ((c.tc : Thread Cert.FwdFfnIdeal.nD Cert.FwdFfnIdeal.τ).loc Cert.FwdFfnIdeal.main_arg4)
          ∧ r.2.mem ((c.tc : Thread Cert.FwdFfnIdeal.nD Cert.FwdFfnIdeal.τ).loc Cert.FwdFfnIdeal.main_arg5) = m ((c.tc : Thread Cert.FwdFfnIdeal.nD Cert.FwdFfnIdeal.τ).loc Cert.FwdFfnIdeal.main_arg5)
          ∧ r.2.mem ((c.tc : Thread Cert.FwdFfnIdeal.nD Cert.FwdFfnIdeal.τ).loc Cert.FwdFfnIdeal.main_arg6) = m ((c.tc : Thread Cert.FwdFfnIdeal.nD Cert.FwdFfnIdeal.τ).loc Cert.FwdFfnIdeal.main_arg6)
          ∧ r.2.mem ((c.tc : Thread Cert.FwdFfnIdeal.nD Cert.FwdFfnIdeal.τ).loc Cert.FwdFfnIdeal.main_arg7) = m ((c.tc : Thread Cert.FwdFfnIdeal.nD Cert.FwdFfnIdeal.τ).loc Cert.FwdFfnIdeal.main_arg7)
          ∧ r.2.mem ((c.tc : Thread Cert.FwdFfnIdeal.nD Cert.FwdFfnIdeal.τ).loc Cert.FwdFfnIdeal.main_arg8) = m ((c.tc : Thread Cert.FwdFfnIdeal.nD Cert.FwdFfnIdeal.τ).loc Cert.FwdFfnIdeal.main_arg8)
          ∧ r.2.mem ((c.tc : Thread Cert.FwdFfnIdeal.nD Cert.FwdFfnIdeal.τ).loc Cert.FwdFfnIdeal.main_arg9) = m ((c.tc : Thread Cert.FwdFfnIdeal.nD Cert.FwdFfnIdeal.τ).loc Cert.FwdFfnIdeal.main_arg9))
      ∧ θ_run (Cert.FwdFfnRefIdeal.defs (F := Ideal)) (onTc (τ := Cert.FwdFfnRefIdeal.τ) (Cert.FwdFfnRefIdeal.main (F := Ideal))) ⟨m', fun _ => 0, g'⟩ (fun r => ∀ c : Dev Cert.FwdFfnRefIdeal.nD,
          r.2.mem ((c.tc : Thread Cert.FwdFfnRefIdeal.nD Cert.FwdFfnRefIdeal.τ).loc Cert.FwdFfnRefIdeal.main_v14) = v0 c
          ∧ r.2.mem ((c.tc : Thread Cert.FwdFfnRefIdeal.nD Cert.FwdFfnRefIdeal.τ).loc Cert.FwdFfnRefIdeal.main_v55) = v1 c
          ∧ r.2.mem ((c.tc : Thread Cert.FwdFfnRefIdeal.nD Cert.FwdFfnRefIdeal.τ).loc Cert.FwdFfnRefIdeal.main_v56) = v2 c
          ∧ r.2.mem ((c.tc : Thread Cert.FwdFfnRefIdeal.nD Cert.FwdFfnRefIdeal.τ).loc Cert.FwdFfnRefIdeal.main_v57) = v3 c
          ∧ r.2.mem ((c.tc : Thread Cert.FwdFfnRefIdeal.nD Cert.FwdFfnRefIdeal.τ).loc Cert.FwdFfnRefIdeal.main_v58) = v4 c
          ∧ r.2.mem ((c.tc : Thread Cert.FwdFfnRefIdeal.nD Cert.FwdFfnRefIdeal.τ).loc Cert.FwdFfnRefIdeal.main_v59) = v5 c
          ∧ r.2.mem ((c.tc : Thread Cert.FwdFfnRefIdeal.nD Cert.FwdFfnRefIdeal.τ).loc Cert.FwdFfnRefIdeal.main_v60) = v6 c
          ∧ r.2.mem ((c.tc : Thread Cert.FwdFfnRefIdeal.nD Cert.FwdFfnRefIdeal.τ).loc Cert.FwdFfnRefIdeal.main_arg0) = m' ((c.tc : Thread Cert.FwdFfnRefIdeal.nD Cert.FwdFfnRefIdeal.τ).loc Cert.FwdFfnRefIdeal.main_arg0)
          ∧ r.2.mem ((c.tc : Thread Cert.FwdFfnRefIdeal.nD Cert.FwdFfnRefIdeal.τ).loc Cert.FwdFfnRefIdeal.main_arg1) = m' ((c.tc : Thread Cert.FwdFfnRefIdeal.nD Cert.FwdFfnRefIdeal.τ).loc Cert.FwdFfnRefIdeal.main_arg1)
          ∧ r.2.mem ((c.tc : Thread Cert.FwdFfnRefIdeal.nD Cert.FwdFfnRefIdeal.τ).loc Cert.FwdFfnRefIdeal.main_arg2) = m' ((c.tc : Thread Cert.FwdFfnRefIdeal.nD Cert.FwdFfnRefIdeal.τ).loc Cert.FwdFfnRefIdeal.main_arg2)
          ∧ r.2.mem ((c.tc : Thread Cert.FwdFfnRefIdeal.nD Cert.FwdFfnRefIdeal.τ).loc Cert.FwdFfnRefIdeal.main_arg3) = m' ((c.tc : Thread Cert.FwdFfnRefIdeal.nD Cert.FwdFfnRefIdeal.τ).loc Cert.FwdFfnRefIdeal.main_arg3)
          ∧ r.2.mem ((c.tc : Thread Cert.FwdFfnRefIdeal.nD Cert.FwdFfnRefIdeal.τ).loc Cert.FwdFfnRefIdeal.main_arg4) = m' ((c.tc : Thread Cert.FwdFfnRefIdeal.nD Cert.FwdFfnRefIdeal.τ).loc Cert.FwdFfnRefIdeal.main_arg4)
          ∧ r.2.mem ((c.tc : Thread Cert.FwdFfnRefIdeal.nD Cert.FwdFfnRefIdeal.τ).loc Cert.FwdFfnRefIdeal.main_arg5) = m' ((c.tc : Thread Cert.FwdFfnRefIdeal.nD Cert.FwdFfnRefIdeal.τ).loc Cert.FwdFfnRefIdeal.main_arg5)
          ∧ r.2.mem ((c.tc : Thread Cert.FwdFfnRefIdeal.nD Cert.FwdFfnRefIdeal.τ).loc Cert.FwdFfnRefIdeal.main_arg6) = m' ((c.tc : Thread Cert.FwdFfnRefIdeal.nD Cert.FwdFfnRefIdeal.τ).loc Cert.FwdFfnRefIdeal.main_arg6)
          ∧ r.2.mem ((c.tc : Thread Cert.FwdFfnRefIdeal.nD Cert.FwdFfnRefIdeal.τ).loc Cert.FwdFfnRefIdeal.main_arg7) = m' ((c.tc : Thread Cert.FwdFfnRefIdeal.nD Cert.FwdFfnRefIdeal.τ).loc Cert.FwdFfnRefIdeal.main_arg7)
          ∧ r.2.mem ((c.tc : Thread Cert.FwdFfnRefIdeal.nD Cert.FwdFfnRefIdeal.τ).loc Cert.FwdFfnRefIdeal.main_arg8) = m' ((c.tc : Thread Cert.FwdFfnRefIdeal.nD Cert.FwdFfnRefIdeal.τ).loc Cert.FwdFfnRefIdeal.main_arg8)
          ∧ r.2.mem ((c.tc : Thread Cert.FwdFfnRefIdeal.nD Cert.FwdFfnRefIdeal.τ).loc Cert.FwdFfnRefIdeal.main_arg9) = m' ((c.tc : Thread Cert.FwdFfnRefIdeal.nD Cert.FwdFfnRefIdeal.τ).loc Cert.FwdFfnRefIdeal.main_arg9))

def preserves_AttnF_AttnFIdeal : Prop :=
  IdealRules.named_const.Statement Cert.AttnFIdeal.κ "mask" .f32 0xF149F2CA#32 ⊥

def algebraic_AttnFIdeal_AttnFRefIdeal_pre_attn_fwd_finite [hAttnFIdeal : Cert.AttnFIdeal.Facts] [hAttnFRefIdeal : Cert.AttnFRefIdeal.Facts] [hPre_attn_fwd_finite : Cert.Pre_attn_fwd_finite.Facts] : Prop :=
  ∀ (m : (ℓ : Loc Cert.AttnFIdeal.nD Cert.AttnFIdeal.τ Cert.AttnFIdeal.sig) → Buf (Elt Ideal) ℓ) (g : Dev Cert.AttnFIdeal.nD → PrngReg)
    (m' : (ℓ : Loc Cert.AttnFRefIdeal.nD Cert.AttnFRefIdeal.τ Cert.AttnFRefIdeal.sig) → Buf (Elt Ideal) ℓ) (g' : Dev Cert.AttnFRefIdeal.nD → PrngReg), Pre_AttnFIdeal_attn_fwd_finite m →
    (∀ c : Dev Cert.AttnFIdeal.nD,
      m' ((c.tc : Thread Cert.AttnFRefIdeal.nD Cert.AttnFRefIdeal.τ).loc Cert.AttnFRefIdeal.main_arg0) = m ((c.tc : Thread Cert.AttnFIdeal.nD Cert.AttnFIdeal.τ).loc Cert.AttnFIdeal.main_arg0)
      ∧ m' ((c.tc : Thread Cert.AttnFRefIdeal.nD Cert.AttnFRefIdeal.τ).loc Cert.AttnFRefIdeal.main_arg1) = m ((c.tc : Thread Cert.AttnFIdeal.nD Cert.AttnFIdeal.τ).loc Cert.AttnFIdeal.main_arg1)
      ∧ m' ((c.tc : Thread Cert.AttnFRefIdeal.nD Cert.AttnFRefIdeal.τ).loc Cert.AttnFRefIdeal.main_arg2) = m ((c.tc : Thread Cert.AttnFIdeal.nD Cert.AttnFIdeal.τ).loc Cert.AttnFIdeal.main_arg2)) →
    ∃ (v0 : (c : Dev Cert.AttnFIdeal.nD) → Buf (Elt Ideal) ((c.tc : Thread Cert.AttnFIdeal.nD Cert.AttnFIdeal.τ).loc Cert.AttnFIdeal.main_v54_0)) (v1 : (c : Dev Cert.AttnFIdeal.nD) → Buf (Elt Ideal) ((c.tc : Thread Cert.AttnFIdeal.nD Cert.AttnFIdeal.τ).loc Cert.AttnFIdeal.main_v54_1)),
      θ_run (Cert.AttnFIdeal.defs (F := Ideal)) (onTc (τ := Cert.AttnFIdeal.τ) (Cert.AttnFIdeal.main (F := Ideal))) ⟨m, fun _ => 0, g⟩ (fun r => ∀ c : Dev Cert.AttnFIdeal.nD,
          r.2.mem ((c.tc : Thread Cert.AttnFIdeal.nD Cert.AttnFIdeal.τ).loc Cert.AttnFIdeal.main_v54_0) = v0 c
          ∧ r.2.mem ((c.tc : Thread Cert.AttnFIdeal.nD Cert.AttnFIdeal.τ).loc Cert.AttnFIdeal.main_v54_1) = v1 c
          ∧ r.2.mem ((c.tc : Thread Cert.AttnFIdeal.nD Cert.AttnFIdeal.τ).loc Cert.AttnFIdeal.main_arg0) = m ((c.tc : Thread Cert.AttnFIdeal.nD Cert.AttnFIdeal.τ).loc Cert.AttnFIdeal.main_arg0)
          ∧ r.2.mem ((c.tc : Thread Cert.AttnFIdeal.nD Cert.AttnFIdeal.τ).loc Cert.AttnFIdeal.main_arg1) = m ((c.tc : Thread Cert.AttnFIdeal.nD Cert.AttnFIdeal.τ).loc Cert.AttnFIdeal.main_arg1)
          ∧ r.2.mem ((c.tc : Thread Cert.AttnFIdeal.nD Cert.AttnFIdeal.τ).loc Cert.AttnFIdeal.main_arg2) = m ((c.tc : Thread Cert.AttnFIdeal.nD Cert.AttnFIdeal.τ).loc Cert.AttnFIdeal.main_arg2))
      ∧ θ_run (Cert.AttnFRefIdeal.defs (F := Ideal)) (onTc (τ := Cert.AttnFRefIdeal.τ) (Cert.AttnFRefIdeal.main (F := Ideal))) ⟨m', fun _ => 0, g'⟩ (fun r => ∀ c : Dev Cert.AttnFRefIdeal.nD,
          r.2.mem ((c.tc : Thread Cert.AttnFRefIdeal.nD Cert.AttnFRefIdeal.τ).loc Cert.AttnFRefIdeal.main_v286) = v0 c
          ∧ r.2.mem ((c.tc : Thread Cert.AttnFRefIdeal.nD Cert.AttnFRefIdeal.τ).loc Cert.AttnFRefIdeal.main_v288) = v1 c
          ∧ r.2.mem ((c.tc : Thread Cert.AttnFRefIdeal.nD Cert.AttnFRefIdeal.τ).loc Cert.AttnFRefIdeal.main_arg0) = m' ((c.tc : Thread Cert.AttnFRefIdeal.nD Cert.AttnFRefIdeal.τ).loc Cert.AttnFRefIdeal.main_arg0)
          ∧ r.2.mem ((c.tc : Thread Cert.AttnFRefIdeal.nD Cert.AttnFRefIdeal.τ).loc Cert.AttnFRefIdeal.main_arg1) = m' ((c.tc : Thread Cert.AttnFRefIdeal.nD Cert.AttnFRefIdeal.τ).loc Cert.AttnFRefIdeal.main_arg1)
          ∧ r.2.mem ((c.tc : Thread Cert.AttnFRefIdeal.nD Cert.AttnFRefIdeal.τ).loc Cert.AttnFRefIdeal.main_arg2) = m' ((c.tc : Thread Cert.AttnFRefIdeal.nD Cert.AttnFRefIdeal.τ).loc Cert.AttnFRefIdeal.main_arg2))

def Claim : Prop :=
  ∃ (hBwdIn : Cert.BwdIn.Facts) (hBwdInIdeal : Cert.BwdInIdeal.Facts) (hBwdInRefIdeal : Cert.BwdInRefIdeal.Facts) (hBwdFfnA : Cert.BwdFfnA.Facts) (hBwdFfnAIdeal : Cert.BwdFfnAIdeal.Facts) (hBwdFfnARefIdeal : Cert.BwdFfnARefIdeal.Facts) (hBwdFfnB : Cert.BwdFfnB.Facts) (hBwdFfnBIdeal : Cert.BwdFfnBIdeal.Facts) (hBwdFfnBRefIdeal : Cert.BwdFfnBRefIdeal.Facts) (hFwdTail : Cert.FwdTail.Facts) (hFwdTailIdeal : Cert.FwdTailIdeal.Facts) (hFwdTailRefIdeal : Cert.FwdTailRefIdeal.Facts) (hFwdMix : Cert.FwdMix.Facts) (hFwdMixIdeal : Cert.FwdMixIdeal.Facts) (hFwdMixRefIdeal : Cert.FwdMixRefIdeal.Facts) (hFwdFfn : Cert.FwdFfn.Facts) (hFwdFfnIdeal : Cert.FwdFfnIdeal.Facts) (hFwdFfnRefIdeal : Cert.FwdFfnRefIdeal.Facts) (hAttnF : Cert.AttnF.Facts) (hAttnFIdeal : Cert.AttnFIdeal.Facts) (hAttnFRefIdeal : Cert.AttnFRefIdeal.Facts) (hPre_bwd_in_finite : Cert.Pre_bwd_in_finite.Facts) (hPre_bwd_ffn_a_finite : Cert.Pre_bwd_ffn_a_finite.Facts) (hPre_bwd_ffn_b_finite : Cert.Pre_bwd_ffn_b_finite.Facts) (hPre_fwd_tail_finite : Cert.Pre_fwd_tail_finite.Facts) (hPre_fwd_mix_finite : Cert.Pre_fwd_mix_finite.Facts) (hPre_fwd_ffn_finite : Cert.Pre_fwd_ffn_finite.Facts) (hPre_attn_fwd_finite : Cert.Pre_attn_fwd_finite.Facts),
    quiescent_BwdIn (hBwdIn := hBwdIn)
    ∧ quiescent_BwdInIdeal (hBwdInIdeal := hBwdInIdeal)
    ∧ quiescent_BwdInIdeal_pre_bwd_in_finite (hBwdInIdeal := hBwdInIdeal) (hPre_bwd_in_finite := hPre_bwd_in_finite)
    ∧ quiescent_BwdInRefIdeal (hBwdInRefIdeal := hBwdInRefIdeal)
    ∧ quiescent_BwdInRefIdeal_pre_bwd_in_finite (hBwdInRefIdeal := hBwdInRefIdeal) (hPre_bwd_in_finite := hPre_bwd_in_finite)
    ∧ quiescent_BwdFfnA (hBwdFfnA := hBwdFfnA)
    ∧ quiescent_BwdFfnAIdeal (hBwdFfnAIdeal := hBwdFfnAIdeal)
    ∧ quiescent_BwdFfnAIdeal_pre_bwd_ffn_a_finite (hBwdFfnAIdeal := hBwdFfnAIdeal) (hPre_bwd_ffn_a_finite := hPre_bwd_ffn_a_finite)
    ∧ quiescent_BwdFfnARefIdeal (hBwdFfnARefIdeal := hBwdFfnARefIdeal)
    ∧ quiescent_BwdFfnARefIdeal_pre_bwd_ffn_a_finite (hBwdFfnARefIdeal := hBwdFfnARefIdeal) (hPre_bwd_ffn_a_finite := hPre_bwd_ffn_a_finite)
    ∧ quiescent_BwdFfnB (hBwdFfnB := hBwdFfnB)
    ∧ quiescent_BwdFfnBIdeal (hBwdFfnBIdeal := hBwdFfnBIdeal)
    ∧ quiescent_BwdFfnBIdeal_pre_bwd_ffn_b_finite (hBwdFfnBIdeal := hBwdFfnBIdeal) (hPre_bwd_ffn_b_finite := hPre_bwd_ffn_b_finite)
    ∧ quiescent_BwdFfnBRefIdeal (hBwdFfnBRefIdeal := hBwdFfnBRefIdeal)
    ∧ quiescent_BwdFfnBRefIdeal_pre_bwd_ffn_b_finite (hBwdFfnBRefIdeal := hBwdFfnBRefIdeal) (hPre_bwd_ffn_b_finite := hPre_bwd_ffn_b_finite)
    ∧ quiescent_FwdTail (hFwdTail := hFwdTail)
    ∧ quiescent_FwdTailIdeal (hFwdTailIdeal := hFwdTailIdeal)
    ∧ quiescent_FwdTailIdeal_pre_fwd_tail_finite (hFwdTailIdeal := hFwdTailIdeal) (hPre_fwd_tail_finite := hPre_fwd_tail_finite)
    ∧ quiescent_FwdTailRefIdeal (hFwdTailRefIdeal := hFwdTailRefIdeal)
    ∧ quiescent_FwdTailRefIdeal_pre_fwd_tail_finite (hFwdTailRefIdeal := hFwdTailRefIdeal) (hPre_fwd_tail_finite := hPre_fwd_tail_finite)
    ∧ quiescent_FwdMix (hFwdMix := hFwdMix)
    ∧ quiescent_FwdMixIdeal (hFwdMixIdeal := hFwdMixIdeal)
    ∧ quiescent_FwdMixIdeal_pre_fwd_mix_finite (hFwdMixIdeal := hFwdMixIdeal) (hPre_fwd_mix_finite := hPre_fwd_mix_finite)
    ∧ quiescent_FwdMixRefIdeal (hFwdMixRefIdeal := hFwdMixRefIdeal)
    ∧ quiescent_FwdMixRefIdeal_pre_fwd_mix_finite (hFwdMixRefIdeal := hFwdMixRefIdeal) (hPre_fwd_mix_finite := hPre_fwd_mix_finite)
    ∧ quiescent_FwdFfn (hFwdFfn := hFwdFfn)
    ∧ quiescent_FwdFfnIdeal (hFwdFfnIdeal := hFwdFfnIdeal)
    ∧ quiescent_FwdFfnIdeal_pre_fwd_ffn_finite (hFwdFfnIdeal := hFwdFfnIdeal) (hPre_fwd_ffn_finite := hPre_fwd_ffn_finite)
    ∧ quiescent_FwdFfnRefIdeal (hFwdFfnRefIdeal := hFwdFfnRefIdeal)
    ∧ quiescent_FwdFfnRefIdeal_pre_fwd_ffn_finite (hFwdFfnRefIdeal := hFwdFfnRefIdeal) (hPre_fwd_ffn_finite := hPre_fwd_ffn_finite)
    ∧ quiescent_AttnF (hAttnF := hAttnF)
    ∧ quiescent_AttnFIdeal (hAttnFIdeal := hAttnFIdeal)
    ∧ quiescent_AttnFIdeal_pre_attn_fwd_finite (hAttnFIdeal := hAttnFIdeal) (hPre_attn_fwd_finite := hPre_attn_fwd_finite)
    ∧ quiescent_AttnFRefIdeal (hAttnFRefIdeal := hAttnFRefIdeal)
    ∧ quiescent_AttnFRefIdeal_pre_attn_fwd_finite (hAttnFRefIdeal := hAttnFRefIdeal) (hPre_attn_fwd_finite := hPre_attn_fwd_finite)
    ∧ preserves_BwdIn_BwdInIdeal
    ∧ algebraic_BwdInIdeal_BwdInRefIdeal_pre_bwd_in_finite (hBwdInIdeal := hBwdInIdeal) (hBwdInRefIdeal := hBwdInRefIdeal) (hPre_bwd_in_finite := hPre_bwd_in_finite)
    ∧ preserves_BwdFfnA_BwdFfnAIdeal
    ∧ algebraic_BwdFfnAIdeal_BwdFfnARefIdeal_pre_bwd_ffn_a_finite (hBwdFfnAIdeal := hBwdFfnAIdeal) (hBwdFfnARefIdeal := hBwdFfnARefIdeal) (hPre_bwd_ffn_a_finite := hPre_bwd_ffn_a_finite)
    ∧ preserves_BwdFfnB_BwdFfnBIdeal
    ∧ algebraic_BwdFfnBIdeal_BwdFfnBRefIdeal_pre_bwd_ffn_b_finite (hBwdFfnBIdeal := hBwdFfnBIdeal) (hBwdFfnBRefIdeal := hBwdFfnBRefIdeal) (hPre_bwd_ffn_b_finite := hPre_bwd_ffn_b_finite)
    ∧ preserves_FwdTail_FwdTailIdeal
    ∧ algebraic_FwdTailIdeal_FwdTailRefIdeal_pre_fwd_tail_finite (hFwdTailIdeal := hFwdTailIdeal) (hFwdTailRefIdeal := hFwdTailRefIdeal) (hPre_fwd_tail_finite := hPre_fwd_tail_finite)
    ∧ preserves_FwdMix_FwdMixIdeal
    ∧ algebraic_FwdMixIdeal_FwdMixRefIdeal_pre_fwd_mix_finite (hFwdMixIdeal := hFwdMixIdeal) (hFwdMixRefIdeal := hFwdMixRefIdeal) (hPre_fwd_mix_finite := hPre_fwd_mix_finite)
    ∧ preserves_FwdFfn_FwdFfnIdeal
    ∧ algebraic_FwdFfnIdeal_FwdFfnRefIdeal_pre_fwd_ffn_finite (hFwdFfnIdeal := hFwdFfnIdeal) (hFwdFfnRefIdeal := hFwdFfnRefIdeal) (hPre_fwd_ffn_finite := hPre_fwd_ffn_finite)
    ∧ preserves_AttnF_AttnFIdeal
    ∧ algebraic_AttnFIdeal_AttnFRefIdeal_pre_attn_fwd_finite (hAttnFIdeal := hAttnFIdeal) (hAttnFRefIdeal := hAttnFRefIdeal) (hPre_attn_fwd_finite := hPre_attn_fwd_finite)
-- ==== Pre_attn_fwd_finite.lean ====
abbrev S8192x512 : Shape := ⟨2, ![8192, 512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel

variable [Facts]

def fn {F : FTy → Type} [FloatOps F] (main_arg0 : FVec F S8192x512 .f32) (main_arg1 : FVec F S8192x512 .f32) (main_arg2 : FVec F S8192x512 .f32) : IVec S_ 1 :=
  let main_v0 : FVec F S8192x512 .f32 := subf main_arg0 main_arg0
  let main_cst : FVec F S_ .f32 := constant S_ .f32 0x00000000#32
  let main_v1 : FVec F S8192x512 .f32 := broadcastInDim S8192x512 ![] bcast_S_S8192x512 main_cst
  let main_v2 : IVec S8192x512 1 := cmpf .oeq main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := subf main_arg1 main_arg1
  let main_cst_0 : FVec F S_ .f32 := constant S_ .f32 0x00000000#32
  let main_v5 : FVec F S8192x512 .f32 := broadcastInDim S8192x512 ![] bcast_S_S8192x512 main_cst_0
  let main_v6 : IVec S8192x512 1 := cmpf .oeq main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S8192x512 .f32 := subf main_arg2 main_arg2
  let main_cst_2 : FVec F S_ .f32 := constant S_ .f32 0x00000000#32
  let main_v10 : FVec F S8192x512 .f32 := broadcastInDim S8192x512 ![] bcast_S_S8192x512 main_cst_2
  let main_v11 : IVec S8192x512 1 := cmpf .oeq main_v9 main_v10
  let main_c_3 : IVec S_ 1 := constantI S_ 1 1#1
  let main_v12 : IVec S_ 1 := (fun x v => Host.reduce IntOp.andi x v reducesTo_S8192x512_S_d0_1 h_S_) main_v11 main_c_3
  let main_v13 : IVec S_ 1 := andi main_v8 main_v12
  main_v13
-- ==== Pre_bwd_ffn_a_finite.lean ====
abbrev S8192x2816 : Shape := ⟨2, ![8192, 2816]⟩
abbrev S2816x1024 : Shape := ⟨2, ![2816, 1024]⟩
abbrev S3x2816 : Shape := ⟨2, ![3, 2816]⟩
abbrev S1x2816 : Shape := ⟨2, ![1, 2816]⟩
abbrev S8192x1024 : Shape := ⟨2, ![8192, 1024]⟩
abbrev S_ : Shape := ⟨0, ![]⟩

class Facts : Prop where
  bcast_S_S8192x2816 : S_.BroadcastsInDim S8192x2816 (![] : Fin 0 → Fin S8192x2816.rank)
  reducesTo_S8192x2816_S_d0_1 : S8192x2816.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S3x2816 : S_.BroadcastsInDim S3x2816 (![] : Fin 0 → Fin S3x2816.rank)
  reducesTo_S3x2816_S_d0_1 : S3x2816.ReducesTo [0, 1] S_
  bcast_S_S1x2816 : S_.BroadcastsInDim S1x2816 (![] : Fin 0 → Fin S1x2816.rank)
  reducesTo_S1x2816_S_d0_1 : S1x2816.ReducesTo [0, 1] S_
  bcast_S_S8192x1024 : S_.BroadcastsInDim S8192x1024 (![] : Fin 0 → Fin S8192x1024.rank)
  reducesTo_S8192x1024_S_d0_1 : S8192x1024.ReducesTo [0, 1] S_

variable [Facts]

def fn_part1 {F : FTy → Type} [FloatOps F] (main_arg4 : FVec F S1x2816 .f32) (main_arg5 : FVec F S8192x1024 .f32) (main_v13 : IVec S_ 1) (main_v16 : IVec S3x2816 1) : IVec S_ 1 :=
  let main_c_5 : IVec S_ 1 := constantI S_ 1 1#1
  let main_v17 : IVec S_ 1 := (fun x v => Host.reduce IntOp.andi x v reducesTo_S3x2816_S_d0_1 h_S_) main_v16 main_c_5
  let main_v18 : IVec S_ 1 := andi main_v13 main_v17
  let main_v19 : FVec F S1x2816 .f32 := subf main_arg4 main_arg4
  let main_cst_6 : FVec F S_ .f32 := constant S_ .f32 0x00000000#32
  let main_v20 : FVec F S1x2816 .f32 := broadcastInDim S1x2816 ![] bcast_S_S1x2816 main_cst_6
  let main_v21 : IVec S1x2816 1 := cmpf .oeq main_v19 main_v20
  let main_c_7 : IVec S_ 1 := constantI S_ 1 1#1
  let main_v22 : IVec S_ 1 := (fun x v => Host.reduce IntOp.andi x v reducesTo_S1x2816_S_d0_1 h_S_) main_v21 main_c_7
  let main_v23 : IVec S_ 1 := andi main_v18 main_v22
  let main_v24 : FVec F S8192x1024 .f32 := subf main_arg5 main_arg5
  let main_cst_8 : FVec F S_ .f32 := constant S_ .f32 0x00000000#32
  let main_v25 : FVec F S8192x1024 .f32 := broadcastInDim S8192x1024 ![] bcast_S_S8192x1024 main_cst_8
  let main_v26 : IVec S8192x1024 1 := cmpf .oeq main_v24 main_v25
  let main_c_9 : IVec S_ 1 := constantI S_ 1 1#1
  let main_v27 : IVec S_ 1 := (fun x v => Host.reduce IntOp.andi x v reducesTo_S8192x1024_S_d0_1 h_S_) main_v26 main_c_9
  let main_v28 : IVec S_ 1 := andi main_v23 main_v27
  main_v28

def fn {F : FTy → Type} [FloatOps F] (main_arg0 : FVec F S8192x2816 .f32) (main_arg1 : FVec F S8192x2816 .f32) (main_arg2 : FVec F S2816x1024 .f32) (main_arg3 : FVec F S3x2816 .f32) (main_arg4 : FVec F S1x2816 .f32) (main_arg5 : FVec F S8192x1024 .f32) : IVec S_ 1 :=
  let main_v0 : FVec F S8192x2816 .f32 := subf main_arg0 main_arg0
  let main_cst : FVec F S_ .f32 := constant S_ .f32 0x00000000#32
  let main_v1 : FVec F S8192x2816 .f32 := broadcastInDim S8192x2816 ![] bcast_S_S8192x2816 main_cst
  let main_v2 : IVec S8192x2816 1 := cmpf .oeq main_v0 main_v1
  let main_c : IVec S_ 1 := constantI S_ 1 1#1
  let main_v3 : IVec S_ 1 := (fun x v => Host.reduce IntOp.andi x v reducesTo_S8192x2816_S_d0_1 h_S_) main_v2 main_c
  let main_v4 : FVec F S8192x2816 .f32 := subf main_arg1 main_arg1
  let main_cst_0 : FVec F S_ .f32 := constant S_ .f32 0x00000000#32
  let main_v5 : FVec F S8192x2816 .f32 := broadcastInDim S8192x2816 ![] bcast_S_S8192x2816 main_cst_0
  let main_v6 : IVec S8192x2816 1 := cmpf .oeq main_v4 main_v5
  let main_c_1 : IVec S_ 1 := constantI S_ 1 1#1
  let main_v7 : IVec S_ 1 := (fun x v => Host.reduce IntOp.andi x v reducesTo_S8192x2816_S_d0_1 h_S_) main_v6 main_c_1
  let main_v8 : IVec S_ 1 := andi main_v3 main_v7
  let main_v9 : FVec F S2816x1024 .f32 := subf main_arg2 main_arg2
  let main_cst_2 : FVec F S_ .f32 := constant S_ .f32 0x00000000#32
  let main_v10 : FVec F S2816x1024 .f32 := broadcastInDim S2816x1024 ![] bcast_S_S2816x1024 main_cst_2
  let main_v11 : IVec S2816x1024 1 := cmpf .oeq main_v9 main_v10
  let main_c_3 : IVec S_ 1 := constantI S_ 1 1#1
  let main_v12 : IVec S_ 1 := (fun x v => Host.reduce IntOp.andi x v reducesTo_S2816x1024_S_d0_1 h_S_) main_v11 main_c_3
  let main_v13 : IVec S_ 1 := andi main_v8 main_v12
  let main_v14 : FVec F S3x2816 .f32 := subf main_arg3 main_arg3
  let main_cst_4 : FVec F S_ .f32 := constant S_ .f32 0x00000000#32
  let main_v15 : FVec F S3x2816 .f32 := broadcastInDim S3x2816 ![] bcast_S_S3x2816 main_cst_4
  let main_v16 : IVec S3x2816 1 := cmpf .oeq main_v14 main_v15
  fn_part1 (F := F) main_arg4 main_arg5 main_v13 main_v16
-- ==== Pre_bwd_ffn_b_finite.lean ====
abbrev S8192x1024 : Shape := ⟨2, ![8192, 1024]⟩
abbrev S8192x512 : Shape := ⟨2, ![8192, 512]⟩
abbrev S1x512 : Shape := ⟨2, ![1, 512]⟩
abbrev S1024x1024 : Shape := ⟨2, ![1024, 1024]⟩
abbrev S1x1024 : Shape := ⟨2, ![1, 1024]⟩
abbrev S1024x2816 : Shape := ⟨2, ![1024, 2816]⟩
abbrev S8192x2816 : Shape := ⟨2, ![8192, 2816]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x512 : S_.BroadcastsInDim S8192x512 (![] : Fin 0 → Fin S8192x512.rank)
  reducesTo_S8192x512_S_d0_1 : S8192x512.ReducesTo [0, 1] S_
  bcast_S_S1x512 : S_.BroadcastsInDim S1x512 (![] : Fin 0 → Fin S1x512.rank)
  reducesTo_S1x512_S_d0_1 : S1x512.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S1024x2816 : S_.BroadcastsInDim S1024x2816 (![] : Fin 0 → Fin S1024x2816.rank)
  reducesTo_S1024x2816_S_d0_1 : S1024x2816.ReducesTo [0, 1] S_
  bcast_S_S8192x2816 : S_.BroadcastsInDim S8192x2816 (![] : Fin 0 → Fin S8192x2816.rank)
  reducesTo_S8192x2816_S_d0_1 : S8192x2816.ReducesTo [0, 1] S_

variable [Facts]

def fn_part3 {F : FTy → Type} [FloatOps F] (main_v48 : IVec S_ 1) (main_v49 : FVec F S8192x1024 .f32) (main_v50 : FVec F S8192x1024 .f32) : IVec S_ 1 :=
  let main_v51 : IVec S8192x1024 1 := cmpf .oeq main_v49 main_v50
  let main_c_19 : IVec S_ 1 := constantI S_ 1 1#1
  let main_v52 : IVec S_ 1 := (fun x v => Host.reduce IntOp.andi x v reducesTo_S8192x1024_S_d0_1 h_S_) main_v51 main_c_19
  let main_v53 : IVec S_ 1 := andi main_v48 main_v52
  main_v53

def fn_part2 {F : FTy → Type} [FloatOps F] (main_arg7 : FVec F S1024x2816 .f32) (main_arg8 : FVec F S8192x2816 .f32) (main_arg9 : FVec F S8192x2816 .f32) (main_arg10 : FVec F S8192x1024 .f32) (main_v33 : IVec S_ 1) : IVec S_ 1 :=
  let main_v34 : FVec F S1024x2816 .f32 := subf main_arg7 main_arg7
  let main_cst_12 : FVec F S_ .f32 := constant S_ .f32 0x00000000#32
  let main_v35 : FVec F S1024x2816 .f32 := broadcastInDim S1024x2816 ![] bcast_S_S1024x2816 main_cst_12
  let main_v36 : IVec S1024x2816 1 := cmpf .oeq main_v34 main_v35
  let main_c_13 : IVec S_ 1 := constantI S_ 1 1#1
  let main_v37 : IVec S_ 1 := (fun x v => Host.reduce IntOp.andi x v reducesTo_S1024x2816_S_d0_1 h_S_) main_v36 main_c_13
  let main_v38 : IVec S_ 1 := andi main_v33 main_v37
  let main_v39 : FVec F S8192x2816 .f32 := subf main_arg8 main_arg8
  let main_cst_14 : FVec F S_ .f32 := constant S_ .f32 0x00000000#32
  let main_v40 : FVec F S8192x2816 .f32 := broadcastInDim S8192x2816 ![] bcast_S_S8192x2816 main_cst_14
  let main_v41 : IVec S8192x2816 1 := cmpf .oeq main_v39 main_v40
  let main_c_15 : IVec S_ 1 := constantI S_ 1 1#1
  let main_v42 : IVec S_ 1 := (fun x v => Host.reduce IntOp.andi x v reducesTo_S8192x2816_S_d0_1 h_S_) main_v41 main_c_15
  let main_v43 : IVec S_ 1 := andi main_v38 main_v42
  let main_v44 : FVec F S8192x2816 .f32 := subf main_arg9 main_arg9
  let main_cst_16 : FVec F S_ .f32 := constant S_ .f32 0x00000000#32
  let main_v45 : FVec F S8192x2816 .f32 := broadcastInDim S8192x2816 ![] bcast_S_S8192x2816 main_cst_16
  let main_v46 : IVec S8192x2816 1 := cmpf .oeq main_v44 main_v45
  let main_c_17 : IVec S_ 1 := constantI S_ 1 1#1
  let main_v47 : IVec S_ 1 := (fun x v => Host.reduce IntOp.andi x v reducesTo_S8192x2816_S_d0_1 h_S_) main_v46 main_c_17
  let main_v48 : IVec S_ 1 := andi main_v43 main_v47
  let main_v49 : FVec F S8192x1024 .f32 := subf main_arg10 main_arg10
  let main_cst_18 : FVec F S_ .f32 := constant S_ .f32 0x00000000#32
  let main_v50 : FVec F S8192x1024 .f32 := broadcastInDim S8192x1024 ![] bcast_S_S8192x1024 main_cst_18
  fn_part3 (F := F) main_v48 main_v49 main_v50

def fn_part1 {F : FTy → Type} [FloatOps F] (main_arg4 : FVec F S1024x1024 .f32) (main_arg5 : FVec F S1x1024 .f32) (main_arg6 : FVec F S1024x2816 .f32) (main_arg7 : FVec F S1024x2816 .f32) (main_arg8 : FVec F S8192x2816 .f32) (main_arg9 : FVec F S8192x2816 .f32) (main_arg10 : FVec F S8192x1024 .f32) (main_v13 : IVec S_ 1) (main_v16 : IVec S1x512 1) : IVec S_ 1 :=
  let main_c_5 : IVec S_ 1 := constantI S_ 1 1#1
  let main_v17 : IVec S_ 1 := (fun x v => Host.reduce IntOp.andi x v reducesTo_S1x512_S_d0_1 h_S_) main_v16 main_c_5
  let main_v18 : IVec S_ 1 := andi main_v13 main_v17
  let main_v19 : FVec F S1024x1024 .f32 := subf main_arg4 main_arg4
  let main_cst_6 : FVec F S_ .f32 := constant S_ .f32 0x00000000#32
  let main_v20 : FVec F S1024x1024 .f32 := broadcastInDim S1024x1024 ![] bcast_S_S1024x1024 main_cst_6
  let main_v21 : IVec S1024x1024 1 := cmpf .oeq main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1x1024 .f32 := subf main_arg5 main_arg5
  let main_cst_8 : FVec F S_ .f32 := constant S_ .f32 0x00000000#32
  let main_v25 : FVec F S1x1024 .f32 := broadcastInDim S1x1024 ![] bcast_S_S1x1024 main_cst_8
  let main_v26 : IVec S1x1024 1 := cmpf .oeq main_v24 main_v25
  let main_c_9 : IVec S_ 1 := constantI S_ 1 1#1
  let main_v27 : IVec S_ 1 := (fun x v => Host.reduce IntOp.andi x v reducesTo_S1x1024_S_d0_1 h_S_) main_v26 main_c_9
  let main_v28 : IVec S_ 1 := andi main_v23 main_v27
  let main_v29 : FVec F S1024x2816 .f32 := subf main_arg6 main_arg6
  let main_cst_10 : FVec F S_ .f32 := constant S_ .f32 0x00000000#32
  let main_v30 : FVec F S1024x2816 .f32 := broadcastInDim S1024x2816 ![] bcast_S_S1024x2816 main_cst_10
  let main_v31 : IVec S1024x2816 1 := cmpf .oeq main_v29 main_v30
  let main_c_11 : IVec S_ 1 := constantI S_ 1 1#1
  let main_v32 : IVec S_ 1 := (fun x v => Host.reduce IntOp.andi x v reducesTo_S1024x2816_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S8192x1024 .f32) (main_arg1 : FVec F S8192x512 .f32) (main_arg2 : FVec F S8192x512 .f32) (main_arg3 : FVec F S1x512 .f32) (main_arg4 : FVec F S1024x1024 .f32) (main_arg5 : FVec F S1x1024 .f32) (main_arg6 : FVec F S1024x2816 .f32) (main_arg7 : FVec F S1024x2816 .f32) (main_arg8 : FVec F S8192x2816 .f32) (main_arg9 : FVec F S8192x2816 .f32) (main_arg10 : FVec F S8192x1024 .f32) : IVec S_ 1 :=
  let main_v0 : FVec F S8192x1024 .f32 := subf main_arg0 main_arg0
  let main_cst : FVec F S_ .f32 := constant S_ .f32 0x00000000#32
  let main_v1 : FVec F S8192x1024 .f32 := broadcastInDim S8192x1024 ![] bcast_S_S8192x1024 main_cst
  let main_v2 : IVec S8192x1024 1 := cmpf .oeq main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x512 .f32 := subf main_arg1 main_arg1
  let main_cst_0 : FVec F S_ .f32 := constant S_ .f32 0x00000000#32
  let main_v5 : FVec F S8192x512 .f32 := broadcastInDim S8192x512 ![] bcast_S_S8192x512 main_cst_0
  let main_v6 : IVec S8192x512 1 := cmpf .oeq main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S8192x512 .f32 := subf main_arg2 main_arg2
  let main_cst_2 : FVec F S_ .f32 := constant S_ .f32 0x00000000#32
  let main_v10 : FVec F S8192x512 .f32 := broadcastInDim S8192x512 ![] bcast_S_S8192x512 main_cst_2
  let main_v11 : IVec S8192x512 1 := cmpf .oeq main_v9 main_v10
  let main_c_3 : IVec S_ 1 := constantI S_ 1 1#1
  let main_v12 : IVec S_ 1 := (fun x v => Host.reduce IntOp.andi x v reducesTo_S8192x512_S_d0_1 h_S_) main_v11 main_c_3
  let main_v13 : IVec S_ 1 := andi main_v8 main_v12
  let main_v14 : FVec F S1x512 .f32 := subf main_arg3 main_arg3
  let main_cst_4 : FVec F S_ .f32 := constant S_ .f32 0x00000000#32
  let main_v15 : FVec F S1x512 .f32 := broadcastInDim S1x512 ![] bcast_S_S1x512 main_cst_4
  let main_v16 : IVec S1x512 1 := cmpf .oeq main_v14 main_v15
  fn_part1 (F := F) main_arg4 main_arg5 main_arg6 main_arg7 main_arg8 main_arg9 main_arg10 main_v13 main_v16
-- ==== Pre_bwd_in_finite.lean ====
abbrev S8192x1024 : Shape := ⟨2, ![8192, 1024]⟩
abbrev S1x1024 : Shape := ⟨2, ![1, 1024]⟩
abbrev S1024x3072 : Shape := ⟨2, ![1024, 3072]⟩
abbrev S8192x3072 : Shape := ⟨2, ![8192, 3072]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x3072 : S_.BroadcastsInDim S1024x3072 (![] : Fin 0 → Fin S1024x3072.rank)
  reducesTo_S1024x3072_S_d0_1 : S1024x3072.ReducesTo [0, 1] S_
  bcast_S_S8192x3072 : S_.BroadcastsInDim S8192x3072 (![] : Fin 0 → Fin S8192x3072.rank)
  reducesTo_S8192x3072_S_d0_1 : S8192x3072.ReducesTo [0, 1] S_

variable [Facts]

def fn_part1 {F : FTy → Type} [FloatOps F] (main_arg4 : FVec F S8192x1024 .f32) (main_v13 : IVec S_ 1) (main_v16 : IVec S8192x3072 1) : IVec S_ 1 :=
  let main_c_5 : IVec S_ 1 := constantI S_ 1 1#1
  let main_v17 : IVec S_ 1 := (fun x v => Host.reduce IntOp.andi x v reducesTo_S8192x3072_S_d0_1 h_S_) main_v16 main_c_5
  let main_v18 : IVec S_ 1 := andi main_v13 main_v17
  let main_v19 : FVec F S8192x1024 .f32 := subf main_arg4 main_arg4
  let main_cst_6 : FVec F S_ .f32 := constant S_ .f32 0x00000000#32
  let main_v20 : FVec F S8192x1024 .f32 := broadcastInDim S8192x1024 ![] bcast_S_S8192x1024 main_cst_6
  let main_v21 : IVec S8192x1024 1 := cmpf .oeq main_v19 main_v20
  let main_c_7 : IVec S_ 1 := constantI S_ 1 1#1
  let main_v22 : IVec S_ 1 := (fun x v => Host.reduce IntOp.andi x v reducesTo_S8192x1024_S_d0_1 h_S_) main_v21 main_c_7
  let main_v23 : IVec S_ 1 := andi main_v18 main_v22
  main_v23

def fn {F : FTy → Type} [FloatOps F] (main_arg0 : FVec F S8192x1024 .f32) (main_arg1 : FVec F S1x1024 .f32) (main_arg2 : FVec F S1024x3072 .f32) (main_arg3 : FVec F S8192x3072 .f32) (main_arg4 : FVec F S8192x1024 .f32) : IVec S_ 1 :=
  let main_v0 : FVec F S8192x1024 .f32 := subf main_arg0 main_arg0
  let main_cst : FVec F S_ .f32 := constant S_ .f32 0x00000000#32
  let main_v1 : FVec F S8192x1024 .f32 := broadcastInDim S8192x1024 ![] bcast_S_S8192x1024 main_cst
  let main_v2 : IVec S8192x1024 1 := cmpf .oeq main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1x1024 .f32 := subf main_arg1 main_arg1
  let main_cst_0 : FVec F S_ .f32 := constant S_ .f32 0x00000000#32
  let main_v5 : FVec F S1x1024 .f32 := broadcastInDim S1x1024 ![] bcast_S_S1x1024 main_cst_0
  let main_v6 : IVec S1x1024 1 := cmpf .oeq main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1024x3072 .f32 := subf main_arg2 main_arg2
  let main_cst_2 : FVec F S_ .f32 := constant S_ .f32 0x00000000#32
  let main_v10 : FVec F S1024x3072 .f32 := broadcastInDim S1024x3072 ![] bcast_S_S1024x3072 main_cst_2
  let main_v11 : IVec S1024x3072 1 := cmpf .oeq main_v9 main_v10
  let main_c_3 : IVec S_ 1 := constantI S_ 1 1#1
  let main_v12 : IVec S_ 1 := (fun x v => Host.reduce IntOp.andi x v reducesTo_S1024x3072_S_d0_1 h_S_) main_v11 main_c_3
  let main_v13 : IVec S_ 1 := andi main_v8 main_v12
  let main_v14 : FVec F S8192x3072 .f32 := subf main_arg3 main_arg3
  let main_cst_4 : FVec F S_ .f32 := constant S_ .f32 0x00000000#32
  let main_v15 : FVec F S8192x3072 .f32 := broadcastInDim S8192x3072 ![] bcast_S_S8192x3072 main_cst_4
  let main_v16 : IVec S8192x3072 1 := cmpf .oeq main_v14 main_v15
  fn_part1 (F := F) main_arg4 main_v13 main_v16
-- ==== Pre_fwd_ffn_finite.lean ====
abbrev S8192x1024 : Shape := ⟨2, ![8192, 1024]⟩
abbrev S8192x512 : Shape := ⟨2, ![8192, 512]⟩
abbrev S1x512 : Shape := ⟨2, ![1, 512]⟩
abbrev S1024x1024 : Shape := ⟨2, ![1024, 1024]⟩
abbrev S1x1024 : Shape := ⟨2, ![1, 1024]⟩
abbrev S1024x2816 : Shape := ⟨2, ![1024, 2816]⟩
abbrev S3x2816 : Shape := ⟨2, ![3, 2816]⟩
abbrev S1x2816 : Shape := ⟨2, ![1, 2816]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x512 : S_.BroadcastsInDim S8192x512 (![] : Fin 0 → Fin S8192x512.rank)
  reducesTo_S8192x512_S_d0_1 : S8192x512.ReducesTo [0, 1] S_
  bcast_S_S1x512 : S_.BroadcastsInDim S1x512 (![] : Fin 0 → Fin S1x512.rank)
  reducesTo_S1x512_S_d0_1 : S1x512.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S1024x2816 : S_.BroadcastsInDim S1024x2816 (![] : Fin 0 → Fin S1024x2816.rank)
  reducesTo_S1024x2816_S_d0_1 : S1024x2816.ReducesTo [0, 1] S_
  bcast_S_S3x2816 : S_.BroadcastsInDim S3x2816 (![] : Fin 0 → Fin S3x2816.rank)
  reducesTo_S3x2816_S_d0_1 : S3x2816.ReducesTo [0, 1] S_
  bcast_S_S1x2816 : S_.BroadcastsInDim S1x2816 (![] : Fin 0 → Fin S1x2816.rank)
  reducesTo_S1x2816_S_d0_1 : S1x2816.ReducesTo [0, 1] S_

variable [Facts]

def fn_part2 {F : FTy → Type} [FloatOps F] (main_arg7 : FVec F S1024x2816 .f32) (main_arg8 : FVec F S3x2816 .f32) (main_arg9 : FVec F S1x2816 .f32) (main_v33 : IVec S_ 1) : IVec S_ 1 :=
  let main_v34 : FVec F S1024x2816 .f32 := subf main_arg7 main_arg7
  let main_cst_12 : FVec F S_ .f32 := constant S_ .f32 0x00000000#32
  let main_v35 : FVec F S1024x2816 .f32 := broadcastInDim S1024x2816 ![] bcast_S_S1024x2816 main_cst_12
  let main_v36 : IVec S1024x2816 1 := cmpf .oeq main_v34 main_v35
  let main_c_13 : IVec S_ 1 := constantI S_ 1 1#1
  let main_v37 : IVec S_ 1 := (fun x v => Host.reduce IntOp.andi x v reducesTo_S1024x2816_S_d0_1 h_S_) main_v36 main_c_13
  let main_v38 : IVec S_ 1 := andi main_v33 main_v37
  let main_v39 : FVec F S3x2816 .f32 := subf main_arg8 main_arg8
  let main_cst_14 : FVec F S_ .f32 := constant S_ .f32 0x00000000#32
  let main_v40 : FVec F S3x2816 .f32 := broadcastInDim S3x2816 ![] bcast_S_S3x2816 main_cst_14
  let main_v41 : IVec S3x2816 1 := cmpf .oeq main_v39 main_v40
  let main_c_15 : IVec S_ 1 := constantI S_ 1 1#1
  let main_v42 : IVec S_ 1 := (fun x v => Host.reduce IntOp.andi x v reducesTo_S3x2816_S_d0_1 h_S_) main_v41 main_c_15
  let main_v43 : IVec S_ 1 := andi main_v38 main_v42
  let main_v44 : FVec F S1x2816 .f32 := subf main_arg9 main_arg9
  let main_cst_16 : FVec F S_ .f32 := constant S_ .f32 0x00000000#32
  let main_v45 : FVec F S1x2816 .f32 := broadcastInDim S1x2816 ![] bcast_S_S1x2816 main_cst_16
  let main_v46 : IVec S1x2816 1 := cmpf .oeq main_v44 main_v45
  let main_c_17 : IVec S_ 1 := constantI S_ 1 1#1
  let main_v47 : IVec S_ 1 := (fun x v => Host.reduce IntOp.andi x v reducesTo_S1x2816_S_d0_1 h_S_) main_v46 main_c_17
  let main_v48 : IVec S_ 1 := andi main_v43 main_v47
  main_v48

def fn_part1 {F : FTy → Type} [FloatOps F] (main_arg4 : FVec F S1024x1024 .f32) (main_arg5 : FVec F S1x1024 .f32) (main_arg6 : FVec F S1024x2816 .f32) (main_arg7 : FVec F S1024x2816 .f32) (main_arg8 : FVec F S3x2816 .f32) (main_arg9 : FVec F S1x2816 .f32) (main_v13 : IVec S_ 1) (main_v16 : IVec S1x512 1) : IVec S_ 1 :=
  let main_c_5 : IVec S_ 1 := constantI S_ 1 1#1
  let main_v17 : IVec S_ 1 := (fun x v => Host.reduce IntOp.andi x v reducesTo_S1x512_S_d0_1 h_S_) main_v16 main_c_5
  let main_v18 : IVec S_ 1 := andi main_v13 main_v17
  let main_v19 : FVec F S1024x1024 .f32 := subf main_arg4 main_arg4
  let main_cst_6 : FVec F S_ .f32 := constant S_ .f32 0x00000000#32
  let main_v20 : FVec F S1024x1024 .f32 := broadcastInDim S1024x1024 ![] bcast_S_S1024x1024 main_cst_6
  let main_v21 : IVec S1024x1024 1 := cmpf .oeq main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1x1024 .f32 := subf main_arg5 main_arg5
  let main_cst_8 : FVec F S_ .f32 := constant S_ .f32 0x00000000#32
  let main_v25 : FVec F S1x1024 .f32 := broadcastInDim S1x1024 ![] bcast_S_S1x1024 main_cst_8
  let main_v26 : IVec S1x1024 1 := cmpf .oeq main_v24 main_v25
  let main_c_9 : IVec S_ 1 := constantI S_ 1 1#1
  let main_v27 : IVec S_ 1 := (fun x v => Host.reduce IntOp.andi x v reducesTo_S1x1024_S_d0_1 h_S_) main_v26 main_c_9
  let main_v28 : IVec S_ 1 := andi main_v23 main_v27
  let main_v29 : FVec F S1024x2816 .f32 := subf main_arg6 main_arg6
  let main_cst_10 : FVec F S_ .f32 := constant S_ .f32 0x00000000#32
  let main_v30 : FVec F S1024x2816 .f32 := broadcastInDim S1024x2816 ![] bcast_S_S1024x2816 main_cst_10
  let main_v31 : IVec S1024x2816 1 := cmpf .oeq main_v29 main_v30
  let main_c_11 : IVec S_ 1 := constantI S_ 1 1#1
  let main_v32 : IVec S_ 1 := (fun x v => Host.reduce IntOp.andi x v reducesTo_S1024x2816_S_d0_1 h_S_) main_v31 main_c_11
  let main_v33 : IVec S_ 1 := andi main_v28 main_v32
  fn_part2 (F := F) main_arg7 main_arg8 main_arg9 main_v33

def fn {F : FTy → Type} [FloatOps F] (main_arg0 : FVec F S8192x1024 .f32) (main_arg1 : FVec F S8192x512 .f32) (main_arg2 : FVec F S8192x512 .f32) (main_arg3 : FVec F S1x512 .f32) (main_arg4 : FVec F S1024x1024 .f32) (main_arg5 : FVec F S1x1024 .f32) (main_arg6 : FVec F S1024x2816 .f32) (main_arg7 : FVec F S1024x2816 .f32) (main_arg8 : FVec F S3x2816 .f32) (main_arg9 : FVec F S1x2816 .f32) : IVec S_ 1 :=
  let main_v0 : FVec F S8192x1024 .f32 := subf main_arg0 main_arg0
  let main_cst : FVec F S_ .f32 := constant S_ .f32 0x00000000#32
  let main_v1 : FVec F S8192x1024 .f32 := broadcastInDim S8192x1024 ![] bcast_S_S8192x1024 main_cst
  let main_v2 : IVec S8192x1024 1 := cmpf .oeq main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x512 .f32 := subf main_arg1 main_arg1
  let main_cst_0 : FVec F S_ .f32 := constant S_ .f32 0x00000000#32
  let main_v5 : FVec F S8192x512 .f32 := broadcastInDim S8192x512 ![] bcast_S_S8192x512 main_cst_0
  let main_v6 : IVec S8192x512 1 := cmpf .oeq main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S8192x512 .f32 := subf main_arg2 main_arg2
  let main_cst_2 : FVec F S_ .f32 := constant S_ .f32 0x00000000#32
  let main_v10 : FVec F S8192x512 .f32 := broadcastInDim S8192x512 ![] bcast_S_S8192x512 main_cst_2
  let main_v11 : IVec S8192x512 1 := cmpf .oeq main_v9 main_v10
  let main_c_3 : IVec S_ 1 := constantI S_ 1 1#1
  let main_v12 : IVec S_ 1 := (fun x v => Host.reduce IntOp.andi x v reducesTo_S8192x512_S_d0_1 h_S_) main_v11 main_c_3
  let main_v13 : IVec S_ 1 := andi main_v8 main_v12
  let main_v14 : FVec F S1x512 .f32 := subf main_arg3 main_arg3
  let main_cst_4 : FVec F S_ .f32 := constant S_ .f32 0x00000000#32
  let main_v15 : FVec F S1x512 .f32 := broadcastInDim S1x512 ![] bcast_S_S1x512 main_cst_4
  let main_v16 : IVec S1x512 1 := cmpf .oeq main_v14 main_v15
  fn_part1 (F := F) main_arg4 main_arg5 main_arg6 main_arg7 main_arg8 main_arg9 main_v13 main_v16
-- ==== Pre_fwd_mix_finite.lean ====
abbrev S8192x1024 : Shape := ⟨2, ![8192, 1024]⟩
abbrev S1x1024 : Shape := ⟨2, ![1, 1024]⟩
abbrev S1024x3072 : Shape := ⟨2, ![1024, 3072]⟩
abbrev S3x512 : Shape := ⟨2, ![3, 512]⟩
abbrev S1x512 : Shape := ⟨2, ![1, 512]⟩
abbrev S1x64 : Shape := ⟨2, ![1, 64]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x3072 : S_.BroadcastsInDim S1024x3072 (![] : Fin 0 → Fin S1024x3072.rank)
  reducesTo_S1024x3072_S_d0_1 : S1024x3072.ReducesTo [0, 1] S_
  bcast_S_S3x512 : S_.BroadcastsInDim S3x512 (![] : Fin 0 → Fin S3x512.rank)
  reducesTo_S3x512_S_d0_1 : S3x512.ReducesTo [0, 1] S_
  bcast_S_S1x512 : S_.BroadcastsInDim S1x512 (![] : Fin 0 → Fin S1x512.rank)
  reducesTo_S1x512_S_d0_1 : S1x512.ReducesTo [0, 1] S_
  bcast_S_S1x64 : S_.BroadcastsInDim S1x64 (![] : Fin 0 → Fin S1x64.rank)
  reducesTo_S1x64_S_d0_1 : S1x64.ReducesTo [0, 1] S_

variable [Facts]

def fn_part2 {F : FTy → Type} [FloatOps F] (main_arg7 : FVec F S1x64 .f32) (main_v33 : IVec S_ 1) : IVec S_ 1 :=
  let main_v34 : FVec F S1x64 .f32 := subf main_arg7 main_arg7
  let main_cst_12 : FVec F S_ .f32 := constant S_ .f32 0x00000000#32
  let main_v35 : FVec F S1x64 .f32 := broadcastInDim S1x64 ![] bcast_S_S1x64 main_cst_12
  let main_v36 : IVec S1x64 1 := cmpf .oeq main_v34 main_v35
  let main_c_13 : IVec S_ 1 := constantI S_ 1 1#1
  let main_v37 : IVec S_ 1 := (fun x v => Host.reduce IntOp.andi x v reducesTo_S1x64_S_d0_1 h_S_) main_v36 main_c_13
  let main_v38 : IVec S_ 1 := andi main_v33 main_v37
  main_v38

def fn_part1 {F : FTy → Type} [FloatOps F] (main_arg4 : FVec F S1x512 .f32) (main_arg5 : FVec F S1x512 .f32) (main_arg6 : FVec F S1x64 .f32) (main_arg7 : FVec F S1x64 .f32) (main_v13 : IVec S_ 1) (main_v16 : IVec S3x512 1) : IVec S_ 1 :=
  let main_c_5 : IVec S_ 1 := constantI S_ 1 1#1
  let main_v17 : IVec S_ 1 := (fun x v => Host.reduce IntOp.andi x v reducesTo_S3x512_S_d0_1 h_S_) main_v16 main_c_5
  let main_v18 : IVec S_ 1 := andi main_v13 main_v17
  let main_v19 : FVec F S1x512 .f32 := subf main_arg4 main_arg4
  let main_cst_6 : FVec F S_ .f32 := constant S_ .f32 0x00000000#32
  let main_v20 : FVec F S1x512 .f32 := broadcastInDim S1x512 ![] bcast_S_S1x512 main_cst_6
  let main_v21 : IVec S1x512 1 := cmpf .oeq main_v19 main_v20
  let main_c_7 : IVec S_ 1 := constantI S_ 1 1#1
  let main_v22 : IVec S_ 1 := (fun x v => Host.reduce IntOp.andi x v reducesTo_S1x512_S_d0_1 h_S_) main_v21 main_c_7
  let main_v23 : IVec S_ 1 := andi main_v18 main_v22
  let main_v24 : FVec F S1x512 .f32 := subf main_arg5 main_arg5
  let main_cst_8 : FVec F S_ .f32 := constant S_ .f32 0x00000000#32
  let main_v25 : FVec F S1x512 .f32 := broadcastInDim S1x512 ![] bcast_S_S1x512 main_cst_8
  let main_v26 : IVec S1x512 1 := cmpf .oeq main_v24 main_v25
  let main_c_9 : IVec S_ 1 := constantI S_ 1 1#1
  let main_v27 : IVec S_ 1 := (fun x v => Host.reduce IntOp.andi x v reducesTo_S1x512_S_d0_1 h_S_) main_v26 main_c_9
  let main_v28 : IVec S_ 1 := andi main_v23 main_v27
  let main_v29 : FVec F S1x64 .f32 := subf main_arg6 main_arg6
  let main_cst_10 : FVec F S_ .f32 := constant S_ .f32 0x00000000#32
  let main_v30 : FVec F S1x64 .f32 := broadcastInDim S1x64 ![] bcast_S_S1x64 main_cst_10
  let main_v31 : IVec S1x64 1 := cmpf .oeq main_v29 main_v30
  let main_c_11 : IVec S_ 1 := constantI S_ 1 1#1
  let main_v32 : IVec S_ 1 := (fun x v => Host.reduce IntOp.andi x v reducesTo_S1x64_S_d0_1 h_S_) main_v31 main_c_11
  let main_v33 : IVec S_ 1 := andi main_v28 main_v32
  fn_part2 (F := F) main_arg7 main_v33

def fn {F : FTy → Type} [FloatOps F] (main_arg0 : FVec F S8192x1024 .f32) (main_arg1 : FVec F S1x1024 .f32) (main_arg2 : FVec F S1024x3072 .f32) (main_arg3 : FVec F S3x512 .f32) (main_arg4 : FVec F S1x512 .f32) (main_arg5 : FVec F S1x512 .f32) (main_arg6 : FVec F S1x64 .f32) (main_arg7 : FVec F S1x64 .f32) : IVec S_ 1 :=
  let main_v0 : FVec F S8192x1024 .f32 := subf main_arg0 main_arg0
  let main_cst : FVec F S_ .f32 := constant S_ .f32 0x00000000#32
  let main_v1 : FVec F S8192x1024 .f32 := broadcastInDim S8192x1024 ![] bcast_S_S8192x1024 main_cst
  let main_v2 : IVec S8192x1024 1 := cmpf .oeq main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1x1024 .f32 := subf main_arg1 main_arg1
  let main_cst_0 : FVec F S_ .f32 := constant S_ .f32 0x00000000#32
  let main_v5 : FVec F S1x1024 .f32 := broadcastInDim S1x1024 ![] bcast_S_S1x1024 main_cst_0
  let main_v6 : IVec S1x1024 1 := cmpf .oeq main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1024x3072 .f32 := subf main_arg2 main_arg2
  let main_cst_2 : FVec F S_ .f32 := constant S_ .f32 0x00000000#32
  let main_v10 : FVec F S1024x3072 .f32 := broadcastInDim S1024x3072 ![] bcast_S_S1024x3072 main_cst_2
  let main_v11 : IVec S1024x3072 1 := cmpf .oeq main_v9 main_v10
  let main_c_3 : IVec S_ 1 := constantI S_ 1 1#1
  let main_v12 : IVec S_ 1 := (fun x v => Host.reduce IntOp.andi x v reducesTo_S1024x3072_S_d0_1 h_S_) main_v11 main_c_3
  let main_v13 : IVec S_ 1 := andi main_v8 main_v12
  let main_v14 : FVec F S3x512 .f32 := subf main_arg3 main_arg3
  let main_cst_4 : FVec F S_ .f32 := constant S_ .f32 0x00000000#32
  let main_v15 : FVec F S3x512 .f32 := broadcastInDim S3x512 ![] bcast_S_S3x512 main_cst_4
  let main_v16 : IVec S3x512 1 := cmpf .oeq main_v14 main_v15
  fn_part1 (F := F) main_arg4 main_arg5 main_arg6 main_arg7 main_v13 main_v16
-- ==== Pre_fwd_tail_finite.lean ====
abbrev S8192x1024 : Shape := ⟨2, ![8192, 1024]⟩
abbrev S8192x2816 : Shape := ⟨2, ![8192, 2816]⟩
abbrev S8192x256 : Shape := ⟨2, ![8192, 256]⟩
abbrev S2816x1024 : Shape := ⟨2, ![2816, 1024]⟩
abbrev S1024x1024 : Shape := ⟨2, ![1024, 1024]⟩
abbrev S256x1024 : Shape := ⟨2, ![256, 1024]⟩
abbrev S1x1024 : Shape := ⟨2, ![1, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x2816 : S_.BroadcastsInDim S8192x2816 (![] : Fin 0 → Fin S8192x2816.rank)
  reducesTo_S8192x2816_S_d0_1 : S8192x2816.ReducesTo [0, 1] S_
  bcast_S_S8192x256 : S_.BroadcastsInDim S8192x256 (![] : Fin 0 → Fin S8192x256.rank)
  reducesTo_S8192x256_S_d0_1 : S8192x256.ReducesTo [0, 1] S_
  bcast_S_S2816x1024 : S_.BroadcastsInDim S2816x1024 (![] : Fin 0 → Fin S2816x1024.rank)
  reducesTo_S2816x1024_S_d0_1 : S2816x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S256x1024 : S_.BroadcastsInDim S256x1024 (![] : Fin 0 → Fin S256x1024.rank)
  reducesTo_S256x1024_S_d0_1 : S256x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part2 {F : FTy → Type} [FloatOps F] (main_arg7 : FVec F S1x1024 .f32) (main_v33 : IVec S_ 1) : IVec S_ 1 :=
  let main_v34 : FVec F S1x1024 .f32 := subf main_arg7 main_arg7
  let main_cst_12 : FVec F S_ .f32 := constant S_ .f32 0x00000000#32
  let main_v35 : FVec F S1x1024 .f32 := broadcastInDim S1x1024 ![] bcast_S_S1x1024 main_cst_12
  let main_v36 : IVec S1x1024 1 := cmpf .oeq main_v34 main_v35
  let main_c_13 : IVec S_ 1 := constantI S_ 1 1#1
  let main_v37 : IVec S_ 1 := (fun x v => Host.reduce IntOp.andi x v reducesTo_S1x1024_S_d0_1 h_S_) main_v36 main_c_13
  let main_v38 : IVec S_ 1 := andi main_v33 main_v37
  main_v38

def fn_part1 {F : FTy → Type} [FloatOps F] (main_arg4 : FVec F S2816x1024 .f32) (main_arg5 : FVec F S1024x1024 .f32) (main_arg6 : FVec F S256x1024 .f32) (main_arg7 : FVec F S1x1024 .f32) (main_v13 : IVec S_ 1) (main_v16 : IVec S8192x1024 1) : IVec S_ 1 :=
  let main_c_5 : IVec S_ 1 := constantI S_ 1 1#1
  let main_v17 : IVec S_ 1 := (fun x v => Host.reduce IntOp.andi x v reducesTo_S8192x1024_S_d0_1 h_S_) main_v16 main_c_5
  let main_v18 : IVec S_ 1 := andi main_v13 main_v17
  let main_v19 : FVec F S2816x1024 .f32 := subf main_arg4 main_arg4
  let main_cst_6 : FVec F S_ .f32 := constant S_ .f32 0x00000000#32
  let main_v20 : FVec F S2816x1024 .f32 := broadcastInDim S2816x1024 ![] bcast_S_S2816x1024 main_cst_6
  let main_v21 : IVec S2816x1024 1 := cmpf .oeq main_v19 main_v20
  let main_c_7 : IVec S_ 1 := constantI S_ 1 1#1
  let main_v22 : IVec S_ 1 := (fun x v => Host.reduce IntOp.andi x v reducesTo_S2816x1024_S_d0_1 h_S_) main_v21 main_c_7
  let main_v23 : IVec S_ 1 := andi main_v18 main_v22
  let main_v24 : FVec F S1024x1024 .f32 := subf main_arg5 main_arg5
  let main_cst_8 : FVec F S_ .f32 := constant S_ .f32 0x00000000#32
  let main_v25 : FVec F S1024x1024 .f32 := broadcastInDim S1024x1024 ![] bcast_S_S1024x1024 main_cst_8
  let main_v26 : IVec S1024x1024 1 := cmpf .oeq main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S256x1024 .f32 := subf main_arg6 main_arg6
  let main_cst_10 : FVec F S_ .f32 := constant S_ .f32 0x00000000#32
  let main_v30 : FVec F S256x1024 .f32 := broadcastInDim S256x1024 ![] bcast_S_S256x1024 main_cst_10
  let main_v31 : IVec S256x1024 1 := cmpf .oeq main_v29 main_v30
  let main_c_11 : IVec S_ 1 := constantI S_ 1 1#1
  let main_v32 : IVec S_ 1 := (fun x v => Host.reduce IntOp.andi x v reducesTo_S256x1024_S_d0_1 h_S_) main_v31 main_c_11
  let main_v33 : IVec S_ 1 := andi main_v28 main_v32
  fn_part2 (F := F) main_arg7 main_v33

def fn {F : FTy → Type} [FloatOps F] (main_arg0 : FVec F S8192x1024 .f32) (main_arg1 : FVec F S8192x2816 .f32) (main_arg2 : FVec F S8192x256 .f32) (main_arg3 : FVec F S8192x1024 .f32) (main_arg4 : FVec F S2816x1024 .f32) (main_arg5 : FVec F S1024x1024 .f32) (main_arg6 : FVec F S256x1024 .f32) (main_arg7 : FVec F S1x1024 .f32) : IVec S_ 1 :=
  let main_v0 : FVec F S8192x1024 .f32 := subf main_arg0 main_arg0
  let main_cst : FVec F S_ .f32 := constant S_ .f32 0x00000000#32
  let main_v1 : FVec F S8192x1024 .f32 := broadcastInDim S8192x1024 ![] bcast_S_S8192x1024 main_cst
  let main_v2 : IVec S8192x1024 1 := cmpf .oeq main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x2816 .f32 := subf main_arg1 main_arg1
  let main_cst_0 : FVec F S_ .f32 := constant S_ .f32 0x00000000#32
  let main_v5 : FVec F S8192x2816 .f32 := broadcastInDim S8192x2816 ![] bcast_S_S8192x2816 main_cst_0
  let main_v6 : IVec S8192x2816 1 := cmpf .oeq main_v4 main_v5
  let main_c_1 : IVec S_ 1 := constantI S_ 1 1#1
  let main_v7 : IVec S_ 1 := (fun x v => Host.reduce IntOp.andi x v reducesTo_S8192x2816_S_d0_1 h_S_) main_v6 main_c_1
  let main_v8 : IVec S_ 1 := andi main_v3 main_v7
  let main_v9 : FVec F S8192x256 .f32 := subf main_arg2 main_arg2
  let main_cst_2 : FVec F S_ .f32 := constant S_ .f32 0x00000000#32
  let main_v10 : FVec F S8192x256 .f32 := broadcastInDim S8192x256 ![] bcast_S_S8192x256 main_cst_2
  let main_v11 : IVec S8192x256 1 := cmpf .oeq main_v9 main_v10
  let main_c_3 : IVec S_ 1 := constantI S_ 1 1#1
  let main_v12 : IVec S_ 1 := (fun x v => Host.reduce IntOp.andi x v reducesTo_S8192x256_S_d0_1 h_S_) main_v11 main_c_3
  let main_v13 : IVec S_ 1 := andi main_v8 main_v12
  let main_v14 : FVec F S8192x1024 .f32 := subf main_arg3 main_arg3
  let main_cst_4 : FVec F S_ .f32 := constant S_ .f32 0x00000000#32
  let main_v15 : FVec F S8192x1024 .f32 := broadcastInDim S8192x1024 ![] bcast_S_S8192x1024 main_cst_4
  let main_v16 : IVec S8192x1024 1 := cmpf .oeq main_v14 main_v15
  fn_part1 (F := F) main_arg4 main_arg5 main_arg6 main_arg7 main_v13 main_v16
-- ==== BwdIn.lean ====
abbrev S8192x1024 : Shape := ⟨2, ![8192, 1024]⟩
abbrev S1x1024 : Shape := ⟨2, ![1, 1024]⟩
abbrev S1024x3072 : Shape := ⟨2, ![1024, 3072]⟩
abbrev S8192x3072 : Shape := ⟨2, ![8192, 3072]⟩
abbrev S1024x4x768 : Shape := ⟨3, ![1024, 4, 768]⟩
abbrev S4x1024x768 : Shape := ⟨3, ![4, 1024, 768]⟩
abbrev S512x1024 : Shape := ⟨2, ![512, 1024]⟩
abbrev S512x3072 : Shape := ⟨2, ![512, 3072]⟩
abbrev S512x768 : Shape := ⟨2, ![512, 768]⟩
abbrev S1x1024x768 : Shape := ⟨3, ![1, 1024, 768]⟩
abbrev S1024x768 : Shape := ⟨2, ![1024, 768]⟩
abbrev S512 : Shape := ⟨1, ![512]⟩
abbrev S512x1 : Shape := ⟨2, ![512, 1]⟩
abbrev S1024 : Shape := ⟨1, ![1024]⟩

abbrev nBuf : Space → Nat
  | .hbm => 11
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x3072, .f32⟩
  | .hbm, ⟨3, _⟩ => ⟨S8192x3072, .f32⟩
  | .hbm, ⟨4, _⟩ => ⟨S8192x1024, .f32⟩
  | .hbm, ⟨5, _⟩ => ⟨S1024x4x768, .f32⟩
  | .hbm, ⟨6, _⟩ => ⟨S4x1024x768, .f32⟩
  | .hbm, ⟨7, _⟩ => ⟨S4x1024x768, .bf16⟩
  | .hbm, ⟨8, _⟩ => ⟨S8192x3072, .bf16⟩
  | .hbm, ⟨9, _⟩ => ⟨S8192x1024, .f32⟩
  | .hbm, ⟨10, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x3072, .bf16⟩
  | .local _ .vmem, ⟨5, _⟩ => ⟨S512x3072, .bf16⟩
  | .local _ .vmem, ⟨6, _⟩ => ⟨S4x1024x768, .bf16⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x1024x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== BwdInRefIdeal.lean ====
abbrev S8192x1024 : Shape := ⟨2, ![8192, 1024]⟩
abbrev S1x1024 : Shape := ⟨2, ![1, 1024]⟩
abbrev S1024x3072 : Shape := ⟨2, ![1024, 3072]⟩
abbrev S8192x3072 : Shape := ⟨2, ![8192, 3072]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 50
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x3072, .f32⟩
  | .hbm, ⟨3, _⟩ => ⟨S8192x3072, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x3072, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== BwdFfnA.lean ====
abbrev S8192x2816 : Shape := ⟨2, ![8192, 2816]⟩
abbrev S2816x1024 : Shape := ⟨2, ![2816, 1024]⟩
abbrev S3x2816 : Shape := ⟨2, ![3, 2816]⟩
abbrev S1x2816 : Shape := ⟨2, ![1, 2816]⟩
abbrev S8192x1024 : Shape := ⟨2, ![8192, 1024]⟩
abbrev S_ : Shape := ⟨0, ![]⟩
abbrev S2x2816 : Shape := ⟨2, ![2, 2816]⟩
abbrev S8194x2816 : Shape := ⟨2, ![8194, 2816]⟩
abbrev S2816 : Shape := ⟨1, ![2816]⟩
abbrev S512x1024 : Shape := ⟨2, ![512, 1024]⟩
abbrev S512x2816 : Shape := ⟨2, ![512, 2816]⟩
abbrev S520x2816 : Shape := ⟨2, ![520, 2816]⟩
abbrev S8x2816 : Shape := ⟨2, ![8, 2816]⟩
abbrev S512x1408 : Shape := ⟨2, ![512, 1408]⟩
abbrev S1x1408 : Shape := ⟨2, ![1, 1408]⟩
abbrev S1408x1024 : Shape := ⟨2, ![1408, 1024]⟩
abbrev S520x1408 : Shape := ⟨2, ![520, 1408]⟩
abbrev S1408 : Shape := ⟨1, ![1408]⟩

abbrev nBuf : Space → Nat
  | .hbm => 39
  | .vmem => 17
  | .smem => 0
  | _ => 0

abbrev bufTy : (tb : Table) → Fin (tcTables nBuf tb) → BufTy
  | .hbm, ⟨0, _⟩ => ⟨S8192x2816, .f32⟩
  | .hbm, ⟨1, _⟩ => ⟨S8192x2816, .f32⟩
  | .hbm, ⟨2, _⟩ => ⟨S2816x1024, .f32⟩
  | .hbm, ⟨3, _⟩ => ⟨S3x2816, .f32⟩
  | .hbm, ⟨4, _⟩ => ⟨S1x2816, .f32⟩
  | .hbm, ⟨5, _⟩ => ⟨S8192x1024, .f32⟩
  | .hbm, ⟨6, _⟩ => ⟨S_, .f32⟩
  | .hbm, ⟨7, _⟩ => ⟨S2x2816, .f32⟩
  | .hbm, ⟨8, _⟩ => ⟨S8194x2816, .f32⟩
  | .hbm, ⟨9, _⟩ => ⟨S8192x2816, .f32⟩
  | .hbm, ⟨10, _⟩ => ⟨S1x2816, .f32⟩
  | .hbm, ⟨11, _⟩ => ⟨S2816, .f32⟩
  | .hbm, ⟨12, _⟩ => ⟨S1x2816, .f32⟩
  | .hbm, ⟨13, _⟩ => ⟨S8192x2816, .f32⟩
  | .hbm, ⟨14, _⟩ => ⟨S8192x2816, .f32⟩
  | .hbm, ⟨15, _⟩ => ⟨S8192x2816, .f32⟩
  | .hbm, ⟨16, _⟩ => ⟨S1x2816, .f32⟩
  | .hbm, ⟨17, _⟩ => ⟨S2816, .f32⟩
  | .hbm, ⟨18, _⟩ => ⟨S1x2816, .f32⟩
  | .hbm, ⟨19, _⟩ => ⟨S8192x2816, .f32⟩
  | .hbm, ⟨20, _⟩ => ⟨S8192x2816, .f32⟩
  | .hbm, ⟨21, _⟩ => ⟨S8192x2816, .f32⟩
  | .hbm, ⟨22, _⟩ => ⟨S8192x2816, .f32⟩
  | .hbm, ⟨23, _⟩ => ⟨S1x2816, .f32⟩
  | .hbm, ⟨24, _⟩ => ⟨S2816, .f32⟩
  | .hbm, ⟨25, _⟩ => ⟨S1x2816, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S8192x2816, .f32⟩
  | .hbm, ⟨31, _⟩ => ⟨S8192x2816, .bf16⟩
  | .hbm, ⟨32, _⟩ => ⟨S8192x2816, .bf16⟩
  | .hbm, ⟨33, _⟩ => ⟨S8192x2816, .bf16⟩
  | .hbm, ⟨34, _⟩ => ⟨S2816x1024, .bf16⟩
  | .hbm, ⟨35, _⟩ => ⟨S8192x2816, .bf16⟩
  | .hbm, ⟨36, _⟩ => ⟨S8192x2816, .bf16⟩
  | .hbm, ⟨37, _⟩ => ⟨S3x2816, .f32⟩
  | .hbm, ⟨38, _⟩ => ⟨S1x2816, .f32⟩
  | .local _ .vmem, ⟨0, _⟩ => ⟨S512x1024, .f32⟩
  | .local _ .vmem, ⟨1, _⟩ => ⟨S512x1024, .f32⟩
  | .local _ .vmem, ⟨2, _⟩ => ⟨S512x2816, .bf16⟩
  | .local _ .vmem, ⟨3, _⟩ => ⟨S512x2816, .bf16⟩
  | .local _ .vmem, ⟨4, _⟩ => ⟨S512x2816, .bf16⟩
  | .local _ .vmem, ⟨5, _⟩ => ⟨S512x2816, .bf16⟩
  | .local _ .vmem, ⟨6, _⟩ => ⟨S512x2816, .bf16⟩
  | .local _ .vmem, ⟨7, _⟩ => ⟨S512x2816, .bf16⟩
  | .local _ .vmem, ⟨8, _⟩ => ⟨S2816x1024, .bf16⟩
  | .local _ .vmem, ⟨9, _⟩ => ⟨S3x2816, .f32⟩
  | .local _ .vmem, ⟨10, _⟩ => ⟨S512x2816, .bf16⟩
  | .local _ .vmem, ⟨11, _⟩ => ⟨S512x2816, .bf16⟩
  | .local _ .vmem, ⟨12, _⟩ => ⟨S512x2816, .bf16⟩
  | .local _ .vmem, ⟨13, _⟩ => ⟨S512x2816, .bf16⟩
  | .local _ .vmem, ⟨14, _⟩ => ⟨S3x2816, .f32⟩
  | .local _ .vmem, ⟨15, _⟩ => ⟨S1x2816, .f32⟩
  | .local _ .vmem, ⟨16, _⟩ => ⟨S520x2816, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28_0 : Ref sig .tc := ⟨.hbm, 35, rfl⟩
abbrev main_v28_1 : Ref sig .tc := ⟨.hbm, 36, rfl⟩
abbrev main_v28_2 : Ref sig .tc := ⟨.hbm, 37, rfl⟩
abbrev main_v28_3 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S3x2816 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2816 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== BwdFfnARefIdeal.lean ====
abbrev S8192x2816 : Shape := ⟨2, ![8192, 2816]⟩
abbrev S2816x1024 : Shape := ⟨2, ![2816, 1024]⟩
abbrev S3x2816 : Shape := ⟨2, ![3, 2816]⟩
abbrev S1x2816 : Shape := ⟨2, ![1, 2816]⟩
abbrev S8192x1024 : Shape := ⟨2, ![8192, 1024]⟩
abbrev S_ : Shape := ⟨0, ![]⟩
abbrev S2x2816 : Shape := ⟨2, ![2, 2816]⟩
abbrev S8194x2816 : Shape := ⟨2, ![8194, 2816]⟩
abbrev S2816 : Shape := ⟨1, ![2816]⟩

abbrev nBuf : Space → Nat
  | .hbm => 105
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x2816, .f32⟩
  | .hbm, ⟨2, _⟩ => ⟨S2816x1024, .f32⟩
  | .hbm, ⟨3, _⟩ => ⟨S3x2816, .f32⟩
  | .hbm, ⟨4, _⟩ => ⟨S1x2816, .f32⟩
  | .hbm, ⟨5, _⟩ => ⟨S8192x1024, .f32⟩
  | .hbm, ⟨6, _⟩ => ⟨S_, .f32⟩
  | .hbm, ⟨7, _⟩ => ⟨S2x2816, .f32⟩
  | .hbm, ⟨8, _⟩ => ⟨S8194x2816, .f32⟩
  | .hbm, ⟨9, _⟩ => ⟨S_, .f32⟩
  | .hbm, ⟨10, _⟩ => ⟨S2x2816, .f32⟩
  | .hbm, ⟨11, _⟩ => ⟨S8192x2816, .f32⟩
  | .hbm, ⟨12, _⟩ => ⟨S1x2816, .f32⟩
  | .hbm, ⟨13, _⟩ => ⟨S2816, .f32⟩
  | .hbm, ⟨14, _⟩ => ⟨S1x2816, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S1x2816, .f32⟩
  | .hbm, ⟨19, _⟩ => ⟨S2816, .f32⟩
  | .hbm, ⟨20, _⟩ => ⟨S1x2816, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S1x2816, .f32⟩
  | .hbm, ⟨26, _⟩ => ⟨S2816, .f32⟩
  | .hbm, ⟨27, _⟩ => ⟨S1x2816, .f32⟩
  | .hbm, ⟨28, _⟩ => ⟨S8192x2816, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S8192x2816, .f32⟩
  | .hbm, ⟨35, _⟩ => ⟨S_, .f32⟩
  | .hbm, ⟨36, _⟩ => ⟨S8192x2816, .f32⟩
  | .hbm, ⟨37, _⟩ => ⟨S8192x2816, .f32⟩
  | .hbm, ⟨38, _⟩ => ⟨S_, .f32⟩
  | .hbm, ⟨39, _⟩ => ⟨S8192x2816, .f32⟩
  | .hbm, ⟨40, _⟩ => ⟨S8192x2816, .f32⟩
  | .hbm, ⟨41, _⟩ => ⟨S_, .f32⟩
  | .hbm, ⟨42, _⟩ => ⟨S8192x2816, .f32⟩
  | .hbm, ⟨43, _⟩ => ⟨S8192x2816, .f32⟩
  | .hbm, ⟨44, _⟩ => ⟨S8192x2816, .f32⟩
  | .hbm, ⟨45, _⟩ => ⟨S8192x2816, .f32⟩
  | .hbm, ⟨46, _⟩ => ⟨S8192x2816, .f32⟩
  | .hbm, ⟨47, _⟩ => ⟨S8192x1024, .f32⟩
  | .hbm, ⟨48, _⟩ => ⟨S8192x2816, .f32⟩
  | .hbm, ⟨49, _⟩ => ⟨S8192x2816, .f32⟩
  | .hbm, ⟨50, _⟩ => ⟨S8192x2816, .f32⟩
  | .hbm, ⟨51, _⟩ => ⟨S8192x2816, .f32⟩
  | .hbm, ⟨52, _⟩ => ⟨S8192x2816, .f32⟩
  | .hbm, ⟨53, _⟩ => ⟨S8192x2816, .f32⟩
  | .hbm, ⟨54, _⟩ => ⟨S8192x2816, .f32⟩
  | .hbm, ⟨55, _⟩ => ⟨S_, .f32⟩
  | .hbm, ⟨56, _⟩ => ⟨S2816, .f32⟩
  | .hbm, ⟨57, _⟩ => ⟨S1x2816, .f32⟩
  | .hbm, ⟨58, _⟩ => ⟨S8192x2816, .f32⟩
  | .hbm, ⟨59, _⟩ => ⟨S_, .f32⟩
  | .hbm, ⟨60, _⟩ => ⟨S2816, .f32⟩
  | .hbm, ⟨61, _⟩ => ⟨S1x2816, .f32⟩
  | .hbm, ⟨62, _⟩ => ⟨S8192x2816, .f32⟩
  | .hbm, ⟨63, _⟩ => ⟨S8192x2816, .f32⟩
  | .hbm, ⟨64, _⟩ => ⟨S_, .f32⟩
  | .hbm, ⟨65, _⟩ => ⟨S2816, .f32⟩
  | .hbm, ⟨66, _⟩ => ⟨S1x2816, .f32⟩
  | .hbm, ⟨67, _⟩ => ⟨S_, .f32⟩
  | .hbm, ⟨68, _⟩ => ⟨S3x2816, .f32⟩
  | .hbm, ⟨69, _⟩ => ⟨S_, .f32⟩
  | .hbm, ⟨70, _⟩ => ⟨S8194x2816, .f32⟩
  | .hbm, ⟨71, _⟩ => ⟨S8192x2816, .f32⟩
  | .hbm, ⟨72, _⟩ => ⟨S_, .f32⟩
  | .hbm, ⟨73, _⟩ => ⟨S2816, .f32⟩
  | .hbm, ⟨74, _⟩ => ⟨S1x2816, .f32⟩
  | .hbm, ⟨75, _⟩ => ⟨S8192x2816, .f32⟩
  | .hbm, ⟨76, _⟩ => ⟨S8192x2816, .f32⟩
  | .hbm, ⟨77, _⟩ => ⟨S_, .f32⟩
  | .hbm, ⟨78, _⟩ => ⟨S2816, .f32⟩
  | .hbm, ⟨79, _⟩ => ⟨S1x2816, .f32⟩
  | .hbm, ⟨80, _⟩ => ⟨S_, .f32⟩
  | .hbm, ⟨81, _⟩ => ⟨S3x2816, .f32⟩
  | .hbm, ⟨82, _⟩ => ⟨S3x2816, .f32⟩
  | .hbm, ⟨83, _⟩ => ⟨S_, .f32⟩
  | .hbm, ⟨84, _⟩ => ⟨S8194x2816, .f32⟩
  | .hbm, ⟨85, _⟩ => ⟨S8194x2816, .f32⟩
  | .hbm, ⟨86, _⟩ => ⟨S8192x2816, .f32⟩
  | .hbm, ⟨87, _⟩ => ⟨S_, .f32⟩
  | .hbm, ⟨88, _⟩ => ⟨S2816, .f32⟩
  | .hbm, ⟨89, _⟩ => ⟨S1x2816, .f32⟩
  | .hbm, ⟨90, _⟩ => ⟨S8192x2816, .f32⟩
  | .hbm, ⟨91, _⟩ => ⟨S8192x2816, .f32⟩
  | .hbm, ⟨92, _⟩ => ⟨S_, .f32⟩
  | .hbm, ⟨93, _⟩ => ⟨S2816, .f32⟩
  | .hbm, ⟨94, _⟩ => ⟨S1x2816, .f32⟩
  | .hbm, ⟨95, _⟩ => ⟨S_, .f32⟩
  | .hbm, ⟨96, _⟩ => ⟨S3x2816, .f32⟩
  | .hbm, ⟨97, _⟩ => ⟨S3x2816, .f32⟩
  | .hbm, ⟨98, _⟩ => ⟨S_, .f32⟩
  | .hbm, ⟨99, _⟩ => ⟨S8194x2816, .f32⟩
  | .hbm, ⟨100, _⟩ => ⟨S8194x2816, .f32⟩
  | .hbm, ⟨101, _⟩ => ⟨S2x2816, .f32⟩
  | .hbm, ⟨102, _⟩ => ⟨S8192x2816, .f32⟩
  | .hbm, ⟨103, _⟩ => ⟨S8192x2816, .bf16⟩
  | .hbm, ⟨104, _⟩ => ⟨S8192x2816, .bf16⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_v25_2 : Ref sig .tc := ⟨.hbm, 40, rfl⟩
abbrev main_call0_cst_1 : Ref sig .tc := ⟨.hbm, 41, rfl⟩
abbrev main_call0_v6 : Ref sig .tc := ⟨.hbm, 42, rfl⟩
abbrev main_call0_v7 : Ref sig .tc := ⟨.hbm, 43, rfl⟩
abbrev main_v25_1 : Ref sig .tc := ⟨.hbm, 44, rfl⟩
abbrev main_v25_0 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_v31 : Ref sig .tc := ⟨.hbm, 54, rfl⟩
abbrev main_cst_1 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_2 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_3 : Ref sig .tc := ⟨.hbm, 64, rfl⟩
abbrev main_v39 : Ref sig .tc := ⟨.hbm, 65, rfl⟩
abbrev main_v40 : Ref sig .tc := ⟨.hbm, 66, rfl⟩
abbrev main_cst_4 : Ref sig .tc := ⟨.hbm, 67, rfl⟩
abbrev main_v41 : Ref sig .tc := ⟨.hbm, 68, rfl⟩
abbrev main_cst_5 : Ref sig .tc := ⟨.hbm, 69, rfl⟩
abbrev main_v42 : Ref sig .tc := ⟨.hbm, 70, rfl⟩
abbrev main_v43 : Ref sig .tc := ⟨.hbm, 71, rfl⟩
abbrev main_cst_6 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_cst_7 : Ref sig .tc := ⟨.hbm, 77, rfl⟩
abbrev main_v48 : Ref sig .tc := ⟨.hbm, 78, rfl⟩
abbrev main_v49 : Ref sig .tc := ⟨.hbm, 79, rfl⟩
abbrev main_cst_8 : Ref sig .tc := ⟨.hbm, 80, rfl⟩
abbrev main_v50 : Ref sig .tc := ⟨.hbm, 81, rfl⟩
abbrev main_v51 : Ref sig .tc := ⟨.hbm, 82, rfl⟩
abbrev main_cst_9 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_cst_10 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_cst_11 : Ref sig .tc := ⟨.hbm, 92, rfl⟩
abbrev main_v59 : Ref sig .tc := ⟨.hbm, 93, rfl⟩
abbrev main_v60 : Ref sig .tc := ⟨.hbm, 94, rfl⟩
abbrev main_cst_12 : Ref sig .tc := ⟨.hbm, 95, rfl⟩
abbrev main_v61 : Ref sig .tc := ⟨.hbm, 96, rfl⟩
abbrev main_v62 : Ref sig .tc := ⟨.hbm, 97, rfl⟩
abbrev main_cst_13 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩

abbrev nD : Nat := 1
abbrev τ : Topo := Topo.v7x

variable {F : FTy → Type} [FloatOps F]
-- ==== BwdFfnB.lean ====
abbrev S8192x1024 : Shape := ⟨2, ![8192, 1024]⟩
abbrev S8192x512 : Shape := ⟨2, ![8192, 512]⟩
abbrev S1x512 : Shape := ⟨2, ![1, 512]⟩
abbrev S1024x1024 : Shape := ⟨2, ![1024, 1024]⟩
abbrev S1x1024 : Shape := ⟨2, ![1, 1024]⟩
abbrev S1024x2816 : Shape := ⟨2, ![1024, 2816]⟩
abbrev S8192x2816 : Shape := ⟨2, ![8192, 2816]⟩
abbrev S_ : Shape := ⟨0, ![]⟩
abbrev S8192 : Shape := ⟨1, ![8192]⟩
abbrev S8192x1 : Shape := ⟨2, ![8192, 1]⟩
abbrev S2816x1024 : Shape := ⟨2, ![2816, 1024]⟩
abbrev S512x2816 : Shape := ⟨2, ![512, 2816]⟩
abbrev S512x1024 : Shape := ⟨2, ![512, 1024]⟩
abbrev S512x512 : Shape := ⟨2, ![512, 512]⟩
abbrev S512x1408 : Shape := ⟨2, ![512, 1408]⟩
abbrev S1408x1024 : Shape := ⟨2, ![1408, 1024]⟩
abbrev S512 : Shape := ⟨1, ![512]⟩
abbrev S512x1 : Shape := ⟨2, ![512, 1]⟩
abbrev S1024 : Shape := ⟨1, ![1024]⟩

abbrev nBuf : Space → Nat
  | .hbm => 41
  | .vmem => 23
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S1x512, .f32⟩
  | .hbm, ⟨4, _⟩ => ⟨S1024x1024, .f32⟩
  | .hbm, ⟨5, _⟩ => ⟨S1x1024, .f32⟩
  | .hbm, ⟨6, _⟩ => ⟨S1024x2816, .f32⟩
  | .hbm, ⟨7, _⟩ => ⟨S1024x2816, .f32⟩
  | .hbm, ⟨8, _⟩ => ⟨S8192x2816, .f32⟩
  | .hbm, ⟨9, _⟩ => ⟨S8192x2816, .f32⟩
  | .hbm, ⟨10, _⟩ => ⟨S8192x1024, .f32⟩
  | .hbm, ⟨11, _⟩ => ⟨S8192x512, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x512, .f32⟩
  | .hbm, ⟨23, _⟩ => ⟨S8192x512, .f32⟩
  | .hbm, ⟨24, _⟩ => ⟨S8192x512, .f32⟩
  | .hbm, ⟨25, _⟩ => ⟨S8192x512, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x2816, .bf16⟩
  | .hbm, ⟨30, _⟩ => ⟨S8192x2816, .bf16⟩
  | .hbm, ⟨31, _⟩ => ⟨S2816x1024, .f32⟩
  | .hbm, ⟨32, _⟩ => ⟨S2816x1024, .bf16⟩
  | .hbm, ⟨33, _⟩ => ⟨S2816x1024, .f32⟩
  | .hbm, ⟨34, _⟩ => ⟨S2816x1024, .bf16⟩
  | .hbm, ⟨35, _⟩ => ⟨S1024x1024, .bf16⟩
  | .hbm, ⟨36, _⟩ => ⟨S8192x1024, .f32⟩
  | .hbm, ⟨37, _⟩ => ⟨S8192x512, .f32⟩
  | .hbm, ⟨38, _⟩ => ⟨S8192x512, .f32⟩
  | .hbm, ⟨39, _⟩ => ⟨S1x1024, .f32⟩
  | .hbm, ⟨40, _⟩ => ⟨S1x512, .f32⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x512, .f32⟩
  | .local _ .vmem, ⟨9, _⟩ => ⟨S512x512, .f32⟩
  | .local _ .vmem, ⟨10, _⟩ => ⟨S2816x1024, .bf16⟩
  | .local _ .vmem, ⟨11, _⟩ => ⟨S2816x1024, .bf16⟩
  | .local _ .vmem, ⟨12, _⟩ => ⟨S1024x1024, .bf16⟩
  | .local _ .vmem, ⟨13, _⟩ => ⟨S1x1024, .f32⟩
  | .local _ .vmem, ⟨14, _⟩ => ⟨S1x512, .f32⟩
  | .local _ .vmem, ⟨15, _⟩ => ⟨S512x1024, .f32⟩
  | .local _ .vmem, ⟨16, _⟩ => ⟨S512x1024, .f32⟩
  | .local _ .vmem, ⟨17, _⟩ => ⟨S512x512, .f32⟩
  | .local _ .vmem, ⟨18, _⟩ => ⟨S512x512, .f32⟩
  | .local _ .vmem, ⟨19, _⟩ => ⟨S512x512, .f32⟩
  | .local _ .vmem, ⟨20, _⟩ => ⟨S512x512, .f32⟩
  | .local _ .vmem, ⟨21, _⟩ => ⟨S1x1024, .f32⟩
  | .local _ .vmem, ⟨22, _⟩ => ⟨S1x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22_0 : Ref sig .tc := ⟨.hbm, 36, rfl⟩
abbrev main_v22_1 : Ref sig .tc := ⟨.hbm, 37, rfl⟩
abbrev main_v22_2 : Ref sig .tc := ⟨.hbm, 38, rfl⟩
abbrev main_v22_3 : Ref sig .tc := ⟨.hbm, 39, rfl⟩
abbrev main_v22_4 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg14_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem14_0 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== BwdFfnBRefIdeal.lean ====
abbrev S8192x1024 : Shape := ⟨2, ![8192, 1024]⟩
abbrev S8192x512 : Shape := ⟨2, ![8192, 512]⟩
abbrev S1x512 : Shape := ⟨2, ![1, 512]⟩
abbrev S1024x1024 : Shape := ⟨2, ![1024, 1024]⟩
abbrev S1x1024 : Shape := ⟨2, ![1, 1024]⟩
abbrev S1024x2816 : Shape := ⟨2, ![1024, 2816]⟩
abbrev S8192x2816 : Shape := ⟨2, ![8192, 2816]⟩
abbrev S_ : Shape := ⟨0, ![]⟩
abbrev S8192 : Shape := ⟨1, ![8192]⟩
abbrev S8192x1 : Shape := ⟨2, ![8192, 1]⟩
abbrev S1024 : Shape := ⟨1, ![1024]⟩
abbrev S512 : Shape := ⟨1, ![512]⟩

abbrev nBuf : Space → Nat
  | .hbm => 108
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S1x512, .f32⟩
  | .hbm, ⟨4, _⟩ => ⟨S1024x1024, .f32⟩
  | .hbm, ⟨5, _⟩ => ⟨S1x1024, .f32⟩
  | .hbm, ⟨6, _⟩ => ⟨S1024x2816, .f32⟩
  | .hbm, ⟨7, _⟩ => ⟨S1024x2816, .f32⟩
  | .hbm, ⟨8, _⟩ => ⟨S8192x2816, .f32⟩
  | .hbm, ⟨9, _⟩ => ⟨S8192x2816, .f32⟩
  | .hbm, ⟨10, _⟩ => ⟨S8192x1024, .f32⟩
  | .hbm, ⟨11, _⟩ => ⟨S8192x512, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x512, .f32⟩
  | .hbm, ⟨27, _⟩ => ⟨S8192x512, .f32⟩
  | .hbm, ⟨28, _⟩ => ⟨S8192x512, .f32⟩
  | .hbm, ⟨29, _⟩ => ⟨S8192x512, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S8192x1, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x2816, .f32⟩
  | .hbm, ⟨53, _⟩ => ⟨S8192x2816, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S_, .f32⟩
  | .hbm, ⟨65, _⟩ => ⟨S8192, .f32⟩
  | .hbm, ⟨66, _⟩ => ⟨S8192x1, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1, .f32⟩
  | .hbm, ⟨71, _⟩ => ⟨S_, .f32⟩
  | .hbm, ⟨72, _⟩ => ⟨S8192x1, .f32⟩
  | .hbm, ⟨73, _⟩ => ⟨S8192x1, .f32⟩
  | .hbm, ⟨74, _⟩ => ⟨S_, .f32⟩
  | .hbm, ⟨75, _⟩ => ⟨S8192, .f32⟩
  | .hbm, ⟨76, _⟩ => ⟨S8192x1024, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S8192x1024, .f32⟩
  | .hbm, ⟨81, _⟩ => ⟨S8192x1024, .f32⟩
  | .hbm, ⟨82, _⟩ => ⟨S8192x1024, .f32⟩
  | .hbm, ⟨83, _⟩ => ⟨S8192x512, .f32⟩
  | .hbm, ⟨84, _⟩ => ⟨S8192x512, .f32⟩
  | .hbm, ⟨85, _⟩ => ⟨S8192x512, .f32⟩
  | .hbm, ⟨86, _⟩ => ⟨S_, .f32⟩
  | .hbm, ⟨87, _⟩ => ⟨S512, .f32⟩
  | .hbm, ⟨88, _⟩ => ⟨S1x512, .f32⟩
  | .hbm, ⟨89, _⟩ => ⟨S8192x512, .f32⟩
  | .hbm, ⟨90, _⟩ => ⟨S8192x512, .f32⟩
  | .hbm, ⟨91, _⟩ => ⟨S8192x512, .f32⟩
  | .hbm, ⟨92, _⟩ => ⟨S_, .f32⟩
  | .hbm, ⟨93, _⟩ => ⟨S8192, .f32⟩
  | .hbm, ⟨94, _⟩ => ⟨S8192x1, .f32⟩
  | .hbm, ⟨95, _⟩ => ⟨S8192x512, .f32⟩
  | .hbm, ⟨96, _⟩ => ⟨S8192x512, .f32⟩
  | .hbm, ⟨97, _⟩ => ⟨S8192x1, .f32⟩
  | .hbm, ⟨98, _⟩ => ⟨S_, .f32⟩
  | .hbm, ⟨99, _⟩ => ⟨S8192x1, .f32⟩
  | .hbm, ⟨100, _⟩ => ⟨S8192x1, .f32⟩
  | .hbm, ⟨101, _⟩ => ⟨S_, .f32⟩
  | .hbm, ⟨102, _⟩ => ⟨S8192, .f32⟩
  | .hbm, ⟨103, _⟩ => ⟨S8192x512, .f32⟩
  | .hbm, ⟨104, _⟩ => ⟨S8192x512, .f32⟩
  | .hbm, ⟨105, _⟩ => ⟨S8192x512, .f32⟩
  | .hbm, ⟨106, _⟩ => ⟨S8192x512, .f32⟩
  | .hbm, ⟨107, _⟩ => ⟨S8192x512, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_3 : Ref sig .tc := ⟨.hbm, 34, rfl⟩
abbrev main_v19 : Ref sig .tc := ⟨.hbm, 35, rfl⟩
abbrev main_v20 : Ref sig .tc := ⟨.hbm, 36, rfl⟩
abbrev main_cst_4 : Ref sig .tc := ⟨.hbm, 37, rfl⟩
abbrev main_v21 : Ref sig .tc := ⟨.hbm, 38, rfl⟩
abbrev main_v22 : Ref sig .tc := ⟨.hbm, 39, rfl⟩
abbrev main_cst_5 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_6 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_7 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_8 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_9 : Ref sig .tc := ⟨.hbm, 71, rfl⟩
abbrev main_v50 : Ref sig .tc := ⟨.hbm, 72, rfl⟩
abbrev main_v51 : Ref sig .tc := ⟨.hbm, 73, rfl⟩
abbrev main_cst_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_11 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_12 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_cst_13 : Ref sig .tc := ⟨.hbm, 98, rfl⟩
abbrev main_v73 : Ref sig .tc := ⟨.hbm, 99, rfl⟩
abbrev main_v74 : Ref sig .tc := ⟨.hbm, 100, rfl⟩
abbrev main_cst_14 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩

abbrev nD : Nat := 1
abbrev τ : Topo := Topo.v7x

variable {F : FTy → Type} [FloatOps F]
-- ==== FwdTail.lean ====
abbrev S8192x1024 : Shape := ⟨2, ![8192, 1024]⟩
abbrev S8192x2816 : Shape := ⟨2, ![8192, 2816]⟩
abbrev S8192x256 : Shape := ⟨2, ![8192, 256]⟩
abbrev S2816x1024 : Shape := ⟨2, ![2816, 1024]⟩
abbrev S1024x1024 : Shape := ⟨2, ![1024, 1024]⟩
abbrev S256x1024 : Shape := ⟨2, ![256, 1024]⟩
abbrev S1x1024 : Shape := ⟨2, ![1, 1024]⟩
abbrev S256x4x256 : Shape := ⟨3, ![256, 4, 256]⟩
abbrev S4x256x256 : Shape := ⟨3, ![4, 256, 256]⟩
abbrev S1x128 : Shape := ⟨2, ![1, 128]⟩
abbrev S512x1024 : Shape := ⟨2, ![512, 1024]⟩
abbrev S512x2816 : Shape := ⟨2, ![512, 2816]⟩
abbrev S512x256 : Shape := ⟨2, ![512, 256]⟩
abbrev S512x1408 : Shape := ⟨2, ![512, 1408]⟩
abbrev S1408x1024 : Shape := ⟨2, ![1408, 1024]⟩
abbrev S512 : Shape := ⟨1, ![512]⟩
abbrev S512x1 : Shape := ⟨2, ![512, 1]⟩
abbrev S1x256x256 : Shape := ⟨3, ![1, 256, 256]⟩
abbrev S256x256 : Shape := ⟨2, ![256, 256]⟩
abbrev S1024 : Shape := ⟨1, ![1024]⟩
abbrev S1x1x1024 : Shape := ⟨3, ![1, 1, 1024]⟩
abbrev S1 : Shape := ⟨1, ![1]⟩
abbrev S1x1x1 : Shape := ⟨3, ![1, 1, 1]⟩

abbrev nBuf : Space → Nat
  | .hbm => 20
  | .vmem => 23
  | .smem => 0
  | _ => 0

abbrev bufTy : (tb : Table) → Fin (tcTables nBuf tb) → BufTy
  | .hbm, ⟨0, _⟩ => ⟨S8192x1024, .f32⟩
  | .hbm, ⟨1, _⟩ => ⟨S8192x2816, .f32⟩
  | .hbm, ⟨2, _⟩ => ⟨S8192x256, .f32⟩
  | .hbm, ⟨3, _⟩ => ⟨S8192x1024, .f32⟩
  | .hbm, ⟨4, _⟩ => ⟨S2816x1024, .f32⟩
  | .hbm, ⟨5, _⟩ => ⟨S1024x1024, .f32⟩
  | .hbm, ⟨6, _⟩ => ⟨S256x1024, .f32⟩
  | .hbm, ⟨7, _⟩ => ⟨S1x1024, .f32⟩
  | .hbm, ⟨8, _⟩ => ⟨S256x4x256, .f32⟩
  | .hbm, ⟨9, _⟩ => ⟨S4x256x256, .f32⟩
  | .hbm, ⟨10, _⟩ => ⟨S4x256x256, .bf16⟩
  | .hbm, ⟨11, _⟩ => ⟨S8192x2816, .bf16⟩
  | .hbm, ⟨12, _⟩ => ⟨S2816x1024, .bf16⟩
  | .hbm, ⟨13, _⟩ => ⟨S1024x1024, .bf16⟩
  | .hbm, ⟨14, _⟩ => ⟨S8192x1024, .f32⟩
  | .hbm, ⟨15, _⟩ => ⟨S8192x1024, .bf16⟩
  | .hbm, ⟨16, _⟩ => ⟨S8192x1024, .bf16⟩
  | .hbm, ⟨17, _⟩ => ⟨S8192x1024, .bf16⟩
  | .hbm, ⟨18, _⟩ => ⟨S1x1024, .f32⟩
  | .hbm, ⟨19, _⟩ => ⟨S1x128, .f32⟩
  | .local _ .vmem, ⟨0, _⟩ => ⟨S512x1024, .f32⟩
  | .local _ .vmem, ⟨1, _⟩ => ⟨S512x1024, .f32⟩
  | .local _ .vmem, ⟨2, _⟩ => ⟨S512x2816, .bf16⟩
  | .local _ .vmem, ⟨3, _⟩ => ⟨S512x2816, .bf16⟩
  | .local _ .vmem, ⟨4, _⟩ => ⟨S512x256, .f32⟩
  | .local _ .vmem, ⟨5, _⟩ => ⟨S512x256, .f32⟩
  | .local _ .vmem, ⟨6, _⟩ => ⟨S512x1024, .f32⟩
  | .local _ .vmem, ⟨7, _⟩ => ⟨S512x1024, .f32⟩
  | .local _ .vmem, ⟨8, _⟩ => ⟨S2816x1024, .bf16⟩
  | .local _ .vmem, ⟨9, _⟩ => ⟨S1024x1024, .bf16⟩
  | .local _ .vmem, ⟨10, _⟩ => ⟨S4x256x256, .bf16⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S1x1024, .f32⟩
  | .local _ .vmem, ⟨21, _⟩ => ⟨S1x128, .f32⟩
  | .local _ .vmem, ⟨22, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v6_3 : Ref sig .tc := ⟨.hbm, 17, rfl⟩
abbrev main_v6_4 : Ref sig .tc := ⟨.hbm, 18, rfl⟩
abbrev main_v6_5 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg13_0 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem13_0 : DmaSem sig := 21

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v99 : BitVec 1 := Scalar.cmpi .eq arg0 c15_i32
  let v100 : BitVec 32 := Scalar.extui v99
  let c0_i32_62 : BitVec 32 := 0#32
  let v101 : BitVec 1 := Scalar.cmpi .ne v100 c0_i32_62
  v101

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== FwdTailRefIdeal.lean ====
abbrev S8192x1024 : Shape := ⟨2, ![8192, 1024]⟩
abbrev S8192x2816 : Shape := ⟨2, ![8192, 2816]⟩
abbrev S8192x256 : Shape := ⟨2, ![8192, 256]⟩
abbrev S2816x1024 : Shape := ⟨2, ![2816, 1024]⟩
abbrev S1024x1024 : Shape := ⟨2, ![1024, 1024]⟩
abbrev S256x1024 : Shape := ⟨2, ![256, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩
abbrev S1x128 : Shape := ⟨2, ![1, 128]⟩

abbrev nBuf : Space → Nat
  | .hbm => 104
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2816, .f32⟩
  | .hbm, ⟨2, _⟩ => ⟨S8192x256, .f32⟩
  | .hbm, ⟨3, _⟩ => ⟨S8192x1024, .f32⟩
  | .hbm, ⟨4, _⟩ => ⟨S2816x1024, .f32⟩
  | .hbm, ⟨5, _⟩ => ⟨S1024x1024, .f32⟩
  | .hbm, ⟨6, _⟩ => ⟨S256x1024, .f32⟩
  | .hbm, ⟨7, _⟩ => ⟨S1x1024, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S_, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S8192, .f32⟩
  | .hbm, ⟨56, _⟩ => ⟨S_, .f32⟩
  | .hbm, ⟨57, _⟩ => ⟨S8192, .f32⟩
  | .hbm, ⟨58, _⟩ => ⟨S8192, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S8192, .f32⟩
  | .hbm, ⟨67, _⟩ => ⟨S_, .f32⟩
  | .hbm, ⟨68, _⟩ => ⟨S8192, .f32⟩
  | .hbm, ⟨69, _⟩ => ⟨S8192, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S_, .f32⟩
  | .hbm, ⟨78, _⟩ => ⟨S1024, .f32⟩
  | .hbm, ⟨79, _⟩ => ⟨S1x1024, .f32⟩
  | .hbm, ⟨80, _⟩ => ⟨S8192x1024, .f32⟩
  | .hbm, ⟨81, _⟩ => ⟨S8192x1024, .f32⟩
  | .hbm, ⟨82, _⟩ => ⟨S8192x1024, .f32⟩
  | .hbm, ⟨83, _⟩ => ⟨S_, .f32⟩
  | .hbm, ⟨84, _⟩ => ⟨S8192, .f32⟩
  | .hbm, ⟨85, _⟩ => ⟨S8192x1, .f32⟩
  | .hbm, ⟨86, _⟩ => ⟨S8192x1024, .f32⟩
  | .hbm, ⟨87, _⟩ => ⟨S8192x1024, .f32⟩
  | .hbm, ⟨88, _⟩ => ⟨S8192x1024, .f32⟩
  | .hbm, ⟨89, _⟩ => ⟨S8192x1, .f32⟩
  | .hbm, ⟨90, _⟩ => ⟨S_, .f32⟩
  | .hbm, ⟨91, _⟩ => ⟨S8192x1, .f32⟩
  | .hbm, ⟨92, _⟩ => ⟨S8192x1, .f32⟩
  | .hbm, ⟨93, _⟩ => ⟨S_, .f32⟩
  | .hbm, ⟨94, _⟩ => ⟨S8192, .f32⟩
  | .hbm, ⟨95, _⟩ => ⟨S8192x1024, .f32⟩
  | .hbm, ⟨96, _⟩ => ⟨S8192x1024, .f32⟩
  | .hbm, ⟨97, _⟩ => ⟨S8192x1024, .f32⟩
  | .hbm, ⟨98, _⟩ => ⟨S8192x1024, .f32⟩
  | .hbm, ⟨99, _⟩ => ⟨S8192x1024, .f32⟩
  | .hbm, ⟨100, _⟩ => ⟨S8192x1024, .bf16⟩
  | .hbm, ⟨101, _⟩ => ⟨S8192x1024, .bf16⟩
  | .hbm, ⟨102, _⟩ => ⟨S8192x1024, .bf16⟩
  | .hbm, ⟨103, _⟩ => ⟨S1x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_cst_5 : Ref sig .tc := ⟨.hbm, 38, rfl⟩
abbrev main_v24 : Ref sig .tc := ⟨.hbm, 39, rfl⟩
abbrev main_v25 : Ref sig .tc := ⟨.hbm, 40, rfl⟩
abbrev main_cst_6 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_7 : Ref sig .tc := ⟨.hbm, 51, rfl⟩
abbrev main_v35 : Ref sig .tc := ⟨.hbm, 52, rfl⟩
abbrev main_v36 : Ref sig .tc := ⟨.hbm, 53, rfl⟩
abbrev main_cst_8 : Ref sig .tc := ⟨.hbm, 54, rfl⟩
abbrev main_v37 : Ref sig .tc := ⟨.hbm, 55, rfl⟩
abbrev main_cst_9 : Ref sig .tc := ⟨.hbm, 56, rfl⟩
abbrev main_v38 : Ref sig .tc := ⟨.hbm, 57, rfl⟩
abbrev main_v39 : Ref sig .tc := ⟨.hbm, 58, rfl⟩
abbrev main_cst_10 : Ref sig .tc := ⟨.hbm, 59, rfl⟩
abbrev main_v40 : Ref sig .tc := ⟨.hbm, 60, rfl⟩
abbrev main_cst_11 : Ref sig .tc := ⟨.hbm, 61, rfl⟩
abbrev main_v41 : Ref sig .tc := ⟨.hbm, 62, rfl⟩
abbrev main_cst_12 : Ref sig .tc := ⟨.hbm, 63, rfl⟩
abbrev main_cst_13 : Ref sig .tc := ⟨.hbm, 64, rfl⟩
abbrev main_v42 : Ref sig .tc := ⟨.hbm, 65, rfl⟩
abbrev main_v43 : Ref sig .tc := ⟨.hbm, 66, rfl⟩
abbrev main_cst_14 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_15 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_16 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_17 : Ref sig .tc := ⟨.hbm, 90, rfl⟩
abbrev main_v64 : Ref sig .tc := ⟨.hbm, 91, rfl⟩
abbrev main_v65 : Ref sig .tc := ⟨.hbm, 92, rfl⟩
abbrev main_cst_18 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩

abbrev nD : Nat := 1
abbrev τ : Topo := Topo.v7x

variable {F : FTy → Type} [FloatOps F]
-- ==== FwdMix.lean ====
abbrev S8192x1024 : Shape := ⟨2, ![8192, 1024]⟩
abbrev S1x1024 : Shape := ⟨2, ![1, 1024]⟩
abbrev S1024x3072 : Shape := ⟨2, ![1024, 3072]⟩
abbrev S3x512 : Shape := ⟨2, ![3, 512]⟩
abbrev S1x512 : Shape := ⟨2, ![1, 512]⟩
abbrev S1x64 : Shape := ⟨2, ![1, 64]⟩
abbrev S8x8 : Shape := ⟨2, ![8, 8]⟩
abbrev S_ : Shape := ⟨0, ![]⟩
abbrev S64x64 : Shape := ⟨2, ![64, 64]⟩
abbrev S8x1x8x1 : Shape := ⟨4, ![8, 1, 8, 1]⟩
abbrev S1x64x1x64 : Shape := ⟨4, ![1, 64, 1, 64]⟩
abbrev S8x64x8x64 : Shape := ⟨4, ![8, 64, 8, 64]⟩
abbrev S512x512 : Shape := ⟨2, ![512, 512]⟩
abbrev S1x1x1x64 : Shape := ⟨4, ![1, 1, 1, 64]⟩
abbrev S1x1x8x64 : Shape := ⟨4, ![1, 1, 8, 64]⟩
abbrev S1024x4x768 : Shape := ⟨3, ![1024, 4, 768]⟩
abbrev S4x1024x768 : Shape := ⟨3, ![4, 1024, 768]⟩
abbrev S8192x1536 : Shape := ⟨2, ![8192, 1536]⟩
abbrev S8192x512 : Shape := ⟨2, ![8192, 512]⟩
abbrev S512x1024 : Shape := ⟨2, ![512, 1024]⟩
abbrev S512x1536 : Shape := ⟨2, ![512, 1536]⟩
abbrev S520x512 : Shape := ⟨2, ![520, 512]⟩
abbrev S8x512 : Shape := ⟨2, ![8, 512]⟩
abbrev S512 : Shape := ⟨1, ![512]⟩
abbrev S512x1 : Shape := ⟨2, ![512, 1]⟩
abbrev S1x1024x768 : Shape := ⟨3, ![1, 1024, 768]⟩
abbrev S1024x768 : Shape := ⟨2, ![1024, 768]⟩
abbrev S512x768 : Shape := ⟨2, ![512, 768]⟩

abbrev nBuf : Space → Nat
  | .hbm => 37
  | .vmem => 19
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x3072, .f32⟩
  | .hbm, ⟨3, _⟩ => ⟨S3x512, .f32⟩
  | .hbm, ⟨4, _⟩ => ⟨S1x512, .f32⟩
  | .hbm, ⟨5, _⟩ => ⟨S1x512, .f32⟩
  | .hbm, ⟨6, _⟩ => ⟨S1x64, .f32⟩
  | .hbm, ⟨7, _⟩ => ⟨S1x64, .f32⟩
  | .hbm, ⟨8, _⟩ => ⟨S8x8, .i32⟩
  | .hbm, ⟨9, _⟩ => ⟨S8x8, .i32⟩
  | .hbm, ⟨10, _⟩ => ⟨S_, .i32⟩
  | .hbm, ⟨11, _⟩ => ⟨S8x8, .i32⟩
  | .hbm, ⟨12, _⟩ => ⟨S8x8, .i32⟩
  | .hbm, ⟨13, _⟩ => ⟨S8x8, .i1⟩
  | .hbm, ⟨14, _⟩ => ⟨S8x8, .f32⟩
  | .hbm, ⟨15, _⟩ => ⟨S_, .f32⟩
  | .hbm, ⟨16, _⟩ => ⟨S64x64, .f32⟩
  | .hbm, ⟨17, _⟩ => ⟨S8x1x8x1, .f32⟩
  | .hbm, ⟨18, _⟩ => ⟨S1x64x1x64, .f32⟩
  | .hbm, ⟨19, _⟩ => ⟨S8x64x8x64, .f32⟩
  | .hbm, ⟨20, _⟩ => ⟨S8x64x8x64, .f32⟩
  | .hbm, ⟨21, _⟩ => ⟨S8x64x8x64, .f32⟩
  | .hbm, ⟨22, _⟩ => ⟨S512x512, .f32⟩
  | .hbm, ⟨23, _⟩ => ⟨S512x512, .bf16⟩
  | .hbm, ⟨24, _⟩ => ⟨S1x1x1x64, .f32⟩
  | .hbm, ⟨25, _⟩ => ⟨S1x1x8x64, .f32⟩
  | .hbm, ⟨26, _⟩ => ⟨S1x512, .f32⟩
  | .hbm, ⟨27, _⟩ => ⟨S1x1x1x64, .f32⟩
  | .hbm, ⟨28, _⟩ => ⟨S1x1x8x64, .f32⟩
  | .hbm, ⟨29, _⟩ => ⟨S1x512, .f32⟩
  | .hbm, ⟨30, _⟩ => ⟨S1024x4x768, .f32⟩
  | .hbm, ⟨31, _⟩ => ⟨S4x1024x768, .f32⟩
  | .hbm, ⟨32, _⟩ => ⟨S4x1024x768, .bf16⟩
  | .hbm, ⟨33, _⟩ => ⟨S8192x1536, .f32⟩
  | .hbm, ⟨34, _⟩ => ⟨S8192x1536, .f32⟩
  | .hbm, ⟨35, _⟩ => ⟨S8192x512, .bf16⟩
  | .hbm, ⟨36, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4x1024x768, .bf16⟩
  | .local _ .vmem, ⟨4, _⟩ => ⟨S3x512, .f32⟩
  | .local _ .vmem, ⟨5, _⟩ => ⟨S1x512, .f32⟩
  | .local _ .vmem, ⟨6, _⟩ => ⟨S1x512, .f32⟩
  | .local _ .vmem, ⟨7, _⟩ => ⟨S512x512, .bf16⟩
  | .local _ .vmem, ⟨8, _⟩ => ⟨S1x512, .f32⟩
  | .local _ .vmem, ⟨9, _⟩ => ⟨S1x512, .f32⟩
  | .local _ .vmem, ⟨10, _⟩ => ⟨S512x1536, .f32⟩
  | .local _ .vmem, ⟨11, _⟩ => ⟨S512x1536, .f32⟩
  | .local _ .vmem, ⟨12, _⟩ => ⟨S512x1536, .f32⟩
  | .local _ .vmem, ⟨13, _⟩ => ⟨S512x1536, .f32⟩
  | .local _ .vmem, ⟨14, _⟩ => ⟨S512x512, .bf16⟩
  | .local _ .vmem, ⟨15, _⟩ => ⟨S512x512, .bf16⟩
  | .local _ .vmem, ⟨16, _⟩ => ⟨S512x1024, .f32⟩
  | .local _ .vmem, ⟨17, _⟩ => ⟨S512x1024, .f32⟩
  | .local _ .vmem, ⟨18, _⟩ => ⟨S520x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18_0 : Ref sig .tc := ⟨.hbm, 33, rfl⟩
abbrev main_v18_1 : Ref sig .tc := ⟨.hbm, 34, rfl⟩
abbrev main_v18_2 : Ref sig .tc := ⟨.hbm, 35, rfl⟩
abbrev main_v18_3 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1536 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1536 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== FwdMixRefIdeal.lean ====
abbrev S8192x1024 : Shape := ⟨2, ![8192, 1024]⟩
abbrev S1x1024 : Shape := ⟨2, ![1, 1024]⟩
abbrev S1024x3072 : Shape := ⟨2, ![1024, 3072]⟩
abbrev S3x512 : Shape := ⟨2, ![3, 512]⟩
abbrev S1x512 : Shape := ⟨2, ![1, 512]⟩
abbrev S1x64 : Shape := ⟨2, ![1, 64]⟩
abbrev S_ : Shape := ⟨0, ![]⟩
abbrev S8192 : Shape := ⟨1, ![8192]⟩
abbrev S8192x1 : Shape := ⟨2, ![8192, 1]⟩
abbrev S8192x3072 : Shape := ⟨2, ![8192, 3072]⟩
abbrev S8192x512 : Shape := ⟨2, ![8192, 512]⟩
abbrev S2x512 : Shape := ⟨2, ![2, 512]⟩
abbrev S8194x512 : Shape := ⟨2, ![8194, 512]⟩
abbrev S512 : Shape := ⟨1, ![512]⟩
abbrev S8192x8x64 : Shape := ⟨3, ![8192, 8, 64]⟩
abbrev S8192x8 : Shape := ⟨2, ![8192, 8]⟩
abbrev S8192x8x1 : Shape := ⟨3, ![8192, 8, 1]⟩
abbrev S1x1x64 : Shape := ⟨3, ![1, 1, 64]⟩
abbrev S8192x1536 : Shape := ⟨2, ![8192, 1536]⟩

abbrev nBuf : Space → Nat
  | .hbm => 115
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x3072, .f32⟩
  | .hbm, ⟨3, _⟩ => ⟨S3x512, .f32⟩
  | .hbm, ⟨4, _⟩ => ⟨S1x512, .f32⟩
  | .hbm, ⟨5, _⟩ => ⟨S1x512, .f32⟩
  | .hbm, ⟨6, _⟩ => ⟨S1x64, .f32⟩
  | .hbm, ⟨7, _⟩ => ⟨S1x64, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x3072, .f32⟩
  | .hbm, ⟨24, _⟩ => ⟨S8192x512, .f32⟩
  | .hbm, ⟨25, _⟩ => ⟨S8192x512, .f32⟩
  | .hbm, ⟨26, _⟩ => ⟨S8192x512, .f32⟩
  | .hbm, ⟨27, _⟩ => ⟨S8192x512, .f32⟩
  | .hbm, ⟨28, _⟩ => ⟨S8192x512, .f32⟩
  | .hbm, ⟨29, _⟩ => ⟨S8192x512, .f32⟩
  | .hbm, ⟨30, _⟩ => ⟨S8192x512, .f32⟩
  | .hbm, ⟨31, _⟩ => ⟨S_, .f32⟩
  | .hbm, ⟨32, _⟩ => ⟨S2x512, .f32⟩
  | .hbm, ⟨33, _⟩ => ⟨S8194x512, .f32⟩
  | .hbm, ⟨34, _⟩ => ⟨S8192x512, .f32⟩
  | .hbm, ⟨35, _⟩ => ⟨S1x512, .f32⟩
  | .hbm, ⟨36, _⟩ => ⟨S512, .f32⟩
  | .hbm, ⟨37, _⟩ => ⟨S1x512, .f32⟩
  | .hbm, ⟨38, _⟩ => ⟨S8192x512, .f32⟩
  | .hbm, ⟨39, _⟩ => ⟨S8192x512, .f32⟩
  | .hbm, ⟨40, _⟩ => ⟨S8192x512, .f32⟩
  | .hbm, ⟨41, _⟩ => ⟨S1x512, .f32⟩
  | .hbm, ⟨42, _⟩ => ⟨S512, .f32⟩
  | .hbm, ⟨43, _⟩ => ⟨S1x512, .f32⟩
  | .hbm, ⟨44, _⟩ => ⟨S8192x512, .f32⟩
  | .hbm, ⟨45, _⟩ => ⟨S8192x512, .f32⟩
  | .hbm, ⟨46, _⟩ => ⟨S8192x512, .f32⟩
  | .hbm, ⟨47, _⟩ => ⟨S8192x512, .f32⟩
  | .hbm, ⟨48, _⟩ => ⟨S1x512, .f32⟩
  | .hbm, ⟨49, _⟩ => ⟨S512, .f32⟩
  | .hbm, ⟨50, _⟩ => ⟨S1x512, .f32⟩
  | .hbm, ⟨51, _⟩ => ⟨S8192x512, .f32⟩
  | .hbm, ⟨52, _⟩ => ⟨S8192x512, .f32⟩
  | .hbm, ⟨53, _⟩ => ⟨S8192x512, .f32⟩
  | .hbm, ⟨54, _⟩ => ⟨S8192x512, .f32⟩
  | .hbm, ⟨55, _⟩ => ⟨S8192x512, .f32⟩
  | .hbm, ⟨56, _⟩ => ⟨S8192x512, .f32⟩
  | .hbm, ⟨57, _⟩ => ⟨S8192x8x64, .f32⟩
  | .hbm, ⟨58, _⟩ => ⟨S8192x8x64, .f32⟩
  | .hbm, ⟨59, _⟩ => ⟨S_, .f32⟩
  | .hbm, ⟨60, _⟩ => ⟨S8192x8, .f32⟩
  | .hbm, ⟨61, _⟩ => ⟨S8192x8x1, .f32⟩
  | .hbm, ⟨62, _⟩ => ⟨S_, .f32⟩
  | .hbm, ⟨63, _⟩ => ⟨S8192x8x1, .f32⟩
  | .hbm, ⟨64, _⟩ => ⟨S8192x8x1, .f32⟩
  | .hbm, ⟨65, _⟩ => ⟨S_, .f32⟩
  | .hbm, ⟨66, _⟩ => ⟨S8192x8x1, .f32⟩
  | .hbm, ⟨67, _⟩ => ⟨S8192x8x1, .f32⟩
  | .hbm, ⟨68, _⟩ => ⟨S8192x8x1, .f32⟩
  | .hbm, ⟨69, _⟩ => ⟨S8192x8x64, .f32⟩
  | .hbm, ⟨70, _⟩ => ⟨S8192x8x64, .f32⟩
  | .hbm, ⟨71, _⟩ => ⟨S1x1x64, .f32⟩
  | .hbm, ⟨72, _⟩ => ⟨S8192x8x64, .f32⟩
  | .hbm, ⟨73, _⟩ => ⟨S8192x8x64, .f32⟩
  | .hbm, ⟨74, _⟩ => ⟨S8192x512, .f32⟩
  | .hbm, ⟨75, _⟩ => ⟨S_, .f32⟩
  | .hbm, ⟨76, _⟩ => ⟨S8192x512, .f32⟩
  | .hbm, ⟨77, _⟩ => ⟨S8192x512, .f32⟩
  | .hbm, ⟨78, _⟩ => ⟨S8192x8x64, .f32⟩
  | .hbm, ⟨79, _⟩ => ⟨S8192x8x64, .f32⟩
  | .hbm, ⟨80, _⟩ => ⟨S_, .f32⟩
  | .hbm, ⟨81, _⟩ => ⟨S8192x8, .f32⟩
  | .hbm, ⟨82, _⟩ => ⟨S8192x8x1, .f32⟩
  | .hbm, ⟨83, _⟩ => ⟨S_, .f32⟩
  | .hbm, ⟨84, _⟩ => ⟨S8192x8x1, .f32⟩
  | .hbm, ⟨85, _⟩ => ⟨S8192x8x1, .f32⟩
  | .hbm, ⟨86, _⟩ => ⟨S_, .f32⟩
  | .hbm, ⟨87, _⟩ => ⟨S8192x8x1, .f32⟩
  | .hbm, ⟨88, _⟩ => ⟨S8192x8x1, .f32⟩
  | .hbm, ⟨89, _⟩ => ⟨S8192x8x1, .f32⟩
  | .hbm, ⟨90, _⟩ => ⟨S8192x8x64, .f32⟩
  | .hbm, ⟨91, _⟩ => ⟨S8192x8x64, .f32⟩
  | .hbm, ⟨92, _⟩ => ⟨S1x1x64, .f32⟩
  | .hbm, ⟨93, _⟩ => ⟨S8192x8x64, .f32⟩
  | .hbm, ⟨94, _⟩ => ⟨S8192x8x64, .f32⟩
  | .hbm, ⟨95, _⟩ => ⟨S8192x512, .f32⟩
  | .hbm, ⟨96, _⟩ => ⟨S8192x1536, .f32⟩
  | .hbm, ⟨97, _⟩ => ⟨S8192x1536, .f32⟩
  | .hbm, ⟨98, _⟩ => ⟨S8192x512, .f32⟩
  | .hbm, ⟨99, _⟩ => ⟨S_, .f32⟩
  | .hbm, ⟨100, _⟩ => ⟨S8192, .f32⟩
  | .hbm, ⟨101, _⟩ => ⟨S8192x1, .f32⟩
  | .hbm, ⟨102, _⟩ => ⟨S_, .f32⟩
  | .hbm, ⟨103, _⟩ => ⟨S8192x1, .f32⟩
  | .hbm, ⟨104, _⟩ => ⟨S8192x1, .f32⟩
  | .hbm, ⟨105, _⟩ => ⟨S_, .f32⟩
  | .hbm, ⟨106, _⟩ => ⟨S8192x1, .f32⟩
  | .hbm, ⟨107, _⟩ => ⟨S8192x1, .f32⟩
  | .hbm, ⟨108, _⟩ => ⟨S8192x1, .f32⟩
  | .hbm, ⟨109, _⟩ => ⟨S8192x512, .f32⟩
  | .hbm, ⟨110, _⟩ => ⟨S8192x512, .f32⟩
  | .hbm, ⟨111, _⟩ => ⟨S8192x512, .f32⟩
  | .hbm, ⟨112, _⟩ => ⟨S8192x512, .f32⟩
  | .hbm, ⟨113, _⟩ => ⟨S8192x512, .bf16⟩
  | .hbm, ⟨114, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_3 : Ref sig .tc := ⟨.hbm, 59, rfl⟩
abbrev main_v47 : Ref sig .tc := ⟨.hbm, 60, rfl⟩
abbrev main_v48 : Ref sig .tc := ⟨.hbm, 61, rfl⟩
abbrev main_cst_4 : Ref sig .tc := ⟨.hbm, 62, rfl⟩
abbrev main_v49 : Ref sig .tc := ⟨.hbm, 63, rfl⟩
abbrev main_v50 : Ref sig .tc := ⟨.hbm, 64, rfl⟩
abbrev main_cst_5 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_cst_6 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_cst_7 : Ref sig .tc := ⟨.hbm, 80, rfl⟩
abbrev main_v64 : Ref sig .tc := ⟨.hbm, 81, rfl⟩
abbrev main_v65 : Ref sig .tc := ⟨.hbm, 82, rfl⟩
abbrev main_cst_8 : Ref sig .tc := ⟨.hbm, 83, rfl⟩
abbrev main_v66 : Ref sig .tc := ⟨.hbm, 84, rfl⟩
abbrev main_v67 : Ref sig .tc := ⟨.hbm, 85, rfl⟩
abbrev main_cst_9 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_cst_10 : Ref sig .tc := ⟨.hbm, 99, rfl⟩
abbrev main_v80 : Ref sig .tc := ⟨.hbm, 100, rfl⟩
abbrev main_v81 : Ref sig .tc := ⟨.hbm, 101, rfl⟩
abbrev main_cst_11 : Ref sig .tc := ⟨.hbm, 102, rfl⟩
abbrev main_v82 : Ref sig .tc := ⟨.hbm, 103, rfl⟩
abbrev main_v83 : Ref sig .tc := ⟨.hbm, 104, rfl⟩
abbrev main_cst_12 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩

abbrev nD : Nat := 1
abbrev τ : Topo := Topo.v7x

variable {F : FTy → Type} [FloatOps F]
-- ==== FwdFfn.lean ====
abbrev S8192x1024 : Shape := ⟨2, ![8192, 1024]⟩
abbrev S8192x512 : Shape := ⟨2, ![8192, 512]⟩
abbrev S1x512 : Shape := ⟨2, ![1, 512]⟩
abbrev S1024x1024 : Shape := ⟨2, ![1024, 1024]⟩
abbrev S1x1024 : Shape := ⟨2, ![1, 1024]⟩
abbrev S1024x2816 : Shape := ⟨2, ![1024, 2816]⟩
abbrev S3x2816 : Shape := ⟨2, ![3, 2816]⟩
abbrev S1x2816 : Shape := ⟨2, ![1, 2816]⟩
abbrev S2816x1024 : Shape := ⟨2, ![2816, 1024]⟩
abbrev S8192x2816 : Shape := ⟨2, ![8192, 2816]⟩
abbrev S256x1024 : Shape := ⟨2, ![256, 1024]⟩
abbrev S256x512 : Shape := ⟨2, ![256, 512]⟩
abbrev S256x2816 : Shape := ⟨2, ![256, 2816]⟩
abbrev S264x2816 : Shape := ⟨2, ![264, 2816]⟩
abbrev S8x2816 : Shape := ⟨2, ![8, 2816]⟩
abbrev S256 : Shape := ⟨1, ![256]⟩
abbrev S256x1 : Shape := ⟨2, ![256, 1]⟩
abbrev S512x1024 : Shape := ⟨2, ![512, 1024]⟩
abbrev S1408x1024 : Shape := ⟨2, ![1408, 1024]⟩
abbrev S256x1408 : Shape := ⟨2, ![256, 1408]⟩
abbrev S264x1408 : Shape := ⟨2, ![264, 1408]⟩
abbrev S1x1408 : Shape := ⟨2, ![1, 1408]⟩

abbrev nBuf : Space → Nat
  | .hbm => 23
  | .vmem => 28
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S1x512, .f32⟩
  | .hbm, ⟨4, _⟩ => ⟨S1024x1024, .f32⟩
  | .hbm, ⟨5, _⟩ => ⟨S1x1024, .f32⟩
  | .hbm, ⟨6, _⟩ => ⟨S1024x2816, .f32⟩
  | .hbm, ⟨7, _⟩ => ⟨S1024x2816, .f32⟩
  | .hbm, ⟨8, _⟩ => ⟨S3x2816, .f32⟩
  | .hbm, ⟨9, _⟩ => ⟨S1x2816, .f32⟩
  | .hbm, ⟨10, _⟩ => ⟨S8192x512, .bf16⟩
  | .hbm, ⟨11, _⟩ => ⟨S1024x1024, .bf16⟩
  | .hbm, ⟨12, _⟩ => ⟨S2816x1024, .f32⟩
  | .hbm, ⟨13, _⟩ => ⟨S2816x1024, .bf16⟩
  | .hbm, ⟨14, _⟩ => ⟨S2816x1024, .f32⟩
  | .hbm, ⟨15, _⟩ => ⟨S2816x1024, .bf16⟩
  | .hbm, ⟨16, _⟩ => ⟨S8192x1024, .f32⟩
  | .hbm, ⟨17, _⟩ => ⟨S8192x2816, .bf16⟩
  | .hbm, ⟨18, _⟩ => ⟨S8192x2816, .bf16⟩
  | .hbm, ⟨19, _⟩ => ⟨S8192x2816, .bf16⟩
  | .hbm, ⟨20, _⟩ => ⟨S8192x2816, .bf16⟩
  | .hbm, ⟨21, _⟩ => ⟨S8192x1024, .bf16⟩
  | .hbm, ⟨22, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S256x512, .bf16⟩
  | .local _ .vmem, ⟨3, _⟩ => ⟨S256x512, .bf16⟩
  | .local _ .vmem, ⟨4, _⟩ => ⟨S256x512, .f32⟩
  | .local _ .vmem, ⟨5, _⟩ => ⟨S256x512, .f32⟩
  | .local _ .vmem, ⟨6, _⟩ => ⟨S1024x1024, .bf16⟩
  | .local _ .vmem, ⟨7, _⟩ => ⟨S2816x1024, .bf16⟩
  | .local _ .vmem, ⟨8, _⟩ => ⟨S2816x1024, .bf16⟩
  | .local _ .vmem, ⟨9, _⟩ => ⟨S1x512, .f32⟩
  | .local _ .vmem, ⟨10, _⟩ => ⟨S1x1024, .f32⟩
  | .local _ .vmem, ⟨11, _⟩ => ⟨S3x2816, .f32⟩
  | .local _ .vmem, ⟨12, _⟩ => ⟨S1x2816, .f32⟩
  | .local _ .vmem, ⟨13, _⟩ => ⟨S256x1024, .f32⟩
  | .local _ .vmem, ⟨14, _⟩ => ⟨S256x1024, .f32⟩
  | .local _ .vmem, ⟨15, _⟩ => ⟨S256x2816, .bf16⟩
  | .local _ .vmem, ⟨16, _⟩ => ⟨S256x2816, .bf16⟩
  | .local _ .vmem, ⟨17, _⟩ => ⟨S256x2816, .bf16⟩
  | .local _ .vmem, ⟨18, _⟩ => ⟨S256x2816, .bf16⟩
  | .local _ .vmem, ⟨19, _⟩ => ⟨S256x2816, .bf16⟩
  | .local _ .vmem, ⟨20, _⟩ => ⟨S256x2816, .bf16⟩
  | .local _ .vmem, ⟨21, _⟩ => ⟨S256x2816, .bf16⟩
  | .local _ .vmem, ⟨22, _⟩ => ⟨S256x2816, .bf16⟩
  | .local _ .vmem, ⟨23, _⟩ => ⟨S256x1024, .bf16⟩
  | .local _ .vmem, ⟨24, _⟩ => ⟨S256x1024, .bf16⟩
  | .local _ .vmem, ⟨25, _⟩ => ⟨S256x1024, .bf16⟩
  | .local _ .vmem, ⟨26, _⟩ => ⟨S256x1024, .bf16⟩
  | .local _ .vmem, ⟨27, _⟩ => ⟨S264x2816, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6_0 : Ref sig .tc := ⟨.hbm, 16, rfl⟩
abbrev main_v6_1 : Ref sig .tc := ⟨.hbm, 17, rfl⟩
abbrev main_v6_2 : Ref sig .tc := ⟨.hbm, 18, rfl⟩
abbrev main_v6_3 : Ref sig .tc := ⟨.hbm, 19, rfl⟩
abbrev main_v6_4 : Ref sig .tc := ⟨.hbm, 20, rfl⟩
abbrev main_v6_5 : Ref sig .tc := ⟨.hbm, 21, rfl⟩
abbrev main_v6_6 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_scratch0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x2816 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2816 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2816 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2816 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x2816 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x2816 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== FwdFfnRefIdeal.lean ====
abbrev S8192x1024 : Shape := ⟨2, ![8192, 1024]⟩
abbrev S8192x512 : Shape := ⟨2, ![8192, 512]⟩
abbrev S1x512 : Shape := ⟨2, ![1, 512]⟩
abbrev S1024x1024 : Shape := ⟨2, ![1024, 1024]⟩
abbrev S1x1024 : Shape := ⟨2, ![1, 1024]⟩
abbrev S1024x2816 : Shape := ⟨2, ![1024, 2816]⟩
abbrev S3x2816 : Shape := ⟨2, ![3, 2816]⟩
abbrev S1x2816 : Shape := ⟨2, ![1, 2816]⟩
abbrev S_ : Shape := ⟨0, ![]⟩
abbrev S8192 : Shape := ⟨1, ![8192]⟩
abbrev S8192x1 : Shape := ⟨2, ![8192, 1]⟩
abbrev S8192x2816 : Shape := ⟨2, ![8192, 2816]⟩
abbrev S2x2816 : Shape := ⟨2, ![2, 2816]⟩
abbrev S8194x2816 : Shape := ⟨2, ![8194, 2816]⟩
abbrev S2816 : Shape := ⟨1, ![2816]⟩

abbrev nBuf : Space → Nat
  | .hbm => 86
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S1x512, .f32⟩
  | .hbm, ⟨4, _⟩ => ⟨S1024x1024, .f32⟩
  | .hbm, ⟨5, _⟩ => ⟨S1x1024, .f32⟩
  | .hbm, ⟨6, _⟩ => ⟨S1024x2816, .f32⟩
  | .hbm, ⟨7, _⟩ => ⟨S1024x2816, .f32⟩
  | .hbm, ⟨8, _⟩ => ⟨S3x2816, .f32⟩
  | .hbm, ⟨9, _⟩ => ⟨S1x2816, .f32⟩
  | .hbm, ⟨10, _⟩ => ⟨S8192x512, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x512, .f32⟩
  | .hbm, ⟨22, _⟩ => ⟨S8192x512, .f32⟩
  | .hbm, ⟨23, _⟩ => ⟨S8192x512, .f32⟩
  | .hbm, ⟨24, _⟩ => ⟨S8192x512, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S_, .f32⟩
  | .hbm, ⟨36, _⟩ => ⟨S8192x1, .f32⟩
  | .hbm, ⟨37, _⟩ => ⟨S8192x1, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x2816, .f32⟩
  | .hbm, ⟨44, _⟩ => ⟨S8192x2816, .f32⟩
  | .hbm, ⟨45, _⟩ => ⟨S_, .f32⟩
  | .hbm, ⟨46, _⟩ => ⟨S2x2816, .f32⟩
  | .hbm, ⟨47, _⟩ => ⟨S8194x2816, .f32⟩
  | .hbm, ⟨48, _⟩ => ⟨S8192x2816, .f32⟩
  | .hbm, ⟨49, _⟩ => ⟨S1x2816, .f32⟩
  | .hbm, ⟨50, _⟩ => ⟨S2816, .f32⟩
  | .hbm, ⟨51, _⟩ => ⟨S1x2816, .f32⟩
  | .hbm, ⟨52, _⟩ => ⟨S8192x2816, .f32⟩
  | .hbm, ⟨53, _⟩ => ⟨S8192x2816, .f32⟩
  | .hbm, ⟨54, _⟩ => ⟨S8192x2816, .f32⟩
  | .hbm, ⟨55, _⟩ => ⟨S1x2816, .f32⟩
  | .hbm, ⟨56, _⟩ => ⟨S2816, .f32⟩
  | .hbm, ⟨57, _⟩ => ⟨S1x2816, .f32⟩
  | .hbm, ⟨58, _⟩ => ⟨S8192x2816, .f32⟩
  | .hbm, ⟨59, _⟩ => ⟨S8192x2816, .f32⟩
  | .hbm, ⟨60, _⟩ => ⟨S8192x2816, .f32⟩
  | .hbm, ⟨61, _⟩ => ⟨S8192x2816, .f32⟩
  | .hbm, ⟨62, _⟩ => ⟨S1x2816, .f32⟩
  | .hbm, ⟨63, _⟩ => ⟨S2816, .f32⟩
  | .hbm, ⟨64, _⟩ => ⟨S1x2816, .f32⟩
  | .hbm, ⟨65, _⟩ => ⟨S8192x2816, .f32⟩
  | .hbm, ⟨66, _⟩ => ⟨S8192x2816, .f32⟩
  | .hbm, ⟨67, _⟩ => ⟨S8192x2816, .f32⟩
  | .hbm, ⟨68, _⟩ => ⟨S8192x2816, .f32⟩
  | .hbm, ⟨69, _⟩ => ⟨S8192x2816, .f32⟩
  | .hbm, ⟨70, _⟩ => ⟨S8192x2816, .f32⟩
  | .hbm, ⟨71, _⟩ => ⟨S8192x2816, .f32⟩
  | .hbm, ⟨72, _⟩ => ⟨S_, .f32⟩
  | .hbm, ⟨73, _⟩ => ⟨S8192x2816, .f32⟩
  | .hbm, ⟨74, _⟩ => ⟨S8192x2816, .f32⟩
  | .hbm, ⟨75, _⟩ => ⟨S_, .f32⟩
  | .hbm, ⟨76, _⟩ => ⟨S8192x2816, .f32⟩
  | .hbm, ⟨77, _⟩ => ⟨S8192x2816, .f32⟩
  | .hbm, ⟨78, _⟩ => ⟨S8192x2816, .f32⟩
  | .hbm, ⟨79, _⟩ => ⟨S8192x2816, .f32⟩
  | .hbm, ⟨80, _⟩ => ⟨S8192x2816, .bf16⟩
  | .hbm, ⟨81, _⟩ => ⟨S8192x2816, .bf16⟩
  | .hbm, ⟨82, _⟩ => ⟨S8192x2816, .bf16⟩
  | .hbm, ⟨83, _⟩ => ⟨S8192x2816, .bf16⟩
  | .hbm, ⟨84, _⟩ => ⟨S8192x1024, .bf16⟩
  | .hbm, ⟨85, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_cst_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_5 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_call0_v0 : Ref sig .tc := ⟨.hbm, 70, rfl⟩
abbrev main_call0_v1 : Ref sig .tc := ⟨.hbm, 71, rfl⟩
abbrev main_call0_cst : Ref sig .tc := ⟨.hbm, 72, rfl⟩
abbrev main_call0_v2 : Ref sig .tc := ⟨.hbm, 73, rfl⟩
abbrev main_call0_v3 : Ref sig .tc := ⟨.hbm, 74, rfl⟩
abbrev main_call0_cst_0 : Ref sig .tc := ⟨.hbm, 75, rfl⟩
abbrev main_call0_v4 : Ref sig .tc := ⟨.hbm, 76, rfl⟩
abbrev main_call0_v5 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩

abbrev nD : Nat := 1
abbrev τ : Topo := Topo.v7x

variable {F : FTy → Type} [FloatOps F]
-- ==== AttnF.lean ====
abbrev S8192x512 : Shape := ⟨2, ![8192, 512]⟩
abbrev S8 : Shape := ⟨1, ![8]⟩
abbrev S_ : Shape := ⟨0, ![]⟩
abbrev S8192x1024 : Shape := ⟨2, ![8192, 1024]⟩
abbrev S8192x1536 : Shape := ⟨2, ![8192, 1536]⟩
abbrev S8x1x1 : Shape := ⟨3, ![8, 1, 1]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S1x128x256 : Shape := ⟨3, ![1, 128, 256]⟩
abbrev S8x128x256 : Shape := ⟨3, ![8, 128, 256]⟩
abbrev S1x8x128x256 : Shape := ⟨4, ![1, 8, 128, 256]⟩
abbrev S3x8x128x256 : Shape := ⟨4, ![3, 8, 128, 256]⟩
abbrev S3x4x256x256 : Shape := ⟨4, ![3, 4, 256, 256]⟩
abbrev S2048x128 : Shape := ⟨2, ![2048, 128]⟩
abbrev S3x1x256x256 : Shape := ⟨4, ![3, 1, 256, 256]⟩
abbrev S128x128 : Shape := ⟨2, ![128, 128]⟩
abbrev S256x256 : Shape := ⟨2, ![256, 256]⟩
abbrev S256x128 : Shape := ⟨2, ![256, 128]⟩
abbrev S1x1x256x256 : Shape := ⟨4, ![1, 1, 256, 256]⟩
abbrev S256x1 : Shape := ⟨2, ![256, 1]⟩
abbrev S128x512 : Shape := ⟨2, ![128, 512]⟩
abbrev S512x128 : Shape := ⟨2, ![512, 128]⟩

abbrev nBuf : Space → Nat
  | .hbm => 79
  | .vmem => 22
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8, .f32⟩
  | .hbm, ⟨4, _⟩ => ⟨S_, .f32⟩
  | .hbm, ⟨5, _⟩ => ⟨S8192x512, .f32⟩
  | .hbm, ⟨6, _⟩ => ⟨S8192x512, .f32⟩
  | .hbm, ⟨7, _⟩ => ⟨S8192x1024, .f32⟩
  | .hbm, ⟨8, _⟩ => ⟨S8192x1536, .f32⟩
  | .hbm, ⟨9, _⟩ => ⟨S8x1x1, .f32⟩
  | .hbm, ⟨10, _⟩ => ⟨S128, .i32⟩
  | .hbm, ⟨11, _⟩ => ⟨S128x1, .i32⟩
  | .hbm, ⟨12, _⟩ => ⟨S_, .i32⟩
  | .hbm, ⟨13, _⟩ => ⟨S128x1, .i32⟩
  | .hbm, ⟨14, _⟩ => ⟨S128x1, .i32⟩
  | .hbm, ⟨15, _⟩ => ⟨S256, .i32⟩
  | .hbm, ⟨16, _⟩ => ⟨S1x256, .i32⟩
  | .hbm, ⟨17, _⟩ => ⟨S128x256, .i32⟩
  | .hbm, ⟨18, _⟩ => ⟨S128x256, .i32⟩
  | .hbm, ⟨19, _⟩ => ⟨S128x256, .i32⟩
  | .hbm, ⟨20, _⟩ => ⟨S_, .i32⟩
  | .hbm, ⟨21, _⟩ => ⟨S128x256, .i32⟩
  | .hbm, ⟨22, _⟩ => ⟨S128x256, .i1⟩
  | .hbm, ⟨23, _⟩ => ⟨S_, .i32⟩
  | .hbm, ⟨24, _⟩ => ⟨S128x256, .i32⟩
  | .hbm, ⟨25, _⟩ => ⟨S128x256, .i1⟩
  | .hbm, ⟨26, _⟩ => ⟨S128x256, .i1⟩
  | .hbm, ⟨27, _⟩ => ⟨S1x128x256, .i1⟩
  | .hbm, ⟨28, _⟩ => ⟨S8x1x1, .f32⟩
  | .hbm, ⟨29, _⟩ => ⟨S_, .i32⟩
  | .hbm, ⟨30, _⟩ => ⟨S128x256, .i32⟩
  | .hbm, ⟨31, _⟩ => ⟨S128x256, .i32⟩
  | .hbm, ⟨32, _⟩ => ⟨S1x128x256, .i32⟩
  | .hbm, ⟨33, _⟩ => ⟨S1x128x256, .f32⟩
  | .hbm, ⟨34, _⟩ => ⟨S8x128x256, .f32⟩
  | .hbm, ⟨35, _⟩ => ⟨S8x128x256, .f32⟩
  | .hbm, ⟨36, _⟩ => ⟨S8x128x256, .f32⟩
  | .hbm, ⟨37, _⟩ => ⟨S_, .f32⟩
  | .hbm, ⟨38, _⟩ => ⟨S_, .f32⟩
  | .hbm, ⟨39, _⟩ => ⟨S8x128x256, .i1⟩
  | .hbm, ⟨40, _⟩ => ⟨S8x128x256, .f32⟩
  | .hbm, ⟨41, _⟩ => ⟨S8x128x256, .f32⟩
  | .hbm, ⟨42, _⟩ => ⟨S1x128x256, .i1⟩
  | .hbm, ⟨43, _⟩ => ⟨S8x1x1, .f32⟩
  | .hbm, ⟨44, _⟩ => ⟨S_, .i32⟩
  | .hbm, ⟨45, _⟩ => ⟨S128x256, .i32⟩
  | .hbm, ⟨46, _⟩ => ⟨S128x256, .i32⟩
  | .hbm, ⟨47, _⟩ => ⟨S1x128x256, .i32⟩
  | .hbm, ⟨48, _⟩ => ⟨S1x128x256, .f32⟩
  | .hbm, ⟨49, _⟩ => ⟨S8x128x256, .f32⟩
  | .hbm, ⟨50, _⟩ => ⟨S8x128x256, .f32⟩
  | .hbm, ⟨51, _⟩ => ⟨S8x128x256, .f32⟩
  | .hbm, ⟨52, _⟩ => ⟨S_, .f32⟩
  | .hbm, ⟨53, _⟩ => ⟨S_, .f32⟩
  | .hbm, ⟨54, _⟩ => ⟨S8x128x256, .i1⟩
  | .hbm, ⟨55, _⟩ => ⟨S8x128x256, .f32⟩
  | .hbm, ⟨56, _⟩ => ⟨S8x128x256, .f32⟩
  | .hbm, ⟨57, _⟩ => ⟨S1x128x256, .i1⟩
  | .hbm, ⟨58, _⟩ => ⟨S8x1x1, .f32⟩
  | .hbm, ⟨59, _⟩ => ⟨S_, .i32⟩
  | .hbm, ⟨60, _⟩ => ⟨S128x256, .i32⟩
  | .hbm, ⟨61, _⟩ => ⟨S128x256, .i32⟩
  | .hbm, ⟨62, _⟩ => ⟨S1x128x256, .i32⟩
  | .hbm, ⟨63, _⟩ => ⟨S1x128x256, .f32⟩
  | .hbm, ⟨64, _⟩ => ⟨S8x128x256, .f32⟩
  | .hbm, ⟨65, _⟩ => ⟨S8x128x256, .f32⟩
  | .hbm, ⟨66, _⟩ => ⟨S8x128x256, .f32⟩
  | .hbm, ⟨67, _⟩ => ⟨S_, .f32⟩
  | .hbm, ⟨68, _⟩ => ⟨S_, .f32⟩
  | .hbm, ⟨69, _⟩ => ⟨S8x128x256, .i1⟩
  | .hbm, ⟨70, _⟩ => ⟨S8x128x256, .f32⟩
  | .hbm, ⟨71, _⟩ => ⟨S8x128x256, .f32⟩
  | .hbm, ⟨72, _⟩ => ⟨S1x8x128x256, .f32⟩
  | .hbm, ⟨73, _⟩ => ⟨S1x8x128x256, .f32⟩
  | .hbm, ⟨74, _⟩ => ⟨S1x8x128x256, .f32⟩
  | .hbm, ⟨75, _⟩ => ⟨S3x8x128x256, .f32⟩
  | .hbm, ⟨76, _⟩ => ⟨S3x4x256x256, .f32⟩
  | .hbm, ⟨77, _⟩ => ⟨S8192x512, .f32⟩
  | .hbm, ⟨78, _⟩ => ⟨S8192x512, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S3x1x256x256, .f32⟩
  | .local _ .vmem, ⟨11, _⟩ => ⟨S3x1x256x256, .f32⟩
  | .local _ .vmem, ⟨12, _⟩ => ⟨S2048x128, .f32⟩
  | .local _ .vmem, ⟨13, _⟩ => ⟨S2048x128, .f32⟩
  | .local _ .vmem, ⟨14, _⟩ => ⟨S2048x128, .f32⟩
  | .local _ .vmem, ⟨15, _⟩ => ⟨S2048x128, .f32⟩
  | .local _ .vmem, ⟨16, _⟩ => ⟨S2048x128, .f32⟩
  | .local _ .vmem, ⟨17, _⟩ => ⟨S2048x128, .f32⟩
  | .local _ .vmem, ⟨18, _⟩ => ⟨S2048x128, .f32⟩
  | .local _ .vmem, ⟨19, _⟩ => ⟨S2048x128, .f32⟩
  | .local _ .vmem, ⟨20, _⟩ => ⟨S2048x128, .f32⟩
  | .local _ .vmem, ⟨21, _⟩ => ⟨S2048x128, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c_1 : Ref sig .tc := ⟨.hbm, 20, rfl⟩
abbrev main_v14 : Ref sig .tc := ⟨.hbm, 21, rfl⟩
abbrev main_v15 : Ref sig .tc := ⟨.hbm, 22, rfl⟩
abbrev main_c_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_4 : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_c_7 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_8 : Ref sig .tc := ⟨.hbm, 67, rfl⟩
abbrev main_call2_v0 : Ref sig .tc := ⟨.hbm, 68, rfl⟩
abbrev main_call2_v1 : Ref sig .tc := ⟨.hbm, 69, rfl⟩
abbrev main_call2_v2 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54_0 : Ref sig .tc := ⟨.hbm, 77, rfl⟩
abbrev main_v54_1 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c4_i32 : BitVec 32 := 4#32
  let v2 : BitVec 32 := Scalar.addi c4_i32 arg0
  let c0_i32_0 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c8_i32 : BitVec 32 := 8#32
  let v2 : BitVec 32 := Scalar.addi c8_i32 arg0
  let c0_i32_0 : BitVec 32 := 0#32
  ![v1.toNat, v2.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S3x1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AttnFIdeal.lean ====
variable {F : FTy → Type} [FloatOps F] [Named F]
def κ : String → Option EReal := fun
  | "mask" => some ⊥
  | _ => none
-- ==== AttnFRefIdeal.lean ====
abbrev S8192x512 : Shape := ⟨2, ![8192, 512]⟩
abbrev S8192x8x64 : Shape := ⟨3, ![8192, 8, 64]⟩
abbrev S8 : Shape := ⟨1, ![8]⟩
abbrev S_ : Shape := ⟨0, ![]⟩
abbrev S8192x1x8x64 : Shape := ⟨4, ![8192, 1, 8, 64]⟩
abbrev S1x8x8192x64 : Shape := ⟨4, ![1, 8, 8192, 64]⟩
abbrev S1x8x64x128x64 : Shape := ⟨5, ![1, 8, 64, 128, 64]⟩
abbrev S1x8x1x128x64 : Shape := ⟨5, ![1, 8, 1, 128, 64]⟩
abbrev S1x8x63x128x64 : Shape := ⟨5, ![1, 8, 63, 128, 64]⟩
abbrev S1x8x64x256x64 : Shape := ⟨5, ![1, 8, 64, 256, 64]⟩
abbrev S1x8x64x128x256 : Shape := ⟨5, ![1, 8, 64, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S64 : Shape := ⟨1, ![64]⟩
abbrev S64x1x1 : Shape := ⟨3, ![64, 1, 1]⟩
abbrev S1x1x256 : Shape := ⟨3, ![1, 1, 256]⟩
abbrev S64x1x256 : Shape := ⟨3, ![64, 1, 256]⟩
abbrev S1x128x256 : Shape := ⟨3, ![1, 128, 256]⟩
abbrev S64x128x256 : Shape := ⟨3, ![64, 128, 256]⟩
abbrev S8x1x1 : Shape := ⟨3, ![8, 1, 1]⟩
abbrev S8x128x256 : Shape := ⟨3, ![8, 128, 256]⟩
abbrev S8x1x128x256 : Shape := ⟨4, ![8, 1, 128, 256]⟩
abbrev S1x8x1x128x256 : Shape := ⟨5, ![1, 8, 1, 128, 256]⟩
abbrev S1x8x64x128 : Shape := ⟨4, ![1, 8, 64, 128]⟩
abbrev S1x8x64x128x1 : Shape := ⟨5, ![1, 8, 64, 128, 1]⟩
abbrev S1x8x8192 : Shape := ⟨3, ![1, 8, 8192]⟩
abbrev S8192x1x8 : Shape := ⟨3, ![8192, 1, 8]⟩
abbrev S8192x8 : Shape := ⟨2, ![8192, 8]⟩
abbrev S2048x4x8x64 : Shape := ⟨4, ![2048, 4, 8, 64]⟩
abbrev S4x8x2048x64 : Shape := ⟨4, ![4, 8, 2048, 64]⟩
abbrev S4x8x16x128x64 : Shape := ⟨5, ![4, 8, 16, 128, 64]⟩
abbrev S4x8x1x128x64 : Shape := ⟨5, ![4, 8, 1, 128, 64]⟩
abbrev S4x8x15x128x64 : Shape := ⟨5, ![4, 8, 15, 128, 64]⟩
abbrev S4x8x16x256x64 : Shape := ⟨5, ![4, 8, 16, 256, 64]⟩
abbrev S4x8x16x128x256 : Shape := ⟨5, ![4, 8, 16, 128, 256]⟩
abbrev S16 : Shape := ⟨1, ![16]⟩
abbrev S16x1x1 : Shape := ⟨3, ![16, 1, 1]⟩
abbrev S16x1x256 : Shape := ⟨3, ![16, 1, 256]⟩
abbrev S16x128x256 : Shape := ⟨3, ![16, 128, 256]⟩
abbrev S4x8x16x128 : Shape := ⟨4, ![4, 8, 16, 128]⟩
abbrev S4x8x16x128x1 : Shape := ⟨5, ![4, 8, 16, 128, 1]⟩
abbrev S4x8x2048 : Shape := ⟨3, ![4, 8, 2048]⟩
abbrev S2048x4x8 : Shape := ⟨3, ![2048, 4, 8]⟩
abbrev S512x16x8x64 : Shape := ⟨4, ![512, 16, 8, 64]⟩
abbrev S16x8x512x64 : Shape := ⟨4, ![16, 8, 512, 64]⟩
abbrev S16x8x4x128x64 : Shape := ⟨5, ![16, 8, 4, 128, 64]⟩
abbrev S16x8x1x128x64 : Shape := ⟨5, ![16, 8, 1, 128, 64]⟩
abbrev S16x8x3x128x64 : Shape := ⟨5, ![16, 8, 3, 128, 64]⟩
abbrev S16x8x4x256x64 : Shape := ⟨5, ![16, 8, 4, 256, 64]⟩
abbrev S16x8x4x128x256 : Shape := ⟨5, ![16, 8, 4, 128, 256]⟩
abbrev S4 : Shape := ⟨1, ![4]⟩
abbrev S4x1x1 : Shape := ⟨3, ![4, 1, 1]⟩
abbrev S4x1x256 : Shape := ⟨3, ![4, 1, 256]⟩
abbrev S4x128x256 : Shape := ⟨3, ![4, 128, 256]⟩
abbrev S16x8x4x128 : Shape := ⟨4, ![16, 8, 4, 128]⟩
abbrev S16x8x4x128x1 : Shape := ⟨5, ![16, 8, 4, 128, 1]⟩
abbrev S16x8x512 : Shape := ⟨3, ![16, 8, 512]⟩
abbrev S512x16x8 : Shape := ⟨3, ![512, 16, 8]⟩
abbrev S1x8192x8 : Shape := ⟨3, ![1, 8192, 8]⟩
abbrev S3x8192x8 : Shape := ⟨3, ![3, 8192, 8]⟩
abbrev S3x8192x8x1 : Shape := ⟨4, ![3, 8192, 8, 1]⟩
abbrev S1x8192x8x64 : Shape := ⟨4, ![1, 8192, 8, 64]⟩
abbrev S3x8192x8x64 : Shape := ⟨4, ![3, 8192, 8, 64]⟩

abbrev nBuf : Space → Nat
  | .hbm => 363
  | .vmem => 0
  | .smem => 0
  | _ => 0

abbrev hbmTy0_0 (i : Nat) : BufTy := match i % 128 with
  | 0 => ⟨S8192x512, .f32⟩
  | 1 => ⟨S8192x512, .f32⟩
  | 2 => ⟨S8192x512, .f32⟩
  | 3 => ⟨S8192x8x64, .f32⟩
  | 4 => ⟨S8192x8x64, .f32⟩
  | 5 => ⟨S8192x8x64, .f32⟩
  | 6 => ⟨S8, .i32⟩
  | 7 => ⟨S_, .i32⟩
  | 8 => ⟨S8, .i32⟩
  | 9 => ⟨S8, .i32⟩
  | 10 => ⟨S_, .i32⟩
  | 11 => ⟨S8, .i32⟩
  | 12 => ⟨S8, .i32⟩
  | 13 => ⟨S_, .i32⟩
  | 14 => ⟨S_, .i32⟩
  | 15 => ⟨S8, .i32⟩
  | 16 => ⟨S8, .i32⟩
  | 17 => ⟨S8, .i32⟩
  | 18 => ⟨S_, .i32⟩
  | 19 => ⟨S8, .i32⟩
  | 20 => ⟨S8, .i1⟩
  | 21 => ⟨S8, .i32⟩
  | 22 => ⟨S8, .i32⟩
  | 23 => ⟨S_, .i32⟩
  | 24 => ⟨S8, .i32⟩
  | 25 => ⟨S8, .i1⟩
  | 26 => ⟨S8, .i1⟩
  | 27 => ⟨S_, .i32⟩
  | 28 => ⟨S8, .i32⟩
  | 29 => ⟨S8, .i32⟩
  | 30 => ⟨S8, .i32⟩
  | 31 => ⟨S_, .i32⟩
  | 32 => ⟨S8, .i32⟩
  | 33 => ⟨S8, .i32⟩
  | 34 => ⟨S8, .f32⟩
  | 35 => ⟨S_, .f32⟩
  | 36 => ⟨S8, .f32⟩
  | 37 => ⟨S8, .f32⟩
  | 38 => ⟨S8192x1x8x64, .f32⟩
  | 39 => ⟨S1x8x8192x64, .f32⟩
  | 40 => ⟨S1x8x64x128x64, .f32⟩
  | 41 => ⟨S8192x1x8x64, .f32⟩
  | 42 => ⟨S1x8x8192x64, .f32⟩
  | 43 => ⟨S1x8x64x128x64, .f32⟩
  | 44 => ⟨S_, .f32⟩
  | 45 => ⟨S1x8x1x128x64, .f32⟩
  | 46 => ⟨S1x8x63x128x64, .f32⟩
  | 47 => ⟨S1x8x64x128x64, .f32⟩
  | 48 => ⟨S1x8x64x256x64, .f32⟩
  | 49 => ⟨S8192x1x8x64, .f32⟩
  | 50 => ⟨S1x8x8192x64, .f32⟩
  | 51 => ⟨S1x8x64x128x64, .f32⟩
  | 52 => ⟨S_, .f32⟩
  | 53 => ⟨S1x8x1x128x64, .f32⟩
  | 54 => ⟨S1x8x63x128x64, .f32⟩
  | 55 => ⟨S1x8x64x128x64, .f32⟩
  | 56 => ⟨S1x8x64x256x64, .f32⟩
  | 57 => ⟨S1x8x64x128x256, .f32⟩
  | 58 => ⟨S_, .f32⟩
  | 59 => ⟨S1x8x64x128x256, .f32⟩
  | 60 => ⟨S1x8x64x128x256, .f32⟩
  | 61 => ⟨S128, .i32⟩
  | 62 => ⟨S128x1, .i32⟩
  | 63 => ⟨S_, .i32⟩
  | 64 => ⟨S128x1, .i32⟩
  | 65 => ⟨S128x1, .i32⟩
  | 66 => ⟨S256, .i32⟩
  | 67 => ⟨S1x256, .i32⟩
  | 68 => ⟨S128x256, .i32⟩
  | 69 => ⟨S128x256, .i32⟩
  | 70 => ⟨S128x256, .i32⟩
  | 71 => ⟨S_, .i32⟩
  | 72 => ⟨S128x256, .i32⟩
  | 73 => ⟨S128x256, .i1⟩
  | 74 => ⟨S_, .i32⟩
  | 75 => ⟨S128x256, .i32⟩
  | 76 => ⟨S128x256, .i1⟩
  | 77 => ⟨S128x256, .i1⟩
  | 78 => ⟨S64, .i32⟩
  | 79 => ⟨S64x1x1, .i32⟩
  | 80 => ⟨S_, .i32⟩
  | 81 => ⟨S64x1x1, .i32⟩
  | 82 => ⟨S64x1x1, .i1⟩
  | 83 => ⟨S_, .i32⟩
  | 84 => ⟨S1x256, .i32⟩
  | 85 => ⟨S1x256, .i1⟩
  | 86 => ⟨S1x1x256, .i1⟩
  | 87 => ⟨S64x1x256, .i1⟩
  | 88 => ⟨S64x1x256, .i1⟩
  | 89 => ⟨S64x1x256, .i1⟩
  | 90 => ⟨S1x128x256, .i1⟩
  | 91 => ⟨S64x1x256, .i1⟩
  | 92 => ⟨S64x128x256, .i1⟩
  | 93 => ⟨S64x128x256, .i1⟩
  | 94 => ⟨S64x128x256, .i1⟩
  | 95 => ⟨S_, .i32⟩
  | 96 => ⟨S128x256, .i32⟩
  | 97 => ⟨S128x256, .i32⟩
  | 98 => ⟨S128x256, .f32⟩
  | 99 => ⟨S8x1x1, .f32⟩
  | 100 => ⟨S8x1x1, .f32⟩
  | 101 => ⟨S1x128x256, .f32⟩
  | 102 => ⟨S8x128x256, .f32⟩
  | 103 => ⟨S8x128x256, .f32⟩
  | 104 => ⟨S8x128x256, .f32⟩
  | 105 => ⟨S8x1x128x256, .f32⟩
  | 106 => ⟨S1x8x1x128x256, .f32⟩
  | 107 => ⟨S1x8x64x128x256, .f32⟩
  | 108 => ⟨S1x8x64x128x256, .f32⟩
  | 109 => ⟨S_, .f32⟩
  | 110 => ⟨S_, .f32⟩
  | 111 => ⟨S1x8x64x128x256, .i1⟩
  | 112 => ⟨S1x8x64x128x256, .f32⟩
  | 113 => ⟨S1x8x64x128x256, .f32⟩
  | 114 => ⟨S_, .f32⟩
  | 115 => ⟨S1x8x64x128, .f32⟩
  | 116 => ⟨S1x8x64x128x1, .f32⟩
  | 117 => ⟨S1x8x64x128x256, .f32⟩
  | 118 => ⟨S1x8x64x128x256, .f32⟩
  | 119 => ⟨S1x8x64x128x256, .f32⟩
  | 120 => ⟨S_, .f32⟩
  | 121 => ⟨S1x8x64x128, .f32⟩
  | 122 => ⟨S1x8x64x128x1, .f32⟩
  | 123 => ⟨S1x8x64x128x64, .f32⟩
  | 124 => ⟨S1x8x64x128x64, .f32⟩
  | 125 => ⟨S1x8x64x128x64, .f32⟩
  | 126 => ⟨S1x8x64x128x1, .f32⟩
  | 127 => ⟨S1x8x64x128x1, .f32⟩
  | _ => ⟨S8192x512, .f32⟩

abbrev hbmTy0_1 (i : Nat) : BufTy := match i % 128 with
  | 0 => ⟨S1x8x64x128, .f32⟩
  | 1 => ⟨S1x8x8192x64, .f32⟩
  | 2 => ⟨S8192x1x8x64, .f32⟩
  | 3 => ⟨S8192x8x64, .f32⟩
  | 4 => ⟨S1x8x8192, .f32⟩
  | 5 => ⟨S8192x1x8, .f32⟩
  | 6 => ⟨S8192x8, .f32⟩
  | 7 => ⟨S2048x4x8x64, .f32⟩
  | 8 => ⟨S4x8x2048x64, .f32⟩
  | 9 => ⟨S4x8x16x128x64, .f32⟩
  | 10 => ⟨S2048x4x8x64, .f32⟩
  | 11 => ⟨S4x8x2048x64, .f32⟩
  | 12 => ⟨S4x8x16x128x64, .f32⟩
  | 13 => ⟨S_, .f32⟩
  | 14 => ⟨S4x8x1x128x64, .f32⟩
  | 15 => ⟨S4x8x15x128x64, .f32⟩
  | 16 => ⟨S4x8x16x128x64, .f32⟩
  | 17 => ⟨S4x8x16x256x64, .f32⟩
  | 18 => ⟨S2048x4x8x64, .f32⟩
  | 19 => ⟨S4x8x2048x64, .f32⟩
  | 20 => ⟨S4x8x16x128x64, .f32⟩
  | 21 => ⟨S_, .f32⟩
  | 22 => ⟨S4x8x1x128x64, .f32⟩
  | 23 => ⟨S4x8x15x128x64, .f32⟩
  | 24 => ⟨S4x8x16x128x64, .f32⟩
  | 25 => ⟨S4x8x16x256x64, .f32⟩
  | 26 => ⟨S4x8x16x128x256, .f32⟩
  | 27 => ⟨S_, .f32⟩
  | 28 => ⟨S4x8x16x128x256, .f32⟩
  | 29 => ⟨S4x8x16x128x256, .f32⟩
  | 30 => ⟨S128, .i32⟩
  | 31 => ⟨S128x1, .i32⟩
  | 32 => ⟨S_, .i32⟩
  | 33 => ⟨S128x1, .i32⟩
  | 34 => ⟨S128x1, .i32⟩
  | 35 => ⟨S256, .i32⟩
  | 36 => ⟨S1x256, .i32⟩
  | 37 => ⟨S128x256, .i32⟩
  | 38 => ⟨S128x256, .i32⟩
  | 39 => ⟨S128x256, .i32⟩
  | 40 => ⟨S_, .i32⟩
  | 41 => ⟨S128x256, .i32⟩
  | 42 => ⟨S128x256, .i1⟩
  | 43 => ⟨S_, .i32⟩
  | 44 => ⟨S128x256, .i32⟩
  | 45 => ⟨S128x256, .i1⟩
  | 46 => ⟨S128x256, .i1⟩
  | 47 => ⟨S16, .i32⟩
  | 48 => ⟨S16x1x1, .i32⟩
  | 49 => ⟨S_, .i32⟩
  | 50 => ⟨S16x1x1, .i32⟩
  | 51 => ⟨S16x1x1, .i1⟩
  | 52 => ⟨S_, .i32⟩
  | 53 => ⟨S1x256, .i32⟩
  | 54 => ⟨S1x256, .i1⟩
  | 55 => ⟨S1x1x256, .i1⟩
  | 56 => ⟨S16x1x256, .i1⟩
  | 57 => ⟨S16x1x256, .i1⟩
  | 58 => ⟨S16x1x256, .i1⟩
  | 59 => ⟨S1x128x256, .i1⟩
  | 60 => ⟨S16x1x256, .i1⟩
  | 61 => ⟨S16x128x256, .i1⟩
  | 62 => ⟨S16x128x256, .i1⟩
  | 63 => ⟨S16x128x256, .i1⟩
  | 64 => ⟨S_, .i32⟩
  | 65 => ⟨S128x256, .i32⟩
  | 66 => ⟨S128x256, .i32⟩
  | 67 => ⟨S128x256, .f32⟩
  | 68 => ⟨S8x1x1, .f32⟩
  | 69 => ⟨S8x1x1, .f32⟩
  | 70 => ⟨S1x128x256, .f32⟩
  | 71 => ⟨S8x128x256, .f32⟩
  | 72 => ⟨S8x128x256, .f32⟩
  | 73 => ⟨S8x128x256, .f32⟩
  | 74 => ⟨S8x1x128x256, .f32⟩
  | 75 => ⟨S1x8x1x128x256, .f32⟩
  | 76 => ⟨S4x8x16x128x256, .f32⟩
  | 77 => ⟨S4x8x16x128x256, .f32⟩
  | 78 => ⟨S_, .f32⟩
  | 79 => ⟨S_, .f32⟩
  | 80 => ⟨S4x8x16x128x256, .i1⟩
  | 81 => ⟨S4x8x16x128x256, .f32⟩
  | 82 => ⟨S4x8x16x128x256, .f32⟩
  | 83 => ⟨S_, .f32⟩
  | 84 => ⟨S4x8x16x128, .f32⟩
  | 85 => ⟨S4x8x16x128x1, .f32⟩
  | 86 => ⟨S4x8x16x128x256, .f32⟩
  | 87 => ⟨S4x8x16x128x256, .f32⟩
  | 88 => ⟨S4x8x16x128x256, .f32⟩
  | 89 => ⟨S_, .f32⟩
  | 90 => ⟨S4x8x16x128, .f32⟩
  | 91 => ⟨S4x8x16x128x1, .f32⟩
  | 92 => ⟨S4x8x16x128x64, .f32⟩
  | 93 => ⟨S4x8x16x128x64, .f32⟩
  | 94 => ⟨S4x8x16x128x64, .f32⟩
  | 95 => ⟨S4x8x16x128x1, .f32⟩
  | 96 => ⟨S4x8x16x128x1, .f32⟩
  | 97 => ⟨S4x8x16x128, .f32⟩
  | 98 => ⟨S4x8x2048x64, .f32⟩
  | 99 => ⟨S2048x4x8x64, .f32⟩
  | 100 => ⟨S8192x8x64, .f32⟩
  | 101 => ⟨S4x8x2048, .f32⟩
  | 102 => ⟨S2048x4x8, .f32⟩
  | 103 => ⟨S8192x8, .f32⟩
  | 104 => ⟨S512x16x8x64, .f32⟩
  | 105 => ⟨S16x8x512x64, .f32⟩
  | 106 => ⟨S16x8x4x128x64, .f32⟩
  | 107 => ⟨S512x16x8x64, .f32⟩
  | 108 => ⟨S16x8x512x64, .f32⟩
  | 109 => ⟨S16x8x4x128x64, .f32⟩
  | 110 => ⟨S_, .f32⟩
  | 111 => ⟨S16x8x1x128x64, .f32⟩
  | 112 => ⟨S16x8x3x128x64, .f32⟩
  | 113 => ⟨S16x8x4x128x64, .f32⟩
  | 114 => ⟨S16x8x4x256x64, .f32⟩
  | 115 => ⟨S512x16x8x64, .f32⟩
  | 116 => ⟨S16x8x512x64, .f32⟩
  | 117 => ⟨S16x8x4x128x64, .f32⟩
  | 118 => ⟨S_, .f32⟩
  | 119 => ⟨S16x8x1x128x64, .f32⟩
  | 120 => ⟨S16x8x3x128x64, .f32⟩
  | 121 => ⟨S16x8x4x128x64, .f32⟩
  | 122 => ⟨S16x8x4x256x64, .f32⟩
  | 123 => ⟨S16x8x4x128x256, .f32⟩
  | 124 => ⟨S_, .f32⟩
  | 125 => ⟨S16x8x4x128x256, .f32⟩
  | 126 => ⟨S16x8x4x128x256, .f32⟩
  | 127 => ⟨S128, .i32⟩
  | _ => ⟨S8192x512, .f32⟩

abbrev hbmTy0_2 (i : Nat) : BufTy := match i % 128 with
  | 0 => ⟨S128x1, .i32⟩
  | 1 => ⟨S_, .i32⟩
  | 2 => ⟨S128x1, .i32⟩
  | 3 => ⟨S128x1, .i32⟩
  | 4 => ⟨S256, .i32⟩
  | 5 => ⟨S1x256, .i32⟩
  | 6 => ⟨S128x256, .i32⟩
  | 7 => ⟨S128x256, .i32⟩
  | 8 => ⟨S128x256, .i32⟩
  | 9 => ⟨S_, .i32⟩
  | 10 => ⟨S128x256, .i32⟩
  | 11 => ⟨S128x256, .i1⟩
  | 12 => ⟨S_, .i32⟩
  | 13 => ⟨S128x256, .i32⟩
  | 14 => ⟨S128x256, .i1⟩
  | 15 => ⟨S128x256, .i1⟩
  | 16 => ⟨S4, .i32⟩
  | 17 => ⟨S4x1x1, .i32⟩
  | 18 => ⟨S_, .i32⟩
  | 19 => ⟨S4x1x1, .i32⟩
  | 20 => ⟨S4x1x1, .i1⟩
  | 21 => ⟨S_, .i32⟩
  | 22 => ⟨S1x256, .i32⟩
  | 23 => ⟨S1x256, .i1⟩
  | 24 => ⟨S1x1x256, .i1⟩
  | 25 => ⟨S4x1x256, .i1⟩
  | 26 => ⟨S4x1x256, .i1⟩
  | 27 => ⟨S4x1x256, .i1⟩
  | 28 => ⟨S1x128x256, .i1⟩
  | 29 => ⟨S4x1x256, .i1⟩
  | 30 => ⟨S4x128x256, .i1⟩
  | 31 => ⟨S4x128x256, .i1⟩
  | 32 => ⟨S4x128x256, .i1⟩
  | 33 => ⟨S_, .i32⟩
  | 34 => ⟨S128x256, .i32⟩
  | 35 => ⟨S128x256, .i32⟩
  | 36 => ⟨S128x256, .f32⟩
  | 37 => ⟨S8x1x1, .f32⟩
  | 38 => ⟨S8x1x1, .f32⟩
  | 39 => ⟨S1x128x256, .f32⟩
  | 40 => ⟨S8x128x256, .f32⟩
  | 41 => ⟨S8x128x256, .f32⟩
  | 42 => ⟨S8x128x256, .f32⟩
  | 43 => ⟨S8x1x128x256, .f32⟩
  | 44 => ⟨S1x8x1x128x256, .f32⟩
  | 45 => ⟨S16x8x4x128x256, .f32⟩
  | 46 => ⟨S16x8x4x128x256, .f32⟩
  | 47 => ⟨S_, .f32⟩
  | 48 => ⟨S_, .f32⟩
  | 49 => ⟨S16x8x4x128x256, .i1⟩
  | 50 => ⟨S16x8x4x128x256, .f32⟩
  | 51 => ⟨S16x8x4x128x256, .f32⟩
  | 52 => ⟨S_, .f32⟩
  | 53 => ⟨S16x8x4x128, .f32⟩
  | 54 => ⟨S16x8x4x128x1, .f32⟩
  | 55 => ⟨S16x8x4x128x256, .f32⟩
  | 56 => ⟨S16x8x4x128x256, .f32⟩
  | 57 => ⟨S16x8x4x128x256, .f32⟩
  | 58 => ⟨S_, .f32⟩
  | 59 => ⟨S16x8x4x128, .f32⟩
  | 60 => ⟨S16x8x4x128x1, .f32⟩
  | 61 => ⟨S16x8x4x128x64, .f32⟩
  | 62 => ⟨S16x8x4x128x64, .f32⟩
  | 63 => ⟨S16x8x4x128x64, .f32⟩
  | 64 => ⟨S16x8x4x128x1, .f32⟩
  | 65 => ⟨S16x8x4x128x1, .f32⟩
  | 66 => ⟨S16x8x4x128, .f32⟩
  | 67 => ⟨S16x8x512x64, .f32⟩
  | 68 => ⟨S512x16x8x64, .f32⟩
  | 69 => ⟨S8192x8x64, .f32⟩
  | 70 => ⟨S16x8x512, .f32⟩
  | 71 => ⟨S512x16x8, .f32⟩
  | 72 => ⟨S8192x8, .f32⟩
  | 73 => ⟨S1x8192x8, .f32⟩
  | 74 => ⟨S1x8192x8, .f32⟩
  | 75 => ⟨S1x8192x8, .f32⟩
  | 76 => ⟨S3x8192x8, .f32⟩
  | 77 => ⟨S_, .f32⟩
  | 78 => ⟨S8192x8, .f32⟩
  | 79 => ⟨S_, .f32⟩
  | 80 => ⟨S8192x8, .f32⟩
  | 81 => ⟨S8192x8, .f32⟩
  | 82 => ⟨S1x8192x8, .f32⟩
  | 83 => ⟨S3x8192x8, .f32⟩
  | 84 => ⟨S3x8192x8, .f32⟩
  | 85 => ⟨S3x8192x8, .f32⟩
  | 86 => ⟨S_, .f32⟩
  | 87 => ⟨S8192x8, .f32⟩
  | 88 => ⟨S1x8192x8, .f32⟩
  | 89 => ⟨S3x8192x8, .f32⟩
  | 90 => ⟨S3x8192x8, .f32⟩
  | 91 => ⟨S3x8192x8x1, .f32⟩
  | 92 => ⟨S1x8192x8x64, .f32⟩
  | 93 => ⟨S1x8192x8x64, .f32⟩
  | 94 => ⟨S1x8192x8x64, .f32⟩
  | 95 => ⟨S3x8192x8x64, .f32⟩
  | 96 => ⟨S3x8192x8x64, .f32⟩
  | 97 => ⟨S3x8192x8x64, .f32⟩
  | 98 => ⟨S_, .f32⟩
  | 99 => ⟨S8192x8x64, .f32⟩
  | 100 => ⟨S3x8192x8, .f32⟩
  | 101 => ⟨S_, .f32⟩
  | 102 => ⟨S8192x8, .f32⟩
  | 103 => ⟨S8192x8, .f32⟩
  | 104 => ⟨S8192x512, .f32⟩
  | 105 => ⟨S8192x8x64, .f32⟩
  | 106 => ⟨S8192x512, .f32⟩
  | _ => ⟨S8192x512, .f32⟩

abbrev hbmTy (i : Nat) : BufTy := match i / 128 with
  | 0 => hbmTy0_0 i
  | 1 => hbmTy0_1 i
  | 2 => hbmTy0_2 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_c_1 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v8 : Ref sig .tc := ⟨.hbm, 30, rfl⟩
abbrev main_c_2 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_cst : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_cst_3 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_cst_4 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_cst_5 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_c_6 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_c_7 : Ref sig .tc := ⟨.hbm, 71, rfl⟩
abbrev main_v43 : Ref sig .tc := ⟨.hbm, 72, rfl⟩
abbrev main_v44 : Ref sig .tc := ⟨.hbm, 73, rfl⟩
abbrev main_c_8 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_c_9 : Ref sig .tc := ⟨.hbm, 80, rfl⟩
abbrev main_v50 : Ref sig .tc := ⟨.hbm, 81, rfl⟩
abbrev main_v51 : Ref sig .tc := ⟨.hbm, 82, rfl⟩
abbrev main_c_10 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_c_11 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_cst_12 : Ref sig .tc := ⟨.hbm, 109, rfl⟩
abbrev main_call1_v0 : Ref sig .tc := ⟨.hbm, 110, rfl⟩
abbrev main_call1_v1 : Ref sig .tc := ⟨.hbm, 111, rfl⟩
abbrev main_call1_v2 : Ref sig .tc := ⟨.hbm, 112, rfl⟩
abbrev main_v76 : Ref sig .tc := ⟨.hbm, 113, rfl⟩
abbrev main_cst_13 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_cst_14 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_cst_15 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_cst_16 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_cst_17 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_c_18 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_c_19 : Ref sig .tc := ⟨.hbm, 168, rfl⟩
abbrev main_v125 : Ref sig .tc := ⟨.hbm, 169, rfl⟩
abbrev main_v126 : Ref sig .tc := ⟨.hbm, 170, rfl⟩
abbrev main_c_20 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_c_21 : Ref sig .tc := ⟨.hbm, 177, rfl⟩
abbrev main_v132 : Ref sig .tc := ⟨.hbm, 178, rfl⟩
abbrev main_v133 : Ref sig .tc := ⟨.hbm, 179, rfl⟩
abbrev main_c_22 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_c_23 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_v151 : Ref sig .tc := ⟨.hbm, 199, rfl⟩
abbrev main_v152 : Ref sig .tc := ⟨.hbm, 200, rfl⟩
abbrev main_v153 : Ref sig .tc := ⟨.hbm, 201, rfl⟩
abbrev main_v154 : Ref sig .tc := ⟨.hbm, 202, rfl⟩
abbrev main_v155 : Ref sig .tc := ⟨.hbm, 203, rfl⟩
abbrev main_v156 : Ref sig .tc := ⟨.hbm, 204, rfl⟩
abbrev main_v157 : Ref sig .tc := ⟨.hbm, 205, rfl⟩
abbrev main_cst_24 : Ref sig .tc := ⟨.hbm, 206, rfl⟩
abbrev main_call2_v0 : Ref sig .tc := ⟨.hbm, 207, rfl⟩
abbrev main_call2_v1 : Ref sig .tc := ⟨.hbm, 208, rfl⟩
abbrev main_call2_v2 : Ref sig .tc := ⟨.hbm, 209, rfl⟩
abbrev main_v158 : Ref sig .tc := ⟨.hbm, 210, rfl⟩
abbrev main_cst_25 : Ref sig .tc := ⟨.hbm, 211, rfl⟩
abbrev main_v159 : Ref sig .tc := ⟨.hbm, 212, rfl⟩
abbrev main_v160 : Ref sig .tc := ⟨.hbm, 213, rfl⟩
abbrev main_v161 : Ref sig .tc := ⟨.hbm, 214, rfl⟩
abbrev main_v162 : Ref sig .tc := ⟨.hbm, 215, rfl⟩
abbrev main_v163 : Ref sig .tc := ⟨.hbm, 216, rfl⟩
abbrev main_cst_26 : Ref sig .tc := ⟨.hbm, 217, rfl⟩
abbrev main_v164 : Ref sig .tc := ⟨.hbm, 218, rfl⟩
abbrev main_v165 : Ref sig .tc := ⟨.hbm, 219, rfl⟩
abbrev main_v166 : Ref sig .tc := ⟨.hbm, 220, rfl⟩
abbrev main_v167 : Ref sig .tc := ⟨.hbm, 221, rfl⟩
abbrev main_v168 : Ref sig .tc := ⟨.hbm, 222, rfl⟩
abbrev main_v169 : Ref sig .tc := ⟨.hbm, 223, rfl⟩
abbrev main_v170 : Ref sig .tc := ⟨.hbm, 224, rfl⟩
abbrev main_v171 : Ref sig .tc := ⟨.hbm, 225, rfl⟩
abbrev main_v172 : Ref sig .tc := ⟨.hbm, 226, rfl⟩
abbrev main_v173 : Ref sig .tc := ⟨.hbm, 227, rfl⟩
abbrev main_v174 : Ref sig .tc := ⟨.hbm, 228, rfl⟩
abbrev main_v175 : Ref sig .tc := ⟨.hbm, 229, rfl⟩
abbrev main_v176 : Ref sig .tc := ⟨.hbm, 230, rfl⟩
abbrev main_v177 : Ref sig .tc := ⟨.hbm, 231, rfl⟩
abbrev main_v178 : Ref sig .tc := ⟨.hbm, 232, rfl⟩
abbrev main_v179 : Ref sig .tc := ⟨.hbm, 233, rfl⟩
abbrev main_v180 : Ref sig .tc := ⟨.hbm, 234, rfl⟩
abbrev main_v181 : Ref sig .tc := ⟨.hbm, 235, rfl⟩
abbrev main_v182 : Ref sig .tc := ⟨.hbm, 236, rfl⟩
abbrev main_v183 : Ref sig .tc := ⟨.hbm, 237, rfl⟩
abbrev main_cst_27 : Ref sig .tc := ⟨.hbm, 238, rfl⟩
abbrev main_v184 : Ref sig .tc := ⟨.hbm, 239, rfl⟩
abbrev main_v185 : Ref sig .tc := ⟨.hbm, 240, rfl⟩
abbrev main_v186 : Ref sig .tc := ⟨.hbm, 241, rfl⟩
abbrev main_v187 : Ref sig .tc := ⟨.hbm, 242, rfl⟩
abbrev main_v188 : Ref sig .tc := ⟨.hbm, 243, rfl⟩
abbrev main_v189 : Ref sig .tc := ⟨.hbm, 244, rfl⟩
abbrev main_v190 : Ref sig .tc := ⟨.hbm, 245, rfl⟩
abbrev main_cst_28 : Ref sig .tc := ⟨.hbm, 246, rfl⟩
abbrev main_v191 : Ref sig .tc := ⟨.hbm, 247, rfl⟩
abbrev main_v192 : Ref sig .tc := ⟨.hbm, 248, rfl⟩
abbrev main_v193 : Ref sig .tc := ⟨.hbm, 249, rfl⟩
abbrev main_v194 : Ref sig .tc := ⟨.hbm, 250, rfl⟩
abbrev main_v195 : Ref sig .tc := ⟨.hbm, 251, rfl⟩
abbrev main_cst_29 : Ref sig .tc := ⟨.hbm, 252, rfl⟩
abbrev main_v196 : Ref sig .tc := ⟨.hbm, 253, rfl⟩
abbrev main_v197 : Ref sig .tc := ⟨.hbm, 254, rfl⟩
abbrev main_v198 : Ref sig .tc := ⟨.hbm, 255, rfl⟩
abbrev main_v199 : Ref sig .tc := ⟨.hbm, 256, rfl⟩
abbrev main_c_30 : Ref sig .tc := ⟨.hbm, 257, rfl⟩
abbrev main_v200 : Ref sig .tc := ⟨.hbm, 258, rfl⟩
abbrev main_v201 : Ref sig .tc := ⟨.hbm, 259, rfl⟩
abbrev main_v202 : Ref sig .tc := ⟨.hbm, 260, rfl⟩
abbrev main_v203 : Ref sig .tc := ⟨.hbm, 261, rfl⟩
abbrev main_v204 : Ref sig .tc := ⟨.hbm, 262, rfl⟩
abbrev main_v205 : Ref sig .tc := ⟨.hbm, 263, rfl⟩
abbrev main_v206 : Ref sig .tc := ⟨.hbm, 264, rfl⟩
abbrev main_c_31 : Ref sig .tc := ⟨.hbm, 265, rfl⟩
abbrev main_v207 : Ref sig .tc := ⟨.hbm, 266, rfl⟩
abbrev main_v208 : Ref sig .tc := ⟨.hbm, 267, rfl⟩
abbrev main_c_32 : Ref sig .tc := ⟨.hbm, 268, rfl⟩
abbrev main_v209 : Ref sig .tc := ⟨.hbm, 269, rfl⟩
abbrev main_v210 : Ref sig .tc := ⟨.hbm, 270, rfl⟩
abbrev main_v211 : Ref sig .tc := ⟨.hbm, 271, rfl⟩
abbrev main_v212 : Ref sig .tc := ⟨.hbm, 272, rfl⟩
abbrev main_v213 : Ref sig .tc := ⟨.hbm, 273, rfl⟩
abbrev main_c_33 : Ref sig .tc := ⟨.hbm, 274, rfl⟩
abbrev main_v214 : Ref sig .tc := ⟨.hbm, 275, rfl⟩
abbrev main_v215 : Ref sig .tc := ⟨.hbm, 276, rfl⟩
abbrev main_c_34 : Ref sig .tc := ⟨.hbm, 277, rfl⟩
abbrev main_v216 : Ref sig .tc := ⟨.hbm, 278, rfl⟩
abbrev main_v217 : Ref sig .tc := ⟨.hbm, 279, rfl⟩
abbrev main_v218 : Ref sig .tc := ⟨.hbm, 280, rfl⟩
abbrev main_v219 : Ref sig .tc := ⟨.hbm, 281, rfl⟩
abbrev main_v220 : Ref sig .tc := ⟨.hbm, 282, rfl⟩
abbrev main_v221 : Ref sig .tc := ⟨.hbm, 283, rfl⟩
abbrev main_v222 : Ref sig .tc := ⟨.hbm, 284, rfl⟩
abbrev main_v223 : Ref sig .tc := ⟨.hbm, 285, rfl⟩
abbrev main_v224 : Ref sig .tc := ⟨.hbm, 286, rfl⟩
abbrev main_v225 : Ref sig .tc := ⟨.hbm, 287, rfl⟩
abbrev main_v226 : Ref sig .tc := ⟨.hbm, 288, rfl⟩
abbrev main_c_35 : Ref sig .tc := ⟨.hbm, 289, rfl⟩
abbrev main_v227 : Ref sig .tc := ⟨.hbm, 290, rfl⟩
abbrev main_v228 : Ref sig .tc := ⟨.hbm, 291, rfl⟩
abbrev main_v229 : Ref sig .tc := ⟨.hbm, 292, rfl⟩
abbrev main_v230 : Ref sig .tc := ⟨.hbm, 293, rfl⟩
abbrev main_v231 : Ref sig .tc := ⟨.hbm, 294, rfl⟩
abbrev main_v232 : Ref sig .tc := ⟨.hbm, 295, rfl⟩
abbrev main_v233 : Ref sig .tc := ⟨.hbm, 296, rfl⟩
abbrev main_v234 : Ref sig .tc := ⟨.hbm, 297, rfl⟩
abbrev main_v235 : Ref sig .tc := ⟨.hbm, 298, rfl⟩
abbrev main_v236 : Ref sig .tc := ⟨.hbm, 299, rfl⟩
abbrev main_v237 : Ref sig .tc := ⟨.hbm, 300, rfl⟩
abbrev main_v238 : Ref sig .tc := ⟨.hbm, 301, rfl⟩
abbrev main_v239 : Ref sig .tc := ⟨.hbm, 302, rfl⟩
abbrev main_cst_36 : Ref sig .tc := ⟨.hbm, 303, rfl⟩
abbrev main_call3_v0 : Ref sig .tc := ⟨.hbm, 304, rfl⟩
abbrev main_call3_v1 : Ref sig .tc := ⟨.hbm, 305, rfl⟩
abbrev main_call3_v2 : Ref sig .tc := ⟨.hbm, 306, rfl⟩
abbrev main_v240 : Ref sig .tc := ⟨.hbm, 307, rfl⟩
abbrev main_cst_37 : Ref sig .tc := ⟨.hbm, 308, rfl⟩
abbrev main_v241 : Ref sig .tc := ⟨.hbm, 309, rfl⟩
abbrev main_v242 : Ref sig .tc := ⟨.hbm, 310, rfl⟩
abbrev main_v243 : Ref sig .tc := ⟨.hbm, 311, rfl⟩
abbrev main_v244 : Ref sig .tc := ⟨.hbm, 312, rfl⟩
abbrev main_v245 : Ref sig .tc := ⟨.hbm, 313, rfl⟩
abbrev main_cst_38 : Ref sig .tc := ⟨.hbm, 314, rfl⟩
abbrev main_v246 : Ref sig .tc := ⟨.hbm, 315, rfl⟩
abbrev main_v247 : Ref sig .tc := ⟨.hbm, 316, rfl⟩
abbrev main_v248 : Ref sig .tc := ⟨.hbm, 317, rfl⟩
abbrev main_v249 : Ref sig .tc := ⟨.hbm, 318, rfl⟩
abbrev main_v250 : Ref sig .tc := ⟨.hbm, 319, rfl⟩
abbrev main_v251 : Ref sig .tc := ⟨.hbm, 320, rfl⟩
abbrev main_v252 : Ref sig .tc := ⟨.hbm, 321, rfl⟩
abbrev main_v253 : Ref sig .tc := ⟨.hbm, 322, rfl⟩
abbrev main_v254 : Ref sig .tc := ⟨.hbm, 323, rfl⟩
abbrev main_v255 : Ref sig .tc := ⟨.hbm, 324, rfl⟩
abbrev main_v256 : Ref sig .tc := ⟨.hbm, 325, rfl⟩
abbrev main_v257 : Ref sig .tc := ⟨.hbm, 326, rfl⟩
abbrev main_v258 : Ref sig .tc := ⟨.hbm, 327, rfl⟩
abbrev main_v259 : Ref sig .tc := ⟨.hbm, 328, rfl⟩
abbrev main_v260 : Ref sig .tc := ⟨.hbm, 329, rfl⟩
abbrev main_v261 : Ref sig .tc := ⟨.hbm, 330, rfl⟩
abbrev main_v262 : Ref sig .tc := ⟨.hbm, 331, rfl⟩
abbrev main_v263 : Ref sig .tc := ⟨.hbm, 332, rfl⟩
abbrev main_cst_39 : Ref sig .tc := ⟨.hbm, 333, rfl⟩
abbrev main_v264 : Ref sig .tc := ⟨.hbm, 334, rfl⟩
abbrev main_cst_40 : Ref sig .tc := ⟨.hbm, 335, rfl⟩
abbrev main_v265 : Ref sig .tc := ⟨.hbm, 336, rfl⟩
abbrev main_v266 : Ref sig .tc := ⟨.hbm, 337, rfl⟩
abbrev main_v267 : Ref sig .tc := ⟨.hbm, 338, rfl⟩
abbrev main_v268 : Ref sig .tc := ⟨.hbm, 339, rfl⟩
abbrev main_v269 : Ref sig .tc := ⟨.hbm, 340, rfl⟩
abbrev main_v270 : Ref sig .tc := ⟨.hbm, 341, rfl⟩
abbrev main_cst_41 : Ref sig .tc := ⟨.hbm, 342, rfl⟩
abbrev main_v271 : Ref sig .tc := ⟨.hbm, 343, rfl⟩
abbrev main_v272 : Ref sig .tc := ⟨.hbm, 344, rfl⟩
abbrev main_v273 : Ref sig .tc := ⟨.hbm, 345, rfl⟩
abbrev main_v274 : Ref sig .tc := ⟨.hbm, 346, rfl⟩
abbrev main_v275 : Ref sig .tc := ⟨.hbm, 347, rfl⟩
abbrev main_v276 : Ref sig .tc := ⟨.hbm, 348, rfl⟩
abbrev main_v277 : Ref sig .tc := ⟨.hbm, 349, rfl⟩
abbrev main_v278 : Ref sig .tc := ⟨.hbm, 350, rfl⟩
abbrev main_v279 : Ref sig .tc := ⟨.hbm, 351, rfl⟩
abbrev main_v280 : Ref sig .tc := ⟨.hbm, 352, rfl⟩
abbrev main_v281 : Ref sig .tc := ⟨.hbm, 353, rfl⟩
abbrev main_cst_42 : Ref sig .tc := ⟨.hbm, 354, rfl⟩
abbrev main_v282 : Ref sig .tc := ⟨.hbm, 355, rfl⟩
abbrev main_v283 : Ref sig .tc := ⟨.hbm, 356, rfl⟩
abbrev main_cst_43 : Ref sig .tc := ⟨.hbm, 357, rfl⟩
abbrev main_v284 : Ref sig .tc := ⟨.hbm, 358, rfl⟩
abbrev main_v285 : Ref sig .tc := ⟨.hbm, 359, rfl⟩
abbrev main_v286 : Ref sig .tc := ⟨.hbm, 360, rfl⟩
abbrev main_v287 : Ref sig .tc := ⟨.hbm, 361, rfl⟩
abbrev main_v288 : Ref sig .tc := ⟨.hbm, 362, rfl⟩

abbrev nD : Nat := 1
abbrev τ : Topo := Topo.v7x

variable {F : FTy → Type} [FloatOps F]
-- ==== Proof.Reals.lean ====
module

public import Idealize.ShloMosaic.Lib.Pointwise
public import Idealize.ShloMosaic.Lib.ReduceAll

@[expose] public section

noncomputable section

/-! Extended reals that are real numbers: what the value proofs of the gradient calls share. Under a finiteness
    precondition each array is the image of an array of reals, and sums, products, quotients by a constant and the
    reciprocal root of a norm stay such images. -/

namespace Cert.Hand

open Idealize.ShloMosaic

/-- A sum of images of reals is the image of the sum. -/
theorem sum_coe {ι : Type*} [Fintype ι] (f : ι → ℝ) : (∑ i, ((f i : ℝ) : EReal)) = ((∑ i, f i : ℝ) : EReal) := by
  classical
  induction (Finset.univ : Finset ι) using Finset.induction_on with
  | empty => simp
  | insert a s ha ih => rw [Finset.sum_insert ha, Finset.sum_insert ha, ih, EReal.coe_add]

/-- A choice between images of reals is the image of the choice. -/
theorem dite_coe {p : Prop} [Decidable p] (a : p → ℝ) (b : ¬p → ℝ) :
    (if h : p then ((a h : ℝ) : EReal) else ((b h : ℝ) : EReal)) = ((if h : p then a h else b h : ℝ) : EReal) := by
  split_ifs <;> rfl

/-- The norms' small constant, as the real number its word names. -/
def eps : ℝ := 8796093 * (2 : ℝ) ^ (-43 : ℤ)

theorem eps_pos : 0 < eps := by unfold eps; positivity

theorem ofBits_eps : Ideal.ofBits .f32 0x358637BD#32 = ((eps : ℝ) : EReal) := by
  simp [Ideal.ofBits, Ideal.ieee, eps, -EReal.coe_mul]

theorem ofBits_1024 : Ideal.ofBits .f32 0x44800000#32 = ((1024 : ℝ) : EReal) := by
  simp [Ideal.ofBits, Ideal.ieee, -EReal.coe_mul]; norm_num

theorem ofBits_512 : Ideal.ofBits .f32 0x44000000#32 = ((512 : ℝ) : EReal) := by
  simp [Ideal.ofBits, Ideal.ieee, -EReal.coe_mul]; norm_num

theorem ofBits_neg_half : Ideal.ofBits .f32 0xBF000000#32 = ((-(1 / 2) : ℝ) : EReal) := by
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

theorem div_1024 (x : ℝ) : Ideal.div (x : EReal) ((1024 : ℝ) : EReal) = ((x * (1 / 1024) : ℝ) : EReal) := by
  rw [Ideal.div_coe (by norm_num), EReal.coe_mul]

theorem div_512 (x : ℝ) : Ideal.div (x : EReal) ((512 : ℝ) : EReal) = ((x * (1 / 512) : ℝ) : EReal) := by
  rw [Ideal.div_coe (by norm_num), EReal.coe_mul]

/-- The mean square of a row, `c` one over its length, with the small constant added. -/
def ms {n : ℕ} (c : ℝ) (x : Fin n → ℝ) : ℝ := (∑ k, x k * x k) * c + eps

/-- The reciprocal root of the mean square of a row. -/
def rn {n : ℕ} (c : ℝ) (x : Fin n → ℝ) : ℝ := (Real.sqrt (ms c x))⁻¹

theorem ms_pos {n : ℕ} {c : ℝ} (hc : 0 ≤ c) (x : Fin n → ℝ) : 0 < ms c x :=
  add_pos_of_nonneg_of_pos (mul_nonneg (Finset.sum_nonneg fun k _ => mul_self_nonneg (x k)) hc) eps_pos

theorem rsqrt_coe_pos {v : ℝ} (h : 0 < v) : Ideal.rsqrt (v : EReal) = (((Real.sqrt v)⁻¹ : ℝ) : EReal) := by
  rw [Ideal.rsqrt_coe, if_neg (not_lt.2 h.le), if_neg h.ne']

theorem rsqrt_1024 (x : Fin 1024 → ℝ) :
    Ideal.rsqrt (((∑ k, x k * x k) * (1 / 1024) + eps : ℝ) : EReal) = ((rn (1 / 1024) x : ℝ) : EReal) :=
  rsqrt_coe_pos (ms_pos (by norm_num) x)

theorem rsqrt_512 (x : Fin 512 → ℝ) :
    Ideal.rsqrt (((∑ k, x k * x k) * (1 / 512) + eps : ℝ) : EReal) = ((rn (1 / 512) x : ℝ) : EReal) :=
  rsqrt_coe_pos (ms_pos (by norm_num) x)

theorem div_ms {n : ℕ} {c : ℝ} (hc : 0 ≤ c) (a : ℝ) (x : Fin n → ℝ) :
    Ideal.div (a : EReal) (((∑ k, x k * x k) * c + eps : ℝ) : EReal) = ((a * (1 / ms c x) : ℝ) : EReal) := by
  rw [show (∑ k, x k * x k) * c + eps = ms c x from rfl, Ideal.div_coe (ms_pos hc x).ne', EReal.coe_mul]

theorem div_ms_1024 (a : ℝ) (x : Fin 1024 → ℝ) :
    Ideal.div (a : EReal) (((∑ k, x k * x k) * (1 / 1024) + eps : ℝ) : EReal) = ((a * (1 / ms (1 / 1024) x) : ℝ) : EReal) :=
  div_ms (by norm_num) a x

theorem div_ms_pos_1024 (a : ℝ) (x : Fin 1024 → ℝ) :
    Ideal.div (a : EReal) ((ms (1 / 1024) x : ℝ) : EReal) = ((a * (1 / ms (1 / 1024) x) : ℝ) : EReal) :=
  div_ms (by norm_num) a x

theorem div_ms_pos_512 (a : ℝ) (x : Fin 512 → ℝ) :
    Ideal.div (a : EReal) ((ms (1 / 512) x : ℝ) : EReal) = ((a * (1 / ms (1 / 512) x) : ℝ) : EReal) :=
  div_ms (by norm_num) a x

theorem div_ms_512 (a : ℝ) (x : Fin 512 → ℝ) :
    Ideal.div (a : EReal) (((∑ k, x k * x k) * (1 / 512) + eps : ℝ) : EReal) = ((a * (1 / ms (1 / 512) x) : ℝ) : EReal) :=
  div_ms (by norm_num) a x

/-- The reciprocal root over its radicand is its cube. -/
theorem rn_div_ms {n : ℕ} {c : ℝ} (hc : 0 ≤ c) (x : Fin n → ℝ) : rn c x * (1 / ms c x) = rn c x ^ 3 := by
  have h := ms_pos hc x
  have hs : Real.sqrt (ms c x) ^ 2 = ms c x := Real.sq_sqrt h.le
  have hp : 0 < Real.sqrt (ms c x) := Real.sqrt_pos.2 h
  unfold rn
  rw [← hs]
  simp only [Real.sqrt_sq hp.le]
  field_simp

/-- The gradient through a root-mean-square norm, element `j` of a row: `d` the cotangent times the gain. -/
def normGrad {n : ℕ} (c : ℝ) (x d : Fin n → ℝ) (j : Fin n) : ℝ :=
  rn c x * (d j - x j * rn c x * ((∑ k, d k * (x k * rn c x)) * c))

/-- The chain rule's terms for the same: through the scaled row and, twice, through the mean square. -/
theorem normGrad_chain {n : ℕ} {c : ℝ} (hc : 0 ≤ c) (x d : Fin n → ℝ) (j : Fin n) :
    d j * rn c x + (x j * ((∑ k, x k * d k) * (-(1 / 2) * (rn c x * (1 / ms c x))) * c)
      + x j * ((∑ k, x k * d k) * (-(1 / 2) * (rn c x * (1 / ms c x))) * c)) = normGrad c x d j := by
  rw [rn_div_ms hc]
  unfold normGrad
  have : ∑ k, d k * (x k * rn c x) = (∑ k, x k * d k) * rn c x := by
    rw [Finset.sum_mul]; exact Finset.sum_congr rfl fun k _ => by ring
  rw [this]; ring

/-- An extended real that equals itself minus itself compared with zero is a real number. -/
theorem coe_toReal_of_sub_self {x : EReal} (h : x - x = 0) : x = ((x.toReal : ℝ) : EReal) := by
  induction x with
  | bot => simp at h
  | top => simp at h
  | coe a => rfl

/-- `jnp.all(x - x == 0)` read at the extended reals: every element of `x` is a real number. -/
theorem finite_of_all {s u : Shape} {axes : List (Fin s.rank)} [Subsingleton u.Idx] (x z : FVec Ideal s .f32) (init : u.Idx → BitVec 1)
    (h : s.ReducesTo axes u) (hu : 0 < u.numel) (e : u.Idx)
    (hz : ∀ i, z i = 0) (H : Host.reduce IntOp.andi (cmpf .oeq (subf x x) z) init h hu e = 1#1) (i : s.Idx) :
    x i = ((EReal.toReal (x i) : ℝ) : EReal) := by
  have := Host.reduce_andi_all _ init h hu e H i
  refine coe_toReal_of_sub_self ?_
  have h2 : Ideal.cmp .oeq (x i - x i) (z i) = 1#1 := this
  rw [hz i] at h2
  by_contra hne
  simp [Ideal.cmp, hne] at h2

/-- Both of two truth values joined by `and` are true. -/
theorem and_split {s : Shape} {a b : IVec s 1} {e : s.Idx} (h : andi a b e = 1#1) : a e = 1#1 ∧ b e = 1#1 := by
  have h' : a e &&& b e = 1#1 := h
  revert h'
  generalize a e = x
  generalize b e = y
  revert x y
  decide

end Cert.Hand
-- ==== Proof.InSpec.lean ====
module

public import proofs.«01_k».proof.Proof.Reals

@[expose] public section

noncomputable section

/-! The gradient through the first norm and the product with `w_in`, over the reals. -/

namespace Cert.Hand.In

/-- The product of the projection's cotangent with the transposed weight. -/
def dh (W : Fin 1024 → Fin 3072 → ℝ) (dz : Fin 3072 → ℝ) (j : Fin 1024) : ℝ := ∑ k, dz k * W j k

/-- Row element `j` of the gradient with respect to the block's input: the residual's cotangent and the norm's gradient. -/
def gx (W : Fin 1024 → Fin 3072 → ℝ) (g : Fin 1024 → ℝ) (x : Fin 1024 → ℝ) (dz : Fin 3072 → ℝ) (d1 : Fin 1024 → ℝ) (j : Fin 1024) : ℝ :=
  d1 j + normGrad (1 / 1024) x (fun k => dh W dz k * g k) j

/-- A row's part of the gradient with respect to the norm's gain. -/
def dg (W : Fin 1024 → Fin 3072 → ℝ) (x : Fin 1024 → ℝ) (dz : Fin 3072 → ℝ) (j : Fin 1024) : ℝ :=
  dh W dz j * (x j * rn (1 / 1024) x)

end Cert.Hand.In
-- ==== Proof.InKernel.lean ====
module

public import proofs.«01_k».proof.Proof.Gen.BwdInIdeal.Value
public import proofs.«01_k».proof.Proof.InSpec
public import Idealize.ShloMosaic.Lib.Pipeline.ValueKit

@[expose] public section

set_option maxRecDepth 16384

noncomputable section

/-! The first norm's gradient call, read as real numbers. -/

namespace Cert.BwdInIdeal.Hand

open Cert.BwdInIdeal Cert.BwdInIdeal.Gen Cert.Hand Idealize.ShloMosaic Idealize.ShloMosaic.TcCoe Idealize.SL.Sem
open Idealize.ShloMosaic.Pipeline (Dat)

variable (m : (ℓ : Loc nD τ sig) → Buf (Elt Ideal) ℓ) (c : Dev nD)
variable (X D1 : Fin 8192 → Fin 1024 → ℝ) (g : Fin 1024 → ℝ) (W : Fin 1024 → Fin 3072 → ℝ) (DZ : Fin 8192 → Fin 3072 → ℝ)

/-- The arguments are the images of arrays of reals. -/
structure Args : Prop where
  hx : ∀ i j, m ((c.tc : Thread nD τ).loc main_arg0) (ix2 i j) = ((X i j : ℝ) : EReal)
  hg : ∀ j, m ((c.tc : Thread nD τ).loc main_arg1) (ix2 0 j) = ((g j : ℝ) : EReal)
  hw : ∀ j k, m ((c.tc : Thread nD τ).loc main_arg2) (ix2 j k) = ((W j k : ℝ) : EReal)
  hz : ∀ i k, m ((c.tc : Thread nD τ).loc main_arg3) (ix2 i k) = ((DZ i k : ℝ) : EReal)
  h1 : ∀ i j, m ((c.tc : Thread nD τ).loc main_arg4) (ix2 i j) = ((D1 i j : ℝ) : EReal)

theorem idx : ∀ t : Fin cfg0.N, win0_0.index t = ![t.val, 0] ∧ win0_1.index t = ![t.val, 0] ∧ win0_2.index t = ![t.val, 0]
    ∧ win0_3.index t = ![0, 0, 0] ∧ win0_4.index t = ![0, 0] ∧ win0_5.index t = ![t.val, 0] ∧ win0_6.index t = ![0, 0] :=
  (by decide +kernel : ∀ t : Fin grid0.N, _)

/-- The array row of a block's row. -/
def row (t : Fin cfg0.N) (i : Fin 512) : Fin 8192 := ⟨t.val * 512 + i, by have := t.isLt; have : cfg0.N = 16 := rfl; omega⟩

variable {m c X D1 g W DZ}

theorem blk0 (h : Args m c X D1 g W DZ) (t : Fin cfg0.N) (i : Fin 512) (j : Fin 1024) : iblk m c 0 t (ix2 i j) = ((X (row t i) j : ℝ) : EReal) := by
  rw [← h.hx]; blk_ext! [iblk, V, idx t, row]

theorem blk1 (h : Args m c X D1 g W DZ) (t : Fin cfg0.N) (i : Fin 512) (j : Fin 1024) : iblk m c 1 t (ix2 i j) = ((D1 (row t i) j : ℝ) : EReal) := by
  rw [← h.h1]; blk_ext! [iblk, V, idx t, row]

theorem blk4 (h : Args m c X D1 g W DZ) (t : Fin cfg0.N) (j : Fin 1024) : iblk m c 4 t (ix2 0 j) = ((g j : ℝ) : EReal) := by
  rw [← h.hg]; blk_ext! [iblk, V, idx t, row]

theorem blk2 (h : Args m c X D1 g W DZ) (t : Fin cfg0.N) (i : Fin 512) (k : Fin 3072) : iblk m c 2 t (ix2 i k) = ((DZ (row t i) k : ℝ) : EReal) := by
  rw [← h.hz]; blk_ext! [iblk, V, idx t, row]

theorem blk3 (h : Args m c X D1 g W DZ) (t : Fin cfg0.N) (s : Fin 4) (j : Fin 1024) (k : Fin 768) :
    iblk m c 3 t (ix3 s j k) = ((W j ⟨768 * s + k, by omega⟩ : ℝ) : EReal) := by
  rw [← h.hw]; blk_ext! [iblk, V, idx t, row]

theorem pay6 (h : Args m c X D1 g W DZ) (t : Fin cfg0.N) (i : Fin 512) (j : Fin 1024) :
    k0_pay6 (View.ld (iblk m c 2 t) (Rect.unit ![0, 0] ![512, 768] inb_S512x3072_S512x768_0_0))
      (View.ld (iblk m c 3 t) (Rect.unit ![0, 0, 0] ![1, 1024, 768] inb_S4x1024x768_S1x1024x768_0_0_0))
      (View.ld (iblk m c 2 t) (Rect.unit ![0, 768] ![512, 768] inb_S512x3072_S512x768_0_768))
      (View.ld (iblk m c 3 t) (Rect.unit ![1, 0, 0] ![1, 1024, 768] inb_S4x1024x768_S1x1024x768_1_0_0))
      (View.ld (iblk m c 2 t) (Rect.unit ![0, 1536] ![512, 768] inb_S512x3072_S512x768_0_1536))
      (View.ld (iblk m c 3 t) (Rect.unit ![2, 0, 0] ![1, 1024, 768] inb_S4x1024x768_S1x1024x768_2_0_0))
      (View.ld (iblk m c 2 t) (Rect.unit ![0, 2304] ![512, 768] inb_S512x3072_S512x768_0_2304))
      (View.ld (iblk m c 3 t) (Rect.unit ![3, 0, 0] ![1, 1024, 768] inb_S4x1024x768_S1x1024x768_3_0_0))
      (ix2 i j) = ((In.dh W (DZ (row t i)) j : ℝ) : EReal) := by
  pointwise [k0_pay6]
  simp only [blk2 h, blk3 h, ← EReal.coe_mul, sum_coe, ← EReal.coe_add]
  refine congrArg _ (Eq.trans ?_ (Fin.sum_mul_add_fin 4 768 fun k => DZ (row t i) k * W j k))
  simp only [Fin.sum_univ_four]
  refine congrArg₂ _ (congrArg₂ _ (congrArg₂ _ ?_ ?_) ?_) ?_ <;>
    exact Finset.sum_congr rfl fun k _ => congrArg₂ (fun a b => DZ (row t i) a * W j b) (Fin.ext (by simp)) (Fin.ext (by simp [mul_comm]))

theorem pay1 (h : Args m c X D1 g W DZ) (t : Fin cfg0.N) (i : Fin 512) :
    k0_pay1 (iblk m c 0 t) (ix2 i 0) = ((rn (1 / 1024) (X (row t i)) : ℝ) : EReal) := by
  pointwise [k0_pay1]
  simp only [blk0 h, ← EReal.coe_mul, sum_coe, ← EReal.coe_add]
  simp only [ofBits_1024, ofBits_eps, div_1024, ← EReal.coe_add, rsqrt_1024]

theorem pay2 (h : Args m c X D1 g W DZ) (t : Fin cfg0.N) (i : Fin 512) (j : Fin 1024) :
    k0_pay2 (iblk m c 0 t) (ix2 i j) = ((X (row t i) j * rn (1 / 1024) (X (row t i)) : ℝ) : EReal) := by
  pointwise [k0_pay2]
  simp only [blk0 h, pay1 h, ← EReal.coe_mul]

theorem pay4 (h : Args m c X D1 g W DZ) (t : Fin cfg0.N) (v : FVec Ideal S512x1024 .f32)
    (hv : ∀ i j, v (ix2 i j) = ((In.dh W (DZ (row t i)) j : ℝ) : EReal)) (i : Fin 512) (j : Fin 1024) :
    k0_pay4 v (iblk m c 0 t) (iblk m c 1 t) (iblk m c 4 t) (ix2 i j)
      = ((In.gx W g (X (row t i)) (DZ (row t i)) (D1 (row t i)) j : ℝ) : EReal) := by
  pointwise [k0_pay4]
  simp only [blk1 h, blk4 h, pay1 h, pay2 h, hv, ofBits_1024, ← EReal.coe_mul, sum_coe, div_1024, ← EReal.coe_add, ← EReal.coe_sub]
  rfl

theorem pay3 (h : Args m c X D1 g W DZ) (t : Fin cfg0.N) (v : FVec Ideal S512x1024 .f32)
    (hv : ∀ i j, v (ix2 i j) = ((In.dh W (DZ (row t i)) j : ℝ) : EReal)) (a : Vec Ideal S1x1024 .f32) (i : Fin 1) (j : Fin 1024) :
    k0_pay3 v (iblk m c 0 t) a (ix2 i j)
      = a (ix2 i j) + ((∑ i, In.dg W (X (row t i)) (DZ (row t i)) j : ℝ) : EReal) := by
  pointwise [k0_pay3]
  simp only [pay2 h, hv, ← EReal.coe_mul, sum_coe]
  rfl

theorem emb5 (t : Fin cfg0.N) (i : Fin 512) (j : Fin 1024) :
    ((View.whole main_v4_0).slice (win0_5.rect t)).emb (ix2 i j) = ix2 (row t i) j := by
  funext a
  refine Fin.ext ?_
  fin_cases a <;> simp [row, idx t]

/-- The first result: the gradient with respect to the block's input. -/
theorem out5 (h : Args m c X D1 g W DZ) :
    (dats m 0 c).arrAt 5 (cfgs 0).N = fun y => ((In.gx W g (X (y 0)) (DZ (y 0)) (D1 (y 0)) (y 1) : ℝ) : EReal) := by
  refine (dats m 0 c).arrAt_eq_of_covers 5 _ (by decide +kernel) fun t hf y => ?_
  blk_simp
  rw [after0_5]
  by_cases ht : t.val % 16 = 0
  · rw [outsAt0_A m c t ht]
    dsimp only
    frame_out
    idx_vars y
    rw [emb5]
    exact pay4 h t _ (pay6 h t) _ _
  · rw [outsAt0_B m c t ht]
    dsimp only
    frame_out
    idx_vars y
    rw [emb5]
    exact pay4 h t _ (pay6 h t) _ _

/-- The second result: the gradient with respect to the norm's gain, summed over the blocks. -/
theorem out6 (h : Args m c X D1 g W DZ) :
    (dats m 0 c).arrAt 6 (cfgs 0).N = fun y => ((∑ i, In.dg W (X i) (DZ i) (y 1) : ℝ) : EReal) := by
  refine (dats m 0 c).arrAt_eq_of_after_last 6 t0_15 (by decide +kernel) _ fun j => ?_
  blk_simp
  rw [after0_6]
  rw [Pipeline.eq_sum_fin_of_reset_step_apply_last (fun n h => (outsAt0 m c n h).2) 16 (fun _ => 0)
    (fun t y => ((∑ i, In.dg W (X (row t i)) (DZ (row t i)) (y 1) : ℝ) : EReal)) ?_ ?_ (le_of_eq Gen.N_0) Gen.t0_15 rfl j]
  · rw [sum_coe, zero_add]
    exact congrArg _ (Fin.sum_mul_add_fin 16 512 fun i => In.dg W (X i) (DZ i) (j 1))
  · intro t ht i
    rw [outsAt0_A m c t ht]
    dsimp only
    frame_out
    idx_vars i
    refine (pay3 h t _ (pay6 h t) _ _ _).trans ?_
    pointwise [k0_pay5]
  · intro t ht i
    rw [outsAt0_B m c t ht]
    dsimp only
    frame_out
    idx_vars i
    exact pay3 h t _ (pay6 h t) _ _ _

end Cert.BwdInIdeal.Hand
-- ==== Proof.InRef.lean ====
module

public import proofs.«01_k».proof.Proof.Gen.BwdInRefIdeal.Run
public import proofs.«01_k».proof.Proof.Gen.BwdInRefIdeal.Read
public import proofs.«01_k».proof.Proof.InSpec
public import Idealize.ShloMosaic.Lib.Pointwise

@[expose] public section

set_option maxRecDepth 16384

noncomputable section

namespace Cert.BwdInRefIdeal.Hand

open Cert.BwdInRefIdeal Cert.BwdInRefIdeal.Gen Cert.BwdInRefIdeal.Value Cert.BwdInRefIdeal.Read Cert.Hand Idealize.ShloMosaic Idealize.ShloMosaic.TcCoe Idealize.SL.Sem

variable {x0 x4 : FVec Ideal S8192x1024 .f32} {x1 : FVec Ideal S1x1024 .f32} {x2 : FVec Ideal S1024x3072 .f32} {x3 : FVec Ideal S8192x3072 .f32}
variable {X D1 : Fin 8192 → Fin 1024 → ℝ} {g : Fin 1024 → ℝ} {W : Fin 1024 → Fin 3072 → ℝ} {DZ : Fin 8192 → Fin 3072 → ℝ}

theorem v6 (hx : ∀ i j, x0 (ix2 i j) = ((X i j : ℝ) : EReal)) (i : Fin 8192) (k : Fin 1) :
    val_main_v6 (F := Ideal) x0 (ix2 i k) = ((ms (1 / 1024) (X i) : ℝ) : EReal) := by
  pointwise [val_main_v6, val_main_v5, val_main_v4, val_main_v3, val_main_v2, val_main_v1, val_main_v0, val_main_cst, val_main_cst_0, val_main_cst_1]
  simp only [hx, ofBits_1024, ofBits_eps, ← EReal.coe_mul, sum_coe, div_1024, ← EReal.coe_add]
  rfl

theorem v7 (hx : ∀ i j, x0 (ix2 i j) = ((X i j : ℝ) : EReal)) (i : Fin 8192) (k : Fin 1) :
    val_main_v7 (F := Ideal) x0 (ix2 i k) = ((rn (1 / 1024) (X i) : ℝ) : EReal) := by
  pointwise [val_main_v7]
  rw [v6 hx]
  exact rsqrt_coe_pos (ms_pos (by norm_num) _)

theorem v16 (hw : ∀ j k, x2 (ix2 j k) = ((W j k : ℝ) : EReal)) (hz : ∀ i k, x3 (ix2 i k) = ((DZ i k : ℝ) : EReal)) (i : Fin 8192) (j : Fin 1024) :
    val_main_v16 (F := Ideal) x2 x3 (ix2 i j) = ((In.dh W (DZ i) j : ℝ) : EReal) := by
  pointwise [val_main_v16]
  simp only [hw, hz, ← EReal.coe_mul, sum_coe]
  rfl

theorem v36 (hx : ∀ i j, x0 (ix2 i j) = ((X i j : ℝ) : EReal)) (hg : ∀ j, x1 (ix2 0 j) = ((g j : ℝ) : EReal))
  (hw : ∀ j k, x2 (ix2 j k) = ((W j k : ℝ) : EReal)) (hz : ∀ i k, x3 (ix2 i k) = ((DZ i k : ℝ) : EReal))
  (h1 : ∀ i j, x4 (ix2 i j) = ((D1 i j : ℝ) : EReal)) (i : Fin 8192) (j : Fin 1024) :
    val_main_v36 (F := Ideal) x0 x1 x2 x3 x4 (ix2 i j) = ((In.gx W g (X i) (DZ i) (D1 i) j : ℝ) : EReal) := by
  pointwise [val_main_v36, val_main_v35, val_main_v34, val_main_v33, val_main_v32, val_main_v31, val_main_v30, val_main_v29, val_main_cst_5, val_main_cst_6, val_main_v28, val_main_v10, val_main_v9, val_main_cst_2, val_main_v24, val_main_v23, val_main_cst_4, val_main_v22, val_main_v21, val_main_v20, val_main_v27, val_main_v26, val_main_v25, val_main_v8]
  simp only [hx, hg, h1, v7 hx, v6 hx, v16 hw hz, ofBits_1024, ofBits_neg_half, div_ms_pos_1024, Finset.univ_unique, Finset.sum_singleton,
    ← EReal.coe_mul, sum_coe, div_1024, ← EReal.coe_add]
  rw [In.gx, ← normGrad_chain (by norm_num)]
  congr 1
  ring

theorem v19 (hx : ∀ i j, x0 (ix2 i j) = ((X i j : ℝ) : EReal))
    (hw : ∀ j k, x2 (ix2 j k) = ((W j k : ℝ) : EReal)) (hz : ∀ i k, x3 (ix2 i k) = ((DZ i k : ℝ) : EReal)) (i : Fin 1) (j : Fin 1024) :
    val_main_v19 (F := Ideal) x0 x2 x3 (ix2 i j) = ((∑ i, In.dg W (X i) (DZ i) j : ℝ) : EReal) := by
  pointwise [val_main_v19, val_main_v18, val_main_v17, val_main_v12, val_main_v11, val_main_cst_3]
  simp only [hx, v7 hx, v16 hw hz, ← EReal.coe_mul, sum_coe]
  exact congrArg _ (Finset.sum_congr rfl fun k _ => mul_comm _ _)

end Cert.BwdInRefIdeal.Hand
-- ==== Proof.InClaim.lean ====
module

public import proofs.«01_k».proof.Defs
public import proofs.«01_k».proof.Proof.Gen.Pre_bwd_in_finite
public import proofs.«01_k».proof.Proof.Gen.BwdIn.Frame
public import proofs.«01_k».proof.Proof.InKernel
public import proofs.«01_k».proof.Proof.InRef

@[expose] public section

set_option maxRecDepth 16384

noncomputable section

/-! The claims about the gradient through the first norm. -/

namespace Cert.BwdInIdeal.Hand

open Cert.BwdInIdeal Cert.BwdInIdeal.Gen Cert.Hand Idealize.ShloMosaic Idealize.ShloMosaic.TcCoe Idealize.SL.Sem

/-- Under the precondition every element of every argument is a real number. -/
theorem args (m : (ℓ : Loc nD τ sig) → Buf (Elt Ideal) ℓ) (h : Cert.Pre_BwdInIdeal_bwd_in_finite m) (c : Dev nD) :
    Args m c (fun i j => (m ((c.tc : Thread nD τ).loc main_arg0) (ix2 i j)).toReal)
      (fun i j => (m ((c.tc : Thread nD τ).loc main_arg4) (ix2 i j)).toReal)
      (fun j => (m ((c.tc : Thread nD τ).loc main_arg1) (ix2 0 j)).toReal)
      (fun j k => (m ((c.tc : Thread nD τ).loc main_arg2) (ix2 j k)).toReal)
      (fun i k => (m ((c.tc : Thread nD τ).loc main_arg3) (ix2 i k)).toReal) := by
  have H := congrFun (h c) (Shape.Idx.first Cert.Pre_bwd_in_finite.Facts.h_S_)
  dsimp only [Cert.Pre_bwd_in_finite.fn, Cert.Pre_bwd_in_finite.fn_part1] at H
  obtain ⟨H, e4⟩ := and_split H
  obtain ⟨H, e3⟩ := and_split H
  obtain ⟨H, e2⟩ := and_split H
  obtain ⟨e0, e1⟩ := and_split H
  haveI : Subsingleton Cert.Pre_bwd_in_finite.S_.Idx := ⟨fun a b => funext fun i => i.elim0⟩
  have hz {s : Shape} (hb : Cert.Pre_bwd_in_finite.S_.BroadcastsInDim s ![]) (i : s.Idx) :
      (broadcastInDim s ![] hb (constant Cert.Pre_bwd_in_finite.S_ .f32 0x00000000#32) : FVec Ideal s .f32) i = 0 := by
    pointwise
  exact
    { hx := fun i j => finite_of_all _ _ _ _ _ _ (hz _) e0 (ix2 i j)
      hg := fun j => finite_of_all _ _ _ _ _ _ (hz _) e1 (ix2 0 j)
      hw := fun i j => finite_of_all _ _ _ _ _ _ (hz _) e2 (ix2 i j)
      hz := fun i j => finite_of_all _ _ _ _ _ _ (hz _) e3 (ix2 i j)
      h1 := fun i j => finite_of_all _ _ _ _ _ _ (hz _) e4 (ix2 i j) }

end Cert.BwdInIdeal.Hand

namespace Cert.Hand.In

open Idealize.ShloMosaic Idealize.ShloMosaic.TcCoe Idealize.SL.Sem

/-- The reference leaves its arguments as they were. -/
theorem frame_ref : Cert.quiescent_BwdInRefIdeal := fun m ρ _ =>
  (θ_run BwdInRefIdeal.defs _ _).mono (fun r h => ⟨fun c => (h c).2.2, sem_eq_zero_of_no_sems (by decide) r.2⟩)
    (BwdInRefIdeal.Value.run (F := Ideal) m ρ)

/-- Kernel and reference leave the same gradients. -/
theorem algebraic : Cert.algebraic_BwdInIdeal_BwdInRefIdeal_pre_bwd_in_finite := by
  intro m g m' g' hp hm
  have A := fun c => BwdInIdeal.Hand.args m hp c
  refine ⟨_, _, BwdInIdeal.Value.run_blocks (F := Ideal) m g,
    (θ_run BwdInRefIdeal.defs _ _).mono (fun r h c => ?_) (BwdInRefIdeal.Value.run (F := Ideal) m' g')⟩
  obtain ⟨h0, h1, ha⟩ := h c
  obtain ⟨m0, m1, m2, m3, m4⟩ := hm c
  obtain ⟨hx, hg, hw, hz, hd⟩ := A c
  refine ⟨h0.trans (Eq.trans ?_ (BwdInIdeal.Hand.out5 (A c)).symm), h1.trans (Eq.trans ?_ (BwdInIdeal.Hand.out6 (A c)).symm), ha⟩
  · rw [BwdInRefIdeal.Read.val_main_v36_eq, m0, m1, m2, m3, m4]
    funext y
    idx_vars y
    exact BwdInRefIdeal.Hand.v36 hx hg hw hz hd _ _
  · rw [BwdInRefIdeal.Read.val_main_v19_eq, m0, m2, m3]
    funext y
    idx_vars y
    exact BwdInRefIdeal.Hand.v19 hx hw hz _ _

/-- The claims about this call, in the order in which they are stated. -/
theorem claims : Cert.quiescent_BwdIn ∧ Cert.quiescent_BwdInIdeal ∧ Cert.quiescent_BwdInIdeal_pre_bwd_in_finite ∧ Cert.quiescent_BwdInRefIdeal
    ∧ Cert.quiescent_BwdInRefIdeal_pre_bwd_in_finite ∧ Cert.preserves_BwdIn_BwdInIdeal ∧ Cert.algebraic_BwdInIdeal_BwdInRefIdeal_pre_bwd_in_finite :=
  ⟨fun m ρ _ => BwdIn.Gen.frame m ρ, fun m ρ _ => BwdInIdeal.Gen.frame m ρ, fun m ρ _ => BwdInIdeal.Gen.frame m ρ, frame_ref,
    fun m ρ _ => frame_ref m ρ trivial, trivial, algebraic⟩

end Cert.Hand.In
-- ==== Proof.ConvSpec.lean ====
module

public import proofs.«01_k».proof.Proof.Reals

@[expose] public section

noncomputable section

/-! The rows before and after a row of a sequence, over the reals: what a short causal convolution and its gradient read. -/

namespace Cert.Hand

variable {n : ℕ}

/-- The element `k` rows earlier, zero before the sequence begins. -/
def prev (u : Fin n → ℝ) (k : ℕ) (r : Fin n) : ℝ := if k ≤ r.val then u ⟨r.val - k, by omega⟩ else 0

/-- The element at row number `r`, zero past the sequence's end. -/
def ext (u : Fin n → ℝ) (r : ℕ) : ℝ := if h : r < n then u ⟨r, h⟩ else 0

theorem ext_fin (u : Fin n → ℝ) (r : Fin n) : ext u r.val = u r := by simp [ext]

theorem prev_eq (u : Fin n → ℝ) {k : ℕ} {r s : Fin n} (h : s.val + k = r.val) : prev u k r = u s := by
  rw [prev, if_pos (by omega)]
  exact congrArg u (Fin.ext (by simp; omega))

/-- A product with an earlier row, summed over the rows, is one with a later row of the other factor. -/
theorem sum_prev_mul (u d : Fin n → ℝ) (k : ℕ) : ∑ r, prev u k r * d r = ∑ r, u r * ext d (r.val + k) := by
  have h1 : ∀ r : Fin n, prev u k r * d r = ∑ s : Fin n, if s.val + k = r.val then u s * d r else 0 := by
    intro r
    by_cases h : k ≤ r.val
    · rw [Finset.sum_eq_single (⟨r.val - k, by omega⟩ : Fin n)]
      · rw [if_pos (by simp; omega), prev, if_pos h]
      · intro b _ hb
        rw [if_neg]
        intro e
        exact hb (Fin.ext (by simp; omega))
      · intro e; exact absurd (Finset.mem_univ _) e
    · rw [prev, if_neg h, zero_mul]
      refine (Finset.sum_eq_zero fun s _ => if_neg (by omega)).symm
  have h2 : ∀ s : Fin n, u s * ext d (s.val + k) = ∑ r : Fin n, if s.val + k = r.val then u s * d r else 0 := by
    intro s
    by_cases h : s.val + k < n
    · rw [Finset.sum_eq_single (⟨s.val + k, h⟩ : Fin n)]
      · rw [if_pos rfl, ext, dif_pos h]
      · intro b _ hb
        rw [if_neg]
        intro e
        exact hb (Fin.ext (by simp; omega))
      · intro e; exact absurd (Finset.mem_univ _) e
    · rw [ext, dif_neg h, mul_zero]
      refine (Finset.sum_eq_zero fun r _ => if_neg (by have := r.isLt; omega)).symm
  rw [Finset.sum_congr rfl fun r _ => h1 r, Finset.sum_comm]
  exact Finset.sum_congr rfl fun s _ => (h2 s).symm

/-- The logistic function. -/
def sg (x : ℝ) : ℝ := (1 + Real.exp (-x))⁻¹

end Cert.Hand
-- ==== Proof.FfnASpec.lean ====
module

public import proofs.«01_k».proof.Proof.ConvSpec

@[expose] public section

noncomputable section

/-! The gradient through the gated unit of the feed-forward layer, the gate being a short causal convolution over the rows. -/

namespace Cert.Hand.FfnA

variable (GP UP : Fin 8192 → Fin 2816 → ℝ) (WD : Fin 2816 → Fin 1024 → ℝ) (CW : Fin 3 → Fin 2816 → ℝ) (CB : Fin 2816 → ℝ) (DX : Fin 8192 → Fin 1024 → ℝ)

/-- The gate's preactivation: the convolution of the projection's rows. -/
def gate (r : Fin 8192) (j : Fin 2816) : ℝ :=
  prev (fun s => GP s j) 2 r * CW 0 j + prev (fun s => GP s j) 1 r * CW 1 j + GP r j * CW 2 j + CB j

/-- The cotangent of the gated unit's output. -/
def dact (r : Fin 8192) (j : Fin 2816) : ℝ := ∑ k, DX r k * WD j k

/-- The cotangent of the second factor. -/
def dup (r : Fin 8192) (j : Fin 2816) : ℝ := dact WD DX r j * (gate GP CW CB r j * sg (gate GP CW CB r j))

/-- The cotangent of the gate, by the derivative of the gate's activation. -/
def dgate (r : Fin 8192) (j : Fin 2816) : ℝ :=
  dact WD DX r j * UP r j * (sg (gate GP CW CB r j) * (1 + gate GP CW CB r j * (1 - sg (gate GP CW CB r j))))

/-- The gate's cotangent `k` rows later. -/
def later (k : ℕ) (r : Fin 8192) (j : Fin 2816) : ℝ := ext (fun s => dgate GP UP WD CW CB DX s j) (r.val + k)

/-- The cotangent of the projection. -/
def dgp (r : Fin 8192) (j : Fin 2816) : ℝ :=
  CW 2 j * dgate GP UP WD CW CB DX r j + CW 1 j * later GP UP WD CW CB DX 1 r j + CW 0 j * later GP UP WD CW CB DX 2 r j

/-- A row's part of the convolution taps' gradients. -/
def dcw (i : Fin 3) (r : Fin 8192) (j : Fin 2816) : ℝ := later GP UP WD CW CB DX (2 - i.val) r j * GP r j

end Cert.Hand.FfnA
-- ==== Proof.Pieces.lean ====
module

public import Idealize.ShloMosaic.Lib.Pipeline.ValueKit
public import Idealize.ShloMosaic.Lib.Pipeline.ReadBack

@[expose] public section

noncomputable section

/-! A buffer written piece by piece, every piece a block of one array, reads that array. -/

namespace Cert.Hand

open Idealize.ShloMosaic Idealize.SL.Sem

variable {sig : RefSig} {κ : Kind} {sp : Space} {s : Shape} {e : EltTy} {Val : EltTy → Type}

/-- Where the pieces do not reach, the earlier contents read the array. -/
theorem read_writes_of_blocks (v : View sig κ sp s e) (f : v.ty.Contents Val) (G : s.Idx → Val e) (y : s.Idx) :
    ∀ L : List (View.Piece Val s e), View.PiecesOf G L → ((∃ p ∈ L, y ∈ p.1.set) ∨ v.read Val f y = G y) →
      v.read Val (v.writes Val f L) y = G y
  | [], _, h => by
    rcases h with ⟨p, hp, _⟩ | h
    · exact absurd hp List.not_mem_nil
    · exact h
  | p :: L, hL, h => by
    by_cases hy : y ∈ p.1.set
    · obtain ⟨r, w⟩ := p
      obtain ⟨x, rfl⟩ : ∃ x, r.emb x = y := r.exists_idx_of_mem hy
      rw [View.read_writes_cons_emb]
      exact hL.1 x
    · rw [View.writes_cons, View.read_slice_write_of_not_mem p.1 _ _ _ (by rwa [Rect.map_emb_univ])]
      refine read_writes_of_blocks v f G y L hL.2 ?_
      rcases h with ⟨q, hq, hyq⟩ | h
      · rcases List.mem_cons.mp hq with rfl | hq
        · exact absurd hyq hy
        · exact .inl ⟨q, hq, hyq⟩
      · exact .inr h

/-- Covered, they read the array. -/
theorem canon_of_blocks [∀ e, Nonempty (Val e)] (G : s.Idx → Val e) (L : List (View.Piece Val s e)) (h : View.PiecesOf G L) (y : s.Idx)
    (hc : ∃ p ∈ L, y ∈ p.1.set) : View.canon L y = G y := by
  have := View.canon_append_of_piecesOf G [] L h y hc
  rwa [List.append_nil] at this

/-- An element of a rectangle of rows and columns, by its two numbers. -/
theorem unit_idx {a b o0 o1 s0 s1 : ℕ} (inb : ∀ k : Fin 2, (![o0, o1] : Fin 2 → ℕ) k + (![s0, s1] : Fin 2 → ℕ) k ≤ (![a, b] : Fin 2 → ℕ) k)
    (i : Fin s0) (j : Fin s1) :
    (Rect.unit (s := ⟨2, ![a, b]⟩) ![o0, o1] ![s0, s1] inb).emb (ix2 i j)
      = ix2 ⟨o0 + i.val, by have := inb 0; simp at this; omega⟩ ⟨o1 + j.val, by have := inb 1; simp at this; omega⟩ := by
  funext k
  refine Fin.ext ?_
  fin_cases k <;> simp

/-- Where a rectangle of rows and columns lies. -/
theorem mem_unit {a b o0 o1 s0 s1 : ℕ} (inb : ∀ k : Fin 2, (![o0, o1] : Fin 2 → ℕ) k + (![s0, s1] : Fin 2 → ℕ) k ≤ (![a, b] : Fin 2 → ℕ) k)
    (i : Fin a) (j : Fin b) (h0 : o0 ≤ i.val ∧ i.val < o0 + s0) (h1 : o1 ≤ j.val ∧ j.val < o1 + s1) :
    (ix2 i j : (⟨2, ![a, b]⟩ : Shape).Idx) ∈ (Rect.unit (s := ⟨2, ![a, b]⟩) ![o0, o1] ![s0, s1] inb).set := by
  rw [Rect.mem_set_unit]
  intro k
  fin_cases k
  · exact h0
  · exact h1

end Cert.Hand
-- ==== Proof.FfnAKernel.lean ====
module

public import proofs.«01_k».proof.Proof.Gen.BwdFfnAIdeal.Value
public import proofs.«01_k».proof.Proof.FfnASpec
public import proofs.«01_k».proof.Proof.Pieces

@[expose] public section

set_option maxRecDepth 16384

noncomputable section

/-! The gated unit's gradient call, read as real numbers: what its blocks hold, and what one grid point computes from them. -/

namespace Cert.BwdFfnAIdeal.Hand

open Cert.BwdFfnAIdeal Cert.BwdFfnAIdeal.Gen Cert.Hand Idealize.ShloMosaic Idealize.ShloMosaic.TcCoe Idealize.SL.Sem
open Idealize.ShloMosaic.Pipeline (Dat)

variable (m : (ℓ : Loc nD τ sig) → Buf (Elt Ideal) ℓ) (c : Dev nD)
variable (GP UP : Fin 8192 → Fin 2816 → ℝ) (WD : Fin 2816 → Fin 1024 → ℝ) (CW : Fin 3 → Fin 2816 → ℝ) (CB : Fin 2816 → ℝ) (DX : Fin 8192 → Fin 1024 → ℝ)

/-- The arguments are the images of arrays of reals. -/
structure Args : Prop where
  hgp : ∀ i j, m ((c.tc : Thread nD τ).loc main_arg0) (ix2 i j) = ((GP i j : ℝ) : EReal)
  hup : ∀ i j, m ((c.tc : Thread nD τ).loc main_arg1) (ix2 i j) = ((UP i j : ℝ) : EReal)
  hwd : ∀ j k, m ((c.tc : Thread nD τ).loc main_arg2) (ix2 j k) = ((WD j k : ℝ) : EReal)
  hcw : ∀ i j, m ((c.tc : Thread nD τ).loc main_arg3) (ix2 i j) = ((CW i j : ℝ) : EReal)
  hcb : ∀ j, m ((c.tc : Thread nD τ).loc main_arg4) (ix2 0 j) = ((CB j : ℝ) : EReal)
  hdx : ∀ i k, m ((c.tc : Thread nD τ).loc main_arg5) (ix2 i k) = ((DX i k : ℝ) : EReal)

theorem idx : ∀ t : Fin cfg0.N, win0_0.index t = ![15 - t.val, 0] ∧ win0_1.index t = ![15 - t.val, 0] ∧ win0_2.index t = ![15 - t.val, 0]
    ∧ win0_3.index t = ![15 - t.val, 0] ∧ win0_4.index t = ![0, 0] ∧ win0_5.index t = ![0, 0] ∧ win0_6.index t = ![15 - t.val, 0]
    ∧ win0_7.index t = ![15 - t.val, 0] ∧ win0_8.index t = ![0, 0] ∧ win0_9.index t = ![0, 0] :=
  (by decide +kernel : ∀ t : Fin grid0.N, _)

/-- The array row of a block's row: the blocks are taken from the last to the first. -/
def row (t : Fin cfg0.N) (i : Fin 512) : Fin 8192 := ⟨(15 - t.val) * 512 + i, by have := t.isLt; have : cfg0.N = 16 := rfl; omega⟩

variable {m c GP UP WD CW CB DX}

theorem blk0 (h : Args m c GP UP WD CW CB DX) (t : Fin cfg0.N) (i : Fin 512) (j : Fin 1024) : iblk m c 0 t (ix2 i j) = ((DX (row t i) j : ℝ) : EReal) := by
  rw [← h.hdx]; blk_ext! [iblk, V, idx t, row]

theorem blk2 (h : Args m c GP UP WD CW CB DX) (t : Fin cfg0.N) (i : Fin 512) (j : Fin 2816) : iblk m c 2 t (ix2 i j) = ((GP (row t i) j : ℝ) : EReal) := by
  rw [← h.hgp]; blk_ext! [iblk, V, idx t, row]

theorem blk3 (h : Args m c GP UP WD CW CB DX) (t : Fin cfg0.N) (i : Fin 512) (j : Fin 2816) : iblk m c 3 t (ix2 i j) = ((UP (row t i) j : ℝ) : EReal) := by
  rw [← h.hup]; blk_ext! [iblk, V, idx t, row]

theorem blk4 (h : Args m c GP UP WD CW CB DX) (t : Fin cfg0.N) (j : Fin 2816) (k : Fin 1024) : iblk m c 4 t (ix2 j k) = ((WD j k : ℝ) : EReal) := by
  rw [← h.hwd]; blk_ext! [iblk, V, idx t, row]

theorem blk5 (h : Args m c GP UP WD CW CB DX) (t : Fin cfg0.N) (i : Fin 3) (j : Fin 2816) : iblk m c 5 t (ix2 i j) = ((CW i j : ℝ) : EReal) := by
  rw [← h.hcw]; blk_ext! [iblk, V, idx t, row]

theorem v24 (h : Args m c GP UP WD CW CB DX) (r : Fin 8192) (j : Fin 2816) :
    StableHlo.after hostOps0 (fun b => m (c, b)) (Proc.tc.devRef main_v24) (ix2 r j) = ((FfnA.gate GP CW CB r j : ℝ) : EReal) := by
  entry_read
  pointwise
  have e0 : ∀ i j, m (c, Proc.tc.devRef main_arg0) (ix2 i j) = ((GP i j : ℝ) : EReal) := h.hgp
  have e3 : ∀ i j, m (c, Proc.tc.devRef main_arg3) (ix2 i j) = ((CW i j : ℝ) : EReal) := h.hcw
  have e4 : ∀ j, m (c, Proc.tc.devRef main_arg4) (ix2 0 j) = ((CB j : ℝ) : EReal) := h.hcb
  simp only [e0, e3, e4]
  have p2 : (if h : r.val < 2 then (0 : EReal) else ((GP ⟨r.val - 2, by omega⟩ j : ℝ) : EReal)) = ((prev (fun s => GP s j) 2 r : ℝ) : EReal) := by
    by_cases hr : r.val < 2
    · rw [dif_pos hr, prev, if_neg (by omega), EReal.coe_zero]
    · rw [dif_neg hr, prev, if_pos (by omega)]
  have p1 : (if h : 1 + r.val < 2 then (0 : EReal) else ((GP ⟨1 + r.val - 2, by omega⟩ j : ℝ) : EReal)) = ((prev (fun s => GP s j) 1 r : ℝ) : EReal) := by
    by_cases hr : 1 + r.val < 2
    · rw [dif_pos hr, prev, if_neg (by omega), EReal.coe_zero]
    · rw [dif_neg hr, prev, if_pos (by omega)]
      exact congrArg (fun s => ((GP s j : ℝ) : EReal)) (Fin.ext (by simp; omega))
  rw [p2, p1]
  rfl

theorem emb1 (t : Fin cfg0.N) (i : Fin 512) (j : Fin 2816) : (win0_1.blk t).view.emb (ix2 i j) = ix2 (row t i) j := by
  funext a; refine Fin.ext ?_; fin_cases a <;> simp [row, idx t]

theorem blk1 (h : Args m c GP UP WD CW CB DX) (t : Fin cfg0.N) (i : Fin 512) (j : Fin 2816) :
    iblk m c 1 t (ix2 i j) = ((FfnA.gate GP CW CB (row t i) j : ℝ) : EReal) := by
  rw [← v24 h]
  blk_simp [iblk, V, idx t, row]
  exact congrArg _ (emb1 t i j)

/-! ## One slab of columns, from its operands -/

section Slab

variable {A : Fin 512 → Fin 1024 → ℝ} {B : Fin 1408 → Fin 1024 → ℝ} {G U P D : Fin 512 → Fin 1408 → ℝ} {S : Fin 520 → Fin 1408 → ℝ}
  {w0 w1 w2 q : Fin 1408 → ℝ}

theorem ofBits_one : (Scalar.ofBits (F := Ideal) .f32 0x3F800000#32 : EReal) = ((1 : ℝ) : EReal) := by norm_num

theorem p11 (a : Vec Ideal S512x1024 .f32) (ha : ∀ i k, a (ix2 i k) = ((A i k : ℝ) : EReal)) (b : Vec Ideal S1408x1024 .bf16)
    (hb : ∀ j k, b (ix2 j k) = ((B j k : ℝ) : EReal)) (i : Fin 512) (j : Fin 1408) :
    k0_pay11 a b (ix2 i j) = ((∑ k, A i k * B j k : ℝ) : EReal) := by
  pointwise [k0_pay11, k0_pay7]
  simp only [ha, hb, ← EReal.coe_mul, sum_coe]

theorem p13 (a : Vec Ideal S512x1024 .f32) (ha : ∀ i k, a (ix2 i k) = ((A i k : ℝ) : EReal)) (b : Vec Ideal S1408x1024 .bf16)
    (hb : ∀ j k, b (ix2 j k) = ((B j k : ℝ) : EReal)) (g : Vec Ideal S512x1408 .bf16) (hg : ∀ i j, g (ix2 i j) = ((G i j : ℝ) : EReal))
    (u : Vec Ideal S512x1408 .bf16) (hu : ∀ i j, u (ix2 i j) = ((U i j : ℝ) : EReal)) (i : Fin 512) (j : Fin 1408) :
    k0_pay13 a g b u (ix2 i j) = (((∑ k, A i k * B j k) * U i j * (sg (G i j) * (1 + G i j * (1 - sg (G i j)))) : ℝ) : EReal) := by
  pointwise [k0_pay13, k0_pay10, k0_pay8]
  rw [p11 a ha b hb]
  simp only [hg, hu, Ideal.logistic_coe, ofBits_one, ← EReal.coe_mul, ← EReal.coe_sub, ← EReal.coe_add]
  rfl

theorem p12 (a : Vec Ideal S512x1024 .f32) (ha : ∀ i k, a (ix2 i k) = ((A i k : ℝ) : EReal)) (b : Vec Ideal S1408x1024 .bf16)
    (hb : ∀ j k, b (ix2 j k) = ((B j k : ℝ) : EReal)) (g : Vec Ideal S512x1408 .bf16) (hg : ∀ i j, g (ix2 i j) = ((G i j : ℝ) : EReal))
    (i : Fin 512) (j : Fin 1408) :
    k0_pay12 a g b (ix2 i j) = (((∑ k, A i k * B j k) * (G i j * sg (G i j)) : ℝ) : EReal) := by
  pointwise [k0_pay12, k0_pay10, k0_pay8]
  rw [p11 a ha b hb]
  simp only [hg, Ideal.logistic_coe, ← EReal.coe_mul, ← EReal.coe_sub, ← EReal.coe_add]
  rfl

theorem p15 (s : Vec Ideal S520x1408 .f32) (hs : ∀ i j, s (ix2 i j) = ((S i j : ℝ) : EReal)) (i : Fin 512) (j : Fin 1408) :
    k0_pay15 s (ix2 i j) = ((S ⟨i.val + 1, by omega⟩ j : ℝ) : EReal) := by
  pointwise [k0_pay15]
  rw [hs]
  exact congrArg (fun a => ((S a j : ℝ) : EReal)) (Fin.ext (by simp; omega))

theorem p16 (s : Vec Ideal S520x1408 .f32) (hs : ∀ i j, s (ix2 i j) = ((S i j : ℝ) : EReal)) (i : Fin 512) (j : Fin 1408) :
    k0_pay16 s (ix2 i j) = ((S ⟨i.val + 2, by omega⟩ j : ℝ) : EReal) := by
  pointwise [k0_pay16]
  rw [hs]
  exact congrArg (fun a => ((S a j : ℝ) : EReal)) (Fin.ext (by simp; omega))

theorem p17 (d : FVec Ideal S512x1408 .f32) (hd : ∀ i j, d (ix2 i j) = ((D i j : ℝ) : EReal)) (o : Vec Ideal S1x1408 .f32) (j : Fin 1408) :
    k0_pay17 d o (ix2 0 j) = o (ix2 0 j) + ((∑ i, D i j : ℝ) : EReal) := by
  pointwise [k0_pay17]
  simp only [hd, sum_coe]

theorem p18 (p : Vec Ideal S512x1408 .bf16) (hp : ∀ i j, p (ix2 i j) = ((P i j : ℝ) : EReal)) (s : Vec Ideal S520x1408 .f32)
    (hs : ∀ i j, s (ix2 i j) = ((S i j : ℝ) : EReal)) (o : Vec Ideal S1x1408 .f32) (j : Fin 1408) :
    k0_pay18 (k0_pay9 p) s o (ix2 0 j) = o (ix2 0 j) + ((∑ i : Fin 512, S ⟨i.val + 2, by omega⟩ j * P i j : ℝ) : EReal) := by
  pointwise [k0_pay18, k0_pay9]
  simp only [p16 s hs, hp, ← EReal.coe_mul, sum_coe]

theorem p19 (p : Vec Ideal S512x1408 .bf16) (hp : ∀ i j, p (ix2 i j) = ((P i j : ℝ) : EReal)) (s : Vec Ideal S520x1408 .f32)
    (hs : ∀ i j, s (ix2 i j) = ((S i j : ℝ) : EReal)) (o : Vec Ideal S1x1408 .f32) (j : Fin 1408) :
    k0_pay19 (k0_pay9 p) s o (ix2 0 j) = o (ix2 0 j) + ((∑ i : Fin 512, S ⟨i.val + 1, by omega⟩ j * P i j : ℝ) : EReal) := by
  pointwise [k0_pay19, k0_pay9]
  simp only [p15 s hs, hp, ← EReal.coe_mul, sum_coe]

theorem p22 (p : Vec Ideal S512x1408 .bf16) (hp : ∀ i j, p (ix2 i j) = ((P i j : ℝ) : EReal)) (d : FVec Ideal S512x1408 .f32)
    (hd : ∀ i j, d (ix2 i j) = ((D i j : ℝ) : EReal)) (o : Vec Ideal S1x1408 .f32) (j : Fin 1408) :
    k0_pay22 (k0_pay20 o) (k0_pay21 (k0_pay9 p) d) (ix2 0 j) = o (ix2 0 j) + ((∑ i : Fin 512, D i j * P i j : ℝ) : EReal) := by
  pointwise [k0_pay22, k0_pay20, k0_pay21, k0_pay9]
  simp only [hd, hp, ← EReal.coe_mul, sum_coe]

theorem p23 (a0 a1 a2 : Vec Ideal S1x1408 .f32) (h0 : ∀ j, a0 (ix2 0 j) = ((w0 j : ℝ) : EReal)) (h1 : ∀ j, a1 (ix2 0 j) = ((w1 j : ℝ) : EReal))
    (h2 : ∀ j, a2 (ix2 0 j) = ((w2 j : ℝ) : EReal)) (d : FVec Ideal S512x1408 .f32) (hd : ∀ i j, d (ix2 i j) = ((D i j : ℝ) : EReal))
    (s : Vec Ideal S520x1408 .f32) (hs : ∀ i j, s (ix2 i j) = ((S i j : ℝ) : EReal)) (i : Fin 512) (j : Fin 1408) :
    k0_pay23 a0 a1 a2 d (k0_pay15 s) (k0_pay16 s) (ix2 i j)
      = ((w2 j * D i j + w1 j * S ⟨i.val + 1, by omega⟩ j + w0 j * S ⟨i.val + 2, by omega⟩ j : ℝ) : EReal) := by
  pointwise [k0_pay23]
  simp only [p15 s hs, p16 s hs, h0, h1, h2, hd, ← EReal.coe_mul, ← EReal.coe_add]

end Slab
/-! ## The two slabs of columns of a grid point -/

/-- A column of the first slab. -/
def lo (j : Fin 1408) : Fin 2816 := ⟨0 + j.val, by omega⟩

/-- A column of the second slab. -/
def hi (j : Fin 1408) : Fin 2816 := ⟨1408 + j.val, by omega⟩

/-- A block's row, its number written as an offset. -/
theorem row_zero (t : Fin cfg0.N) (i : Fin 512) (p : 0 + i.val < 512) : row t ⟨0 + i.val, p⟩ = row t i := Fin.ext (by simp [row])

variable (m c) in
/-- The gate's block, first slab. -/
abbrev gLo (t : Fin cfg0.N) : Vec Ideal S512x1408 .bf16 := View.ld (iblk m c 1 t) (Rect.unit ![0, 0] ![512, 1408] inb_S512x2816_S512x1408_0_0)
variable (m c) in
/-- The projection's block, first slab. -/
abbrev pLo (t : Fin cfg0.N) : Vec Ideal S512x1408 .bf16 := View.ld (iblk m c 2 t) (Rect.unit ![0, 0] ![512, 1408] inb_S512x2816_S512x1408_0_0)
variable (m c) in
/-- The second factor's block, first slab. -/
abbrev uLo (t : Fin cfg0.N) : Vec Ideal S512x1408 .bf16 := View.ld (iblk m c 3 t) (Rect.unit ![0, 0] ![512, 1408] inb_S512x2816_S512x1408_0_0)
variable (m c) in
/-- The weight's rows of the first slab. -/
abbrev wLo (t : Fin cfg0.N) : Vec Ideal S1408x1024 .bf16 := View.ld (iblk m c 4 t) (Rect.unit ![0, 0] ![1408, 1024] inb_S2816x1024_S1408x1024_0_0)
variable (m c) in
/-- The gate's block, second slab. -/
abbrev gHi (t : Fin cfg0.N) : Vec Ideal S512x1408 .bf16 := View.ld (iblk m c 1 t) (Rect.unit ![0, 1408] ![512, 1408] inb_S512x2816_S512x1408_0_1408)
variable (m c) in
/-- The projection's block, second slab. -/
abbrev pHi (t : Fin cfg0.N) : Vec Ideal S512x1408 .bf16 := View.ld (iblk m c 2 t) (Rect.unit ![0, 1408] ![512, 1408] inb_S512x2816_S512x1408_0_1408)
variable (m c) in
/-- The second factor's block, second slab. -/
abbrev uHi (t : Fin cfg0.N) : Vec Ideal S512x1408 .bf16 := View.ld (iblk m c 3 t) (Rect.unit ![0, 1408] ![512, 1408] inb_S512x2816_S512x1408_0_1408)
variable (m c) in
/-- The weight's rows of the second slab. -/
abbrev wHi (t : Fin cfg0.N) : Vec Ideal S1408x1024 .bf16 := View.ld (iblk m c 4 t) (Rect.unit ![1408, 0] ![1408, 1024] inb_S2816x1024_S1408x1024_1408_0)

section Blocks

variable (h : Args m c GP UP WD CW CB DX) (t : Fin cfg0.N)
include h

theorem lgLo (i : Fin 512) (j : Fin 1408) : gLo m c t (ix2 i j) = ((FfnA.gate GP CW CB (row t i) (lo j) : ℝ) : EReal) :=
  (congrArg (iblk m c 1 t) (unit_idx inb_S512x2816_S512x1408_0_0 i j)).trans ((blk1 h t _ _).trans (by rw [row_zero]; rfl))
theorem lpLo (i : Fin 512) (j : Fin 1408) : pLo m c t (ix2 i j) = ((GP (row t i) (lo j) : ℝ) : EReal) :=
  (congrArg (iblk m c 2 t) (unit_idx inb_S512x2816_S512x1408_0_0 i j)).trans ((blk2 h t _ _).trans (by rw [row_zero]; rfl))
theorem luLo (i : Fin 512) (j : Fin 1408) : uLo m c t (ix2 i j) = ((UP (row t i) (lo j) : ℝ) : EReal) :=
  (congrArg (iblk m c 3 t) (unit_idx inb_S512x2816_S512x1408_0_0 i j)).trans ((blk3 h t _ _).trans (by rw [row_zero]; rfl))
theorem lwLo (j : Fin 1408) (k : Fin 1024) : wLo m c t (ix2 j k) = ((WD (lo j) k : ℝ) : EReal) :=
  (congrArg (iblk m c 4 t) (unit_idx inb_S2816x1024_S1408x1024_0_0 j k)).trans ((blk4 h t _ _).trans (by congr 2; exact Fin.ext (Nat.zero_add _)))
theorem lgHi (i : Fin 512) (j : Fin 1408) : gHi m c t (ix2 i j) = ((FfnA.gate GP CW CB (row t i) (hi j) : ℝ) : EReal) :=
  (congrArg (iblk m c 1 t) (unit_idx inb_S512x2816_S512x1408_0_1408 i j)).trans ((blk1 h t _ _).trans (by rw [row_zero]; rfl))
theorem lpHi (i : Fin 512) (j : Fin 1408) : pHi m c t (ix2 i j) = ((GP (row t i) (hi j) : ℝ) : EReal) :=
  (congrArg (iblk m c 2 t) (unit_idx inb_S512x2816_S512x1408_0_1408 i j)).trans ((blk2 h t _ _).trans (by rw [row_zero]; rfl))
theorem luHi (i : Fin 512) (j : Fin 1408) : uHi m c t (ix2 i j) = ((UP (row t i) (hi j) : ℝ) : EReal) :=
  (congrArg (iblk m c 3 t) (unit_idx inb_S512x2816_S512x1408_0_1408 i j)).trans ((blk3 h t _ _).trans (by rw [row_zero]; rfl))
theorem lwHi (j : Fin 1408) (k : Fin 1024) : wHi m c t (ix2 j k) = ((WD (hi j) k : ℝ) : EReal) :=
  (congrArg (iblk m c 4 t) (unit_idx inb_S2816x1024_S1408x1024_1408_0 j k)).trans ((blk4 h t _ _).trans (by congr 2; exact Fin.ext (Nat.zero_add _)))

end Blocks

variable (m c) in
/-- The gate's cotangent, first slab. -/
abbrev dLo (t : Fin cfg0.N) : FVec Ideal S512x1408 .f32 := k0_pay13 (iblk m c 0 t) (gLo m c t) (wLo m c t) (uLo m c t)

variable (m c) in
/-- The gate's cotangent, second slab. -/
abbrev dHi (t : Fin cfg0.N) : FVec Ideal S512x1408 .f32 :=
  k0_pay32 (k0_pay24 (gHi m c t)) (k0_pay26 (gHi m c t)) (k0_pay29 (k0_pay7 (iblk m c 0 t)) (wHi m c t) (uHi m c t)) (k0_pay30 (gHi m c t))

theorem dHi_eq (t : Fin cfg0.N) : dHi m c t = k0_pay13 (iblk m c 0 t) (gHi m c t) (wHi m c t) (uHi m c t) := by
  funext y; idx_vars y; pointwise [k0_pay32, k0_pay31, k0_pay13, k0_pay29, k0_pay27, k0_pay30, k0_pay24, k0_pay26, k0_pay11, k0_pay10, k0_pay8, k0_pay7]

theorem ldLo (h : Args m c GP UP WD CW CB DX) (t : Fin cfg0.N) (i : Fin 512) (j : Fin 1408) :
    dLo m c t (ix2 i j) = ((FfnA.dgate GP UP WD CW CB DX (row t i) (lo j) : ℝ) : EReal) :=
  p13 _ (blk0 h t) _ (lwLo h t) _ (lgLo h t) _ (luLo h t) i j

theorem ldHi (h : Args m c GP UP WD CW CB DX) (t : Fin cfg0.N) (i : Fin 512) (j : Fin 1408) :
    dHi m c t (ix2 i j) = ((FfnA.dgate GP UP WD CW CB DX (row t i) (hi j) : ℝ) : EReal) := by
  rw [dHi_eq]
  exact p13 _ (blk0 h t) _ (lwHi h t) _ (lgHi h t) _ (luHi h t) i j

end Cert.BwdFfnAIdeal.Hand
-- ==== Proof.FfnAScratch.lean ====
module

public import proofs.«01_k».proof.Proof.FfnAKernel

@[expose] public section

set_option maxRecDepth 16384

noncomputable section

/-! The gated unit's gradient call: the rows it carries from one grid point to the next, and its four results. -/

namespace Cert.BwdFfnAIdeal.Hand

open Cert.BwdFfnAIdeal Cert.BwdFfnAIdeal.Gen Cert.Hand Idealize.ShloMosaic Idealize.ShloMosaic.TcCoe Idealize.SL.Sem
open Idealize.ShloMosaic.Pipeline (Dat)

variable {m : (ℓ : Loc nD τ sig) → Buf (Elt Ideal) ℓ} {c : Dev nD}
variable {GP UP : Fin 8192 → Fin 2816 → ℝ} {WD : Fin 2816 → Fin 1024 → ℝ} {CW : Fin 3 → Fin 2816 → ℝ} {CB : Fin 2816 → ℝ} {DX : Fin 8192 → Fin 1024 → ℝ}

variable (GP UP WD CW CB DX) in
/-- What the scratch holds at a grid point: the gate's cotangent on the block's rows and the eight rows after them. -/
def scr (t : Fin cfg0.N) (k : ℕ) (j : Fin 2816) : ℝ := ext (fun s => FfnA.dgate GP UP WD CW CB DX s j) ((15 - t.val) * 512 + k)

variable (GP UP WD CW CB DX) in
/-- The same, as contents of the scratch. -/
def scrG (t : Fin cfg0.N) : S520x2816.Idx → Elt Ideal .f32 := fun y => ((scr GP UP WD CW CB DX t (y 0).val (y 1) : ℝ) : EReal)

theorem scr_row (t : Fin cfg0.N) (i : Fin 512) (j : Fin 2816) : scr GP UP WD CW CB DX t i.val j = FfnA.dgate GP UP WD CW CB DX (row t i) j :=
  ext_fin (fun s => FfnA.dgate GP UP WD CW CB DX s j) (row t i)

theorem scr_later (t : Fin cfg0.N) (k : ℕ) (i : Fin 512) (j : Fin 2816) : scr GP UP WD CW CB DX t (i.val + k) j = FfnA.later GP UP WD CW CB DX k (row t i) j := by
  rw [scr, FfnA.later]; congr 1; simp [row]; omega

variable (h : Args m c GP UP WD CW CB DX) (t : Fin cfg0.N)

variable (m c) in
/-- The store of the first slab's cotangent. -/
abbrev stLo (t : Fin cfg0.N) : View.Piece (Elt Ideal) S520x2816 .f32 :=
  ⟨Rect.unit ![0, 0] ![512, 1408] inb_S520x2816_S512x1408_0_0, k0_pay14 (dLo m c t)⟩

variable (m c) in
/-- The store of the second slab's cotangent. -/
abbrev stHi (t : Fin cfg0.N) : View.Piece (Elt Ideal) S520x2816 .f32 :=
  ⟨Rect.unit ![0, 1408] ![512, 1408] inb_S520x2816_S512x1408_0_1408, dHi m c t⟩

/-- The zeros the first grid point puts after its rows. -/
abbrev stZero : View.Piece (Elt Ideal) S520x2816 .f32 :=
  ⟨Rect.unit ![512, 0] ![8, 2816] inb_S520x2816_S8x2816_512_0, k0_pay4 (F := Ideal)⟩

variable (m c) in
/-- What the first grid point reads of the scratch for its first slab. -/
abbrev sLoA (t : Fin cfg0.N) : Vec Ideal S520x1408 .f32 :=
  (View.whole cc0_scratch0).readCov [stLo m c t, stZero] (Rect.unit (s := S520x2816) ![0, 0] ![520, 1408] inb_S520x2816_S520x1408_0_0).toLoadRect

variable (m c) in
/-- What the first grid point reads of the scratch for its second slab. -/
abbrev sHiA (t : Fin cfg0.N) : Vec Ideal S520x1408 .f32 :=
  (View.whole cc0_scratch0).readCov [stHi m c t, stLo m c t, stZero] (Rect.unit (s := S520x2816) ![0, 1408] ![520, 1408] inb_S520x2816_S520x1408_0_1408).toLoadRect

theorem p3 (v : Vec Ideal S8x2816 .f32) (k : Fin 8) (j : Fin 2816) : k0_pay3 v (ix2 k j) = v (ix2 k j) := by pointwise [k0_pay3]

theorem p14 (v : FVec Ideal S512x1408 .f32) (i : Fin 512) (j : Fin 1408) : k0_pay14 v (ix2 i j) = v (ix2 i j) := by pointwise [k0_pay14]

include h

theorem stLo_block (x : (stLo m c t).1.shape.Idx) : (stLo m c t).2 x = scrG GP UP WD CW CB DX t ((stLo m c t).1.emb x) := by
  idx_vars x
  refine Eq.trans ?_ (congrArg (scrG GP UP WD CW CB DX t) (unit_idx inb_S520x2816_S512x1408_0_0 x0 x1)).symm
  refine (p14 _ x0 x1).trans ((ldLo h t x0 x1).trans ?_)
  rw [← scr_row]
  exact congrArg (fun k => ((scr GP UP WD CW CB DX t k (lo x1) : ℝ) : EReal)) (Nat.zero_add _).symm

theorem stHi_block (x : (stHi m c t).1.shape.Idx) : (stHi m c t).2 x = scrG GP UP WD CW CB DX t ((stHi m c t).1.emb x) := by
  idx_vars x
  refine Eq.trans ?_ (congrArg (scrG GP UP WD CW CB DX t) (unit_idx inb_S520x2816_S512x1408_0_1408 x0 x1)).symm
  refine (ldHi h t x0 x1).trans ?_
  rw [← scr_row]
  exact congrArg (fun k => ((scr GP UP WD CW CB DX t k (hi x1) : ℝ) : EReal)) (Nat.zero_add _).symm

omit h in
theorem stZero_block (h0 : t.val = 0) (x : stZero.1.shape.Idx) : stZero.2 x = scrG GP UP WD CW CB DX t (stZero.1.emb x) := by
  idx_vars x
  refine Eq.trans ?_ (congrArg (scrG GP UP WD CW CB DX t) (unit_idx inb_S520x2816_S8x2816_512_0 x0 x1)).symm
  show _ = ((ext _ ((15 - t.val) * 512 + (512 + x0.val)) : ℝ) : EReal)
  rw [ext, dif_neg (by omega)]
  pointwise [k0_pay4]
  exact EReal.coe_zero.symm

omit h in
/-- Indices of the scratch's first slab are covered by its store and the rows after it. -/
theorem cover_lo {p q : View.Piece (Elt Ideal) S520x2816 .f32} (hp : p.1 = Rect.unit ![0, 0] ![512, 1408] inb_S520x2816_S512x1408_0_0)
    (hq : q.1 = Rect.unit ![512, 0] ![8, 2816] inb_S520x2816_S8x2816_512_0) (k : Fin 520) (j : Fin 1408) :
    (ix2 k (lo j) : S520x2816.Idx) ∈ p.1.set ∨ (ix2 k (lo j) : S520x2816.Idx) ∈ q.1.set := by
  rw [hp, hq]
  have e : (lo j).val = 0 + j.val := rfl
  by_cases hk : k.val < 512
  · exact .inl (mem_unit inb_S520x2816_S512x1408_0_0 k (lo j) (by omega) (by omega))
  · exact .inr (mem_unit inb_S520x2816_S8x2816_512_0 k (lo j) (by omega) (by omega))

omit h in
theorem cover_hi {p q : View.Piece (Elt Ideal) S520x2816 .f32} (hp : p.1 = Rect.unit ![0, 1408] ![512, 1408] inb_S520x2816_S512x1408_0_1408)
    (hq : q.1 = Rect.unit ![512, 0] ![8, 2816] inb_S520x2816_S8x2816_512_0) (k : Fin 520) (j : Fin 1408) :
    (ix2 k (hi j) : S520x2816.Idx) ∈ p.1.set ∨ (ix2 k (hi j) : S520x2816.Idx) ∈ q.1.set := by
  rw [hp, hq]
  have e : (hi j).val = 1408 + j.val := rfl
  by_cases hk : k.val < 512
  · exact .inl (mem_unit inb_S520x2816_S512x1408_0_1408 k (hi j) (by omega) (by omega))
  · exact .inr (mem_unit inb_S520x2816_S8x2816_512_0 k (hi j) (by omega) (by omega))

/-- The scratch as the first grid point reads its first slab. -/
theorem readLo_first (h0 : t.val = 0) (k : Fin 520) (j : Fin 1408) :
    sLoA m c t (ix2 k j) = ((scr GP UP WD CW CB DX t k.val (lo j) : ℝ) : EReal) := by
  rw [sLoA, View.readCov_eq_canon']
  refine (congrArg (View.canon _) (unit_idx inb_S520x2816_S520x1408_0_0 k j)).trans ?_
  refine (canon_of_blocks (scrG GP UP WD CW CB DX t) [stLo m c t, stZero] ⟨stLo_block h t, stZero_block t h0, trivial⟩ _ ?_).trans ?_
  · have e : (⟨0 + k.val, by omega⟩ : Fin 520) = k := Fin.ext (Nat.zero_add _)
    rcases cover_lo (p := stLo m c t) (q := stZero) rfl rfl k j with hm | hm
    · exact ⟨_, List.mem_cons_self, by rw [e]; exact hm⟩
    · exact ⟨_, List.mem_cons_of_mem _ List.mem_cons_self, by rw [e]; exact hm⟩
  · exact congrArg (fun k => ((scr GP UP WD CW CB DX t k (lo j) : ℝ) : EReal)) (Nat.zero_add _)

/-- The scratch as the first grid point reads its second slab. -/
theorem readHi_first (h0 : t.val = 0) (k : Fin 520) (j : Fin 1408) :
    sHiA m c t (ix2 k j) = ((scr GP UP WD CW CB DX t k.val (hi j) : ℝ) : EReal) := by
  rw [sHiA, View.readCov_eq_canon']
  refine (congrArg (View.canon _) (unit_idx inb_S520x2816_S520x1408_0_1408 k j)).trans ?_
  refine (canon_of_blocks (scrG GP UP WD CW CB DX t) [stHi m c t, stLo m c t, stZero] ⟨stHi_block h t, stLo_block h t, stZero_block t h0, trivial⟩ _ ?_).trans ?_
  · have e : (⟨0 + k.val, by omega⟩ : Fin 520) = k := Fin.ext (Nat.zero_add _)
    rcases cover_hi (p := stHi m c t) (q := stZero) rfl rfl k j with hm | hm
    · exact ⟨_, List.mem_cons_self, by rw [e]; exact hm⟩
    · exact ⟨_, List.mem_cons_of_mem _ (List.mem_cons_of_mem _ List.mem_cons_self), by rw [e]; exact hm⟩
  · exact congrArg (fun k => ((scr GP UP WD CW CB DX t k (hi j) : ℝ) : EReal)) (Nat.zero_add _)

/-- The eight rows a grid point leaves after its own: the first rows of its block, before or after the second slab is known. -/
theorem carried (L : List (View.Piece (Elt Ideal) S520x2816 .f32)) (k : Fin 8) (j : Fin 2816) :
    k0_pay3 ((View.whole cc0_scratch0).readCov (stHi m c t :: stLo m c t :: L) (Rect.unit (s := S520x2816) ![0, 0] ![8, 2816] inb_S520x2816_S8x2816_0_0).toLoadRect) (ix2 k j)
      = ((scr GP UP WD CW CB DX t k.val j : ℝ) : EReal) := by
  refine (p3 _ k j).trans ?_
  rw [View.readCov_eq_canon']
  refine (congrArg (View.canon _) (unit_idx inb_S520x2816_S8x2816_0_0 k j)).trans ?_
  refine (View.canon_append_of_piecesOf (scrG GP UP WD CW CB DX t) L [stHi m c t, stLo m c t] ⟨stHi_block h t, stLo_block h t, trivial⟩ _ ?_).trans ?_
  · by_cases hj : j.val < 1408
    · exact ⟨_, List.mem_cons_of_mem _ List.mem_cons_self, mem_unit inb_S520x2816_S512x1408_0_0 _ _ (by simp; omega) (by simp; omega)⟩
    · exact ⟨_, List.mem_cons_self, mem_unit inb_S520x2816_S512x1408_0_1408 _ _ (by simp; omega) (by simp; omega)⟩
  · exact congrArg₂ (fun k j => ((scr GP UP WD CW CB DX t k j : ℝ) : EReal)) (Nat.zero_add _) (Fin.ext (Nat.zero_add _))

/-- So after a grid point the scratch holds, in its last eight rows, the first rows of that point's block. -/
theorem scratch_after (k : Fin 8) (j : Fin 2816) :
    (outsAt0 m c t.val t.isLt).2.2.2.2 (ix2 ⟨512 + k.val, by omega⟩ j) = ((scr GP UP WD CW CB DX t k.val j : ℝ) : EReal) := by
  have e : (ix2 ⟨512 + k.val, by omega⟩ j : S520x2816.Idx) = (Rect.unit (s := S520x2816) ![512, 0] ![8, 2816] inb_S520x2816_S8x2816_512_0).emb (ix2 k j) := by
    rw [unit_idx inb_S520x2816_S8x2816_512_0]; exact congrArg (ix2 _) (Fin.ext (Nat.zero_add _).symm)
  by_cases ht : t.val % 16 = 0
  · rw [outsAt0_A m c t ht]; dsimp only; frame_out
    rw [e]
    exact (View.canon_cons_emb (Rect.unit (s := S520x2816) ![512, 0] ![8, 2816] inb_S520x2816_S8x2816_512_0) _ _ (ix2 k j)).trans (carried h t _ k j)
  · rw [outsAt0_B m c t ht]; dsimp only; frame_out
    rw [e]
    exact (View.canon_cons_emb (Rect.unit (s := S520x2816) ![512, 0] ![8, 2816] inb_S520x2816_S8x2816_512_0) _ _ (ix2 k j)).trans (carried h t _ k j)

/-- The scratch's last eight rows, as a later grid point finds them. -/
theorem found (ht : ¬ t.val % 16 = 0) (hp : t.val - 1 < cfg0.N) (k : Fin 8) (j : Fin 2816) :
    (outsAt0 m c (t.val - 1) hp).2.2.2.2 (ix2 ⟨512 + k.val, by omega⟩ j) = ((scr GP UP WD CW CB DX t (512 + k.val) j : ℝ) : EReal) := by
  refine (scratch_after h ⟨t.val - 1, hp⟩ k j).trans ?_
  rw [scr, scr]
  have : t.val < 16 := t.isLt
  congr 2
  show (15 - (t.val - 1)) * 512 + k.val = (15 - t.val) * 512 + (512 + k.val)
  omega

variable (m c) in
/-- What a later grid point reads of the scratch for its first slab, over the contents it finds. -/
abbrev sLoB (t : Fin cfg0.N) (f : (View.whole cc0_scratch0 : View sig .tc .vmem S520x2816 .f32).ty.Contents (Elt Ideal)) : Vec Ideal S520x1408 .f32 :=
  View.ld (View.read (Elt Ideal) (View.whole cc0_scratch0) ((View.whole cc0_scratch0).writes (Elt Ideal) f [stLo m c t]))
    (Rect.unit (s := S520x2816) ![0, 0] ![520, 1408] inb_S520x2816_S520x1408_0_0)

variable (m c) in
/-- What a later grid point reads of the scratch for its second slab, over the contents it finds. -/
abbrev sHiB (t : Fin cfg0.N) (f : (View.whole cc0_scratch0 : View sig .tc .vmem S520x2816 .f32).ty.Contents (Elt Ideal)) : Vec Ideal S520x1408 .f32 :=
  View.ld (View.read (Elt Ideal) (View.whole cc0_scratch0) ((View.whole cc0_scratch0).writes (Elt Ideal) f [stHi m c t, stLo m c t]))
    (Rect.unit (s := S520x2816) ![0, 1408] ![520, 1408] inb_S520x2816_S520x1408_0_1408)

theorem readLo_next (U : S520x2816.Idx → Elt Ideal .f32)
    (hU : ∀ (k : Fin 8) (j : Fin 2816), U (ix2 ⟨512 + k.val, by omega⟩ j) = ((scr GP UP WD CW CB DX t (512 + k.val) j : ℝ) : EReal))
    (f : (View.whole cc0_scratch0 : View sig .tc .vmem S520x2816 .f32).ty.Contents (Elt Ideal)) (hf : View.read (Elt Ideal) (View.whole cc0_scratch0) f = U)
    (k : Fin 520) (j : Fin 1408) : sLoB m c t f (ix2 k j) = ((scr GP UP WD CW CB DX t k.val (lo j) : ℝ) : EReal) := by
  refine (congrArg (View.read (Elt Ideal) (View.whole cc0_scratch0) _) (unit_idx inb_S520x2816_S520x1408_0_0 k j)).trans ?_
  refine (read_writes_of_blocks (View.whole cc0_scratch0) f (scrG GP UP WD CW CB DX t) _ [stLo m c t] ⟨stLo_block h t, trivial⟩ ?_).trans ?_
  · by_cases hk : k.val < 512
    · exact .inl ⟨_, List.mem_cons_self, mem_unit inb_S520x2816_S512x1408_0_0 _ _ (by simp; omega) (by simp)⟩
    · refine .inr ((congrFun hf _).trans ?_)
      refine Eq.trans (congrArg U ?_) ((hU ⟨k.val - 512, by omega⟩ (lo j)).trans ?_)
      · exact congrArg₂ ix2 (Fin.ext (by simp; omega)) rfl
      · exact congrArg (fun k => ((scr GP UP WD CW CB DX t k (lo j) : ℝ) : EReal)) (by simp; omega)
  · exact congrArg (fun k => ((scr GP UP WD CW CB DX t k (lo j) : ℝ) : EReal)) (Nat.zero_add _)

theorem readHi_next (U : S520x2816.Idx → Elt Ideal .f32)
    (hU : ∀ (k : Fin 8) (j : Fin 2816), U (ix2 ⟨512 + k.val, by omega⟩ j) = ((scr GP UP WD CW CB DX t (512 + k.val) j : ℝ) : EReal))
    (f : (View.whole cc0_scratch0 : View sig .tc .vmem S520x2816 .f32).ty.Contents (Elt Ideal)) (hf : View.read (Elt Ideal) (View.whole cc0_scratch0) f = U)
    (k : Fin 520) (j : Fin 1408) : sHiB m c t f (ix2 k j) = ((scr GP UP WD CW CB DX t k.val (hi j) : ℝ) : EReal) := by
  refine (congrArg (View.read (Elt Ideal) (View.whole cc0_scratch0) _) (unit_idx inb_S520x2816_S520x1408_0_1408 k j)).trans ?_
  refine (read_writes_of_blocks (View.whole cc0_scratch0) f (scrG GP UP WD CW CB DX t) _ [stHi m c t, stLo m c t] ⟨stHi_block h t, stLo_block h t, trivial⟩ ?_).trans ?_
  · by_cases hk : k.val < 512
    · exact .inl ⟨_, List.mem_cons_self, mem_unit inb_S520x2816_S512x1408_0_1408 _ _ (by simp; omega) (by simp; omega)⟩
    · refine .inr ((congrFun hf _).trans ?_)
      refine Eq.trans (congrArg U ?_) ((hU ⟨k.val - 512, by omega⟩ (hi j)).trans ?_)
      · exact congrArg₂ ix2 (Fin.ext (by simp; omega)) rfl
      · exact congrArg (fun k => ((scr GP UP WD CW CB DX t k (hi j) : ℝ) : EReal)) (by simp; omega)
  · exact congrArg (fun k => ((scr GP UP WD CW CB DX t k (hi j) : ℝ) : EReal)) (Nat.zero_add _)

end Cert.BwdFfnAIdeal.Hand
-- ==== Proof.FfnAOut.lean ====
module

public import proofs.«01_k».proof.Proof.FfnAScratch

@[expose] public section

set_option maxRecDepth 16384

noncomputable section

/-! The gated unit's gradient call: its four results. -/

namespace Cert.BwdFfnAIdeal.Hand

open Cert.BwdFfnAIdeal Cert.BwdFfnAIdeal.Gen Cert.Hand Idealize.ShloMosaic Idealize.ShloMosaic.TcCoe Idealize.SL.Sem
open Idealize.ShloMosaic.Pipeline (Dat)

variable {m : (ℓ : Loc nD τ sig) → Buf (Elt Ideal) ℓ} {c : Dev nD}
variable {GP UP : Fin 8192 → Fin 2816 → ℝ} {WD : Fin 2816 → Fin 1024 → ℝ} {CW : Fin 3 → Fin 2816 → ℝ} {CB : Fin 2816 → ℝ} {DX : Fin 8192 → Fin 1024 → ℝ}

/-- A column is one of the first slab or of the second. -/
theorem lo_or_hi (j : Fin 2816) : (∃ k, j = lo k) ∨ ∃ k, j = hi k := by
  by_cases hj : j.val < 1408
  · exact .inl ⟨⟨j.val, hj⟩, Fin.ext (by simp [lo])⟩
  · exact .inr ⟨⟨j.val - 1408, by omega⟩, Fin.ext (by simp [hi]; omega)⟩

/-- The second slab's payloads are those of the first, at the second slab's operands. -/
theorem pay1_eq (g : Vec Ideal S512x1408 .bf16) (a : Vec Ideal S512x1024 .f32) (w : Vec Ideal S1408x1024 .bf16) (u p : Vec Ideal S512x1408 .bf16) (o : Vec Ideal S1x1408 .f32) :
    k0_pay1 (k0_pay25 p) (k0_pay31 (k0_pay24 g) (k0_pay26 g) (k0_pay29 (k0_pay7 a) w u) (k0_pay30 g)) o
      = k0_pay22 (k0_pay20 o) (k0_pay21 (k0_pay9 p) (k0_pay13 a g w u)) := by
  funext y; idx_vars y; pointwise [k0_pay1, k0_pay25, k0_pay31, k0_pay24, k0_pay26, k0_pay29, k0_pay7, k0_pay30, k0_pay27, k0_pay22, k0_pay20, k0_pay21, k0_pay9, k0_pay13, k0_pay11, k0_pay10, k0_pay8]

theorem pay2_eq (g : Vec Ideal S512x1408 .bf16) (a : Vec Ideal S512x1024 .f32) (w : Vec Ideal S1408x1024 .bf16) (u : Vec Ideal S512x1408 .bf16) (a0 a1 a2 : Vec Ideal S1x1408 .f32) (s : Vec Ideal S520x1408 .f32) :
    k0_pay2 a0 a1 a2 (k0_pay31 (k0_pay24 g) (k0_pay26 g) (k0_pay29 (k0_pay7 a) w u) (k0_pay30 g)) (k0_pay33 s) (k0_pay34 s)
      = k0_pay23 a0 a1 a2 (k0_pay13 a g w u) (k0_pay15 s) (k0_pay16 s) := by
  funext y; idx_vars y; pointwise [k0_pay2, k0_pay23, k0_pay31, k0_pay24, k0_pay26, k0_pay29, k0_pay7, k0_pay30, k0_pay27, k0_pay13, k0_pay11, k0_pay10, k0_pay8, k0_pay33, k0_pay34, k0_pay15, k0_pay16]

theorem pay35_eq (g : Vec Ideal S512x1408 .bf16) (a : Vec Ideal S512x1024 .f32) (w : Vec Ideal S1408x1024 .bf16) (u : Vec Ideal S512x1408 .bf16) (o : Vec Ideal S1x1408 .f32) :
    k0_pay35 (k0_pay24 g) (k0_pay26 g) (k0_pay29 (k0_pay7 a) w u) (k0_pay30 g) o = k0_pay17 (k0_pay13 a g w u) o := by
  funext y; idx_vars y; pointwise [k0_pay35, k0_pay17, k0_pay31, k0_pay24, k0_pay26, k0_pay29, k0_pay7, k0_pay30, k0_pay27, k0_pay13, k0_pay11, k0_pay10, k0_pay8]

theorem pay28_eq (g : Vec Ideal S512x1408 .bf16) (a : Vec Ideal S512x1024 .f32) (w : Vec Ideal S1408x1024 .bf16) :
    k0_pay28 (k0_pay7 a) g w = k0_pay12 a g w := by
  funext y; idx_vars y; pointwise [k0_pay28, k0_pay12, k0_pay24, k0_pay26, k0_pay7, k0_pay27, k0_pay11, k0_pay10, k0_pay8]

theorem pay36_eq (p : Vec Ideal S512x1408 .bf16) (s : Vec Ideal S520x1408 .f32) (o : Vec Ideal S1x1408 .f32) :
    k0_pay36 (k0_pay25 p) s o = k0_pay18 (k0_pay9 p) s o := by
  funext y; idx_vars y; pointwise [k0_pay36, k0_pay18, k0_pay25, k0_pay9, k0_pay34, k0_pay16]

theorem pay37_eq (p : Vec Ideal S512x1408 .bf16) (s : Vec Ideal S520x1408 .f32) (o : Vec Ideal S1x1408 .f32) :
    k0_pay37 (k0_pay25 p) s o = k0_pay19 (k0_pay9 p) s o := by
  funext y; idx_vars y; pointwise [k0_pay37, k0_pay19, k0_pay25, k0_pay9, k0_pay33, k0_pay15]

/-- No rows later is the row itself. -/
theorem later_zero (t : Fin cfg0.N) (i : Fin 512) (j : Fin 2816) : FfnA.later GP UP WD CW CB DX 0 (row t i) j = FfnA.dgate GP UP WD CW CB DX (row t i) j := by
  rw [← scr_row, ← scr_later, Nat.add_zero]

/-- The zeros a first grid point fills a result with. -/
theorem p5 (i : Fin 3) (j : Fin 2816) : k0_pay5 (F := Ideal) (ix2 i j) = 0 := by pointwise [k0_pay5]
theorem p6 (j : Fin 2816) : k0_pay6 (F := Ideal) (ix2 0 j) = 0 := by pointwise [k0_pay6]

variable (h : Args m c GP UP WD CW CB DX) (t : Fin cfg0.N)
include h

/-! ### The scratch reads, first and later grid points alike -/

section Point

variable (s s' : Vec Ideal S520x1408 .f32) (hs : ∀ k j, s (ix2 k j) = ((scr GP UP WD CW CB DX t k.val (lo j) : ℝ) : EReal))
  (hs' : ∀ k j, s' (ix2 k j) = ((scr GP UP WD CW CB DX t k.val (hi j) : ℝ) : EReal))

omit h in
theorem c5 (h : Args m c GP UP WD CW CB DX) {o q : ℕ} (inb : ∀ k : Fin 2, (![o, q] : Fin 2 → ℕ) k + (![1, 1408] : Fin 2 → ℕ) k ≤ (![3, 2816] : Fin 2 → ℕ) k) (j : Fin 1408) :
    View.ld (iblk m c 5 t) (Rect.unit (s := S3x2816) ![o, q] ![1, 1408] inb) (ix2 0 j)
      = ((CW ⟨o, by have := inb 0; simp at this; omega⟩ ⟨q + j.val, by have := inb 1; simp at this; omega⟩ : ℝ) : EReal) :=
  (congrArg (iblk m c 5 t) (unit_idx inb 0 j)).trans (blk5 h t _ _)

include hs in
theorem dgpLo (i : Fin 512) (j : Fin 1408) :
    k0_pay23 (View.ld (iblk m c 5 t) (Rect.unit ![0, 0] ![1, 1408] inb_S3x2816_S1x1408_0_0)) (View.ld (iblk m c 5 t) (Rect.unit ![1, 0] ![1, 1408] inb_S3x2816_S1x1408_1_0))
      (View.ld (iblk m c 5 t) (Rect.unit ![2, 0] ![1, 1408] inb_S3x2816_S1x1408_2_0)) (dLo m c t) (k0_pay15 s) (k0_pay16 s) (ix2 i j)
      = ((FfnA.dgp GP UP WD CW CB DX (row t i) (lo j) : ℝ) : EReal) := by
  refine (p23 _ _ _ (c5 t h inb_S3x2816_S1x1408_0_0) (c5 t h inb_S3x2816_S1x1408_1_0) (c5 t h inb_S3x2816_S1x1408_2_0) _ (ldLo h t) s hs i j).trans ?_
  simp only [scr_later]
  rfl

include hs' in
theorem dgpHi (i : Fin 512) (j : Fin 1408) :
    k0_pay23 (View.ld (iblk m c 5 t) (Rect.unit ![0, 1408] ![1, 1408] inb_S3x2816_S1x1408_0_1408)) (View.ld (iblk m c 5 t) (Rect.unit ![1, 1408] ![1, 1408] inb_S3x2816_S1x1408_1_1408))
      (View.ld (iblk m c 5 t) (Rect.unit ![2, 1408] ![1, 1408] inb_S3x2816_S1x1408_2_1408))
      (k0_pay13 (iblk m c 0 t) (gHi m c t) (wHi m c t) (uHi m c t)) (k0_pay15 s') (k0_pay16 s') (ix2 i j)
      = ((FfnA.dgp GP UP WD CW CB DX (row t i) (hi j) : ℝ) : EReal) := by
  refine (p23 _ _ _ (c5 t h inb_S3x2816_S1x1408_0_1408) (c5 t h inb_S3x2816_S1x1408_1_1408) (c5 t h inb_S3x2816_S1x1408_2_1408) _
    (fun i j => (congrFun (dHi_eq t) (ix2 i j)).symm.trans (ldHi h t i j)) s' hs' i j).trans ?_
  simp only [scr_later]
  rfl

include hs hs' in
/-- A block of the projection's cotangent, from its two stores. -/
theorem canon6 (i : Fin 512) (j : Fin 2816) :
    View.canon [(⟨Rect.unit ![0, 1408] ![512, 1408] inb_S512x2816_S512x1408_0_1408,
        k0_pay2 (View.ld (iblk m c 5 t) (Rect.unit ![0, 1408] ![1, 1408] inb_S3x2816_S1x1408_0_1408)) (View.ld (iblk m c 5 t) (Rect.unit ![1, 1408] ![1, 1408] inb_S3x2816_S1x1408_1_1408))
          (View.ld (iblk m c 5 t) (Rect.unit ![2, 1408] ![1, 1408] inb_S3x2816_S1x1408_2_1408))
          (k0_pay31 (k0_pay24 (gHi m c t)) (k0_pay26 (gHi m c t)) (k0_pay29 (k0_pay7 (iblk m c 0 t)) (wHi m c t) (uHi m c t)) (k0_pay30 (gHi m c t)))
          (k0_pay33 s') (k0_pay34 s')⟩ : View.Piece (Elt Ideal) S512x2816 .bf16),
      ⟨Rect.unit ![0, 0] ![512, 1408] inb_S512x2816_S512x1408_0_0,
        k0_pay23 (View.ld (iblk m c 5 t) (Rect.unit ![0, 0] ![1, 1408] inb_S3x2816_S1x1408_0_0)) (View.ld (iblk m c 5 t) (Rect.unit ![1, 0] ![1, 1408] inb_S3x2816_S1x1408_1_0))
          (View.ld (iblk m c 5 t) (Rect.unit ![2, 0] ![1, 1408] inb_S3x2816_S1x1408_2_0)) (dLo m c t) (k0_pay15 s) (k0_pay16 s)⟩] (ix2 i j)
      = ((FfnA.dgp GP UP WD CW CB DX (row t i) j : ℝ) : EReal) := by
  let G : S512x2816.Idx → Elt Ideal .bf16 := fun y => ((FfnA.dgp GP UP WD CW CB DX (row t (y 0)) (y 1) : ℝ) : EReal)
  refine canon_of_blocks G _ ?_ (ix2 i j) ?_
  rotate_left
  · rcases lo_or_hi j with ⟨k, rfl⟩ | ⟨k, rfl⟩
    · exact ⟨_, List.mem_cons_of_mem _ List.mem_cons_self, mem_unit inb_S512x2816_S512x1408_0_0 i (lo k) (by omega) (by simp [lo])⟩
    · exact ⟨_, List.mem_cons_self, mem_unit inb_S512x2816_S512x1408_0_1408 i (hi k) (by omega) (by simp [hi]; omega)⟩
  refine ⟨fun x => ?_, fun x => ?_, trivial⟩
  · idx_vars x
    refine Eq.trans ?_ (congrArg G (unit_idx inb_S512x2816_S512x1408_0_1408 x0 x1)).symm
    refine (congrFun (pay2_eq (gHi m c t) (iblk m c 0 t) (wHi m c t) (uHi m c t) _ _ _ s') _).trans ?_
    exact (dgpHi h t s' hs' x0 x1).trans (by simp only [G]; rw [← row_zero t x0 (by omega)]; rfl)
  · idx_vars x
    refine Eq.trans ?_ (congrArg G (unit_idx inb_S512x2816_S512x1408_0_0 x0 x1)).symm
    exact (dgpLo h t s hs x0 x1).trans (by simp only [G]; rw [← row_zero t x0 (by omega)]; rfl)

end Point

omit h in
/-- The two slabs' stores of a result's block cover it. -/
theorem cover7 (w w' : S512x1408.Idx → Elt Ideal .bf16) (i : Fin 512) (j : Fin 2816) :
    ∃ p ∈ [(⟨Rect.unit ![0, 1408] ![512, 1408] inb_S512x2816_S512x1408_0_1408, w⟩ : View.Piece (Elt Ideal) S512x2816 .bf16),
      ⟨Rect.unit ![0, 0] ![512, 1408] inb_S512x2816_S512x1408_0_0, w'⟩], (ix2 i j : S512x2816.Idx) ∈ p.1.set := by
  rcases lo_or_hi j with ⟨k, rfl⟩ | ⟨k, rfl⟩
  · exact ⟨_, List.mem_cons_of_mem _ List.mem_cons_self, mem_unit inb_S512x2816_S512x1408_0_0 i (lo k) (by omega) (by simp [lo])⟩
  · exact ⟨_, List.mem_cons_self, mem_unit inb_S512x2816_S512x1408_0_1408 i (hi k) (by omega) (by simp [hi]; omega)⟩

/-- A block of the second factor's cotangent, from its two stores. -/
theorem canon7 (i : Fin 512) (j : Fin 2816) :
    View.canon [(⟨Rect.unit ![0, 1408] ![512, 1408] inb_S512x2816_S512x1408_0_1408, k0_pay28 (k0_pay7 (iblk m c 0 t)) (gHi m c t) (wHi m c t)⟩ : View.Piece (Elt Ideal) S512x2816 .bf16),
      ⟨Rect.unit ![0, 0] ![512, 1408] inb_S512x2816_S512x1408_0_0, k0_pay12 (iblk m c 0 t) (gLo m c t) (wLo m c t)⟩] (ix2 i j)
      = ((FfnA.dup GP WD CW CB DX (row t i) j : ℝ) : EReal) := by
  let G : S512x2816.Idx → Elt Ideal .bf16 := fun y => ((FfnA.dup GP WD CW CB DX (row t (y 0)) (y 1) : ℝ) : EReal)
  refine canon_of_blocks G _ ?_ (ix2 i j) (cover7 _ _ i j)
  refine ⟨fun x => ?_, fun x => ?_, trivial⟩
  · idx_vars x
    refine Eq.trans ?_ (congrArg G (unit_idx inb_S512x2816_S512x1408_0_1408 x0 x1)).symm
    refine (congrFun (pay28_eq (gHi m c t) (iblk m c 0 t) (wHi m c t)) _).trans ?_
    exact (p12 _ (blk0 h t) _ (lwHi h t) _ (lgHi h t) x0 x1).trans (by simp only [G]; rw [← row_zero t x0 (by omega)]; rfl)
  · idx_vars x
    refine Eq.trans ?_ (congrArg G (unit_idx inb_S512x2816_S512x1408_0_0 x0 x1)).symm
    exact (p12 _ (blk0 h t) _ (lwLo h t) _ (lgLo h t) x0 x1).trans (by simp only [G]; rw [← row_zero t x0 (by omega)]; rfl)

section Sums

variable (s s' : Vec Ideal S520x1408 .f32) (hs : ∀ k j, s (ix2 k j) = ((scr GP UP WD CW CB DX t k.val (lo j) : ℝ) : EReal))
  (hs' : ∀ k j, s' (ix2 k j) = ((scr GP UP WD CW CB DX t k.val (hi j) : ℝ) : EReal))

/-- The bias's gradient after a grid point, from its two stores over what it held. -/
theorem canon9 (O : S1x2816.Idx → Elt Ideal .f32) (L : List (View.Piece (Elt Ideal) S1x2816 .f32)) (j : Fin 2816) :
    View.canon ((⟨Rect.unit ![0, 1408] ![1, 1408] inb_S1x2816_S1x1408_0_1408,
        k0_pay35 (k0_pay24 (gHi m c t)) (k0_pay26 (gHi m c t)) (k0_pay29 (k0_pay7 (iblk m c 0 t)) (wHi m c t) (uHi m c t)) (k0_pay30 (gHi m c t))
          (View.ld O (Rect.unit ![0, 1408] ![1, 1408] inb_S1x2816_S1x1408_0_1408))⟩ : View.Piece (Elt Ideal) S1x2816 .f32)
      :: ⟨Rect.unit ![0, 0] ![1, 1408] inb_S1x2816_S1x1408_0_0,
        k0_pay17 (dLo m c t) (View.ld O (Rect.unit ![0, 0] ![1, 1408] inb_S1x2816_S1x1408_0_0))⟩ :: L) (ix2 0 j)
      = O (ix2 0 j) + ((∑ i, FfnA.dgate GP UP WD CW CB DX (row t i) j : ℝ) : EReal) := by
  let G : S1x2816.Idx → Elt Ideal .f32 := fun y => O y + ((∑ i, FfnA.dgate GP UP WD CW CB DX (row t i) (y 1) : ℝ) : EReal)
  refine View.canon_append_of_piecesOf G L [_, _] ?_ (ix2 0 j) ?_
  · refine ⟨fun x => ?_, fun x => ?_, trivial⟩
    · idx_vars x
      obtain rfl : x0 = 0 := Subsingleton.elim _ _
      refine Eq.trans ?_ (congrArg G (unit_idx inb_S1x2816_S1x1408_0_1408 0 x1)).symm
      refine (congrFun (pay35_eq (gHi m c t) (iblk m c 0 t) (wHi m c t) (uHi m c t) _) _).trans ?_
      refine (p17 _ (fun i j => (congrFun (dHi_eq t) (ix2 i j)).symm.trans (ldHi h t i j)) _ x1).trans ?_
      exact congrArg₂ (· + ·) (congrArg O (unit_idx inb_S1x2816_S1x1408_0_1408 0 x1)) rfl
    · idx_vars x
      obtain rfl : x0 = 0 := Subsingleton.elim _ _
      refine Eq.trans ?_ (congrArg G (unit_idx inb_S1x2816_S1x1408_0_0 0 x1)).symm
      refine (p17 _ (ldLo h t) _ x1).trans ?_
      exact congrArg₂ (· + ·) (congrArg O (unit_idx inb_S1x2816_S1x1408_0_0 0 x1)) rfl
  · rcases lo_or_hi j with ⟨k, rfl⟩ | ⟨k, rfl⟩
    · exact ⟨_, List.mem_cons_of_mem _ List.mem_cons_self, mem_unit inb_S1x2816_S1x1408_0_0 0 (lo k) (by simp) (by simp [lo])⟩
    · exact ⟨_, List.mem_cons_self, mem_unit inb_S1x2816_S1x1408_0_1408 0 (hi k) (by simp) (by simp [hi]; omega)⟩

include hs hs' in
/-- The taps' gradients after a grid point, from their six stores over what they held. -/
theorem canon8 (O : S3x2816.Idx → Elt Ideal .f32) (L : List (View.Piece (Elt Ideal) S3x2816 .f32)) (k : Fin 3) (j : Fin 2816) :
    View.canon ((⟨Rect.unit ![2, 1408] ![1, 1408] inb_S3x2816_S1x1408_2_1408,
        k0_pay1 (k0_pay25 (pHi m c t)) (k0_pay31 (k0_pay24 (gHi m c t)) (k0_pay26 (gHi m c t)) (k0_pay29 (k0_pay7 (iblk m c 0 t)) (wHi m c t) (uHi m c t)) (k0_pay30 (gHi m c t)))
          (View.ld O (Rect.unit ![2, 1408] ![1, 1408] inb_S3x2816_S1x1408_2_1408))⟩ : View.Piece (Elt Ideal) S3x2816 .f32)
      :: ⟨Rect.unit ![1, 1408] ![1, 1408] inb_S3x2816_S1x1408_1_1408, k0_pay37 (k0_pay25 (pHi m c t)) s' (View.ld O (Rect.unit ![1, 1408] ![1, 1408] inb_S3x2816_S1x1408_1_1408))⟩
      :: ⟨Rect.unit ![0, 1408] ![1, 1408] inb_S3x2816_S1x1408_0_1408, k0_pay36 (k0_pay25 (pHi m c t)) s' (View.ld O (Rect.unit ![0, 1408] ![1, 1408] inb_S3x2816_S1x1408_0_1408))⟩
      :: ⟨Rect.unit ![2, 0] ![1, 1408] inb_S3x2816_S1x1408_2_0,
        k0_pay22 (k0_pay20 (View.ld O (Rect.unit ![2, 0] ![1, 1408] inb_S3x2816_S1x1408_2_0))) (k0_pay21 (k0_pay9 (pLo m c t)) (dLo m c t))⟩
      :: ⟨Rect.unit ![1, 0] ![1, 1408] inb_S3x2816_S1x1408_1_0, k0_pay19 (k0_pay9 (pLo m c t)) s (View.ld O (Rect.unit ![1, 0] ![1, 1408] inb_S3x2816_S1x1408_1_0))⟩
      :: ⟨Rect.unit ![0, 0] ![1, 1408] inb_S3x2816_S1x1408_0_0, k0_pay18 (k0_pay9 (pLo m c t)) s (View.ld O (Rect.unit ![0, 0] ![1, 1408] inb_S3x2816_S1x1408_0_0))⟩
      :: L) (ix2 k j)
      = O (ix2 k j) + ((∑ i, FfnA.dcw GP UP WD CW CB DX k (row t i) j : ℝ) : EReal) := by
  let G : S3x2816.Idx → Elt Ideal .f32 := fun y => O y + ((∑ i, FfnA.dcw GP UP WD CW CB DX (y 0) (row t i) (y 1) : ℝ) : EReal)
  have hd : ∀ i j, k0_pay13 (iblk m c 0 t) (gHi m c t) (wHi m c t) (uHi m c t) (ix2 i j) = ((FfnA.dgate GP UP WD CW CB DX (row t i) (hi j) : ℝ) : EReal) :=
    fun i j => (congrFun (dHi_eq t) (ix2 i j)).symm.trans (ldHi h t i j)
  refine View.canon_append_of_piecesOf G L [_, _, _, _, _, _] ?_ (ix2 k j) ?_
  · refine ⟨fun x => ?_, fun x => ?_, fun x => ?_, fun x => ?_, fun x => ?_, fun x => ?_, trivial⟩ <;> idx_vars x <;> obtain rfl : x0 = 0 := Subsingleton.elim _ _
    · refine Eq.trans ?_ (congrArg G (unit_idx inb_S3x2816_S1x1408_2_1408 0 x1)).symm
      refine (congrFun (pay1_eq (gHi m c t) (iblk m c 0 t) (wHi m c t) (uHi m c t) (pHi m c t) _) _).trans ?_
      refine (p22 _ (lpHi h t) _ hd _ x1).trans ?_
      exact congrArg₂ (· + ·) (congrArg O (unit_idx inb_S3x2816_S1x1408_2_1408 0 x1))
        (congrArg _ (Finset.sum_congr rfl fun i _ => congrArg (· * GP (row t i) (hi x1)) (later_zero t i (hi x1)).symm))
    · refine Eq.trans ?_ (congrArg G (unit_idx inb_S3x2816_S1x1408_1_1408 0 x1)).symm
      refine (congrFun (pay37_eq (pHi m c t) s' _) _).trans ?_
      refine (p19 _ (lpHi h t) s' hs' _ x1).trans ?_
      exact congrArg₂ (· + ·) (congrArg O (unit_idx inb_S3x2816_S1x1408_1_1408 0 x1)) (by simp only [scr_later]; rfl)
    · refine Eq.trans ?_ (congrArg G (unit_idx inb_S3x2816_S1x1408_0_1408 0 x1)).symm
      refine (congrFun (pay36_eq (pHi m c t) s' _) _).trans ?_
      refine (p18 _ (lpHi h t) s' hs' _ x1).trans ?_
      exact congrArg₂ (· + ·) (congrArg O (unit_idx inb_S3x2816_S1x1408_0_1408 0 x1)) (by simp only [scr_later]; rfl)
    · refine Eq.trans ?_ (congrArg G (unit_idx inb_S3x2816_S1x1408_2_0 0 x1)).symm
      refine (p22 _ (lpLo h t) _ (ldLo h t) _ x1).trans ?_
      exact congrArg₂ (· + ·) (congrArg O (unit_idx inb_S3x2816_S1x1408_2_0 0 x1))
        (congrArg _ (Finset.sum_congr rfl fun i _ => congrArg (· * GP (row t i) (lo x1)) (later_zero t i (lo x1)).symm))
    · refine Eq.trans ?_ (congrArg G (unit_idx inb_S3x2816_S1x1408_1_0 0 x1)).symm
      refine (p19 _ (lpLo h t) s hs _ x1).trans ?_
      exact congrArg₂ (· + ·) (congrArg O (unit_idx inb_S3x2816_S1x1408_1_0 0 x1)) (by simp only [scr_later]; rfl)
    · refine Eq.trans ?_ (congrArg G (unit_idx inb_S3x2816_S1x1408_0_0 0 x1)).symm
      refine (p18 _ (lpLo h t) s hs _ x1).trans ?_
      exact congrArg₂ (· + ·) (congrArg O (unit_idx inb_S3x2816_S1x1408_0_0 0 x1)) (by simp only [scr_later]; rfl)
  · rcases lo_or_hi j with ⟨q, rfl⟩ | ⟨q, rfl⟩ <;> fin_cases k
    · exact ⟨_, List.mem_cons_of_mem _ (List.mem_cons_of_mem _ (List.mem_cons_of_mem _ (List.mem_cons_of_mem _ (List.mem_cons_of_mem _ List.mem_cons_self)))),
        mem_unit inb_S3x2816_S1x1408_0_0 0 (lo q) (by simp) (by simp [lo])⟩
    · exact ⟨_, List.mem_cons_of_mem _ (List.mem_cons_of_mem _ (List.mem_cons_of_mem _ (List.mem_cons_of_mem _ List.mem_cons_self))),
        mem_unit inb_S3x2816_S1x1408_1_0 1 (lo q) (by simp) (by simp [lo])⟩
    · exact ⟨_, List.mem_cons_of_mem _ (List.mem_cons_of_mem _ (List.mem_cons_of_mem _ List.mem_cons_self)), mem_unit inb_S3x2816_S1x1408_2_0 2 (lo q) (by simp) (by simp [lo])⟩
    · exact ⟨_, List.mem_cons_of_mem _ (List.mem_cons_of_mem _ List.mem_cons_self), mem_unit inb_S3x2816_S1x1408_0_1408 0 (hi q) (by simp) (by simp [hi]; omega)⟩
    · exact ⟨_, List.mem_cons_of_mem _ List.mem_cons_self, mem_unit inb_S3x2816_S1x1408_1_1408 1 (hi q) (by simp) (by simp [hi]; omega)⟩
    · exact ⟨_, List.mem_cons_self, mem_unit inb_S3x2816_S1x1408_2_1408 2 (hi q) (by simp) (by simp [hi]; omega)⟩

end Sums

/-! ### What each grid point leaves -/

theorem after6 (i : Fin 512) (j : Fin 2816) : (dats m 0 c).after 6 t (ix2 i j) = ((FfnA.dgp GP UP WD CW CB DX (row t i) j : ℝ) : EReal) := by
  rw [after0_6]
  by_cases ht : t.val % 16 = 0
  · have h0 : t.val = 0 := by have : t.val < 16 := t.isLt; omega
    rw [outsAt0_A m c t ht]; dsimp only; frame_out
    exact canon6 h t _ _ (readLo_first h t h0) (readHi_first h t h0) i j
  · rw [outsAt0_B m c t ht]; dsimp only; frame_out
    exact canon6 h t _ _ (readLo_next h t _ (found h t ht _) _ (read_unread_whole _ _ _)) (readHi_next h t _ (found h t ht _) _ (read_unread_whole _ _ _)) i j

theorem after7 (i : Fin 512) (j : Fin 2816) : (dats m 0 c).after 7 t (ix2 i j) = ((FfnA.dup GP WD CW CB DX (row t i) j : ℝ) : EReal) := by
  rw [after0_7]
  by_cases ht : t.val % 16 = 0
  · rw [outsAt0_A m c t ht]; dsimp only; frame_out
    exact canon7 h t i j
  · rw [outsAt0_B m c t ht]; dsimp only; frame_out
    exact canon7 h t i j

theorem step8A (ht : t.val % 16 = 0) (k : Fin 3) (j : Fin 2816) :
    (outsAt0 m c t.val t.isLt).2.2.1 (ix2 k j) = 0 + ((∑ i, FfnA.dcw GP UP WD CW CB DX k (row t i) j : ℝ) : EReal) := by
  have h0 : t.val = 0 := by have : t.val < 16 := t.isLt; omega
  rw [outsAt0_A m c t ht]; dsimp only; frame_out
  simp (discharger := decide) only [↓View.readCov_skip, View.readCov_fill]
  refine (canon8 h t _ _ (readLo_first h t h0) (readHi_first h t h0) (k0_pay5 (F := Ideal)) _ k j).trans ?_
  rw [p5]

theorem step8B (ht : ¬ t.val % 16 = 0) (hp : t.val - 1 < cfg0.N) (k : Fin 3) (j : Fin 2816) :
    (outsAt0 m c t.val t.isLt).2.2.1 (ix2 k j)
      = (outsAt0 m c (t.val - 1) hp).2.2.1 (ix2 k j) + ((∑ i, FfnA.dcw GP UP WD CW CB DX k (row t i) j : ℝ) : EReal) := by
  rw [outsAt0_B m c t ht]; dsimp only; frame_out
  exact canon8 h t _ _ (readLo_next h t _ (found h t ht hp) _ (read_unread_whole _ _ _)) (readHi_next h t _ (found h t ht hp) _ (read_unread_whole _ _ _)) _ [] k j

theorem step9A (ht : t.val % 16 = 0) (j : Fin 2816) :
    (outsAt0 m c t.val t.isLt).2.2.2.1 (ix2 0 j) = 0 + ((∑ i, FfnA.dgate GP UP WD CW CB DX (row t i) j : ℝ) : EReal) := by
  rw [outsAt0_A m c t ht]; dsimp only; frame_out
  simp (discharger := decide) only [↓View.readCov_skip, View.readCov_fill]
  refine (canon9 h t (k0_pay6 (F := Ideal)) _ j).trans ?_
  rw [p6]

theorem step9B (ht : ¬ t.val % 16 = 0) (hp : t.val - 1 < cfg0.N) (j : Fin 2816) :
    (outsAt0 m c t.val t.isLt).2.2.2.1 (ix2 0 j)
      = (outsAt0 m c (t.val - 1) hp).2.2.2.1 (ix2 0 j) + ((∑ i, FfnA.dgate GP UP WD CW CB DX (row t i) j : ℝ) : EReal) := by
  rw [outsAt0_B m c t ht]; dsimp only; frame_out
  exact canon9 h t _ [] j

/-! ### The results -/

omit h in
/-- The blocks, taken from the last to the first, make up the rows. -/
theorem sum_rows (f : Fin 8192 → ℝ) : ∑ t : Fin cfg0.N, ∑ i, f (row t i) = ∑ r, f r := by
  refine Eq.trans ?_ (Fin.sum_mul_add_fin 16 512 f)
  refine Eq.trans ?_ (Equiv.sum_comp Fin.revPerm fun s : Fin 16 => ∑ k : Fin 512, f ⟨s.val * 512 + k.val, by omega⟩)
  refine Finset.sum_congr rfl fun t _ => Finset.sum_congr rfl fun i _ => congrArg f (Fin.ext ?_)
  show (15 - t.val) * 512 + i.val = (16 - (t.val + 1)) * 512 + i.val
  congr 2
  omega

omit h in
theorem emb6 (i : Fin 512) (j : Fin 2816) : ((View.whole main_v28_0).slice (win0_6.rect t)).emb (ix2 i j) = ix2 (row t i) j := by
  funext a; refine Fin.ext ?_; fin_cases a <;> simp [row, idx t]

omit h in
theorem emb7 (i : Fin 512) (j : Fin 2816) : ((View.whole main_v28_1).slice (win0_7.rect t)).emb (ix2 i j) = ix2 (row t i) j := by
  funext a; refine Fin.ext ?_; fin_cases a <;> simp [row, idx t]

theorem out6 : (dats m 0 c).arrAt 6 (cfgs 0).N = fun y => ((FfnA.dgp GP UP WD CW CB DX (y 0) (y 1) : ℝ) : EReal) := by
  refine (dats m 0 c).arrAt_eq_of_covers 6 _ (by decide +kernel) fun t hf y => ?_
  blk_simp
  idx_vars y
  rw [emb6]
  exact after6 h t _ _

theorem out7 : (dats m 0 c).arrAt 7 (cfgs 0).N = fun y => ((FfnA.dup GP WD CW CB DX (y 0) (y 1) : ℝ) : EReal) := by
  refine (dats m 0 c).arrAt_eq_of_covers 7 _ (by decide +kernel) fun t hf y => ?_
  blk_simp
  idx_vars y
  rw [emb7]
  exact after7 h t _ _

theorem out8 : (dats m 0 c).arrAt 8 (cfgs 0).N = fun y => ((∑ r, FfnA.dcw GP UP WD CW CB DX (y 0) r (y 1) : ℝ) : EReal) := by
  refine (dats m 0 c).arrAt_eq_of_after_last 8 t0_15 (by decide +kernel) _ fun j => ?_
  blk_simp
  rw [after0_8]
  rw [Pipeline.eq_sum_fin_of_reset_step_apply_last (fun n h => (outsAt0 m c n h).2.2.1) 16 (fun _ => 0)
    (fun t y => ((∑ i, FfnA.dcw GP UP WD CW CB DX (y 0) (row t i) (y 1) : ℝ) : EReal)) ?_ ?_ (le_of_eq Gen.N_0) Gen.t0_15 rfl j]
  · rw [sum_coe, zero_add]
    exact congrArg _ (sum_rows fun r => FfnA.dcw GP UP WD CW CB DX (j 0) r (j 1))
  · intro t ht i
    idx_vars i
    exact step8A h t ht _ _
  · intro t ht i
    idx_vars i
    exact step8B h t ht _ _ _

theorem out9 : (dats m 0 c).arrAt 9 (cfgs 0).N = fun y => ((∑ r, FfnA.dgate GP UP WD CW CB DX r (y 1) : ℝ) : EReal) := by
  refine (dats m 0 c).arrAt_eq_of_after_last 9 t0_15 (by decide +kernel) _ fun j => ?_
  blk_simp
  rw [after0_9]
  rw [Pipeline.eq_sum_fin_of_reset_step_apply_last (fun n h => (outsAt0 m c n h).2.2.2.1) 16 (fun _ => 0)
    (fun t y => ((∑ i, FfnA.dgate GP UP WD CW CB DX (row t i) (y 1) : ℝ) : EReal)) ?_ ?_ (le_of_eq Gen.N_0) Gen.t0_15 rfl j]
  · rw [sum_coe, zero_add]
    exact congrArg _ (sum_rows fun r => FfnA.dgate GP UP WD CW CB DX r (j 1))
  · intro t ht i
    idx_vars i
    obtain rfl : i0 = 0 := Subsingleton.elim _ _
    exact step9A h t ht _
  · intro t ht i
    idx_vars i
    obtain rfl : i0 = 0 := Subsingleton.elim _ _
    exact step9B h t ht _ _
end Cert.BwdFfnAIdeal.Hand
-- ==== Proof.FfnARef.lean ====
module

public import proofs.«01_k».proof.Proof.Gen.BwdFfnARefIdeal.Run
public import proofs.«01_k».proof.Proof.Gen.BwdFfnARefIdeal.Read
public import proofs.«01_k».proof.Proof.FfnASpec
public import Idealize.ShloMosaic.Lib.Pointwise

@[expose] public section

set_option maxRecDepth 16384

noncomputable section

/-! The gated unit's gradient by automatic differentiation, read as real numbers. -/

namespace Cert.BwdFfnARefIdeal.Hand

open Cert.BwdFfnARefIdeal Cert.BwdFfnARefIdeal.Gen Cert.BwdFfnARefIdeal.Value Cert.BwdFfnARefIdeal.Read Cert.Hand Idealize.ShloMosaic Idealize.ShloMosaic.TcCoe Idealize.SL.Sem

variable {x0 x1 : FVec Ideal S8192x2816 .f32} {x2 : FVec Ideal S2816x1024 .f32} {x3 : FVec Ideal S3x2816 .f32} {x4 : FVec Ideal S1x2816 .f32} {x5 : FVec Ideal S8192x1024 .f32}
variable {GP UP : Fin 8192 → Fin 2816 → ℝ} {WD : Fin 2816 → Fin 1024 → ℝ} {CW : Fin 3 → Fin 2816 → ℝ} {CB : Fin 2816 → ℝ} {DX : Fin 8192 → Fin 1024 → ℝ}
variable (hgp : ∀ i j, x0 (ix2 i j) = ((GP i j : ℝ) : EReal)) (hup : ∀ i j, x1 (ix2 i j) = ((UP i j : ℝ) : EReal))
  (hwd : ∀ j k, x2 (ix2 j k) = ((WD j k : ℝ) : EReal)) (hcw : ∀ i j, x3 (ix2 i j) = ((CW i j : ℝ) : EReal))
  (hcb : ∀ j, x4 (ix2 0 j) = ((CB j : ℝ) : EReal)) (hdx : ∀ i k, x5 (ix2 i k) = ((DX i k : ℝ) : EReal))

theorem div_sg (x : ℝ) : Ideal.div 1 (1 + Ideal.exp (-((x : ℝ) : EReal))) = ((sg x : ℝ) : EReal) := Ideal.logistic_coe x

include hgp in
/-- The rows two before. -/
theorem v3 (r : Fin 8192) (j : Fin 2816) : val_main_v3 (F := Ideal) x0 (ix2 r j) = ((prev (fun s => GP s j) 2 r : ℝ) : EReal) := by
  pointwise [val_main_v3, val_main_v1, val_main_v0, val_main_cst]
  by_cases hr : r.val < 2
  · rw [dif_pos hr, prev, if_neg (by omega), EReal.coe_zero]
  · refine (dif_neg hr).trans ((hgp _ _).trans (congrArg _ (prev_eq (fun s => GP s j) ?_).symm))
    show r.val - 2 + 2 = r.val
    omega

include hgp in
/-- The rows one before. -/
theorem v9 (r : Fin 8192) (j : Fin 2816) : val_main_v9 (F := Ideal) x0 (ix2 r j) = ((prev (fun s => GP s j) 1 r : ℝ) : EReal) := by
  pointwise [val_main_v9, val_main_v1, val_main_v0, val_main_cst]
  by_cases hr : 1 + r.val < 2
  · rw [dif_pos hr, prev, if_neg (by omega), EReal.coe_zero]
  · refine (dif_neg hr).trans ((hgp _ _).trans (congrArg _ (prev_eq (fun s => GP s j) ?_).symm))
    show 1 + r.val - 2 + 1 = r.val
    omega

include hgp in
theorem v16 (r : Fin 8192) (j : Fin 2816) : val_main_v16 (F := Ideal) x0 (ix2 r j) = ((GP r j : ℝ) : EReal) := by
  pointwise [val_main_v16, val_main_v1, val_main_v0, val_main_cst]
  exact hgp r j

include hgp hcw hcb in
theorem v24 (r : Fin 8192) (j : Fin 2816) : val_main_v24 (F := Ideal) x0 x3 x4 (ix2 r j) = ((FfnA.gate GP CW CB r j : ℝ) : EReal) := by
  pointwise [val_main_v24, val_main_v22, val_main_v15, val_main_v8, val_main_v14, val_main_v21, val_main_v23, val_main_v7, val_main_v6, val_main_v5, val_main_v4,
    val_main_v13, val_main_v12, val_main_v11, val_main_v10, val_main_v20, val_main_v19, val_main_v18, val_main_v17]
  simp only [v3 hgp, v9 hgp, v16 hgp, hcw, hcb, ← EReal.coe_mul, ← EReal.coe_add]
  rfl

include hgp hcw hcb in
theorem v25 (r : Fin 8192) (j : Fin 2816) : val_main_v25_2 (F := Ideal) x0 x3 x4 (ix2 r j) = ((sg (FfnA.gate GP CW CB r j) : ℝ) : EReal) := by
  pointwise [val_main_v25_2, val_main_call0_v4, val_main_call0_cst_0, val_main_call0_v3, val_main_call0_v2, val_main_call0_cst, val_main_call0_v1, val_main_call0_v0]
  rw [v24 hgp hcw hcb]
  exact div_sg _

include hwd hdx in
theorem v28 (r : Fin 8192) (j : Fin 2816) : val_main_v28 (F := Ideal) x2 x5 (ix2 r j) = ((FfnA.dact WD DX r j : ℝ) : EReal) := by
  pointwise [val_main_v28]
  simp only [hwd, hdx, ← EReal.coe_mul, sum_coe]
  rfl

include hgp hup hwd hcw hcb hdx in
theorem v31 (r : Fin 8192) (j : Fin 2816) : val_main_v31 (F := Ideal) x0 x1 x2 x3 x4 x5 (ix2 r j) = ((FfnA.dgate GP UP WD CW CB DX r j : ℝ) : EReal) := by
  pointwise [val_main_v31, val_main_call1_v1, val_main_call1_v2, val_main_call1_v0, val_main_v30, val_main_v25_1, val_main_call0_v7, val_main_call0_v6, val_main_call0_cst_1]
  rw [v25 hgp hcw hcb, v24 hgp hcw hcb, v28 hwd hdx, hup, ← EReal.coe_one]
  simp only [← EReal.coe_mul, ← EReal.coe_sub, ← EReal.coe_add]
  rw [FfnA.dgate]
  congr 1
  ring

include hgp hwd hcw hcb hdx in
theorem v68 (r : Fin 8192) (j : Fin 2816) : val_main_v68 (F := Ideal) x0 x2 x3 x4 x5 (ix2 r j) = ((FfnA.dup GP WD CW CB DX r j : ℝ) : EReal) := by
  pointwise [val_main_v68, val_main_v29, val_main_v25_0]
  rw [v25 hgp hcw hcb, v24 hgp hcw hcb, v28 hwd hdx, ← EReal.coe_mul, ← EReal.coe_mul, mul_comm]
  rfl

include hgp hup hwd hcw hcb hdx in
theorem v33 (j : Fin 2816) : val_main_v33 (F := Ideal) x0 x1 x2 x3 x4 x5 (ix2 0 j) = ((∑ r, FfnA.dgate GP UP WD CW CB DX r j : ℝ) : EReal) := by
  pointwise [val_main_v33, val_main_v32, val_main_cst_1]
  simp only [v31 hgp hup hwd hcw hcb hdx, sum_coe]

include hgp hup hwd hcw hcb hdx in
theorem v40 (j : Fin 2816) : val_main_v40 (F := Ideal) x0 x1 x2 x3 x4 x5 (ix2 0 j) = ((∑ r, FfnA.dcw GP UP WD CW CB DX 2 r j : ℝ) : EReal) := by
  pointwise [val_main_v40, val_main_v39, val_main_v36, val_main_v35, val_main_v34, val_main_cst_2, val_main_cst_3]
  simp only [v31 hgp hup hwd hcw hcb hdx, v16 hgp, ← EReal.coe_mul, sum_coe, Finset.univ_unique, Finset.sum_singleton]
  refine congrArg _ (Finset.sum_congr rfl fun r _ => ?_)
  rw [mul_comm]
  exact congrArg (· * _) (ext_fin (fun s => FfnA.dgate GP UP WD CW CB DX s j) r).symm

include hgp hup hwd hcw hcb hdx in
theorem v49 (j : Fin 2816) : val_main_v49 (F := Ideal) x0 x1 x2 x3 x4 x5 (ix2 0 j) = ((∑ r, FfnA.dcw GP UP WD CW CB DX 1 r j : ℝ) : EReal) := by
  pointwise [val_main_v49, val_main_v48, val_main_v45, val_main_v44, val_main_v43, val_main_cst_6, val_main_cst_7]
  simp only [v31 hgp hup hwd hcw hcb hdx, v9 hgp, ← EReal.coe_mul, sum_coe, Finset.univ_unique, Finset.sum_singleton, sum_prev_mul]
  exact congrArg _ (Finset.sum_congr rfl fun r _ => mul_comm _ _)

include hgp hup hwd hcw hcb hdx in
theorem v60 (j : Fin 2816) : val_main_v60 (F := Ideal) x0 x1 x2 x3 x4 x5 (ix2 0 j) = ((∑ r, FfnA.dcw GP UP WD CW CB DX 0 r j : ℝ) : EReal) := by
  pointwise [val_main_v60, val_main_v59, val_main_v56, val_main_v55, val_main_v54, val_main_cst_10, val_main_cst_11]
  simp only [v31 hgp hup hwd hcw hcb hdx, v3 hgp, ← EReal.coe_mul, sum_coe, Finset.univ_unique, Finset.sum_singleton, sum_prev_mul]
  exact congrArg _ (Finset.sum_congr rfl fun r _ => mul_comm _ _)

include hgp hup hwd hcw hcb hdx in
theorem v62 (k : Fin 3) (j : Fin 2816) : val_main_v62 (F := Ideal) x0 x1 x2 x3 x4 x5 (ix2 k j) = ((∑ r, FfnA.dcw GP UP WD CW CB DX k r j : ℝ) : EReal) := by
  pointwise [val_main_v62, val_main_v51, val_main_v41, val_main_v50, val_main_v61, val_main_cst_4, val_main_cst_8, val_main_cst_12]
  fin_cases k
  · refine (congrArg₂ (· + ·) (congrArg₂ (· + ·) (dif_neg (by simp)) (dif_neg (by simp))) ((dif_pos (by simp)).trans (v60 hgp hup hwd hcw hcb hdx j))).trans ?_
    rw [add_zero, zero_add]; rfl
  · refine (congrArg₂ (· + ·) (congrArg₂ (· + ·) (dif_neg (by simp)) ((dif_pos (by simp)).trans (v49 hgp hup hwd hcw hcb hdx j))) (dif_neg (by simp))).trans ?_
    rw [add_zero, zero_add]; rfl
  · refine (congrArg₂ (· + ·) (congrArg₂ (· + ·) ((dif_pos (by simp)).trans (v40 hgp hup hwd hcw hcb hdx j)) (dif_neg (by simp))) (dif_neg (by simp))).trans ?_
    rw [add_zero, add_zero]; rfl

include hgp hup hwd hcw hcb hdx in
theorem v38 (r : Fin 8192) (j : Fin 2816) : val_main_v38 (F := Ideal) x0 x1 x2 x3 x4 x5 (ix2 r j) = ((CW 2 j * FfnA.dgate GP UP WD CW CB DX r j : ℝ) : EReal) := by
  pointwise [val_main_v38, val_main_v37, val_main_v19, val_main_v18, val_main_v17]
  rw [v31 hgp hup hwd hcw hcb hdx, hcw, ← EReal.coe_mul, mul_comm]

include hgp hup hwd hcw hcb hdx in
theorem v47 (r : Fin 8192) (j : Fin 2816) : val_main_v47 (F := Ideal) x0 x1 x2 x3 x4 x5 (ix2 r j) = ((CW 1 j * FfnA.dgate GP UP WD CW CB DX r j : ℝ) : EReal) := by
  pointwise [val_main_v47, val_main_v46, val_main_v12, val_main_v11, val_main_v10]
  rw [v31 hgp hup hwd hcw hcb hdx, hcw, ← EReal.coe_mul, mul_comm]

include hgp hup hwd hcw hcb hdx in
theorem v58 (r : Fin 8192) (j : Fin 2816) : val_main_v58 (F := Ideal) x0 x1 x2 x3 x4 x5 (ix2 r j) = ((CW 0 j * FfnA.dgate GP UP WD CW CB DX r j : ℝ) : EReal) := by
  pointwise [val_main_v58, val_main_v57, val_main_v6, val_main_v5, val_main_v4]
  rw [v31 hgp hup hwd hcw hcb hdx, hcw, ← EReal.coe_mul, mul_comm]

include hgp hup hwd hcw hcb hdx in
theorem v67 (r : Fin 8192) (j : Fin 2816) : val_main_v67 (F := Ideal) x0 x1 x2 x3 x4 x5 (ix2 r j) = ((FfnA.dgp GP UP WD CW CB DX r j : ℝ) : EReal) := by
  pointwise [val_main_v67, val_main_v66, val_main_v64, val_main_v53, val_main_v42, val_main_v52, val_main_v63, val_main_cst_9, val_main_cst_13]
  simp only [v38 hgp hup hwd hcw hcb hdx, v47 hgp hup hwd hcw hcb hdx, v58 hgp hup hwd hcw hcb hdx]
  have e1 : (if h : 1 ≤ 2 + r.val ∧ 2 + r.val - 1 < 8192 then ((CW 1 j * FfnA.dgate GP UP WD CW CB DX ⟨2 + r.val - 1, h.2⟩ j : ℝ) : EReal) else 0)
      = ((CW 1 j * FfnA.later GP UP WD CW CB DX 1 r j : ℝ) : EReal) := by
    rw [FfnA.later, ext]
    by_cases hr : r.val + 1 < 8192
    · rw [dif_pos (by omega), dif_pos hr]
      exact congrArg (fun s => ((CW 1 j * FfnA.dgate GP UP WD CW CB DX s j : ℝ) : EReal)) (Fin.ext (by simp; omega))
    · rw [dif_neg (by omega), dif_neg hr, mul_zero, EReal.coe_zero]
  have e2 : (if h : 2 + r.val < 8192 then ((CW 0 j * FfnA.dgate GP UP WD CW CB DX ⟨2 + r.val, h⟩ j : ℝ) : EReal) else 0)
      = ((CW 0 j * FfnA.later GP UP WD CW CB DX 2 r j : ℝ) : EReal) := by
    rw [FfnA.later, ext]
    by_cases hr : r.val + 2 < 8192
    · rw [dif_pos (by omega), dif_pos hr]
      exact congrArg (fun s => ((CW 0 j * FfnA.dgate GP UP WD CW CB DX s j : ℝ) : EReal)) (Fin.ext (by simp; omega))
    · rw [dif_neg (by omega), dif_neg hr, mul_zero, EReal.coe_zero]
  rw [e1, e2]
  rfl

end Cert.BwdFfnARefIdeal.Hand
-- ==== Proof.FfnAClaim.lean ====
module

public import proofs.«01_k».proof.Defs
public import proofs.«01_k».proof.Proof.Gen.Pre_bwd_ffn_a_finite
public import proofs.«01_k».proof.Proof.Gen.BwdFfnA.Frame
public import proofs.«01_k».proof.Proof.FfnAOut
public import proofs.«01_k».proof.Proof.FfnARef

@[expose] public section

set_option maxRecDepth 16384

noncomputable section

/-! The claims about the gradient through the gated unit. -/

namespace Cert.BwdFfnAIdeal.Hand

open Cert.BwdFfnAIdeal Cert.BwdFfnAIdeal.Gen Cert.Hand Idealize.ShloMosaic Idealize.ShloMosaic.TcCoe Idealize.SL.Sem

/-- Under the precondition every element of every argument is a real number. -/
theorem args (m : (ℓ : Loc nD τ sig) → Buf (Elt Ideal) ℓ) (h : Cert.Pre_BwdFfnAIdeal_bwd_ffn_a_finite m) (c : Dev nD) :
    Args m c (fun i j => (m ((c.tc : Thread nD τ).loc main_arg0) (ix2 i j)).toReal)
      (fun i j => (m ((c.tc : Thread nD τ).loc main_arg1) (ix2 i j)).toReal)
      (fun i j => (m ((c.tc : Thread nD τ).loc main_arg2) (ix2 i j)).toReal)
      (fun i j => (m ((c.tc : Thread nD τ).loc main_arg3) (ix2 i j)).toReal)
      (fun j => (m ((c.tc : Thread nD τ).loc main_arg4) (ix2 0 j)).toReal)
      (fun i k => (m ((c.tc : Thread nD τ).loc main_arg5) (ix2 i k)).toReal) := by
  have H := congrFun (h c) (Shape.Idx.first Cert.Pre_bwd_ffn_a_finite.Facts.h_S_)
  dsimp only [Cert.Pre_bwd_ffn_a_finite.fn, Cert.Pre_bwd_ffn_a_finite.fn_part1] at H
  obtain ⟨H, e5⟩ := and_split H
  obtain ⟨H, e4⟩ := and_split H
  obtain ⟨H, e3⟩ := and_split H
  obtain ⟨H, e2⟩ := and_split H
  obtain ⟨e0, e1⟩ := and_split H
  haveI : Subsingleton Cert.Pre_bwd_ffn_a_finite.S_.Idx := ⟨fun a b => funext fun i => i.elim0⟩
  have hz {s : Shape} (hb : Cert.Pre_bwd_ffn_a_finite.S_.BroadcastsInDim s ![]) (i : s.Idx) :
      (broadcastInDim s ![] hb (constant Cert.Pre_bwd_ffn_a_finite.S_ .f32 0x00000000#32) : FVec Ideal s .f32) i = 0 := by
    pointwise
  exact
    { hgp := fun i j => finite_of_all _ _ _ _ _ _ (hz _) e0 (ix2 i j)
      hup := fun i j => finite_of_all _ _ _ _ _ _ (hz _) e1 (ix2 i j)
      hwd := fun i j => finite_of_all _ _ _ _ _ _ (hz _) e2 (ix2 i j)
      hcw := fun i j => finite_of_all _ _ _ _ _ _ (hz _) e3 (ix2 i j)
      hcb := fun j => finite_of_all _ _ _ _ _ _ (hz _) e4 (ix2 0 j)
      hdx := fun i j => finite_of_all _ _ _ _ _ _ (hz _) e5 (ix2 i j) }

end Cert.BwdFfnAIdeal.Hand

namespace Cert.Hand.FfnA

open Idealize.ShloMosaic Idealize.ShloMosaic.TcCoe Idealize.SL.Sem

/-- The reference leaves its arguments as they were. -/
theorem frame_ref : Cert.quiescent_BwdFfnARefIdeal := fun m ρ _ =>
  (θ_run BwdFfnARefIdeal.defs _ _).mono (fun r h => ⟨fun c => (h c).2.2.2.2, sem_eq_zero_of_no_sems (by decide) r.2⟩)
    (BwdFfnARefIdeal.Value.run (F := Ideal) m ρ)

set_option maxHeartbeats 1600000 in
/-- Kernel and reference leave the same gradients. -/
theorem algebraic : Cert.algebraic_BwdFfnAIdeal_BwdFfnARefIdeal_pre_bwd_ffn_a_finite := by
  intro m g m' g' hp hm
  have A := fun c => BwdFfnAIdeal.Hand.args m hp c
  refine ⟨_, _, _, _, BwdFfnAIdeal.Value.run_blocks (F := Ideal) m g,
    (θ_run BwdFfnARefIdeal.defs _ _).mono (fun r h c => ?_) (BwdFfnARefIdeal.Value.run (F := Ideal) m' g')⟩
  obtain ⟨h0, h1, h2, h3, ha⟩ := h c
  obtain ⟨m0, m1, m2, m3, m4, m5⟩ := hm c
  obtain ⟨hgp, hup, hwd, hcw, hcb, hdx⟩ := A c
  refine ⟨h0.trans (Eq.trans ?_ (BwdFfnAIdeal.Hand.out6 (A c)).symm), h1.trans (Eq.trans ?_ (BwdFfnAIdeal.Hand.out7 (A c)).symm),
    h2.trans (Eq.trans ?_ (BwdFfnAIdeal.Hand.out8 (A c)).symm), h3.trans (Eq.trans ?_ (BwdFfnAIdeal.Hand.out9 (A c)).symm), ha⟩
  · rw [BwdFfnARefIdeal.Read.val_main_v67_eq, m0, m1, m2, m3, m4, m5]
    funext y
    idx_vars y
    exact BwdFfnARefIdeal.Hand.v67 hgp hup hwd hcw hcb hdx _ _
  · rw [BwdFfnARefIdeal.Read.val_main_v68_eq, m0, m2, m3, m4, m5]
    funext y
    idx_vars y
    exact BwdFfnARefIdeal.Hand.v68 hgp hwd hcw hcb hdx _ _
  · rw [BwdFfnARefIdeal.Read.val_main_v62_eq, m0, m1, m2, m3, m4, m5]
    funext y
    idx_vars y
    exact BwdFfnARefIdeal.Hand.v62 hgp hup hwd hcw hcb hdx _ _
  · rw [BwdFfnARefIdeal.Read.val_main_v33_eq, m0, m1, m2, m3, m4, m5]
    funext y
    idx_vars y
    obtain rfl : y0 = 0 := Subsingleton.elim _ _
    exact BwdFfnARefIdeal.Hand.v33 hgp hup hwd hcw hcb hdx _

/-- The claims about this call, in the order in which they are stated. -/
theorem claims : Cert.quiescent_BwdFfnA ∧ Cert.quiescent_BwdFfnAIdeal ∧ Cert.quiescent_BwdFfnAIdeal_pre_bwd_ffn_a_finite ∧ Cert.quiescent_BwdFfnARefIdeal
    ∧ Cert.quiescent_BwdFfnARefIdeal_pre_bwd_ffn_a_finite ∧ Cert.preserves_BwdFfnA_BwdFfnAIdeal ∧ Cert.algebraic_BwdFfnAIdeal_BwdFfnARefIdeal_pre_bwd_ffn_a_finite :=
  ⟨fun m ρ _ => BwdFfnA.Gen.frame m ρ, fun m ρ _ => BwdFfnAIdeal.Gen.frame m ρ, fun m ρ _ => BwdFfnAIdeal.Gen.frame m ρ, frame_ref,
    fun m ρ _ => frame_ref m ρ trivial, trivial, algebraic⟩

end Cert.Hand.FfnA
-- ==== Proof.FfnBSpec.lean ====
module

public import proofs.«01_k».proof.Proof.Reals

@[expose] public section

noncomputable section

/-! The gradient through the feed-forward's norm, the mixer's output product and the attention output's norm, over the reals. -/

namespace Cert.Hand.FfnB

/-- The first columns of a row of the joined mixer outputs. -/
def left (j : Fin 512) : Fin 1024 := ⟨j, by omega⟩

/-- The last columns of a row of the joined mixer outputs. -/
def right (j : Fin 512) : Fin 1024 := ⟨512 + j, by omega⟩

/-- A row of the joined mixer outputs: the normed convolution output, then the attention output normed here. -/
def cat (ycn ya goa : Fin 512 → ℝ) (k : Fin 1024) : ℝ :=
  if h : k.val < 512 then ycn ⟨k, h⟩ else ya ⟨k - 512, by omega⟩ * rn (1 / 512) ya * goa ⟨k - 512, by omega⟩

/-- The feed-forward's input row: the residual and the mixer's output product. -/
def x1 (WO : Fin 1024 → Fin 1024 → ℝ) (goa : Fin 512 → ℝ) (x : Fin 1024 → ℝ) (ycn ya : Fin 512 → ℝ) (j : Fin 1024) : ℝ :=
  x j + ∑ k, cat ycn ya goa k * WO k j

theorem x1_split (WO : Fin 1024 → Fin 1024 → ℝ) (goa : Fin 512 → ℝ) (x : Fin 1024 → ℝ) (ycn ya : Fin 512 → ℝ) (j : Fin 1024) :
    x1 WO goa x ycn ya j = x j + ((∑ i, ycn i * WO (left i) j) + ∑ i, ya i * rn (1 / 512) ya * goa i * WO (right i) j) := by
  unfold x1
  refine congrArg _ ((Fin.sum_univ_add (a := 512) (b := 512) _).trans (congrArg₂ _ ?_ ?_))
  · refine Finset.sum_congr rfl fun i _ => congrArg₂ _ ?_ rfl
    exact dif_pos i.isLt
  · refine Finset.sum_congr rfl fun i _ => congrArg₂ _ ?_ rfl
    refine (dif_neg (by simp)).trans ?_
    simp

/-- The cotangent of the normed row: back through the gate's and the up product. -/
def dh (WG WU : Fin 1024 → Fin 2816 → ℝ) (dgp dup : Fin 2816 → ℝ) (j : Fin 1024) : ℝ :=
  (∑ k, dgp k * WG j k) + ∑ k, dup k * WU j k

/-- The gradient with respect to the feed-forward's input row. -/
def dx1 (WG WU : Fin 1024 → Fin 2816 → ℝ) (g : Fin 1024 → ℝ) (x1 : Fin 1024 → ℝ) (dgp dup : Fin 2816 → ℝ) (d2 : Fin 1024 → ℝ) (j : Fin 1024) : ℝ :=
  d2 j + normGrad (1 / 1024) x1 (fun k => dh WG WU dgp dup k * g k) j

/-- A row's part of the gradient with respect to the feed-forward norm's gain. -/
def dg (WG WU : Fin 1024 → Fin 2816 → ℝ) (x1 : Fin 1024 → ℝ) (dgp dup : Fin 2816 → ℝ) (j : Fin 1024) : ℝ :=
  dh WG WU dgp dup j * (x1 j * rn (1 / 1024) x1)

/-- The cotangent of the joined mixer outputs. -/
def dy (WO : Fin 1024 → Fin 1024 → ℝ) (d : Fin 1024 → ℝ) (k : Fin 1024) : ℝ := ∑ j, d j * WO k j

/-- The gradient with respect to the attention's output row. -/
def dya (WO : Fin 1024 → Fin 1024 → ℝ) (goa ya : Fin 512 → ℝ) (d : Fin 1024 → ℝ) (j : Fin 512) : ℝ :=
  normGrad (1 / 512) ya (fun k => dy WO d (right k) * goa k) j

/-- A row's part of the gradient with respect to the attention norm's gain. -/
def dgoa (WO : Fin 1024 → Fin 1024 → ℝ) (ya : Fin 512 → ℝ) (d : Fin 1024 → ℝ) (j : Fin 512) : ℝ :=
  dy WO d (right j) * (ya j * rn (1 / 512) ya)

end Cert.Hand.FfnB
-- ==== Proof.FfnBKernel.lean ====
module

public import proofs.«01_k».proof.Proof.Gen.BwdFfnBIdeal.Value
public import proofs.«01_k».proof.Proof.FfnBSpec
public import proofs.«01_k».proof.Proof.Pieces

@[expose] public section

set_option maxRecDepth 16384

noncomputable section

/-! The feed-forward norm's gradient call, read as real numbers. -/

namespace Cert.BwdFfnBIdeal.Hand

open Cert.BwdFfnBIdeal Cert.BwdFfnBIdeal.Gen Cert.Hand Idealize.ShloMosaic Idealize.ShloMosaic.TcCoe Idealize.SL.Sem
open Idealize.ShloMosaic.Pipeline (Dat)

/-- The arguments as arrays of reals. -/
structure Arrs where
  X : Fin 8192 → Fin 1024 → ℝ
  YC : Fin 8192 → Fin 512 → ℝ
  YA : Fin 8192 → Fin 512 → ℝ
  goa : Fin 512 → ℝ
  WO : Fin 1024 → Fin 1024 → ℝ
  gf : Fin 1024 → ℝ
  WG : Fin 1024 → Fin 2816 → ℝ
  WU : Fin 1024 → Fin 2816 → ℝ
  DG : Fin 8192 → Fin 2816 → ℝ
  DU : Fin 8192 → Fin 2816 → ℝ
  D2 : Fin 8192 → Fin 1024 → ℝ

/-- The feed-forward's input. -/
def Arrs.x1 (A : Arrs) (r : Fin 8192) : Fin 1024 → ℝ := FfnB.x1 A.WO A.goa (A.X r) (A.YC r) (A.YA r)

/-- The gradient with respect to the feed-forward's input. -/
def Arrs.d1 (A : Arrs) (r : Fin 8192) : Fin 1024 → ℝ := FfnB.dx1 A.WG A.WU A.gf (A.x1 r) (A.DG r) (A.DU r) (A.D2 r)

variable (m : (ℓ : Loc nD τ sig) → Buf (Elt Ideal) ℓ) (c : Dev nD) (A : Arrs)

/-- The arguments are the images of arrays of reals. -/
structure Args : Prop where
  h0 : ∀ i j, m ((c.tc : Thread nD τ).loc main_arg0) (ix2 i j) = ((A.X i j : ℝ) : EReal)
  h1 : ∀ i j, m ((c.tc : Thread nD τ).loc main_arg1) (ix2 i j) = ((A.YC i j : ℝ) : EReal)
  h2 : ∀ i j, m ((c.tc : Thread nD τ).loc main_arg2) (ix2 i j) = ((A.YA i j : ℝ) : EReal)
  h3 : ∀ j, m ((c.tc : Thread nD τ).loc main_arg3) (ix2 0 j) = ((A.goa j : ℝ) : EReal)
  h4 : ∀ i j, m ((c.tc : Thread nD τ).loc main_arg4) (ix2 i j) = ((A.WO i j : ℝ) : EReal)
  h5 : ∀ j, m ((c.tc : Thread nD τ).loc main_arg5) (ix2 0 j) = ((A.gf j : ℝ) : EReal)
  h6 : ∀ i j, m ((c.tc : Thread nD τ).loc main_arg6) (ix2 i j) = ((A.WG i j : ℝ) : EReal)
  h7 : ∀ i j, m ((c.tc : Thread nD τ).loc main_arg7) (ix2 i j) = ((A.WU i j : ℝ) : EReal)
  h8 : ∀ i j, m ((c.tc : Thread nD τ).loc main_arg8) (ix2 i j) = ((A.DG i j : ℝ) : EReal)
  h9 : ∀ i j, m ((c.tc : Thread nD τ).loc main_arg9) (ix2 i j) = ((A.DU i j : ℝ) : EReal)
  h10 : ∀ i j, m ((c.tc : Thread nD τ).loc main_arg10) (ix2 i j) = ((A.D2 i j : ℝ) : EReal)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![0, 0]
    ∧ win0_7.index t = ![0, 0] ∧ win0_8.index t = ![0, 0] ∧ win0_9.index t = ![0, 0] ∧ win0_10.index t = ![t.val, 0]
    ∧ win0_11.index t = ![t.val, 0] ∧ win0_12.index t = ![t.val, 0] ∧ win0_13.index t = ![0, 0] ∧ win0_14.index t = ![0, 0] :=
  (by decide +kernel : ∀ t : Fin grid0.N, _)

/-- The array row of a block's row. -/
def row (t : Fin cfg0.N) (i : Fin 512) : Fin 8192 := ⟨t.val * 512 + i, by have := t.isLt; have : cfg0.N = 16 := rfl; omega⟩

variable {m c A}

theorem blk0 (h : Args m c A) (t : Fin cfg0.N) (i : Fin 512) (k : Fin 2816) : iblk m c 0 t (ix2 i k) = ((A.DG (row t i) k : ℝ) : EReal) := by
  rw [← h.h8]; blk_ext! [iblk, V, idx t, row]

theorem blk1 (h : Args m c A) (t : Fin cfg0.N) (i : Fin 512) (k : Fin 2816) : iblk m c 1 t (ix2 i k) = ((A.DU (row t i) k : ℝ) : EReal) := by
  rw [← h.h9]; blk_ext! [iblk, V, idx t, row]

theorem blk2 (h : Args m c A) (t : Fin cfg0.N) (i : Fin 512) (j : Fin 1024) : iblk m c 2 t (ix2 i j) = ((A.D2 (row t i) j : ℝ) : EReal) := by
  rw [← h.h10]; blk_ext! [iblk, V, idx t, row]

theorem blk4 (h : Args m c A) (t : Fin cfg0.N) (i : Fin 512) (j : Fin 512) : iblk m c 4 t (ix2 i j) = ((A.YA (row t i) j : ℝ) : EReal) := by
  rw [← h.h2]; blk_ext! [iblk, V, idx t, row]

theorem blk5 (h : Args m c A) (t : Fin cfg0.N) (k : Fin 2816) (j : Fin 1024) : iblk m c 5 t (ix2 k j) = ((A.WG j k : ℝ) : EReal) := by
  rw [← h.h6]; blk_ext! [iblk, V, idx t, row]

theorem blk6 (h : Args m c A) (t : Fin cfg0.N) (k : Fin 2816) (j : Fin 1024) : iblk m c 6 t (ix2 k j) = ((A.WU j k : ℝ) : EReal) := by
  rw [← h.h7]; blk_ext! [iblk, V, idx t, row]

theorem blk7 (h : Args m c A) (t : Fin cfg0.N) (k j : Fin 1024) : iblk m c 7 t (ix2 k j) = ((A.WO k j : ℝ) : EReal) := by
  rw [← h.h4]; blk_ext! [iblk, V, idx t, row]

theorem blk8 (h : Args m c A) (t : Fin cfg0.N) (j : Fin 1024) : iblk m c 8 t (ix2 0 j) = ((A.gf j : ℝ) : EReal) := by
  rw [← h.h5]; blk_ext! [iblk, V, idx t, row]

theorem blk9 (h : Args m c A) (t : Fin cfg0.N) (j : Fin 512) : iblk m c 9 t (ix2 0 j) = ((A.goa j : ℝ) : EReal) := by
  rw [← h.h3]; blk_ext! [iblk, V, idx t, row]

theorem v14 (h : Args m c A) (r : Fin 8192) (j : Fin 1024) :
    StableHlo.after hostOps0 (fun b => m (c, b)) (Proc.tc.devRef main_v14) (ix2 r j) = ((A.x1 r j : ℝ) : EReal) := by
  entry_read
  pointwise
  have e0 : ∀ i j, m (c, Proc.tc.devRef main_arg0) (ix2 i j) = ((A.X i j : ℝ) : EReal) := h.h0
  have e1 : ∀ i j, m (c, Proc.tc.devRef main_arg1) (ix2 i j) = ((A.YC i j : ℝ) : EReal) := h.h1
  have e2 : ∀ i j, m (c, Proc.tc.devRef main_arg2) (ix2 i j) = ((A.YA i j : ℝ) : EReal) := h.h2
  have e3 : ∀ j, m (c, Proc.tc.devRef main_arg3) (ix2 0 j) = ((A.goa j : ℝ) : EReal) := h.h3
  have e4 : ∀ i j, m (c, Proc.tc.devRef main_arg4) (ix2 i j) = ((A.WO i j : ℝ) : EReal) := h.h4
  simp only [e0, e1, e2, e3, e4, ← EReal.coe_mul, sum_coe, ofBits_512, ofBits_eps, div_512, ← EReal.coe_add, rsqrt_512]
  exact congrArg _ (FfnB.x1_split _ _ _ _ _ _).symm

theorem emb3 (t : Fin cfg0.N) (i : Fin 512) (j : Fin 1024) : (win0_3.blk t).view.emb (ix2 i j) = ix2 (row t i) j := by
  funext a
  refine Fin.ext ?_
  fin_cases a <;> simp [row, idx t]

theorem blk3 (h : Args m c A) (t : Fin cfg0.N) (i : Fin 512) (j : Fin 1024) : iblk m c 3 t (ix2 i j) = ((A.x1 (row t i) j : ℝ) : EReal) := by
  rw [← v14 h]
  blk_simp [iblk, V, idx t, row]
  exact congrArg _ (emb3 t i j)

/-- The product of the two cotangents with the transposed weights, slab by slab. -/
theorem pay8 (a0 b0 a1 b1 : Vec Ideal S512x1408 .bf16) (w0 u0 w1 u1 : Vec Ideal S1408x1024 .bf16) (DG DU : Fin 512 → Fin 2816 → ℝ) (WG WU : Fin 1024 → Fin 2816 → ℝ)
    (ha0 : ∀ i k, a0 (ix2 i k) = ((DG i ⟨k, by omega⟩ : ℝ) : EReal)) (ha1 : ∀ i k, a1 (ix2 i k) = ((DG i ⟨1408 + k, by omega⟩ : ℝ) : EReal))
    (hb0 : ∀ i k, b0 (ix2 i k) = ((DU i ⟨k, by omega⟩ : ℝ) : EReal)) (hb1 : ∀ i k, b1 (ix2 i k) = ((DU i ⟨1408 + k, by omega⟩ : ℝ) : EReal))
    (hw0 : ∀ k j, w0 (ix2 k j) = ((WG j ⟨k, by omega⟩ : ℝ) : EReal)) (hw1 : ∀ k j, w1 (ix2 k j) = ((WG j ⟨1408 + k, by omega⟩ : ℝ) : EReal))
    (hu0 : ∀ k j, u0 (ix2 k j) = ((WU j ⟨k, by omega⟩ : ℝ) : EReal)) (hu1 : ∀ k j, u1 (ix2 k j) = ((WU j ⟨1408 + k, by omega⟩ : ℝ) : EReal))
    (i : Fin 512) (j : Fin 1024) : k0_pay8 a0 w0 b0 u0 a1 w1 b1 u1 (ix2 i j) = ((FfnB.dh WG WU (DG i) (DU i) j : ℝ) : EReal) := by
  pointwise [k0_pay8]
  simp only [ha0, ha1, hb0, hb1, hw0, hw1, hu0, hu1, ← EReal.coe_mul, sum_coe, ← EReal.coe_add]
  refine congrArg _ ?_
  have e (F : Fin 2816 → ℝ) : ∑ k, F k = (∑ k : Fin 1408, F ⟨k, by omega⟩) + ∑ k : Fin 1408, F ⟨1408 + k, by omega⟩ :=
    Fin.sum_univ_add (a := 1408) (b := 1408) F
  rw [FfnB.dh, e, e (fun k => DU i k * WU j k)]
  ring

/-- The cotangent of the normed row, at a grid point. -/
theorem dhAt (h : Args m c A) (t : Fin cfg0.N) (i : Fin 512) (j : Fin 1024) :
    k0_pay8 (View.ld (iblk m c 0 t) (Rect.unit ![0, 0] ![512, 1408] inb_S512x2816_S512x1408_0_0))
      (View.ld (iblk m c 5 t) (Rect.unit ![0, 0] ![1408, 1024] inb_S2816x1024_S1408x1024_0_0))
      (View.ld (iblk m c 1 t) (Rect.unit ![0, 0] ![512, 1408] inb_S512x2816_S512x1408_0_0))
      (View.ld (iblk m c 6 t) (Rect.unit ![0, 0] ![1408, 1024] inb_S2816x1024_S1408x1024_0_0))
      (View.ld (iblk m c 0 t) (Rect.unit ![0, 1408] ![512, 1408] inb_S512x2816_S512x1408_0_1408))
      (View.ld (iblk m c 5 t) (Rect.unit ![1408, 0] ![1408, 1024] inb_S2816x1024_S1408x1024_1408_0))
      (View.ld (iblk m c 1 t) (Rect.unit ![0, 1408] ![512, 1408] inb_S512x2816_S512x1408_0_1408))
      (View.ld (iblk m c 6 t) (Rect.unit ![1408, 0] ![1408, 1024] inb_S2816x1024_S1408x1024_1408_0))
      (ix2 i j) = ((FfnB.dh A.WG A.WU (A.DG (row t i)) (A.DU (row t i)) j : ℝ) : EReal) := by
  refine pay8 _ _ _ _ _ _ _ _ (fun i => A.DG (row t i)) (fun i => A.DU (row t i)) A.WG A.WU ?_ ?_ ?_ ?_ ?_ ?_ ?_ ?_ i j
  · exact fun i k => (congrArg (iblk m c 0 t) (unit_idx inb_S512x2816_S512x1408_0_0 i k)).trans ((blk0 h t _ _).trans (by simp))
  · exact fun i k => (congrArg (iblk m c 0 t) (unit_idx inb_S512x2816_S512x1408_0_1408 i k)).trans ((blk0 h t _ _).trans (by simp))
  · exact fun i k => (congrArg (iblk m c 1 t) (unit_idx inb_S512x2816_S512x1408_0_0 i k)).trans ((blk1 h t _ _).trans (by simp))
  · exact fun i k => (congrArg (iblk m c 1 t) (unit_idx inb_S512x2816_S512x1408_0_1408 i k)).trans ((blk1 h t _ _).trans (by simp))
  · exact fun i k => (congrArg (iblk m c 5 t) (unit_idx inb_S2816x1024_S1408x1024_0_0 i k)).trans ((blk5 h t _ _).trans (by simp))
  · exact fun i k => (congrArg (iblk m c 5 t) (unit_idx inb_S2816x1024_S1408x1024_1408_0 i k)).trans ((blk5 h t _ _).trans (by simp))
  · exact fun i k => (congrArg (iblk m c 6 t) (unit_idx inb_S2816x1024_S1408x1024_0_0 i k)).trans ((blk6 h t _ _).trans (by simp))
  · exact fun i k => (congrArg (iblk m c 6 t) (unit_idx inb_S2816x1024_S1408x1024_1408_0 i k)).trans ((blk6 h t _ _).trans (by simp))

theorem pay10 (b : Vec Ideal S512x1024 .f32) (B : Fin 512 → Fin 1024 → ℝ) (hb : ∀ i j, b (ix2 i j) = ((B i j : ℝ) : EReal)) (i : Fin 512) :
    k0_pay11 (k0_pay10 b) (ix2 i 0) = ((rn (1 / 1024) (B i) : ℝ) : EReal) := by
  pointwise [k0_pay10, k0_pay11, k0_pay9]
  simp only [hb, ← EReal.coe_mul, sum_coe, ofBits_1024, ofBits_eps, div_1024, ← EReal.coe_add, rsqrt_1024]

theorem pay12 (b : Vec Ideal S512x1024 .f32) (B : Fin 512 → Fin 1024 → ℝ) (hb : ∀ i j, b (ix2 i j) = ((B i j : ℝ) : EReal)) (i : Fin 512) (j : Fin 1024) :
    k0_pay12 (k0_pay9 b) (k0_pay10 b) (ix2 i j) = ((B i j * rn (1 / 1024) (B i) : ℝ) : EReal) := by
  pointwise [k0_pay12, k0_pay9]
  rw [hb, pay10 b B hb, ← EReal.coe_mul]

theorem pay14 (h : Args m c A) (t : Fin cfg0.N) (v : FVec Ideal S512x1024 .f32)
    (hv : ∀ i j, v (ix2 i j) = ((FfnB.dh A.WG A.WU (A.DG (row t i)) (A.DU (row t i)) j : ℝ) : EReal)) (i : Fin 512) (j : Fin 1024) :
    k0_pay14 v (k0_pay9 (iblk m c 3 t)) (k0_pay10 (iblk m c 3 t)) (iblk m c 2 t) (iblk m c 8 t) (ix2 i j) = ((A.d1 (row t i) j : ℝ) : EReal) := by
  pointwise [k0_pay14]
  simp only [blk2 h, blk8 h, pay10 _ _ (blk3 h t), pay12 _ _ (blk3 h t), hv, ofBits_1024, ← EReal.coe_mul, sum_coe, div_1024, ← EReal.coe_add, ← EReal.coe_sub]
  rfl

theorem pay13 (h : Args m c A) (t : Fin cfg0.N) (v : FVec Ideal S512x1024 .f32)
    (hv : ∀ i j, v (ix2 i j) = ((FfnB.dh A.WG A.WU (A.DG (row t i)) (A.DU (row t i)) j : ℝ) : EReal)) (a : Vec Ideal S1x1024 .f32) (i : Fin 1) (j : Fin 1024) :
    k0_pay13 v (k0_pay9 (iblk m c 3 t)) (k0_pay10 (iblk m c 3 t)) a (ix2 i j)
      = a (ix2 i j) + ((∑ i, FfnB.dg A.WG A.WU (A.x1 (row t i)) (A.DG (row t i)) (A.DU (row t i)) j : ℝ) : EReal) := by
  pointwise [k0_pay13]
  simp only [pay12 _ _ (blk3 h t), hv, ← EReal.coe_mul, sum_coe]
  rfl

theorem pay15 (h : Args m c A) (t : Fin cfg0.N) (v : FVec Ideal S512x1024 .f32)
    (hv : ∀ i j, v (ix2 i j) = ((FfnB.dh A.WG A.WU (A.DG (row t i)) (A.DU (row t i)) j : ℝ) : EReal)) (i : Fin 512) (k : Fin 1024) :
    k0_pay15 v (k0_pay9 (iblk m c 3 t)) (k0_pay10 (iblk m c 3 t)) (iblk m c 2 t) (iblk m c 8 t) (iblk m c 7 t) (ix2 i k)
      = ((FfnB.dy A.WO (A.d1 (row t i)) k : ℝ) : EReal) := by
  pointwise [k0_pay15]
  simp only [pay14 h t v hv, blk7 h, ← EReal.coe_mul, sum_coe]
  rfl

theorem pay16 (h : Args m c A) (t : Fin cfg0.N) (v : FVec Ideal S512x1024 .f32)
    (hv : ∀ i j, v (ix2 i j) = ((FfnB.dh A.WG A.WU (A.DG (row t i)) (A.DU (row t i)) j : ℝ) : EReal)) (i : Fin 512) (k : Fin 512) :
    k0_pay16 v (k0_pay9 (iblk m c 3 t)) (k0_pay10 (iblk m c 3 t)) (iblk m c 2 t) (iblk m c 8 t) (iblk m c 7 t) (ix2 i k)
      = ((FfnB.dy A.WO (A.d1 (row t i)) (FfnB.left k) : ℝ) : EReal) := by
  pointwise [k0_pay16]
  refine (pay15 h t v hv _ _).trans (congrArg _ (congrArg _ (Fin.ext ?_)))
  simp [FfnB.left]

theorem pay1 (u : FVec Ideal S512x1024 .f32) (U : Fin 512 → Fin 1024 → ℝ) (hu : ∀ i j, u (ix2 i j) = ((U i j : ℝ) : EReal)) (i k : Fin 512) :
    k0_pay1 u (ix2 i k) = ((U i (FfnB.right k) : ℝ) : EReal) := by
  pointwise [k0_pay1]
  exact hu _ _

theorem pay2 (h : Args m c A) (t : Fin cfg0.N) (i : Fin 512) :
    k0_pay2 (iblk m c 4 t) (ix2 i 0) = ((rn (1 / 512) (A.YA (row t i)) : ℝ) : EReal) := by
  pointwise [k0_pay2]
  simp only [blk4 h, ← EReal.coe_mul, sum_coe, ofBits_512, ofBits_eps, div_512, ← EReal.coe_add, rsqrt_512]

theorem pay3 (h : Args m c A) (t : Fin cfg0.N) (i j : Fin 512) :
    k0_pay3 (iblk m c 4 t) (ix2 i j) = ((A.YA (row t i) j * rn (1 / 512) (A.YA (row t i)) : ℝ) : EReal) := by
  pointwise [k0_pay3]
  rw [blk4 h, pay2 h, ← EReal.coe_mul]

theorem pay5 (h : Args m c A) (t : Fin cfg0.N) (u : FVec Ideal S512x1024 .f32)
    (hu : ∀ i k, u (ix2 i k) = ((FfnB.dy A.WO (A.d1 (row t i)) k : ℝ) : EReal)) (i j : Fin 512) :
    k0_pay5 u (iblk m c 4 t) (iblk m c 9 t) (ix2 i j) = ((FfnB.dya A.WO A.goa (A.YA (row t i)) (A.d1 (row t i)) j : ℝ) : EReal) := by
  pointwise [k0_pay5]
  simp only [blk9 h, pay2 h, pay3 h, pay1 _ _ hu, ofBits_512, ← EReal.coe_mul, sum_coe, div_512, ← EReal.coe_add, ← EReal.coe_sub]
  rfl

theorem pay4 (h : Args m c A) (t : Fin cfg0.N) (u : FVec Ideal S512x1024 .f32)
    (hu : ∀ i k, u (ix2 i k) = ((FfnB.dy A.WO (A.d1 (row t i)) k : ℝ) : EReal)) (a : Vec Ideal S1x512 .f32) (i : Fin 1) (j : Fin 512) :
    k0_pay4 u (iblk m c 4 t) a (ix2 i j)
      = a (ix2 i j) + ((∑ i, FfnB.dgoa A.WO (A.YA (row t i)) (A.d1 (row t i)) j : ℝ) : EReal) := by
  pointwise [k0_pay4]
  simp only [pay3 h, pay1 _ _ hu, ← EReal.coe_mul, sum_coe]
  rfl

end Cert.BwdFfnBIdeal.Hand
-- ==== Proof.FfnBOut.lean ====
module

public import proofs.«01_k».proof.Proof.FfnBKernel

@[expose] public section

set_option maxRecDepth 16384

noncomputable section

/-! The feed-forward norm's gradient call: its five results. -/

namespace Cert.BwdFfnBIdeal.Hand

open Cert.BwdFfnBIdeal Cert.BwdFfnBIdeal.Gen Cert.Hand Idealize.ShloMosaic Idealize.ShloMosaic.TcCoe Idealize.SL.Sem
open Idealize.ShloMosaic.Pipeline (Dat)

variable {m : (ℓ : Loc nD τ sig) → Buf (Elt Ideal) ℓ} {c : Dev nD} {A : Arrs}

theorem emb10 (t : Fin cfg0.N) (i : Fin 512) (j : Fin 1024) :
    ((View.whole main_v22_0).slice (win0_10.rect t)).emb (ix2 i j) = ix2 (row t i) j := by
  funext a
  refine Fin.ext ?_
  fin_cases a <;> simp [row, idx t]

/-- The first result: the gradient with respect to the feed-forward's input. -/
theorem out10 (h : Args m c A) :
    (dats m 0 c).arrAt 10 (cfgs 0).N = fun y => ((A.d1 (y 0) (y 1) : ℝ) : EReal) := by
  refine (dats m 0 c).arrAt_eq_of_covers 10 _ (by decide +kernel) fun t hf y => ?_
  blk_simp
  rw [after0_10]
  by_cases ht : t.val % 16 = 0
  · rw [outsAt0_A m c t ht]
    dsimp only
    frame_out
    idx_vars y
    rw [emb10]
    exact pay14 h t _ (dhAt h t) _ _
  · rw [outsAt0_B m c t ht]
    dsimp only
    frame_out
    idx_vars y
    rw [emb10]
    exact pay14 h t _ (dhAt h t) _ _

theorem emb11 (t : Fin cfg0.N) (i : Fin 512) (j : Fin 512) :
    ((View.whole main_v22_1).slice (win0_11.rect t)).emb (ix2 i j) = ix2 (row t i) j := by
  funext a
  refine Fin.ext ?_
  fin_cases a <;> simp [row, idx t]

/-- The second result: the cotangent of the normed convolution output. -/
theorem out11 (h : Args m c A) :
    (dats m 0 c).arrAt 11 (cfgs 0).N = fun y => ((FfnB.dy A.WO (A.d1 (y 0)) (FfnB.left (y 1)) : ℝ) : EReal) := by
  refine (dats m 0 c).arrAt_eq_of_covers 11 _ (by decide +kernel) fun t hf y => ?_
  blk_simp
  rw [after0_11]
  by_cases ht : t.val % 16 = 0
  · rw [outsAt0_A m c t ht]
    dsimp only
    frame_out
    idx_vars y
    rw [emb11]
    exact pay16 h t _ (dhAt h t) _ _
  · rw [outsAt0_B m c t ht]
    dsimp only
    frame_out
    idx_vars y
    rw [emb11]
    exact pay16 h t _ (dhAt h t) _ _

theorem emb12 (t : Fin cfg0.N) (i : Fin 512) (j : Fin 512) :
    ((View.whole main_v22_2).slice (win0_12.rect t)).emb (ix2 i j) = ix2 (row t i) j := by
  funext a
  refine Fin.ext ?_
  fin_cases a <;> simp [row, idx t]

/-- The third result: the gradient with respect to the attention's output. -/
theorem out12 (h : Args m c A) :
    (dats m 0 c).arrAt 12 (cfgs 0).N = fun y => ((FfnB.dya A.WO A.goa (A.YA (y 0)) (A.d1 (y 0)) (y 1) : ℝ) : EReal) := by
  refine (dats m 0 c).arrAt_eq_of_covers 12 _ (by decide +kernel) fun t hf y => ?_
  blk_simp
  rw [after0_12]
  by_cases ht : t.val % 16 = 0
  · rw [outsAt0_A m c t ht]
    dsimp only
    frame_out
    idx_vars y
    rw [emb12]
    exact pay5 h t _ (pay15 h t _ (dhAt h t)) _ _
  · rw [outsAt0_B m c t ht]
    dsimp only
    frame_out
    idx_vars y
    rw [emb12]
    exact pay5 h t _ (pay15 h t _ (dhAt h t)) _ _

/-- The fourth result: the gradient with respect to the feed-forward norm's gain, summed over the blocks. -/
theorem out13 (h : Args m c A) :
    (dats m 0 c).arrAt 13 (cfgs 0).N = fun y => ((∑ i, FfnB.dg A.WG A.WU (A.x1 i) (A.DG i) (A.DU i) (y 1) : ℝ) : EReal) := by
  refine (dats m 0 c).arrAt_eq_of_after_last 13 t0_15 (by decide +kernel) _ fun j => ?_
  blk_simp
  rw [after0_13]
  rw [Pipeline.eq_sum_fin_of_reset_step_apply_last (fun n h => (outsAt0 m c n h).2.2.2.1) 16 (fun _ => 0)
    (fun t y => ((∑ i, FfnB.dg A.WG A.WU (A.x1 (row t i)) (A.DG (row t i)) (A.DU (row t i)) (y 1) : ℝ) : EReal)) ?_ ?_ (le_of_eq Gen.N_0) Gen.t0_15 rfl j]
  · rw [sum_coe, zero_add]
    exact congrArg _ (Fin.sum_mul_add_fin 16 512 fun i => FfnB.dg A.WG A.WU (A.x1 i) (A.DG i) (A.DU i) (j 1))
  · intro t ht i
    rw [outsAt0_A m c t ht]
    dsimp only
    frame_out
    idx_vars i
    refine (pay13 h t _ (dhAt h t) _ _ _).trans ?_
    pointwise [k0_pay6]
  · intro t ht i
    rw [outsAt0_B m c t ht]
    dsimp only
    frame_out
    idx_vars i
    exact pay13 h t _ (dhAt h t) _ _ _

/-- The fifth result: the gradient with respect to the attention norm's gain, summed over the blocks. -/
theorem out14 (h : Args m c A) :
    (dats m 0 c).arrAt 14 (cfgs 0).N = fun y => ((∑ i, FfnB.dgoa A.WO (A.YA i) (A.d1 i) (y 1) : ℝ) : EReal) := by
  refine (dats m 0 c).arrAt_eq_of_after_last 14 t0_15 (by decide +kernel) _ fun j => ?_
  blk_simp
  rw [after0_14]
  rw [Pipeline.eq_sum_fin_of_reset_step_apply_last (fun n h => (outsAt0 m c n h).2.2.2.2) 16 (fun _ => 0)
    (fun t y => ((∑ i, FfnB.dgoa A.WO (A.YA (row t i)) (A.d1 (row t i)) (y 1) : ℝ) : EReal)) ?_ ?_ (le_of_eq Gen.N_0) Gen.t0_15 rfl j]
  · rw [sum_coe, zero_add]
    exact congrArg _ (Fin.sum_mul_add_fin 16 512 fun i => FfnB.dgoa A.WO (A.YA i) (A.d1 i) (j 1))
  · intro t ht i
    rw [outsAt0_A m c t ht]
    dsimp only
    frame_out
    idx_vars i
    refine (pay4 h t _ (pay15 h t _ (dhAt h t)) _ _ _).trans ?_
    pointwise [k0_pay7]
  · intro t ht i
    rw [outsAt0_B m c t ht]
    dsimp only
    frame_out
    idx_vars i
    exact pay4 h t _ (pay15 h t _ (dhAt h t)) _ _ _

end Cert.BwdFfnBIdeal.Hand
-- ==== Proof.FfnBRef.lean ====
module

public import proofs.«01_k».proof.Proof.Gen.BwdFfnBRefIdeal.Run
public import proofs.«01_k».proof.Proof.Gen.BwdFfnBRefIdeal.Read
public import proofs.«01_k».proof.Proof.FfnBSpec
public import Idealize.ShloMosaic.Lib.Pointwise

@[expose] public section

set_option maxRecDepth 16384

noncomputable section

/-! The reference of the feed-forward norm's gradient, read as real numbers. -/

namespace Cert.BwdFfnBRefIdeal.Hand

open Cert.BwdFfnBRefIdeal Cert.BwdFfnBRefIdeal.Gen Cert.BwdFfnBRefIdeal.Value Cert.BwdFfnBRefIdeal.Read Cert.Hand Idealize.ShloMosaic Idealize.ShloMosaic.TcCoe Idealize.SL.Sem

variable {x0 x10 : FVec Ideal S8192x1024 .f32} {x1 x2 : FVec Ideal S8192x512 .f32} {x3 : FVec Ideal S1x512 .f32} {x4 : FVec Ideal S1024x1024 .f32}
  {x5 : FVec Ideal S1x1024 .f32} {x6 x7 : FVec Ideal S1024x2816 .f32} {x8 x9 : FVec Ideal S8192x2816 .f32}
variable {X D2 : Fin 8192 → Fin 1024 → ℝ} {YC YA : Fin 8192 → Fin 512 → ℝ} {goa : Fin 512 → ℝ} {WO : Fin 1024 → Fin 1024 → ℝ} {gf : Fin 1024 → ℝ}
  {WG WU : Fin 1024 → Fin 2816 → ℝ} {DG DU : Fin 8192 → Fin 2816 → ℝ}

theorem v6 (h2 : ∀ i j, x2 (ix2 i j) = ((YA i j : ℝ) : EReal)) (i : Fin 8192) (k : Fin 1) :
    val_main_v6 (F := Ideal) x2 (ix2 i k) = ((ms (1 / 512) (YA i) : ℝ) : EReal) := by
  pointwise [val_main_v6, val_main_v5, val_main_v4, val_main_v3, val_main_v2, val_main_v1, val_main_v0, val_main_cst, val_main_cst_0, val_main_cst_1]
  simp only [h2, ofBits_512, ofBits_eps, ← EReal.coe_mul, sum_coe, div_512, ← EReal.coe_add]
  rfl

theorem v7 (h2 : ∀ i j, x2 (ix2 i j) = ((YA i j : ℝ) : EReal)) (i : Fin 8192) (k : Fin 1) :
    val_main_v7 (F := Ideal) x2 (ix2 i k) = ((rn (1 / 512) (YA i) : ℝ) : EReal) := by
  pointwise [val_main_v7]
  rw [v6 h2]
  exact rsqrt_coe_pos (ms_pos (by norm_num) _)

/-- The feed-forward's input. -/
theorem v17 (h0 : ∀ i j, x0 (ix2 i j) = ((X i j : ℝ) : EReal)) (h1 : ∀ i j, x1 (ix2 i j) = ((YC i j : ℝ) : EReal))
    (h2 : ∀ i j, x2 (ix2 i j) = ((YA i j : ℝ) : EReal)) (h3 : ∀ j, x3 (ix2 0 j) = ((goa j : ℝ) : EReal))
    (h4 : ∀ i j, x4 (ix2 i j) = ((WO i j : ℝ) : EReal)) (r : Fin 8192) (j : Fin 1024) :
    val_main_v17 (F := Ideal) x0 x1 x2 x3 x4 (ix2 r j) = ((FfnB.x1 WO goa (X r) (YC r) (YA r) j : ℝ) : EReal) := by
  pointwise [val_main_v17, val_main_v16, val_main_v15, val_main_v14, val_main_v13, val_main_v12, val_main_v11]
  simp only [h0, h1, h2, h3, h4, v7 h2, ← EReal.coe_mul, sum_coe, ← EReal.coe_add]
  exact congrArg _ (FfnB.x1_split _ _ _ _ _ _).symm

section
variable {X1 : Fin 8192 → Fin 1024 → ℝ}

theorem v24 (hx : ∀ i j, val_main_v17 (F := Ideal) x0 x1 x2 x3 x4 (ix2 i j) = ((X1 i j : ℝ) : EReal)) (i : Fin 8192) (k : Fin 1) :
    val_main_v24 (F := Ideal) x0 x1 x2 x3 x4 (ix2 i k) = ((ms (1 / 1024) (X1 i) : ℝ) : EReal) := by
  pointwise [val_main_v24, val_main_v23, val_main_v22, val_main_v21, val_main_v20, val_main_v19, val_main_v18, val_main_cst_3, val_main_cst_4, val_main_cst_5]
  simp only [hx, ofBits_1024, ofBits_eps, ← EReal.coe_mul, sum_coe, div_1024, ← EReal.coe_add]
  rfl

theorem v25 (hx : ∀ i j, val_main_v17 (F := Ideal) x0 x1 x2 x3 x4 (ix2 i j) = ((X1 i j : ℝ) : EReal)) (i : Fin 8192) (k : Fin 1) :
    val_main_v25 (F := Ideal) x0 x1 x2 x3 x4 (ix2 i k) = ((rn (1 / 1024) (X1 i) : ℝ) : EReal) := by
  pointwise [val_main_v25]
  rw [v24 hx]
  exact rsqrt_coe_pos (ms_pos (by norm_num) _)

theorem v37 (h6 : ∀ i j, x6 (ix2 i j) = ((WG i j : ℝ) : EReal)) (h7 : ∀ i j, x7 (ix2 i j) = ((WU i j : ℝ) : EReal))
    (h8 : ∀ i j, x8 (ix2 i j) = ((DG i j : ℝ) : EReal)) (h9 : ∀ i j, x9 (ix2 i j) = ((DU i j : ℝ) : EReal)) (i : Fin 8192) (j : Fin 1024) :
    val_main_v37 (F := Ideal) x6 x7 x8 x9 (ix2 i j) = ((FfnB.dh WG WU (DG i) (DU i) j : ℝ) : EReal) := by
  pointwise [val_main_v37, val_main_v36, val_main_v35]
  simp only [h6, h7, h8, h9, ← EReal.coe_mul, sum_coe, ← EReal.coe_add]
  exact congrArg _ (add_comm _ _)

/-- The gradient with respect to the feed-forward's input. -/
theorem v57 (hx : ∀ i j, val_main_v17 (F := Ideal) x0 x1 x2 x3 x4 (ix2 i j) = ((X1 i j : ℝ) : EReal)) (h5 : ∀ j, x5 (ix2 0 j) = ((gf j : ℝ) : EReal))
    (h6 : ∀ i j, x6 (ix2 i j) = ((WG i j : ℝ) : EReal)) (h7 : ∀ i j, x7 (ix2 i j) = ((WU i j : ℝ) : EReal))
    (h8 : ∀ i j, x8 (ix2 i j) = ((DG i j : ℝ) : EReal)) (h9 : ∀ i j, x9 (ix2 i j) = ((DU i j : ℝ) : EReal))
    (h10 : ∀ i j, x10 (ix2 i j) = ((D2 i j : ℝ) : EReal)) (i : Fin 8192) (j : Fin 1024) :
    val_main_v57 (F := Ideal) x0 x1 x2 x3 x4 x5 x6 x7 x8 x9 x10 (ix2 i j) = ((FfnB.dx1 WG WU gf (X1 i) (DG i) (DU i) (D2 i) j : ℝ) : EReal) := by
  pointwise [val_main_v57, val_main_v56, val_main_v55, val_main_v54, val_main_v53, val_main_v52, val_main_v51, val_main_v50, val_main_v49, val_main_v48, val_main_v47, val_main_v46, val_main_v45, val_main_v44, val_main_v43, val_main_v42, val_main_v41, val_main_v28, val_main_v27, val_main_v26, val_main_cst_6, val_main_cst_8, val_main_cst_9, val_main_cst_10]
  simp only [hx, h5, h10, v25 hx, v24 hx, v37 h6 h7 h8 h9, ofBits_1024, ofBits_neg_half, div_ms_pos_1024, Finset.univ_unique, Finset.sum_singleton,
    ← EReal.coe_mul, sum_coe, div_1024, ← EReal.coe_add]
  rw [FfnB.dx1, ← normGrad_chain (by norm_num)]
  congr 1
  ring

theorem v40 (hx : ∀ i j, val_main_v17 (F := Ideal) x0 x1 x2 x3 x4 (ix2 i j) = ((X1 i j : ℝ) : EReal))
    (h6 : ∀ i j, x6 (ix2 i j) = ((WG i j : ℝ) : EReal)) (h7 : ∀ i j, x7 (ix2 i j) = ((WU i j : ℝ) : EReal))
    (h8 : ∀ i j, x8 (ix2 i j) = ((DG i j : ℝ) : EReal)) (h9 : ∀ i j, x9 (ix2 i j) = ((DU i j : ℝ) : EReal)) (i : Fin 1) (j : Fin 1024) :
    val_main_v40 (F := Ideal) x0 x1 x2 x3 x4 x6 x7 x8 x9 (ix2 i j) = ((∑ i, FfnB.dg WG WU (X1 i) (DG i) (DU i) j : ℝ) : EReal) := by
  pointwise [val_main_v40, val_main_v39, val_main_v38, val_main_v30, val_main_v29, val_main_cst_7]
  simp only [hx, v25 hx, v37 h6 h7 h8 h9, ← EReal.coe_mul, sum_coe]
  exact congrArg _ (Finset.sum_congr rfl fun k _ => mul_comm _ _)

end

section
variable {D1 : Fin 8192 → Fin 1024 → ℝ}

theorem v59 (hd : ∀ i j, val_main_v57 (F := Ideal) x0 x1 x2 x3 x4 x5 x6 x7 x8 x9 x10 (ix2 i j) = ((D1 i j : ℝ) : EReal))
    (h4 : ∀ i j, x4 (ix2 i j) = ((WO i j : ℝ) : EReal)) (i : Fin 8192) (k : Fin 1024) :
    val_main_v59 (F := Ideal) x0 x1 x2 x3 x4 x5 x6 x7 x8 x9 x10 (ix2 i k) = ((FfnB.dy WO (D1 i) k : ℝ) : EReal) := by
  pointwise [val_main_v59, val_main_v58]
  simp only [hd, h4, ← EReal.coe_mul, sum_coe]
  rfl

theorem v60 (hd : ∀ i j, val_main_v57 (F := Ideal) x0 x1 x2 x3 x4 x5 x6 x7 x8 x9 x10 (ix2 i j) = ((D1 i j : ℝ) : EReal))
    (h4 : ∀ i j, x4 (ix2 i j) = ((WO i j : ℝ) : EReal)) (i : Fin 8192) (k : Fin 512) :
    val_main_v60 (F := Ideal) x0 x1 x2 x3 x4 x5 x6 x7 x8 x9 x10 (ix2 i k) = ((FfnB.dy WO (D1 i) (FfnB.left k) : ℝ) : EReal) := by
  pointwise [val_main_v60]
  exact (v59 hd h4 _ _).trans (congrArg _ (congrArg _ (Fin.ext (by simp [FfnB.left]))))

theorem v61 (hd : ∀ i j, val_main_v57 (F := Ideal) x0 x1 x2 x3 x4 x5 x6 x7 x8 x9 x10 (ix2 i j) = ((D1 i j : ℝ) : EReal))
    (h4 : ∀ i j, x4 (ix2 i j) = ((WO i j : ℝ) : EReal)) (i : Fin 8192) (k : Fin 512) :
    val_main_v61 (F := Ideal) x0 x1 x2 x3 x4 x5 x6 x7 x8 x9 x10 (ix2 i k) = ((FfnB.dy WO (D1 i) (FfnB.right k) : ℝ) : EReal) := by
  pointwise [val_main_v61]
  exact v59 hd h4 _ _

theorem v80 (hd : ∀ i j, val_main_v57 (F := Ideal) x0 x1 x2 x3 x4 x5 x6 x7 x8 x9 x10 (ix2 i j) = ((D1 i j : ℝ) : EReal))
    (h2 : ∀ i j, x2 (ix2 i j) = ((YA i j : ℝ) : EReal)) (h3 : ∀ j, x3 (ix2 0 j) = ((goa j : ℝ) : EReal))
    (h4 : ∀ i j, x4 (ix2 i j) = ((WO i j : ℝ) : EReal)) (i : Fin 8192) (j : Fin 512) :
    val_main_v80 (F := Ideal) x0 x1 x2 x3 x4 x5 x6 x7 x8 x9 x10 (ix2 i j) = ((FfnB.dya WO goa (YA i) (D1 i) j : ℝ) : EReal) := by
  pointwise [val_main_v80, val_main_v79, val_main_v78, val_main_v77, val_main_v76, val_main_v75, val_main_v74, val_main_v73, val_main_v72, val_main_v71, val_main_v70, val_main_v69, val_main_v68, val_main_v67, val_main_v66, val_main_v65, val_main_v10, val_main_v9, val_main_v8, val_main_cst_2, val_main_cst_12, val_main_cst_13, val_main_cst_14]
  simp only [h2, h3, v7 h2, v6 h2, v61 hd h4, ofBits_512, ofBits_neg_half, div_ms_pos_512, Finset.univ_unique, Finset.sum_singleton,
    ← EReal.coe_mul, sum_coe, div_512, ← EReal.coe_add]
  rw [FfnB.dya, ← normGrad_chain (by norm_num)]
  congr 1
  ring

theorem v64 (hd : ∀ i j, val_main_v57 (F := Ideal) x0 x1 x2 x3 x4 x5 x6 x7 x8 x9 x10 (ix2 i j) = ((D1 i j : ℝ) : EReal))
    (h2 : ∀ i j, x2 (ix2 i j) = ((YA i j : ℝ) : EReal)) (h4 : ∀ i j, x4 (ix2 i j) = ((WO i j : ℝ) : EReal)) (i : Fin 1) (j : Fin 512) :
    val_main_v64 (F := Ideal) x0 x1 x2 x3 x4 x5 x6 x7 x8 x9 x10 (ix2 i j) = ((∑ i, FfnB.dgoa WO (YA i) (D1 i) j : ℝ) : EReal) := by
  pointwise [val_main_v64, val_main_v63, val_main_v62, val_main_v12, val_main_v11, val_main_cst_11]
  simp only [h2, v7 h2, v61 hd h4, ← EReal.coe_mul, sum_coe]
  exact congrArg _ (Finset.sum_congr rfl fun k _ => mul_comm _ _)

end

end Cert.BwdFfnBRefIdeal.Hand
-- ==== Proof.FfnBClaim.lean ====
module

public import proofs.«01_k».proof.Defs
public import proofs.«01_k».proof.Proof.Gen.Pre_bwd_ffn_b_finite
public import proofs.«01_k».proof.Proof.Gen.BwdFfnB.Frame
public import proofs.«01_k».proof.Proof.FfnBOut
public import proofs.«01_k».proof.Proof.FfnBRef

@[expose] public section

set_option maxRecDepth 16384

noncomputable section

/-! The claims about the gradient through the feed-forward's norm and the mixer's output. -/

namespace Cert.BwdFfnBIdeal.Hand

open Cert.BwdFfnBIdeal Cert.BwdFfnBIdeal.Gen Cert.Hand Idealize.ShloMosaic Idealize.ShloMosaic.TcCoe Idealize.SL.Sem

/-- The real numbers that the arguments hold. -/
def arrs (m : (ℓ : Loc nD τ sig) → Buf (Elt Ideal) ℓ) (c : Dev nD) : Arrs where
  X := fun i j => (m ((c.tc : Thread nD τ).loc main_arg0) (ix2 i j)).toReal
  YC := fun i j => (m ((c.tc : Thread nD τ).loc main_arg1) (ix2 i j)).toReal
  YA := fun i j => (m ((c.tc : Thread nD τ).loc main_arg2) (ix2 i j)).toReal
  goa := fun j => (m ((c.tc : Thread nD τ).loc main_arg3) (ix2 0 j)).toReal
  WO := fun i j => (m ((c.tc : Thread nD τ).loc main_arg4) (ix2 i j)).toReal
  gf := fun j => (m ((c.tc : Thread nD τ).loc main_arg5) (ix2 0 j)).toReal
  WG := fun i j => (m ((c.tc : Thread nD τ).loc main_arg6) (ix2 i j)).toReal
  WU := fun i j => (m ((c.tc : Thread nD τ).loc main_arg7) (ix2 i j)).toReal
  DG := fun i j => (m ((c.tc : Thread nD τ).loc main_arg8) (ix2 i j)).toReal
  DU := fun i j => (m ((c.tc : Thread nD τ).loc main_arg9) (ix2 i j)).toReal
  D2 := fun i j => (m ((c.tc : Thread nD τ).loc main_arg10) (ix2 i j)).toReal

/-- Under the precondition every element of every argument is a real number. -/
theorem args (m : (ℓ : Loc nD τ sig) → Buf (Elt Ideal) ℓ) (h : Cert.Pre_BwdFfnBIdeal_bwd_ffn_b_finite m) (c : Dev nD) : Args m c (arrs m c) := by
  have H := congrFun (h c) (Shape.Idx.first Cert.Pre_bwd_ffn_b_finite.Facts.h_S_)
  dsimp only [Cert.Pre_bwd_ffn_b_finite.fn, Cert.Pre_bwd_ffn_b_finite.fn_part1, Cert.Pre_bwd_ffn_b_finite.fn_part2, Cert.Pre_bwd_ffn_b_finite.fn_part3] at H
  obtain ⟨H, e10⟩ := and_split H
  obtain ⟨H, e9⟩ := and_split H
  obtain ⟨H, e8⟩ := and_split H
  obtain ⟨H, e7⟩ := and_split H
  obtain ⟨H, e6⟩ := and_split H
  obtain ⟨H, e5⟩ := and_split H
  obtain ⟨H, e4⟩ := and_split H
  obtain ⟨H, e3⟩ := and_split H
  obtain ⟨H, e2⟩ := and_split H
  obtain ⟨e0, e1⟩ := and_split H
  haveI : Subsingleton Cert.Pre_bwd_ffn_b_finite.S_.Idx := ⟨fun a b => funext fun i => i.elim0⟩
  have hz {s : Shape} (hb : Cert.Pre_bwd_ffn_b_finite.S_.BroadcastsInDim s ![]) (i : s.Idx) :
      (broadcastInDim s ![] hb (constant Cert.Pre_bwd_ffn_b_finite.S_ .f32 0x00000000#32) : FVec Ideal s .f32) i = 0 := by
    pointwise
  exact
    { h0 := fun i j => finite_of_all _ _ _ _ _ _ (hz _) e0 (ix2 i j)
      h1 := fun i j => finite_of_all _ _ _ _ _ _ (hz _) e1 (ix2 i j)
      h2 := fun i j => finite_of_all _ _ _ _ _ _ (hz _) e2 (ix2 i j)
      h3 := fun j => finite_of_all _ _ _ _ _ _ (hz _) e3 (ix2 0 j)
      h4 := fun i j => finite_of_all _ _ _ _ _ _ (hz _) e4 (ix2 i j)
      h5 := fun j => finite_of_all _ _ _ _ _ _ (hz _) e5 (ix2 0 j)
      h6 := fun i j => finite_of_all _ _ _ _ _ _ (hz _) e6 (ix2 i j)
      h7 := fun i j => finite_of_all _ _ _ _ _ _ (hz _) e7 (ix2 i j)
      h8 := fun i j => finite_of_all _ _ _ _ _ _ (hz _) e8 (ix2 i j)
      h9 := fun i j => finite_of_all _ _ _ _ _ _ (hz _) e9 (ix2 i j)
      h10 := fun i j => finite_of_all _ _ _ _ _ _ (hz _) e10 (ix2 i j) }

end Cert.BwdFfnBIdeal.Hand

namespace Cert.Hand.FfnB

open Idealize.ShloMosaic Idealize.ShloMosaic.TcCoe Idealize.SL.Sem

/-- The reference leaves its arguments as they were. -/
theorem frame_ref : Cert.quiescent_BwdFfnBRefIdeal := fun m ρ _ =>
  (θ_run BwdFfnBRefIdeal.defs _ _).mono (fun r h => ⟨fun c => (h c).2.2.2.2.2, sem_eq_zero_of_no_sems (by decide) r.2⟩)
    (BwdFfnBRefIdeal.Value.run (F := Ideal) m ρ)

set_option maxHeartbeats 1600000 in
/-- Kernel and reference leave the same results. -/
theorem algebraic : Cert.algebraic_BwdFfnBIdeal_BwdFfnBRefIdeal_pre_bwd_ffn_b_finite := by
  intro m g m' g' hp hm
  have A := fun c => BwdFfnBIdeal.Hand.args m hp c
  refine ⟨_, _, _, _, _, BwdFfnBIdeal.Value.run_blocks (F := Ideal) m g,
    (θ_run BwdFfnBRefIdeal.defs _ _).mono (fun r h c => ?_) (BwdFfnBRefIdeal.Value.run (F := Ideal) m' g')⟩
  obtain ⟨r0, r1, r2, r3, r4, ha⟩ := h c
  obtain ⟨m0, m1, m2, m3, m4, m5, m6, m7, m8, m9, m10⟩ := hm c
  obtain ⟨h0, h1, h2, h3, h4, h5, h6, h7, h8, h9, h10⟩ := A c
  have hx := BwdFfnBRefIdeal.Hand.v17 h0 h1 h2 h3 h4
  have hd := BwdFfnBRefIdeal.Hand.v57 hx h5 h6 h7 h8 h9 h10
  refine ⟨r0.trans (Eq.trans ?_ (BwdFfnBIdeal.Hand.out10 (A c)).symm), r1.trans (Eq.trans ?_ (BwdFfnBIdeal.Hand.out11 (A c)).symm), r2.trans (Eq.trans ?_ (BwdFfnBIdeal.Hand.out12 (A c)).symm), r3.trans (Eq.trans ?_ (BwdFfnBIdeal.Hand.out13 (A c)).symm), r4.trans (Eq.trans ?_ (BwdFfnBIdeal.Hand.out14 (A c)).symm), ha⟩
  · rw [BwdFfnBRefIdeal.Read.val_main_v57_eq, m0, m1, m2, m3, m4, m5, m6, m7, m8, m9, m10]
    funext y
    idx_vars y
    exact hd _ _
  · rw [BwdFfnBRefIdeal.Read.val_main_v60_eq, m0, m1, m2, m3, m4, m5, m6, m7, m8, m9, m10]
    funext y
    idx_vars y
    exact BwdFfnBRefIdeal.Hand.v60 hd h4 _ _
  · rw [BwdFfnBRefIdeal.Read.val_main_v80_eq, m0, m1, m2, m3, m4, m5, m6, m7, m8, m9, m10]
    funext y
    idx_vars y
    exact BwdFfnBRefIdeal.Hand.v80 hd h2 h3 h4 _ _
  · rw [BwdFfnBRefIdeal.Read.val_main_v40_eq, m0, m1, m2, m3, m4, m6, m7, m8, m9]
    funext y
    idx_vars y
    exact BwdFfnBRefIdeal.Hand.v40 hx h6 h7 h8 h9 _ _
  · rw [BwdFfnBRefIdeal.Read.val_main_v64_eq, m0, m1, m2, m3, m4, m5, m6, m7, m8, m9, m10]
    funext y
    idx_vars y
    exact BwdFfnBRefIdeal.Hand.v64 hd h2 h4 _ _

/-- The claims about this call, in the order in which they are stated. -/
theorem claims : Cert.quiescent_BwdFfnB ∧ Cert.quiescent_BwdFfnBIdeal ∧ Cert.quiescent_BwdFfnBIdeal_pre_bwd_ffn_b_finite ∧ Cert.quiescent_BwdFfnBRefIdeal
    ∧ Cert.quiescent_BwdFfnBRefIdeal_pre_bwd_ffn_b_finite ∧ Cert.preserves_BwdFfnB_BwdFfnBIdeal ∧ Cert.algebraic_BwdFfnBIdeal_BwdFfnBRefIdeal_pre_bwd_ffn_b_finite :=
  ⟨fun m ρ _ => BwdFfnB.Gen.frame m ρ, fun m ρ _ => BwdFfnBIdeal.Gen.frame m ρ, fun m ρ _ => BwdFfnBIdeal.Gen.frame m ρ, frame_ref,
    fun m ρ _ => frame_ref m ρ trivial, trivial, algebraic⟩

end Cert.Hand.FfnB
-- ==== Proof.TailSpec.lean ====
module

public import proofs.«01_k».proof.Proof.ConvSpec

@[expose] public section

noncomputable section

/-! The per-layer-embedding gate with the loss, value and gradient, over the reals; one row at a time. -/

namespace Cert.Hand.Tail

theorem ofBits_one : (Idealize.ShloMosaic.Scalar.ofBits (F := Idealize.ShloMosaic.Ideal) .f32 0x3F800000#32 : EReal) = ((1 : ℝ) : EReal) := by norm_num

theorem ofBits_inv_1024 : Idealize.ShloMosaic.Ideal.ofBits .f32 0x3A800000#32 = ((1 / 1024 : ℝ) : EReal) := by
  simp [Idealize.ShloMosaic.Ideal.ofBits, Idealize.ShloMosaic.Ideal.ieee, -EReal.coe_mul]; norm_num

theorem ofBits_inv_2048 : Idealize.ShloMosaic.Ideal.ofBits .f32 0x3A000000#32 = ((1 / 2048 : ℝ) : EReal) := by
  simp [Idealize.ShloMosaic.Ideal.ofBits, Idealize.ShloMosaic.Ideal.ieee, -EReal.coe_mul]; norm_num

/-- The block's output before the gate: the residual and the down product. -/
def x2 (WD : Fin 2816 → Fin 1024 → ℝ) (x : Fin 1024 → ℝ) (act : Fin 2816 → ℝ) (j : Fin 1024) : ℝ := x j + ∑ k, act k * WD k j

/-- The normed row. -/
def h3 (g : Fin 1024 → ℝ) (y : Fin 1024 → ℝ) (j : Fin 1024) : ℝ := y j * rn (1 / 1024) y * g j

/-- The gate. -/
def s (WP : Fin 1024 → Fin 1024 → ℝ) (g y : Fin 1024 → ℝ) (j : Fin 1024) : ℝ := sg (∑ k, h3 g y k * WP k j)

/-- The projected embedding. -/
def pp (PJ : Fin 256 → Fin 1024 → ℝ) (p : Fin 256 → ℝ) (j : Fin 1024) : ℝ := ∑ k, p k * PJ k j

/-- The output's distance from the target. -/
def err (WP : Fin 1024 → Fin 1024 → ℝ) (g y q t : Fin 1024 → ℝ) (j : Fin 1024) : ℝ := y j + s WP g y j * q j - t j

/-- The loss' gradient with respect to the output. -/
def dx3 (WP : Fin 1024 → Fin 1024 → ℝ) (g y q t : Fin 1024 → ℝ) (j : Fin 1024) : ℝ := err WP g y q t j * (1 / 1024)

/-- The gradient with respect to the projected embedding. -/
def dpp (WP : Fin 1024 → Fin 1024 → ℝ) (g y q t : Fin 1024 → ℝ) (j : Fin 1024) : ℝ := dx3 WP g y q t j * s WP g y j

/-- The gradient with respect to the gate's argument. -/
def ds (WP : Fin 1024 → Fin 1024 → ℝ) (g y q t : Fin 1024 → ℝ) (j : Fin 1024) : ℝ :=
  dx3 WP g y q t j * q j * (s WP g y j * (1 - s WP g y j))

/-- The cotangent of the normed row. -/
def dh (WP : Fin 1024 → Fin 1024 → ℝ) (g y q t : Fin 1024 → ℝ) (k : Fin 1024) : ℝ := ∑ j, ds WP g y q t j * WP k j

/-- The gradient with respect to the block's output before the gate. -/
def dx2 (WP : Fin 1024 → Fin 1024 → ℝ) (g y q t : Fin 1024 → ℝ) (j : Fin 1024) : ℝ :=
  dx3 WP g y q t j + normGrad (1 / 1024) y (fun k => dh WP g y q t k * g k) j

/-- A row's part of the gradient with respect to the norm's gain. -/
def dg (WP : Fin 1024 → Fin 1024 → ℝ) (g y q t : Fin 1024 → ℝ) (j : Fin 1024) : ℝ := dh WP g y q t j * (y j * rn (1 / 1024) y)

/-- A row's squared distance from the target, column by column. -/
def sq (WP : Fin 1024 → Fin 1024 → ℝ) (g y q t : Fin 1024 → ℝ) (j : Fin 1024) : ℝ := err WP g y q t j * err WP g y q t j

end Cert.Hand.Tail
-- ==== Proof.TailKernel.lean ====
module

public import proofs.«01_k».proof.Proof.Gen.FwdTailIdeal.Value
public import proofs.«01_k».proof.Proof.TailSpec
public import proofs.«01_k».proof.Proof.Pieces

@[expose] public section

set_option maxRecDepth 16384

noncomputable section

/-! The gate-and-loss call, read as real numbers. -/

namespace Cert.FwdTailIdeal.Hand

open Cert.FwdTailIdeal Cert.FwdTailIdeal.Gen Cert.Hand Idealize.ShloMosaic Idealize.ShloMosaic.TcCoe Idealize.SL.Sem
open Idealize.ShloMosaic.Pipeline (Dat)

/-- The arguments as arrays of reals. -/
structure Arrs where
  X : Fin 8192 → Fin 1024 → ℝ
  ACT : Fin 8192 → Fin 2816 → ℝ
  PE : Fin 8192 → Fin 256 → ℝ
  T : Fin 8192 → Fin 1024 → ℝ
  WD : Fin 2816 → Fin 1024 → ℝ
  WP : Fin 1024 → Fin 1024 → ℝ
  PJ : Fin 256 → Fin 1024 → ℝ
  g : Fin 1024 → ℝ

/-- The block's output before the gate. -/
def Arrs.y (A : Arrs) (r : Fin 8192) : Fin 1024 → ℝ := Tail.x2 A.WD (A.X r) (A.ACT r)

/-- The projected embedding. -/
def Arrs.q (A : Arrs) (r : Fin 8192) : Fin 1024 → ℝ := Tail.pp A.PJ (A.PE r)

variable (m : (ℓ : Loc nD τ sig) → Buf (Elt Ideal) ℓ) (c : Dev nD) (A : Arrs)

/-- The arguments are the images of arrays of reals. -/
structure Args : Prop where
  h0 : ∀ i j, m ((c.tc : Thread nD τ).loc main_arg0) (ix2 i j) = ((A.X i j : ℝ) : EReal)
  h1 : ∀ i j, m ((c.tc : Thread nD τ).loc main_arg1) (ix2 i j) = ((A.ACT i j : ℝ) : EReal)
  h2 : ∀ i j, m ((c.tc : Thread nD τ).loc main_arg2) (ix2 i j) = ((A.PE i j : ℝ) : EReal)
  h3 : ∀ i j, m ((c.tc : Thread nD τ).loc main_arg3) (ix2 i j) = ((A.T i j : ℝ) : EReal)
  h4 : ∀ i j, m ((c.tc : Thread nD τ).loc main_arg4) (ix2 i j) = ((A.WD i j : ℝ) : EReal)
  h5 : ∀ i j, m ((c.tc : Thread nD τ).loc main_arg5) (ix2 i j) = ((A.WP i j : ℝ) : EReal)
  h6 : ∀ i j, m ((c.tc : Thread nD τ).loc main_arg6) (ix2 i j) = ((A.PJ i j : ℝ) : EReal)
  h7 : ∀ j, m ((c.tc : Thread nD τ).loc main_arg7) (ix2 0 j) = ((A.g j : ℝ) : EReal)

theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0, 0]
    ∧ win0_7.index t = ![0, 0] ∧ win0_8.index t = ![t.val, 0] ∧ win0_9.index t = ![t.val, 0] ∧ win0_10.index t = ![t.val, 0]
    ∧ win0_11.index t = ![t.val, 0] ∧ win0_12.index t = ![0, 0] ∧ win0_13.index t = ![0, 0] :=
  (by decide +kernel : ∀ t : Fin grid0.N, _)

/-- The array row of a block's row. -/
def row (t : Fin cfg0.N) (i : Fin 512) : Fin 8192 := ⟨t.val * 512 + i, by have := t.isLt; have : cfg0.N = 16 := rfl; omega⟩

variable {m c A}

theorem blk0 (h : Args m c A) (t : Fin cfg0.N) (i : Fin 512) (j : Fin 1024) : iblk m c 0 t (ix2 i j) = ((A.X (row t i) j : ℝ) : EReal) := by
  rw [← h.h0]; blk_ext! [iblk, V, idx t, row]

theorem blk1 (h : Args m c A) (t : Fin cfg0.N) (i : Fin 512) (k : Fin 2816) : iblk m c 1 t (ix2 i k) = ((A.ACT (row t i) k : ℝ) : EReal) := by
  rw [← h.h1]; blk_ext! [iblk, V, idx t, row]

theorem blk2 (h : Args m c A) (t : Fin cfg0.N) (i : Fin 512) (j : Fin 256) : iblk m c 2 t (ix2 i j) = ((A.PE (row t i) j : ℝ) : EReal) := by
  rw [← h.h2]; blk_ext! [iblk, V, idx t, row]

theorem blk3 (h : Args m c A) (t : Fin cfg0.N) (i : Fin 512) (j : Fin 1024) : iblk m c 3 t (ix2 i j) = ((A.T (row t i) j : ℝ) : EReal) := by
  rw [← h.h3]; blk_ext! [iblk, V, idx t, row]

theorem blk4 (h : Args m c A) (t : Fin cfg0.N) (k : Fin 2816) (j : Fin 1024) : iblk m c 4 t (ix2 k j) = ((A.WD k j : ℝ) : EReal) := by
  rw [← h.h4]; blk_ext! [iblk, V, idx t, row]

theorem blk5 (h : Args m c A) (t : Fin cfg0.N) (k j : Fin 1024) : iblk m c 5 t (ix2 k j) = ((A.WP k j : ℝ) : EReal) := by
  rw [← h.h5]; blk_ext! [iblk, V, idx t, row]

theorem blk6 (h : Args m c A) (t : Fin cfg0.N) (s : Fin 4) (k : Fin 256) (j : Fin 256) :
    iblk m c 6 t (ix3 s k j) = ((A.PJ k ⟨256 * s + j, by omega⟩ : ℝ) : EReal) := by
  rw [← h.h6]; blk_ext! [iblk, V, idx t, row]

theorem blk7 (h : Args m c A) (t : Fin cfg0.N) (j : Fin 1024) : iblk m c 7 t (ix2 0 j) = ((A.g j : ℝ) : EReal) := by
  rw [← h.h7]; blk_ext! [iblk, V, idx t, row]

section
variable {x : Vec Ideal S512x1024 .f32} {a0 a1 : Vec Ideal S512x1408 .bf16} {w0 w1 : Vec Ideal S1408x1024 .bf16}
variable {X : Fin 512 → Fin 1024 → ℝ} {AC : Fin 512 → Fin 2816 → ℝ} {WD : Fin 2816 → Fin 1024 → ℝ}

theorem pay4 (hx : ∀ i j, x (ix2 i j) = ((X i j : ℝ) : EReal))
    (ha0 : ∀ i k, a0 (ix2 i k) = ((AC i ⟨k, by omega⟩ : ℝ) : EReal)) (ha1 : ∀ i k, a1 (ix2 i k) = ((AC i ⟨1408 + k, by omega⟩ : ℝ) : EReal))
    (hw0 : ∀ k j, w0 (ix2 k j) = ((WD ⟨k, by omega⟩ j : ℝ) : EReal)) (hw1 : ∀ k j, w1 (ix2 k j) = ((WD ⟨1408 + k, by omega⟩ j : ℝ) : EReal))
    (i : Fin 512) (j : Fin 1024) : k0_pay4 x a0 w0 a1 w1 (ix2 i j) = ((Tail.x2 WD (X i) (AC i) j : ℝ) : EReal) := by
  pointwise [k0_pay4]
  simp only [hx, ha0, ha1, hw0, hw1, ← EReal.coe_mul, sum_coe, ← EReal.coe_add]
  refine congrArg _ ?_
  rw [Tail.x2, show (∑ k, AC i k * WD k j) = (∑ k : Fin 1408, AC i ⟨k, by omega⟩ * WD ⟨k, by omega⟩ j) + ∑ k : Fin 1408, AC i ⟨1408 + k, by omega⟩ * WD ⟨1408 + k, by omega⟩ j from
    Fin.sum_univ_add (a := 1408) (b := 1408) _]
  ring

variable {Y : Fin 512 → Fin 1024 → ℝ} {g : Fin 1024 → ℝ} {gv : Vec Ideal S1x1024 .f32}

theorem pay5 (hy : ∀ i j, k0_pay4 x a0 w0 a1 w1 (ix2 i j) = ((Y i j : ℝ) : EReal)) (i : Fin 512) :
    k0_pay5 x a0 w0 a1 w1 (ix2 i 0) = ((rn (1 / 1024) (Y i) : ℝ) : EReal) := by
  pointwise [k0_pay5]
  simp only [hy, ← EReal.coe_mul, sum_coe, ofBits_1024, ofBits_eps, div_1024, ← EReal.coe_add, rsqrt_1024]

theorem pay6 (hy : ∀ i j, k0_pay4 x a0 w0 a1 w1 (ix2 i j) = ((Y i j : ℝ) : EReal)) (i : Fin 512) (j : Fin 1024) :
    k0_pay6 x a0 w0 a1 w1 (ix2 i j) = ((Y i j * rn (1 / 1024) (Y i) : ℝ) : EReal) := by
  pointwise [k0_pay6]
  rw [hy, pay5 hy, ← EReal.coe_mul]

theorem pay7 (hy : ∀ i j, k0_pay4 x a0 w0 a1 w1 (ix2 i j) = ((Y i j : ℝ) : EReal)) (hg : ∀ j, gv (ix2 0 j) = ((g j : ℝ) : EReal)) (i : Fin 512) (j : Fin 1024) :
    k0_pay7 x a0 w0 a1 w1 gv (ix2 i j) = ((Tail.h3 g (Y i) j : ℝ) : EReal) := by
  pointwise [k0_pay7]
  rw [pay6 hy, hg, ← EReal.coe_mul]
  rfl

end

theorem pay9 {v : FVec Ideal S512x1024 .bf16} {w : Vec Ideal S1024x1024 .bf16} {Y : Fin 512 → Fin 1024 → ℝ} {g : Fin 1024 → ℝ} {WP : Fin 1024 → Fin 1024 → ℝ}
    (hv : ∀ i j, v (ix2 i j) = ((Tail.h3 g (Y i) j : ℝ) : EReal)) (hw : ∀ k j, w (ix2 k j) = ((WP k j : ℝ) : EReal)) (i : Fin 512) (j : Fin 1024) :
    k0_pay9 v (k0_pay8 w) (constant S512x1024 .f32 0x00000000#32) (ix2 i j) = ((Tail.s WP g (Y i) j : ℝ) : EReal) := by
  pointwise [k0_pay9, k0_pay8]
  simp only [hv, hw, ← EReal.coe_mul, sum_coe, Ideal.logistic_coe]
  rfl

theorem pay10 {p : Vec Ideal S512x256 .f32} {w0 w1 w2 w3 : Vec Ideal S1x256x256 .bf16} {PE : Fin 512 → Fin 256 → ℝ} {PJ : Fin 256 → Fin 1024 → ℝ}
    (hp : ∀ i k, p (ix2 i k) = ((PE i k : ℝ) : EReal))
    (h0 : ∀ k j, w0 (ix3 0 k j) = ((PJ k ⟨j, by omega⟩ : ℝ) : EReal)) (h1 : ∀ k j, w1 (ix3 0 k j) = ((PJ k ⟨256 + j, by omega⟩ : ℝ) : EReal))
    (h2 : ∀ k j, w2 (ix3 0 k j) = ((PJ k ⟨512 + j, by omega⟩ : ℝ) : EReal)) (h3 : ∀ k j, w3 (ix3 0 k j) = ((PJ k ⟨768 + j, by omega⟩ : ℝ) : EReal))
    (i : Fin 512) (j : Fin 1024) : k0_pay10 p w0 w1 w2 w3 (ix2 i j) = ((Tail.pp PJ (PE i) j : ℝ) : EReal) := by
  pointwise [k0_pay10]
  simp only [hp, h0, h1, h2, h3, ← EReal.coe_mul, sum_coe]
  split_ifs <;> refine congrArg _ (Finset.sum_congr rfl fun k _ => congrArg (fun a => PE i k * PJ k a) (Fin.ext ?_)) <;> simp <;> omega

section
variable {x t : Vec Ideal S512x1024 .f32} {v : FVec Ideal S512x1024 .bf16} {w : FVec Ideal S1024x1024 .bf16} {z : FVec Ideal S512x1024 .f32}
  {p : Vec Ideal S512x256 .f32} {w0 w1 w2 w3 : Vec Ideal S1x256x256 .bf16}
variable {Y Q T : Fin 512 → Fin 1024 → ℝ} {g : Fin 1024 → ℝ} {WP : Fin 1024 → Fin 1024 → ℝ}

theorem pay11 (hy : ∀ i j, x (ix2 i j) = ((Y i j : ℝ) : EReal)) (hs : ∀ i j, k0_pay9 v w z (ix2 i j) = ((Tail.s WP g (Y i) j : ℝ) : EReal))
    (hq : ∀ i j, k0_pay10 p w0 w1 w2 w3 (ix2 i j) = ((Q i j : ℝ) : EReal)) (ht : ∀ i j, t (ix2 i j) = ((T i j : ℝ) : EReal)) (i : Fin 512) (j : Fin 1024) :
    k0_pay11 x v w z p w0 w1 w2 w3 t (ix2 i j) = ((Tail.err WP g (Y i) (Q i) (T i) j : ℝ) : EReal) := by
  pointwise [k0_pay11]
  rw [hy, hs, hq, ht, ← EReal.coe_mul, ← EReal.coe_add, ← EReal.coe_sub]
  rfl

theorem pay12 (he : ∀ i j, k0_pay11 x v w z p w0 w1 w2 w3 t (ix2 i j) = ((Tail.err WP g (Y i) (Q i) (T i) j : ℝ) : EReal))
    (a : Vec Ideal S1x1024 .f32) (i : Fin 1) (j : Fin 1024) :
    k0_pay12 x v w z p w0 w1 w2 w3 t a (ix2 i j) = a (ix2 i j) + ((∑ i, Tail.sq WP g (Y i) (Q i) (T i) j : ℝ) : EReal) := by
  pointwise [k0_pay12]
  simp only [he, ← EReal.coe_mul, sum_coe]
  rfl

theorem pay13 (he : ∀ i j, k0_pay11 x v w z p w0 w1 w2 w3 t (ix2 i j) = ((Tail.err WP g (Y i) (Q i) (T i) j : ℝ) : EReal)) (i : Fin 512) (j : Fin 1024) :
    k0_pay13 x v w z p w0 w1 w2 w3 t (ix2 i j) = ((Tail.dx3 WP g (Y i) (Q i) (T i) j : ℝ) : EReal) := by
  pointwise [k0_pay13]
  rw [he, Tail.ofBits_inv_1024, ← EReal.coe_mul]
  rfl

theorem pay14 (he : ∀ i j, k0_pay11 x v w z p w0 w1 w2 w3 t (ix2 i j) = ((Tail.err WP g (Y i) (Q i) (T i) j : ℝ) : EReal))
    (hs : ∀ i j, k0_pay9 v w z (ix2 i j) = ((Tail.s WP g (Y i) j : ℝ) : EReal)) (i : Fin 512) (j : Fin 1024) :
    k0_pay14 x v w z p w0 w1 w2 w3 t (ix2 i j) = ((Tail.dpp WP g (Y i) (Q i) (T i) j : ℝ) : EReal) := by
  pointwise [k0_pay14]
  rw [pay13 he, hs, ← EReal.coe_mul]
  rfl

end

section
variable {r : FVec Ideal S512x1 .f32} {xh s q d : FVec Ideal S512x1024 .f32} {w : Vec Ideal S1024x1024 .bf16} {gv : Vec Ideal S1x1024 .f32}
variable {Y Q T : Fin 512 → Fin 1024 → ℝ} {g : Fin 1024 → ℝ} {WP : Fin 1024 → Fin 1024 → ℝ}

theorem pay15 (hs : ∀ i j, s (ix2 i j) = ((Tail.s WP g (Y i) j : ℝ) : EReal)) (hq : ∀ i j, q (ix2 i j) = ((Q i j : ℝ) : EReal))
    (hd : ∀ i j, d (ix2 i j) = ((Tail.dx3 WP g (Y i) (Q i) (T i) j : ℝ) : EReal)) (i : Fin 512) (j : Fin 1024) :
    k0_pay15 s q d (ix2 i j) = ((Tail.ds WP g (Y i) (Q i) (T i) j : ℝ) : EReal) := by
  pointwise [k0_pay15]
  simp only [hs, hq, hd, Tail.ofBits_one, ← EReal.coe_mul, ← EReal.coe_sub]
  rfl

theorem pay16 (hs : ∀ i j, s (ix2 i j) = ((Tail.s WP g (Y i) j : ℝ) : EReal)) (hq : ∀ i j, q (ix2 i j) = ((Q i j : ℝ) : EReal))
    (hd : ∀ i j, d (ix2 i j) = ((Tail.dx3 WP g (Y i) (Q i) (T i) j : ℝ) : EReal)) (hw : ∀ k j, w (ix2 k j) = ((WP k j : ℝ) : EReal)) (i : Fin 512) (k : Fin 1024) :
    k0_pay16 s q d w (ix2 i k) = ((Tail.dh WP g (Y i) (Q i) (T i) k : ℝ) : EReal) := by
  pointwise [k0_pay16]
  simp only [pay15 hs hq hd, hw, ← EReal.coe_mul, sum_coe]
  rfl

theorem pay17 (hs : ∀ i j, s (ix2 i j) = ((Tail.s WP g (Y i) j : ℝ) : EReal)) (hq : ∀ i j, q (ix2 i j) = ((Q i j : ℝ) : EReal))
    (hd : ∀ i j, d (ix2 i j) = ((Tail.dx3 WP g (Y i) (Q i) (T i) j : ℝ) : EReal)) (hw : ∀ k j, w (ix2 k j) = ((WP k j : ℝ) : EReal))
    (hx : ∀ i j, xh (ix2 i j) = ((Y i j * rn (1 / 1024) (Y i) : ℝ) : EReal)) (a : Vec Ideal S1x1024 .f32) (i : Fin 1) (j : Fin 1024) :
    k0_pay17 xh s q d w a (ix2 i j) = a (ix2 i j) + ((∑ i, Tail.dg WP g (Y i) (Q i) (T i) j : ℝ) : EReal) := by
  pointwise [k0_pay17]
  simp only [pay16 hs hq hd hw, hx, ← EReal.coe_mul, sum_coe]
  rfl

theorem pay18 (hs : ∀ i j, s (ix2 i j) = ((Tail.s WP g (Y i) j : ℝ) : EReal)) (hq : ∀ i j, q (ix2 i j) = ((Q i j : ℝ) : EReal))
    (hd : ∀ i j, d (ix2 i j) = ((Tail.dx3 WP g (Y i) (Q i) (T i) j : ℝ) : EReal)) (hw : ∀ k j, w (ix2 k j) = ((WP k j : ℝ) : EReal))
    (hx : ∀ i j, xh (ix2 i j) = ((Y i j * rn (1 / 1024) (Y i) : ℝ) : EReal)) (hr : ∀ i, r (ix2 i 0) = ((rn (1 / 1024) (Y i) : ℝ) : EReal))
    (hg : ∀ j, gv (ix2 0 j) = ((g j : ℝ) : EReal)) (i : Fin 512) (j : Fin 1024) :
    k0_pay18 r xh s q d w gv (ix2 i j) = ((Tail.dx2 WP g (Y i) (Q i) (T i) j : ℝ) : EReal) := by
  pointwise [k0_pay18]
  simp only [pay16 hs hq hd hw, hx, hr, hg, hd, ofBits_1024, ← EReal.coe_mul, sum_coe, div_1024, ← EReal.coe_add, ← EReal.coe_sub]
  rfl

end

end Cert.FwdTailIdeal.Hand
-- ==== Proof.TailOut.lean ====
module

public import proofs.«01_k».proof.Proof.TailKernel

@[expose] public section

set_option maxRecDepth 16384

noncomputable section

/-! The gate-and-loss call: its six results. -/

namespace Cert.FwdTailIdeal.Hand

open Cert.FwdTailIdeal Cert.FwdTailIdeal.Gen Cert.Hand Idealize.ShloMosaic Idealize.ShloMosaic.TcCoe Idealize.SL.Sem
open Idealize.ShloMosaic.Pipeline (Dat)

variable {m : (ℓ : Loc nD τ sig) → Buf (Elt Ideal) ℓ} {c : Dev nD} {A : Arrs}

theorem unit_idx3 {a b d o0 o1 o2 s0 s1 s2 : ℕ} (inb : ∀ k : Fin 3, (![o0, o1, o2] : Fin 3 → ℕ) k + (![s0, s1, s2] : Fin 3 → ℕ) k ≤ (![a, b, d] : Fin 3 → ℕ) k)
    (i : Fin s0) (j : Fin s1) (k : Fin s2) :
    (Rect.unit (s := ⟨3, ![a, b, d]⟩) ![o0, o1, o2] ![s0, s1, s2] inb).emb (ix3 i j k)
      = ix3 ⟨o0 + i.val, by have := inb 0; simp at this; omega⟩ ⟨o1 + j.val, by have := inb 1; simp at this; omega⟩
        ⟨o2 + k.val, by have := inb 2; simp at this; omega⟩ := by
  funext l
  refine Fin.ext ?_
  fin_cases l <;> simp

section
variable (m c) (t : Fin cfg0.N)
/-- The two halves of the activation's block and of the down weight, and the four slabs of the projection. -/
abbrev aLo : Vec Ideal S512x1408 .bf16 := View.ld (iblk m c 1 t) (Rect.unit ![0, 0] ![512, 1408] inb_S512x2816_S512x1408_0_0)
abbrev aHi : Vec Ideal S512x1408 .bf16 := View.ld (iblk m c 1 t) (Rect.unit ![0, 1408] ![512, 1408] inb_S512x2816_S512x1408_0_1408)
abbrev wLo : Vec Ideal S1408x1024 .bf16 := View.ld (iblk m c 4 t) (Rect.unit ![0, 0] ![1408, 1024] inb_S2816x1024_S1408x1024_0_0)
abbrev wHi : Vec Ideal S1408x1024 .bf16 := View.ld (iblk m c 4 t) (Rect.unit ![1408, 0] ![1408, 1024] inb_S2816x1024_S1408x1024_1408_0)
abbrev p0 : Vec Ideal S1x256x256 .bf16 := View.ld (iblk m c 6 t) (Rect.unit ![0, 0, 0] ![1, 256, 256] inb_S4x256x256_S1x256x256_0_0_0)
abbrev p1 : Vec Ideal S1x256x256 .bf16 := View.ld (iblk m c 6 t) (Rect.unit ![1, 0, 0] ![1, 256, 256] inb_S4x256x256_S1x256x256_1_0_0)
abbrev p2 : Vec Ideal S1x256x256 .bf16 := View.ld (iblk m c 6 t) (Rect.unit ![2, 0, 0] ![1, 256, 256] inb_S4x256x256_S1x256x256_2_0_0)
abbrev p3 : Vec Ideal S1x256x256 .bf16 := View.ld (iblk m c 6 t) (Rect.unit ![3, 0, 0] ![1, 256, 256] inb_S4x256x256_S1x256x256_3_0_0)
/-- The block's output before the gate, and its normed rows, as the call computes them. -/
abbrev pv : FVec Ideal S512x1024 .f32 := k0_pay4 (iblk m c 0 t) (aLo m c t) (wLo m c t) (aHi m c t) (wHi m c t)
abbrev hv : FVec Ideal S512x1024 .bf16 := k0_pay7 (iblk m c 0 t) (aLo m c t) (wLo m c t) (aHi m c t) (wHi m c t) (iblk m c 7 t)
end

theorem yAt (h : Args m c A) (t : Fin cfg0.N) (i : Fin 512) (j : Fin 1024) : pv m c t (ix2 i j) = ((A.y (row t i) j : ℝ) : EReal) := by
  refine pay4 (X := fun i => A.X (row t i)) (AC := fun i => A.ACT (row t i)) (WD := A.WD) (blk0 h t) ?_ ?_ ?_ ?_ i j
  · exact fun i k => (congrArg (iblk m c 1 t) (unit_idx inb_S512x2816_S512x1408_0_0 i k)).trans ((blk1 h t _ _).trans (by simp))
  · exact fun i k => (congrArg (iblk m c 1 t) (unit_idx inb_S512x2816_S512x1408_0_1408 i k)).trans ((blk1 h t _ _).trans (by simp))
  · exact fun k j => (congrArg (iblk m c 4 t) (unit_idx inb_S2816x1024_S1408x1024_0_0 k j)).trans ((blk4 h t _ _).trans (by simp))
  · exact fun k j => (congrArg (iblk m c 4 t) (unit_idx inb_S2816x1024_S1408x1024_1408_0 k j)).trans ((blk4 h t _ _).trans (by simp))

theorem rAt (h : Args m c A) (t : Fin cfg0.N) (i : Fin 512) :
    k0_pay5 (iblk m c 0 t) (aLo m c t) (wLo m c t) (aHi m c t) (wHi m c t) (ix2 i 0) = ((rn (1 / 1024) (A.y (row t i)) : ℝ) : EReal) :=
  pay5 (Y := fun i => A.y (row t i)) (yAt h t) i

theorem xhAt (h : Args m c A) (t : Fin cfg0.N) (i : Fin 512) (j : Fin 1024) :
    k0_pay6 (iblk m c 0 t) (aLo m c t) (wLo m c t) (aHi m c t) (wHi m c t) (ix2 i j) = ((A.y (row t i) j * rn (1 / 1024) (A.y (row t i)) : ℝ) : EReal) :=
  pay6 (Y := fun i => A.y (row t i)) (yAt h t) i j

theorem hAt (h : Args m c A) (t : Fin cfg0.N) (i : Fin 512) (j : Fin 1024) : hv m c t (ix2 i j) = ((Tail.h3 A.g (A.y (row t i)) j : ℝ) : EReal) :=
  pay7 (Y := fun i => A.y (row t i)) (yAt h t) (blk7 h t) i j

theorem sAt (h : Args m c A) (t : Fin cfg0.N) (i : Fin 512) (j : Fin 1024) :
    k0_pay9 (hv m c t) (k0_pay8 (iblk m c 5 t)) (constant S512x1024 .f32 0x00000000#32) (ix2 i j) = ((Tail.s A.WP A.g (A.y (row t i)) j : ℝ) : EReal) :=
  pay9 (Y := fun i => A.y (row t i)) (hAt h t) (blk5 h t) i j

theorem qAt (h : Args m c A) (t : Fin cfg0.N) (i : Fin 512) (j : Fin 1024) :
    k0_pay10 (iblk m c 2 t) (p0 m c t) (p1 m c t) (p2 m c t) (p3 m c t) (ix2 i j) = ((A.q (row t i) j : ℝ) : EReal) := by
  refine pay10 (PE := fun i => A.PE (row t i)) (PJ := A.PJ) (blk2 h t) ?_ ?_ ?_ ?_ i j
  · exact fun k j => (congrArg (iblk m c 6 t) (unit_idx3 inb_S4x256x256_S1x256x256_0_0_0 0 k j)).trans ((blk6 h t _ _ _).trans (by simp))
  · exact fun k j => (congrArg (iblk m c 6 t) (unit_idx3 inb_S4x256x256_S1x256x256_1_0_0 0 k j)).trans ((blk6 h t _ _ _).trans (by simp))
  · exact fun k j => (congrArg (iblk m c 6 t) (unit_idx3 inb_S4x256x256_S1x256x256_2_0_0 0 k j)).trans ((blk6 h t _ _ _).trans (by simp))
  · exact fun k j => (congrArg (iblk m c 6 t) (unit_idx3 inb_S4x256x256_S1x256x256_3_0_0 0 k j)).trans ((blk6 h t _ _ _).trans (by simp))

theorem eAt (h : Args m c A) (t : Fin cfg0.N) (i : Fin 512) (j : Fin 1024) :
    k0_pay11 (pv m c t) (hv m c t) (k0_pay8 (iblk m c 5 t)) (constant S512x1024 .f32 0x00000000#32) (iblk m c 2 t) (p0 m c t) (p1 m c t) (p2 m c t) (p3 m c t) (iblk m c 3 t) (ix2 i j) = ((Tail.err A.WP A.g (A.y (row t i)) (A.q (row t i)) (A.T (row t i)) j : ℝ) : EReal) :=
  pay11 (Y := fun i => A.y (row t i)) (Q := fun i => A.q (row t i)) (T := fun i => A.T (row t i)) (yAt h t) (sAt h t) (qAt h t) (blk3 h t) i j

theorem dAt (h : Args m c A) (t : Fin cfg0.N) (i : Fin 512) (j : Fin 1024) :
    k0_pay13 (pv m c t) (hv m c t) (k0_pay8 (iblk m c 5 t)) (constant S512x1024 .f32 0x00000000#32) (iblk m c 2 t) (p0 m c t) (p1 m c t) (p2 m c t) (p3 m c t) (iblk m c 3 t) (ix2 i j) = ((Tail.dx3 A.WP A.g (A.y (row t i)) (A.q (row t i)) (A.T (row t i)) j : ℝ) : EReal) :=
  pay13 (Y := fun i => A.y (row t i)) (Q := fun i => A.q (row t i)) (T := fun i => A.T (row t i)) (eAt h t) i j

theorem dppAt (h : Args m c A) (t : Fin cfg0.N) (i : Fin 512) (j : Fin 1024) :
    k0_pay14 (pv m c t) (hv m c t) (k0_pay8 (iblk m c 5 t)) (constant S512x1024 .f32 0x00000000#32) (iblk m c 2 t) (p0 m c t) (p1 m c t) (p2 m c t) (p3 m c t) (iblk m c 3 t) (ix2 i j) = ((Tail.dpp A.WP A.g (A.y (row t i)) (A.q (row t i)) (A.T (row t i)) j : ℝ) : EReal) :=
  pay14 (Y := fun i => A.y (row t i)) (Q := fun i => A.q (row t i)) (T := fun i => A.T (row t i)) (eAt h t) (sAt h t) i j

theorem dsAt (h : Args m c A) (t : Fin cfg0.N) (i : Fin 512) (j : Fin 1024) :
    k0_pay15 (k0_pay9 (hv m c t) (k0_pay8 (iblk m c 5 t)) (constant S512x1024 .f32 0x00000000#32)) (k0_pay10 (iblk m c 2 t) (p0 m c t) (p1 m c t) (p2 m c t) (p3 m c t)) (k0_pay13 (pv m c t) (hv m c t) (k0_pay8 (iblk m c 5 t)) (constant S512x1024 .f32 0x00000000#32) (iblk m c 2 t) (p0 m c t) (p1 m c t) (p2 m c t) (p3 m c t) (iblk m c 3 t)) (ix2 i j) = ((Tail.ds A.WP A.g (A.y (row t i)) (A.q (row t i)) (A.T (row t i)) j : ℝ) : EReal) :=
  pay15 (Y := fun i => A.y (row t i)) (Q := fun i => A.q (row t i)) (T := fun i => A.T (row t i)) (sAt h t) (qAt h t) (dAt h t) i j

theorem dx2At (h : Args m c A) (t : Fin cfg0.N) (i : Fin 512) (j : Fin 1024) :
    k0_pay18 (k0_pay5 (iblk m c 0 t) (aLo m c t) (wLo m c t) (aHi m c t) (wHi m c t)) (k0_pay6 (iblk m c 0 t) (aLo m c t) (wLo m c t) (aHi m c t) (wHi m c t)) (k0_pay9 (hv m c t) (k0_pay8 (iblk m c 5 t)) (constant S512x1024 .f32 0x00000000#32)) (k0_pay10 (iblk m c 2 t) (p0 m c t) (p1 m c t) (p2 m c t) (p3 m c t)) (k0_pay13 (pv m c t) (hv m c t) (k0_pay8 (iblk m c 5 t)) (constant S512x1024 .f32 0x00000000#32) (iblk m c 2 t) (p0 m c t) (p1 m c t) (p2 m c t) (p3 m c t) (iblk m c 3 t)) (iblk m c 5 t) (iblk m c 7 t) (ix2 i j)
      = ((Tail.dx2 A.WP A.g (A.y (row t i)) (A.q (row t i)) (A.T (row t i)) j : ℝ) : EReal) :=
  pay18 (Y := fun i => A.y (row t i)) (Q := fun i => A.q (row t i)) (T := fun i => A.T (row t i)) (sAt h t) (qAt h t) (dAt h t) (blk5 h t) (xhAt h t) (rAt h t) (blk7 h t) i j

theorem dgAt (h : Args m c A) (t : Fin cfg0.N) (a : Vec Ideal S1x1024 .f32) (i : Fin 1) (j : Fin 1024) :
    k0_pay17 (k0_pay6 (iblk m c 0 t) (aLo m c t) (wLo m c t) (aHi m c t) (wHi m c t)) (k0_pay9 (hv m c t) (k0_pay8 (iblk m c 5 t)) (constant S512x1024 .f32 0x00000000#32)) (k0_pay10 (iblk m c 2 t) (p0 m c t) (p1 m c t) (p2 m c t) (p3 m c t)) (k0_pay13 (pv m c t) (hv m c t) (k0_pay8 (iblk m c 5 t)) (constant S512x1024 .f32 0x00000000#32) (iblk m c 2 t) (p0 m c t) (p1 m c t) (p2 m c t) (p3 m c t) (iblk m c 3 t)) (iblk m c 5 t) a (ix2 i j) = a (ix2 i j) + ((∑ i, Tail.dg A.WP A.g (A.y (row t i)) (A.q (row t i)) (A.T (row t i)) j : ℝ) : EReal) :=
  pay17 (Y := fun i => A.y (row t i)) (Q := fun i => A.q (row t i)) (T := fun i => A.T (row t i)) (sAt h t) (qAt h t) (dAt h t) (blk5 h t) (xhAt h t) a i j

theorem sqAt (h : Args m c A) (t : Fin cfg0.N) (a : Vec Ideal S1x1024 .f32) (i : Fin 1) (j : Fin 1024) :
    k0_pay12 (pv m c t) (hv m c t) (k0_pay8 (iblk m c 5 t)) (constant S512x1024 .f32 0x00000000#32) (iblk m c 2 t) (p0 m c t) (p1 m c t) (p2 m c t) (p3 m c t) (iblk m c 3 t) a (ix2 i j) = a (ix2 i j) + ((∑ i, Tail.sq A.WP A.g (A.y (row t i)) (A.q (row t i)) (A.T (row t i)) j : ℝ) : EReal) :=
  pay12 (Y := fun i => A.y (row t i)) (Q := fun i => A.q (row t i)) (T := fun i => A.T (row t i)) (eAt h t) a i j

theorem pay1_coe (v : Vec Ideal S1x1024 .f32) (f : Fin 1024 → ℝ) (hv : ∀ j, v (ix2 0 j) = ((f j : ℝ) : EReal)) (i : Fin 1) (j : Fin 128) :
    k0_pay1 v (ix2 i j) = (((∑ k, f k) * (1 / 2048) : ℝ) : EReal) := by
  pointwise [k0_pay1]
  simp only [hv, sum_coe, Tail.ofBits_inv_2048, ← EReal.coe_mul, Finset.univ_unique, Finset.sum_singleton]

/-- A grid point is the first, one between, or the last. -/
theorem cases3 (t : Fin cfg0.N) : (t.val % 16 = 0 ∧ ¬t.val % 16 = 15) ∨ (¬t.val % 16 = 0 ∧ ¬t.val % 16 = 15) ∨ (¬t.val % 16 = 0 ∧ t.val % 16 = 15) := by omega

theorem emb8 (t : Fin cfg0.N) (i : Fin 512) (j : Fin 1024) :
    ((View.whole main_v6_0).slice (win0_8.rect t)).emb (ix2 i j) = ix2 (row t i) j := by
  funext a
  refine Fin.ext ?_
  fin_cases a <;> simp [row, idx t]

/-- The first result: the gradient with respect to the block's output before the gate. -/
theorem out8 (h : Args m c A) :
    (dats m 0 c).arrAt 8 (cfgs 0).N = fun y => ((Tail.dx2 A.WP A.g (A.y (y 0)) (A.q (y 0)) (A.T (y 0)) (y 1) : ℝ) : EReal) := by
  refine (dats m 0 c).arrAt_eq_of_covers 8 _ (by decide +kernel) fun t hf y => ?_
  blk_simp
  rw [after0_8]
  rcases cases3 t with ⟨h0, h1⟩ | ⟨h0, h1⟩ | ⟨h0, h1⟩
  · rw [outsAt0_A m c t h0 h1]
    dsimp only
    frame_out
    idx_vars y
    rw [emb8]
    exact dx2At h t _ _
  · rw [outsAt0_B m c t h0 h1]
    dsimp only
    frame_out
    idx_vars y
    rw [emb8]
    exact dx2At h t _ _
  · rw [outsAt0_C m c t h0 h1]
    dsimp only
    frame_out
    idx_vars y
    rw [emb8]
    exact dx2At h t _ _

theorem emb9 (t : Fin cfg0.N) (i : Fin 512) (j : Fin 1024) :
    ((View.whole main_v6_1).slice (win0_9.rect t)).emb (ix2 i j) = ix2 (row t i) j := by
  funext a
  refine Fin.ext ?_
  fin_cases a <;> simp [row, idx t]

/-- The second result: the normed rows. -/
theorem out9 (h : Args m c A) :
    (dats m 0 c).arrAt 9 (cfgs 0).N = fun y => ((Tail.h3 A.g (A.y (y 0)) (y 1) : ℝ) : EReal) := by
  refine (dats m 0 c).arrAt_eq_of_covers 9 _ (by decide +kernel) fun t hf y => ?_
  blk_simp
  rw [after0_9]
  rcases cases3 t with ⟨h0, h1⟩ | ⟨h0, h1⟩ | ⟨h0, h1⟩
  · rw [outsAt0_A m c t h0 h1]
    dsimp only
    frame_out
    idx_vars y
    rw [emb9]
    exact hAt h t _ _
  · rw [outsAt0_B m c t h0 h1]
    dsimp only
    frame_out
    idx_vars y
    rw [emb9]
    exact hAt h t _ _
  · rw [outsAt0_C m c t h0 h1]
    dsimp only
    frame_out
    idx_vars y
    rw [emb9]
    exact hAt h t _ _

theorem emb10 (t : Fin cfg0.N) (i : Fin 512) (j : Fin 1024) :
    ((View.whole main_v6_2).slice (win0_10.rect t)).emb (ix2 i j) = ix2 (row t i) j := by
  funext a
  refine Fin.ext ?_
  fin_cases a <;> simp [row, idx t]

/-- The third result: the gradient with respect to the gate's argument. -/
theorem out10 (h : Args m c A) :
    (dats m 0 c).arrAt 10 (cfgs 0).N = fun y => ((Tail.ds A.WP A.g (A.y (y 0)) (A.q (y 0)) (A.T (y 0)) (y 1) : ℝ) : EReal) := by
  refine (dats m 0 c).arrAt_eq_of_covers 10 _ (by decide +kernel) fun t hf y => ?_
  blk_simp
  rw [after0_10]
  rcases cases3 t with ⟨h0, h1⟩ | ⟨h0, h1⟩ | ⟨h0, h1⟩
  · rw [outsAt0_A m c t h0 h1]
    dsimp only
    frame_out
    idx_vars y
    rw [emb10]
    exact dsAt h t _ _
  · rw [outsAt0_B m c t h0 h1]
    dsimp only
    frame_out
    idx_vars y
    rw [emb10]
    exact dsAt h t _ _
  · rw [outsAt0_C m c t h0 h1]
    dsimp only
    frame_out
    idx_vars y
    rw [emb10]
    exact dsAt h t _ _

theorem emb11 (t : Fin cfg0.N) (i : Fin 512) (j : Fin 1024) :
    ((View.whole main_v6_3).slice (win0_11.rect t)).emb (ix2 i j) = ix2 (row t i) j := by
  funext a
  refine Fin.ext ?_
  fin_cases a <;> simp [row, idx t]

/-- The fourth result: the gradient with respect to the projected embedding. -/
theorem out11 (h : Args m c A) :
    (dats m 0 c).arrAt 11 (cfgs 0).N = fun y => ((Tail.dpp A.WP A.g (A.y (y 0)) (A.q (y 0)) (A.T (y 0)) (y 1) : ℝ) : EReal) := by
  refine (dats m 0 c).arrAt_eq_of_covers 11 _ (by decide +kernel) fun t hf y => ?_
  blk_simp
  rw [after0_11]
  rcases cases3 t with ⟨h0, h1⟩ | ⟨h0, h1⟩ | ⟨h0, h1⟩
  · rw [outsAt0_A m c t h0 h1]
    dsimp only
    frame_out
    idx_vars y
    rw [emb11]
    exact dppAt h t _ _
  · rw [outsAt0_B m c t h0 h1]
    dsimp only
    frame_out
    idx_vars y
    rw [emb11]
    exact dppAt h t _ _
  · rw [outsAt0_C m c t h0 h1]
    dsimp only
    frame_out
    idx_vars y
    rw [emb11]
    exact dppAt h t _ _

/-- The fifth result: the gradient with respect to the norm's gain, summed over the blocks. -/
theorem out12 (h : Args m c A) :
    (dats m 0 c).arrAt 12 (cfgs 0).N = fun y => ((∑ i, Tail.dg A.WP A.g (A.y i) (A.q i) (A.T i) (y 1) : ℝ) : EReal) := by
  refine (dats m 0 c).arrAt_eq_of_after_last 12 t0_15 (by decide +kernel) _ fun j => ?_
  blk_simp
  rw [after0_12]
  rw [Pipeline.eq_sum_fin_of_reset_step_apply_last (fun n h => (outsAt0 m c n h).2.2.2.2.1) 16 (fun _ => 0)
    (fun t y => ((∑ i, Tail.dg A.WP A.g (A.y (row t i)) (A.q (row t i)) (A.T (row t i)) (y 1) : ℝ) : EReal)) ?_ ?_ (le_of_eq Gen.N_0) Gen.t0_15 rfl j]
  · rw [sum_coe, zero_add]
    exact congrArg _ (Fin.sum_mul_add_fin 16 512 fun i => Tail.dg A.WP A.g (A.y i) (A.q i) (A.T i) (j 1))
  · intro t ht i
    rw [outsAt0_A m c t ht (by omega)]
    dsimp only
    frame_out
    idx_vars i
    refine (dgAt h t _ _ _).trans ?_
    pointwise [k0_pay2]
  · intro t ht i
    by_cases h1 : t.val % 16 = 15
    · rw [outsAt0_C m c t ht h1]
      dsimp only
      frame_out
      idx_vars i
      exact dgAt h t _ _ _
    · rw [outsAt0_B m c t ht h1]
      dsimp only
      frame_out
      idx_vars i
      exact dgAt h t _ _ _

/-- The scratch after the last block: each column's squared distances, summed over the rows. -/
theorem acc (h : Args m c A) (j : S1x1024.Idx) :
    (outsAt0 m c t0_15.val t0_15.isLt).2.2.2.2.2.2 j = ((∑ i, Tail.sq A.WP A.g (A.y i) (A.q i) (A.T i) (j 1) : ℝ) : EReal) := by
  rw [Pipeline.eq_sum_fin_of_reset_step_apply_last (fun n h => (outsAt0 m c n h).2.2.2.2.2.2) 16 (fun _ => 0)
    (fun t y => ((∑ i, Tail.sq A.WP A.g (A.y (row t i)) (A.q (row t i)) (A.T (row t i)) (y 1) : ℝ) : EReal)) ?_ ?_ (le_of_eq Gen.N_0) Gen.t0_15 rfl j]
  · rw [sum_coe, zero_add]
    exact congrArg _ (Fin.sum_mul_add_fin 16 512 fun i => Tail.sq A.WP A.g (A.y i) (A.q i) (A.T i) (j 1))
  · intro t ht i
    rw [outsAt0_A m c t ht (by omega)]
    dsimp only
    frame_out
    idx_vars i
    refine (sqAt h t _ _ _).trans ?_
    pointwise [k0_pay3]
  · intro t ht i
    by_cases h1 : t.val % 16 = 15
    · rw [outsAt0_C m c t ht h1]
      dsimp only
      frame_out
      idx_vars i
      refine (sqAt h t _ _ _).trans ?_
      rw [read_unread_whole]
    · rw [outsAt0_B m c t ht h1]
      dsimp only
      frame_out
      idx_vars i
      refine (sqAt h t _ _ _).trans ?_
      rw [read_unread_whole]

/-- The sixth result: the loss. -/
theorem out13 (h : Args m c A) :
    (dats m 0 c).arrAt 13 (cfgs 0).N = fun _ => (((∑ j, ∑ i, Tail.sq A.WP A.g (A.y i) (A.q i) (A.T i) j) * (1 / 2048) : ℝ) : EReal) := by
  refine (dats m 0 c).arrAt_eq_of_after_last 13 t0_15 (by decide +kernel) _ fun j => ?_
  blk_simp
  rw [after0_13]
  have e : (outsAt0 m c t0_15.val t0_15.isLt).2.2.2.2.2.1 = k0_pay1 (outsAt0 m c t0_15.val t0_15.isLt).2.2.2.2.2.2 := by
    rw [outsAt0_C m c t0_15 (by decide) (by decide)]
    dsimp only
    frame_out
  rw [e]
  idx_vars j
  exact pay1_coe _ _ (fun k => acc h (ix2 0 k)) _ _

end Cert.FwdTailIdeal.Hand
-- ==== Proof.TailRef.lean ====
module

public import proofs.«01_k».proof.Proof.Gen.FwdTailRefIdeal.Run
public import proofs.«01_k».proof.Proof.Gen.FwdTailRefIdeal.Read
public import proofs.«01_k».proof.Proof.TailSpec
public import Idealize.ShloMosaic.Lib.Pointwise

@[expose] public section

set_option maxRecDepth 16384

noncomputable section

/-! The reference of the gate and the loss, read as real numbers. -/

namespace Cert.FwdTailRefIdeal.Hand

open Cert.FwdTailRefIdeal Cert.FwdTailRefIdeal.Gen Cert.FwdTailRefIdeal.Value Cert.FwdTailRefIdeal.Read Cert.Hand Idealize.ShloMosaic Idealize.ShloMosaic.TcCoe Idealize.SL.Sem

variable {x0 x3 : FVec Ideal S8192x1024 .f32} {x1 : FVec Ideal S8192x2816 .f32} {x2 : FVec Ideal S8192x256 .f32} {x4 : FVec Ideal S2816x1024 .f32}
  {x5 : FVec Ideal S1024x1024 .f32} {x6 : FVec Ideal S256x1024 .f32} {x7 : FVec Ideal S1x1024 .f32}
variable {X T Y Q : Fin 8192 → Fin 1024 → ℝ} {ACT : Fin 8192 → Fin 2816 → ℝ} {PE : Fin 8192 → Fin 256 → ℝ} {WD : Fin 2816 → Fin 1024 → ℝ}
  {WP : Fin 1024 → Fin 1024 → ℝ} {PJ : Fin 256 → Fin 1024 → ℝ} {g : Fin 1024 → ℝ}

theorem div_sg (x : ℝ) : Ideal.div 1 (1 + Ideal.exp (-((x : ℝ) : EReal))) = ((sg x : ℝ) : EReal) := Ideal.logistic_coe x

theorem ofBits_two : Ideal.ofBits .f32 0x40000000#32 = ((2 : ℝ) : EReal) := by
  simp [Ideal.ofBits, Ideal.ieee, -EReal.coe_mul]; norm_num

theorem v2 (h0 : ∀ i j, x0 (ix2 i j) = ((X i j : ℝ) : EReal)) (h1 : ∀ i j, x1 (ix2 i j) = ((ACT i j : ℝ) : EReal))
    (h4 : ∀ i j, x4 (ix2 i j) = ((WD i j : ℝ) : EReal)) (i : Fin 8192) (j : Fin 1024) :
    val_main_v2 (F := Ideal) x0 x1 x4 (ix2 i j) = ((Tail.x2 WD (X i) (ACT i) j : ℝ) : EReal) := by
  pointwise [val_main_v2, val_main_v1]
  simp only [h0, h1, h4, ← EReal.coe_mul, sum_coe, ← EReal.coe_add]
  rfl

section
variable (hy : ∀ i j, val_main_v2 (F := Ideal) x0 x1 x4 (ix2 i j) = ((Y i j : ℝ) : EReal))
include hy

theorem v9 (i : Fin 8192) (k : Fin 1) : val_main_v9 (F := Ideal) x0 x1 x4 (ix2 i k) = ((ms (1 / 1024) (Y i) : ℝ) : EReal) := by
  pointwise [val_main_v9, val_main_v8, val_main_v7, val_main_v6, val_main_v5, val_main_v4, val_main_v3, val_main_cst_0, val_main_cst_1, val_main_cst_2]
  simp only [hy, ofBits_1024, ofBits_eps, ← EReal.coe_mul, sum_coe, div_1024, ← EReal.coe_add]
  rfl

theorem v10 (i : Fin 8192) (k : Fin 1) : val_main_v10 (F := Ideal) x0 x1 x4 (ix2 i k) = ((rn (1 / 1024) (Y i) : ℝ) : EReal) := by
  pointwise [val_main_v10]
  rw [v9 hy]
  exact rsqrt_coe_pos (ms_pos (by norm_num) _)

theorem v15 (i : Fin 8192) (j : Fin 1024) : val_main_v15 (F := Ideal) x0 x1 x4 (ix2 i j) = ((Y i j * rn (1 / 1024) (Y i) : ℝ) : EReal) := by
  pointwise [val_main_v15, val_main_v14]
  rw [hy, v10 hy, ← EReal.coe_mul]

/-- The normed rows. -/
theorem v17 (h7 : ∀ j, x7 (ix2 0 j) = ((g j : ℝ) : EReal)) (i : Fin 8192) (j : Fin 1024) :
    val_main_v17 (F := Ideal) x0 x1 x4 x7 (ix2 i j) = ((Tail.h3 g (Y i) j : ℝ) : EReal) := by
  pointwise [val_main_v17, val_main_v16]
  rw [v15 hy, h7, ← EReal.coe_mul]
  rfl

/-- The gate. -/
theorem v25 (h5 : ∀ i j, x5 (ix2 i j) = ((WP i j : ℝ) : EReal)) (h7 : ∀ j, x7 (ix2 0 j) = ((g j : ℝ) : EReal)) (i : Fin 8192) (j : Fin 1024) :
    val_main_v25 (F := Ideal) x0 x1 x4 x5 x7 (ix2 i j) = ((Tail.s WP g (Y i) j : ℝ) : EReal) := by
  pointwise [val_main_v25, val_main_v24, val_main_v23, val_main_v22, val_main_v21, val_main_v20, val_main_v19, val_main_v18, val_main_v0, val_main_cst, val_main_cst_4, val_main_cst_5]
  simp only [v17 hy h7, h5, ← EReal.coe_mul, sum_coe]
  exact div_sg _
end

/-- The projected embedding. -/
theorem v30 (h2 : ∀ i j, x2 (ix2 i j) = ((PE i j : ℝ) : EReal)) (h6 : ∀ i j, x6 (ix2 i j) = ((PJ i j : ℝ) : EReal)) (i : Fin 8192) (j : Fin 1024) :
    val_main_v30 (F := Ideal) x2 x6 (ix2 i j) = ((Tail.pp PJ (PE i) j : ℝ) : EReal) := by
  pointwise [val_main_v30, val_main_v29, val_main_v0, val_main_cst]
  simp only [h2, h6, ← EReal.coe_mul, sum_coe]
  rfl

section
variable (hy : ∀ i j, val_main_v2 (F := Ideal) x0 x1 x4 (ix2 i j) = ((Y i j : ℝ) : EReal))
  (hs : ∀ i j, val_main_v25 (F := Ideal) x0 x1 x4 x5 x7 (ix2 i j) = ((Tail.s WP g (Y i) j : ℝ) : EReal))
  (hq : ∀ i j, val_main_v30 (F := Ideal) x2 x6 (ix2 i j) = ((Q i j : ℝ) : EReal))
  (h3 : ∀ i j, x3 (ix2 i j) = ((T i j : ℝ) : EReal))
include hy hs hq h3

theorem v33 (i : Fin 8192) (j : Fin 1024) :
    val_main_v33 (F := Ideal) x0 x1 x2 x3 x4 x5 x6 x7 (ix2 i j) = ((Tail.err WP g (Y i) (Q i) (T i) j : ℝ) : EReal) := by
  pointwise [val_main_v33, val_main_v32, val_main_v31]
  rw [hy, hs, hq, h3, ← EReal.coe_mul, ← EReal.coe_add, ← EReal.coe_sub]
  rfl

/-- The loss. -/
theorem v75 (i : Fin 1) (j : Fin 128) :
    val_main_v75 (F := Ideal) x0 x1 x2 x3 x4 x5 x6 x7 (ix2 i j) = (((∑ j, ∑ i, Tail.sq WP g (Y i) (Q i) (T i) j) * (1 / 2048) : ℝ) : EReal) := by
  pointwise [val_main_v75, val_main_v41, val_main_v40, val_main_v39, val_main_v38, val_main_v37, val_main_v34, val_main_cst_7, val_main_cst_8, val_main_cst_9, val_main_cst_10, val_main_cst_11]
  simp only [v33 hy hs hq h3, ofBits_1024, ofBits_half, ← EReal.coe_mul, sum_coe, div_1024]
  refine congrArg _ ?_
  rw [Finset.sum_comm, ← Finset.sum_mul]
  simp only [Tail.sq]
  ring

/-- The loss' gradient with respect to the output. -/
theorem v47 (i : Fin 8192) (j : Fin 1024) :
    val_main_v47 (F := Ideal) x0 x1 x2 x3 x4 x5 x6 x7 (ix2 i j) = ((Tail.dx3 WP g (Y i) (Q i) (T i) j : ℝ) : EReal) := by
  pointwise [val_main_v47, val_main_v46, val_main_v45, val_main_v44, val_main_v43, val_main_v42, val_main_v36, val_main_v35, val_main_cst_7, val_main_cst_8, val_main_cst_12, val_main_cst_13, val_main_cst_14]
  simp only [v33 hy hs hq h3, ofBits_1024, ofBits_half, ofBits_two, ← EReal.coe_mul, div_1024]
  refine congrArg _ ?_
  rw [Tail.dx3]
  ring

/-- The gradient with respect to the projected embedding. -/
theorem v48 (i : Fin 8192) (j : Fin 1024) :
    val_main_v48 (F := Ideal) x0 x1 x2 x3 x4 x5 x6 x7 (ix2 i j) = ((Tail.dpp WP g (Y i) (Q i) (T i) j : ℝ) : EReal) := by
  pointwise [val_main_v48]
  rw [v47 hy hs hq h3, hs, ← EReal.coe_mul]
  exact congrArg _ (mul_comm _ _)

/-- The gradient with respect to the gate's argument. -/
theorem v50 (i : Fin 8192) (j : Fin 1024) :
    val_main_v50 (F := Ideal) x0 x1 x2 x3 x4 x5 x6 x7 (ix2 i j) = ((Tail.ds WP g (Y i) (Q i) (T i) j : ℝ) : EReal) := by
  pointwise [val_main_v50, val_main_v49, val_main_v28, val_main_v27, val_main_v26, val_main_cst_6]
  simp only [v47 hy hs hq h3, hs, hq, ← EReal.coe_one, ← EReal.coe_sub, ← EReal.coe_mul]
  rfl

theorem v51 (h5 : ∀ i j, x5 (ix2 i j) = ((WP i j : ℝ) : EReal)) (i : Fin 8192) (k : Fin 1024) :
    val_main_v51 (F := Ideal) x0 x1 x2 x3 x4 x5 x6 x7 (ix2 i k) = ((Tail.dh WP g (Y i) (Q i) (T i) k : ℝ) : EReal) := by
  pointwise [val_main_v51]
  simp only [v50 hy hs hq h3, h5, ← EReal.coe_mul, sum_coe]
  rfl

theorem v54 (h5 : ∀ i j, x5 (ix2 i j) = ((WP i j : ℝ) : EReal)) (i : Fin 1) (j : Fin 1024) :
    val_main_v54 (F := Ideal) x0 x1 x2 x3 x4 x5 x6 x7 (ix2 i j) = ((∑ i, Tail.dg WP g (Y i) (Q i) (T i) j : ℝ) : EReal) := by
  pointwise [val_main_v54, val_main_v53, val_main_v52, val_main_cst_15]
  simp only [v51 hy hs hq h3 h5, v15 hy, ← EReal.coe_mul, sum_coe]
  exact congrArg _ (Finset.sum_congr rfl fun k _ => mul_comm _ _)

/-- The gradient with respect to the block's output before the gate. -/
theorem v71 (h5 : ∀ i j, x5 (ix2 i j) = ((WP i j : ℝ) : EReal)) (h7 : ∀ j, x7 (ix2 0 j) = ((g j : ℝ) : EReal)) (i : Fin 8192) (j : Fin 1024) :
    val_main_v71 (F := Ideal) x0 x1 x2 x3 x4 x5 x6 x7 (ix2 i j) = ((Tail.dx2 WP g (Y i) (Q i) (T i) j : ℝ) : EReal) := by
  pointwise [val_main_v71, val_main_v70, val_main_v69, val_main_v68, val_main_v67, val_main_v66, val_main_v65, val_main_v64, val_main_v63, val_main_v62, val_main_v61, val_main_v60, val_main_v59, val_main_v58, val_main_v57, val_main_v56, val_main_v55, val_main_v13, val_main_v12, val_main_v11, val_main_cst_3, val_main_cst_16, val_main_cst_17, val_main_cst_18]
  simp only [hy, h7, v47 hy hs hq h3, v10 hy, v9 hy, v51 hy hs hq h3 h5, ofBits_1024, ofBits_neg_half, div_ms_pos_1024, Finset.univ_unique, Finset.sum_singleton,
    ← EReal.coe_mul, sum_coe, div_1024, ← EReal.coe_add]
  rw [Tail.dx2, ← normGrad_chain (by norm_num)]
  congr 1
  ring

end

end Cert.FwdTailRefIdeal.Hand
-- ==== Proof.TailClaim.lean ====
module

public import proofs.«01_k».proof.Defs
public import proofs.«01_k».proof.Proof.Gen.Pre_fwd_tail_finite
public import proofs.«01_k».proof.Proof.Gen.FwdTail.Frame
public import proofs.«01_k».proof.Proof.TailOut
public import proofs.«01_k».proof.Proof.TailRef

@[expose] public section

set_option maxRecDepth 16384

noncomputable section

/-! The claims about the gate and the loss. -/

namespace Cert.FwdTailIdeal.Hand

open Cert.FwdTailIdeal Cert.FwdTailIdeal.Gen Cert.Hand Idealize.ShloMosaic Idealize.ShloMosaic.TcCoe Idealize.SL.Sem

/-- The real numbers that the arguments hold. -/
def arrs (m : (ℓ : Loc nD τ sig) → Buf (Elt Ideal) ℓ) (c : Dev nD) : Arrs where
  X := fun i j => (m ((c.tc : Thread nD τ).loc main_arg0) (ix2 i j)).toReal
  ACT := fun i j => (m ((c.tc : Thread nD τ).loc main_arg1) (ix2 i j)).toReal
  PE := fun i j => (m ((c.tc : Thread nD τ).loc main_arg2) (ix2 i j)).toReal
  T := fun i j => (m ((c.tc : Thread nD τ).loc main_arg3) (ix2 i j)).toReal
  WD := fun i j => (m ((c.tc : Thread nD τ).loc main_arg4) (ix2 i j)).toReal
  WP := fun i j => (m ((c.tc : Thread nD τ).loc main_arg5) (ix2 i j)).toReal
  PJ := fun i j => (m ((c.tc : Thread nD τ).loc main_arg6) (ix2 i j)).toReal
  g := fun j => (m ((c.tc : Thread nD τ).loc main_arg7) (ix2 0 j)).toReal

/-- Under the precondition every element of every argument is a real number. -/
theorem args (m : (ℓ : Loc nD τ sig) → Buf (Elt Ideal) ℓ) (h : Cert.Pre_FwdTailIdeal_fwd_tail_finite m) (c : Dev nD) : Args m c (arrs m c) := by
  have H := congrFun (h c) (Shape.Idx.first Cert.Pre_fwd_tail_finite.Facts.h_S_)
  dsimp only [Cert.Pre_fwd_tail_finite.fn, Cert.Pre_fwd_tail_finite.fn_part1, Cert.Pre_fwd_tail_finite.fn_part2] at H
  obtain ⟨H, e7⟩ := and_split H
  obtain ⟨H, e6⟩ := and_split H
  obtain ⟨H, e5⟩ := and_split H
  obtain ⟨H, e4⟩ := and_split H
  obtain ⟨H, e3⟩ := and_split H
  obtain ⟨H, e2⟩ := and_split H
  obtain ⟨e0, e1⟩ := and_split H
  haveI : Subsingleton Cert.Pre_fwd_tail_finite.S_.Idx := ⟨fun a b => funext fun i => i.elim0⟩
  have hz {s : Shape} (hb : Cert.Pre_fwd_tail_finite.S_.BroadcastsInDim s ![]) (i : s.Idx) :
      (broadcastInDim s ![] hb (constant Cert.Pre_fwd_tail_finite.S_ .f32 0x00000000#32) : FVec Ideal s .f32) i = 0 := by
    pointwise
  exact
    { h0 := fun i j => finite_of_all _ _ _ _ _ _ (hz _) e0 (ix2 i j)
      h1 := fun i j => finite_of_all _ _ _ _ _ _ (hz _) e1 (ix2 i j)
      h2 := fun i j => finite_of_all _ _ _ _ _ _ (hz _) e2 (ix2 i j)
      h3 := fun i j => finite_of_all _ _ _ _ _ _ (hz _) e3 (ix2 i j)
      h4 := fun i j => finite_of_all _ _ _ _ _ _ (hz _) e4 (ix2 i j)
      h5 := fun i j => finite_of_all _ _ _ _ _ _ (hz _) e5 (ix2 i j)
      h6 := fun i j => finite_of_all _ _ _ _ _ _ (hz _) e6 (ix2 i j)
      h7 := fun j => finite_of_all _ _ _ _ _ _ (hz _) e7 (ix2 0 j) }

end Cert.FwdTailIdeal.Hand

namespace Cert.Hand.Tail

open Idealize.ShloMosaic Idealize.ShloMosaic.TcCoe Idealize.SL.Sem

/-- The reference leaves its arguments as they were. -/
theorem frame_ref : Cert.quiescent_FwdTailRefIdeal := fun m ρ _ =>
  (θ_run FwdTailRefIdeal.defs _ _).mono (fun r h => ⟨fun c => (h c).2.2.2.2.2.2, sem_eq_zero_of_no_sems (by decide) r.2⟩)
    (FwdTailRefIdeal.Value.run (F := Ideal) m ρ)

set_option maxHeartbeats 1600000 in
/-- Kernel and reference leave the same results. -/
theorem algebraic : Cert.algebraic_FwdTailIdeal_FwdTailRefIdeal_pre_fwd_tail_finite := by
  intro m g m' g' hp hm
  have A := fun c => FwdTailIdeal.Hand.args m hp c
  refine ⟨_, _, _, _, _, _, FwdTailIdeal.Value.run_blocks (F := Ideal) m g,
    (θ_run FwdTailRefIdeal.defs _ _).mono (fun r h c => ?_) (FwdTailRefIdeal.Value.run (F := Ideal) m' g')⟩
  obtain ⟨r0, r1, r2, r3, r4, r5, ha⟩ := h c
  obtain ⟨m0, m1, m2, m3, m4, m5, m6, m7⟩ := hm c
  obtain ⟨h0, h1, h2, h3, h4, h5, h6, h7⟩ := A c
  have hy := FwdTailRefIdeal.Hand.v2 h0 h1 h4
  have hs := FwdTailRefIdeal.Hand.v25 hy h5 h7
  have hq := FwdTailRefIdeal.Hand.v30 h2 h6
  refine ⟨r0.trans (Eq.trans ?_ (FwdTailIdeal.Hand.out8 (A c)).symm), r1.trans (Eq.trans ?_ (FwdTailIdeal.Hand.out9 (A c)).symm), r2.trans (Eq.trans ?_ (FwdTailIdeal.Hand.out10 (A c)).symm), r3.trans (Eq.trans ?_ (FwdTailIdeal.Hand.out11 (A c)).symm), r4.trans (Eq.trans ?_ (FwdTailIdeal.Hand.out12 (A c)).symm), r5.trans (Eq.trans ?_ (FwdTailIdeal.Hand.out13 (A c)).symm), ha⟩
  · rw [FwdTailRefIdeal.Read.val_main_v71_eq, m0, m1, m2, m3, m4, m5, m6, m7]
    funext y
    idx_vars y
    exact FwdTailRefIdeal.Hand.v71 hy hs hq h3 h5 h7 _ _
  · rw [FwdTailRefIdeal.Read.val_main_v72_eq, m0, m1, m4, m7]
    funext y
    idx_vars y
    exact FwdTailRefIdeal.Hand.v17 hy h7 _ _
  · rw [FwdTailRefIdeal.Read.val_main_v73_eq, m0, m1, m2, m3, m4, m5, m6, m7]
    funext y
    idx_vars y
    exact FwdTailRefIdeal.Hand.v50 hy hs hq h3 _ _
  · rw [FwdTailRefIdeal.Read.val_main_v74_eq, m0, m1, m2, m3, m4, m5, m6, m7]
    funext y
    idx_vars y
    exact FwdTailRefIdeal.Hand.v48 hy hs hq h3 _ _
  · rw [FwdTailRefIdeal.Read.val_main_v54_eq, m0, m1, m2, m3, m4, m5, m6, m7]
    funext y
    idx_vars y
    exact FwdTailRefIdeal.Hand.v54 hy hs hq h3 h5 _ _
  · rw [FwdTailRefIdeal.Read.val_main_v75_eq, m0, m1, m2, m3, m4, m5, m6, m7]
    funext y
    idx_vars y
    exact FwdTailRefIdeal.Hand.v75 hy hs hq h3 _ _

/-- The claims about this call, in the order in which they are stated. -/
theorem claims : Cert.quiescent_FwdTail ∧ Cert.quiescent_FwdTailIdeal ∧ Cert.quiescent_FwdTailIdeal_pre_fwd_tail_finite ∧ Cert.quiescent_FwdTailRefIdeal
    ∧ Cert.quiescent_FwdTailRefIdeal_pre_fwd_tail_finite ∧ Cert.preserves_FwdTail_FwdTailIdeal ∧ Cert.algebraic_FwdTailIdeal_FwdTailRefIdeal_pre_fwd_tail_finite :=
  ⟨fun m ρ _ => FwdTail.Gen.frame m ρ, fun m ρ _ => FwdTailIdeal.Gen.frame m ρ, fun m ρ _ => FwdTailIdeal.Gen.frame m ρ, frame_ref,
    fun m ρ _ => frame_ref m ρ trivial, trivial, algebraic⟩

end Cert.Hand.Tail
-- ==== Proof.FMixSpec.lean ====
module

public import proofs.«01_k».proof.Proof.ConvSpec

@[expose] public section

noncomputable section

/-! The forward mixer: the norm, the product, the gated short convolution with its norm, the query and key norms. -/

namespace Cert.Hand.FMix

open Idealize.ShloMosaic

/-- A head's columns of a row. -/
def head (v : Fin 512 → ℝ) (h : Fin 8) (l : Fin 64) : ℝ := v ⟨64 * h.val + l.val, by omega⟩

/-- The head that a column belongs to, and its place there. -/
def hd (j : Fin 512) : Fin 8 := ⟨j.val / 64, by omega⟩
def pl (j : Fin 512) : Fin 64 := ⟨j.val % 64, by omega⟩

theorem head_hd (v : Fin 512 → ℝ) (j : Fin 512) : head v (hd j) (pl j) = v j :=
  congrArg v (Fin.ext (by simp only [hd, pl]; omega))

/-- The mean over a column's head, as a sum over all columns. -/
theorem head_sum (f : Fin 512 → ℝ) (j : Fin 512) :
    ∑ k, f k * (if k.val / 64 = j.val / 64 then 1 / 64 else 0) = (∑ l, head f (hd j) l) * (1 / 64) := by
  have e : ∑ k : Fin 512, f k * (if k.val / 64 = j.val / 64 then (1 / 64 : ℝ) else 0)
      = ∑ h : Fin 8, ∑ l : Fin 64, head f h l * (if h = hd j then 1 / 64 else 0) := by
    rw [← finProdFinEquiv.sum_comp (fun k : Fin (8 * 64) => f k * (if k.val / 64 = j.val / 64 then (1 / 64 : ℝ) else 0)), Fintype.sum_prod_type]
    refine Finset.sum_congr rfl fun h _ => Finset.sum_congr rfl fun l _ => ?_
    have e1 : (finProdFinEquiv (h, l)).val = l.val + 64 * h.val := rfl
    have e2 : f (finProdFinEquiv (h, l)) = head f h l := congrArg f (Fin.ext (by rw [e1]; simp; omega))
    rw [e2, e1]
    congr 1
    refine if_congr ?_ rfl rfl
    rw [Fin.ext_iff]
    simp only [hd]
    omega
  rw [e, Finset.sum_eq_single (hd j)]
  · simp only [if_true, Finset.sum_mul]
  · intro b _ hb
    simp [if_neg hb]
  · intro h; exact absurd (Finset.mem_univ _) h

/-- The normed row. -/
def headNorm (v : Fin 512 → ℝ) (j : Fin 512) : ℝ := v j * rn (1 / 64) (head v (hd j))

section
variable (X : Fin 8192 → Fin 1024 → ℝ) (gm : Fin 1024 → ℝ) (WI : Fin 1024 → Fin 3072 → ℝ)

/-- The normed input. -/
def h1 (r : Fin 8192) (k : Fin 1024) : ℝ := X r k * rn (1 / 1024) (X r) * gm k

/-- The mixer's six inputs side by side. -/
def z (r : Fin 8192) (j : Fin 3072) : ℝ := ∑ k, h1 X gm r k * WI k j
end

section
variable (Z : Fin 8192 → Fin 3072 → ℝ) (CW : Fin 3 → Fin 512 → ℝ) (CB : Fin 512 → ℝ)

/-- One of the six inputs. -/
def sl (k : Fin 6) (r : Fin 8192) (j : Fin 512) : ℝ := Z r ⟨512 * k.val + j.val, by omega⟩

/-- What the convolution is taken of. -/
def u (r : Fin 8192) (j : Fin 512) : ℝ := sl Z 1 r j * sl Z 2 r j

/-- The convolution. -/
def cv (r : Fin 8192) (j : Fin 512) : ℝ :=
  prev (fun s => u Z s j) 2 r * CW 0 j + prev (fun s => u Z s j) 1 r * CW 1 j + u Z r j * CW 2 j + CB j

/-- The gated convolution. -/
def yc (r : Fin 8192) (j : Fin 512) : ℝ := sl Z 0 r j * cv Z CW CB r j

/-- The same, normed and times the gain. -/
def ycn (goc : Fin 512 → ℝ) (r : Fin 8192) (j : Fin 512) : ℝ := yc Z CW CB r j * rn (1 / 512) (yc Z CW CB r) * goc j

/-- The queries and the keys by heads, normed. -/
def qn (gq : Fin 64 → ℝ) (r : Fin 8192) (j : Fin 512) : ℝ := headNorm (sl Z 3 r) j * gq (pl j) * (1 / 8)
def kn (gk : Fin 64 → ℝ) (r : Fin 8192) (j : Fin 512) : ℝ := headNorm (sl Z 4 r) j * gk (pl j)

/-- The same side by side. -/
def qkn (gq gk : Fin 64 → ℝ) (r : Fin 8192) (j : Fin 1024) : ℝ :=
  if h : j.val < 512 then qn Z gq r ⟨j.val, h⟩ else kn Z gk r ⟨j.val - 512, by omega⟩
end

theorem ofBits_64 : Ideal.ofBits .f32 0x42800000#32 = ((64 : ℝ) : EReal) := by
  simp [Ideal.ofBits, Ideal.ieee, -EReal.coe_mul]; norm_num

theorem ofBits_eighth : Ideal.ofBits .f32 0x3E000000#32 = ((1 / 8 : ℝ) : EReal) := by
  simp [Ideal.ofBits, Ideal.ieee, -EReal.coe_mul]; norm_num

theorem div_64 (x : ℝ) : Ideal.div (x : EReal) ((64 : ℝ) : EReal) = ((x * (1 / 64) : ℝ) : EReal) := by
  rw [Ideal.div_coe (by norm_num), EReal.coe_mul]

end Cert.Hand.FMix
-- ==== Proof.FMixKernel.lean ====
module

public import proofs.«01_k».proof.Proof.Gen.FwdMixIdeal.Value
public import proofs.«01_k».proof.Proof.FMixSpec
public import proofs.«01_k».proof.Proof.Pieces

@[expose] public section

set_option maxRecDepth 16384

noncomputable section

/-! The forward mixer, read as real numbers: what its blocks hold, and what one grid point computes from them. -/

namespace Cert.FwdMixIdeal.Hand

open Cert.FwdMixIdeal Cert.FwdMixIdeal.Gen Cert.Hand Idealize.ShloMosaic Idealize.ShloMosaic.TcCoe Idealize.SL.Sem
open Idealize.ShloMosaic.Pipeline (Dat)

/-- The arguments as arrays of reals. -/
structure Arrs where
  X : Fin 8192 → Fin 1024 → ℝ
  gm : Fin 1024 → ℝ
  WI : Fin 1024 → Fin 3072 → ℝ
  CW : Fin 3 → Fin 512 → ℝ
  CB : Fin 512 → ℝ
  goc : Fin 512 → ℝ
  gq : Fin 64 → ℝ
  gk : Fin 64 → ℝ

/-- The mixer's six inputs side by side. -/
def Arrs.Z (A : Arrs) : Fin 8192 → Fin 3072 → ℝ := FMix.z A.X A.gm A.WI

variable (m : (ℓ : Loc nD τ sig) → Buf (Elt Ideal) ℓ) (c : Dev nD) (A : Arrs)

/-- The arguments are the images of arrays of reals. -/
structure Args : Prop where
  h0 : ∀ i j, m ((c.tc : Thread nD τ).loc main_arg0) (ix2 i j) = ((A.X i j : ℝ) : EReal)
  h1 : ∀ j, m ((c.tc : Thread nD τ).loc main_arg1) (ix2 0 j) = ((A.gm j : ℝ) : EReal)
  h2 : ∀ i j, m ((c.tc : Thread nD τ).loc main_arg2) (ix2 i j) = ((A.WI i j : ℝ) : EReal)
  h3 : ∀ i j, m ((c.tc : Thread nD τ).loc main_arg3) (ix2 i j) = ((A.CW i j : ℝ) : EReal)
  h4 : ∀ j, m ((c.tc : Thread nD τ).loc main_arg4) (ix2 0 j) = ((A.CB j : ℝ) : EReal)
  h5 : ∀ j, m ((c.tc : Thread nD τ).loc main_arg5) (ix2 0 j) = ((A.goc j : ℝ) : EReal)
  h6 : ∀ j, m ((c.tc : Thread nD τ).loc main_arg6) (ix2 0 j) = ((A.gq j : ℝ) : EReal)
  h7 : ∀ j, m ((c.tc : Thread nD τ).loc main_arg7) (ix2 0 j) = ((A.gk j : ℝ) : EReal)

theorem idx : ∀ t : Fin cfg0.N, win0_0.index t = ![t.val, 0] ∧ win0_1.index t = ![0, 0] ∧ win0_2.index t = ![0, 0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![t.val, 0] ∧ win0_10.index t = ![t.val, 0]
    ∧ win0_11.index t = ![t.val, 0] ∧ win0_12.index t = ![t.val, 0] :=
  (by decide +kernel : ∀ t : Fin grid0.N, _)

/-- The array row of a block's row. -/
def row (t : Fin cfg0.N) (i : Fin 512) : Fin 8192 := ⟨t.val * 512 + i, by have := t.isLt; have : cfg0.N = 16 := rfl; omega⟩

variable {m c A}

theorem blk0 (h : Args m c A) (t : Fin cfg0.N) (i : Fin 512) (j : Fin 1024) : iblk m c 0 t (ix2 i j) = ((A.X (row t i) j : ℝ) : EReal) := by
  rw [← h.h0]; blk_ext! [iblk, V, idx t, row]

theorem blk1 (h : Args m c A) (t : Fin cfg0.N) (j : Fin 1024) : iblk m c 1 t (ix2 0 j) = ((A.gm j : ℝ) : EReal) := by
  rw [← h.h1]; blk_ext! [iblk, V, idx t, row]

theorem blk3 (h : Args m c A) (t : Fin cfg0.N) (i : Fin 3) (j : Fin 512) : iblk m c 3 t (ix2 i j) = ((A.CW i j : ℝ) : EReal) := by
  rw [← h.h3]; blk_ext! [iblk, V, idx t, row]

theorem blk4 (h : Args m c A) (t : Fin cfg0.N) (j : Fin 512) : iblk m c 4 t (ix2 0 j) = ((A.CB j : ℝ) : EReal) := by
  rw [← h.h4]; blk_ext! [iblk, V, idx t, row]

theorem blk5 (h : Args m c A) (t : Fin cfg0.N) (j : Fin 512) : iblk m c 5 t (ix2 0 j) = ((A.goc j : ℝ) : EReal) := by
  rw [← h.h5]; blk_ext! [iblk, V, idx t, row]

/-- What the host lines before the call leave in a buffer, the lines in one list. -/
theorem V_eq (m : (ℓ : Loc nD τ sig) → Buf (Elt Ideal) ℓ) (c : Dev nD) (b) :
    V m c b = StableHlo.after (hostOps0 ++ (hostOps0_1 ++ hostOps0_2)) (fun b => m (c, b)) (Proc.tc.devRef b) := by
  simp [V]

/-- The projection by slabs of 768 columns. -/
theorem v17 (h : Args m c A) (s : Fin 4) (k : Fin 1024) (j : Fin 768) :
    V m c main_v17 (ix3 s k j) = ((A.WI k ⟨768 * s + j, by omega⟩ : ℝ) : EReal) := by
  rw [← h.h2, V_eq]
  simp only [hostOps0, hostOps0_1, hostOps0_2, List.cons_append, List.nil_append]
  entry_read
  pointwise
  exact congrArg (m (c, Proc.tc.devRef main_arg2)) (congrArg (ix2 k) (Fin.ext (by simp; omega)))

theorem v11 (h : Args m c A) (j : Fin 512) : V m c main_v11 (ix2 0 j) = ((A.gq (FMix.pl j) : ℝ) : EReal) := by
  rw [← h.h6, V_eq]
  simp only [hostOps0, hostOps0_1, hostOps0_2, List.cons_append, List.nil_append]
  entry_read
  pointwise
  rfl

theorem v14 (h : Args m c A) (j : Fin 512) : V m c main_v14 (ix2 0 j) = ((A.gk (FMix.pl j) : ℝ) : EReal) := by
  rw [← h.h7, V_eq]
  simp only [hostOps0, hostOps0_1, hostOps0_2, List.cons_append, List.nil_append]
  entry_read
  pointwise
  rfl

theorem ofBits_64th : Ideal.ofBits .f32 0x3C800000#32 = ((1 / 64 : ℝ) : EReal) := by
  simp [Ideal.ofBits, Ideal.ieee, -EReal.coe_mul]; norm_num

variable (m c) in
/-- The matrix that takes a row to its heads' means. -/
theorem v8 (i j : Fin 512) :
    V m c main_v8 (ix2 i j) = (((if i.val / 64 = j.val / 64 then 1 / 64 else 0 : ℝ) : ℝ) : EReal) := by
  rw [V_eq]
  simp only [hostOps0, hostOps0_1, hostOps0_2, List.cons_append, List.nil_append]
  entry_read
  simp only [StableHlo.TRef.toBuf, StableHlo.TRef.ofBuf, cast_cast, cast_eq]
  pointwise
  have e1 : ∀ a b : Fin 8, IntOp.cmpi .eq (IntOp.addi (BitVec.ofNat 32 a.val) 0#32) (BitVec.ofNat 32 b.val) = if a.val = b.val then 1#1 else 0#1 := by decide
  rw [e1 ⟨i.val / 64, by omega⟩ ⟨j.val / 64, by omega⟩, ofBits_64th]
  by_cases hij : i.val / 64 = j.val / 64
  · rw [if_pos hij, if_pos hij]
    simp [FloatOps.uitofp]
  · rw [if_neg hij, if_neg hij]
    simp [FloatOps.uitofp]

theorem emb2 (t : Fin cfg0.N) (s : Fin 4) (k : Fin 1024) (j : Fin 768) : (win0_2.blk t).view.emb (ix3 s k j) = ix3 s k j := by
  funext a; refine Fin.ext ?_; fin_cases a <;> simp [idx t]
theorem emb6 (t : Fin cfg0.N) (i j : Fin 512) : (win0_6.blk t).view.emb (ix2 i j) = ix2 i j := by
  funext a; refine Fin.ext ?_; fin_cases a <;> simp [idx t]
theorem emb7 (t : Fin cfg0.N) (j : Fin 512) : (win0_7.blk t).view.emb (ix2 0 j) = ix2 0 j := by
  funext a; refine Fin.ext ?_; fin_cases a <;> simp [idx t]
theorem emb8 (t : Fin cfg0.N) (j : Fin 512) : (win0_8.blk t).view.emb (ix2 0 j) = ix2 0 j := by
  funext a; refine Fin.ext ?_; fin_cases a <;> simp [idx t]

theorem blk2 (h : Args m c A) (t : Fin cfg0.N) (s : Fin 4) (k : Fin 1024) (j : Fin 768) :
    iblk m c 2 t (ix3 s k j) = ((A.WI k ⟨768 * s + j, by omega⟩ : ℝ) : EReal) := by
  rw [← v17 h]; exact congrArg (V m c main_v17) (emb2 t s k j)

theorem blk6 (t : Fin cfg0.N) (i j : Fin 512) :
    iblk m c 6 t (ix2 i j) = (((if i.val / 64 = j.val / 64 then 1 / 64 else 0 : ℝ) : ℝ) : EReal) := by
  rw [← v8 m c]; exact congrArg (V m c main_v8) (emb6 t i j)

theorem blk7 (h : Args m c A) (t : Fin cfg0.N) (j : Fin 512) : iblk m c 7 t (ix2 0 j) = ((A.gq (FMix.pl j) : ℝ) : EReal) := by
  rw [← v11 h]; exact congrArg (V m c main_v11) (emb7 t j)

theorem blk8 (h : Args m c A) (t : Fin cfg0.N) (j : Fin 512) : iblk m c 8 t (ix2 0 j) = ((A.gk (FMix.pl j) : ℝ) : EReal) := by
  rw [← v14 h]; exact congrArg (V m c main_v14) (emb8 t j)

/-! ## What one grid point computes -/

section

variable {x : Vec Ideal S512x1024 .f32} {g : Vec Ideal S1x1024 .f32} {w : Vec Ideal S1x1024x768 .bf16}
variable {X : Fin 512 → Fin 1024 → ℝ} {gm : Fin 1024 → ℝ} {W : Fin 1024 → Fin 768 → ℝ}

theorem pay4 (hx : ∀ i j, x (ix2 i j) = ((X i j : ℝ) : EReal)) (hg : ∀ j, g (ix2 0 j) = ((gm j : ℝ) : EReal)) (i : Fin 512) (j : Fin 1024) :
    k0_pay4 x g (ix2 i j) = ((X i j * rn (1 / 1024) (X i) * gm j : ℝ) : EReal) := by
  pointwise [k0_pay4]
  simp only [hx, hg, ← EReal.coe_mul, sum_coe, ofBits_1024, ofBits_eps, div_1024, ← EReal.coe_add, rsqrt_1024]

theorem pay5 (hx : ∀ i j, x (ix2 i j) = ((X i j : ℝ) : EReal)) (hg : ∀ j, g (ix2 0 j) = ((gm j : ℝ) : EReal))
    (hw : ∀ k j, w (ix3 0 k j) = ((W k j : ℝ) : EReal)) (i : Fin 512) (j : Fin 768) :
    k0_pay5 x g w (ix2 i j) = ((∑ k, X i k * rn (1 / 1024) (X i) * gm k * W k j : ℝ) : EReal) := by
  pointwise [k0_pay5]
  simp only [pay4 hx hg, hw, ← EReal.coe_mul, sum_coe]

theorem pay6 (hx : ∀ i j, x (ix2 i j) = ((X i j : ℝ) : EReal)) (hg : ∀ j, g (ix2 0 j) = ((gm j : ℝ) : EReal))
    (hw : ∀ k j, w (ix3 0 k j) = ((W k j : ℝ) : EReal)) (i : Fin 512) (j : Fin 768) :
    k0_pay6 x g w (ix2 i j) = ((∑ k, X i k * rn (1 / 1024) (X i) * gm k * W k j : ℝ) : EReal) := by
  pointwise [k0_pay6]
  simp only [pay4 hx hg, hw, ← EReal.coe_mul, sum_coe]

theorem pay7 (hx : ∀ i j, x (ix2 i j) = ((X i j : ℝ) : EReal)) (hg : ∀ j, g (ix2 0 j) = ((gm j : ℝ) : EReal))
    (hw : ∀ k j, w (ix3 0 k j) = ((W k j : ℝ) : EReal)) (i : Fin 512) (j : Fin 768) :
    k0_pay7 x g w (ix2 i j) = ((∑ k, X i k * rn (1 / 1024) (X i) * gm k * W k j : ℝ) : EReal) := by
  pointwise [k0_pay7]
  simp only [pay4 hx hg, hw, ← EReal.coe_mul, sum_coe]

theorem pay8 (hx : ∀ i j, x (ix2 i j) = ((X i j : ℝ) : EReal)) (hg : ∀ j, g (ix2 0 j) = ((gm j : ℝ) : EReal))
    (hw : ∀ k j, w (ix3 0 k j) = ((W k j : ℝ) : EReal)) (i : Fin 512) (j : Fin 768) :
    k0_pay8 (k0_pay4 x g) w (ix2 i j) = ((∑ k, X i k * rn (1 / 1024) (X i) * gm k * W k j : ℝ) : EReal) := by
  pointwise [k0_pay8]
  simp only [pay4 hx hg, hw, ← EReal.coe_mul, sum_coe]

end

section

variable {a b : Vec Ideal S512x512 .f32} {s : Vec Ideal S520x512 .f32} {w0 w1 w2 q : Vec Ideal S1x512 .f32} {e : Vec Ideal S512x512 .bf16}
variable {P Q : Fin 512 → Fin 512 → ℝ} {S : Fin 520 → Fin 512 → ℝ} {W0 W1 W2 C : Fin 512 → ℝ}

theorem pay9 (ha : ∀ i j, a (ix2 i j) = ((P i j : ℝ) : EReal)) (hb : ∀ i j, b (ix2 i j) = ((Q i j : ℝ) : EReal)) (i j : Fin 512) :
    k0_pay9 a b (ix2 i j) = ((P i j * Q i j : ℝ) : EReal) := by
  pointwise [k0_pay9]
  rw [ha, hb, EReal.coe_mul]

theorem pay10 (ha : ∀ i j, a (ix2 i j) = ((P i j : ℝ) : EReal)) (hb : ∀ i j, b (ix2 i j) = ((Q i j : ℝ) : EReal)) (i j : Fin 512) :
    k0_pay10 a b (ix2 i j) = ((P i j * Q i j : ℝ) : EReal) := by
  pointwise [k0_pay10]
  exact pay9 ha hb i j

theorem pay11 (ha : ∀ i j, a (ix2 i j) = ((P i j : ℝ) : EReal)) (hb : ∀ i j, b (ix2 i j) = ((Q i j : ℝ) : EReal))
    (hs : ∀ i j, s (ix2 i j) = ((S i j : ℝ) : EReal)) (h0 : ∀ j, w0 (ix2 0 j) = ((W0 j : ℝ) : EReal)) (h1 : ∀ j, w1 (ix2 0 j) = ((W1 j : ℝ) : EReal))
    (h2 : ∀ j, w2 (ix2 0 j) = ((W2 j : ℝ) : EReal)) (hq : ∀ j, q (ix2 0 j) = ((C j : ℝ) : EReal)) (i j : Fin 512) :
    k0_pay11 a b s w0 w1 w2 q (ix2 i j)
      = ((S ⟨i.val + 6, by omega⟩ j * W0 j + S ⟨i.val + 7, by omega⟩ j * W1 j + P i j * Q i j * W2 j + C j : ℝ) : EReal) := by
  pointwise [k0_pay11]
  rw [pay9 ha hb, h0, h1, h2, hq, hs, hs, ← EReal.coe_mul, ← EReal.coe_mul, ← EReal.coe_mul, ← EReal.coe_add, ← EReal.coe_add, ← EReal.coe_add]
  rw [show (⟨(8 + i.val + 520 - 2) % 520, by omega⟩ : Fin 520) = ⟨i.val + 6, by omega⟩ from Fin.ext (by simp; omega)]
  rw [show (⟨(8 + i.val + 520 - 1) % 520, by omega⟩ : Fin 520) = ⟨i.val + 7, by omega⟩ from Fin.ext (by simp; omega)]
  exact congrArg _ (by ring)

theorem pay12 (v : Vec Ideal S8x512 .f32) (i : Fin 8) (j : Fin 512) : k0_pay12 v (ix2 i j) = v (ix2 i j) := by pointwise [k0_pay12]

theorem pay13 (ha : ∀ i j, a (ix2 i j) = ((P i j : ℝ) : EReal)) (hb : ∀ i j, b (ix2 i j) = ((Q i j : ℝ) : EReal)) (hq : ∀ j, q (ix2 0 j) = ((C j : ℝ) : EReal)) (i j : Fin 512) :
    k0_pay13 a b q (ix2 i j) = ((Q i j * P i j * rn (1 / 512) (fun k => Q i k * P i k) * C j : ℝ) : EReal) := by
  pointwise [k0_pay13]
  simp only [ha, hb, hq, ← EReal.coe_mul, sum_coe, ofBits_512, ofBits_eps, div_512, ← EReal.coe_add, rsqrt_512]

theorem heads (v : Fin 512 → ℝ) (j : Fin 512) :
    Ideal.rsqrt (((∑ k, v k * v k * (if k.val / 64 = j.val / 64 then 1 / 64 else 0) : ℝ) + eps : ℝ) : EReal) = ((rn (1 / 64) (FMix.head v (FMix.hd j)) : ℝ) : EReal) := by
  rw [FMix.head_sum (fun k => v k * v k)]
  exact rsqrt_coe_pos (ms_pos (by norm_num) (FMix.head v (FMix.hd j)))

theorem pay1 (ha : ∀ i j, a (ix2 i j) = ((P i j : ℝ) : EReal)) (he : ∀ i j, e (ix2 i j) = (((if i.val / 64 = j.val / 64 then 1 / 64 else 0 : ℝ) : ℝ) : EReal))
    (hq : ∀ j, q (ix2 0 j) = ((C j : ℝ) : EReal)) (i j : Fin 512) :
    k0_pay1 (k0_pay14 a) (k0_pay16 a e) q (ix2 i j) = ((FMix.headNorm (P i) j * C j * (1 / 8) : ℝ) : EReal) := by
  pointwise [k0_pay1, k0_pay14, k0_pay16]
  simp only [ha, he, hq, ← EReal.coe_mul, sum_coe, ofBits_eps, FMix.ofBits_eighth, ← EReal.coe_add, heads]
  rfl

theorem pay2 (ha : ∀ i j, a (ix2 i j) = ((P i j : ℝ) : EReal)) (he : ∀ i j, e (ix2 i j) = (((if i.val / 64 = j.val / 64 then 1 / 64 else 0 : ℝ) : ℝ) : EReal))
    (hq : ∀ j, q (ix2 0 j) = ((C j : ℝ) : EReal)) (i j : Fin 512) :
    k0_pay2 (k0_pay15 a) (k0_pay17 a) e q (ix2 i j) = ((FMix.headNorm (P i) j * C j : ℝ) : EReal) := by
  pointwise [k0_pay2, k0_pay15, k0_pay17]
  simp only [ha, he, hq, ← EReal.coe_mul, sum_coe, ofBits_eps, ← EReal.coe_add, heads]
  rfl

end

end Cert.FwdMixIdeal.Hand
-- ==== Proof.FMixScratch.lean ====
module

public import proofs.«01_k».proof.Proof.FMixKernel

@[expose] public section

set_option maxRecDepth 16384

noncomputable section

/-! The forward mixer: the projection's two results, which it reads back by columns, and the rows it carries from one grid
    point to the next. -/

namespace Cert.FwdMixIdeal.Hand

open Cert.FwdMixIdeal Cert.FwdMixIdeal.Gen Cert.Hand Idealize.ShloMosaic Idealize.ShloMosaic.TcCoe Idealize.SL.Sem
open Idealize.ShloMosaic.Pipeline (Dat)

theorem unit_idx3 {a b d o0 o1 o2 s0 s1 s2 : ℕ} (inb : ∀ k : Fin 3, (![o0, o1, o2] : Fin 3 → ℕ) k + (![s0, s1, s2] : Fin 3 → ℕ) k ≤ (![a, b, d] : Fin 3 → ℕ) k)
    (i : Fin s0) (j : Fin s1) (k : Fin s2) :
    (Rect.unit (s := ⟨3, ![a, b, d]⟩) ![o0, o1, o2] ![s0, s1, s2] inb).emb (ix3 i j k)
      = ix3 ⟨o0 + i.val, by have := inb 0; simp at this; omega⟩ ⟨o1 + j.val, by have := inb 1; simp at this; omega⟩
        ⟨o2 + k.val, by have := inb 2; simp at this; omega⟩ := by
  funext l
  refine Fin.ext ?_
  fin_cases l <;> simp

variable {m : (ℓ : Loc nD τ sig) → Buf (Elt Ideal) ℓ} {c : Dev nD} {A : Arrs}

/-! ### The projection's two results -/

/-- A column of one of the two results, as a column of the projection. -/
def col (b : Fin 2) (j : Fin 1536) : Fin 3072 := ⟨1536 * b.val + j.val, by omega⟩

variable (A) in
/-- One of the two results on a block's rows. -/
def zG (b : Fin 2) (t : Fin cfg0.N) : S512x1536.Idx → Elt Ideal .f32 := fun y => ((A.Z (row t (y 0)) (col b (y 1)) : ℝ) : EReal)

variable (m c) in
abbrev w0 (t : Fin cfg0.N) : Vec Ideal S1x1024x768 .bf16 := View.ld (iblk m c 2 t) (Rect.unit (s := S4x1024x768) ![0, 0, 0] ![1, 1024, 768] inb_S4x1024x768_S1x1024x768_0_0_0)
variable (m c) in
abbrev w1 (t : Fin cfg0.N) : Vec Ideal S1x1024x768 .bf16 := View.ld (iblk m c 2 t) (Rect.unit (s := S4x1024x768) ![1, 0, 0] ![1, 1024, 768] inb_S4x1024x768_S1x1024x768_1_0_0)
variable (m c) in
abbrev w2 (t : Fin cfg0.N) : Vec Ideal S1x1024x768 .bf16 := View.ld (iblk m c 2 t) (Rect.unit (s := S4x1024x768) ![2, 0, 0] ![1, 1024, 768] inb_S4x1024x768_S1x1024x768_2_0_0)
variable (m c) in
abbrev w3 (t : Fin cfg0.N) : Vec Ideal S1x1024x768 .bf16 := View.ld (iblk m c 2 t) (Rect.unit (s := S4x1024x768) ![3, 0, 0] ![1, 1024, 768] inb_S4x1024x768_S1x1024x768_3_0_0)

variable (m c) in
/-- The stores of the first result. -/
abbrev zL (t : Fin cfg0.N) : List (View.Piece (Elt Ideal) S512x1536 .f32) :=
  [⟨Rect.unit ![0, 768] ![512, 768] inb_S512x1536_S512x768_0_768, k0_pay6 (iblk m c 0 t) (iblk m c 1 t) (w1 m c t)⟩,
    ⟨Rect.unit ![0, 0] ![512, 768] inb_S512x1536_S512x768_0_0, k0_pay5 (iblk m c 0 t) (iblk m c 1 t) (w0 m c t)⟩]

variable (m c) in
/-- The stores of the second result. -/
abbrev qL (t : Fin cfg0.N) : List (View.Piece (Elt Ideal) S512x1536 .f32) :=
  [⟨Rect.unit ![0, 768] ![512, 768] inb_S512x1536_S512x768_0_768, k0_pay8 (k0_pay4 (iblk m c 0 t) (iblk m c 1 t)) (w3 m c t)⟩,
    ⟨Rect.unit ![0, 0] ![512, 768] inb_S512x1536_S512x768_0_0, k0_pay7 (iblk m c 0 t) (iblk m c 1 t) (w2 m c t)⟩]

section

variable (h : Args m c A) (t : Fin cfg0.N)
include h

theorem wld {o : ℕ} (inb : ∀ k : Fin 3, (![o, 0, 0] : Fin 3 → ℕ) k + (![1, 1024, 768] : Fin 3 → ℕ) k ≤ (![4, 1024, 768] : Fin 3 → ℕ) k)
    (k : Fin 1024) (j : Fin 768) :
    View.ld (iblk m c 2 t) (Rect.unit (s := S4x1024x768) ![o, 0, 0] ![1, 1024, 768] inb) (ix3 0 k j)
      = ((A.WI k ⟨768 * o + j.val, by have := inb 0; simp at this; omega⟩ : ℝ) : EReal) :=
  (congrArg (iblk m c 2 t) (unit_idx3 inb 0 k j)).trans ((blk2 h t _ _ _).trans (by simp))

theorem zL_of : View.PiecesOf (zG A 0 t) (zL m c t) := by
  refine ⟨fun x => ?_, fun x => ?_, trivial⟩
  · idx_vars x
    refine Eq.trans ?_ (congrArg (zG A 0 t) (unit_idx inb_S512x1536_S512x768_0_768 x0 x1)).symm
    refine (pay6 (X := fun i => A.X (row t i)) (blk0 h t) (blk1 h t) (wld h t inb_S4x1024x768_S1x1024x768_1_0_0) x0 x1).trans ?_
    exact congrArg₂ (fun i j => ((A.Z (row t i) j : ℝ) : EReal)) (Fin.ext (by simp)) (Fin.ext (by simp [col]))
  · idx_vars x
    refine Eq.trans ?_ (congrArg (zG A 0 t) (unit_idx inb_S512x1536_S512x768_0_0 x0 x1)).symm
    refine (pay5 (X := fun i => A.X (row t i)) (blk0 h t) (blk1 h t) (wld h t inb_S4x1024x768_S1x1024x768_0_0_0) x0 x1).trans ?_
    exact congrArg₂ (fun i j => ((A.Z (row t i) j : ℝ) : EReal)) (Fin.ext (by simp)) (Fin.ext (by simp [col]))

theorem qL_of : View.PiecesOf (zG A 1 t) (qL m c t) := by
  refine ⟨fun x => ?_, fun x => ?_, trivial⟩
  · idx_vars x
    refine Eq.trans ?_ (congrArg (zG A 1 t) (unit_idx inb_S512x1536_S512x768_0_768 x0 x1)).symm
    refine (pay8 (X := fun i => A.X (row t i)) (blk0 h t) (blk1 h t) (wld h t inb_S4x1024x768_S1x1024x768_3_0_0) x0 x1).trans ?_
    exact congrArg₂ (fun i j => ((A.Z (row t i) j : ℝ) : EReal)) (Fin.ext (by simp)) (Fin.ext (by simp [col]; omega))
  · idx_vars x
    refine Eq.trans ?_ (congrArg (zG A 1 t) (unit_idx inb_S512x1536_S512x768_0_0 x0 x1)).symm
    refine (pay7 (X := fun i => A.X (row t i)) (blk0 h t) (blk1 h t) (wld h t inb_S4x1024x768_S1x1024x768_2_0_0) x0 x1).trans ?_
    exact congrArg₂ (fun i j => ((A.Z (row t i) j : ℝ) : EReal)) (Fin.ext (by simp)) (Fin.ext (by simp [col]))

omit h in
theorem cover (p q : View.Piece (Elt Ideal) S512x1536 .f32) (hp : p.1 = Rect.unit ![0, 768] ![512, 768] inb_S512x1536_S512x768_0_768)
    (hq : q.1 = Rect.unit ![0, 0] ![512, 768] inb_S512x1536_S512x768_0_0) (i : Fin 512) (j : Fin 1536) :
    ∃ r ∈ [p, q], (ix2 i j : S512x1536.Idx) ∈ r.1.set := by
  by_cases hj : j.val < 768
  · exact ⟨q, List.mem_cons_of_mem _ List.mem_cons_self, by rw [hq]; exact mem_unit inb_S512x1536_S512x768_0_0 i j (by omega) (by omega)⟩
  · exact ⟨p, List.mem_cons_self, by rw [hp]; exact mem_unit inb_S512x1536_S512x768_0_768 i j (by omega) (by omega)⟩

theorem canonZ (i : Fin 512) (j : Fin 1536) : View.canon (zL m c t) (ix2 i j) = ((A.Z (row t i) (col 0 j) : ℝ) : EReal) :=
  canon_of_blocks (zG A 0 t) _ (zL_of h t) (ix2 i j) (cover _ _ rfl rfl i j)

theorem canonQ (i : Fin 512) (j : Fin 1536) : View.canon (qL m c t) (ix2 i j) = ((A.Z (row t i) (col 1 j) : ℝ) : EReal) :=
  canon_of_blocks (zG A 1 t) _ (qL_of h t) (ix2 i j) (cover _ _ rfl rfl i j)

/-- What the body reads back of its first result, by columns. -/
theorem readZ {o : ℕ} (k : Fin 6) (hk : 512 * k.val = o) (inb : ∀ k : Fin 2, (![0, o] : Fin 2 → ℕ) k + (![512, 512] : Fin 2 → ℕ) k ≤ (![512, 1536] : Fin 2 → ℕ) k) (i j : Fin 512) :
    (ms0_9 t).view.readCov (zL m c t) (Rect.unit (s := S512x1536) ![0, o] ![512, 512] inb).toLoadRect (ix2 i j) = ((FMix.sl A.Z k (row t i) j : ℝ) : EReal) := by
  rw [View.readCov_eq_canon']
  refine (congrArg (View.canon _) (unit_idx inb i j)).trans ((canonZ h t _ _).trans ?_)
  exact congrArg₂ (fun i j => ((A.Z (row t i) j : ℝ) : EReal)) (Fin.ext (by simp)) (Fin.ext (by simp [col]; omega))

/-- What the body reads back of its second result, by columns. -/
theorem readQ {o : ℕ} (k : Fin 6) (hk : 512 * k.val = 1536 + o) (inb : ∀ k : Fin 2, (![0, o] : Fin 2 → ℕ) k + (![512, 512] : Fin 2 → ℕ) k ≤ (![512, 1536] : Fin 2 → ℕ) k) (i j : Fin 512) :
    (ms0_10 t).view.readCov (qL m c t) (Rect.unit (s := S512x1536) ![0, o] ![512, 512] inb).toLoadRect (ix2 i j) = ((FMix.sl A.Z k (row t i) j : ℝ) : EReal) := by
  rw [View.readCov_eq_canon']
  refine (congrArg (View.canon _) (unit_idx inb i j)).trans ((canonQ h t _ _).trans ?_)
  exact congrArg₂ (fun i j => ((A.Z (row t i) j : ℝ) : EReal)) (Fin.ext (by simp)) (Fin.ext (by simp [col]; omega))

end

variable (m c) in
abbrev zB (t : Fin cfg0.N) : Vec Ideal S512x512 .f32 := (ms0_9 t).view.readCov (zL m c t) (Rect.unit (s := S512x1536) ![0, 0] ![512, 512] inb_S512x1536_S512x512_0_0).toLoadRect
variable (m c) in
abbrev zC (t : Fin cfg0.N) : Vec Ideal S512x512 .f32 := (ms0_9 t).view.readCov (zL m c t) (Rect.unit (s := S512x1536) ![0, 512] ![512, 512] inb_S512x1536_S512x512_0_512).toLoadRect
variable (m c) in
abbrev zX (t : Fin cfg0.N) : Vec Ideal S512x512 .f32 := (ms0_9 t).view.readCov (zL m c t) (Rect.unit (s := S512x1536) ![0, 1024] ![512, 512] inb_S512x1536_S512x512_0_1024).toLoadRect
variable (m c) in
abbrev zQ (t : Fin cfg0.N) : Vec Ideal S512x512 .f32 := (ms0_10 t).view.readCov (qL m c t) (Rect.unit (s := S512x1536) ![0, 0] ![512, 512] inb_S512x1536_S512x512_0_0).toLoadRect
variable (m c) in
abbrev zK (t : Fin cfg0.N) : Vec Ideal S512x512 .f32 := (ms0_10 t).view.readCov (qL m c t) (Rect.unit (s := S512x1536) ![0, 512] ![512, 512] inb_S512x1536_S512x512_0_512).toLoadRect

/-! ### The carried rows -/

variable (A) in
/-- What the scratch holds at a grid point: what the convolution is taken of, on the eight rows before the block and on the block's. -/
def scr (t : Fin cfg0.N) (k : ℕ) (j : Fin 512) : ℝ :=
  if hk : 8 ≤ t.val * 512 + k ∧ t.val * 512 + k < 8200 then FMix.u A.Z ⟨t.val * 512 + k - 8, by omega⟩ j else 0

variable (A) in
/-- The same, as contents of the scratch. -/
def scrG (t : Fin cfg0.N) : S520x512.Idx → Elt Ideal .f32 := fun y => ((scr A t (y 0).val (y 1) : ℝ) : EReal)

theorem scr_row (t : Fin cfg0.N) (i j : Fin 512) : scr A t (8 + i.val) j = FMix.u A.Z (row t i) j := by
  have : t.val < 16 := t.isLt
  rw [scr, dif_pos (by omega)]
  exact congrArg (fun r => FMix.u A.Z r j) (Fin.ext (by simp [row]; omega))

theorem scr_zero (t : Fin cfg0.N) (h0 : t.val = 0) (k : ℕ) (hk : k < 8) (j : Fin 512) : scr A t k j = 0 := by
  rw [scr, dif_neg (by omega)]

theorem scr_prev (t : Fin cfg0.N) (d : ℕ) (hd : d ≤ 8) (i j : Fin 512) : scr A t (i.val + (8 - d)) j = prev (fun s => FMix.u A.Z s j) d (row t i) := by
  have : t.val < 16 := t.isLt
  rw [scr, prev]
  by_cases hr : d ≤ (row t i).val
  · have : d ≤ t.val * 512 + i.val := hr
    rw [dif_pos (by omega), if_pos hr]
    exact congrArg (fun r => FMix.u A.Z r j) (Fin.ext (by simp [row]; omega))
  · have : ¬ d ≤ t.val * 512 + i.val := hr
    rw [dif_neg (by omega), if_neg hr]

variable (m c) in
/-- The store of the block's rows. -/
abbrev stU (t : Fin cfg0.N) : View.Piece (Elt Ideal) S520x512 .f32 :=
  ⟨Rect.unit ![8, 0] ![512, 512] inb_S520x512_S512x512_8_0, k0_pay10 (zC m c t) (zX m c t)⟩

/-- The zeros the first grid point puts before its rows. -/
abbrev stZero : View.Piece (Elt Ideal) S520x512 .f32 :=
  ⟨Rect.unit ![0, 0] ![8, 512] inb_S520x512_S8x512_0_0, k0_pay3 (F := Ideal)⟩

section

variable (h : Args m c A) (t : Fin cfg0.N)
include h

theorem stU_block (x : (stU m c t).1.shape.Idx) : (stU m c t).2 x = scrG A t ((stU m c t).1.emb x) := by
  idx_vars x
  refine Eq.trans ?_ (congrArg (scrG A t) (unit_idx inb_S520x512_S512x512_8_0 x0 x1)).symm
  refine (pay10 (P := fun i => FMix.sl A.Z 1 (row t i)) (Q := fun i => FMix.sl A.Z 2 (row t i)) (readZ h t 1 rfl _) (readZ h t 2 rfl _) x0 x1).trans ?_
  refine Eq.trans (congrArg _ (scr_row t x0 x1).symm) ?_
  exact congrArg (fun j => ((scr A t (8 + x0.val) j : ℝ) : EReal)) (Fin.ext (Nat.zero_add _).symm)

omit h in
theorem stZero_block (h0 : t.val = 0) (x : stZero.1.shape.Idx) : stZero.2 x = scrG A t (stZero.1.emb x) := by
  idx_vars x
  refine Eq.trans ?_ (congrArg (scrG A t) (unit_idx inb_S520x512_S8x512_0_0 x0 x1)).symm
  have hx : x0.val < 8 := x0.isLt
  refine Eq.trans ?_ (congrArg (fun r : ℝ => (r : EReal)) (scr_zero t h0 (0 + x0.val) (by omega) _)).symm
  pointwise [k0_pay3]
  exact EReal.coe_zero.symm

/-- The scratch as the first grid point reads it. -/
theorem read_first (h0 : t.val = 0) (k : Fin 520) (j : Fin 512) :
    (View.whole cc0_scratch0).readCov [stU m c t, stZero] (Rect.unit (s := S520x512) ![0, 0] ![520, 512] inb_S520x512_S520x512_0_0).toLoadRect (ix2 k j)
      = ((scr A t k.val j : ℝ) : EReal) := by
  rw [View.readCov_eq_canon']
  refine (congrArg (View.canon _) (unit_idx inb_S520x512_S520x512_0_0 k j)).trans ?_
  refine (canon_of_blocks (scrG A t) [stU m c t, stZero] ⟨stU_block h t, stZero_block t h0, trivial⟩ _ ?_).trans ?_
  · by_cases hk : k.val < 8
    · exact ⟨_, List.mem_cons_of_mem _ List.mem_cons_self, mem_unit inb_S520x512_S8x512_0_0 _ _ (by simp; omega) (by simp)⟩
    · exact ⟨_, List.mem_cons_self, mem_unit inb_S520x512_S512x512_8_0 _ _ (by simp; omega) (by simp)⟩
  · exact congrArg₂ (fun k j => ((scr A t k j : ℝ) : EReal)) (Nat.zero_add _) (Fin.ext (Nat.zero_add _))

/-- The eight rows a grid point leaves before the next block: the last rows of its own. -/
theorem carried (L : List (View.Piece (Elt Ideal) S520x512 .f32)) (k : Fin 8) (j : Fin 512) :
    k0_pay12 ((View.whole cc0_scratch0).readCov (stU m c t :: L) (Rect.unit (s := S520x512) ![512, 0] ![8, 512] inb_S520x512_S8x512_512_0).toLoadRect) (ix2 k j)
      = ((scr A t (512 + k.val) j : ℝ) : EReal) := by
  refine (pay12 _ k j).trans ?_
  rw [View.readCov_eq_canon']
  refine (congrArg (View.canon _) (unit_idx inb_S520x512_S8x512_512_0 k j)).trans ?_
  refine (View.canon_append_of_piecesOf (scrG A t) L [stU m c t] ⟨stU_block h t, trivial⟩ _ ?_).trans ?_
  · exact ⟨_, List.mem_cons_self, mem_unit inb_S520x512_S512x512_8_0 _ _ (by simp; omega) (by simp)⟩
  · exact congrArg (fun j => ((scr A t (512 + k.val) j : ℝ) : EReal)) (Fin.ext (Nat.zero_add _))

theorem scratch_after (k : Fin 8) (j : Fin 512) :
    (outsAt0 m c t.val t.isLt).2.2.2.2 (ix2 ⟨k.val, by omega⟩ j) = ((scr A t (512 + k.val) j : ℝ) : EReal) := by
  have e : (ix2 ⟨k.val, by omega⟩ j : S520x512.Idx) = (Rect.unit (s := S520x512) ![0, 0] ![8, 512] inb_S520x512_S8x512_0_0).emb (ix2 k j) := by
    rw [unit_idx inb_S520x512_S8x512_0_0]; exact congrArg₂ ix2 (Fin.ext (Nat.zero_add _).symm) (Fin.ext (Nat.zero_add _).symm)
  by_cases ht : t.val % 16 = 0
  · rw [outsAt0_A m c t ht]; dsimp only; frame_out
    rw [e]
    exact (View.canon_cons_emb (Rect.unit (s := S520x512) ![0, 0] ![8, 512] inb_S520x512_S8x512_0_0) _ _ (ix2 k j)).trans (carried h t _ k j)
  · rw [outsAt0_B m c t ht]; dsimp only; frame_out
    rw [e]
    exact (View.canon_cons_emb (Rect.unit (s := S520x512) ![0, 0] ![8, 512] inb_S520x512_S8x512_0_0) _ _ (ix2 k j)).trans (carried h t _ k j)

/-- The scratch's first eight rows, as a later grid point finds them. -/
theorem found (ht : ¬ t.val % 16 = 0) (hp : t.val - 1 < cfg0.N) (k : Fin 8) (j : Fin 512) :
    (outsAt0 m c (t.val - 1) hp).2.2.2.2 (ix2 ⟨k.val, by omega⟩ j) = ((scr A t k.val j : ℝ) : EReal) := by
  refine (scratch_after h ⟨t.val - 1, hp⟩ k j).trans ?_
  have e : (t.val - 1) * 512 + (512 + k.val) = t.val * 512 + k.val := by omega
  simp only [scr, e]

/-- The scratch as a later grid point reads it, over the contents it finds. -/
theorem read_next (U : S520x512.Idx → Elt Ideal .f32)
    (hU : ∀ (k : Fin 8) (j : Fin 512), U (ix2 ⟨k.val, by omega⟩ j) = ((scr A t k.val j : ℝ) : EReal))
    (f : (View.whole cc0_scratch0 : View sig .tc .vmem S520x512 .f32).ty.Contents (Elt Ideal)) (hf : View.read (Elt Ideal) (View.whole cc0_scratch0) f = U)
    (k : Fin 520) (j : Fin 512) :
    View.read (Elt Ideal) (View.whole cc0_scratch0) ((View.whole cc0_scratch0).writes (Elt Ideal) f [stU m c t]) (ix2 k j) = ((scr A t k.val j : ℝ) : EReal) := by
  refine read_writes_of_blocks (View.whole cc0_scratch0) f (scrG A t) _ [stU m c t] ⟨stU_block h t, trivial⟩ ?_
  by_cases hk : k.val < 8
  · exact .inr ((congrFun hf _).trans (hU ⟨k.val, hk⟩ j))
  · exact .inl ⟨_, List.mem_cons_self, mem_unit inb_S520x512_S512x512_8_0 _ _ (by omega) (by omega)⟩

end

end Cert.FwdMixIdeal.Hand
-- ==== Proof.FMixOut.lean ====
module

public import proofs.«01_k».proof.Proof.FMixScratch

@[expose] public section

set_option maxRecDepth 16384

noncomputable section

/-! The forward mixer: its four results. -/

namespace Cert.FwdMixIdeal.Hand

open Cert.FwdMixIdeal Cert.FwdMixIdeal.Gen Cert.Hand Idealize.ShloMosaic Idealize.ShloMosaic.TcCoe Idealize.SL.Sem
open Idealize.ShloMosaic.Pipeline (Dat)

variable {m : (ℓ : Loc nD τ sig) → Buf (Elt Ideal) ℓ} {c : Dev nD} {A : Arrs}

section

variable (h : Args m c A) (t : Fin cfg0.N)
include h

theorem c3 {o : ℕ} (inb : ∀ k : Fin 2, (![o, 0] : Fin 2 → ℕ) k + (![1, 512] : Fin 2 → ℕ) k ≤ (![3, 512] : Fin 2 → ℕ) k) (j : Fin 512) :
    View.ld (iblk m c 3 t) (Rect.unit (s := S3x512) ![o, 0] ![1, 512] inb) (ix2 0 j)
      = ((A.CW ⟨o, by have := inb 0; simp at this; omega⟩ j : ℝ) : EReal) :=
  (congrArg (iblk m c 3 t) (unit_idx inb 0 j)).trans ((blk3 h t _ _).trans (by simp))

/-- The gated convolution's rows, whatever way the scratch was read. -/
theorem ycnAt (s : Vec Ideal S520x512 .f32) (hs : ∀ k j, s (ix2 k j) = ((scr A t k.val j : ℝ) : EReal)) (i j : Fin 512) :
    k0_pay13
      (k0_pay11 (zC m c t) (zX m c t) s (View.ld (iblk m c 3 t) (Rect.unit (s := S3x512) ![0, 0] ![1, 512] inb_S3x512_S1x512_0_0))
        (View.ld (iblk m c 3 t) (Rect.unit (s := S3x512) ![1, 0] ![1, 512] inb_S3x512_S1x512_1_0))
        (View.ld (iblk m c 3 t) (Rect.unit (s := S3x512) ![2, 0] ![1, 512] inb_S3x512_S1x512_2_0)) (iblk m c 4 t))
      (zB m c t) (iblk m c 5 t) (ix2 i j) = ((FMix.ycn A.Z A.CW A.CB A.goc (row t i) j : ℝ) : EReal) := by
  refine pay13 (P := fun i => FMix.cv A.Z A.CW A.CB (row t i)) (Q := fun i => FMix.sl A.Z 0 (row t i)) ?_ (readZ h t 0 rfl _) (blk5 h t) i j
  intro i j
  refine (pay11 (P := fun i => FMix.sl A.Z 1 (row t i)) (Q := fun i => FMix.sl A.Z 2 (row t i)) (S := fun k j => scr A t k.val j)
    (readZ h t 1 rfl _) (readZ h t 2 rfl _) hs (c3 h t _) (c3 h t _) (c3 h t _) (blk4 h t) i j).trans ?_
  have e2 := scr_prev (A := A) t 2 (by omega) i j
  have e1 := scr_prev (A := A) t 1 (by omega) i j
  refine congrArg _ ?_
  show scr A t (i.val + (8 - 2)) j * _ + scr A t (i.val + (8 - 1)) j * _ + _ + _ = _
  rw [e2, e1]
  rfl

variable (m c) in
omit h in
/-- The stores of the queries and keys. -/
abbrev nL : List (View.Piece (Elt Ideal) S512x1024 .f32) :=
  [⟨Rect.unit ![0, 512] ![512, 512] inb_S512x1024_S512x512_0_512, k0_pay2 (k0_pay15 (zK m c t)) (k0_pay17 (zK m c t)) (iblk m c 6 t) (iblk m c 8 t)⟩,
    ⟨Rect.unit ![0, 0] ![512, 512] inb_S512x1024_S512x512_0_0, k0_pay1 (k0_pay14 (zQ m c t)) (k0_pay16 (zQ m c t) (iblk m c 6 t)) (iblk m c 7 t)⟩]

theorem canonN (i : Fin 512) (j : Fin 1024) : View.canon (nL m c t) (ix2 i j) = ((FMix.qkn A.Z A.gq A.gk (row t i) j : ℝ) : EReal) := by
  let G : S512x1024.Idx → Elt Ideal .f32 := fun y => ((FMix.qkn A.Z A.gq A.gk (row t (y 0)) (y 1) : ℝ) : EReal)
  refine canon_of_blocks G (nL m c t) ?_ (ix2 i j) ?_
  · refine ⟨fun x => ?_, fun x => ?_, trivial⟩
    · idx_vars x
      refine Eq.trans ?_ (congrArg G (unit_idx inb_S512x1024_S512x512_0_512 x0 x1)).symm
      refine (pay2 (P := fun i => FMix.sl A.Z 4 (row t i)) (C := fun j => A.gk (FMix.pl j)) (readQ h t 4 rfl _) (blk6 t) (blk8 h t) x0 x1).trans ?_
      have hx : ¬ 512 + x1.val < 512 := by omega
      refine congrArg _ ?_
      refine Eq.trans ?_ (dif_neg hx).symm
      exact congrArg₂ (fun i j => FMix.kn A.Z A.gk (row t i) j) (Fin.ext (by simp)) (Fin.ext (by simp))
    · idx_vars x
      refine Eq.trans ?_ (congrArg G (unit_idx inb_S512x1024_S512x512_0_0 x0 x1)).symm
      refine (pay1 (P := fun i => FMix.sl A.Z 3 (row t i)) (C := fun j => A.gq (FMix.pl j)) (readQ h t 3 rfl _) (blk6 t) (blk7 h t) x0 x1).trans ?_
      have hx : 0 + x1.val < 512 := by have : x1.val < 512 := x1.isLt; omega
      refine congrArg _ ?_
      refine Eq.trans ?_ (dif_pos hx).symm
      exact congrArg₂ (fun i j => FMix.qn A.Z A.gq (row t i) j) (Fin.ext (by simp)) (Fin.ext (by simp))
  · by_cases hj : j.val < 512
    · exact ⟨_, List.mem_cons_of_mem _ List.mem_cons_self, mem_unit inb_S512x1024_S512x512_0_0 i j (by omega) (by omega)⟩
    · exact ⟨_, List.mem_cons_self, mem_unit inb_S512x1024_S512x512_0_512 i j (by omega) (by omega)⟩

end

theorem emb9 (t : Fin cfg0.N) (i : Fin 512) (j : Fin 1536) : ((View.whole main_v18_0).slice (win0_9.rect t)).emb (ix2 i j) = ix2 (row t i) j := by
  funext a; refine Fin.ext ?_; fin_cases a <;> simp [row, idx t]
theorem emb10 (t : Fin cfg0.N) (i : Fin 512) (j : Fin 1536) : ((View.whole main_v18_1).slice (win0_10.rect t)).emb (ix2 i j) = ix2 (row t i) j := by
  funext a; refine Fin.ext ?_; fin_cases a <;> simp [row, idx t]
theorem emb11 (t : Fin cfg0.N) (i : Fin 512) (j : Fin 512) : ((View.whole main_v18_2).slice (win0_11.rect t)).emb (ix2 i j) = ix2 (row t i) j := by
  funext a; refine Fin.ext ?_; fin_cases a <;> simp [row, idx t]
theorem emb12 (t : Fin cfg0.N) (i : Fin 512) (j : Fin 1024) : ((View.whole main_v18_3).slice (win0_12.rect t)).emb (ix2 i j) = ix2 (row t i) j := by
  funext a; refine Fin.ext ?_; fin_cases a <;> simp [row, idx t]

variable (h : Args m c A)
include h

theorem out9 : (dats m 0 c).arrAt 9 (cfgs 0).N = fun y => ((A.Z (y 0) (col 0 (y 1)) : ℝ) : EReal) := by
  refine (dats m 0 c).arrAt_eq_of_covers 9 _ (by decide +kernel) fun t hf y => ?_
  blk_simp
  rw [after0_9]
  by_cases ht : t.val % 16 = 0
  · rw [outsAt0_A m c t ht]; dsimp only; frame_out
    idx_vars y; rw [emb9]; exact canonZ h t _ _
  · rw [outsAt0_B m c t ht]; dsimp only; frame_out
    idx_vars y; rw [emb9]; exact canonZ h t _ _

theorem out10 : (dats m 0 c).arrAt 10 (cfgs 0).N = fun y => ((A.Z (y 0) (col 1 (y 1)) : ℝ) : EReal) := by
  refine (dats m 0 c).arrAt_eq_of_covers 10 _ (by decide +kernel) fun t hf y => ?_
  blk_simp
  rw [after0_10]
  by_cases ht : t.val % 16 = 0
  · rw [outsAt0_A m c t ht]; dsimp only; frame_out
    idx_vars y; rw [emb10]; exact canonQ h t _ _
  · rw [outsAt0_B m c t ht]; dsimp only; frame_out
    idx_vars y; rw [emb10]; exact canonQ h t _ _

theorem out11 : (dats m 0 c).arrAt 11 (cfgs 0).N = fun y => ((FMix.ycn A.Z A.CW A.CB A.goc (y 0) (y 1) : ℝ) : EReal) := by
  refine (dats m 0 c).arrAt_eq_of_covers 11 _ (by decide +kernel) fun t hf y => ?_
  blk_simp
  rw [after0_11]
  by_cases ht : t.val % 16 = 0
  · rw [outsAt0_A m c t ht]; dsimp only; frame_out
    idx_vars y; rw [emb11]
    have ht0 : t.val = 0 := by have : t.val < 16 := t.isLt; omega
    exact ycnAt h t _ (read_first h t ht0) _ _
  · rw [outsAt0_B m c t ht]; dsimp only; frame_out
    idx_vars y; rw [emb11]
    exact ycnAt h t _ (read_next h t _ (found h t ht _) _ (read_unread_whole _ _ _)) _ _

theorem out12 : (dats m 0 c).arrAt 12 (cfgs 0).N = fun y => ((FMix.qkn A.Z A.gq A.gk (y 0) (y 1) : ℝ) : EReal) := by
  refine (dats m 0 c).arrAt_eq_of_covers 12 _ (by decide +kernel) fun t hf y => ?_
  blk_simp
  rw [after0_12]
  by_cases ht : t.val % 16 = 0
  · rw [outsAt0_A m c t ht]; dsimp only; frame_out
    idx_vars y; rw [emb12]; exact canonN h t _ _
  · rw [outsAt0_B m c t ht]; dsimp only; frame_out
    idx_vars y; rw [emb12]; exact canonN h t _ _

end Cert.FwdMixIdeal.Hand
-- ==== Proof.FMixRef.lean ====
module

public import proofs.«01_k».proof.Proof.Gen.FwdMixRefIdeal.Run
public import proofs.«01_k».proof.Proof.Gen.FwdMixRefIdeal.Read
public import proofs.«01_k».proof.Proof.FMixSpec
public import Idealize.ShloMosaic.Lib.Pointwise

@[expose] public section

set_option maxRecDepth 16384

noncomputable section

/-! The reference of the forward mixer, read as real numbers. -/

namespace Cert.FwdMixRefIdeal.Hand

open Cert.FwdMixRefIdeal Cert.FwdMixRefIdeal.Gen Cert.FwdMixRefIdeal.Value Cert.FwdMixRefIdeal.Read Cert.Hand Idealize.ShloMosaic Idealize.ShloMosaic.TcCoe Idealize.SL.Sem

variable {x0 : FVec Ideal S8192x1024 .f32} {x1 : FVec Ideal S1x1024 .f32} {x2 : FVec Ideal S1024x3072 .f32} {x3 : FVec Ideal S3x512 .f32}
  {x4 x5 : FVec Ideal S1x512 .f32} {x6 x7 : FVec Ideal S1x64 .f32}
variable {X : Fin 8192 → Fin 1024 → ℝ} {gm : Fin 1024 → ℝ} {WI : Fin 1024 → Fin 3072 → ℝ} {Z : Fin 8192 → Fin 3072 → ℝ} {CW : Fin 3 → Fin 512 → ℝ}
  {CB goc : Fin 512 → ℝ} {gq gk : Fin 64 → ℝ}

/-- The normed input. -/
theorem v11 (h0 : ∀ i j, x0 (ix2 i j) = ((X i j : ℝ) : EReal)) (h1 : ∀ j, x1 (ix2 0 j) = ((gm j : ℝ) : EReal)) (i : Fin 8192) (j : Fin 1024) :
    val_main_v11 (F := Ideal) x0 x1 (ix2 i j) = ((FMix.h1 X gm i j : ℝ) : EReal) := by
  pointwise [val_main_v11, val_main_v10, val_main_v9, val_main_v8, val_main_v7, val_main_v6, val_main_v5, val_main_v4, val_main_v3, val_main_v2, val_main_v1, val_main_v0,
    val_main_cst, val_main_cst_0, val_main_cst_1]
  simp only [h0, h1, ofBits_1024, ofBits_eps, ← EReal.coe_mul, sum_coe, div_1024, ← EReal.coe_add, rsqrt_1024]
  rfl

/-- The mixer's inputs. -/
theorem v12 (h0 : ∀ i j, x0 (ix2 i j) = ((X i j : ℝ) : EReal)) (h1 : ∀ j, x1 (ix2 0 j) = ((gm j : ℝ) : EReal))
    (h2 : ∀ i j, x2 (ix2 i j) = ((WI i j : ℝ) : EReal)) (i : Fin 8192) (j : Fin 3072) :
    val_main_v12 (F := Ideal) x0 x1 x2 (ix2 i j) = ((FMix.z X gm WI i j : ℝ) : EReal) := by
  pointwise [val_main_v12]
  simp only [v11 h0 h1, h2, ← EReal.coe_mul, sum_coe]
  rfl

section
variable (hz : ∀ i j, val_main_v12 (F := Ideal) x0 x1 x2 (ix2 i j) = ((Z i j : ℝ) : EReal))
include hz

/-- The two halves of the inputs. -/
theorem v77 (i : Fin 8192) (j : Fin 1536) : val_main_v77 (F := Ideal) x0 x1 x2 (ix2 i j) = ((Z i ⟨0 + j.val, by omega⟩ : ℝ) : EReal) := by
  pointwise [val_main_v77]
  exact hz _ _

theorem v78 (i : Fin 8192) (j : Fin 1536) : val_main_v78 (F := Ideal) x0 x1 x2 (ix2 i j) = ((Z i ⟨1536 + j.val, by omega⟩ : ℝ) : EReal) := by
  pointwise [val_main_v78]
  exact hz _ _

theorem v13 (i : Fin 8192) (j : Fin 512) : val_main_v13 (F := Ideal) x0 x1 x2 (ix2 i j) = ((FMix.sl Z 0 i j : ℝ) : EReal) := by
  pointwise [val_main_v13]
  exact (hz _ _).trans (congrArg (fun k => ((Z i k : ℝ) : EReal)) (Fin.ext (by simp)))

theorem v14 (i : Fin 8192) (j : Fin 512) : val_main_v14 (F := Ideal) x0 x1 x2 (ix2 i j) = ((FMix.sl Z 1 i j : ℝ) : EReal) := by
  pointwise [val_main_v14]
  exact hz _ _

theorem v15 (i : Fin 8192) (j : Fin 512) : val_main_v15 (F := Ideal) x0 x1 x2 (ix2 i j) = ((FMix.sl Z 2 i j : ℝ) : EReal) := by
  pointwise [val_main_v15]
  exact hz _ _

theorem v45 (i : Fin 8192) (h : Fin 8) (l : Fin 64) : val_main_v45 (F := Ideal) x0 x1 x2 (ix3 i h l) = ((FMix.head (FMix.sl Z 3 i) h l : ℝ) : EReal) := by
  pointwise [val_main_v45, val_main_v16]
  exact (hz _ _).trans (congrArg (fun k => ((Z i k : ℝ) : EReal)) (Fin.ext (by simp; omega)))

theorem v62 (i : Fin 8192) (h : Fin 8) (l : Fin 64) : val_main_v62 (F := Ideal) x0 x1 x2 (ix3 i h l) = ((FMix.head (FMix.sl Z 4 i) h l : ℝ) : EReal) := by
  pointwise [val_main_v62, val_main_v17]
  exact (hz _ _).trans (congrArg (fun k => ((Z i k : ℝ) : EReal)) (Fin.ext (by simp; omega)))

theorem v19 (i : Fin 8192) (j : Fin 512) : val_main_v19 (F := Ideal) x0 x1 x2 (ix2 i j) = ((FMix.u Z i j : ℝ) : EReal) := by
  pointwise [val_main_v19]
  rw [v14 hz, v15 hz, ← EReal.coe_mul]
  rfl

/-- The rows two before. -/
theorem v22 (r : Fin 8192) (j : Fin 512) : val_main_v22 (F := Ideal) x0 x1 x2 (ix2 r j) = ((prev (fun s => FMix.u Z s j) 2 r : ℝ) : EReal) := by
  pointwise [val_main_v22, val_main_v21, val_main_v20, val_main_cst_2]
  by_cases hr : r.val < 2
  · rw [dif_pos hr, prev, if_neg (by omega), EReal.coe_zero]
  · refine (dif_neg hr).trans ((v19 hz _ _).trans (congrArg _ (prev_eq (fun s => FMix.u Z s j) ?_).symm))
    show r.val - 2 + 2 = r.val
    omega

/-- The rows one before. -/
theorem v28 (r : Fin 8192) (j : Fin 512) : val_main_v28 (F := Ideal) x0 x1 x2 (ix2 r j) = ((prev (fun s => FMix.u Z s j) 1 r : ℝ) : EReal) := by
  pointwise [val_main_v28, val_main_v21, val_main_v20, val_main_cst_2]
  by_cases hr : 1 + r.val < 2
  · rw [dif_pos hr, prev, if_neg (by omega), EReal.coe_zero]
  · refine (dif_neg hr).trans ((v19 hz _ _).trans (congrArg _ (prev_eq (fun s => FMix.u Z s j) ?_).symm))
    show 1 + r.val - 2 + 1 = r.val
    omega

theorem v35 (r : Fin 8192) (j : Fin 512) : val_main_v35 (F := Ideal) x0 x1 x2 (ix2 r j) = ((FMix.u Z r j : ℝ) : EReal) := by
  pointwise [val_main_v35, val_main_v21, val_main_v20, val_main_cst_2]
  exact v19 hz r j

section
variable (h3 : ∀ i j, x3 (ix2 i j) = ((CW i j : ℝ) : EReal)) (h4 : ∀ j, x4 (ix2 0 j) = ((CB j : ℝ) : EReal))
include h3 h4

theorem v43 (r : Fin 8192) (j : Fin 512) : val_main_v43 (F := Ideal) x0 x1 x2 x3 x4 (ix2 r j) = ((FMix.cv Z CW CB r j : ℝ) : EReal) := by
  pointwise [val_main_v43, val_main_v42, val_main_v41, val_main_v40, val_main_v39, val_main_v38, val_main_v37, val_main_v36, val_main_v34, val_main_v33, val_main_v32,
    val_main_v31, val_main_v30, val_main_v29, val_main_v27, val_main_v26, val_main_v25, val_main_v24, val_main_v23]
  simp only [v22 hz, v28 hz, v35 hz, h3, h4, ← EReal.coe_mul, ← EReal.coe_add]
  rfl

theorem v44 (r : Fin 8192) (j : Fin 512) : val_main_v44 (F := Ideal) x0 x1 x2 x3 x4 (ix2 r j) = ((FMix.yc Z CW CB r j : ℝ) : EReal) := by
  pointwise [val_main_v44]
  rw [v13 hz, v43 hz h3 h4, ← EReal.coe_mul]
  rfl

/-- The normed gated convolution. -/
theorem v91 (h5 : ∀ j, x5 (ix2 0 j) = ((goc j : ℝ) : EReal)) (i : Fin 8192) (j : Fin 512) :
    val_main_v91 (F := Ideal) x0 x1 x2 x3 x4 x5 (ix2 i j) = ((FMix.ycn Z CW CB goc i j : ℝ) : EReal) := by
  pointwise [val_main_v91, val_main_v90, val_main_v89, val_main_v88, val_main_v87, val_main_v86, val_main_v85, val_main_v84, val_main_v83, val_main_v82, val_main_v81, val_main_v80,
    val_main_v79, val_main_cst_10, val_main_cst_11, val_main_cst_12]
  simp only [v44 hz h3 h4, h5, ofBits_512, ofBits_eps, ← EReal.coe_mul, sum_coe, div_512, ← EReal.coe_add, rsqrt_512]
  rfl

end

/-! The norms by heads. -/

theorem v52 (i : Fin 8192) (h : Fin 8) (k : Fin 1) : val_main_v52 (F := Ideal) x0 x1 x2 (ix3 i h k) = ((ms (1 / 64) (FMix.head (FMix.sl Z 3 i) h) : ℝ) : EReal) := by
  pointwise [val_main_v52, val_main_v51, val_main_v50, val_main_v49, val_main_v48, val_main_v47, val_main_v46, val_main_cst_3, val_main_cst_4, val_main_cst_5]
  simp only [v45 hz, FMix.ofBits_64, ofBits_eps, ← EReal.coe_mul, sum_coe, FMix.div_64, ← EReal.coe_add]
  rfl

theorem v53 (i : Fin 8192) (h : Fin 8) (k : Fin 1) : val_main_v53 (F := Ideal) x0 x1 x2 (ix3 i h k) = ((rn (1 / 64) (FMix.head (FMix.sl Z 3 i) h) : ℝ) : EReal) := by
  pointwise [val_main_v53]
  rw [v52 hz]
  exact rsqrt_coe_pos (ms_pos (by norm_num) _)

theorem v69 (i : Fin 8192) (h : Fin 8) (k : Fin 1) : val_main_v69 (F := Ideal) x0 x1 x2 (ix3 i h k) = ((ms (1 / 64) (FMix.head (FMix.sl Z 4 i) h) : ℝ) : EReal) := by
  pointwise [val_main_v69, val_main_v68, val_main_v67, val_main_v66, val_main_v65, val_main_v64, val_main_v63, val_main_cst_7, val_main_cst_8, val_main_cst_9]
  simp only [v62 hz, FMix.ofBits_64, ofBits_eps, ← EReal.coe_mul, sum_coe, FMix.div_64, ← EReal.coe_add]
  rfl

theorem v70 (i : Fin 8192) (h : Fin 8) (k : Fin 1) : val_main_v70 (F := Ideal) x0 x1 x2 (ix3 i h k) = ((rn (1 / 64) (FMix.head (FMix.sl Z 4 i) h) : ℝ) : EReal) := by
  pointwise [val_main_v70]
  rw [v69 hz]
  exact rsqrt_coe_pos (ms_pos (by norm_num) _)

/-- A head's queries, normed. -/
theorem v58 (h6 : ∀ j, x6 (ix2 0 j) = ((gq j : ℝ) : EReal)) (i : Fin 8192) (h : Fin 8) (l : Fin 64) :
    val_main_v58 (F := Ideal) x0 x1 x2 x6 (ix3 i h l) = ((FMix.head (FMix.sl Z 3 i) h l * rn (1 / 64) (FMix.head (FMix.sl Z 3 i) h) * gq l : ℝ) : EReal) := by
  pointwise [val_main_v58, val_main_v57, val_main_v56, val_main_v55, val_main_v54]
  simp only [v45 hz, v53 hz, h6, ← EReal.coe_mul]

/-- A head's keys, normed. -/
theorem v75 (h7 : ∀ j, x7 (ix2 0 j) = ((gk j : ℝ) : EReal)) (i : Fin 8192) (h : Fin 8) (l : Fin 64) :
    val_main_v75 (F := Ideal) x0 x1 x2 x7 (ix3 i h l) = ((FMix.head (FMix.sl Z 4 i) h l * rn (1 / 64) (FMix.head (FMix.sl Z 4 i) h) * gk l : ℝ) : EReal) := by
  pointwise [val_main_v75, val_main_v74, val_main_v73, val_main_v72, val_main_v71]
  simp only [v62 hz, v70 hz, h7, ← EReal.coe_mul]

theorem v61 (h6 : ∀ j, x6 (ix2 0 j) = ((gq j : ℝ) : EReal)) (i : Fin 8192) (j : Fin 512) :
    val_main_v61 (F := Ideal) x0 x1 x2 x6 (ix2 i j) = ((FMix.qn Z gq i j : ℝ) : EReal) := by
  pointwise [val_main_v61, val_main_v60, val_main_v59, val_main_cst_6]
  rw [FMix.ofBits_eighth]
  refine (congrArg (· * _) (v58 hz h6 i (FMix.hd j) (FMix.pl j))).trans ?_
  rw [← EReal.coe_mul, FMix.head_hd]
  rfl

theorem v76 (h7 : ∀ j, x7 (ix2 0 j) = ((gk j : ℝ) : EReal)) (i : Fin 8192) (j : Fin 512) :
    val_main_v76 (F := Ideal) x0 x1 x2 x7 (ix2 i j) = ((FMix.kn Z gk i j : ℝ) : EReal) := by
  pointwise [val_main_v76]
  refine (v75 hz h7 i (FMix.hd j) (FMix.pl j)).trans ?_
  rw [FMix.head_hd]
  rfl

/-- Queries and keys side by side. -/
theorem v92 (h6 : ∀ j, x6 (ix2 0 j) = ((gq j : ℝ) : EReal)) (h7 : ∀ j, x7 (ix2 0 j) = ((gk j : ℝ) : EReal)) (i : Fin 8192) (j : Fin 1024) :
    val_main_v92 (F := Ideal) x0 x1 x2 x6 x7 (ix2 i j) = ((FMix.qkn Z gq gk i j : ℝ) : EReal) := by
  pointwise [val_main_v92]
  by_cases c0 : j.val < 512
  · rw [dif_pos c0, FMix.qkn, dif_pos c0]
    exact (v61 hz h6 i ⟨j.val, c0⟩)
  · rw [dif_neg c0, FMix.qkn, dif_neg c0]
    exact (v76 hz h7 i ⟨j.val - 512, by omega⟩)

end

end Cert.FwdMixRefIdeal.Hand
-- ==== Proof.FMixClaim.lean ====
module

public import proofs.«01_k».proof.Defs
public import proofs.«01_k».proof.Proof.Gen.Pre_fwd_mix_finite
public import proofs.«01_k».proof.Proof.Gen.FwdMix.Frame
public import proofs.«01_k».proof.Proof.FMixOut
public import proofs.«01_k».proof.Proof.FMixRef

@[expose] public section

set_option maxRecDepth 16384

noncomputable section

/-! The claims about the forward mixer. -/

namespace Cert.FwdMixIdeal.Hand

open Cert.FwdMixIdeal Cert.FwdMixIdeal.Gen Cert.Hand Idealize.ShloMosaic Idealize.ShloMosaic.TcCoe Idealize.SL.Sem

/-- The real numbers that the arguments hold. -/
def arrs (m : (ℓ : Loc nD τ sig) → Buf (Elt Ideal) ℓ) (c : Dev nD) : Arrs where
  X := fun i j => (m ((c.tc : Thread nD τ).loc main_arg0) (ix2 i j)).toReal
  gm := fun j => (m ((c.tc : Thread nD τ).loc main_arg1) (ix2 0 j)).toReal
  WI := fun i j => (m ((c.tc : Thread nD τ).loc main_arg2) (ix2 i j)).toReal
  CW := fun i j => (m ((c.tc : Thread nD τ).loc main_arg3) (ix2 i j)).toReal
  CB := fun j => (m ((c.tc : Thread nD τ).loc main_arg4) (ix2 0 j)).toReal
  goc := fun j => (m ((c.tc : Thread nD τ).loc main_arg5) (ix2 0 j)).toReal
  gq := fun j => (m ((c.tc : Thread nD τ).loc main_arg6) (ix2 0 j)).toReal
  gk := fun j => (m ((c.tc : Thread nD τ).loc main_arg7) (ix2 0 j)).toReal

/-- Under the precondition every element of every argument is a real number. -/
theorem args (m : (ℓ : Loc nD τ sig) → Buf (Elt Ideal) ℓ) (h : Cert.Pre_FwdMixIdeal_fwd_mix_finite m) (c : Dev nD) : Args m c (arrs m c) := by
  have H := congrFun (h c) (Shape.Idx.first Cert.Pre_fwd_mix_finite.Facts.h_S_)
  dsimp only [Cert.Pre_fwd_mix_finite.fn] at H
  obtain ⟨H, e7⟩ := and_split H
  obtain ⟨H, e6⟩ := and_split H
  obtain ⟨H, e5⟩ := and_split H
  obtain ⟨H, e4⟩ := and_split H
  obtain ⟨H, e3⟩ := and_split H
  obtain ⟨H, e2⟩ := and_split H
  obtain ⟨e0, e1⟩ := and_split H
  haveI : Subsingleton Cert.Pre_fwd_mix_finite.S_.Idx := ⟨fun a b => funext fun i => i.elim0⟩
  have hz {s : Shape} (hb : Cert.Pre_fwd_mix_finite.S_.BroadcastsInDim s ![]) (i : s.Idx) :
      (broadcastInDim s ![] hb (constant Cert.Pre_fwd_mix_finite.S_ .f32 0x00000000#32) : FVec Ideal s .f32) i = 0 := by
    pointwise
  exact
    { h0 := fun i j => finite_of_all _ _ _ _ _ _ (hz _) e0 (ix2 i j)
      h1 := fun j => finite_of_all _ _ _ _ _ _ (hz _) e1 (ix2 0 j)
      h2 := fun i j => finite_of_all _ _ _ _ _ _ (hz _) e2 (ix2 i j)
      h3 := fun i j => finite_of_all _ _ _ _ _ _ (hz _) e3 (ix2 i j)
      h4 := fun j => finite_of_all _ _ _ _ _ _ (hz _) e4 (ix2 0 j)
      h5 := fun j => finite_of_all _ _ _ _ _ _ (hz _) e5 (ix2 0 j)
      h6 := fun j => finite_of_all _ _ _ _ _ _ (hz _) e6 (ix2 0 j)
      h7 := fun j => finite_of_all _ _ _ _ _ _ (hz _) e7 (ix2 0 j) }

end Cert.FwdMixIdeal.Hand

namespace Cert.Hand.FMix

open Idealize.ShloMosaic Idealize.ShloMosaic.TcCoe Idealize.SL.Sem

/-- The reference leaves its arguments as they were. -/
theorem frame_ref : Cert.quiescent_FwdMixRefIdeal := fun m ρ _ =>
  (θ_run FwdMixRefIdeal.defs _ _).mono (fun r h => ⟨fun c => (h c).2.2.2.2, sem_eq_zero_of_no_sems (by decide) r.2⟩)
    (FwdMixRefIdeal.Value.run (F := Ideal) m ρ)

set_option maxHeartbeats 1600000 in
/-- Kernel and reference leave the same results. -/
theorem algebraic : Cert.algebraic_FwdMixIdeal_FwdMixRefIdeal_pre_fwd_mix_finite := by
  intro m g m' g' hp hm
  have A := fun c => FwdMixIdeal.Hand.args m hp c
  refine ⟨_, _, _, _, FwdMixIdeal.Value.run_blocks (F := Ideal) m g,
    (θ_run FwdMixRefIdeal.defs _ _).mono (fun r h c => ?_) (FwdMixRefIdeal.Value.run (F := Ideal) m' g')⟩
  obtain ⟨r0, r1, r2, r3, ha⟩ := h c
  obtain ⟨m0, m1, m2, m3, m4, m5, m6, m7⟩ := hm c
  obtain ⟨h0, h1, h2, h3, h4, h5, h6, h7⟩ := A c
  have hz := FwdMixRefIdeal.Hand.v12 h0 h1 h2
  refine ⟨r0.trans (Eq.trans ?_ (FwdMixIdeal.Hand.out9 (A c)).symm), r1.trans (Eq.trans ?_ (FwdMixIdeal.Hand.out10 (A c)).symm), r2.trans (Eq.trans ?_ (FwdMixIdeal.Hand.out11 (A c)).symm), r3.trans (Eq.trans ?_ (FwdMixIdeal.Hand.out12 (A c)).symm), ha⟩
  · rw [FwdMixRefIdeal.Read.val_main_v77_eq, m0, m1, m2]
    funext y
    idx_vars y
    exact FwdMixRefIdeal.Hand.v77 hz _ _
  · rw [FwdMixRefIdeal.Read.val_main_v78_eq, m0, m1, m2]
    funext y
    idx_vars y
    exact FwdMixRefIdeal.Hand.v78 hz _ _
  · rw [FwdMixRefIdeal.Read.val_main_v91_eq, m0, m1, m2, m3, m4, m5]
    funext y
    idx_vars y
    exact FwdMixRefIdeal.Hand.v91 hz h3 h4 h5 _ _
  · rw [FwdMixRefIdeal.Read.val_main_v92_eq, m0, m1, m2, m6, m7]
    funext y
    idx_vars y
    exact FwdMixRefIdeal.Hand.v92 hz h6 h7 _ _

/-- The claims about this call, in the order in which they are stated. -/
theorem claims : Cert.quiescent_FwdMix ∧ Cert.quiescent_FwdMixIdeal ∧ Cert.quiescent_FwdMixIdeal_pre_fwd_mix_finite ∧ Cert.quiescent_FwdMixRefIdeal
    ∧ Cert.quiescent_FwdMixRefIdeal_pre_fwd_mix_finite ∧ Cert.preserves_FwdMix_FwdMixIdeal ∧ Cert.algebraic_FwdMixIdeal_FwdMixRefIdeal_pre_fwd_mix_finite :=
  ⟨fun m ρ _ => FwdMix.Gen.frame m ρ, fun m ρ _ => FwdMixIdeal.Gen.frame m ρ, fun m ρ _ => FwdMixIdeal.Gen.frame m ρ, frame_ref,
    fun m ρ _ => frame_ref m ρ trivial, trivial, algebraic⟩

end Cert.Hand.FMix
-- ==== Proof.FFfnSpec.lean ====
module

public import proofs.«01_k».proof.Proof.FfnASpec
public import proofs.«01_k».proof.Proof.FfnBSpec

@[expose] public section

noncomputable section

/-! The forward feed-forward over the reals: what the gradient's parts do not already state. The mixer's joined outputs and
    the feed-forward's input are `FfnB.cat` and `FfnB.x1`, the convolved gate is `FfnA.gate`. -/

namespace Cert.Hand.FFfn

/-- The normed row. -/
def h2 (gf x1 : Fin 1024 → ℝ) (j : Fin 1024) : ℝ := x1 j * rn (1 / 1024) x1 * gf j

/-- The row's product with one of the two projections. -/
def proj (W : Fin 1024 → Fin 2816 → ℝ) (gf x1 : Fin 1024 → ℝ) (j : Fin 2816) : ℝ := ∑ k, h2 gf x1 k * W k j

/-- The gated unit. -/
def act (GP UP : Fin 8192 → Fin 2816 → ℝ) (CW : Fin 3 → Fin 2816 → ℝ) (CB : Fin 2816 → ℝ) (r : Fin 8192) (j : Fin 2816) : ℝ :=
  FfnA.gate GP CW CB r j * sg (FfnA.gate GP CW CB r j) * UP r j

end Cert.Hand.FFfn
-- ==== Proof.FFfnKernel.lean ====
module

public import proofs.«01_k».proof.Proof.Gen.FwdFfnIdeal.Value
public import proofs.«01_k».proof.Proof.FFfnSpec
public import proofs.«01_k».proof.Proof.Pieces

@[expose] public section

set_option maxRecDepth 16384

noncomputable section

/-! The forward feed-forward, read as real numbers: what its blocks hold, and what one grid point computes from them. -/

namespace Cert.FwdFfnIdeal.Hand

open Cert.FwdFfnIdeal Cert.FwdFfnIdeal.Gen Cert.Hand Idealize.ShloMosaic Idealize.ShloMosaic.TcCoe Idealize.SL.Sem
open Idealize.ShloMosaic.Pipeline (Dat)

/-- The arguments as arrays of reals. -/
structure Arrs where
  X : Fin 8192 → Fin 1024 → ℝ
  YC : Fin 8192 → Fin 512 → ℝ
  YA : Fin 8192 → Fin 512 → ℝ
  goa : Fin 512 → ℝ
  WO : Fin 1024 → Fin 1024 → ℝ
  gf : Fin 1024 → ℝ
  WG : Fin 1024 → Fin 2816 → ℝ
  WU : Fin 1024 → Fin 2816 → ℝ
  CW : Fin 3 → Fin 2816 → ℝ
  CB : Fin 2816 → ℝ

/-- The feed-forward's input. -/
def Arrs.x1 (A : Arrs) (r : Fin 8192) : Fin 1024 → ℝ := FfnB.x1 A.WO A.goa (A.X r) (A.YC r) (A.YA r)

/-- The gate's projection. -/
def Arrs.GP (A : Arrs) (r : Fin 8192) : Fin 2816 → ℝ := FFfn.proj A.WG A.gf (A.x1 r)

/-- The second factor. -/
def Arrs.UP (A : Arrs) (r : Fin 8192) : Fin 2816 → ℝ := FFfn.proj A.WU A.gf (A.x1 r)

variable (m : (ℓ : Loc nD τ sig) → Buf (Elt Ideal) ℓ) (c : Dev nD) (A : Arrs)

/-- The arguments are the images of arrays of reals. -/
structure Args : Prop where
  h0 : ∀ i j, m ((c.tc : Thread nD τ).loc main_arg0) (ix2 i j) = ((A.X i j : ℝ) : EReal)
  h1 : ∀ i j, m ((c.tc : Thread nD τ).loc main_arg1) (ix2 i j) = ((A.YC i j : ℝ) : EReal)
  h2 : ∀ i j, m ((c.tc : Thread nD τ).loc main_arg2) (ix2 i j) = ((A.YA i j : ℝ) : EReal)
  h3 : ∀ j, m ((c.tc : Thread nD τ).loc main_arg3) (ix2 0 j) = ((A.goa j : ℝ) : EReal)
  h4 : ∀ i j, m ((c.tc : Thread nD τ).loc main_arg4) (ix2 i j) = ((A.WO i j : ℝ) : EReal)
  h5 : ∀ j, m ((c.tc : Thread nD τ).loc main_arg5) (ix2 0 j) = ((A.gf j : ℝ) : EReal)
  h6 : ∀ i j, m ((c.tc : Thread nD τ).loc main_arg6) (ix2 i j) = ((A.WG i j : ℝ) : EReal)
  h7 : ∀ i j, m ((c.tc : Thread nD τ).loc main_arg7) (ix2 i j) = ((A.WU i j : ℝ) : EReal)
  h8 : ∀ i j, m ((c.tc : Thread nD τ).loc main_arg8) (ix2 i j) = ((A.CW i j : ℝ) : EReal)
  h9 : ∀ j, m ((c.tc : Thread nD τ).loc main_arg9) (ix2 0 j) = ((A.CB j : ℝ) : EReal)

theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![t.val, 0]
    ∧ win0_11.index t = ![t.val, 0] ∧ win0_12.index t = ![t.val, 0] ∧ win0_13.index t = ![t.val, 0] ∧ win0_14.index t = ![t.val, 0]
    ∧ win0_15.index t = ![t.val, 0] ∧ win0_16.index t = ![t.val, 0] :=
  (by decide +kernel : ∀ t : Fin grid0.N, _)

/-- The array row of a block's row. -/
def row (t : Fin cfg0.N) (i : Fin 256) : Fin 8192 := ⟨t.val * 256 + i, by have := t.isLt; have : cfg0.N = 32 := rfl; omega⟩

variable {m c A}

theorem blk0 (h : Args m c A) (t : Fin cfg0.N) (i : Fin 256) (j : Fin 1024) : iblk m c 0 t (ix2 i j) = ((A.X (row t i) j : ℝ) : EReal) := by
  rw [← h.h0]; blk_ext! [iblk, V, idx t, row]

theorem blk1 (h : Args m c A) (t : Fin cfg0.N) (i : Fin 256) (j : Fin 512) : iblk m c 1 t (ix2 i j) = ((A.YC (row t i) j : ℝ) : EReal) := by
  rw [← h.h1]; blk_ext! [iblk, V, idx t, row]

theorem blk2 (h : Args m c A) (t : Fin cfg0.N) (i : Fin 256) (j : Fin 512) : iblk m c 2 t (ix2 i j) = ((A.YA (row t i) j : ℝ) : EReal) := by
  rw [← h.h2]; blk_ext! [iblk, V, idx t, row]

theorem blk3 (h : Args m c A) (t : Fin cfg0.N) (k j : Fin 1024) : iblk m c 3 t (ix2 k j) = ((A.WO k j : ℝ) : EReal) := by
  rw [← h.h4]; blk_ext! [iblk, V, idx t, row]

theorem blk4 (h : Args m c A) (t : Fin cfg0.N) (k : Fin 2816) (j : Fin 1024) : iblk m c 4 t (ix2 k j) = ((A.WG j k : ℝ) : EReal) := by
  rw [← h.h6]; blk_ext! [iblk, V, idx t, row]

theorem blk5 (h : Args m c A) (t : Fin cfg0.N) (k : Fin 2816) (j : Fin 1024) : iblk m c 5 t (ix2 k j) = ((A.WU j k : ℝ) : EReal) := by
  rw [← h.h7]; blk_ext! [iblk, V, idx t, row]

theorem blk6 (h : Args m c A) (t : Fin cfg0.N) (j : Fin 512) : iblk m c 6 t (ix2 0 j) = ((A.goa j : ℝ) : EReal) := by
  rw [← h.h3]; blk_ext! [iblk, V, idx t, row]

theorem blk7 (h : Args m c A) (t : Fin cfg0.N) (j : Fin 1024) : iblk m c 7 t (ix2 0 j) = ((A.gf j : ℝ) : EReal) := by
  rw [← h.h5]; blk_ext! [iblk, V, idx t, row]

theorem blk8 (h : Args m c A) (t : Fin cfg0.N) (i : Fin 3) (j : Fin 2816) : iblk m c 8 t (ix2 i j) = ((A.CW i j : ℝ) : EReal) := by
  rw [← h.h8]; blk_ext! [iblk, V, idx t, row]

theorem blk9 (h : Args m c A) (t : Fin cfg0.N) (j : Fin 2816) : iblk m c 9 t (ix2 0 j) = ((A.CB j : ℝ) : EReal) := by
  rw [← h.h9]; blk_ext! [iblk, V, idx t, row]

/-! ## What one grid point computes -/

section

variable {a : Vec Ideal S256x512 .f32} {g : Vec Ideal S1x512 .f32} {y : Vec Ideal S256x512 .bf16} {x : Vec Ideal S256x1024 .f32} {w0 w1 : Vec Ideal S512x1024 .bf16}
variable {X : Fin 256 → Fin 1024 → ℝ} {YC YA : Fin 256 → Fin 512 → ℝ} {goa : Fin 512 → ℝ} {WO : Fin 1024 → Fin 1024 → ℝ}

theorem pay2 (ha : ∀ i j, a (ix2 i j) = ((YA i j : ℝ) : EReal)) (hg : ∀ j, g (ix2 0 j) = ((goa j : ℝ) : EReal)) (i : Fin 256) (j : Fin 512) :
    k0_pay2 a g (ix2 i j) = ((YA i j * rn (1 / 512) (YA i) * goa j : ℝ) : EReal) := by
  pointwise [k0_pay2]
  simp only [ha, hg, ← EReal.coe_mul, sum_coe, ofBits_512, ofBits_eps, div_512, ← EReal.coe_add, rsqrt_512]

theorem pay3 (y : Vec Ideal S256x512 .bf16) (i : Fin 256) (j : Fin 512) : k0_pay3 y (ix2 i j) = y (ix2 i j) := by pointwise [k0_pay3]

theorem pay4 (ha : ∀ i j, a (ix2 i j) = ((YA i j : ℝ) : EReal)) (hg : ∀ j, g (ix2 0 j) = ((goa j : ℝ) : EReal))
    (hy : ∀ i j, y (ix2 i j) = ((YC i j : ℝ) : EReal)) (hx : ∀ i j, x (ix2 i j) = ((X i j : ℝ) : EReal))
    (hw0 : ∀ k j, w0 (ix2 k j) = ((WO (FfnB.left k) j : ℝ) : EReal)) (hw1 : ∀ k j, w1 (ix2 k j) = ((WO (FfnB.right k) j : ℝ) : EReal)) (i : Fin 256) (j : Fin 1024) :
    k0_pay4 a g y x w0 w1 (ix2 i j) = ((FfnB.x1 WO goa (X i) (YC i) (YA i) j : ℝ) : EReal) := by
  pointwise [k0_pay4]
  simp only [pay2 ha hg, pay3, hy, hx, hw0, hw1, ← EReal.coe_mul, sum_coe, ← EReal.coe_add]
  rw [FfnB.x1_split, add_assoc]

end

section

variable {v : FVec Ideal S256x1024 .f32} {g : Vec Ideal S1x1024 .f32} {h2 : FVec Ideal S256x1024 .bf16} {w : Vec Ideal S1408x1024 .bf16}
variable {X1 : Fin 256 → Fin 1024 → ℝ} {gf : Fin 1024 → ℝ} {W : Fin 1024 → Fin 1408 → ℝ}

theorem pay5 (hv : ∀ i j, v (ix2 i j) = ((X1 i j : ℝ) : EReal)) (hg : ∀ j, g (ix2 0 j) = ((gf j : ℝ) : EReal)) (i : Fin 256) (j : Fin 1024) :
    k0_pay5 v g (ix2 i j) = ((FFfn.h2 gf (X1 i) j : ℝ) : EReal) := by
  pointwise [k0_pay5]
  simp only [hv, hg, ← EReal.coe_mul, sum_coe, ofBits_1024, ofBits_eps, div_1024, ← EReal.coe_add, rsqrt_1024]
  rfl

theorem pay6 (hv : ∀ i j, v (ix2 i j) = ((X1 i j : ℝ) : EReal)) (hg : ∀ j, g (ix2 0 j) = ((gf j : ℝ) : EReal))
    (hw : ∀ j k, w (ix2 j k) = ((W k j : ℝ) : EReal)) (i : Fin 256) (j : Fin 1408) :
    k0_pay6 v g w (ix2 i j) = ((∑ k, FFfn.h2 gf (X1 i) k * W k j : ℝ) : EReal) := by
  pointwise [k0_pay6]
  simp only [pay5 hv hg, hw, ← EReal.coe_mul, sum_coe]

theorem pay7 (hv : ∀ i j, v (ix2 i j) = ((X1 i j : ℝ) : EReal)) (hg : ∀ j, g (ix2 0 j) = ((gf j : ℝ) : EReal))
    (hw : ∀ j k, w (ix2 j k) = ((W k j : ℝ) : EReal)) (i : Fin 256) (j : Fin 1408) :
    k0_pay7 v g w (ix2 i j) = ((∑ k, FFfn.h2 gf (X1 i) k * W k j : ℝ) : EReal) := by
  pointwise [k0_pay7]
  simp only [pay5 hv hg, hw, ← EReal.coe_mul, sum_coe]

theorem pay8 (hv : ∀ i j, v (ix2 i j) = ((X1 i j : ℝ) : EReal)) (hg : ∀ j, g (ix2 0 j) = ((gf j : ℝ) : EReal))
    (hw : ∀ j k, w (ix2 j k) = ((W k j : ℝ) : EReal)) (i : Fin 256) (j : Fin 1408) :
    k0_pay8 v g w (ix2 i j) = ((∑ k, FFfn.h2 gf (X1 i) k * W k j : ℝ) : EReal) := pay6 hv hg hw i j

theorem pay9 (hv : ∀ i j, v (ix2 i j) = ((X1 i j : ℝ) : EReal)) (hg : ∀ j, g (ix2 0 j) = ((gf j : ℝ) : EReal))
    (hw : ∀ j k, w (ix2 j k) = ((W k j : ℝ) : EReal)) (i : Fin 256) (j : Fin 1408) :
    k0_pay9 v g w (ix2 i j) = ((∑ k, FFfn.h2 gf (X1 i) k * W k j : ℝ) : EReal) := pay7 hv hg hw i j

theorem pay10 (hv : ∀ i j, v (ix2 i j) = ((X1 i j : ℝ) : EReal)) (hg : ∀ j, g (ix2 0 j) = ((gf j : ℝ) : EReal))
    (hw : ∀ j k, w (ix2 j k) = ((W k j : ℝ) : EReal)) (i : Fin 256) (j : Fin 1408) :
    k0_pay10 v g w (ix2 i j) = ((∑ k, FFfn.h2 gf (X1 i) k * W k j : ℝ) : EReal) := by
  pointwise [k0_pay10]
  exact pay6 hv hg hw i j

theorem pay14 (hv : ∀ i j, v (ix2 i j) = ((X1 i j : ℝ) : EReal)) (hg : ∀ j, g (ix2 0 j) = ((gf j : ℝ) : EReal))
    (hw : ∀ j k, w (ix2 j k) = ((W k j : ℝ) : EReal)) (i : Fin 256) (j : Fin 1408) :
    k0_pay14 (k0_pay5 v g) w (ix2 i j) = ((∑ k, FFfn.h2 gf (X1 i) k * W k j : ℝ) : EReal) := by
  pointwise [k0_pay14]
  simp only [pay5 hv hg, hw, ← EReal.coe_mul, sum_coe]

theorem pay15 (hv : ∀ i j, v (ix2 i j) = ((X1 i j : ℝ) : EReal)) (hg : ∀ j, g (ix2 0 j) = ((gf j : ℝ) : EReal))
    (hw : ∀ j k, w (ix2 j k) = ((W k j : ℝ) : EReal)) (i : Fin 256) (j : Fin 1408) :
    k0_pay15 (k0_pay5 v g) w (ix2 i j) = ((∑ k, FFfn.h2 gf (X1 i) k * W k j : ℝ) : EReal) := by
  pointwise [k0_pay15]
  simp only [pay5 hv hg, hw, ← EReal.coe_mul, sum_coe]

theorem pay16 (hv : ∀ i j, v (ix2 i j) = ((X1 i j : ℝ) : EReal)) (hg : ∀ j, g (ix2 0 j) = ((gf j : ℝ) : EReal))
    (hw : ∀ j k, w (ix2 j k) = ((W k j : ℝ) : EReal)) (i : Fin 256) (j : Fin 1408) :
    k0_pay16 (k0_pay5 v g) w (ix2 i j) = ((∑ k, FFfn.h2 gf (X1 i) k * W k j : ℝ) : EReal) := pay14 hv hg hw i j

theorem pay17 (hv : ∀ i j, v (ix2 i j) = ((X1 i j : ℝ) : EReal)) (hg : ∀ j, g (ix2 0 j) = ((gf j : ℝ) : EReal))
    (hw : ∀ j k, w (ix2 j k) = ((W k j : ℝ) : EReal)) (i : Fin 256) (j : Fin 1408) :
    k0_pay17 (k0_pay5 v g) w (ix2 i j) = ((∑ k, FFfn.h2 gf (X1 i) k * W k j : ℝ) : EReal) := pay15 hv hg hw i j

end

section

variable {p u : FVec Ideal S256x1408 .f32} {s : Vec Ideal S264x1408 .f32} {w0 w1 w2 q : Vec Ideal S1x1408 .f32}
variable {P U : Fin 256 → Fin 1408 → ℝ} {S : Fin 264 → Fin 1408 → ℝ} {W0 W1 W2 C : Fin 1408 → ℝ}

theorem pay18 (v : FVec Ideal S256x1408 .f32) (i : Fin 256) (j : Fin 1408) : k0_pay18 v (ix2 i j) = v (ix2 i j) := by pointwise [k0_pay18]

theorem pay22 (v : Vec Ideal S8x2816 .f32) (i : Fin 8) (j : Fin 2816) : k0_pay22 v (ix2 i j) = v (ix2 i j) := by pointwise [k0_pay22]

/-- The convolved gate of a slab of columns. -/
def conv (S : Fin 264 → Fin 1408 → ℝ) (P : Fin 256 → Fin 1408 → ℝ) (W0 W1 W2 C : Fin 1408 → ℝ) (i : Fin 256) (j : Fin 1408) : ℝ :=
  S ⟨i.val + 6, by omega⟩ j * W0 j + S ⟨i.val + 7, by omega⟩ j * W1 j + P i j * W2 j + C j

section
variable (hp : ∀ i j, p (ix2 i j) = ((P i j : ℝ) : EReal)) (hs : ∀ i j, s (ix2 i j) = ((S i j : ℝ) : EReal)) (h0 : ∀ j, w0 (ix2 0 j) = ((W0 j : ℝ) : EReal))
  (h1 : ∀ j, w1 (ix2 0 j) = ((W1 j : ℝ) : EReal)) (h2 : ∀ j, w2 (ix2 0 j) = ((W2 j : ℝ) : EReal)) (hq : ∀ j, q (ix2 0 j) = ((C j : ℝ) : EReal))
include hp hs h0 h1 h2 hq

theorem pay11 (i : Fin 256) (j : Fin 1408) : k0_pay11 p s w0 2#32 w1 w2 q (ix2 i j) = ((conv S P W0 W1 W2 C i j : ℝ) : EReal) := by
  pointwise [k0_pay11]
  rw [hp, h0, h1, h2, hq, hs, hs, ← EReal.coe_mul, ← EReal.coe_mul, ← EReal.coe_mul, ← EReal.coe_add, ← EReal.coe_add, ← EReal.coe_add]
  rw [show (⟨(8 + i.val + 264 - 2) % 264, by omega⟩ : Fin 264) = ⟨i.val + 6, by omega⟩ from Fin.ext (by simp; omega)]
  rw [show (⟨(8 + i.val + 264 - 1) % 264, by omega⟩ : Fin 264) = ⟨i.val + 7, by omega⟩ from Fin.ext (by simp; omega)]
  exact congrArg _ (by rw [conv]; ring)

theorem pay12 (i : Fin 256) (j : Fin 1408) : k0_pay12 p s w0 2#32 w1 w2 q (ix2 i j) = ((conv S P W0 W1 W2 C i j : ℝ) : EReal) := pay11 hp hs h0 h1 h2 hq i j

theorem pay13 (hu : ∀ i j, u (ix2 i j) = ((U i j : ℝ) : EReal)) (i : Fin 256) (j : Fin 1408) :
    k0_pay13 p u s w0 2#32 w1 w2 q (ix2 i j) = ((conv S P W0 W1 W2 C i j * sg (conv S P W0 W1 W2 C i j) * U i j : ℝ) : EReal) := by
  pointwise [k0_pay13]
  rw [pay11 hp hs h0 h1 h2 hq, hu, Ideal.logistic_coe, ← EReal.coe_mul, ← EReal.coe_mul]
  rfl

theorem pay19 (i : Fin 256) (j : Fin 1408) : k0_pay19 p s w0 w1 w2 q (ix2 i j) = ((conv S P W0 W1 W2 C i j : ℝ) : EReal) := by
  pointwise [k0_pay19]
  rw [hp, h0, h1, h2, hq, hs, hs, ← EReal.coe_mul, ← EReal.coe_mul, ← EReal.coe_mul, ← EReal.coe_add, ← EReal.coe_add, ← EReal.coe_add]
  rw [show (⟨(8 + i.val + 264 - 2) % 264, by omega⟩ : Fin 264) = ⟨i.val + 6, by omega⟩ from Fin.ext (by simp; omega)]
  rw [show (⟨(8 + i.val + 264 - 1) % 264, by omega⟩ : Fin 264) = ⟨i.val + 7, by omega⟩ from Fin.ext (by simp; omega)]
  exact congrArg _ (by rw [conv]; ring)

theorem pay20 (i : Fin 256) (j : Fin 1408) : k0_pay20 p s w0 w1 w2 q (ix2 i j) = ((conv S P W0 W1 W2 C i j : ℝ) : EReal) := pay19 hp hs h0 h1 h2 hq i j

theorem pay21 (hu : ∀ i j, u (ix2 i j) = ((U i j : ℝ) : EReal)) (i : Fin 256) (j : Fin 1408) :
    k0_pay21 p u s w0 w1 w2 q (ix2 i j) = ((conv S P W0 W1 W2 C i j * sg (conv S P W0 W1 W2 C i j) * U i j : ℝ) : EReal) := by
  pointwise [k0_pay21]
  rw [pay19 hp hs h0 h1 h2 hq, hu, Ideal.logistic_coe, ← EReal.coe_mul, ← EReal.coe_mul]
  rfl

end

end

end Cert.FwdFfnIdeal.Hand
-- ==== Proof.FFfnScratch.lean ====
module

public import proofs.«01_k».proof.Proof.FFfnKernel

@[expose] public section

set_option maxRecDepth 16384

noncomputable section

/-! The forward feed-forward: the rows of the gate's projection it carries from one grid point to the next. -/

namespace Cert.FwdFfnIdeal.Hand

open Cert.FwdFfnIdeal Cert.FwdFfnIdeal.Gen Cert.Hand Idealize.ShloMosaic Idealize.ShloMosaic.TcCoe Idealize.SL.Sem
open Idealize.ShloMosaic.Pipeline (Dat)

variable {m : (ℓ : Loc nD τ sig) → Buf (Elt Ideal) ℓ} {c : Dev nD} {A : Arrs}

/-! ### A block's rows before the feed-forward, and their projections -/

variable (m c) in
abbrev x1V (t : Fin cfg0.N) : FVec Ideal S256x1024 .f32 :=
  k0_pay4 (iblk m c 2 t) (iblk m c 6 t) (iblk m c 1 t) (iblk m c 0 t)
    (View.ld (iblk m c 3 t) (Rect.unit (s := S1024x1024) ![0, 0] ![512, 1024] inb_S1024x1024_S512x1024_0_0))
    (View.ld (iblk m c 3 t) (Rect.unit (s := S1024x1024) ![512, 0] ![512, 1024] inb_S1024x1024_S512x1024_512_0))

variable (m c) in
abbrev gLo (t : Fin cfg0.N) : Vec Ideal S1408x1024 .bf16 := View.ld (iblk m c 4 t) (Rect.unit (s := S2816x1024) ![0, 0] ![1408, 1024] inb_S2816x1024_S1408x1024_0_0)
variable (m c) in
abbrev gHi (t : Fin cfg0.N) : Vec Ideal S1408x1024 .bf16 := View.ld (iblk m c 4 t) (Rect.unit (s := S2816x1024) ![1408, 0] ![1408, 1024] inb_S2816x1024_S1408x1024_1408_0)
variable (m c) in
abbrev uLo (t : Fin cfg0.N) : Vec Ideal S1408x1024 .bf16 := View.ld (iblk m c 5 t) (Rect.unit (s := S2816x1024) ![0, 0] ![1408, 1024] inb_S2816x1024_S1408x1024_0_0)
variable (m c) in
abbrev uHi (t : Fin cfg0.N) : Vec Ideal S1408x1024 .bf16 := View.ld (iblk m c 5 t) (Rect.unit (s := S2816x1024) ![1408, 0] ![1408, 1024] inb_S2816x1024_S1408x1024_1408_0)

section

variable (h : Args m c A) (t : Fin cfg0.N)
include h

theorem wo {o : ℕ} (inb : ∀ k : Fin 2, (![o, 0] : Fin 2 → ℕ) k + (![512, 1024] : Fin 2 → ℕ) k ≤ (![1024, 1024] : Fin 2 → ℕ) k) (k : Fin 512) (j : Fin 1024) :
    View.ld (iblk m c 3 t) (Rect.unit (s := S1024x1024) ![o, 0] ![512, 1024] inb) (ix2 k j)
      = ((A.WO ⟨o + k.val, by have := inb 0; simp at this; omega⟩ j : ℝ) : EReal) :=
  (congrArg (iblk m c 3 t) (unit_idx inb k j)).trans ((blk3 h t _ _).trans (by simp))

theorem x1At (i : Fin 256) (j : Fin 1024) : x1V m c t (ix2 i j) = ((A.x1 (row t i) j : ℝ) : EReal) := by
  refine pay4 (X := fun i => A.X (row t i)) (YC := fun i => A.YC (row t i)) (YA := fun i => A.YA (row t i)) (blk2 h t) (blk6 h t) (blk1 h t) (blk0 h t) ?_ ?_ i j
  · exact fun k j => (wo h t _ k j).trans (congrArg (fun k => ((A.WO k j : ℝ) : EReal)) (Fin.ext (by simp [FfnB.left])))
  · exact fun k j => (wo h t _ k j).trans (congrArg (fun k => ((A.WO k j : ℝ) : EReal)) (Fin.ext (by simp [FfnB.right])))

theorem wg {o : ℕ} (inb : ∀ k : Fin 2, (![o, 0] : Fin 2 → ℕ) k + (![1408, 1024] : Fin 2 → ℕ) k ≤ (![2816, 1024] : Fin 2 → ℕ) k) (j : Fin 1408) (k : Fin 1024) :
    View.ld (iblk m c 4 t) (Rect.unit (s := S2816x1024) ![o, 0] ![1408, 1024] inb) (ix2 j k)
      = ((A.WG k ⟨o + j.val, by have := inb 0; simp at this; omega⟩ : ℝ) : EReal) :=
  (congrArg (iblk m c 4 t) (unit_idx inb j k)).trans ((blk4 h t _ _).trans (by simp))

theorem wu {o : ℕ} (inb : ∀ k : Fin 2, (![o, 0] : Fin 2 → ℕ) k + (![1408, 1024] : Fin 2 → ℕ) k ≤ (![2816, 1024] : Fin 2 → ℕ) k) (j : Fin 1408) (k : Fin 1024) :
    View.ld (iblk m c 5 t) (Rect.unit (s := S2816x1024) ![o, 0] ![1408, 1024] inb) (ix2 j k)
      = ((A.WU k ⟨o + j.val, by have := inb 0; simp at this; omega⟩ : ℝ) : EReal) :=
  (congrArg (iblk m c 5 t) (unit_idx inb j k)).trans ((blk5 h t _ _).trans (by simp))

theorem gpLo (i : Fin 256) (j : Fin 1408) : k0_pay6 (x1V m c t) (iblk m c 7 t) (gLo m c t) (ix2 i j) = ((A.GP (row t i) ⟨0 + j.val, by omega⟩ : ℝ) : EReal) :=
  pay6 (X1 := fun i => A.x1 (row t i)) (x1At h t) (blk7 h t) (wg h t _) i j

theorem gpHi (i : Fin 256) (j : Fin 1408) :
    k0_pay14 (k0_pay5 (x1V m c t) (iblk m c 7 t)) (gHi m c t) (ix2 i j) = ((A.GP (row t i) ⟨1408 + j.val, by omega⟩ : ℝ) : EReal) :=
  pay14 (X1 := fun i => A.x1 (row t i)) (x1At h t) (blk7 h t) (wg h t _) i j

theorem upLo (i : Fin 256) (j : Fin 1408) : k0_pay7 (x1V m c t) (iblk m c 7 t) (uLo m c t) (ix2 i j) = ((A.UP (row t i) ⟨0 + j.val, by omega⟩ : ℝ) : EReal) :=
  pay7 (X1 := fun i => A.x1 (row t i)) (x1At h t) (blk7 h t) (wu h t _) i j

theorem upHi (i : Fin 256) (j : Fin 1408) :
    k0_pay15 (k0_pay5 (x1V m c t) (iblk m c 7 t)) (uHi m c t) (ix2 i j) = ((A.UP (row t i) ⟨1408 + j.val, by omega⟩ : ℝ) : EReal) :=
  pay15 (X1 := fun i => A.x1 (row t i)) (x1At h t) (blk7 h t) (wu h t _) i j

end

/-! ### The carried rows -/

variable (A) in
/-- What the scratch holds at a grid point: the gate's projection on the eight rows before the block and on the block's. -/
def scr (t : Fin cfg0.N) (k : ℕ) (j : Fin 2816) : ℝ :=
  if hk : 8 ≤ t.val * 256 + k ∧ t.val * 256 + k < 8200 then A.GP ⟨t.val * 256 + k - 8, by omega⟩ j else 0

variable (A) in
/-- The same, as contents of the scratch. -/
def scrG (t : Fin cfg0.N) : S264x2816.Idx → Elt Ideal .f32 := fun y => ((scr A t (y 0).val (y 1) : ℝ) : EReal)

theorem scr_row (t : Fin cfg0.N) (i : Fin 256) (j : Fin 2816) : scr A t (8 + i.val) j = A.GP (row t i) j := by
  have : t.val < 32 := t.isLt
  rw [scr, dif_pos (by omega)]
  exact congrArg (fun r => A.GP r j) (Fin.ext (by simp [row]; omega))

theorem scr_zero (t : Fin cfg0.N) (h0 : t.val = 0) (k : ℕ) (hk : k < 8) (j : Fin 2816) : scr A t k j = 0 := by
  rw [scr, dif_neg (by omega)]

theorem scr_prev (t : Fin cfg0.N) (d : ℕ) (hd : d ≤ 8) (i : Fin 256) (j : Fin 2816) : scr A t (i.val + (8 - d)) j = prev (fun s => A.GP s j) d (row t i) := by
  have : t.val < 32 := t.isLt
  rw [scr, prev]
  by_cases hr : d ≤ (row t i).val
  · have : d ≤ t.val * 256 + i.val := hr
    rw [dif_pos (by omega), if_pos hr]
    exact congrArg (fun r => A.GP r j) (Fin.ext (by simp [row]; omega))
  · have : ¬ d ≤ t.val * 256 + i.val := hr
    rw [dif_neg (by omega), if_neg hr]

variable (m c) in
/-- The store of the block's rows, first slab of columns. -/
abbrev stLo (t : Fin cfg0.N) : View.Piece (Elt Ideal) S264x2816 .f32 :=
  ⟨Rect.unit ![8, 0] ![256, 1408] inb_S264x2816_S256x1408_8_0, k0_pay10 (x1V m c t) (iblk m c 7 t) (gLo m c t)⟩

variable (m c) in
/-- The store of the block's rows, second slab of columns. -/
abbrev stHi (t : Fin cfg0.N) : View.Piece (Elt Ideal) S264x2816 .f32 :=
  ⟨Rect.unit ![8, 1408] ![256, 1408] inb_S264x2816_S256x1408_8_1408, k0_pay18 (k0_pay14 (k0_pay5 (x1V m c t) (iblk m c 7 t)) (gHi m c t))⟩

/-- The zeros the first grid point puts before its rows. -/
abbrev stZero : View.Piece (Elt Ideal) S264x2816 .f32 :=
  ⟨Rect.unit ![0, 0] ![8, 2816] inb_S264x2816_S8x2816_0_0, k0_pay1 (F := Ideal)⟩

section

variable (h : Args m c A) (t : Fin cfg0.N)
include h

theorem stLo_block (x : (stLo m c t).1.shape.Idx) : (stLo m c t).2 x = scrG A t ((stLo m c t).1.emb x) := by
  idx_vars x
  refine Eq.trans ?_ (congrArg (scrG A t) (unit_idx inb_S264x2816_S256x1408_8_0 x0 x1)).symm
  refine (pay10 (X1 := fun i => A.x1 (row t i)) (x1At h t) (blk7 h t) (wg h t _) x0 x1).trans ?_
  exact congrArg _ (scr_row t x0 _).symm

theorem stHi_block (x : (stHi m c t).1.shape.Idx) : (stHi m c t).2 x = scrG A t ((stHi m c t).1.emb x) := by
  idx_vars x
  refine Eq.trans ?_ (congrArg (scrG A t) (unit_idx inb_S264x2816_S256x1408_8_1408 x0 x1)).symm
  refine (pay18 _ x0 x1).trans ((gpHi h t x0 x1).trans ?_)
  exact congrArg _ (scr_row t x0 _).symm

omit h in
theorem stZero_block (h0 : t.val = 0) (x : stZero.1.shape.Idx) : stZero.2 x = scrG A t (stZero.1.emb x) := by
  idx_vars x
  refine Eq.trans ?_ (congrArg (scrG A t) (unit_idx inb_S264x2816_S8x2816_0_0 x0 x1)).symm
  have hx : x0.val < 8 := x0.isLt
  refine Eq.trans ?_ (congrArg (fun r : ℝ => (r : EReal)) (scr_zero t h0 (0 + x0.val) (by omega) _)).symm
  pointwise [k0_pay1]
  exact EReal.coe_zero.symm

/-- The scratch as the first grid point reads its first slab. -/
theorem readLo_first (h0 : t.val = 0) (k : Fin 264) (j : Fin 1408) :
    (View.whole cc0_scratch0).readCov [stLo m c t, stZero] (Rect.unit (s := S264x2816) ![0, 0] ![264, 1408] inb_S264x2816_S264x1408_0_0).toLoadRect (ix2 k j)
      = ((scr A t k.val ⟨0 + j.val, by omega⟩ : ℝ) : EReal) := by
  rw [View.readCov_eq_canon']
  refine (congrArg (View.canon _) (unit_idx inb_S264x2816_S264x1408_0_0 k j)).trans ?_
  refine (canon_of_blocks (scrG A t) [stLo m c t, stZero] ⟨stLo_block h t, stZero_block t h0, trivial⟩ _ ?_).trans ?_
  · by_cases hk : k.val < 8
    · exact ⟨_, List.mem_cons_of_mem _ List.mem_cons_self, mem_unit inb_S264x2816_S8x2816_0_0 _ _ (by simp; omega) (by simp; omega)⟩
    · exact ⟨_, List.mem_cons_self, mem_unit inb_S264x2816_S256x1408_8_0 _ _ (by simp; omega) (by simp)⟩
  · exact congrArg (fun k => ((scr A t k _ : ℝ) : EReal)) (Nat.zero_add _)

/-- The scratch as the first grid point reads its second slab. -/
theorem readHi_first (h0 : t.val = 0) (k : Fin 264) (j : Fin 1408) :
    (View.whole cc0_scratch0).readCov [stHi m c t, stLo m c t, stZero] (Rect.unit (s := S264x2816) ![0, 1408] ![264, 1408] inb_S264x2816_S264x1408_0_1408).toLoadRect (ix2 k j)
      = ((scr A t k.val ⟨1408 + j.val, by omega⟩ : ℝ) : EReal) := by
  rw [View.readCov_eq_canon']
  refine (congrArg (View.canon _) (unit_idx inb_S264x2816_S264x1408_0_1408 k j)).trans ?_
  refine (canon_of_blocks (scrG A t) [stHi m c t, stLo m c t, stZero] ⟨stHi_block h t, stLo_block h t, stZero_block t h0, trivial⟩ _ ?_).trans ?_
  · by_cases hk : k.val < 8
    · exact ⟨_, List.mem_cons_of_mem _ (List.mem_cons_of_mem _ List.mem_cons_self), mem_unit inb_S264x2816_S8x2816_0_0 _ _ (by simp; omega) (by simp; omega)⟩
    · exact ⟨_, List.mem_cons_self, mem_unit inb_S264x2816_S256x1408_8_1408 _ _ (by simp; omega) (by simp; omega)⟩
  · exact congrArg (fun k => ((scr A t k _ : ℝ) : EReal)) (Nat.zero_add _)

/-- The eight rows a grid point leaves before the next block: the last rows of its own. -/
theorem carried (L : List (View.Piece (Elt Ideal) S264x2816 .f32)) (k : Fin 8) (j : Fin 2816) :
    k0_pay22 ((View.whole cc0_scratch0).readCov (stHi m c t :: stLo m c t :: L) (Rect.unit (s := S264x2816) ![256, 0] ![8, 2816] inb_S264x2816_S8x2816_256_0).toLoadRect) (ix2 k j)
      = ((scr A t (256 + k.val) j : ℝ) : EReal) := by
  refine (pay22 _ k j).trans ?_
  rw [View.readCov_eq_canon']
  refine (congrArg (View.canon _) (unit_idx inb_S264x2816_S8x2816_256_0 k j)).trans ?_
  refine (View.canon_append_of_piecesOf (scrG A t) L [stHi m c t, stLo m c t] ⟨stHi_block h t, stLo_block h t, trivial⟩ _ ?_).trans ?_
  · by_cases hj : j.val < 1408
    · exact ⟨_, List.mem_cons_of_mem _ List.mem_cons_self, mem_unit inb_S264x2816_S256x1408_8_0 _ _ (by simp; omega) (by simp; omega)⟩
    · exact ⟨_, List.mem_cons_self, mem_unit inb_S264x2816_S256x1408_8_1408 _ _ (by simp; omega) (by simp; omega)⟩
  · exact congrArg (fun j => ((scr A t (256 + k.val) j : ℝ) : EReal)) (Fin.ext (Nat.zero_add _))

theorem scratch_after (k : Fin 8) (j : Fin 2816) :
    (outsAt0 m c t.val t.isLt).2.2.2.2.2.2.2 (ix2 ⟨k.val, by omega⟩ j) = ((scr A t (256 + k.val) j : ℝ) : EReal) := by
  have e : (ix2 ⟨k.val, by omega⟩ j : S264x2816.Idx) = (Rect.unit (s := S264x2816) ![0, 0] ![8, 2816] inb_S264x2816_S8x2816_0_0).emb (ix2 k j) := by
    rw [unit_idx inb_S264x2816_S8x2816_0_0]; exact congrArg₂ ix2 (Fin.ext (Nat.zero_add _).symm) (Fin.ext (Nat.zero_add _).symm)
  by_cases ht : t.val % 32 = 0
  · rw [outsAt0_A m c t ht]; dsimp only; frame_out
    rw [e]
    exact (View.canon_cons_emb (Rect.unit (s := S264x2816) ![0, 0] ![8, 2816] inb_S264x2816_S8x2816_0_0) _ _ (ix2 k j)).trans (carried h t _ k j)
  · rw [outsAt0_B m c t ht]; dsimp only; frame_out
    rw [e]
    exact (View.canon_cons_emb (Rect.unit (s := S264x2816) ![0, 0] ![8, 2816] inb_S264x2816_S8x2816_0_0) _ _ (ix2 k j)).trans (carried h t _ k j)

/-- The scratch's first eight rows, as a later grid point finds them. -/
theorem found (ht : ¬ t.val % 32 = 0) (hp : t.val - 1 < cfg0.N) (k : Fin 8) (j : Fin 2816) :
    (outsAt0 m c (t.val - 1) hp).2.2.2.2.2.2.2 (ix2 ⟨k.val, by omega⟩ j) = ((scr A t k.val j : ℝ) : EReal) := by
  refine (scratch_after h ⟨t.val - 1, hp⟩ k j).trans ?_
  have e : (t.val - 1) * 256 + (256 + k.val) = t.val * 256 + k.val := by omega
  simp only [scr, e]

section
variable (U : S264x2816.Idx → Elt Ideal .f32)
  (hU : ∀ (k : Fin 8) (j : Fin 2816), U (ix2 ⟨k.val, by omega⟩ j) = ((scr A t k.val j : ℝ) : EReal))
  (f : (View.whole cc0_scratch0 : View sig .tc .vmem S264x2816 .f32).ty.Contents (Elt Ideal)) (hf : View.read (Elt Ideal) (View.whole cc0_scratch0) f = U)
include hU hf

/-- The scratch as a later grid point reads its first slab, over the contents it finds. -/
theorem readLo_next (k : Fin 264) (j : Fin 1408) :
    View.ld (View.read (Elt Ideal) (View.whole cc0_scratch0) ((View.whole cc0_scratch0).writes (Elt Ideal) f [stLo m c t]))
      (Rect.unit (s := S264x2816) ![0, 0] ![264, 1408] inb_S264x2816_S264x1408_0_0) (ix2 k j) = ((scr A t k.val ⟨0 + j.val, by omega⟩ : ℝ) : EReal) := by
  refine (congrArg (View.read (Elt Ideal) (View.whole cc0_scratch0) _) (unit_idx inb_S264x2816_S264x1408_0_0 k j)).trans ?_
  refine (read_writes_of_blocks (View.whole cc0_scratch0) f (scrG A t) _ [stLo m c t] ⟨stLo_block h t, trivial⟩ ?_).trans ?_
  · by_cases hk : k.val < 8
    · refine .inr ((congrFun hf _).trans ?_)
      refine Eq.trans (congrArg U ?_) ((hU ⟨k.val, hk⟩ ⟨0 + j.val, by omega⟩).trans ?_)
      · exact congrArg₂ ix2 (Fin.ext (Nat.zero_add _)) rfl
      · exact congrArg (fun k => ((scr A t k _ : ℝ) : EReal)) (Nat.zero_add _).symm
    · exact .inl ⟨_, List.mem_cons_self, mem_unit inb_S264x2816_S256x1408_8_0 _ _ (by simp; omega) (by simp)⟩
  · exact congrArg (fun k => ((scr A t k _ : ℝ) : EReal)) (Nat.zero_add _)

/-- The scratch as a later grid point reads its second slab, over the contents it finds. -/
theorem readHi_next (k : Fin 264) (j : Fin 1408) :
    View.ld (View.read (Elt Ideal) (View.whole cc0_scratch0) ((View.whole cc0_scratch0).writes (Elt Ideal) f [stHi m c t, stLo m c t]))
      (Rect.unit (s := S264x2816) ![0, 1408] ![264, 1408] inb_S264x2816_S264x1408_0_1408) (ix2 k j) = ((scr A t k.val ⟨1408 + j.val, by omega⟩ : ℝ) : EReal) := by
  refine (congrArg (View.read (Elt Ideal) (View.whole cc0_scratch0) _) (unit_idx inb_S264x2816_S264x1408_0_1408 k j)).trans ?_
  refine (read_writes_of_blocks (View.whole cc0_scratch0) f (scrG A t) _ [stHi m c t, stLo m c t] ⟨stHi_block h t, stLo_block h t, trivial⟩ ?_).trans ?_
  · by_cases hk : k.val < 8
    · refine .inr ((congrFun hf _).trans ?_)
      refine Eq.trans (congrArg U ?_) ((hU ⟨k.val, hk⟩ ⟨1408 + j.val, by omega⟩).trans ?_)
      · exact congrArg₂ ix2 (Fin.ext (Nat.zero_add _)) rfl
      · exact congrArg (fun k => ((scr A t k _ : ℝ) : EReal)) (Nat.zero_add _).symm
    · exact .inl ⟨_, List.mem_cons_self, mem_unit inb_S264x2816_S256x1408_8_1408 _ _ (by simp; omega) (by simp; omega)⟩
  · exact congrArg (fun k => ((scr A t k _ : ℝ) : EReal)) (Nat.zero_add _)

end

end

end Cert.FwdFfnIdeal.Hand
-- ==== Proof.FFfnOut.lean ====
module

public import proofs.«01_k».proof.Proof.FFfnScratch

@[expose] public section

set_option maxRecDepth 16384

noncomputable section

/-! The forward feed-forward: its seven results. -/

namespace Cert.FwdFfnIdeal.Hand

open Cert.FwdFfnIdeal Cert.FwdFfnIdeal.Gen Cert.Hand Idealize.ShloMosaic Idealize.ShloMosaic.TcCoe Idealize.SL.Sem
open Idealize.ShloMosaic.Pipeline (Dat)

variable {m : (ℓ : Loc nD τ sig) → Buf (Elt Ideal) ℓ} {c : Dev nD} {A : Arrs}

/-- A block stored as two slabs of columns. -/
theorem canonSlab (Q : Fin 256 → Fin 2816 → ℝ) (a b : FVec Ideal S256x1408 .bf16) (ha : ∀ i (j : Fin 1408), a (ix2 i j) = ((Q i ⟨0 + j.val, by omega⟩ : ℝ) : EReal))
    (hb : ∀ i (j : Fin 1408), b (ix2 i j) = ((Q i ⟨1408 + j.val, by omega⟩ : ℝ) : EReal)) (i : Fin 256) (j : Fin 2816) :
    View.canon [(⟨Rect.unit ![0, 1408] ![256, 1408] inb_S256x2816_S256x1408_0_1408, b⟩ : View.Piece (Elt Ideal) S256x2816 .bf16),
      ⟨Rect.unit ![0, 0] ![256, 1408] inb_S256x2816_S256x1408_0_0, a⟩] (ix2 i j) = ((Q i j : ℝ) : EReal) := by
  let G : S256x2816.Idx → Elt Ideal .bf16 := fun y => ((Q (y 0) (y 1) : ℝ) : EReal)
  refine canon_of_blocks G _ ?_ (ix2 i j) ?_
  · refine ⟨fun x => ?_, fun x => ?_, trivial⟩
    · idx_vars x
      refine Eq.trans ?_ (congrArg G (unit_idx inb_S256x2816_S256x1408_0_1408 x0 x1)).symm
      exact (hb x0 x1).trans (congrArg (fun i => ((Q i _ : ℝ) : EReal)) (Fin.ext (Nat.zero_add _).symm))
    · idx_vars x
      refine Eq.trans ?_ (congrArg G (unit_idx inb_S256x2816_S256x1408_0_0 x0 x1)).symm
      exact (ha x0 x1).trans (congrArg (fun i => ((Q i _ : ℝ) : EReal)) (Fin.ext (Nat.zero_add _).symm))
  · by_cases hj : j.val < 1408
    · exact ⟨_, List.mem_cons_of_mem _ List.mem_cons_self, mem_unit inb_S256x2816_S256x1408_0_0 i j (by omega) (by omega)⟩
    · exact ⟨_, List.mem_cons_self, mem_unit inb_S256x2816_S256x1408_0_1408 i j (by omega) (by omega)⟩

section

variable (h : Args m c A) (t : Fin cfg0.N)
include h

theorem c8 {o q : ℕ} (inb : ∀ k : Fin 2, (![o, q] : Fin 2 → ℕ) k + (![1, 1408] : Fin 2 → ℕ) k ≤ (![3, 2816] : Fin 2 → ℕ) k) (j : Fin 1408) :
    View.ld (iblk m c 8 t) (Rect.unit (s := S3x2816) ![o, q] ![1, 1408] inb) (ix2 0 j)
      = ((A.CW ⟨o, by have := inb 0; simp at this; omega⟩ ⟨q + j.val, by have := inb 1; simp at this; omega⟩ : ℝ) : EReal) :=
  (congrArg (iblk m c 8 t) (unit_idx inb 0 j)).trans (blk8 h t _ _)

theorem c9 {q : ℕ} (inb : ∀ k : Fin 2, (![0, q] : Fin 2 → ℕ) k + (![1, 1408] : Fin 2 → ℕ) k ≤ (![1, 2816] : Fin 2 → ℕ) k) (j : Fin 1408) :
    View.ld (iblk m c 9 t) (Rect.unit (s := S1x2816) ![0, q] ![1, 1408] inb) (ix2 0 j)
      = ((A.CB ⟨q + j.val, by have := inb 1; simp at this; omega⟩ : ℝ) : EReal) :=
  (congrArg (iblk m c 9 t) (unit_idx inb 0 j)).trans (blk9 h t _)

omit h in
/-- A slab's convolution, over the rows the scratch holds, is the array's. -/
theorem convAt (f : Fin 1408 → Fin 2816) (i : Fin 256) (j : Fin 1408) :
    conv (fun k j => scr A t k.val (f j)) (fun i j => A.GP (row t i) (f j)) (fun j => A.CW 0 (f j)) (fun j => A.CW 1 (f j)) (fun j => A.CW 2 (f j)) (fun j => A.CB (f j)) i j
      = FfnA.gate A.GP A.CW A.CB (row t i) (f j) := by
  have e2 := scr_prev (A := A) t 2 (by omega) i (f j)
  have e1 := scr_prev (A := A) t 1 (by omega) i (f j)
  show scr A t (i.val + (8 - 2)) (f j) * _ + scr A t (i.val + (8 - 1)) (f j) * _ + _ + _ = _
  rw [e2, e1]
  rfl

variable (s s' : Vec Ideal S264x1408 .f32) (hs : ∀ k (j : Fin 1408), s (ix2 k j) = ((scr A t k.val ⟨0 + j.val, by omega⟩ : ℝ) : EReal))
  (hs' : ∀ k (j : Fin 1408), s' (ix2 k j) = ((scr A t k.val ⟨1408 + j.val, by omega⟩ : ℝ) : EReal))

include hs in
theorem gateLo (i : Fin 256) (j : Fin 1408) :
    k0_pay12 (k0_pay6 (x1V m c t) (iblk m c 7 t) (gLo m c t)) s (View.ld (iblk m c 8 t) (Rect.unit ![0, 0] ![1, 1408] inb_S3x2816_S1x1408_0_0)) 2#32
      (View.ld (iblk m c 8 t) (Rect.unit ![1, 0] ![1, 1408] inb_S3x2816_S1x1408_1_0)) (View.ld (iblk m c 8 t) (Rect.unit ![2, 0] ![1, 1408] inb_S3x2816_S1x1408_2_0))
      (View.ld (iblk m c 9 t) (Rect.unit ![0, 0] ![1, 1408] inb_S1x2816_S1x1408_0_0)) (ix2 i j)
      = ((FfnA.gate A.GP A.CW A.CB (row t i) ⟨0 + j.val, by omega⟩ : ℝ) : EReal) :=
  (pay12 (gpLo h t) hs (c8 h t _) (c8 h t _) (c8 h t _) (c9 h t _) i j).trans (congrArg _ (convAt t (fun j => ⟨0 + j.val, by omega⟩) i j))

include hs' in
theorem gateHi (i : Fin 256) (j : Fin 1408) :
    k0_pay20 (k0_pay14 (k0_pay5 (x1V m c t) (iblk m c 7 t)) (gHi m c t)) s' (View.ld (iblk m c 8 t) (Rect.unit ![0, 1408] ![1, 1408] inb_S3x2816_S1x1408_0_1408))
      (View.ld (iblk m c 8 t) (Rect.unit ![1, 1408] ![1, 1408] inb_S3x2816_S1x1408_1_1408)) (View.ld (iblk m c 8 t) (Rect.unit ![2, 1408] ![1, 1408] inb_S3x2816_S1x1408_2_1408))
      (View.ld (iblk m c 9 t) (Rect.unit ![0, 1408] ![1, 1408] inb_S1x2816_S1x1408_0_1408)) (ix2 i j)
      = ((FfnA.gate A.GP A.CW A.CB (row t i) ⟨1408 + j.val, by omega⟩ : ℝ) : EReal) :=
  (pay20 (gpHi h t) hs' (c8 h t _) (c8 h t _) (c8 h t _) (c9 h t _) i j).trans (congrArg _ (convAt t (fun j => ⟨1408 + j.val, by omega⟩) i j))

include hs in
theorem actLo (i : Fin 256) (j : Fin 1408) :
    k0_pay13 (k0_pay6 (x1V m c t) (iblk m c 7 t) (gLo m c t)) (k0_pay7 (x1V m c t) (iblk m c 7 t) (uLo m c t)) s
      (View.ld (iblk m c 8 t) (Rect.unit ![0, 0] ![1, 1408] inb_S3x2816_S1x1408_0_0)) 2#32
      (View.ld (iblk m c 8 t) (Rect.unit ![1, 0] ![1, 1408] inb_S3x2816_S1x1408_1_0)) (View.ld (iblk m c 8 t) (Rect.unit ![2, 0] ![1, 1408] inb_S3x2816_S1x1408_2_0))
      (View.ld (iblk m c 9 t) (Rect.unit ![0, 0] ![1, 1408] inb_S1x2816_S1x1408_0_0)) (ix2 i j)
      = ((FFfn.act A.GP A.UP A.CW A.CB (row t i) ⟨0 + j.val, by omega⟩ : ℝ) : EReal) := by
  refine (pay13 (gpLo h t) hs (c8 h t _) (c8 h t _) (c8 h t _) (c9 h t _) (upLo h t) i j).trans (congrArg _ ?_)
  have e := convAt (A := A) t (fun j => ⟨0 + j.val, by omega⟩) i j
  exact congrArg (fun g => g * sg g * A.UP (row t i) ⟨0 + j.val, by omega⟩) e

include hs' in
theorem actHi (i : Fin 256) (j : Fin 1408) :
    k0_pay21 (k0_pay14 (k0_pay5 (x1V m c t) (iblk m c 7 t)) (gHi m c t)) (k0_pay15 (k0_pay5 (x1V m c t) (iblk m c 7 t)) (uHi m c t)) s'
      (View.ld (iblk m c 8 t) (Rect.unit ![0, 1408] ![1, 1408] inb_S3x2816_S1x1408_0_1408))
      (View.ld (iblk m c 8 t) (Rect.unit ![1, 1408] ![1, 1408] inb_S3x2816_S1x1408_1_1408)) (View.ld (iblk m c 8 t) (Rect.unit ![2, 1408] ![1, 1408] inb_S3x2816_S1x1408_2_1408))
      (View.ld (iblk m c 9 t) (Rect.unit ![0, 1408] ![1, 1408] inb_S1x2816_S1x1408_0_1408)) (ix2 i j)
      = ((FFfn.act A.GP A.UP A.CW A.CB (row t i) ⟨1408 + j.val, by omega⟩ : ℝ) : EReal) := by
  refine (pay21 (gpHi h t) hs' (c8 h t _) (c8 h t _) (c8 h t _) (c9 h t _) (upHi h t) i j).trans (congrArg _ ?_)
  have e := convAt (A := A) t (fun j => ⟨1408 + j.val, by omega⟩) i j
  exact congrArg (fun g => g * sg g * A.UP (row t i) ⟨1408 + j.val, by omega⟩) e

omit s s' in
theorem pgLo (i : Fin 256) (j : Fin 1408) : k0_pay8 (x1V m c t) (iblk m c 7 t) (gLo m c t) (ix2 i j) = ((A.GP (row t i) ⟨0 + j.val, by omega⟩ : ℝ) : EReal) := gpLo h t i j
omit s s' in
theorem pgHi (i : Fin 256) (j : Fin 1408) :
    k0_pay16 (k0_pay5 (x1V m c t) (iblk m c 7 t)) (gHi m c t) (ix2 i j) = ((A.GP (row t i) ⟨1408 + j.val, by omega⟩ : ℝ) : EReal) := gpHi h t i j
omit s s' in
theorem puLo (i : Fin 256) (j : Fin 1408) : k0_pay9 (x1V m c t) (iblk m c 7 t) (uLo m c t) (ix2 i j) = ((A.UP (row t i) ⟨0 + j.val, by omega⟩ : ℝ) : EReal) := upLo h t i j
omit s s' in
theorem puHi (i : Fin 256) (j : Fin 1408) :
    k0_pay17 (k0_pay5 (x1V m c t) (iblk m c 7 t)) (uHi m c t) (ix2 i j) = ((A.UP (row t i) ⟨1408 + j.val, by omega⟩ : ℝ) : EReal) := upHi h t i j

omit s s' in
/-- The joined mixer outputs' block, from its two stores. -/
theorem canonY (i : Fin 256) (j : Fin 1024) :
    View.canon [(⟨Rect.unit ![0, 512] ![256, 512] inb_S256x1024_S256x512_0_512, k0_pay2 (iblk m c 2 t) (iblk m c 6 t)⟩ : View.Piece (Elt Ideal) S256x1024 .bf16),
      ⟨Rect.unit ![0, 0] ![256, 512] inb_S256x1024_S256x512_0_0, k0_pay3 (iblk m c 1 t)⟩] (ix2 i j)
      = ((FfnB.cat (A.YC (row t i)) (A.YA (row t i)) A.goa j : ℝ) : EReal) := by
  let G : S256x1024.Idx → Elt Ideal .bf16 := fun y => ((FfnB.cat (A.YC (row t (y 0))) (A.YA (row t (y 0))) A.goa (y 1) : ℝ) : EReal)
  refine canon_of_blocks G _ ?_ (ix2 i j) ?_
  · refine ⟨fun x => ?_, fun x => ?_, trivial⟩
    · idx_vars x
      refine Eq.trans ?_ (congrArg G (unit_idx inb_S256x1024_S256x512_0_512 x0 x1)).symm
      refine (pay2 (YA := fun i => A.YA (row t i)) (blk2 h t) (blk6 h t) x0 x1).trans (congrArg _ ?_)
      refine Eq.trans ?_ (dif_neg (show ¬ 512 + x1.val < 512 by omega)).symm
      exact congrArg₂ (fun i j => A.YA (row t i) j * rn (1 / 512) (A.YA (row t i)) * A.goa j) (Fin.ext (by simp)) (Fin.ext (by simp))
    · idx_vars x
      refine Eq.trans ?_ (congrArg G (unit_idx inb_S256x1024_S256x512_0_0 x0 x1)).symm
      refine (pay3 _ x0 x1).trans ((blk1 h t x0 x1).trans (congrArg _ ?_))
      refine Eq.trans ?_ (dif_pos (show 0 + x1.val < 512 by have : x1.val < 512 := x1.isLt; omega)).symm
      exact congrArg₂ (fun i j => A.YC (row t i) j) (Fin.ext (by simp)) (Fin.ext (by simp))
  · by_cases hj : j.val < 512
    · exact ⟨_, List.mem_cons_of_mem _ List.mem_cons_self, mem_unit inb_S256x1024_S256x512_0_0 i j (by omega) (by omega)⟩
    · exact ⟨_, List.mem_cons_self, mem_unit inb_S256x1024_S256x512_0_512 i j (by omega) (by omega)⟩

end

theorem emb10 (t : Fin cfg0.N) (i : Fin 256) (j : Fin 1024) : ((View.whole main_v6_0).slice (win0_10.rect t)).emb (ix2 i j) = ix2 (row t i) j := by
  funext a; refine Fin.ext ?_; fin_cases a <;> simp [row, idx t]
theorem emb11 (t : Fin cfg0.N) (i : Fin 256) (j : Fin 2816) : ((View.whole main_v6_1).slice (win0_11.rect t)).emb (ix2 i j) = ix2 (row t i) j := by
  funext a; refine Fin.ext ?_; fin_cases a <;> simp [row, idx t]
theorem emb12 (t : Fin cfg0.N) (i : Fin 256) (j : Fin 2816) : ((View.whole main_v6_2).slice (win0_12.rect t)).emb (ix2 i j) = ix2 (row t i) j := by
  funext a; refine Fin.ext ?_; fin_cases a <;> simp [row, idx t]
theorem emb13 (t : Fin cfg0.N) (i : Fin 256) (j : Fin 2816) : ((View.whole main_v6_3).slice (win0_13.rect t)).emb (ix2 i j) = ix2 (row t i) j := by
  funext a; refine Fin.ext ?_; fin_cases a <;> simp [row, idx t]
theorem emb14 (t : Fin cfg0.N) (i : Fin 256) (j : Fin 2816) : ((View.whole main_v6_4).slice (win0_14.rect t)).emb (ix2 i j) = ix2 (row t i) j := by
  funext a; refine Fin.ext ?_; fin_cases a <;> simp [row, idx t]
theorem emb15 (t : Fin cfg0.N) (i : Fin 256) (j : Fin 1024) : ((View.whole main_v6_5).slice (win0_15.rect t)).emb (ix2 i j) = ix2 (row t i) j := by
  funext a; refine Fin.ext ?_; fin_cases a <;> simp [row, idx t]
theorem emb16 (t : Fin cfg0.N) (i : Fin 256) (j : Fin 1024) : ((View.whole main_v6_6).slice (win0_16.rect t)).emb (ix2 i j) = ix2 (row t i) j := by
  funext a; refine Fin.ext ?_; fin_cases a <;> simp [row, idx t]

variable (h : Args m c A)
include h

theorem out10 : (dats m 0 c).arrAt 10 (cfgs 0).N = fun y => ((A.x1 (y 0) (y 1) : ℝ) : EReal) := by
  refine (dats m 0 c).arrAt_eq_of_covers 10 _ (by decide +kernel) fun t hf y => ?_
  blk_simp
  rw [after0_10]
  by_cases ht : t.val % 32 = 0
  · rw [outsAt0_A m c t ht]; dsimp only; frame_out
    idx_vars y; rw [emb10]
    exact x1At h t _ _
  · rw [outsAt0_B m c t ht]; dsimp only; frame_out
    idx_vars y; rw [emb10]
    exact x1At h t _ _

theorem out11 : (dats m 0 c).arrAt 11 (cfgs 0).N = fun y => ((A.GP (y 0) (y 1) : ℝ) : EReal) := by
  refine (dats m 0 c).arrAt_eq_of_covers 11 _ (by decide +kernel) fun t hf y => ?_
  blk_simp
  rw [after0_11]
  by_cases ht : t.val % 32 = 0
  · rw [outsAt0_A m c t ht]; dsimp only; frame_out
    idx_vars y; rw [emb11]
    exact canonSlab (fun i j => A.GP (row t i) j) _ _ (pgLo h t) (pgHi h t) _ _
  · rw [outsAt0_B m c t ht]; dsimp only; frame_out
    idx_vars y; rw [emb11]
    exact canonSlab (fun i j => A.GP (row t i) j) _ _ (pgLo h t) (pgHi h t) _ _

theorem out12 : (dats m 0 c).arrAt 12 (cfgs 0).N = fun y => ((A.UP (y 0) (y 1) : ℝ) : EReal) := by
  refine (dats m 0 c).arrAt_eq_of_covers 12 _ (by decide +kernel) fun t hf y => ?_
  blk_simp
  rw [after0_12]
  by_cases ht : t.val % 32 = 0
  · rw [outsAt0_A m c t ht]; dsimp only; frame_out
    idx_vars y; rw [emb12]
    exact canonSlab (fun i j => A.UP (row t i) j) _ _ (puLo h t) (puHi h t) _ _
  · rw [outsAt0_B m c t ht]; dsimp only; frame_out
    idx_vars y; rw [emb12]
    exact canonSlab (fun i j => A.UP (row t i) j) _ _ (puLo h t) (puHi h t) _ _

theorem out13 : (dats m 0 c).arrAt 13 (cfgs 0).N = fun y => ((FfnA.gate A.GP A.CW A.CB (y 0) (y 1) : ℝ) : EReal) := by
  refine (dats m 0 c).arrAt_eq_of_covers 13 _ (by decide +kernel) fun t hf y => ?_
  blk_simp
  rw [after0_13]
  by_cases ht : t.val % 32 = 0
  · rw [outsAt0_A m c t ht]; dsimp only; frame_out
    idx_vars y; rw [emb13]
    have ht0 : t.val = 0 := by have : t.val < 32 := t.isLt; omega
    exact canonSlab (fun i j => FfnA.gate A.GP A.CW A.CB (row t i) j) _ _ (gateLo h t _ (readLo_first h t ht0)) (gateHi h t _ (readHi_first h t ht0)) _ _
  · rw [outsAt0_B m c t ht]; dsimp only; frame_out
    idx_vars y; rw [emb13]
    exact canonSlab (fun i j => FfnA.gate A.GP A.CW A.CB (row t i) j) _ _ (gateLo h t _ (readLo_next h t _ (found h t ht _) _ (read_unread_whole _ _ _))) (gateHi h t _ (readHi_next h t _ (found h t ht _) _ (read_unread_whole _ _ _))) _ _

theorem out14 : (dats m 0 c).arrAt 14 (cfgs 0).N = fun y => ((FFfn.act A.GP A.UP A.CW A.CB (y 0) (y 1) : ℝ) : EReal) := by
  refine (dats m 0 c).arrAt_eq_of_covers 14 _ (by decide +kernel) fun t hf y => ?_
  blk_simp
  rw [after0_14]
  by_cases ht : t.val % 32 = 0
  · rw [outsAt0_A m c t ht]; dsimp only; frame_out
    idx_vars y; rw [emb14]
    have ht0 : t.val = 0 := by have : t.val < 32 := t.isLt; omega
    exact canonSlab (fun i j => FFfn.act A.GP A.UP A.CW A.CB (row t i) j) _ _ (actLo h t _ (readLo_first h t ht0)) (actHi h t _ (readHi_first h t ht0)) _ _
  · rw [outsAt0_B m c t ht]; dsimp only; frame_out
    idx_vars y; rw [emb14]
    exact canonSlab (fun i j => FFfn.act A.GP A.UP A.CW A.CB (row t i) j) _ _ (actLo h t _ (readLo_next h t _ (found h t ht _) _ (read_unread_whole _ _ _))) (actHi h t _ (readHi_next h t _ (found h t ht _) _ (read_unread_whole _ _ _))) _ _

theorem out15 : (dats m 0 c).arrAt 15 (cfgs 0).N = fun y => ((FfnB.cat (A.YC (y 0)) (A.YA (y 0)) A.goa (y 1) : ℝ) : EReal) := by
  refine (dats m 0 c).arrAt_eq_of_covers 15 _ (by decide +kernel) fun t hf y => ?_
  blk_simp
  rw [after0_15]
  by_cases ht : t.val % 32 = 0
  · rw [outsAt0_A m c t ht]; dsimp only; frame_out
    idx_vars y; rw [emb15]
    exact canonY h t _ _
  · rw [outsAt0_B m c t ht]; dsimp only; frame_out
    idx_vars y; rw [emb15]
    exact canonY h t _ _

theorem out16 : (dats m 0 c).arrAt 16 (cfgs 0).N = fun y => ((FFfn.h2 A.gf (A.x1 (y 0)) (y 1) : ℝ) : EReal) := by
  refine (dats m 0 c).arrAt_eq_of_covers 16 _ (by decide +kernel) fun t hf y => ?_
  blk_simp
  rw [after0_16]
  by_cases ht : t.val % 32 = 0
  · rw [outsAt0_A m c t ht]; dsimp only; frame_out
    idx_vars y; rw [emb16]
    exact pay5 (X1 := fun i => A.x1 (row t i)) (x1At h t) (blk7 h t) _ _
  · rw [outsAt0_B m c t ht]; dsimp only; frame_out
    idx_vars y; rw [emb16]
    exact pay5 (X1 := fun i => A.x1 (row t i)) (x1At h t) (blk7 h t) _ _

end Cert.FwdFfnIdeal.Hand
-- ==== Proof.FFfnRef.lean ====
module

public import proofs.«01_k».proof.Proof.Gen.FwdFfnRefIdeal.Run
public import proofs.«01_k».proof.Proof.Gen.FwdFfnRefIdeal.Read
public import proofs.«01_k».proof.Proof.FFfnSpec
public import Idealize.ShloMosaic.Lib.Pointwise

@[expose] public section

set_option maxRecDepth 16384

noncomputable section

/-! The reference of the forward feed-forward, read as real numbers. -/

namespace Cert.FwdFfnRefIdeal.Hand

open Cert.FwdFfnRefIdeal Cert.FwdFfnRefIdeal.Gen Cert.FwdFfnRefIdeal.Value Cert.FwdFfnRefIdeal.Read Cert.Hand Idealize.ShloMosaic Idealize.ShloMosaic.TcCoe Idealize.SL.Sem

variable {x0 : FVec Ideal S8192x1024 .f32} {x1 x2 : FVec Ideal S8192x512 .f32} {x3 : FVec Ideal S1x512 .f32} {x4 : FVec Ideal S1024x1024 .f32}
  {x5 : FVec Ideal S1x1024 .f32} {x6 x7 : FVec Ideal S1024x2816 .f32} {x8 : FVec Ideal S3x2816 .f32} {x9 : FVec Ideal S1x2816 .f32}
variable {X X1 : Fin 8192 → Fin 1024 → ℝ} {YC YA : Fin 8192 → Fin 512 → ℝ} {goa : Fin 512 → ℝ} {WO : Fin 1024 → Fin 1024 → ℝ} {gf : Fin 1024 → ℝ}
  {WG WU : Fin 1024 → Fin 2816 → ℝ} {GP UP : Fin 8192 → Fin 2816 → ℝ} {CW : Fin 3 → Fin 2816 → ℝ} {CB : Fin 2816 → ℝ}

theorem v11 (h2 : ∀ i j, x2 (ix2 i j) = ((YA i j : ℝ) : EReal)) (h3 : ∀ j, x3 (ix2 0 j) = ((goa j : ℝ) : EReal)) (i : Fin 8192) (j : Fin 512) :
    val_main_v11 (F := Ideal) x2 x3 (ix2 i j) = ((YA i j * rn (1 / 512) (YA i) * goa j : ℝ) : EReal) := by
  pointwise [val_main_v11, val_main_v10, val_main_v9, val_main_v8, val_main_v7, val_main_v6, val_main_v5, val_main_v4, val_main_v3, val_main_v2, val_main_v1, val_main_v0,
    val_main_cst, val_main_cst_0, val_main_cst_1]
  simp only [h2, h3, ofBits_512, ofBits_eps, ← EReal.coe_mul, sum_coe, div_512, ← EReal.coe_add, rsqrt_512]

/-- The joined mixer outputs. -/
theorem v12 (h1 : ∀ i j, x1 (ix2 i j) = ((YC i j : ℝ) : EReal)) (h2 : ∀ i j, x2 (ix2 i j) = ((YA i j : ℝ) : EReal))
    (h3 : ∀ j, x3 (ix2 0 j) = ((goa j : ℝ) : EReal)) (i : Fin 8192) (j : Fin 1024) :
    val_main_v12 (F := Ideal) x1 x2 x3 (ix2 i j) = ((FfnB.cat (YC i) (YA i) goa j : ℝ) : EReal) := by
  pointwise [val_main_v12]
  by_cases c0 : j.val < 512
  · rw [dif_pos c0, FfnB.cat, dif_pos c0]
    exact h1 i ⟨j.val, c0⟩
  · rw [dif_neg c0, FfnB.cat, dif_neg c0]
    exact v11 h2 h3 i ⟨j.val - 512, by omega⟩

/-- The same, cast at the end. -/
theorem v59 (h1 : ∀ i j, x1 (ix2 i j) = ((YC i j : ℝ) : EReal)) (h2 : ∀ i j, x2 (ix2 i j) = ((YA i j : ℝ) : EReal))
    (h3 : ∀ j, x3 (ix2 0 j) = ((goa j : ℝ) : EReal)) (i : Fin 8192) (j : Fin 1024) :
    val_main_v59 (F := Ideal) x1 x2 x3 (ix2 i j) = ((FfnB.cat (YC i) (YA i) goa j : ℝ) : EReal) := v12 h1 h2 h3 i j

/-- The feed-forward's input. -/
theorem v14 (h0 : ∀ i j, x0 (ix2 i j) = ((X i j : ℝ) : EReal)) (h1 : ∀ i j, x1 (ix2 i j) = ((YC i j : ℝ) : EReal))
    (h2 : ∀ i j, x2 (ix2 i j) = ((YA i j : ℝ) : EReal)) (h3 : ∀ j, x3 (ix2 0 j) = ((goa j : ℝ) : EReal))
    (h4 : ∀ i j, x4 (ix2 i j) = ((WO i j : ℝ) : EReal)) (r : Fin 8192) (j : Fin 1024) :
    val_main_v14 (F := Ideal) x0 x1 x2 x3 x4 (ix2 r j) = ((FfnB.x1 WO goa (X r) (YC r) (YA r) j : ℝ) : EReal) := by
  pointwise [val_main_v14, val_main_v13]
  simp only [h0, v12 h1 h2 h3, h4, ← EReal.coe_mul, sum_coe, ← EReal.coe_add]
  rfl

section
variable (hx : ∀ i j, val_main_v14 (F := Ideal) x0 x1 x2 x3 x4 (ix2 i j) = ((X1 i j : ℝ) : EReal)) (h5 : ∀ j, x5 (ix2 0 j) = ((gf j : ℝ) : EReal))
include hx h5

/-- The normed row. -/
theorem v26 (i : Fin 8192) (j : Fin 1024) : val_main_v26 (F := Ideal) x0 x1 x2 x3 x4 x5 (ix2 i j) = ((FFfn.h2 gf (X1 i) j : ℝ) : EReal) := by
  pointwise [val_main_v26, val_main_v25, val_main_v24, val_main_v23, val_main_v22, val_main_v21, val_main_v20, val_main_v19, val_main_v18, val_main_v17, val_main_v16,
    val_main_v15, val_main_cst_2, val_main_cst_3, val_main_cst_4]
  simp only [hx, h5, ofBits_1024, ofBits_eps, ← EReal.coe_mul, sum_coe, div_1024, ← EReal.coe_add, rsqrt_1024]
  rfl

theorem v60 (i : Fin 8192) (j : Fin 1024) : val_main_v60 (F := Ideal) x0 x1 x2 x3 x4 x5 (ix2 i j) = ((FFfn.h2 gf (X1 i) j : ℝ) : EReal) := v26 hx h5 i j

theorem v27 (h6 : ∀ i j, x6 (ix2 i j) = ((WG i j : ℝ) : EReal)) (i : Fin 8192) (j : Fin 2816) :
    val_main_v27 (F := Ideal) x0 x1 x2 x3 x4 x5 x6 (ix2 i j) = ((FFfn.proj WG gf (X1 i) j : ℝ) : EReal) := by
  pointwise [val_main_v27]
  simp only [v26 hx h5, h6, ← EReal.coe_mul, sum_coe]
  rfl

theorem v28 (h7 : ∀ i j, x7 (ix2 i j) = ((WU i j : ℝ) : EReal)) (i : Fin 8192) (j : Fin 2816) :
    val_main_v28 (F := Ideal) x0 x1 x2 x3 x4 x5 x7 (ix2 i j) = ((FFfn.proj WU gf (X1 i) j : ℝ) : EReal) := by
  pointwise [val_main_v28]
  simp only [v26 hx h5, h7, ← EReal.coe_mul, sum_coe]
  rfl

end

section
variable (hgp : ∀ i j, val_main_v27 (F := Ideal) x0 x1 x2 x3 x4 x5 x6 (ix2 i j) = ((GP i j : ℝ) : EReal))
include hgp

theorem v55 (i : Fin 8192) (j : Fin 2816) : val_main_v55 (F := Ideal) x0 x1 x2 x3 x4 x5 x6 (ix2 i j) = ((GP i j : ℝ) : EReal) := hgp i j

omit hgp in
theorem v56 (hup : ∀ i j, val_main_v28 (F := Ideal) x0 x1 x2 x3 x4 x5 x7 (ix2 i j) = ((UP i j : ℝ) : EReal)) (i : Fin 8192) (j : Fin 2816) :
    val_main_v56 (F := Ideal) x0 x1 x2 x3 x4 x5 x7 (ix2 i j) = ((UP i j : ℝ) : EReal) := hup i j

/-- The rows two before. -/
theorem v31 (r : Fin 8192) (j : Fin 2816) : val_main_v31 (F := Ideal) x0 x1 x2 x3 x4 x5 x6 (ix2 r j) = ((prev (fun s => GP s j) 2 r : ℝ) : EReal) := by
  pointwise [val_main_v31, val_main_v30, val_main_v29, val_main_cst_5]
  by_cases hr : r.val < 2
  · rw [dif_pos hr, prev, if_neg (by omega), EReal.coe_zero]
  · refine (dif_neg hr).trans ((hgp _ _).trans (congrArg _ (prev_eq (fun s => GP s j) ?_).symm))
    show r.val - 2 + 2 = r.val
    omega

/-- The rows one before. -/
theorem v37 (r : Fin 8192) (j : Fin 2816) : val_main_v37 (F := Ideal) x0 x1 x2 x3 x4 x5 x6 (ix2 r j) = ((prev (fun s => GP s j) 1 r : ℝ) : EReal) := by
  pointwise [val_main_v37, val_main_v30, val_main_v29, val_main_cst_5]
  by_cases hr : 1 + r.val < 2
  · rw [dif_pos hr, prev, if_neg (by omega), EReal.coe_zero]
  · refine (dif_neg hr).trans ((hgp _ _).trans (congrArg _ (prev_eq (fun s => GP s j) ?_).symm))
    show 1 + r.val - 2 + 1 = r.val
    omega

theorem v44 (r : Fin 8192) (j : Fin 2816) : val_main_v44 (F := Ideal) x0 x1 x2 x3 x4 x5 x6 (ix2 r j) = ((GP r j : ℝ) : EReal) := by
  pointwise [val_main_v44, val_main_v30, val_main_v29, val_main_cst_5]
  exact hgp r j

section
variable (h8 : ∀ i j, x8 (ix2 i j) = ((CW i j : ℝ) : EReal)) (h9 : ∀ j, x9 (ix2 0 j) = ((CB j : ℝ) : EReal))
include h8 h9

/-- The convolved gate. -/
theorem v52 (r : Fin 8192) (j : Fin 2816) : val_main_v52 (F := Ideal) x0 x1 x2 x3 x4 x5 x6 x8 x9 (ix2 r j) = ((FfnA.gate GP CW CB r j : ℝ) : EReal) := by
  pointwise [val_main_v52, val_main_v51, val_main_v50, val_main_v49, val_main_v48, val_main_v47, val_main_v46, val_main_v45, val_main_v43, val_main_v42, val_main_v41, val_main_v40,
    val_main_v39, val_main_v38, val_main_v36, val_main_v35, val_main_v34, val_main_v33, val_main_v32]
  simp only [v31 hgp, v37 hgp, v44 hgp, h8, h9, ← EReal.coe_mul, ← EReal.coe_add]
  rfl

theorem v57 (r : Fin 8192) (j : Fin 2816) : val_main_v57 (F := Ideal) x0 x1 x2 x3 x4 x5 x6 x8 x9 (ix2 r j) = ((FfnA.gate GP CW CB r j : ℝ) : EReal) :=
  v52 hgp h8 h9 r j

omit hgp h8 h9 in
theorem div_sg (x : ℝ) : Ideal.div 1 (1 + Ideal.exp (-((x : ℝ) : EReal))) = ((sg x : ℝ) : EReal) := Ideal.logistic_coe x

/-- The gated unit. -/
theorem v58 (hup : ∀ i j, val_main_v28 (F := Ideal) x0 x1 x2 x3 x4 x5 x7 (ix2 i j) = ((UP i j : ℝ) : EReal)) (r : Fin 8192) (j : Fin 2816) :
    val_main_v58 (F := Ideal) x0 x1 x2 x3 x4 x5 x6 x7 x8 x9 (ix2 r j) = ((FFfn.act GP UP CW CB r j : ℝ) : EReal) := by
  pointwise [val_main_v58, val_main_v54, val_main_v53, val_main_call0_v5, val_main_call0_v4, val_main_call0_cst_0, val_main_call0_v3, val_main_call0_v2, val_main_call0_cst,
    val_main_call0_v1, val_main_call0_v0]
  rw [v52 hgp h8 h9, hup, div_sg, ← EReal.coe_mul, ← EReal.coe_mul]
  rfl

end

end

end Cert.FwdFfnRefIdeal.Hand
-- ==== Proof.FFfnClaim.lean ====
module

public import proofs.«01_k».proof.Defs
public import proofs.«01_k».proof.Proof.Gen.Pre_fwd_ffn_finite
public import proofs.«01_k».proof.Proof.Gen.FwdFfn.Frame
public import proofs.«01_k».proof.Proof.FFfnOut
public import proofs.«01_k».proof.Proof.FFfnRef

@[expose] public section

set_option maxRecDepth 16384

noncomputable section

/-! The claims about the forward feed-forward. -/

namespace Cert.FwdFfnIdeal.Hand

open Cert.FwdFfnIdeal Cert.FwdFfnIdeal.Gen Cert.Hand Idealize.ShloMosaic Idealize.ShloMosaic.TcCoe Idealize.SL.Sem

/-- The real numbers that the arguments hold. -/
def arrs (m : (ℓ : Loc nD τ sig) → Buf (Elt Ideal) ℓ) (c : Dev nD) : Arrs where
  X := fun i j => (m ((c.tc : Thread nD τ).loc main_arg0) (ix2 i j)).toReal
  YC := fun i j => (m ((c.tc : Thread nD τ).loc main_arg1) (ix2 i j)).toReal
  YA := fun i j => (m ((c.tc : Thread nD τ).loc main_arg2) (ix2 i j)).toReal
  goa := fun j => (m ((c.tc : Thread nD τ).loc main_arg3) (ix2 0 j)).toReal
  WO := fun i j => (m ((c.tc : Thread nD τ).loc main_arg4) (ix2 i j)).toReal
  gf := fun j => (m ((c.tc : Thread nD τ).loc main_arg5) (ix2 0 j)).toReal
  WG := fun i j => (m ((c.tc : Thread nD τ).loc main_arg6) (ix2 i j)).toReal
  WU := fun i j => (m ((c.tc : Thread nD τ).loc main_arg7) (ix2 i j)).toReal
  CW := fun i j => (m ((c.tc : Thread nD τ).loc main_arg8) (ix2 i j)).toReal
  CB := fun j => (m ((c.tc : Thread nD τ).loc main_arg9) (ix2 0 j)).toReal

/-- Under the precondition every element of every argument is a real number. -/
theorem args (m : (ℓ : Loc nD τ sig) → Buf (Elt Ideal) ℓ) (h : Cert.Pre_FwdFfnIdeal_fwd_ffn_finite m) (c : Dev nD) : Args m c (arrs m c) := by
  have H := congrFun (h c) (Shape.Idx.first Cert.Pre_fwd_ffn_finite.Facts.h_S_)
  dsimp only [Cert.Pre_fwd_ffn_finite.fn, Cert.Pre_fwd_ffn_finite.fn_part1, Cert.Pre_fwd_ffn_finite.fn_part2] at H
  obtain ⟨H, e9⟩ := and_split H
  obtain ⟨H, e8⟩ := and_split H
  obtain ⟨H, e7⟩ := and_split H
  obtain ⟨H, e6⟩ := and_split H
  obtain ⟨H, e5⟩ := and_split H
  obtain ⟨H, e4⟩ := and_split H
  obtain ⟨H, e3⟩ := and_split H
  obtain ⟨H, e2⟩ := and_split H
  obtain ⟨e0, e1⟩ := and_split H
  haveI : Subsingleton Cert.Pre_fwd_ffn_finite.S_.Idx := ⟨fun a b => funext fun i => i.elim0⟩
  have hz {s : Shape} (hb : Cert.Pre_fwd_ffn_finite.S_.BroadcastsInDim s ![]) (i : s.Idx) :
      (broadcastInDim s ![] hb (constant Cert.Pre_fwd_ffn_finite.S_ .f32 0x00000000#32) : FVec Ideal s .f32) i = 0 := by
    pointwise
  exact
    { h0 := fun i j => finite_of_all _ _ _ _ _ _ (hz _) e0 (ix2 i j)
      h1 := fun i j => finite_of_all _ _ _ _ _ _ (hz _) e1 (ix2 i j)
      h2 := fun i j => finite_of_all _ _ _ _ _ _ (hz _) e2 (ix2 i j)
      h3 := fun j => finite_of_all _ _ _ _ _ _ (hz _) e3 (ix2 0 j)
      h4 := fun i j => finite_of_all _ _ _ _ _ _ (hz _) e4 (ix2 i j)
      h5 := fun j => finite_of_all _ _ _ _ _ _ (hz _) e5 (ix2 0 j)
      h6 := fun i j => finite_of_all _ _ _ _ _ _ (hz _) e6 (ix2 i j)
      h7 := fun i j => finite_of_all _ _ _ _ _ _ (hz _) e7 (ix2 i j)
      h8 := fun i j => finite_of_all _ _ _ _ _ _ (hz _) e8 (ix2 i j)
      h9 := fun j => finite_of_all _ _ _ _ _ _ (hz _) e9 (ix2 0 j) }

end Cert.FwdFfnIdeal.Hand

namespace Cert.Hand.FFfn

open Idealize.ShloMosaic Idealize.ShloMosaic.TcCoe Idealize.SL.Sem

/-- The reference leaves its arguments as they were. -/
theorem frame_ref : Cert.quiescent_FwdFfnRefIdeal := fun m ρ _ =>
  (θ_run FwdFfnRefIdeal.defs _ _).mono (fun r h => ⟨fun c => (h c).2.2.2.2.2.2.2, sem_eq_zero_of_no_sems (by decide) r.2⟩)
    (FwdFfnRefIdeal.Value.run (F := Ideal) m ρ)

set_option maxHeartbeats 1600000 in
/-- Kernel and reference leave the same results. -/
theorem algebraic : Cert.algebraic_FwdFfnIdeal_FwdFfnRefIdeal_pre_fwd_ffn_finite := by
  intro m g m' g' hp hm
  have A := fun c => FwdFfnIdeal.Hand.args m hp c
  refine ⟨_, _, _, _, _, _, _, FwdFfnIdeal.Value.run_blocks (F := Ideal) m g,
    (θ_run FwdFfnRefIdeal.defs _ _).mono (fun r h c => ?_) (FwdFfnRefIdeal.Value.run (F := Ideal) m' g')⟩
  obtain ⟨r0, r1, r2, r3, r4, r5, r6, ha⟩ := h c
  obtain ⟨m0, m1, m2, m3, m4, m5, m6, m7, m8, m9⟩ := hm c
  obtain ⟨h0, h1, h2, h3, h4, h5, h6, h7, h8, h9⟩ := A c
  have hx := FwdFfnRefIdeal.Hand.v14 h0 h1 h2 h3 h4
  have hg := FwdFfnRefIdeal.Hand.v27 hx h5 h6
  have hu := FwdFfnRefIdeal.Hand.v28 hx h5 h7
  refine ⟨r0.trans (Eq.trans ?_ (FwdFfnIdeal.Hand.out10 (A c)).symm), r1.trans (Eq.trans ?_ (FwdFfnIdeal.Hand.out11 (A c)).symm), r2.trans (Eq.trans ?_ (FwdFfnIdeal.Hand.out12 (A c)).symm), r3.trans (Eq.trans ?_ (FwdFfnIdeal.Hand.out13 (A c)).symm), r4.trans (Eq.trans ?_ (FwdFfnIdeal.Hand.out14 (A c)).symm), r5.trans (Eq.trans ?_ (FwdFfnIdeal.Hand.out15 (A c)).symm), r6.trans (Eq.trans ?_ (FwdFfnIdeal.Hand.out16 (A c)).symm), ha⟩
  · rw [FwdFfnRefIdeal.Read.val_main_v14_eq, m0, m1, m2, m3, m4]
    funext y
    idx_vars y
    exact hx _ _
  · rw [FwdFfnRefIdeal.Read.val_main_v55_eq, m0, m1, m2, m3, m4, m5, m6]
    funext y
    idx_vars y
    exact FwdFfnRefIdeal.Hand.v55 hg _ _
  · rw [FwdFfnRefIdeal.Read.val_main_v56_eq, m0, m1, m2, m3, m4, m5, m7]
    funext y
    idx_vars y
    exact FwdFfnRefIdeal.Hand.v56 hu _ _
  · rw [FwdFfnRefIdeal.Read.val_main_v57_eq, m0, m1, m2, m3, m4, m5, m6, m8, m9]
    funext y
    idx_vars y
    exact FwdFfnRefIdeal.Hand.v57 hg h8 h9 _ _
  · rw [FwdFfnRefIdeal.Read.val_main_v58_eq, m0, m1, m2, m3, m4, m5, m6, m7, m8, m9]
    funext y
    idx_vars y
    exact FwdFfnRefIdeal.Hand.v58 hg h8 h9 hu _ _
  · rw [FwdFfnRefIdeal.Read.val_main_v59_eq, m1, m2, m3]
    funext y
    idx_vars y
    exact FwdFfnRefIdeal.Hand.v59 h1 h2 h3 _ _
  · rw [FwdFfnRefIdeal.Read.val_main_v60_eq, m0, m1, m2, m3, m4, m5]
    funext y
    idx_vars y
    exact FwdFfnRefIdeal.Hand.v60 hx h5 _ _

/-- The claims about this call, in the order in which they are stated. -/
theorem claims : Cert.quiescent_FwdFfn ∧ Cert.quiescent_FwdFfnIdeal ∧ Cert.quiescent_FwdFfnIdeal_pre_fwd_ffn_finite ∧ Cert.quiescent_FwdFfnRefIdeal
    ∧ Cert.quiescent_FwdFfnRefIdeal_pre_fwd_ffn_finite ∧ Cert.preserves_FwdFfn_FwdFfnIdeal ∧ Cert.algebraic_FwdFfnIdeal_FwdFfnRefIdeal_pre_fwd_ffn_finite :=
  ⟨fun m ρ _ => FwdFfn.Gen.frame m ρ, fun m ρ _ => FwdFfnIdeal.Gen.frame m ρ, fun m ρ _ => FwdFfnIdeal.Gen.frame m ρ, frame_ref,
    fun m ρ _ => frame_ref m ρ trivial, trivial, algebraic⟩

end Cert.Hand.FFfn
-- ==== Proof.AttnSpec.lean ====
module

public import proofs.«01_k».proof.Proof.Reals
public import Mathlib.Analysis.SpecialFunctions.Log.Basic

@[expose] public section

noncomputable section

/-! The dilated attention over the reals: a query's scores, with −∞ where a key is not seen, their softmax, and the three
    branches joined by their log-sum-exps. -/

namespace Cert.Hand.Attn

open Idealize.ShloMosaic

/-! ## A row of scores -/

/-- A row of scores that is a softmax's: none is +∞ and one is not −∞. -/
structure Good (S : Fin 256 → EReal) : Prop where
  top : ∀ j, S j ≠ ⊤
  bot : ∃ j, S j ≠ ⊥

/-- The largest score. -/
def rowM (S : Fin 256 → EReal) : ℝ := (Finset.univ.sup S).toReal

/-- The weights before they are divided by their sum. -/
def rowE (S : Fin 256 → EReal) (j : Fin 256) : ℝ := (Ideal.exp (S j - ((rowM S : ℝ) : EReal))).toReal

/-- The weights' sum. -/
def rowD (S : Fin 256 → EReal) : ℝ := ∑ j, rowE S j

/-- The row's log-sum-exp. -/
def rowL (S : Fin 256 → EReal) : ℝ := rowM S + Real.log (rowD S)

/-- The weighted sum of the values. -/
def rowO (S : Fin 256 → EReal) (v : Fin 256 → ℝ) : ℝ := (∑ j, rowE S j * v j) * (1 / rowD S)

theorem sup_coe {S : Fin 256 → EReal} (h : Good S) : Finset.univ.sup S = ((rowM S : ℝ) : EReal) := by
  refine (EReal.coe_toReal ?_ ?_).symm
  · intro e
    obtain ⟨j, -, hj⟩ := Finset.exists_mem_eq_sup Finset.univ ⟨0, Finset.mem_univ _⟩ S
    exact h.top j (hj.symm.trans e)
  · intro e
    obtain ⟨j, hj⟩ := h.bot
    exact hj (le_bot_iff.1 (e ▸ Finset.le_sup (Finset.mem_univ j)))

theorem rowE_bot {S : Fin 256 → EReal} {j : Fin 256} (h : S j = ⊥) : rowE S j = 0 := by
  simp [rowE, h]

theorem rowE_real {S : Fin 256 → EReal} {j : Fin 256} {a : ℝ} (h : S j = ((a : ℝ) : EReal)) : rowE S j = Real.exp (a - rowM S) := by
  rw [rowE, h, ← EReal.coe_sub, Ideal.exp_coe, EReal.toReal_coe]

theorem exp_row {S : Fin 256 → EReal} (h : Good S) (j : Fin 256) : Ideal.exp (S j - ((rowM S : ℝ) : EReal)) = ((rowE S j : ℝ) : EReal) := by
  generalize hs : S j = s
  induction s with
  | bot => simp [rowE_bot hs]
  | top => exact absurd hs (h.top j)
  | coe a => rw [rowE_real hs, ← EReal.coe_sub, Ideal.exp_coe]

theorem rowE_nonneg {S : Fin 256 → EReal} (h : Good S) (j : Fin 256) : 0 ≤ rowE S j := by
  generalize hs : S j = s
  induction s with
  | bot => simp [rowE_bot hs]
  | top => exact absurd hs (h.top j)
  | coe a => rw [rowE_real hs]; exact (Real.exp_pos _).le

theorem rowD_pos {S : Fin 256 → EReal} (h : Good S) : 0 < rowD S := by
  obtain ⟨j, hj⟩ := h.bot
  refine Finset.sum_pos' (fun k _ => rowE_nonneg h k) ⟨j, Finset.mem_univ _, ?_⟩
  generalize hs : S j = s at hj
  induction s with
  | bot => exact absurd rfl hj
  | top => exact absurd hs (h.top j)
  | coe a => rw [rowE_real hs]; exact Real.exp_pos _

theorem log_row {S : Fin 256 → EReal} (h : Good S) : Ideal.log ((rowD S : ℝ) : EReal) = ((Real.log (rowD S) : ℝ) : EReal) := by
  rw [Ideal.log_coe, if_neg (not_le.2 (rowD_pos h))]

theorem div_row {S : Fin 256 → EReal} (h : Good S) (x : ℝ) : Ideal.div (x : EReal) ((rowD S : ℝ) : EReal) = ((x * (1 / rowD S) : ℝ) : EReal) := by
  rw [Ideal.div_coe (rowD_pos h).ne', EReal.coe_mul]

/-- A weighted sum does not see the values of keys that are not seen. -/
theorem sum_row {S : Fin 256 → EReal} (v w : Fin 256 → ℝ) (h : ∀ j, S j ≠ ⊥ → v j = w j) : ∑ j, rowE S j * v j = ∑ j, rowE S j * w j := by
  refine Finset.sum_congr rfl fun j _ => ?_
  by_cases hj : S j = ⊥
  · rw [rowE_bot hj, zero_mul, zero_mul]
  · rw [h j hj]

/-! ## The scores -/

/-- The queries, keys and values, a token a row, the heads side by side. -/
structure Arrs where
  Q : Fin 8192 → Fin 512 → ℝ
  K : Fin 8192 → Fin 512 → ℝ
  W : Fin 8192 → Fin 512 → ℝ

/-- Element `l` of head `h`. -/
def ln (h : Fin 8) (l : Fin 64) : Fin 512 := ⟨64 * h.val + l.val, by omega⟩

/-- The head of an element. -/
def hd (c : Fin 512) : Fin 8 := ⟨c.val / 64, by omega⟩

/-- A head's slope. -/
def slope (h : Fin 8) : ℝ := 1 / 2 ^ (h.val + 1)

/-- How many steps of the dilation column `j` lies before the query at row `i` of its block of 128. -/
def step (i j : ℕ) : ℕ := i + 128 - j

/-- Whether the query at token `p` sees column `j` of its block's 256 keys: up to 128 steps back, none before the sequence. -/
def Sees (d p : ℕ) (j : Fin 256) : Prop := p / d % 128 ≤ j.val ∧ j.val ≤ p / d % 128 + 128 ∧ d * step (p / d % 128) j.val ≤ p

instance (d p : ℕ) (j : Fin 256) : Decidable (Sees d p j) := inferInstanceAs (Decidable (_ ∧ _ ∧ _))

/-- The key's token. -/
def key (d : ℕ) (p : Fin 8192) (j : Fin 256) : Fin 8192 := ⟨p.val - d * step (p.val / d % 128) j.val, by omega⟩

/-- A seen key's score. -/
def scR (A : Arrs) (d : ℕ) (h : Fin 8) (p : Fin 8192) (j : Fin 256) : ℝ :=
  (∑ l, A.Q p (ln h l) * A.K (key d p j) (ln h l)) * (1 / 8) + -(slope h) * ((d * step (p.val / d % 128) j.val : ℕ) : ℝ)

/-- The scores of a query. -/
def S (A : Arrs) (d : ℕ) (h : Fin 8) (p : Fin 8192) (j : Fin 256) : EReal := if Sees d p.val j then ((scR A d h p j : ℝ) : EReal) else ⊥

theorem good (A : Arrs) (d : ℕ) (h : Fin 8) (p : Fin 8192) : Good (S A d h p) where
  top j := by unfold S; split_ifs <;> simp
  bot := by
    have hi : p.val / d % 128 < 128 := Nat.mod_lt _ (by omega)
    refine ⟨⟨p.val / d % 128 + 128, by omega⟩, ?_⟩
    have : Sees d p.val ⟨p.val / d % 128 + 128, by omega⟩ := ⟨by simp, le_refl _, by simp [step]⟩
    rw [S, if_pos this]
    exact EReal.coe_ne_bot _

theorem sees_of {A : Arrs} {d : ℕ} {h : Fin 8} {p : Fin 8192} {j : Fin 256} (hj : S A d h p j ≠ ⊥) : Sees d p.val j := by
  by_contra hn
  exact hj (if_neg hn)

/-- A branch's output. -/
def o (A : Arrs) (d : ℕ) (p : Fin 8192) (c : Fin 512) : ℝ := rowO (S A d (hd c) p) fun j => A.W (key d p j) c

/-- A branch's log-sum-exp. -/
def l (A : Arrs) (d : ℕ) (h : Fin 8) (p : Fin 8192) : ℝ := rowL (S A d h p)

/-! ## The branches joined -/

/-- The sum of the branches' weights, relative to the largest. -/
def tot (a b c : ℝ) : ℝ := Real.exp (a - max (max a b) c) + Real.exp (b - max (max a b) c) + Real.exp (c - max (max a b) c)

theorem tot_pos (a b c : ℝ) : 0 < tot a b c := by unfold tot; positivity

theorem div_tot (a b c x : ℝ) : Ideal.div (x : EReal) ((tot a b c : ℝ) : EReal) = ((x * (1 / tot a b c) : ℝ) : EReal) := by
  rw [Ideal.div_coe (tot_pos a b c).ne', EReal.coe_mul]

theorem log_tot (a b c : ℝ) : Ideal.log ((tot a b c : ℝ) : EReal) = ((Real.log (tot a b c) : ℝ) : EReal) := by
  rw [Ideal.log_coe, if_neg (not_le.2 (tot_pos a b c))]

/-- The attention's output. -/
def out (A : Arrs) (p : Fin 8192) (c : Fin 512) : ℝ :=
  let a := l A 1 (hd c) p; let b := l A 4 (hd c) p; let e := l A 16 (hd c) p; let m := max (max a b) e
  (o A 1 p c * Real.exp (a - m) + o A 4 p c * Real.exp (b - m) + o A 16 p c * Real.exp (e - m)) * (1 / tot a b e)

/-- The log-sum-exp over all branches. -/
def lse (A : Arrs) (h : Fin 8) (p : Fin 8192) : ℝ :=
  max (max (l A 1 h p) (l A 4 h p)) (l A 16 h p) + Real.log (tot (l A 1 h p) (l A 4 h p) (l A 16 h p))

/-- It is the logarithm of the sum of the exponentials. -/
theorem log_sum_exp (a b c : ℝ) : Real.log (Real.exp a + Real.exp b + Real.exp c) = max (max a b) c + Real.log (tot a b c) := by
  have : Real.exp a + Real.exp b + Real.exp c = Real.exp (max (max a b) c) * tot a b c := by
    simp only [tot, mul_add, ← Real.exp_add]
    congr 1
    · congr 1
      · congr 1; ring
      · congr 1; ring
    · congr 1; ring
  rw [this, Real.log_mul (Real.exp_pos _).ne' (tot_pos a b c).ne', Real.log_exp]

end Cert.Hand.Attn
-- ==== Proof.AttnTile.lean ====
module

public import proofs.«01_k».proof.Proof.Gen.AttnFIdeal.Skeleton
public import proofs.«01_k».proof.Proof.AttnSpec
public import Idealize.ShloMosaic.Lib.Pointwise

@[expose] public section

set_option maxRecDepth 16384

noncomputable section

/-! One tile of the attention: 128 queries of two heads against 256 keys. -/

namespace Cert.AttnFIdeal.Hand

open Cert.AttnFIdeal Cert.AttnFIdeal.Gen Cert.Hand Idealize.ShloMosaic Idealize.ShloMosaic.TcCoe Idealize.SL.Sem

/-- A tile's rows, cast. -/
def kb (x : Vec Ideal S128x128 .f32) : FVec Ideal S128x128 .bf16 := truncf .bf16 (shapeCast S128x128 x shapeCasts_S128x128_S128x128) bitsLt_bf16_f32

/-- The first head's lanes, the others zero. -/
def lo (x : Vec Ideal S128x128 .f32) : FVec Ideal S128x128 .bf16 :=
  truncf .bf16 (select k0_pay6 (shapeCast S128x128 x shapeCasts_S128x128_S128x128) (broadcast S128x128 (Scalar.ofBits .f32 0x00000000#32))) bitsLt_bf16_f32

/-- The second head's lanes, the others zero. -/
def hi (x : Vec Ideal S128x128 .f32) : FVec Ideal S128x128 .bf16 :=
  truncf .bf16 (select k0_pay6 (broadcast S128x128 (Scalar.ofBits .f32 0x00000000#32)) (shapeCast S128x128 x shapeCasts_S128x128_S128x128)) bitsLt_bf16_f32

/-- The scores of both heads. -/
def tS (q kp kc : Vec Ideal S128x128 .f32) (mb : Vec Ideal S1x1x256x256 .f32) : FVec Ideal S256x256 .f32 :=
  addf (matmul dot_S256x128_S256x128_S256x256_1_1_0_0_n_n none
    (concatenate S256x128 0 [⟨S128x128, lo q⟩, ⟨S128x128, hi q⟩] concatenates_S128x128_S128x128_S256x128_d0)
    (concatenate S256x128 0 [⟨S128x128, kb kp⟩, ⟨S128x128, kb kc⟩] concatenates_S128x128_S128x128_S256x128_d0)
    (constant S256x256 .f32 0x00000000#32)) (shapeCast S256x256 mb shapeCasts_S1x1x256x256_S256x256)

/-- The scores where the sequence may begin with this block. -/
def tF (np : IVec S256x256 1) (s : FVec Ideal S256x256 .f32) : FVec Ideal S256x256 .f32 :=
  select np (broadcast S256x256 (Named.named κ "mask" 0xF149F2CA#32)) s

def tM (s : FVec Ideal S256x256 .f32) : FVec Ideal S256x1 .f32 :=
  shapeCast S256x1 (multiReduction .maximumf [1] S256 s 0xFF800000#32 reduces_S256x256_S256 (.inl rfl) rfl) shapeCasts_S256_S256x1

def tE (s : FVec Ideal S256x256 .f32) : FVec Ideal S256x256 .f32 := exp (subf s (broadcastTo S256x256 (tM s) broadcasts_S256x1_S256x256))

def tD (s : FVec Ideal S256x256 .f32) : FVec Ideal S256x1 .f32 :=
  shapeCast S256x1 (multiReduction .add [1] S256 (tE s) 0x00000000#32 reduces_S256x256_S256 (.inl rfl) rfl) shapeCasts_S256_S256x1

/-- A column of both heads' rows, spread over each head's lanes. -/
def tH (x : FVec Ideal S256x1 .f32) : FVec Ideal S128x128 .f32 :=
  select k0_pay6
    (broadcastTo S128x128 (shapeCast S128x1 (extractStridedSlice S128x1 ![0, 0] x slices_S256x1_o0_0_S128x1) shapeCasts_S128x1_S128x1) broadcasts_S128x1_S128x128)
    (broadcastTo S128x128 (shapeCast S128x1 (extractStridedSlice S128x1 ![128, 0] x slices_S256x1_o128_0_S128x1) shapeCasts_S128x1_S128x1) broadcasts_S128x1_S128x128)

/-- The tile's log-sum-exps. -/
def tL (s : FVec Ideal S256x256 .f32) : FVec Ideal S128x128 .f32 := shapeCast S128x128 (tH (addf (tM s) (log (tD s)))) shapeCasts_S128x128_S128x128

/-- The tile's outputs. -/
def tO (s : FVec Ideal S256x256 .f32) (vp vc : Vec Ideal S128x128 .f32) : FVec Ideal S128x128 .f32 :=
  shapeCast S128x128 (mulf (matmul dot_S128x512_S512x128_S128x128_1_0_0_1_n_n none
      (concatenate S128x512 1 [⟨S128x256, extractStridedSlice S128x256 ![0, 0] (truncf .bf16 (tE s) bitsLt_bf16_f32) slices_S256x256_o0_0_S128x256⟩,
        ⟨S128x256, extractStridedSlice S128x256 ![128, 0] (truncf .bf16 (tE s) bitsLt_bf16_f32) slices_S256x256_o128_0_S128x256⟩]
        concatenates_S128x256_S128x256_S128x512_d1)
      (concatenate S512x128 0 [⟨S128x128, lo vp⟩, ⟨S128x128, lo vc⟩, ⟨S128x128, hi vp⟩, ⟨S128x128, hi vc⟩] concatenates_S128x128_S128x128_S128x128_S128x128_S512x128_d0)
      (constant S128x128 .f32 0x00000000#32))
    (tH (divf (broadcast S256x1 (Scalar.ofBits .f32 0x3F800000#32)) (tD s)))) shapeCasts_S128x128_S128x128

theorem slt64 : ∀ j : Fin 128, IntOp.cmpi .slt (BitVec.ofNat 32 j.val) 64#32 = if j.val < 64 then 1#1 else 0#1 := by decide +kernel

theorem slt128 : ∀ j : Fin 256, IntOp.cmpi .slt (BitVec.ofNat 32 j.val) 128#32 = if j.val < 128 then 1#1 else 0#1 := by decide +kernel

theorem sel_ite {α : Type} {p : Prop} [Decidable p] (x y : α) : Scalar.select (if p then 1#1 else 0#1) x y = if p then x else y := by
  split_ifs <;> rfl

theorem lo_at (x : Vec Ideal S128x128 .f32) (i j : Fin 128) : lo x (ix2 i j) = if j.val < 64 then x (ix2 i j) else 0 := by
  pointwise [lo, k0_pay6]
  rw [slt64, sel_ite]

theorem hi_at (x : Vec Ideal S128x128 .f32) (i j : Fin 128) : hi x (ix2 i j) = if j.val < 64 then 0 else x (ix2 i j) := by
  pointwise [hi, k0_pay6]
  rw [slt64, sel_ite]

/-- Lane `l` of a tile's head `e`. -/
def hl (e : Fin 2) (l : Fin 64) : Fin 128 := ⟨64 * e.val + l.val, by omega⟩

/-- Row `i` of a tile's head `e`. -/
def hr (e : Fin 2) (i : Fin 128) : Fin 256 := ⟨128 * e.val + i.val, by omega⟩

/-- The tile head of a lane. -/
def he (c : Fin 128) : Fin 2 := ⟨c.val / 64, by omega⟩

theorem sum_lanes (f : Fin 128 → EReal) : ∑ x, f x = ∑ l : Fin 64, f (hl 0 l) + ∑ l : Fin 64, f (hl 1 l) := by
  refine (Fin.sum_univ_add (a := 64) (b := 64) f).trans ?_
  refine congrArg₂ _ (Finset.sum_congr rfl fun l _ => congrArg f (Fin.ext ?_)) (Finset.sum_congr rfl fun l _ => congrArg f (Fin.ext ?_)) <;> simp [hl] <;> omega

section
variable {q kp kc vp vc : Vec Ideal S128x128 .f32} {mb : Vec Ideal S1x1x256x256 .f32}
variable {Qr : Fin 128 → Fin 128 → ℝ} {Kr Vr : Fin 256 → Fin 128 → ℝ}

theorem tS_at (hq : ∀ i c, q (ix2 i c) = ((Qr i c : ℝ) : EReal))
    (hp : ∀ i c, kp (ix2 i c) = ((Kr ⟨i.val, by omega⟩ c : ℝ) : EReal)) (hc : ∀ i c, kc (ix2 i c) = ((Kr ⟨128 + i.val, by omega⟩ c : ℝ) : EReal))
    (e : Fin 2) (i : Fin 128) (j : Fin 256) :
    tS q kp kc mb (ix2 (hr e i) j) = ((∑ l, Qr i (hl e l) * Kr j (hl e l) : ℝ) : EReal) + mb (ix4 0 0 (hr e i) j) := by
  have hk : ∀ x : Fin 128, (if h : j.val < 128 then kp (ix2 ⟨j.val, h⟩ x) else kc (ix2 ⟨j.val - 128, by omega⟩ x)) = ((Kr j x : ℝ) : EReal) := by
    intro x
    split_ifs with h
    · exact hp _ _
    · exact (hc _ _).trans (congrArg (fun k => ((Kr k x : ℝ) : EReal)) (Fin.ext (by simp; omega)))
  pointwise [tS, kb]
  refine congrArg₂ (· + ·) ?_ rfl
  refine (Finset.sum_congr rfl fun x _ => congrArg₂ (· * ·) rfl (hk x)).trans ?_
  rw [sum_lanes, ← sum_coe]
  fin_cases e
  · have h0 : (hr 0 i).val < 128 := by simp [hr]
    refine (congrArg₂ _ (Finset.sum_congr rfl fun l _ => ?_) (Finset.sum_eq_zero fun l _ => ?_)).trans (add_zero _)
    · refine (congrArg₂ (· * ·) ((dif_pos h0).trans ((lo_at _ _ _).trans ((if_pos (by simp [hl])).trans (hq _ _)))) rfl).trans ?_
      rw [← EReal.coe_mul]
      exact congrArg (fun k => ((Qr k (hl 0 l) * Kr j (hl 0 l) : ℝ) : EReal)) (Fin.ext (by simp [hr]))
    · exact (congrArg₂ (· * ·) ((dif_pos h0).trans ((lo_at _ _ _).trans (if_neg (by simp [hl])))) rfl).trans (zero_mul _)
  · have h0 : ¬ (hr 1 i).val < 128 := by simp [hr]
    refine (congrArg₂ _ (Finset.sum_eq_zero fun l _ => ?_) (Finset.sum_congr rfl fun l _ => ?_)).trans (zero_add _)
    · exact (congrArg₂ (· * ·) ((dif_neg h0).trans ((hi_at _ _ _).trans (if_pos (by simp [hl])))) rfl).trans (zero_mul _)
    · refine (congrArg₂ (· * ·) ((dif_neg h0).trans ((hi_at _ _ _).trans ((if_neg (by simp [hl])).trans (hq _ _)))) rfl).trans ?_
      rw [← EReal.coe_mul]
      exact congrArg (fun k => ((Qr k (hl 1 l) * Kr j (hl 1 l) : ℝ) : EReal)) (Fin.ext (by simp [hr]))

end

theorem named_mask : (Named.named κ "mask" 0xF149F2CA#32 : Ideal .f32) = ⊥ := rfl

theorem tF_at (np : IVec S256x256 1) (s : FVec Ideal S256x256 .f32) (i : Fin 256) (j : Fin 256) (p : Prop) [Decidable p]
    (h : np (ix2 i j) = if p then 1#1 else 0#1) : tF np s (ix2 i j) = if p then ⊥ else s (ix2 i j) := by
  pointwise [tF]
  rw [h, sel_ite]
  rfl

theorem np_at (c : grid0.Coords) (i : Fin 256) (j : Fin 256) : k0_pay7 c (ix2 i j) = if (c 1).val = 0 ∧ j.val < 128 then 1#1 else 0#1 := by
  have hc : ∀ n : Fin 4, Scalar.cmpi .eq (BitVec.ofNat 32 n.val) 0#32 = if n.val = 0 then 1#1 else 0#1 := by decide +kernel
  pointwise [k0_pay7]
  rw [slt128]
  refine (congrArg₂ _ (hc (c 1)) rfl).trans ?_
  by_cases h0 : (c 1).val = 0 <;> by_cases h1 : j.val < 128 <;> simp [h0, h1, IntOp.andi]

theorem ofBits_bot : Ideal.ofBits .f32 0xFF800000#32 = ⊥ := by
  simp [Ideal.ofBits, Ideal.ieee]

section
variable {s : FVec Ideal S256x256 .f32} {r : Fin 256} {S : Fin 256 → EReal} (hs : ∀ j, s (ix2 r j) = S j) (hg : Attn.Good S)
include hs hg

theorem tM_at : tM s (ix2 r 0) = ((Attn.rowM S : ℝ) : EReal) := by
  pointwise [tM]
  rw [ofBits_bot, ← Attn.sup_coe hg]
  exact congrArg (fun f => Finset.fold max ⊥ f Finset.univ) (funext hs)

theorem tE_at (j : Fin 256) : tE s (ix2 r j) = ((Attn.rowE S j : ℝ) : EReal) := by
  pointwise [tE]
  rw [tM_at hs hg, hs, Attn.exp_row hg]

theorem tD_at : tD s (ix2 r 0) = ((Attn.rowD S : ℝ) : EReal) := by
  pointwise [tD]
  simp only [tE_at hs hg, sum_coe]
  rfl

end

theorem tH_at (x : FVec Ideal S256x1 .f32) (i : Fin 128) (j : Fin 128) : tH x (ix2 i j) = x (ix2 (hr (he j) i) 0) := by
  pointwise [tH, k0_pay6]
  rw [slt64, sel_ite]
  split_ifs with h
  · exact congrArg (fun r => x (ix2 r 0)) (Fin.ext (by simp [hr, he]; omega))
  · exact congrArg (fun r => x (ix2 r 0)) (Fin.ext (by simp [hr, he]; omega))

theorem sum_split {n m k : ℕ} {α : Type} [AddCommMonoid α] (h : n + m = k) (f : Fin k → α) :
    ∑ x, f x = ∑ a : Fin n, f ⟨a.val, by omega⟩ + ∑ b : Fin m, f ⟨n + b.val, by omega⟩ := by
  subst h
  exact Fin.sum_univ_add f

section
variable {s : FVec Ideal S256x256 .f32} {i j : Fin 128} {S : Fin 256 → EReal} (hs : ∀ k, s (ix2 (hr (he j) i) k) = S k) (hg : Attn.Good S)
include hs hg

theorem tL_at : tL s (ix2 i j) = ((Attn.rowL S : ℝ) : EReal) := by
  pointwise [tL]
  rw [tH_at]
  pointwise
  rw [tM_at hs hg, tD_at hs hg, Attn.log_row hg, ← EReal.coe_add]
  rfl

theorem tO_at {vp vc : Vec Ideal S128x128 .f32} {Vr : Fin 256 → ℝ}
    (hp : ∀ i : Fin 128, vp (ix2 i j) = ((Vr ⟨i.val, by omega⟩ : ℝ) : EReal)) (hc : ∀ i : Fin 128, vc (ix2 i j) = ((Vr ⟨128 + i.val, by omega⟩ : ℝ) : EReal)) :
    tO s vp vc (ix2 i j) = ((Attn.rowO S Vr : ℝ) : EReal) := by
  have hH : tH (divf (broadcast S256x1 (1 : Ideal .f32)) (tD s)) (ix2 i j) = ((1 / Attn.rowD S : ℝ) : EReal) := by
    rw [tH_at]
    pointwise
    rw [tD_at hs hg]
    refine (Attn.div_row hg 1).trans ?_
    rw [one_mul]
  pointwise [tO]
  rw [hH]
  refine (congrArg₂ (· * ·) ?_ rfl).trans (EReal.coe_mul _ _).symm
  rw [sum_split (n := 256) (m := 256) rfl, sum_split (n := 128) (m := 128) (k := 256) rfl, sum_split (n := 128) (m := 128) (k := 256) rfl,
    sum_split (n := 128) (m := 128) (k := 256) rfl, EReal.coe_add, ← sum_coe, ← sum_coe]
  simp only [lo_at, hi_at]
  by_cases h : j.val < 64
  · have hr0 : (⟨i.val, by omega⟩ : Fin 256) = hr (he j) i := Fin.ext (by simp [hr, he]; omega)
    refine (congrArg₂ (· + ·) (congrArg₂ (· + ·) (Finset.sum_congr rfl fun x _ => ?_) (Finset.sum_congr rfl fun x _ => ?_))
      (congrArg₂ (· + ·) (Finset.sum_eq_zero fun x _ => ?_) (Finset.sum_eq_zero fun x _ => ?_))).trans ((congrArg₂ (· + ·) rfl (add_zero _)).trans (add_zero _))
    · rw [dif_pos (show x.val < 256 by omega), dif_pos (show x.val < 128 by omega), if_pos h]
      exact (congrArg₂ (· * ·) ((congrArg (fun r => tE s (ix2 r _)) hr0).trans (tE_at hs hg _)) (hp x)).trans (EReal.coe_mul _ _).symm
    · rw [dif_pos (show 128 + x.val < 256 by omega), dif_neg (show ¬ 128 + x.val < 128 by omega), dif_pos (show 128 + x.val - 128 < 128 by omega), if_pos h]
      exact (congrArg₂ (· * ·) ((congrArg (fun r => tE s (ix2 r _)) hr0).trans (tE_at hs hg _))
        ((congrArg (fun r => vc (ix2 r j)) (Fin.ext (by simp))).trans (hc x))).trans (EReal.coe_mul _ _).symm
    · rw [dif_neg (show ¬ 256 + x.val < 128 by omega), dif_neg (show ¬ 256 + x.val - 128 < 128 by omega)]
      refine (congrArg₂ (· * ·) rfl (?_ : _ = (0 : EReal))).trans (mul_zero _)
      split_ifs <;> rfl
    · rw [dif_neg (show ¬ 256 + (128 + x.val) < 128 by omega), dif_neg (show ¬ 256 + (128 + x.val) - 128 < 128 by omega)]
      refine (congrArg₂ (· * ·) rfl (?_ : _ = (0 : EReal))).trans (mul_zero _)
      split_ifs <;> rfl
  · have hr0 : (⟨128 + i.val, by omega⟩ : Fin 256) = hr (he j) i := Fin.ext (by simp [hr, he]; omega)
    refine (congrArg₂ (· + ·) (congrArg₂ (· + ·) (Finset.sum_eq_zero fun x _ => ?_) (Finset.sum_eq_zero fun x _ => ?_))
      (congrArg₂ (· + ·) (Finset.sum_congr rfl fun x _ => ?_) (Finset.sum_congr rfl fun x _ => ?_))).trans ((congrArg₂ (· + ·) (add_zero _) rfl).trans (zero_add _))
    · split_ifs <;> first | exact mul_zero _ | omega
    · split_ifs <;> first | exact mul_zero _ | omega
    · rw [dif_neg (show ¬ 256 + x.val < 256 by omega), dif_neg (show ¬ 256 + x.val < 128 by omega), dif_neg (show ¬ 256 + x.val - 128 < 128 by omega),
        dif_pos (show 256 + x.val - 128 - 128 < 128 by omega), if_neg h]
      exact (congrArg₂ (· * ·) ((congrArg₂ (fun r k => tE s (ix2 r k)) hr0 (Fin.ext (by simp))).trans (tE_at hs hg _))
        ((congrArg (fun r => vp (ix2 r j)) (Fin.ext (by simp; omega))).trans (hp x))).trans (EReal.coe_mul _ _).symm
    · rw [dif_neg (show ¬ 256 + (128 + x.val) < 256 by omega), dif_neg (show ¬ 256 + (128 + x.val) < 128 by omega),
        dif_neg (show ¬ 256 + (128 + x.val) - 128 < 128 by omega), dif_neg (show ¬ 256 + (128 + x.val) - 128 - 128 < 128 by omega), if_neg h]
      exact (congrArg₂ (· * ·) ((congrArg₂ (fun r k => tE s (ix2 r k)) hr0 (Fin.ext (by simp))).trans (tE_at hs hg _))
        ((congrArg (fun r => vc (ix2 r j)) (Fin.ext (by simp; omega))).trans (hc x))).trans (EReal.coe_mul _ _).symm

end

end Cert.AttnFIdeal.Hand
-- ==== Proof.AttnPieces.lean ====
module

public import proofs.«01_k».proof.Proof.AttnTile
public import proofs.«01_k».proof.Proof.Pieces
public import proofs.«01_k».proof.Proof.Gen.AttnFIdeal.Value

@[expose] public section

set_option maxRecDepth 16384

noncomputable section

/-! The attention's scratch: what a grid point stores for each dilation, as sixteen strided blocks of rows. -/

namespace Cert.AttnFIdeal.Hand

open Cert.AttnFIdeal Cert.AttnFIdeal.Gen Cert.Hand Idealize.ShloMosaic Idealize.ShloMosaic.TcCoe Idealize.SL.Sem
open Idealize.ShloMosaic.Pipeline (Dat)

/-- A dilation `d`: the chunk's rows of one residue modulo `d` are `B` blocks of 128. -/
structure Dil where
  d : ℕ
  B : ℕ
  i : Fin 3
  pos : 0 < d
  le : ∀ n : Fin 16, n.val / B + 128 * d * (n.val % B) + 127 * d < 2048
  tail : ∀ n : Fin 16, 2048 - 128 * d + n.val / B + 127 * d < 2048

def D1 : Dil := ⟨1, 16, 0, by decide, by decide +kernel, by decide +kernel⟩
def D4 : Dil := ⟨4, 4, 1, by decide, by decide +kernel, by decide +kernel⟩
def D16 : Dil := ⟨16, 1, 2, by decide, by decide +kernel, by decide +kernel⟩

/-- The first row of block `n`. -/
def off (D : Dil) (n : Fin 16) : ℕ := n.val / D.B + 128 * D.d * (n.val % D.B)

/-- The first row of the last block of block `n`'s residue. -/
def last (D : Dil) (n : Fin 16) : ℕ := 2048 - 128 * D.d + n.val / D.B

/-- The rows' spacing and the columns'. -/
def spacing (d : ℕ) : Fin 2 → ℕ := if d = 1 then fun _ => 1 else ![d, 1]

theorem spacing_0 (d : ℕ) : spacing d 0 = d := by unfold spacing; split_ifs with h <;> simp [h]

theorem spacing_1 (d : ℕ) : spacing d 1 = 1 := by unfold spacing; split_ifs with h <;> simp

/-- 128 rows from `o`, `d` apart. -/
def rows (d o : ℕ) (hd : 0 < d) (h : o + 127 * d < 2048) : Rect S2048x128 where
  off := ![o, 0]
  size := S128x128.size
  stride := spacing d
  inb a := by
    right
    fin_cases a
    · show o + spacing d 0 * 127 < 2048
      rw [spacing_0, Nat.mul_comm]
      exact h
    · show 0 + spacing d 1 * 127 < 128
      rw [spacing_1]
      omega
  stride_pos a := by
    fin_cases a
    · show 0 < spacing d 0
      rwa [spacing_0]
    · show 0 < spacing d 1
      rw [spacing_1]
      omega

theorem rows_emb {d o : ℕ} (hd : 0 < d) (h : o + 127 * d < 2048) (i j : Fin 128) :
    (rows d o hd h).emb (ix2 i j) = ix2 ⟨o + d * i.val, by have := Nat.mul_le_mul_left d (show i.val ≤ 127 by omega); omega⟩ j := by
  funext k
  refine Fin.ext ?_
  fin_cases k
  · exact congrArg (fun e => o + e * i.val) (spacing_0 d)
  · refine (congrArg (fun e => 0 + e * j.val) (spacing_1 d)).trans ?_
    simp

/-- The first `n` of `N` pieces, the last first. -/
def upTo {N : ℕ} (P : Fin N → View.Piece (Elt Ideal) S2048x128 .f32) : ∀ n : ℕ, n ≤ N → List (View.Piece (Elt Ideal) S2048x128 .f32)
  | 0, _ => []
  | n + 1, h => P ⟨n, h⟩ :: upTo P n (Nat.le_of_succ_le h)

theorem upTo_piecesOf {N : ℕ} {P : Fin N → View.Piece (Elt Ideal) S2048x128 .f32} {G : S2048x128.Idx → Elt Ideal .f32}
    (hP : ∀ n x, (P n).2 x = G ((P n).1.emb x)) : ∀ (n : ℕ) (h : n ≤ N), View.PiecesOf G (upTo P n h)
  | 0, _ => trivial
  | n + 1, h => ⟨hP ⟨n, h⟩, upTo_piecesOf hP n _⟩

theorem mem_upTo {N : ℕ} (P : Fin N → View.Piece (Elt Ideal) S2048x128 .f32) (k : ℕ) : ∀ (n : ℕ) (h : n ≤ N) (hk : k < n), P ⟨k, by omega⟩ ∈ upTo P n h
  | n + 1, h, hk => by
    by_cases e : k = n
    · subst e
      exact List.mem_cons_self
    · exact List.mem_cons_of_mem _ (mem_upTo P k n _ (by omega))

/-- Pieces that are blocks of one array, and reach it all, read it. -/
theorem canon_upTo {N : ℕ} {P : Fin N → View.Piece (Elt Ideal) S2048x128 .f32} {G : S2048x128.Idx → Elt Ideal .f32}
    (hP : ∀ n x, (P n).2 x = G ((P n).1.emb x)) (hc : ∀ y, ∃ n, y ∈ (P n).1.set) (y : S2048x128.Idx) : View.canon (upTo P N (le_refl _)) y = G y := by
  obtain ⟨n, hn⟩ := hc y
  exact canon_of_blocks G _ (upTo_piecesOf hP N _) y ⟨P n, mem_upTo P n.val N _ n.isLt, hn⟩

section

variable (c : Dev nD) (i : grid0.Coords)
  (arg2 : Memref sig .tc .vmem S2048x128 .f32) (harg2 : arg2.IsWhole) (arg3 : Memref sig .tc .vmem S2048x128 .f32) (harg3 : arg3.IsWhole)
  (arg4 : Memref sig .tc .vmem S2048x128 .f32) (harg4 : arg4.IsWhole) (arg5 : Memref sig .tc .vmem S2048x128 .f32) (harg5 : arg5.IsWhole)
  (arg6 : Memref sig .tc .vmem S2048x128 .f32) (harg6 : arg6.IsWhole) (arg7 : Memref sig .tc .vmem S3x1x256x256 .f32) (harg7 : arg7.IsWhole)
  (x0 x1 x2 x3 x4 : Vec Ideal S2048x128 .f32) (x5 : Vec Ideal S3x1x256x256 .f32)

/-- A block of rows as the body loads it. -/
abbrev ldBlk (a : Memref sig .tc .vmem S2048x128 .f32) (ha : a.IsWhole) (x : Vec Ideal S2048x128 .f32) (D : Dil) (n : Fin 16) : Vec Ideal S128x128 .f32 :=
  View.readAt (Elt Ideal) a.view (rows D.d (off D n) D.pos (D.le n)).toLoadRect (ha.unread x)

/-- The last block of a block's residue as the body loads it from the chunk before. -/
abbrev ldLast (a : Memref sig .tc .vmem S2048x128 .f32) (ha : a.IsWhole) (x : Vec Ideal S2048x128 .f32) (D : Dil) (n : Fin 16) : Vec Ideal S128x128 .f32 :=
  View.readAt (Elt Ideal) a.view (rows D.d (last D n) D.pos (D.tail n)).toLoadRect (ha.unread x)

/-- The block of rows before block `n`. -/
def ldPrev (a b : Memref sig .tc .vmem S2048x128 .f32) (ha : a.IsWhole) (hb : b.IsWhole) (x y : Vec Ideal S2048x128 .f32) (D : Dil) (n : Fin 16) :
    Vec Ideal S128x128 .f32 :=
  if n.val % D.B = 0 then ldLast a ha x D n else ldBlk b hb y D ⟨n.val - 1, by omega⟩

theorem bias_inb (k : Fin 3) : ∀ a, (![k.val, 0, 0, 0] : Fin 4 → ℕ) a + S1x1x256x256.size a ≤ S3x1x256x256.size a := by
  intro a
  fin_cases a
  · show k.val + 1 ≤ 3
    omega
  · show 0 + 1 ≤ 1
    omega
  · show 0 + 256 ≤ 256
    omega
  · show 0 + 256 ≤ 256
    omega

abbrev ldBias (D : Dil) : Vec Ideal S1x1x256x256 .f32 :=
  View.readAt (Elt Ideal) arg7.view (Rect.unit (s := S3x1x256x256) ![D.i.val, 0, 0, 0] S1x1x256x256.size (bias_inb D.i)).toLoadRect (harg7.unread x5)

/-- A block's scores. -/
def bS (D : Dil) (n : Fin 16) : FVec Ideal S256x256 .f32 :=
  if n.val % D.B = 0 then
    tF (k0_pay7 i) (tS (ldBlk arg2 harg2 x0 D n) (ldPrev arg3 arg4 harg3 harg4 x1 x2 D n) (ldBlk arg4 harg4 x2 D n) (ldBias arg7 harg7 x5 D))
  else tS (ldBlk arg2 harg2 x0 D n) (ldPrev arg3 arg4 harg3 harg4 x1 x2 D n) (ldBlk arg4 harg4 x2 D n) (ldBias arg7 harg7 x5 D)

/-- A block's log-sum-exps, stored. -/
def pL (D : Dil) (n : Fin 16) : View.Piece (Elt Ideal) S2048x128 .f32 :=
  ⟨rows D.d (off D n) D.pos (D.le n), tL (bS i arg2 harg2 arg3 harg3 arg4 harg4 arg7 harg7 x0 x1 x2 x5 D n)⟩

/-- A block's outputs, stored. -/
def pO (D : Dil) (n : Fin 16) : View.Piece (Elt Ideal) S2048x128 .f32 :=
  ⟨rows D.d (off D n) D.pos (D.le n), tO (bS i arg2 harg2 arg3 harg3 arg4 harg4 arg7 harg7 x0 x1 x2 x5 D n)
    (ldPrev arg5 arg6 harg5 harg6 x3 x4 D n) (ldBlk arg6 harg6 x4 D n)⟩

theorem l1_eq : kernelRun0_A.sl.HS3_16 c i arg2 harg2 arg3 harg3 arg4 harg4 arg7 harg7 x0 x1 x2 x5
    = upTo (pL i arg2 harg2 arg3 harg3 arg4 harg4 arg7 harg7 x0 x1 x2 x5 D1) 16 (le_refl _) := by
  sl_kernel_rfl

theorem l4_eq : kernelRun0_A.sl.HS4_16 c i arg2 harg2 arg3 harg3 arg4 harg4 arg7 harg7 x0 x1 x2 x5
    = upTo (pL i arg2 harg2 arg3 harg3 arg4 harg4 arg7 harg7 x0 x1 x2 x5 D4) 16 (le_refl _) := by
  sl_kernel_rfl

theorem l16_eq : kernelRun0_A.sl.HS5_16 c i arg2 harg2 arg3 harg3 arg4 harg4 arg7 harg7 x0 x1 x2 x5
    = upTo (pL i arg2 harg2 arg3 harg3 arg4 harg4 arg7 harg7 x0 x1 x2 x5 D16) 16 (le_refl _) := by
  sl_kernel_rfl

theorem o1_eq : kernelRun0_A.sl.HS0_16 c i arg2 harg2 arg3 harg3 arg4 harg4 arg5 harg5 arg6 harg6 arg7 harg7 x0 x1 x2 x3 x4 x5
    = upTo (pO i arg2 harg2 arg3 harg3 arg4 harg4 arg5 harg5 arg6 harg6 arg7 harg7 x0 x1 x2 x3 x4 x5 D1) 16 (le_refl _) := by
  sl_kernel_rfl

theorem o4_eq : kernelRun0_A.sl.HS1_16 c i arg2 harg2 arg3 harg3 arg4 harg4 arg5 harg5 arg6 harg6 arg7 harg7 x0 x1 x2 x3 x4 x5
    = upTo (pO i arg2 harg2 arg3 harg3 arg4 harg4 arg5 harg5 arg6 harg6 arg7 harg7 x0 x1 x2 x3 x4 x5 D4) 16 (le_refl _) := by
  sl_kernel_rfl

theorem o16_eq : kernelRun0_A.sl.HS2_16 c i arg2 harg2 arg3 harg3 arg4 harg4 arg5 harg5 arg6 harg6 arg7 harg7 x0 x1 x2 x3 x4 x5
    = upTo (pO i arg2 harg2 arg3 harg3 arg4 harg4 arg5 harg5 arg6 harg6 arg7 harg7 x0 x1 x2 x3 x4 x5 D16) 16 (le_refl _) := by
  sl_kernel_rfl

end

end Cert.AttnFIdeal.Hand
-- ==== Proof.AttnMerge.lean ====
module

public import proofs.«01_k».proof.Proof.AttnPieces

@[expose] public section

set_option maxRecDepth 16384

noncomputable section

/-! The three branches joined, 256 rows at a time. -/

namespace Cert.AttnFIdeal.Hand

open Cert.AttnFIdeal Cert.AttnFIdeal.Gen Cert.Hand Idealize.ShloMosaic Idealize.ShloMosaic.TcCoe Idealize.SL.Sem
open Idealize.ShloMosaic.Pipeline (Dat)

section

variable (a b e : FVec Ideal S256x128 .f32)

def mX : FVec Ideal S256x128 .f32 := maximumf (maximumf a b) e

def mT : FVec Ideal S256x128 .f32 := addf (addf (exp (subf a (mX a b e))) (exp (subf b (mX a b e)))) (exp (subf e (mX a b e)))

/-- The log-sum-exp over the branches. -/
def mL : FVec Ideal S256x128 .f32 := addf (mX a b e) (log (mT a b e))

/-- The outputs weighted. -/
def mO (u v w : FVec Ideal S256x128 .f32) : FVec Ideal S256x128 .f32 :=
  divf (addf (addf (mulf u (exp (subf a (mX a b e)))) (mulf v (exp (subf b (mX a b e))))) (mulf w (exp (subf e (mX a b e))))) (mT a b e)

end

theorem slab_inb (n : Fin 8) : ∀ a, (![256 * n.val, 0] : Fin 2 → ℕ) a + S256x128.size a ≤ S2048x128.size a := by
  intro a
  fin_cases a
  · show 256 * n.val + 256 ≤ 2048
    omega
  · show 0 + 128 ≤ 128
    omega

/-- 256 rows. -/
abbrev slab (n : Fin 8) : Rect S2048x128 := Rect.unit (s := S2048x128) ![256 * n.val, 0] S256x128.size (slab_inb n)

/-- Eight slabs, the last first. -/
abbrev slabs (f : Fin 8 → FVec Ideal S256x128 .f32) : List (View.Piece (Elt Ideal) S2048x128 .f32) := upTo (fun k => ⟨slab k, f k⟩) 8 (le_refl _)

/-- 256 rows of a scratch. -/
abbrev rdS (a : Memref sig .tc .vmem S2048x128 .f32) (L : List (View.Piece (Elt Ideal) S2048x128 .f32)) (n : Fin 8) : FVec Ideal S256x128 .f32 :=
  a.view.readCov L (slab n).toLoadRect

section

variable (c : Dev nD) (i : grid0.Coords)
  (arg2 : Memref sig .tc .vmem S2048x128 .f32) (harg2 : arg2.IsWhole) (arg3 : Memref sig .tc .vmem S2048x128 .f32) (harg3 : arg3.IsWhole)
  (arg4 : Memref sig .tc .vmem S2048x128 .f32) (harg4 : arg4.IsWhole) (arg5 : Memref sig .tc .vmem S2048x128 .f32) (harg5 : arg5.IsWhole)
  (arg6 : Memref sig .tc .vmem S2048x128 .f32) (harg6 : arg6.IsWhole) (arg7 : Memref sig .tc .vmem S3x1x256x256 .f32) (harg7 : arg7.IsWhole)
  (arg8 : Memref sig .tc .vmem S2048x128 .f32) (harg8 : arg8.IsWhole) (arg9 : Memref sig .tc .vmem S2048x128 .f32) (harg9 : arg9.IsWhole)
  (arg10 : Memref sig .tc .vmem S2048x128 .f32) (harg10 : arg10.IsWhole) (arg11 : Memref sig .tc .vmem S2048x128 .f32) (harg11 : arg11.IsWhole)
  (arg12 : Memref sig .tc .vmem S2048x128 .f32) (harg12 : arg12.IsWhole) (arg13 : Memref sig .tc .vmem S2048x128 .f32) (harg13 : arg13.IsWhole)
  (arg14 : Memref sig .tc .vmem S2048x128 .f32) (harg14 : arg14.IsWhole) (arg15 : Memref sig .tc .vmem S2048x128 .f32) (harg15 : arg15.IsWhole)
  (x0 x1 x2 x3 x4 : Vec Ideal S2048x128 .f32) (x5 : Vec Ideal S3x1x256x256 .f32)

/-- The three branches' log-sum-exps of a slab. -/
abbrev r1 (n : Fin 8) : FVec Ideal S256x128 .f32 := rdS arg13 (kernelRun0_A.sl.HS3_16 c i arg2 harg2 arg3 harg3 arg4 harg4 arg7 harg7 x0 x1 x2 x5) n
abbrev r4 (n : Fin 8) : FVec Ideal S256x128 .f32 := rdS arg14 (kernelRun0_A.sl.HS4_16 c i arg2 harg2 arg3 harg3 arg4 harg4 arg7 harg7 x0 x1 x2 x5) n
abbrev r16 (n : Fin 8) : FVec Ideal S256x128 .f32 := rdS arg15 (kernelRun0_A.sl.HS5_16 c i arg2 harg2 arg3 harg3 arg4 harg4 arg7 harg7 x0 x1 x2 x5) n

/-- The three branches' outputs of a slab. -/
abbrev u1 (n : Fin 8) : FVec Ideal S256x128 .f32 :=
  rdS arg10 (kernelRun0_A.sl.HS0_16 c i arg2 harg2 arg3 harg3 arg4 harg4 arg5 harg5 arg6 harg6 arg7 harg7 x0 x1 x2 x3 x4 x5) n
abbrev u4 (n : Fin 8) : FVec Ideal S256x128 .f32 :=
  rdS arg11 (kernelRun0_A.sl.HS1_16 c i arg2 harg2 arg3 harg3 arg4 harg4 arg5 harg5 arg6 harg6 arg7 harg7 x0 x1 x2 x3 x4 x5) n
abbrev u16 (n : Fin 8) : FVec Ideal S256x128 .f32 :=
  rdS arg12 (kernelRun0_A.sl.HS2_16 c i arg2 harg2 arg3 harg3 arg4 harg4 arg5 harg5 arg6 harg6 arg7 harg7 x0 x1 x2 x3 x4 x5) n

/-- A slab's joined outputs. -/
def fO (n : Fin 8) : FVec Ideal S256x128 .f32 :=
  mO (r1 c i arg2 harg2 arg3 harg3 arg4 harg4 arg7 harg7 arg13 x0 x1 x2 x5 n) (r4 c i arg2 harg2 arg3 harg3 arg4 harg4 arg7 harg7 arg14 x0 x1 x2 x5 n)
    (r16 c i arg2 harg2 arg3 harg3 arg4 harg4 arg7 harg7 arg15 x0 x1 x2 x5 n)
    (u1 c i arg2 harg2 arg3 harg3 arg4 harg4 arg5 harg5 arg6 harg6 arg7 harg7 arg10 x0 x1 x2 x3 x4 x5 n)
    (u4 c i arg2 harg2 arg3 harg3 arg4 harg4 arg5 harg5 arg6 harg6 arg7 harg7 arg11 x0 x1 x2 x3 x4 x5 n)
    (u16 c i arg2 harg2 arg3 harg3 arg4 harg4 arg5 harg5 arg6 harg6 arg7 harg7 arg12 x0 x1 x2 x3 x4 x5 n)

/-- A slab's log-sum-exps. -/
def fL (n : Fin 8) : FVec Ideal S256x128 .f32 :=
  mL (r1 c i arg2 harg2 arg3 harg3 arg4 harg4 arg7 harg7 arg13 x0 x1 x2 x5 n) (r4 c i arg2 harg2 arg3 harg3 arg4 harg4 arg7 harg7 arg14 x0 x1 x2 x5 n)
    (r16 c i arg2 harg2 arg3 harg3 arg4 harg4 arg7 harg7 arg15 x0 x1 x2 x5 n)

theorem outs_eq : (kernelRun0_A c i arg2 harg2 arg3 harg3 arg4 harg4 arg5 harg5 arg6 harg6 arg7 harg7 arg8 harg8 arg9 harg9 arg10 harg10 arg11 harg11
      arg12 harg12 arg13 harg13 arg14 harg14 arg15 harg15 x0 x1 x2 x3 x4 x5).1
    = slabs (fO c i arg2 harg2 arg3 harg3 arg4 harg4 arg5 harg5 arg6 harg6 arg7 harg7 arg10 arg11 arg12 arg13 arg14 arg15 x0 x1 x2 x3 x4 x5) := by
  sl_kernel_rfl

theorem lses_eq : (kernelRun0_A c i arg2 harg2 arg3 harg3 arg4 harg4 arg5 harg5 arg6 harg6 arg7 harg7 arg8 harg8 arg9 harg9 arg10 harg10 arg11 harg11
      arg12 harg12 arg13 harg13 arg14 harg14 arg15 harg15 x0 x1 x2 x3 x4 x5).2.1
    = slabs (fL c i arg2 harg2 arg3 harg3 arg4 harg4 arg7 harg7 arg13 arg14 arg15 x0 x1 x2 x5) := by
  sl_kernel_rfl

end

end Cert.AttnFIdeal.Hand
-- ==== Proof.AttnRows.lean ====
module

public import proofs.«01_k».proof.Proof.AttnMerge
public import Idealize.ShloMosaic.Lib.WholeRead

@[expose] public section

set_option maxRecDepth 16384

noncomputable section

/-! What the attention's blocks hold, on real inputs. -/

namespace Cert.AttnFIdeal.Hand

open Cert.AttnFIdeal Cert.AttnFIdeal.Gen Cert.Hand Idealize.ShloMosaic Idealize.ShloMosaic.TcCoe Idealize.SL.Sem
open Cert.Hand.Attn (Arrs)

theorem ex_ix2 {a b : ℕ} (x : (({ rank := 2, size := ![a, b] } : Shape)).Idx) : ∃ (r : Fin a) (c : Fin b), x = ix2 r c :=
  ⟨x 0, x 1, by funext k; fin_cases k <;> rfl⟩

/-- Row `x` of chunk `n` as a token. -/
def tok (n : Fin 4) (x : Fin 2048) : Fin 8192 := ⟨2048 * n.val + x.val, by omega⟩

/-- Lane `c` of head pair `h` as an element. -/
def lane (h : Fin 4) (c : Fin 128) : Fin 512 := ⟨128 * h.val + c.val, by omega⟩

/-- Half `e` of head pair `h` as a head. -/
def head (h : Fin 4) (e : Fin 2) : Fin 8 := ⟨2 * h.val + e.val, by omega⟩

theorem hd_lane (h : Fin 4) (c : Fin 128) : Attn.hd (lane h c) = head h (he c) := Fin.ext (by simp only [Attn.hd, lane, head, he]; omega)

theorem lane_hl (h : Fin 4) (e : Fin 2) (l : Fin 64) : lane h (hl e l) = Attn.ln (head h e) l := Fin.ext (by simp only [Attn.ln, lane, head, hl]; omega)

/-- The chunk before. -/
def prv (n : Fin 4) : Fin 4 := ⟨n.val - 1, by omega⟩

/-- The token of column `j` of block `m` in chunk `n`. -/
def kt (D : Dil) (n : Fin 4) (m : Fin 16) (j : Fin 256) : Fin 8192 :=
  if h : j.val < 128 then
    if m.val % D.B = 0 then tok (prv n) ⟨last D m + D.d * j.val, by
      have := D.tail m; have := Nat.mul_le_mul_left D.d (show j.val ≤ 127 by omega); unfold last; omega⟩
    else tok n ⟨off D ⟨m.val - 1, by omega⟩ + D.d * j.val, by
      have := D.le ⟨m.val - 1, by omega⟩; have := Nat.mul_le_mul_left D.d (show j.val ≤ 127 by omega); unfold off; omega⟩
  else tok n ⟨off D m + D.d * (j.val - 128), by
    have := D.le m; have := Nat.mul_le_mul_left D.d (show j.val - 128 ≤ 127 by omega); unfold off; omega⟩

/-- The token of row `i` of block `m` in chunk `n`. -/
def qt (D : Dil) (n : Fin 4) (m : Fin 16) (i : Fin 128) : Fin 8192 := tok n ⟨off D m + D.d * i.val, by
  have := D.le m; have := Nat.mul_le_mul_left D.d (show i.val ≤ 127 by omega); unfold off; omega⟩

/-- One of the three dilations. -/
def Is (D : Dil) : Prop := D = D1 ∨ D = D4 ∨ D = D16

theorem qt_mod {D : Dil} (hD : Is D) (n : Fin 4) (m : Fin 16) (i : Fin 128) : (qt D n m i).val / D.d % 128 = i.val := by
  obtain ⟨m, hm⟩ := m
  rcases hD with rfl | rfl | rfl <;> simp only [qt, tok, off, D1, D4, D16] <;> interval_cases m <;> omega

theorem sees_iff {D : Dil} (hD : Is D) (n : Fin 4) (m : Fin 16) (i : Fin 128) (j : Fin 256) :
    Attn.Sees D.d (qt D n m i).val j ↔ (i.val ≤ j.val ∧ j.val ≤ i.val + 128) ∧ ¬(m.val % D.B = 0 ∧ n.val = 0 ∧ j.val < 128) := by
  unfold Attn.Sees
  rw [qt_mod hD n m i]
  obtain ⟨m, hm⟩ := m
  rcases hD with rfl | rfl | rfl <;> simp only [qt, tok, off, D1, D4, D16, Attn.step] <;> interval_cases m <;> omega

theorem kt_key {D : Dil} (hD : Is D) (n : Fin 4) (m : Fin 16) (i : Fin 128) (j : Fin 256) (hs : Attn.Sees D.d (qt D n m i).val j) :
    kt D n m j = Attn.key D.d (qt D n m i) j := by
  obtain ⟨⟨h1, h2⟩, h3⟩ := (sees_iff hD n m i j).1 hs
  refine Fin.ext ?_
  simp only [Attn.key]
  rw [qt_mod hD n m i]
  clear hs
  unfold kt
  by_cases h : j.val < 128
  · rw [dif_pos h]
    by_cases hb : m.val % D.B = 0
    · rw [if_pos hb]
      obtain ⟨m, hm⟩ := m
      rcases hD with rfl | rfl | rfl <;> simp only [qt, tok, off, last, prv, D1, D4, D16, Attn.step] at * <;> interval_cases m <;> omega
    · rw [if_neg hb]
      obtain ⟨m, hm⟩ := m
      rcases hD with rfl | rfl | rfl <;> simp only [qt, tok, off, last, prv, D1, D4, D16, Attn.step] at * <;> interval_cases m <;> omega
  · rw [dif_neg h]
    obtain ⟨m, hm⟩ := m
    rcases hD with rfl | rfl | rfl <;> simp only [qt, tok, off, last, prv, D1, D4, D16, Attn.step] at * <;> interval_cases m <;> omega

/-- A grid point's blocks, on real inputs. -/
structure Blk (A : Arrs) (h n : Fin 4) (i : grid0.Coords) (x0 x1 x2 x3 x4 : Vec Ideal S2048x128 .f32) (x5 : Vec Ideal S3x1x256x256 .f32) : Prop where
  hi : (i 1).val = n.val
  h0 : ∀ a b, x0 (ix2 a b) = ((A.Q (tok n a) (lane h b) * (1 / 8) : ℝ) : EReal)
  h1 : ∀ a b, x1 (ix2 a b) = ((A.K (tok (prv n) a) (lane h b) : ℝ) : EReal)
  h2 : ∀ a b, x2 (ix2 a b) = ((A.K (tok n a) (lane h b) : ℝ) : EReal)
  h3 : ∀ a b, x3 (ix2 a b) = ((A.W (tok (prv n) a) (lane h b) : ℝ) : EReal)
  h4 : ∀ a b, x4 (ix2 a b) = ((A.W (tok n a) (lane h b) : ℝ) : EReal)
  h5 : ∀ D, Is D → ∀ e a b, x5 (ix4 D.i 0 (hr e a) b)
    = if a.val ≤ b.val ∧ b.val ≤ a.val + 128 then ((-(Attn.slope (head h e)) * ((D.d * Attn.step a.val b.val : ℕ) : ℝ) : ℝ) : EReal) else ⊥

section

variable {i : grid0.Coords}
  {arg2 : Memref sig .tc .vmem S2048x128 .f32} {harg2 : arg2.IsWhole} {arg3 : Memref sig .tc .vmem S2048x128 .f32} {harg3 : arg3.IsWhole}
  {arg4 : Memref sig .tc .vmem S2048x128 .f32} {harg4 : arg4.IsWhole} {arg5 : Memref sig .tc .vmem S2048x128 .f32} {harg5 : arg5.IsWhole}
  {arg6 : Memref sig .tc .vmem S2048x128 .f32} {harg6 : arg6.IsWhole} {arg7 : Memref sig .tc .vmem S3x1x256x256 .f32} {harg7 : arg7.IsWhole}
  {x0 x1 x2 x3 x4 : Vec Ideal S2048x128 .f32} {x5 : Vec Ideal S3x1x256x256 .f32} {A : Arrs} {h n : Fin 4}

theorem ldBlk_at (a : Memref sig .tc .vmem S2048x128 .f32) (ha : a.IsWhole) (x : Vec Ideal S2048x128 .f32) (D : Dil) (m : Fin 16) (r c : Fin 128) :
    ldBlk a ha x D m (ix2 r c) = x (ix2 ⟨off D m + D.d * r.val, by
      have := D.le m; have := Nat.mul_le_mul_left D.d (show r.val ≤ 127 by omega); unfold off; omega⟩ c) :=
  (ha.readAt_unread x _ _).trans (congrArg x (rows_emb D.pos (D.le m) r c))

theorem ldLast_at (a : Memref sig .tc .vmem S2048x128 .f32) (ha : a.IsWhole) (x : Vec Ideal S2048x128 .f32) (D : Dil) (m : Fin 16) (r c : Fin 128) :
    ldLast a ha x D m (ix2 r c) = x (ix2 ⟨last D m + D.d * r.val, by
      have := D.tail m; have := Nat.mul_le_mul_left D.d (show r.val ≤ 127 by omega); unfold last; omega⟩ c) :=
  (ha.readAt_unread x _ _).trans (congrArg x (rows_emb D.pos (D.tail m) r c))

/-- The block before, and the block, are columns of one table. -/
theorem ldPrev_at {f : Fin 8192 → Fin 512 → ℝ} (a b : Memref sig .tc .vmem S2048x128 .f32) (ha : a.IsWhole) (hb : b.IsWhole) (x y : Vec Ideal S2048x128 .f32)
    (hx : ∀ a b, x (ix2 a b) = ((f (tok (prv n) a) (lane h b) : ℝ) : EReal)) (hy : ∀ a b, y (ix2 a b) = ((f (tok n a) (lane h b) : ℝ) : EReal))
    (D : Dil) (m : Fin 16) (r c : Fin 128) : ldPrev a b ha hb x y D m (ix2 r c) = ((f (kt D n m ⟨r.val, by omega⟩) (lane h c) : ℝ) : EReal) := by
  unfold ldPrev kt
  rw [dif_pos (show (⟨r.val, _⟩ : Fin 256).val < 128 from r.isLt)]
  split_ifs with hm
  · rw [ldLast_at, hx]
  · rw [ldBlk_at, hy]

theorem ldBlk_kt {f : Fin 8192 → Fin 512 → ℝ} (b : Memref sig .tc .vmem S2048x128 .f32) (hb : b.IsWhole) (y : Vec Ideal S2048x128 .f32)
    (hy : ∀ a b, y (ix2 a b) = ((f (tok n a) (lane h b) : ℝ) : EReal))
    (D : Dil) (m : Fin 16) (r c : Fin 128) : ldBlk b hb y D m (ix2 r c) = ((f (kt D n m ⟨128 + r.val, by omega⟩) (lane h c) : ℝ) : EReal) := by
  rw [ldBlk_at, hy]
  unfold kt
  rw [dif_neg (show ¬ (⟨128 + r.val, _⟩ : Fin 256).val < 128 from by simp)]
  refine congrArg (fun t => ((f t (lane h c) : ℝ) : EReal)) (congrArg (tok n) (Fin.ext ?_))
  simp

theorem ldBias_at (D : Dil) (a b : Fin 256) : ldBias arg7 harg7 x5 D (ix4 0 0 a b) = x5 (ix4 D.i 0 a b) := by
  refine (harg7.readAt_unread x5 _ _).trans (congrArg x5 ?_)
  funext k
  refine Fin.ext ?_
  fin_cases k <;> simp

/-- A block's scores are its queries'. -/
theorem bS_at (B : Blk A h n i x0 x1 x2 x3 x4 x5) {D : Dil} (hD : Is D) (m : Fin 16) (e : Fin 2) (r : Fin 128) (j : Fin 256) :
    bS i arg2 harg2 arg3 harg3 arg4 harg4 arg7 harg7 x0 x1 x2 x5 D m (ix2 (hr e r) j) = Attn.S A D.d (head h e) (qt D n m r) j := by
  have hs := tS_at (q := ldBlk arg2 harg2 x0 D m) (kp := ldPrev arg3 arg4 harg3 harg4 x1 x2 D m) (kc := ldBlk arg4 harg4 x2 D m)
    (mb := ldBias arg7 harg7 x5 D) (Qr := fun r c => A.Q (qt D n m r) (lane h c) * (1 / 8)) (Kr := fun j c => A.K (kt D n m j) (lane h c))
    (fun r c => by rw [ldBlk_at, B.h0]; rfl) (fun r c => ldPrev_at _ _ _ _ _ _ B.h1 B.h2 D m r c) (fun r c => ldBlk_kt _ _ _ B.h2 D m r c) e r j
  rw [ldBias_at, B.h5 D hD] at hs
  have hf := tF_at (k0_pay7 i) (tS (ldBlk arg2 harg2 x0 D m) (ldPrev arg3 arg4 harg3 harg4 x1 x2 D m) (ldBlk arg4 harg4 x2 D m) (ldBias arg7 harg7 x5 D))
    (hr e r) j _ (np_at i (hr e r) j)
  rw [hs, B.hi] at hf
  have hv : bS i arg2 harg2 arg3 harg3 arg4 harg4 arg7 harg7 x0 x1 x2 x5 D m (ix2 (hr e r) j)
      = if m.val % D.B = 0 ∧ n.val = 0 ∧ j.val < 128 then ⊥ else ((∑ l, A.Q (qt D n m r) (lane h (hl e l)) * (1 / 8) * A.K (kt D n m j) (lane h (hl e l)) : ℝ) : EReal)
        + (if r.val ≤ j.val ∧ j.val ≤ r.val + 128 then ((-(Attn.slope (head h e)) * ((D.d * Attn.step r.val j.val : ℕ) : ℝ) : ℝ) : EReal) else ⊥) := by
    unfold bS
    by_cases hm : m.val % D.B = 0
    · rw [if_pos hm, hf]
      simp only [hm, true_and]
    · rw [show ∀ (u v : FVec Ideal S256x256 .f32), (if m.val % D.B = 0 then u else v) = v from fun u v => if_neg hm]
      exact (hs.trans (if_neg (fun k : _ ∧ _ => hm k.1)).symm)
  rw [hv]
  unfold Attn.S
  have hi := sees_iff hD n m r j
  by_cases h1 : m.val % D.B = 0 ∧ n.val = 0 ∧ j.val < 128
  · rw [if_pos h1, if_neg (fun k => (hi.1 k).2 h1)]
  · rw [if_neg h1]
    by_cases h2 : r.val ≤ j.val ∧ j.val ≤ r.val + 128
    · have h3 := hi.2 ⟨h2, h1⟩
      rw [if_pos h2, if_pos h3, ← EReal.coe_add]
      refine congrArg _ ?_
      unfold Attn.scR
      rw [qt_mod hD, ← kt_key hD n m r j h3, Finset.sum_mul]
      refine congrArg (· + _) (Finset.sum_congr rfl fun l _ => ?_)
      rw [lane_hl]
      ring
    · rw [if_neg h2, if_neg (fun k => h2 (hi.1 k).1), EReal.add_bot]

/-- A branch's log-sum-exps over a chunk. -/
def gL (A : Arrs) (h n : Fin 4) (d : ℕ) : S2048x128.Idx → Elt Ideal .f32 := fun y => ((Attn.l A d (head h (he (y 1))) (tok n (y 0)) : ℝ) : EReal)

/-- A branch's outputs over a chunk. -/
def gO (A : Arrs) (h n : Fin 4) (d : ℕ) : S2048x128.Idx → Elt Ideal .f32 := fun y => ((Attn.o A d (tok n (y 0)) (lane h (y 1)) : ℝ) : EReal)

theorem pL_at (B : Blk A h n i x0 x1 x2 x3 x4 x5) {D : Dil} (hD : Is D) (m : Fin 16)
    (x : (pL i arg2 harg2 arg3 harg3 arg4 harg4 arg7 harg7 x0 x1 x2 x5 D m).1.shape.Idx) :
    (pL i arg2 harg2 arg3 harg3 arg4 harg4 arg7 harg7 x0 x1 x2 x5 D m).2 x
      = gL A h n D.d ((pL i arg2 harg2 arg3 harg3 arg4 harg4 arg7 harg7 x0 x1 x2 x5 D m).1.emb x) := by
  obtain ⟨r, c, rfl⟩ := ex_ix2 (a := 128) (b := 128) x
  refine (tL_at (S := Attn.S A D.d (head h (he c)) (qt D n m r)) (fun k => bS_at B hD m (he c) r k) (Attn.good _ _ _ _)).trans ?_
  exact (congrArg (gL A h n D.d) (rows_emb D.pos (D.le m) r c)).symm

theorem pO_at (B : Blk A h n i x0 x1 x2 x3 x4 x5) {D : Dil} (hD : Is D) (m : Fin 16)
    (x : (pO i arg2 harg2 arg3 harg3 arg4 harg4 arg5 harg5 arg6 harg6 arg7 harg7 x0 x1 x2 x3 x4 x5 D m).1.shape.Idx) :
    (pO i arg2 harg2 arg3 harg3 arg4 harg4 arg5 harg5 arg6 harg6 arg7 harg7 x0 x1 x2 x3 x4 x5 D m).2 x
      = gO A h n D.d ((pO i arg2 harg2 arg3 harg3 arg4 harg4 arg5 harg5 arg6 harg6 arg7 harg7 x0 x1 x2 x3 x4 x5 D m).1.emb x) := by
  obtain ⟨r, c, rfl⟩ := ex_ix2 (a := 128) (b := 128) x
  refine (tO_at (S := Attn.S A D.d (head h (he c)) (qt D n m r)) (Vr := fun j => A.W (kt D n m j) (lane h c)) (fun k => bS_at B hD m (he c) r k)
    (Attn.good _ _ _ _) (fun k => ldPrev_at _ _ _ _ _ _ B.h3 B.h4 D m k c) (fun k => ldBlk_kt _ _ _ B.h4 D m k c)).trans ?_
  refine Eq.trans ?_ (congrArg (gO A h n D.d) (rows_emb D.pos (D.le m) r c)).symm
  refine congrArg (fun z : ℝ => (z : EReal)) ?_
  show _ = Attn.o A D.d (qt D n m r) (lane h c)
  unfold Attn.o Attn.rowO
  rw [hd_lane]
  refine congrArg (· * _) (Attn.sum_row _ _ fun j hj => ?_)
  rw [kt_key hD n m r j (Attn.sees_of hj)]

theorem cover {D : Dil} (hD : Is D) (y : S2048x128.Idx) : ∃ m, y ∈ (rows D.d (off D m) D.pos (D.le m)).set := by
  obtain ⟨r, c, rfl⟩ := ex_ix2 (a := 2048) (b := 128) y
  have key : ∃ (m : Fin 16) (k : Fin 128), off D m + D.d * k.val = r.val := by
    rcases hD with rfl | rfl | rfl
    · exact ⟨⟨r.val / 128, by omega⟩, ⟨r.val % 128, by omega⟩, by simp only [off, D1]; omega⟩
    · refine ⟨⟨r.val % 4 * 4 + r.val / 512, by omega⟩, ⟨r.val / 4 % 128, by omega⟩, ?_⟩
      have h1 : (r.val % 4 * 4 + r.val / 512) / 4 = r.val % 4 := by omega
      have h2 : (r.val % 4 * 4 + r.val / 512) % 4 = r.val / 4 / 128 := by omega
      simp only [off, D4]
      omega
    · exact ⟨⟨r.val % 16, by omega⟩, ⟨r.val / 16, by omega⟩, by simp only [off, D16]; omega⟩
  obtain ⟨m, k, hk⟩ := key
  refine ⟨m, ?_⟩
  have he := rows_emb D.pos (D.le m) k c
  have : (rows D.d (off D m) D.pos (D.le m)).emb (ix2 k c) = ix2 r c := he.trans (congrArg (fun t => ix2 t c) (Fin.ext hk))
  rw [← this]
  exact LoadRect.idx_mem _ _

theorem canonL (B : Blk A h n i x0 x1 x2 x3 x4 x5) {D : Dil} (hD : Is D) (y : S2048x128.Idx) :
    View.canon (upTo (pL i arg2 harg2 arg3 harg3 arg4 harg4 arg7 harg7 x0 x1 x2 x5 D) 16 (le_refl _)) y = gL A h n D.d y :=
  canon_upTo (fun m x => pL_at B hD m x) (fun y => cover hD y) y

theorem canonO (B : Blk A h n i x0 x1 x2 x3 x4 x5) {D : Dil} (hD : Is D) (y : S2048x128.Idx) :
    View.canon (upTo (pO i arg2 harg2 arg3 harg3 arg4 harg4 arg5 harg5 arg6 harg6 arg7 harg7 x0 x1 x2 x3 x4 x5 D) 16 (le_refl _)) y = gO A h n D.d y :=
  canon_upTo (fun m x => pO_at B hD m x) (fun y => cover hD y) y

end

end Cert.AttnFIdeal.Hand
-- ==== Proof.AttnOut.lean ====
module

public import proofs.«01_k».proof.Proof.AttnRows

@[expose] public section

set_option maxRecDepth 16384

noncomputable section

/-! The attention's two results over a grid point's chunk. -/

namespace Cert.AttnFIdeal.Hand

open Cert.AttnFIdeal Cert.AttnFIdeal.Gen Cert.Hand Idealize.ShloMosaic Idealize.ShloMosaic.TcCoe Idealize.SL.Sem
open Cert.Hand.Attn (Arrs)

section

variable {a b e u v w : FVec Ideal S256x128 .f32} {la lb le ou ov ow : ℝ} {r : Fin 256} {c : Fin 128}
  (ha : a (ix2 r c) = ((la : ℝ) : EReal)) (hb : b (ix2 r c) = ((lb : ℝ) : EReal)) (he : e (ix2 r c) = ((le : ℝ) : EReal))

include ha hb he

theorem mX_at : mX a b e (ix2 r c) = ((max (max la lb) le : ℝ) : EReal) := by
  pointwise [mX]
  rw [ha, hb, he, EReal.coe_strictMono.monotone.map_max, EReal.coe_strictMono.monotone.map_max]

theorem mT_at : mT a b e (ix2 r c) = ((Attn.tot la lb le : ℝ) : EReal) := by
  pointwise [mT]
  rw [mX_at ha hb he, ha, hb, he]
  simp only [← EReal.coe_sub, Ideal.exp_coe, ← EReal.coe_add]
  rfl

theorem mL_at : mL a b e (ix2 r c) = ((max (max la lb) le + Real.log (Attn.tot la lb le) : ℝ) : EReal) := by
  pointwise [mL]
  rw [mX_at ha hb he, mT_at ha hb he, Attn.log_tot, ← EReal.coe_add]

theorem mO_at (hu : u (ix2 r c) = ((ou : ℝ) : EReal)) (hv : v (ix2 r c) = ((ov : ℝ) : EReal)) (hw : w (ix2 r c) = ((ow : ℝ) : EReal)) :
    mO a b e u v w (ix2 r c) = (((ou * Real.exp (la - max (max la lb) le) + ov * Real.exp (lb - max (max la lb) le) + ow * Real.exp (le - max (max la lb) le))
      * (1 / Attn.tot la lb le) : ℝ) : EReal) := by
  pointwise [mO]
  rw [mX_at ha hb he, mT_at ha hb he, ha, hb, he, hu, hv, hw]
  simp only [← EReal.coe_sub, Ideal.exp_coe, ← EReal.coe_add, ← EReal.coe_mul]
  exact Attn.div_tot _ _ _ _

end

/-- Row `r` of slab `n`. -/
def sr (n : Fin 8) (r : Fin 256) : Fin 2048 := ⟨256 * n.val + r.val, by omega⟩

theorem slab_emb (n : Fin 8) (r : Fin 256) (c : Fin 128) : (slab n).emb (ix2 r c) = ix2 (sr n r) c := by
  funext k
  refine Fin.ext ?_
  fin_cases k <;> simp [sr]

/-- A slab of a scratch, through the array its pieces read. -/
theorem rdS_at (a : Memref sig .tc .vmem S2048x128 .f32) {L : List (View.Piece (Elt Ideal) S2048x128 .f32)} {G : S2048x128.Idx → Elt Ideal .f32}
    (hG : ∀ y, View.canon L y = G y) (n : Fin 8) (r : Fin 256) (c : Fin 128) :
    rdS a L n (ix2 r c) = G (ix2 (sr n r) c) :=
  (congrFun (View.readCov_eq_canon' a.view L (slab n).toLoadRect) (ix2 r c)).trans ((hG _).trans (congrArg G (slab_emb n r c)))

theorem slab_cover (y : S2048x128.Idx) : ∃ n, y ∈ (slab n).set := by
  obtain ⟨r, c, rfl⟩ := ex_ix2 (a := 2048) (b := 128) y
  exact ⟨⟨r.val / 256, by omega⟩, mem_unit (slab_inb _) r c (by constructor <;> simp <;> omega) (by constructor <;> simp)⟩

theorem canon_slabs {f : Fin 8 → FVec Ideal S256x128 .f32} {G : S2048x128.Idx → Elt Ideal .f32} (hf : ∀ k r q, f k (ix2 r q) = G (ix2 (sr k r) q))
    (y : S2048x128.Idx) : View.canon (slabs f) y = G y := by
  refine canon_upTo (P := fun k => ⟨slab k, f k⟩) (fun k x => ?_) (fun y => ?_) y
  rotate_left
  · obtain ⟨k, hk⟩ := slab_cover y
    exact ⟨k, hk⟩
  obtain ⟨r, q, rfl⟩ := ex_ix2 (a := 256) (b := 128) x
  exact (hf k r q).trans (congrArg G (slab_emb k r q)).symm

section

variable {c : Dev nD} {i : grid0.Coords}
  {arg2 : Memref sig .tc .vmem S2048x128 .f32} {harg2 : arg2.IsWhole} {arg3 : Memref sig .tc .vmem S2048x128 .f32} {harg3 : arg3.IsWhole}
  {arg4 : Memref sig .tc .vmem S2048x128 .f32} {harg4 : arg4.IsWhole} {arg5 : Memref sig .tc .vmem S2048x128 .f32} {harg5 : arg5.IsWhole}
  {arg6 : Memref sig .tc .vmem S2048x128 .f32} {harg6 : arg6.IsWhole} {arg7 : Memref sig .tc .vmem S3x1x256x256 .f32} {harg7 : arg7.IsWhole}
  {arg8 : Memref sig .tc .vmem S2048x128 .f32} {harg8 : arg8.IsWhole} {arg9 : Memref sig .tc .vmem S2048x128 .f32} {harg9 : arg9.IsWhole}
  {arg10 : Memref sig .tc .vmem S2048x128 .f32} {harg10 : arg10.IsWhole} {arg11 : Memref sig .tc .vmem S2048x128 .f32} {harg11 : arg11.IsWhole}
  {arg12 : Memref sig .tc .vmem S2048x128 .f32} {harg12 : arg12.IsWhole} {arg13 : Memref sig .tc .vmem S2048x128 .f32} {harg13 : arg13.IsWhole}
  {arg14 : Memref sig .tc .vmem S2048x128 .f32} {harg14 : arg14.IsWhole} {arg15 : Memref sig .tc .vmem S2048x128 .f32} {harg15 : arg15.IsWhole}
  {x0 x1 x2 x3 x4 : Vec Ideal S2048x128 .f32} {x5 : Vec Ideal S3x1x256x256 .f32} {A : Arrs} {h n : Fin 4}

/-- The attention's log-sum-exps over a chunk. -/
def gLse (A : Arrs) (h n : Fin 4) : S2048x128.Idx → Elt Ideal .f32 := fun y => ((Attn.lse A (head h (he (y 1))) (tok n (y 0)) : ℝ) : EReal)

/-- The attention's outputs over a chunk. -/
def gOut (A : Arrs) (h n : Fin 4) : S2048x128.Idx → Elt Ideal .f32 := fun y => ((Attn.out A (tok n (y 0)) (lane h (y 1)) : ℝ) : EReal)

theorem r1_at (B : Blk A h n i x0 x1 x2 x3 x4 x5) (k : Fin 8) (r : Fin 256) (q : Fin 128) :
    r1 c i arg2 harg2 arg3 harg3 arg4 harg4 arg7 harg7 arg13 x0 x1 x2 x5 k (ix2 r q) = ((Attn.l A 1 (head h (he q)) (tok n (sr k r)) : ℝ) : EReal) :=
  rdS_at _ (fun y => (congrArg (fun L => View.canon L y) (l1_eq ..)).trans (canonL B (.inl rfl) y)) k r q
theorem r4_at (B : Blk A h n i x0 x1 x2 x3 x4 x5) (k : Fin 8) (r : Fin 256) (q : Fin 128) :
    r4 c i arg2 harg2 arg3 harg3 arg4 harg4 arg7 harg7 arg14 x0 x1 x2 x5 k (ix2 r q) = ((Attn.l A 4 (head h (he q)) (tok n (sr k r)) : ℝ) : EReal) :=
  rdS_at _ (fun y => (congrArg (fun L => View.canon L y) (l4_eq ..)).trans (canonL B (.inr (.inl rfl)) y)) k r q
theorem r16_at (B : Blk A h n i x0 x1 x2 x3 x4 x5) (k : Fin 8) (r : Fin 256) (q : Fin 128) :
    r16 c i arg2 harg2 arg3 harg3 arg4 harg4 arg7 harg7 arg15 x0 x1 x2 x5 k (ix2 r q) = ((Attn.l A 16 (head h (he q)) (tok n (sr k r)) : ℝ) : EReal) :=
  rdS_at _ (fun y => (congrArg (fun L => View.canon L y) (l16_eq ..)).trans (canonL B (.inr (.inr rfl)) y)) k r q
theorem u1_at (B : Blk A h n i x0 x1 x2 x3 x4 x5) (k : Fin 8) (r : Fin 256) (q : Fin 128) :
    u1 c i arg2 harg2 arg3 harg3 arg4 harg4 arg5 harg5 arg6 harg6 arg7 harg7 arg10 x0 x1 x2 x3 x4 x5 k (ix2 r q) = ((Attn.o A 1 (tok n (sr k r)) (lane h q) : ℝ) : EReal) :=
  rdS_at _ (fun y => (congrArg (fun L => View.canon L y) (o1_eq ..)).trans (canonO B (.inl rfl) y)) k r q
theorem u4_at (B : Blk A h n i x0 x1 x2 x3 x4 x5) (k : Fin 8) (r : Fin 256) (q : Fin 128) :
    u4 c i arg2 harg2 arg3 harg3 arg4 harg4 arg5 harg5 arg6 harg6 arg7 harg7 arg11 x0 x1 x2 x3 x4 x5 k (ix2 r q) = ((Attn.o A 4 (tok n (sr k r)) (lane h q) : ℝ) : EReal) :=
  rdS_at _ (fun y => (congrArg (fun L => View.canon L y) (o4_eq ..)).trans (canonO B (.inr (.inl rfl)) y)) k r q
theorem u16_at (B : Blk A h n i x0 x1 x2 x3 x4 x5) (k : Fin 8) (r : Fin 256) (q : Fin 128) :
    u16 c i arg2 harg2 arg3 harg3 arg4 harg4 arg5 harg5 arg6 harg6 arg7 harg7 arg12 x0 x1 x2 x3 x4 x5 k (ix2 r q) = ((Attn.o A 16 (tok n (sr k r)) (lane h q) : ℝ) : EReal) :=
  rdS_at _ (fun y => (congrArg (fun L => View.canon L y) (o16_eq ..)).trans (canonO B (.inr (.inr rfl)) y)) k r q

theorem fL_at (B : Blk A h n i x0 x1 x2 x3 x4 x5) (k : Fin 8) (r : Fin 256) (q : Fin 128) :
    fL c i arg2 harg2 arg3 harg3 arg4 harg4 arg7 harg7 arg13 arg14 arg15 x0 x1 x2 x5 k (ix2 r q) = gLse A h n (ix2 (sr k r) q) :=
  mL_at (r1_at B k r q) (r4_at B k r q) (r16_at B k r q)

theorem fO_at (B : Blk A h n i x0 x1 x2 x3 x4 x5) (k : Fin 8) (r : Fin 256) (q : Fin 128) :
    fO c i arg2 harg2 arg3 harg3 arg4 harg4 arg5 harg5 arg6 harg6 arg7 harg7 arg10 arg11 arg12 arg13 arg14 arg15 x0 x1 x2 x3 x4 x5 k (ix2 r q)
      = gOut A h n (ix2 (sr k r) q) := by
  refine (mO_at (r1_at B k r q) (r4_at B k r q) (r16_at B k r q) (u1_at B k r q) (u4_at B k r q) (u16_at B k r q)).trans ?_
  rw [← hd_lane]
  rfl

theorem canonLse (B : Blk A h n i x0 x1 x2 x3 x4 x5) (y : S2048x128.Idx) :
    View.canon (kernelRun0_A c i arg2 harg2 arg3 harg3 arg4 harg4 arg5 harg5 arg6 harg6 arg7 harg7 arg8 harg8 arg9 harg9 arg10 harg10 arg11 harg11
      arg12 harg12 arg13 harg13 arg14 harg14 arg15 harg15 x0 x1 x2 x3 x4 x5).2.1 y = gLse A h n y := by
  rw [lses_eq]
  exact canon_slabs (fL_at B) y

theorem canonOut (B : Blk A h n i x0 x1 x2 x3 x4 x5) (y : S2048x128.Idx) :
    View.canon (kernelRun0_A c i arg2 harg2 arg3 harg3 arg4 harg4 arg5 harg5 arg6 harg6 arg7 harg7 arg8 harg8 arg9 harg9 arg10 harg10 arg11 harg11
      arg12 harg12 arg13 harg13 arg14 harg14 arg15 harg15 x0 x1 x2 x3 x4 x5).1 y = gOut A h n y := by
  rw [outs_eq]
  exact canon_slabs (fO_at B) y

end

end Cert.AttnFIdeal.Hand
-- ==== Proof.AttnTab.lean ====
module

public import proofs.«01_k».proof.Proof.AttnSpec
public import Idealize.ShloMosaic.Lib.Pointwise

@[expose] public section

noncomputable section

/-! The words of the attention's masks, and a block of queries by its residue, its number and its rows. -/

namespace Cert.Hand.Attn

open Idealize.ShloMosaic

/-! ## The masks' words -/

/-- How many steps of a dilation a key lies before a query, as a word. -/
abbrev stepW (a : Fin 128) (b : Fin 256) : BitVec 32 := IntOp.subi (IntOp.addi (BitVec.ofNat 32 a.val) 128#32) (BitVec.ofNat 32 b.val)

theorem word_toInt (n : ℕ) (h : n < 65536) : (BitVec.ofNat 32 n).toInt = n := by
  rw [BitVec.toInt_eq_toNat_of_lt (by rw [BitVec.toNat_ofNat]; omega), BitVec.toNat_ofNat]
  omega

theorem stepW_toInt (a : Fin 128) (b : Fin 256) : (stepW a b).toInt = (a.val : ℤ) + 128 - b.val := by
  simp only [stepW, IntOp.subi, IntOp.addi, BitVec.toInt_sub, BitVec.toInt_add, Int.bmod]
  rw [word_toInt a.val (by omega), word_toInt b.val (by omega), word_toInt 128 (by omega)]
  omega

/-- The band of keys a query sees. -/
theorem band_at (a : Fin 128) (b : Fin 256) : IntOp.andi (IntOp.cmpi .sge (stepW a b) 0#32) (IntOp.cmpi .sle (stepW a b) 128#32)
    = if a.val ≤ b.val ∧ b.val ≤ a.val + 128 then 1#1 else 0#1 := by
  have hs := stepW_toInt a b
  have h0 := word_toInt 0 (by omega)
  have h128 := word_toInt 128 (by omega)
  simp only [IntOp.cmpi, IntOp.andi, BitVec.sle, hs, h0, h128]
  have e1 : decide (((0 : ℕ) : ℤ) ≤ (a.val : ℤ) + 128 - b.val) = decide (b.val ≤ a.val + 128) := decide_eq_decide.2 (by omega)
  have e2 : decide ((a.val : ℤ) + 128 - b.val ≤ ((128 : ℕ) : ℤ)) = decide (a.val ≤ b.val) := decide_eq_decide.2 (by omega)
  rw [e1, e2]
  by_cases p : a.val ≤ b.val <;> by_cases q : b.val ≤ a.val + 128 <;> simp [p, q]

/-- A key's distance. -/
theorem dist_at (d : ℕ) (hd : d = 1 ∨ d = 4 ∨ d = 16) (a : Fin 128) (b : Fin 256) (hp : a.val ≤ b.val ∧ b.val ≤ a.val + 128) :
    FloatOps.sitofp (F := Ideal) .f32 (IntOp.muli (stepW a b) (BitVec.ofNat 32 d)) = (((d * step a.val b.val : ℕ) : ℝ) : EReal) := by
  have h2 : (IntOp.muli (stepW a b) (BitVec.ofNat 32 d)).toInt = ((d * step a.val b.val : ℕ) : ℤ) := by
    have hs := stepW_toInt a b
    have e : step a.val b.val = a.val + 128 - b.val := rfl
    rw [e, IntOp.muli, BitVec.toInt_mul, hs]
    rcases hd with rfl | rfl | rfl <;> rw [word_toInt _ (by omega)] <;> simp only [Int.bmod] <;> omega
  show (((IntOp.muli (stepW a b) (BitVec.ofNat 32 d)).toInt : ℝ) : EReal) = _
  rw [h2]
  simp

/-- The columns before the sequence: the first 128 of the first block. -/
theorem before_at (n : Fin 64) (b : Fin 256) : IntOp.andi (IntOp.cmpi .eq (BitVec.ofNat 32 n.val) 0#32) (IntOp.cmpi .slt (BitVec.ofNat 32 b.val) 128#32)
    = if n.val = 0 ∧ b.val < 128 then 1#1 else 0#1 := by
  have e1 : ∀ n : Fin 64, IntOp.cmpi .eq (BitVec.ofNat 32 n.val) 0#32 = if n.val = 0 then 1#1 else 0#1 := by decide +kernel
  have e2 : ∀ b : Fin 256, IntOp.cmpi .slt (BitVec.ofNat 32 b.val) 128#32 = if b.val < 128 then 1#1 else 0#1 := by decide +kernel
  rw [e1, e2]
  by_cases p : n.val = 0 <;> by_cases q : b.val < 128 <;> simp [p, q, IntOp.andi]

/-- The keys a block's query sees. -/
theorem seen_at (n : Fin 64) (a : Fin 128) (b : Fin 256) :
    IntOp.andi (IntOp.andi (IntOp.cmpi .sge (stepW a b) 0#32) (IntOp.cmpi .sle (stepW a b) 128#32))
      (~~~IntOp.andi (IntOp.cmpi .eq (BitVec.ofNat 32 n.val) 0#32) (IntOp.cmpi .slt (BitVec.ofNat 32 b.val) 128#32))
    = if (a.val ≤ b.val ∧ b.val ≤ a.val + 128) ∧ ¬ (n.val = 0 ∧ b.val < 128) then 1#1 else 0#1 := by
  rw [band_at, before_at]
  by_cases p : a.val ≤ b.val ∧ b.val ≤ a.val + 128 <;> by_cases q : n.val = 0 ∧ b.val < 128 <;> simp only [p, q, if_true, if_false, not_true, not_false_iff, and_true, and_false, true_and, false_and] <;> rfl

/-! ## A block of queries -/

/-- A dilation and its number of blocks. -/
def Br (d N : ℕ) : Prop := (d = 1 ∧ N = 64) ∨ (d = 4 ∧ N = 16) ∨ (d = 16 ∧ N = 4)

/-- The token at row `i` of block `n` of the tokens with residue `r`. -/
def tk (d r n i : ℕ) : Fin 8192 := ⟨(d * (128 * n + i) + r) % 8192, Nat.mod_lt _ (by norm_num)⟩

/-- A block's keys or values: the block before, or zero, and the block itself. -/
def kk (d : ℕ) (X : Fin 8192 → Fin 512 → ℝ) (r n j : ℕ) (c : Fin 512) : ℝ := if n = 0 ∧ j < 128 then 0 else X ⟨(d * (128 * n + j - 128) + r) % 8192, Nat.mod_lt _ (by norm_num)⟩ c

theorem tk_split {d N : ℕ} (hd : Br d N) (p : Fin 8192) : tk d (p.val % d) (p.val / d / 128) (p.val / d % 128) = p := by
  refine Fin.ext ?_
  have := p.isLt
  rcases hd with ⟨rfl, rfl⟩ | ⟨rfl, rfl⟩ | ⟨rfl, rfl⟩ <;> simp only [tk] <;> omega

section
variable {d N : ℕ} (hd : Br d N) {r n : ℕ} (hr : r < d) (hn : n < N) (i : Fin 128) (j : Fin 256)
include hd hr hn

theorem tk_row : (tk d r n i).val / d % 128 = i.val := by
  rcases hd with ⟨rfl, rfl⟩ | ⟨rfl, rfl⟩ | ⟨rfl, rfl⟩ <;> simp only [tk] <;> omega

theorem sees_tk : Sees d (tk d r n i).val j ↔ (i.val ≤ j.val ∧ j.val ≤ i.val + 128) ∧ ¬ (n = 0 ∧ j.val < 128) := by
  unfold Sees
  rw [tk_row hd hr hn i]
  rcases hd with ⟨rfl, rfl⟩ | ⟨rfl, rfl⟩ | ⟨rfl, rfl⟩ <;> simp only [tk, step] <;> omega

theorem kk_key (X : Fin 8192 → Fin 512 → ℝ) (c : Fin 512) (hs : Sees d (tk d r n i).val j) : kk d X r n j.val c = X (key d (tk d r n i) j) c := by
  have h := (sees_tk hd hr hn i j).1 hs
  rw [kk, if_neg h.2]
  refine congrArg (fun k => X k c) (Fin.ext ?_)
  simp only [key]
  rw [tk_row hd hr hn i]
  rcases hd with ⟨rfl, rfl⟩ | ⟨rfl, rfl⟩ | ⟨rfl, rfl⟩ <;> simp only [tk, step] <;> omega

/-- The scores of a block's query. -/
theorem S_tk (A : Arrs) (h : Fin 8) : S A d h (tk d r n i) j = if (i.val ≤ j.val ∧ j.val ≤ i.val + 128) ∧ ¬ (n = 0 ∧ j.val < 128)
    then (((∑ l, A.Q (tk d r n i) (ln h l) * kk d A.K r n j.val (ln h l)) * (1 / 8) + -(slope h) * ((d * step i.val j.val : ℕ) : ℝ) : ℝ) : EReal) else ⊥ := by
  unfold S
  refine (if_congr (sees_tk hd hr hn i j) rfl rfl).trans ?_
  split_ifs with hs
  · have hs' := (sees_tk hd hr hn i j).2 hs
    refine congrArg (fun x : ℝ => (x : EReal)) ?_
    rw [scR, tk_row hd hr hn i]
    refine congrArg₂ (· + ·) (congrArg (· * (1 / 8 : ℝ)) (Finset.sum_congr rfl fun l _ => ?_)) rfl
    rw [kk_key hd hr hn i j A.K _ hs']
  · rfl

theorem o_tk (A : Arrs) (h : Fin 8) (l : Fin 64) : rowO (S A d h (tk d r n i)) (fun j => kk d A.W r n j.val (ln h l)) = o A d (tk d r n i) (ln h l) := by
  have e : Attn.hd (ln h l) = h := Fin.ext (by simp only [Attn.hd, ln]; omega)
  unfold o rowO
  rw [e]
  exact congrArg (· * _) (sum_row _ _ fun j hj => kk_key hd hr hn i j A.W _ (sees_of hj))

end

end Cert.Hand.Attn
-- ==== Proof.AttnKernel.lean ====
module

public import proofs.«01_k».proof.Proof.AttnRows
public import proofs.«01_k».proof.Proof.AttnTab

@[expose] public section

set_option maxRecDepth 16384

noncomputable section

/-! The attention's kernel program: what its blocks hold, on real arguments. -/

namespace Cert.AttnFIdeal.Hand

open Cert.AttnFIdeal Cert.AttnFIdeal.Gen Cert.Hand Idealize.ShloMosaic Idealize.ShloMosaic.TcCoe Idealize.SL.Sem
open Idealize.ShloMosaic.Pipeline (Dat)
open Cert.Hand.Attn (Arrs)

variable (m : (ℓ : Loc nD τ sig) → Buf (Elt Ideal) ℓ) (c : Dev nD) (A : Arrs)

/-- The arguments are the images of arrays of reals. -/
structure Args : Prop where
  h0 : ∀ i j, m ((c.tc : Thread nD τ).loc main_arg0) (ix2 i j) = ((A.Q i j : ℝ) : EReal)
  h1 : ∀ i j, m ((c.tc : Thread nD τ).loc main_arg1) (ix2 i j) = ((A.K i j : ℝ) : EReal)
  h2 : ∀ i j, m ((c.tc : Thread nD τ).loc main_arg2) (ix2 i j) = ((A.W i j : ℝ) : EReal)

theorem idx : ∀ t : Fin cfg0.N, win0_0.index t = ![t.val % 4, t.val / 4] ∧ win0_1.index t = ![t.val % 4 - 1, 4 + t.val / 4]
    ∧ win0_2.index t = ![t.val % 4, 4 + t.val / 4] ∧ win0_3.index t = ![t.val % 4 - 1, 8 + t.val / 4]
    ∧ win0_4.index t = ![t.val % 4, 8 + t.val / 4] ∧ win0_5.index t = ![0, t.val / 4, 0, 0]
    ∧ win0_6.index t = ![t.val % 4, t.val / 4] ∧ win0_7.index t = ![t.val % 4, t.val / 4] ∧ (grid0.coords t 1).val = t.val % 4 :=
  (by decide +kernel : ∀ t : Fin grid0.N, _)

/-- A grid point's pair of heads. -/
def hp (t : Fin cfg0.N) : Fin 4 := ⟨t.val / 4, by have := t.isLt; have : cfg0.N = 16 := rfl; omega⟩

/-- A grid point's chunk. -/
def ch (t : Fin cfg0.N) : Fin 4 := ⟨t.val % 4, by omega⟩

/-- What the host lines before the call leave in a buffer, the lines in one list. -/
theorem V_eq (m : (ℓ : Loc nD τ sig) → Buf (Elt Ideal) ℓ) (c : Dev nD) (b) :
    V m c b = StableHlo.after (hostOps0 ++ (hostOps0_1 ++ (hostOps0_2 ++ (hostOps0_3 ++ (hostOps0_4 ++ (hostOps0_5 ++ hostOps0_6)))))) (fun b => m (c, b)) (Proc.tc.devRef b) := by
  simp [V]

variable {m c A}

theorem ofBits_8th : Ideal.ofBits .f32 0x3E000000#32 = ((1 / 8 : ℝ) : EReal) := by
  simp [Ideal.ofBits, Ideal.ieee, -EReal.coe_mul]; norm_num

theorem v2_lo (h : Args m c A) (i : Fin 8192) (j : Fin 512) : V m c main_v2 (ix2 i ⟨j.val, by omega⟩) = ((A.Q i j * (1 / 8) : ℝ) : EReal) := by
  rw [EReal.coe_mul, ← h.h0, V_eq]
  simp only [hostOps0, hostOps0_1, hostOps0_2, hostOps0_3, hostOps0_4, hostOps0_5, hostOps0_6, List.cons_append, List.nil_append]
  entry_read
  pointwise
  rw [ofBits_8th]

theorem v2_hi (h : Args m c A) (i : Fin 8192) (j : Fin 512) : V m c main_v2 (ix2 i ⟨512 + j.val, by omega⟩) = ((A.K i j : ℝ) : EReal) := by
  rw [← h.h1, V_eq]
  simp only [hostOps0, hostOps0_1, hostOps0_2, hostOps0_3, hostOps0_4, hostOps0_5, hostOps0_6, List.cons_append, List.nil_append]
  entry_read
  pointwise

theorem v3_hi (h : Args m c A) (i : Fin 8192) (j : Fin 512) : V m c main_v3 (ix2 i ⟨1024 + j.val, by omega⟩) = ((A.W i j : ℝ) : EReal) := by
  rw [← h.h2, V_eq]
  simp only [hostOps0, hostOps0_1, hostOps0_2, hostOps0_3, hostOps0_4, hostOps0_5, hostOps0_6, List.cons_append, List.nil_append]
  entry_read
  pointwise
  rw [dif_neg (by omega), dif_neg (by omega)]
  exact congrArg (m (c, Proc.tc.devRef main_arg2)) (congrArg (ix2 i) (Fin.ext (by simp; omega)))

theorem slope_at (h : Fin 8) : Ideal.ofBits .f32 (lit0 (S8.rowMajor (ix1 h))) = ((Attn.slope h : ℝ) : EReal) := by
  have e : ∀ h : Fin 8, lit0 (S8.rowMajor (ix1 h))
      = ![0x3F000000#32, 0x3E800000#32, 0x3E000000#32, 0x3D800000#32, 0x3D000000#32, 0x3C800000#32, 0x3C000000#32, 0x3B800000#32] h := by decide +kernel
  rw [e]
  unfold Attn.slope
  fin_cases h <;> simp [Ideal.ofBits, Ideal.ieee, -EReal.coe_mul] <;> norm_num

/-- The mask table's entry. -/
theorem tab_at (d : ℕ) (hd : d = 1 ∨ d = 4 ∨ d = 16) (h : Fin 8) (a : Fin 128) (b : Fin 256) :
    Scalar.select (IntOp.andi (IntOp.cmpi .sge (Attn.stepW a b) 0#32) (IntOp.cmpi .sle (Attn.stepW a b) 128#32))
      (-((Attn.slope h : ℝ) : EReal) * FloatOps.sitofp (F := Ideal) .f32 (IntOp.muli (Attn.stepW a b) (BitVec.ofNat 32 d))) ⊥
    = if a.val ≤ b.val ∧ b.val ≤ a.val + 128 then ((-(Attn.slope h) * ((d * Attn.step a.val b.val : ℕ) : ℝ) : ℝ) : EReal) else ⊥ := by
  rw [Attn.band_at]
  split_ifs with hp
  · rw [Attn.dist_at d hd a b hp, ← EReal.coe_neg, ← EReal.coe_mul]
    rfl
  · rfl

theorem v28 (h : Fin 8) (a : Fin 128) (b : Fin 256) : V m c main_v28 (ix3 h a b)
    = if a.val ≤ b.val ∧ b.val ≤ a.val + 128 then ((-(Attn.slope h) * ((Attn.step a.val b.val : ℕ) : ℝ) : ℝ) : EReal) else ⊥ := by
  rw [V_eq]
  simp only [hostOps0, hostOps0_1, hostOps0_2, hostOps0_3, hostOps0_4, hostOps0_5, hostOps0_6, List.cons_append, List.nil_append]
  entry_read
  simp only [StableHlo.TRef.toBuf, StableHlo.TRef.ofBuf, cast_cast, cast_eq]
  pointwise
  rw [slope_at, ofBits_bot]
  exact (tab_at 1 (.inl rfl) h a b).trans (by rw [Nat.one_mul])

theorem v38 (h : Fin 8) (a : Fin 128) (b : Fin 256) : V m c main_v38 (ix3 h a b)
    = if a.val ≤ b.val ∧ b.val ≤ a.val + 128 then ((-(Attn.slope h) * ((4 * Attn.step a.val b.val : ℕ) : ℝ) : ℝ) : EReal) else ⊥ := by
  rw [V_eq]
  simp only [hostOps0, hostOps0_1, hostOps0_2, hostOps0_3, hostOps0_4, hostOps0_5, hostOps0_6, List.cons_append, List.nil_append]
  entry_read
  simp only [StableHlo.TRef.toBuf, StableHlo.TRef.ofBuf, cast_cast, cast_eq]
  pointwise
  rw [slope_at, ofBits_bot]
  exact tab_at 4 (.inr (.inl rfl)) h a b

theorem v48 (h : Fin 8) (a : Fin 128) (b : Fin 256) : V m c main_v48 (ix3 h a b)
    = if a.val ≤ b.val ∧ b.val ≤ a.val + 128 then ((-(Attn.slope h) * ((16 * Attn.step a.val b.val : ℕ) : ℝ) : ℝ) : EReal) else ⊥ := by
  rw [V_eq]
  simp only [hostOps0, hostOps0_1, hostOps0_2, hostOps0_3, hostOps0_4, hostOps0_5, hostOps0_6, List.cons_append, List.nil_append]
  entry_read
  simp only [StableHlo.TRef.toBuf, StableHlo.TRef.ofBuf, cast_cast, cast_eq]
  pointwise
  rw [slope_at, ofBits_bot]
  exact tab_at 16 (.inr (.inr rfl)) h a b

section

variable (U : Valuation τ sig (Elt Ideal)) (h : Fin 4) (e : Fin 2) (a : Fin 128) (b : Fin 256)

theorem cast_at (k : Fin 3) (x : S3x8x128x256.Idx → EReal) :
    shapeCast S3x4x256x256 x shapeCasts_S3x8x128x256_S3x4x256x256 (ix4 k h (hr e a) b) = x (ix4 k (head h e) a b) := by
  refine shapeCast_apply x _ _ _ ?_
  rw [Shape.rowMajor_val_four, Shape.rowMajor_val_four]
  simp [head, hr]
  omega

theorem r53 : StableHlo.after [StableHlo.reshape main_v52 main_v53 (rfl : (.f32 : EltTy) = .f32) shapeCasts_S3x8x128x256_S3x4x256x256] U (Proc.tc.devRef main_v53)
    = shapeCast S3x4x256x256 (U (Proc.tc.devRef main_v52) : S3x8x128x256.Idx → EReal) shapeCasts_S3x8x128x256_S3x4x256x256 := by
  rw [StableHlo.after_cons, StableHlo.after_nil]
  exact StableHlo.reshape_result' ..

abbrev ops3 : List (HloOp τ sig (Elt Ideal)) := [ StableHlo.unary main_v28 main_v49 (broadcastInDim S1x8x128x256 ![1, 2, 3] bcast_S8x128x256_S1x8x128x256_1_2_3 : (⟨S8x128x256, .f32⟩ : BufTy).Contents (Elt Ideal) → (⟨S1x8x128x256, .f32⟩ : BufTy).Contents (Elt Ideal)),
    StableHlo.unary main_v38 main_v50 (broadcastInDim S1x8x128x256 ![1, 2, 3] bcast_S8x128x256_S1x8x128x256_1_2_3 : (⟨S8x128x256, .f32⟩ : BufTy).Contents (Elt Ideal) → (⟨S1x8x128x256, .f32⟩ : BufTy).Contents (Elt Ideal)),
    StableHlo.unary main_v48 main_v51 (broadcastInDim S1x8x128x256 ![1, 2, 3] bcast_S8x128x256_S1x8x128x256_1_2_3 : (⟨S8x128x256, .f32⟩ : BufTy).Contents (Elt Ideal) → (⟨S1x8x128x256, .f32⟩ : BufTy).Contents (Elt Ideal))]

abbrev op4 : HloOp τ sig (Elt Ideal) := StableHlo.nary ![main_v49, main_v50, main_v51] main_v52 (fun u => (concatenate S3x8x128x256 0 [⟨S1x8x128x256, (u 0 : (⟨S1x8x128x256, .f32⟩ : BufTy).Contents (Elt Ideal))⟩, ⟨S1x8x128x256, (u 1 : (⟨S1x8x128x256, .f32⟩ : BufTy).Contents (Elt Ideal))⟩, ⟨S1x8x128x256, (u 2 : (⟨S1x8x128x256, .f32⟩ : BufTy).Contents (Elt Ideal))⟩] concatenates_S1x8x128x256_S1x8x128x256_S1x8x128x256_S3x8x128x256_d0 : (⟨S3x8x128x256, .f32⟩ : BufTy).Contents (Elt Ideal)))

theorem cat0 (x y z : S1x8x128x256.Idx → EReal) (h : Fin 8) : concatenate S3x8x128x256 0 [⟨S1x8x128x256, x⟩, ⟨S1x8x128x256, y⟩, ⟨S1x8x128x256, z⟩] concatenates_S1x8x128x256_S1x8x128x256_S1x8x128x256_S3x8x128x256_d0 (ix4 0 h a b) = x (ix4 0 h a b) :=
  concatenate_apply_piece (t := S3x8x128x256) 0 [⟨S1x8x128x256, x⟩, ⟨S1x8x128x256, y⟩, ⟨S1x8x128x256, z⟩] _ (ix4 0 h a b) 0 (by simp) S1x8x128x256 x rfl rfl 0 rfl _ (fun b hb => by fin_cases b <;> first | rfl | exact absurd rfl hb) rfl
theorem cat1 (x y z : S1x8x128x256.Idx → EReal) (h : Fin 8) : concatenate S3x8x128x256 0 [⟨S1x8x128x256, x⟩, ⟨S1x8x128x256, y⟩, ⟨S1x8x128x256, z⟩] concatenates_S1x8x128x256_S1x8x128x256_S1x8x128x256_S3x8x128x256_d0 (ix4 1 h a b) = y (ix4 0 h a b) :=
  concatenate_apply_piece (t := S3x8x128x256) 0 [⟨S1x8x128x256, x⟩, ⟨S1x8x128x256, y⟩, ⟨S1x8x128x256, z⟩] _ (ix4 1 h a b) 1 (by simp) S1x8x128x256 y rfl rfl 1 rfl _ (fun b hb => by fin_cases b <;> first | rfl | exact absurd rfl hb) rfl
theorem cat2 (x y z : S1x8x128x256.Idx → EReal) (h : Fin 8) : concatenate S3x8x128x256 0 [⟨S1x8x128x256, x⟩, ⟨S1x8x128x256, y⟩, ⟨S1x8x128x256, z⟩] concatenates_S1x8x128x256_S1x8x128x256_S1x8x128x256_S3x8x128x256_d0 (ix4 2 h a b) = z (ix4 0 h a b) :=
  concatenate_apply_piece (t := S3x8x128x256) 0 [⟨S1x8x128x256, x⟩, ⟨S1x8x128x256, y⟩, ⟨S1x8x128x256, z⟩] _ (ix4 2 h a b) 2 (by simp) S1x8x128x256 z rfl rfl 2 rfl _ (fun b hb => by fin_cases b <;> first | rfl | exact absurd rfl hb) rfl
theorem lift1 (x : S8x128x256.Idx → EReal) (h : Fin 8) : broadcastInDim S1x8x128x256 ![1, 2, 3] bcast_S8x128x256_S1x8x128x256_1_2_3 x (ix4 0 h a b) = x (ix3 h a b) :=
  broadcastInDim_apply _ _ _ _ _ fun b => by fin_cases b <;> rfl
theorem rN : StableHlo.after [op4] U (Proc.tc.devRef main_v52) = concatenate S3x8x128x256 0
    [⟨S1x8x128x256, (U (Proc.tc.devRef main_v49) : S1x8x128x256.Idx → EReal)⟩,
     ⟨S1x8x128x256, (U (Proc.tc.devRef main_v50) : S1x8x128x256.Idx → EReal)⟩,
     ⟨S1x8x128x256, (U (Proc.tc.devRef main_v51) : S1x8x128x256.Idx → EReal)⟩]
     concatenates_S1x8x128x256_S1x8x128x256_S1x8x128x256_S3x8x128x256_d0 := by
  rw [StableHlo.after_cons, StableHlo.after_nil]
  exact StableHlo.nary_result' ..
theorem r49 : StableHlo.after ops3 U (Proc.tc.devRef main_v49) = broadcastInDim S1x8x128x256 ![1, 2, 3] bcast_S8x128x256_S1x8x128x256_1_2_3 (U (Proc.tc.devRef main_v28) : S8x128x256.Idx → EReal) := by
  simp only [ops3]
  entry_read
  rfl
theorem r50 : StableHlo.after ops3 U (Proc.tc.devRef main_v50) = broadcastInDim S1x8x128x256 ![1, 2, 3] bcast_S8x128x256_S1x8x128x256_1_2_3 (U (Proc.tc.devRef main_v38) : S8x128x256.Idx → EReal) := by
  simp only [ops3]
  entry_read
  rfl
theorem r51 : StableHlo.after ops3 U (Proc.tc.devRef main_v51) = broadcastInDim S1x8x128x256 ![1, 2, 3] bcast_S8x128x256_S1x8x128x256_1_2_3 (U (Proc.tc.devRef main_v48) : S8x128x256.Idx → EReal) := by
  simp only [ops3]
  entry_read
  rfl
theorem r52 (h : Fin 8) : StableHlo.after [op4] (StableHlo.after ops3 U) (Proc.tc.devRef main_v52) (ix4 0 h a b) = U (Proc.tc.devRef main_v28) (ix3 h a b) :=
  (congrFun (rN _) _).trans ((cat0 a b _ _ _ h).trans ((congrFun (r49 U) _).trans (lift1 a b _ h)))
theorem r52' (h : Fin 8) : StableHlo.after [op4] (StableHlo.after ops3 U) (Proc.tc.devRef main_v52) (ix4 1 h a b) = U (Proc.tc.devRef main_v38) (ix3 h a b) :=
  (congrFun (rN _) _).trans ((cat1 a b _ _ _ h).trans ((congrFun (r50 U) _).trans (lift1 a b _ h)))
theorem r52'' (h : Fin 8) : StableHlo.after [op4] (StableHlo.after ops3 U) (Proc.tc.devRef main_v52) (ix4 2 h a b) = U (Proc.tc.devRef main_v48) (ix3 h a b) :=
  (congrFun (rN _) _).trans ((cat2 a b _ _ _ h).trans ((congrFun (r51 U) _).trans (lift1 a b _ h)))

theorem joinF : StableHlo.after hostOps0_6 U (Proc.tc.devRef main_v53) =
     shapeCast S3x4x256x256 (StableHlo.after [op4] (StableHlo.after ops3 U) (Proc.tc.devRef main_v52) : S3x8x128x256.Idx → EReal) shapeCasts_S3x8x128x256_S3x4x256x256 := r53 (StableHlo.after [op4] (StableHlo.after ops3 U))
theorem join0 : StableHlo.after hostOps0_6 U (Proc.tc.devRef main_v53) (ix4 0 h (hr e a) b) = U (Proc.tc.devRef main_v28) (ix3 (head h e) a b) :=
  (congrFun (joinF U) _).trans ((cast_at h e a b 0 _).trans (r52 U a b _))
theorem join1 : StableHlo.after hostOps0_6 U (Proc.tc.devRef main_v53) (ix4 1 h (hr e a) b) = U (Proc.tc.devRef main_v38) (ix3 (head h e) a b) :=
  (congrFun (joinF U) _).trans ((cast_at h e a b 1 _).trans (r52' U a b _))
theorem join2 : StableHlo.after hostOps0_6 U (Proc.tc.devRef main_v53) (ix4 2 h (hr e a) b) = U (Proc.tc.devRef main_v48) (ix3 (head h e) a b) :=
  (congrFun (joinF U) _).trans ((cast_at h e a b 2 _).trans (r52'' U a b _))
theorem keep28 : StableHlo.after hostOps0_6 U (Proc.tc.devRef main_v28) = U (Proc.tc.devRef main_v28) := by
  simp only [hostOps0_6]
  entry_read
  rfl
theorem keep38 : StableHlo.after hostOps0_6 U (Proc.tc.devRef main_v38) = U (Proc.tc.devRef main_v38) := by
  simp only [hostOps0_6]
  entry_read
  rfl
theorem keep48 : StableHlo.after hostOps0_6 U (Proc.tc.devRef main_v48) = U (Proc.tc.devRef main_v48) := by
  simp only [hostOps0_6]
  entry_read
  rfl

theorem after_append (l₁ l₂ : List (HloOp τ sig (Elt Ideal))) (U : Valuation τ sig (Elt Ideal)) :
    StableHlo.after (l₁ ++ l₂) U = StableHlo.after l₂ (StableHlo.after l₁ U) := by
  induction l₁ generalizing U with
  | nil => rfl
  | cons op l ih => exact ih _

theorem V_last (m : (ℓ : Loc nD τ sig) → Buf (Elt Ideal) ℓ) (c : Dev nD) : ∃ U, ∀ r, V m c r = StableHlo.after hostOps0_6 U (Proc.tc.devRef r) :=
  ⟨StableHlo.after (hostOps0 ++ (hostOps0_1 ++ (hostOps0_2 ++ (hostOps0_3 ++ (hostOps0_4 ++ hostOps0_5))))) fun b => m (c, b), fun r => by
    rw [V_eq, ← after_append]
    simp only [List.append_assoc]⟩

end

/-- The mask table's entries, by dilation. -/
theorem v53 {D : Dil} (hD : Is D) (h : Fin 4) (e : Fin 2) (a : Fin 128) (b : Fin 256) : V m c main_v53 (ix4 D.i h (hr e a) b)
    = if a.val ≤ b.val ∧ b.val ≤ a.val + 128 then ((-(Attn.slope (head h e)) * ((D.d * Attn.step a.val b.val : ℕ) : ℝ) : ℝ) : EReal) else ⊥ := by
  obtain ⟨U, hU⟩ := V_last m c
  rcases hD with rfl | rfl | rfl
  · have := v28 (m := m) (c := c) (head h e) a b
    rw [hU, keep28] at this
    rw [hU]
    exact (join0 U h e a b).trans (this.trans (by rw [show D1.d = 1 from rfl, Nat.one_mul]))
  · have := v38 (m := m) (c := c) (head h e) a b
    rw [hU, keep38] at this
    rw [hU]
    exact (join1 U h e a b).trans this
  · have := v48 (m := m) (c := c) (head h e) a b
    rw [hU, keep48] at this
    rw [hU]
    exact (join2 U h e a b).trans this

theorem emb0 (t : Fin cfg0.N) (i : Fin 2048) (j : Fin 128) : (win0_0.blk t).view.emb (ix2 i j) = ix2 (tok (ch t) i) ⟨(lane (hp t) j).val, by omega⟩ := by
  funext a; refine Fin.ext ?_; fin_cases a <;> simp [idx t, tok, ch, lane, hp] <;> omega
theorem emb1 (t : Fin cfg0.N) (i : Fin 2048) (j : Fin 128) : (win0_1.blk t).view.emb (ix2 i j) = ix2 (tok (prv (ch t)) i) ⟨512 + (lane (hp t) j).val, by omega⟩ := by
  funext a; refine Fin.ext ?_; fin_cases a <;> simp [idx t, tok, ch, lane, hp, prv] <;> omega
theorem emb2 (t : Fin cfg0.N) (i : Fin 2048) (j : Fin 128) : (win0_2.blk t).view.emb (ix2 i j) = ix2 (tok (ch t) i) ⟨512 + (lane (hp t) j).val, by omega⟩ := by
  funext a; refine Fin.ext ?_; fin_cases a <;> simp [idx t, tok, ch, lane, hp] <;> omega
theorem emb3 (t : Fin cfg0.N) (i : Fin 2048) (j : Fin 128) : (win0_3.blk t).view.emb (ix2 i j) = ix2 (tok (prv (ch t)) i) ⟨1024 + (lane (hp t) j).val, by omega⟩ := by
  funext a; refine Fin.ext ?_; fin_cases a <;> simp [idx t, tok, ch, lane, hp, prv] <;> omega
theorem emb4 (t : Fin cfg0.N) (i : Fin 2048) (j : Fin 128) : (win0_4.blk t).view.emb (ix2 i j) = ix2 (tok (ch t) i) ⟨1024 + (lane (hp t) j).val, by omega⟩ := by
  funext a; refine Fin.ext ?_; fin_cases a <;> simp [idx t, tok, ch, lane, hp] <;> omega
theorem emb5 (t : Fin cfg0.N) (k : Fin 3) (i j : Fin 256) : (win0_5.blk t).view.emb (ix4 k 0 i j) = ix4 k (hp t) i j := by
  funext a; refine Fin.ext ?_; fin_cases a <;> simp [idx t, hp]

section
variable (h : Args m c A) (t : Fin cfg0.N)
include h
theorem blk0 (a : Fin 2048) (b : Fin 128) : iblk m c 0 t (ix2 a b) = ((A.Q (tok (ch t) a) (lane (hp t) b) * (1/8) : ℝ) : EReal) := by
  have e : iblk m c 0 t (ix2 a b) = V m c main_v2 ((win0_0.blk t).view.emb (ix2 a b)) := rfl
  rw [e, emb0]
  exact v2_lo h _ _
theorem blk1 (a : Fin 2048) (b : Fin 128) : iblk m c 1 t (ix2 a b) = ((A.K (tok (prv (ch t)) a) (lane (hp t) b) : ℝ) : EReal) := by
  have e : iblk m c 1 t (ix2 a b) = V m c main_v2 ((win0_1.blk t).view.emb (ix2 a b)) := rfl
  rw [e, emb1]
  exact v2_hi h _ _
theorem blk2 (a : Fin 2048) (b : Fin 128) : iblk m c 2 t (ix2 a b) = ((A.K (tok (ch t) a) (lane (hp t) b) : ℝ) : EReal) := by
  have e : iblk m c 2 t (ix2 a b) = V m c main_v2 ((win0_2.blk t).view.emb (ix2 a b)) := rfl
  rw [e, emb2]
  exact v2_hi h _ _
theorem blk3 (a : Fin 2048) (b : Fin 128) : iblk m c 3 t (ix2 a b) = ((A.W (tok (prv (ch t)) a) (lane (hp t) b) : ℝ) : EReal) := by
  have e : iblk m c 3 t (ix2 a b) = V m c main_v3 ((win0_3.blk t).view.emb (ix2 a b)) := rfl
  rw [e, emb3]
  exact v3_hi h _ _
theorem blk4 (a : Fin 2048) (b : Fin 128) : iblk m c 4 t (ix2 a b) = ((A.W (tok (ch t) a) (lane (hp t) b) : ℝ) : EReal) := by
  have e : iblk m c 4 t (ix2 a b) = V m c main_v3 ((win0_4.blk t).view.emb (ix2 a b)) := rfl
  rw [e, emb4]
  exact v3_hi h _ _
omit h in
theorem blk5 {D : Dil} (hD : Is D) (e : Fin 2) (a : Fin 128) (b : Fin 256) : iblk m c 5 t (ix4 D.i 0 (hr e a) b)
    = if a.val ≤ b.val ∧ b.val ≤ a.val + 128 then ((-(Attn.slope (head (hp t) e)) * ((D.d * Attn.step a.val b.val : ℕ) : ℝ) : ℝ) : EReal) else ⊥ := by
  have e' : iblk m c 5 t (ix4 D.i 0 (hr e a) b) = V m c main_v53 ((win0_5.blk t).view.emb (ix4 D.i 0 (hr e a) b)) := rfl
  rw [e', emb5]
  exact v53 hD _ e a b

theorem blk : Blk A (hp t) (ch t) (grid0.coords t) (iblk m c 0 t) (iblk m c 1 t) (iblk m c 2 t) (iblk m c 3 t) (iblk m c 4 t) (iblk m c 5 t) where
  hi := (idx t).2.2.2.2.2.2.2.2
  h0 := blk0 h t
  h1 := blk1 h t
  h2 := blk2 h t
  h3 := blk3 h t
  h4 := blk4 h t
  h5 _ hD := blk5 t hD
end

end Cert.AttnFIdeal.Hand
-- ==== Proof.AttnRes.lean ====
module

public import proofs.«01_k».proof.Proof.AttnOut
public import proofs.«01_k».proof.Proof.AttnKernel

@[expose] public section

set_option maxRecDepth 16384

noncomputable section

/-! The attention's kernel program: its two results. -/

namespace Cert.AttnFIdeal.Hand

open Cert.AttnFIdeal Cert.AttnFIdeal.Gen Cert.Hand Idealize.ShloMosaic Idealize.ShloMosaic.TcCoe Idealize.SL.Sem
open Idealize.ShloMosaic.Pipeline (Dat)
open Cert.Hand.Attn (Arrs)

variable {m : (ℓ : Loc nD τ sig) → Buf (Elt Ideal) ℓ} {c : Dev nD} {A : Arrs}

theorem emb6 (t : Fin cfg0.N) (i : Fin 2048) (j : Fin 128) : ((View.whole main_v54_0).slice (win0_6.rect t)).emb (ix2 i j) = ix2 (tok (ch t) i) (lane (hp t) j) := by
  funext a; refine Fin.ext ?_; fin_cases a <;> simp [idx t, tok, ch, lane, hp, Pipeline.WinKind.off] <;> omega
theorem emb7 (t : Fin cfg0.N) (i : Fin 2048) (j : Fin 128) : ((View.whole main_v54_1).slice (win0_7.rect t)).emb (ix2 i j) = ix2 (tok (ch t) i) (lane (hp t) j) := by
  funext a; refine Fin.ext ?_; fin_cases a <;> simp [idx t, tok, ch, lane, hp, Pipeline.WinKind.off] <;> omega

variable (h : Args m c A)
include h

theorem out6 : (dats m 0 c).arrAt 6 (cfgs 0).N = fun y => ((Attn.out A (y 0) (y 1) : ℝ) : EReal) := by
  refine (dats m 0 c).arrAt_eq_of_covers 6 _ (by decide +kernel) fun t hf y => ?_
  blk_simp
  rw [after0_6]
  unfold outsAt0
  dsimp only
  unfold out0_A_6
  rw [View.read_writes_junk_eq_canon, canonOut (blk h t)]
  idx_vars y; rw [emb6]; rfl

theorem out7 : (dats m 0 c).arrAt 7 (cfgs 0).N = fun y => ((Attn.lse A (Attn.hd (y 1)) (y 0) : ℝ) : EReal) := by
  refine (dats m 0 c).arrAt_eq_of_covers 7 _ (by decide +kernel) fun t hf y => ?_
  blk_simp
  rw [after0_7]
  unfold outsAt0
  dsimp only
  unfold out0_A_7
  rw [View.read_writes_junk_eq_canon, canonLse (blk h t)]
  idx_vars y; rw [emb7]
  exact congrArg (fun k => ((Attn.lse A k (tok (ch t) y0) : ℝ) : EReal)) (hd_lane (hp t) y1).symm

end Cert.AttnFIdeal.Hand
-- ==== Proof.AttnRefSlope.lean ====
module

public import proofs.«01_k».proof.Proof.Gen.AttnFRefIdeal.Run
public import proofs.«01_k».proof.Proof.Gen.AttnFRefIdeal.Read
public import proofs.«01_k».proof.Proof.AttnTab
public import Idealize.ShloMosaic.Lib.Pointwise

@[expose] public section

set_option maxRecDepth 16384

noncomputable section

/-! The reference's slopes and constants. -/

namespace Cert.AttnFRefIdeal.Hand

open Cert.AttnFRefIdeal Cert.AttnFRefIdeal.Gen Cert.AttnFRefIdeal.Value Cert.AttnFRefIdeal.Read Cert.Hand Idealize.ShloMosaic Idealize.ShloMosaic.TcCoe Idealize.SL.Sem

theorem ofBits_8th : Ideal.ofBits .f32 0x3E000000#32 = ((1 / 8 : ℝ) : EReal) := by
  simp [Ideal.ofBits, Ideal.ieee, -EReal.coe_mul]
  norm_num

theorem ofBits_bot : Ideal.ofBits .f32 0xFF800000#32 = ⊥ := by
  simp [Ideal.ofBits, Ideal.ieee]

theorem add_log {s : Shape} (a b : FVec Ideal s .f32) : ∀ k, addf a (Host.log b) k = a k + Ideal.log (b k) := fun k => by
  pointwise

theorem log_at {s : Shape} (a : FVec Ideal s .f32) : ∀ k, Host.log a k = Ideal.log (a k) := fun k => by
  pointwise

theorem v10 (h : Fin 8) : val_main_v10 (F := Ideal) (ix1 h) = BitVec.ofNat 32 (2 ^ (h.val + 1)) := by
  fin_cases h <;> rfl

theorem v13 (h : Fin 8) : val_main_v13 (F := Ideal) (ix1 h) = ((Attn.slope h : ℝ) : EReal) := by
  pointwise [val_main_v13, val_main_v12, val_main_v11, val_main_cst]
  rw [v10]
  have e : FloatOps.sitofp (F := Ideal) .f32 (BitVec.ofNat 32 (2 ^ (h.val + 1))) = (((2 : ℝ) ^ (h.val + 1) : ℝ) : EReal) := by
    have hb : (2 : ℕ) ^ (h.val + 1) < 65536 := lt_of_le_of_lt (Nat.pow_le_pow_right (by norm_num) (by omega : h.val + 1 ≤ 8)) (by norm_num)
    show (((BitVec.ofNat 32 (2 ^ (h.val + 1))).toInt : ℝ) : EReal) = _
    rw [Attn.word_toInt _ hb]
    simp
  rw [e]
  refine (Ideal.div_coe (x := 1) (by positivity)).trans ?_
  rw [← EReal.coe_one, ← EReal.coe_mul, one_mul]
  rfl

end Cert.AttnFRefIdeal.Hand
-- ==== Proof.AttnRef1.lean ====
module

public import proofs.«01_k».proof.Proof.AttnRefSlope

@[expose] public section

set_option maxRecDepth 16384

noncomputable section

/-! The reference's branch of dilation 1, read as real numbers. -/

namespace Cert.AttnFRefIdeal.Hand.B1

open Cert.AttnFRefIdeal Cert.AttnFRefIdeal.Gen Cert.AttnFRefIdeal.Value Cert.AttnFRefIdeal.Read Cert.AttnFRefIdeal.Hand Cert.Hand Cert.Hand.Attn Idealize.ShloMosaic Idealize.ShloMosaic.TcCoe Idealize.SL.Sem

variable {x0 x1 x2 : FVec Ideal S8192x512 .f32} {A : Arrs}

theorem br : Br 1 64 := by unfold Br; omega

/-- The blocks of the dilated sequence, from the tokens. -/
theorem lay (x : FVec Ideal S8192x512 .f32) (h : Fin 8) (n : Fin 64) (i : Fin 128) (l : Fin 64) :
    val_main_v16 (F := Ideal) x (ix5 (0 : Fin 1) h n i l) = x (ix2 (tk 1 0 n.val i.val) (ln h l)) := by
  unfold val_main_v16
  refine (shapeCast_apply _ _ _ (ix4 (0 : Fin 1) h ⟨128 * n.val + i.val, by omega⟩ l) ?_).trans ?_
  · rw [Shape.rowMajor_val_four, Shape.rowMajor_val_five]
    simp
    omega
  unfold val_main_v15
  refine (transpose_apply _ _ _ _ (ix4 ⟨128 * n.val + i.val, by omega⟩ (0 : Fin 1) h l) ?_).trans ?_
  · intro b
    fin_cases b <;> rfl
  unfold val_main_v14
  refine (shapeCast_apply _ _ _ (ix3 (tk 1 0 n.val i.val) h l) ?_).trans ?_
  · rw [Shape.rowMajor_val_four, Shape.rowMajor_val_three]
    simp [tk]
    omega
  unfold val_main_v0
  refine shapeCast_apply _ _ _ (ix2 (tk 1 0 n.val i.val) (ln h l)) ?_
  rw [Shape.rowMajor_val_two, Shape.rowMajor_val_three]
  simp [tk, ln]
  omega

theorem prev (x : FVec Ideal S8192x512 .f32) (h : Fin 8) (n : Fin 64) (i : Fin 128) (l : Fin 64) : val_main_v22 (F := Ideal) x (ix5 (0 : Fin 1) h n i l)
    = if hn : n.val < 1 then 0 else val_main_v19 (F := Ideal) x (ix5 (0 : Fin 1) h ⟨n.val - 1, by omega⟩ i l) := by
  pointwise [val_main_v22, val_main_v21, val_main_v20, val_main_cst_3]

/-- A block's keys: the block before and the block itself. -/
theorem keys {x : FVec Ideal S8192x512 .f32} {X : Fin 8192 → Fin 512 → ℝ} (h1 : ∀ p c, x (ix2 p c) = ((X p c : ℝ) : EReal))
    (h : Fin 8) (n : Fin 64) (j : Fin 256) (l : Fin 64) :
    val_main_v23 (F := Ideal) x (ix5 (0 : Fin 1) h n j l) = ((kk 1 X 0 n.val j.val (ln h l) : ℝ) : EReal) := by
  have e : ∀ (n : Fin 64) (i : Fin 128), val_main_v19 (F := Ideal) x (ix5 (0 : Fin 1) h n i l) = ((X (tk 1 0 n.val i.val) (ln h l) : ℝ) : EReal) := fun n i => (lay x h n i l).trans (h1 _ _)
  pointwise [val_main_v23]
  simp only [prev, e]
  unfold kk tk
  split_ifs <;> first
    | rfl
    | omega
    | exact congrArg (fun k => ((X k (ln h l) : ℝ) : EReal)) (Fin.ext (by simp only; omega))

/-- The scores. -/
theorem score (h0 : ∀ p c, x0 (ix2 p c) = ((A.Q p c : ℝ) : EReal)) (h1 : ∀ p c, x1 (ix2 p c) = ((A.K p c : ℝ) : EReal))
    (h : Fin 8) (n : Fin 64) (i : Fin 128) (j : Fin 256) : val_main_v33 (F := Ideal) x0 x1 (ix5 (0 : Fin 1) h n i j)
    = (((∑ l, A.Q (tk 1 0 n.val i.val) (ln h l) * kk 1 A.K 0 n.val j.val (ln h l)) * (1 / 8) : ℝ) : EReal) := by
  pointwise [val_main_v33, val_main_v32, val_main_cst_5, val_main_v31]
  simp only [lay, h0, keys h1, ← EReal.coe_mul, sum_coe, ofBits_8th]

/-- The mask. -/
theorem mask (n : Fin 64) (i : Fin 128) (j : Fin 256) : val_main_v62 (F := Ideal) (ix3 n i j)
    = if (i.val ≤ j.val ∧ j.val ≤ i.val + 128) ∧ ¬ (n.val = 0 ∧ j.val < 128) then 1#1 else 0#1 := by
  pointwise [val_main_v34, val_main_v35, val_main_v36, val_main_c_6, val_main_v37, val_main_v38, val_main_v39, val_main_v40, val_main_v41, val_main_v42, val_main_v43, val_main_c_7, val_main_v44, val_main_v45, val_main_c_8, val_main_v46, val_main_v47, val_main_v48, val_main_v49, val_main_v50, val_main_c_9, val_main_v51, val_main_v52, val_main_c_10, val_main_v53, val_main_v54, val_main_v55, val_main_v56, val_main_v57, val_main_v58, val_main_v59, val_main_v60, val_main_v61, val_main_v62]
  exact seen_at ⟨n.val, by omega⟩ i j

/-- The distances, weighted by the slopes. -/
theorem bias (h : Fin 8) (i : Fin 128) (j : Fin 256) (hp : i.val ≤ j.val ∧ j.val ≤ i.val + 128) : val_main_v71 (F := Ideal) (ix3 h i j)
    = ((-(Attn.slope h) * ((1 * Attn.step i.val j.val : ℕ) : ℝ) : ℝ) : EReal) := by
  pointwise [val_main_v34, val_main_v35, val_main_v36, val_main_c_6, val_main_v37, val_main_v38, val_main_v39, val_main_v40, val_main_v41, val_main_v42, val_main_v63, val_main_c_11, val_main_v64, val_main_v65, val_main_v66, val_main_v67, val_main_v68, val_main_v69, val_main_v70, val_main_v71]
  refine (congrArg₂ (fun a b => -a * b) (v13 h) (dist_at 1 (by omega) i j hp)).trans ?_
  rw [← EReal.coe_neg, ← EReal.coe_mul]
  rw [Nat.one_mul]

section
variable (h0 : ∀ p c, x0 (ix2 p c) = ((A.Q p c : ℝ) : EReal)) (h1 : ∀ p c, x1 (ix2 p c) = ((A.K p c : ℝ) : EReal)) (h2 : ∀ p c, x2 (ix2 p c) = ((A.W p c : ℝ) : EReal))
  (h : Fin 8) (n : Fin 64) (i : Fin 128)
include h0 h1

/-- The scores, masked. -/
theorem masked (j : Fin 256) : val_main_v76 (F := Ideal) x0 x1 (ix5 (0 : Fin 1) h n i j) = Attn.S A 1 h (tk 1 0 n.val i.val) j := by
  have e : val_main_v75 (F := Ideal) x0 x1 (ix5 (0 : Fin 1) h n i j) = val_main_v33 (F := Ideal) x0 x1 (ix5 (0 : Fin 1) h n i j) + val_main_v71 (F := Ideal) (ix3 h i j) := by
    pointwise [val_main_v75, val_main_v74, val_main_v73, val_main_v72]
  have e' : val_main_v76 (F := Ideal) x0 x1 (ix5 (0 : Fin 1) h n i j) = Scalar.select (val_main_v62 (F := Ideal) (ix3 n i j)) (val_main_v75 (F := Ideal) x0 x1 (ix5 (0 : Fin 1) h n i j)) ⊥ := by
    pointwise [val_main_v76, val_main_call1_v2, val_main_call1_v1, val_main_call1_v0, val_main_cst_12]
    exact congrArg (Scalar.select _ _) ofBits_bot
  rw [e', e, mask, S_tk br Nat.zero_lt_one n.isLt i j]
  by_cases hp : (i.val ≤ j.val ∧ j.val ≤ i.val + 128) ∧ ¬ (n.val = 0 ∧ j.val < 128)
  · rw [if_pos hp, if_pos hp, score h0 h1, bias h i j hp.1, ← EReal.coe_add]
    rfl
  · rw [if_neg hp, if_neg hp]
    rfl

theorem rmax : val_main_v77 (F := Ideal) x0 x1 (ix4 (0 : Fin 1) h n i) = ((rowM (Attn.S A 1 h (tk 1 0 n.val i.val)) : ℝ) : EReal) := by
  pointwise [val_main_v77, val_main_cst_13]
  rw [ofBits_bot, ← sup_coe (good A 1 h _)]
  exact congrArg (fun f => Finset.fold max ⊥ f Finset.univ) (funext (masked h0 h1 h n i))

theorem weight (j : Fin 256) : val_main_v81 (F := Ideal) x0 x1 (ix5 (0 : Fin 1) h n i j) = ((rowE (Attn.S A 1 h (tk 1 0 n.val i.val)) j : ℝ) : EReal) := by
  pointwise [val_main_v81, val_main_v80, val_main_v79, val_main_v78]
  refine (congrArg₂ (fun a b => Ideal.exp (a - b)) (masked h0 h1 h n i j) (rmax h0 h1 h n i)).trans (exp_row (good A 1 h _) j)

theorem total : val_main_v82 (F := Ideal) x0 x1 (ix4 (0 : Fin 1) h n i) = ((rowD (Attn.S A 1 h (tk 1 0 n.val i.val)) : ℝ) : EReal) := by
  pointwise [val_main_v82, val_main_cst_14]
  refine (Finset.sum_congr rfl fun j _ => weight h0 h1 h n i j).trans ?_
  rw [sum_coe]
  rfl

/-- The log-sum-exps. -/
theorem blockL : val_main_v88 (F := Ideal) x0 x1 (ix5 (0 : Fin 1) h n i 0) = ((Attn.l A 1 h (tk 1 0 n.val i.val) : ℝ) : EReal) := by
  have e1 : val_main_v78 (F := Ideal) x0 x1 (ix5 (0 : Fin 1) h n i 0) = val_main_v77 (F := Ideal) x0 x1 (ix4 (0 : Fin 1) h n i) := by
    pointwise [val_main_v78]
  have e2 : val_main_v83 (F := Ideal) x0 x1 (ix5 (0 : Fin 1) h n i 0) = val_main_v82 (F := Ideal) x0 x1 (ix4 (0 : Fin 1) h n i) := by
    pointwise [val_main_v83]
  have e3 : ∀ k, val_main_v88 (F := Ideal) x0 x1 k = val_main_v78 (F := Ideal) x0 x1 k + Ideal.log (val_main_v83 (F := Ideal) x0 x1 k) := by
    unfold val_main_v88 val_main_v87
    exact add_log _ _
  rw [e3, e1, e2, rmax h0 h1 h n i, total h0 h1 h n i, log_row (good A 1 h _), ← EReal.coe_add, Attn.l, rowL]

include h2 in
/-- The outputs. -/
theorem blockO (l : Fin 64) : val_main_v86 (F := Ideal) x0 x1 x2 (ix5 (0 : Fin 1) h n i l) = ((Attn.o A 1 (tk 1 0 n.val i.val) (ln h l) : ℝ) : EReal) := by
  have ev : val_main_v30 (F := Ideal) x2 = val_main_v23 (F := Ideal) x2 := rfl
  pointwise [val_main_v86, val_main_v85, val_main_v84, val_main_v83]
  rw [ev, total h0 h1 h n i]
  refine (congrArg (fun a => Ideal.div a _) ((Finset.sum_congr rfl fun j _ => (congrArg₂ (· * ·) (weight h0 h1 h n i j) (keys h2 h n j l)).trans (EReal.coe_mul _ _).symm).trans
    (sum_coe _))).trans ((div_row (good A 1 h _) _).trans ?_)
  exact congrArg (fun x : ℝ => (x : EReal)) (o_tk br Nat.zero_lt_one n.isLt i A h l)

end

section
variable (h0 : ∀ p c, x0 (ix2 p c) = ((A.Q p c : ℝ) : EReal)) (h1 : ∀ p c, x1 (ix2 p c) = ((A.K p c : ℝ) : EReal)) (h2 : ∀ p c, x2 (ix2 p c) = ((A.W p c : ℝ) : EReal))
  (p : Fin 8192) (h : Fin 8)
include h0 h1

omit h0 h1 in
theorem tk1 : tk 1 0 (p.val / 1 / 128) (p.val / 1 % 128) = p := by
  have := tk_split br p
  rwa [Nat.mod_one] at this

/-- The branch's log-sum-exps, by token. -/
theorem lse : val_main_v95 (F := Ideal) x0 x1 (ix2 p h) = ((Attn.l A 1 h p : ℝ) : EReal) := by
  unfold val_main_v95
  refine (shapeCast_apply _ _ _ (ix3 p (0 : Fin 1) h) ?_).trans ?_
  · rw [Shape.rowMajor_val_three, Shape.rowMajor_val_two]
    simp
  unfold val_main_v94
  refine (transpose_apply _ _ _ _ (ix3 (0 : Fin 1) h p) ?_).trans ?_
  · intro b
    fin_cases b <;> rfl
  unfold val_main_v93
  refine (shapeCast_apply _ _ _ (ix4 (0 : Fin 1) h ⟨p.val / 1 / 128, by omega⟩ ⟨p.val / 1 % 128, by omega⟩) ?_).trans ?_
  · rw [Shape.rowMajor_val_three, Shape.rowMajor_val_four]
    simp
    omega
  unfold val_main_v89
  refine (shapeCast_apply _ _ _ (ix5 (0 : Fin 1) h ⟨p.val / 1 / 128, by omega⟩ ⟨p.val / 1 % 128, by omega⟩ 0) ?_).trans ?_
  · rw [Shape.rowMajor_val_five, Shape.rowMajor_val_four]
    simp
  refine (blockL h0 h1 h _ _).trans ?_
  exact congrArg (fun k => ((Attn.l A 1 h k : ℝ) : EReal)) (tk1 p)

include h2 in
/-- The branch's outputs, by token. -/
theorem out (l : Fin 64) : val_main_v92 (F := Ideal) x0 x1 x2 (ix3 p h l) = ((Attn.o A 1 p (ln h l) : ℝ) : EReal) := by
  unfold val_main_v92
  refine (shapeCast_apply _ _ _ (ix4 p (0 : Fin 1) h l) ?_).trans ?_
  · rw [Shape.rowMajor_val_four, Shape.rowMajor_val_three]
    simp
  unfold val_main_v91
  refine (transpose_apply _ _ _ _ (ix4 (0 : Fin 1) h p l) ?_).trans ?_
  · intro b
    fin_cases b <;> rfl
  unfold val_main_v90
  refine (shapeCast_apply _ _ _ (ix5 (0 : Fin 1) h ⟨p.val / 1 / 128, by omega⟩ ⟨p.val / 1 % 128, by omega⟩ l) ?_).trans ?_
  · rw [Shape.rowMajor_val_five, Shape.rowMajor_val_four]
    simp
    omega
  refine (blockO h0 h1 h2 h _ _ l).trans ?_
  exact congrArg (fun k => ((Attn.o A 1 k (ln h l) : ℝ) : EReal)) (tk1 p)

end

end Cert.AttnFRefIdeal.Hand.B1
-- ==== Proof.AttnRef4.lean ====
module

public import proofs.«01_k».proof.Proof.AttnRefSlope

@[expose] public section

set_option maxRecDepth 16384

noncomputable section

/-! The reference's branch of dilation 4, read as real numbers. -/

namespace Cert.AttnFRefIdeal.Hand.B4

open Cert.AttnFRefIdeal Cert.AttnFRefIdeal.Gen Cert.AttnFRefIdeal.Value Cert.AttnFRefIdeal.Read Cert.AttnFRefIdeal.Hand Cert.Hand Cert.Hand.Attn Idealize.ShloMosaic Idealize.ShloMosaic.TcCoe Idealize.SL.Sem

variable {x0 x1 x2 : FVec Ideal S8192x512 .f32} {A : Arrs}

theorem br : Br 4 16 := by unfold Br; omega

/-- The blocks of the dilated sequence, from the tokens. -/
theorem lay (x : FVec Ideal S8192x512 .f32) (r : Fin 4) (h : Fin 8) (n : Fin 16) (i : Fin 128) (l : Fin 64) :
    val_main_v98 (F := Ideal) x (ix5 r h n i l) = x (ix2 (tk 4 r.val n.val i.val) (ln h l)) := by
  unfold val_main_v98
  refine (shapeCast_apply _ _ _ (ix4 r h ⟨128 * n.val + i.val, by omega⟩ l) ?_).trans ?_
  · rw [Shape.rowMajor_val_four, Shape.rowMajor_val_five]
    simp
    omega
  unfold val_main_v97
  refine (transpose_apply _ _ _ _ (ix4 ⟨128 * n.val + i.val, by omega⟩ r h l) ?_).trans ?_
  · intro b
    fin_cases b <;> rfl
  unfold val_main_v96
  refine (shapeCast_apply _ _ _ (ix3 (tk 4 r.val n.val i.val) h l) ?_).trans ?_
  · rw [Shape.rowMajor_val_four, Shape.rowMajor_val_three]
    simp [tk]
    omega
  unfold val_main_v0
  refine shapeCast_apply _ _ _ (ix2 (tk 4 r.val n.val i.val) (ln h l)) ?_
  rw [Shape.rowMajor_val_two, Shape.rowMajor_val_three]
  simp [tk, ln]
  omega

theorem prev (x : FVec Ideal S8192x512 .f32) (r : Fin 4) (h : Fin 8) (n : Fin 16) (i : Fin 128) (l : Fin 64) : val_main_v104 (F := Ideal) x (ix5 r h n i l)
    = if hn : n.val < 1 then 0 else val_main_v101 (F := Ideal) x (ix5 r h ⟨n.val - 1, by omega⟩ i l) := by
  pointwise [val_main_v104, val_main_v103, val_main_v102, val_main_cst_15]

/-- A block's keys: the block before and the block itself. -/
theorem keys {x : FVec Ideal S8192x512 .f32} {X : Fin 8192 → Fin 512 → ℝ} (h1 : ∀ p c, x (ix2 p c) = ((X p c : ℝ) : EReal))
    (r : Fin 4) (h : Fin 8) (n : Fin 16) (j : Fin 256) (l : Fin 64) :
    val_main_v105 (F := Ideal) x (ix5 r h n j l) = ((kk 4 X r.val n.val j.val (ln h l) : ℝ) : EReal) := by
  have e : ∀ (n : Fin 16) (i : Fin 128), val_main_v101 (F := Ideal) x (ix5 r h n i l) = ((X (tk 4 r.val n.val i.val) (ln h l) : ℝ) : EReal) := fun n i => (lay x r h n i l).trans (h1 _ _)
  pointwise [val_main_v105]
  simp only [prev, e]
  unfold kk tk
  split_ifs <;> first
    | rfl
    | omega
    | exact congrArg (fun k => ((X k (ln h l) : ℝ) : EReal)) (Fin.ext (by simp only; omega))

/-- The scores. -/
theorem score (h0 : ∀ p c, x0 (ix2 p c) = ((A.Q p c : ℝ) : EReal)) (h1 : ∀ p c, x1 (ix2 p c) = ((A.K p c : ℝ) : EReal))
    (r : Fin 4) (h : Fin 8) (n : Fin 16) (i : Fin 128) (j : Fin 256) : val_main_v115 (F := Ideal) x0 x1 (ix5 r h n i j)
    = (((∑ l, A.Q (tk 4 r.val n.val i.val) (ln h l) * kk 4 A.K r.val n.val j.val (ln h l)) * (1 / 8) : ℝ) : EReal) := by
  pointwise [val_main_v115, val_main_v114, val_main_cst_17, val_main_v113]
  simp only [lay, h0, keys h1, ← EReal.coe_mul, sum_coe, ofBits_8th]

/-- The mask. -/
theorem mask (n : Fin 16) (i : Fin 128) (j : Fin 256) : val_main_v144 (F := Ideal) (ix3 n i j)
    = if (i.val ≤ j.val ∧ j.val ≤ i.val + 128) ∧ ¬ (n.val = 0 ∧ j.val < 128) then 1#1 else 0#1 := by
  pointwise [val_main_v116, val_main_v117, val_main_v118, val_main_c_18, val_main_v119, val_main_v120, val_main_v121, val_main_v122, val_main_v123, val_main_v124, val_main_v125, val_main_c_19, val_main_v126, val_main_v127, val_main_c_20, val_main_v128, val_main_v129, val_main_v130, val_main_v131, val_main_v132, val_main_c_21, val_main_v133, val_main_v134, val_main_c_22, val_main_v135, val_main_v136, val_main_v137, val_main_v138, val_main_v139, val_main_v140, val_main_v141, val_main_v142, val_main_v143, val_main_v144]
  exact seen_at ⟨n.val, by omega⟩ i j

/-- The distances, weighted by the slopes. -/
theorem bias (h : Fin 8) (i : Fin 128) (j : Fin 256) (hp : i.val ≤ j.val ∧ j.val ≤ i.val + 128) : val_main_v153 (F := Ideal) (ix3 h i j)
    = ((-(Attn.slope h) * ((4 * Attn.step i.val j.val : ℕ) : ℝ) : ℝ) : EReal) := by
  pointwise [val_main_v116, val_main_v117, val_main_v118, val_main_c_18, val_main_v119, val_main_v120, val_main_v121, val_main_v122, val_main_v123, val_main_v124, val_main_v145, val_main_c_23, val_main_v146, val_main_v147, val_main_v148, val_main_v149, val_main_v150, val_main_v151, val_main_v152, val_main_v153]
  refine (congrArg₂ (fun a b => -a * b) (v13 h) (dist_at 4 (by omega) i j hp)).trans ?_
  rw [← EReal.coe_neg, ← EReal.coe_mul]

section
variable (h0 : ∀ p c, x0 (ix2 p c) = ((A.Q p c : ℝ) : EReal)) (h1 : ∀ p c, x1 (ix2 p c) = ((A.K p c : ℝ) : EReal)) (h2 : ∀ p c, x2 (ix2 p c) = ((A.W p c : ℝ) : EReal))
  (r : Fin 4) (h : Fin 8) (n : Fin 16) (i : Fin 128)
include h0 h1

/-- The scores, masked. -/
theorem masked (j : Fin 256) : val_main_v158 (F := Ideal) x0 x1 (ix5 r h n i j) = Attn.S A 4 h (tk 4 r.val n.val i.val) j := by
  have e : val_main_v157 (F := Ideal) x0 x1 (ix5 r h n i j) = val_main_v115 (F := Ideal) x0 x1 (ix5 r h n i j) + val_main_v153 (F := Ideal) (ix3 h i j) := by
    pointwise [val_main_v157, val_main_v156, val_main_v155, val_main_v154]
  have e' : val_main_v158 (F := Ideal) x0 x1 (ix5 r h n i j) = Scalar.select (val_main_v144 (F := Ideal) (ix3 n i j)) (val_main_v157 (F := Ideal) x0 x1 (ix5 r h n i j)) ⊥ := by
    pointwise [val_main_v158, val_main_call2_v2, val_main_call2_v1, val_main_call2_v0, val_main_cst_24]
    exact congrArg (Scalar.select _ _) ofBits_bot
  rw [e', e, mask, S_tk br r.isLt n.isLt i j]
  by_cases hp : (i.val ≤ j.val ∧ j.val ≤ i.val + 128) ∧ ¬ (n.val = 0 ∧ j.val < 128)
  · rw [if_pos hp, if_pos hp, score h0 h1, bias h i j hp.1, ← EReal.coe_add]
    rfl
  · rw [if_neg hp, if_neg hp]
    rfl

theorem rmax : val_main_v159 (F := Ideal) x0 x1 (ix4 r h n i) = ((rowM (Attn.S A 4 h (tk 4 r.val n.val i.val)) : ℝ) : EReal) := by
  pointwise [val_main_v159, val_main_cst_25]
  rw [ofBits_bot, ← sup_coe (good A 4 h _)]
  exact congrArg (fun f => Finset.fold max ⊥ f Finset.univ) (funext (masked h0 h1 r h n i))

theorem weight (j : Fin 256) : val_main_v163 (F := Ideal) x0 x1 (ix5 r h n i j) = ((rowE (Attn.S A 4 h (tk 4 r.val n.val i.val)) j : ℝ) : EReal) := by
  pointwise [val_main_v163, val_main_v162, val_main_v161, val_main_v160]
  refine (congrArg₂ (fun a b => Ideal.exp (a - b)) (masked h0 h1 r h n i j) (rmax h0 h1 r h n i)).trans (exp_row (good A 4 h _) j)

theorem total : val_main_v164 (F := Ideal) x0 x1 (ix4 r h n i) = ((rowD (Attn.S A 4 h (tk 4 r.val n.val i.val)) : ℝ) : EReal) := by
  pointwise [val_main_v164, val_main_cst_26]
  refine (Finset.sum_congr rfl fun j _ => weight h0 h1 r h n i j).trans ?_
  rw [sum_coe]
  rfl

/-- The log-sum-exps. -/
theorem blockL : val_main_v170 (F := Ideal) x0 x1 (ix5 r h n i 0) = ((Attn.l A 4 h (tk 4 r.val n.val i.val) : ℝ) : EReal) := by
  have e1 : val_main_v160 (F := Ideal) x0 x1 (ix5 r h n i 0) = val_main_v159 (F := Ideal) x0 x1 (ix4 r h n i) := by
    pointwise [val_main_v160]
  have e2 : val_main_v165 (F := Ideal) x0 x1 (ix5 r h n i 0) = val_main_v164 (F := Ideal) x0 x1 (ix4 r h n i) := by
    pointwise [val_main_v165]
  have e3 : ∀ k, val_main_v170 (F := Ideal) x0 x1 k = val_main_v160 (F := Ideal) x0 x1 k + Ideal.log (val_main_v165 (F := Ideal) x0 x1 k) := by
    unfold val_main_v170 val_main_v169
    exact add_log _ _
  rw [e3, e1, e2, rmax h0 h1 r h n i, total h0 h1 r h n i, log_row (good A 4 h _), ← EReal.coe_add, Attn.l, rowL]

include h2 in
/-- The outputs. -/
theorem blockO (l : Fin 64) : val_main_v168 (F := Ideal) x0 x1 x2 (ix5 r h n i l) = ((Attn.o A 4 (tk 4 r.val n.val i.val) (ln h l) : ℝ) : EReal) := by
  have ev : val_main_v112 (F := Ideal) x2 = val_main_v105 (F := Ideal) x2 := rfl
  pointwise [val_main_v168, val_main_v167, val_main_v166, val_main_v165]
  rw [ev, total h0 h1 r h n i]
  refine (congrArg (fun a => Ideal.div a _) ((Finset.sum_congr rfl fun j _ => (congrArg₂ (· * ·) (weight h0 h1 r h n i j) (keys h2 r h n j l)).trans (EReal.coe_mul _ _).symm).trans
    (sum_coe _))).trans ((div_row (good A 4 h _) _).trans ?_)
  exact congrArg (fun x : ℝ => (x : EReal)) (o_tk br r.isLt n.isLt i A h l)

end

section
variable (h0 : ∀ p c, x0 (ix2 p c) = ((A.Q p c : ℝ) : EReal)) (h1 : ∀ p c, x1 (ix2 p c) = ((A.K p c : ℝ) : EReal)) (h2 : ∀ p c, x2 (ix2 p c) = ((A.W p c : ℝ) : EReal))
  (p : Fin 8192) (h : Fin 8)
include h0 h1

/-- The branch's log-sum-exps, by token. -/
theorem lse : val_main_v177 (F := Ideal) x0 x1 (ix2 p h) = ((Attn.l A 4 h p : ℝ) : EReal) := by
  unfold val_main_v177
  refine (shapeCast_apply _ _ _ (ix3 ⟨p.val / 4, by omega⟩ ⟨p.val % 4, by omega⟩ h) ?_).trans ?_
  · rw [Shape.rowMajor_val_three, Shape.rowMajor_val_two]
    simp
    omega
  unfold val_main_v176
  refine (transpose_apply _ _ _ _ (ix3 ⟨p.val % 4, by omega⟩ h ⟨p.val / 4, by omega⟩) ?_).trans ?_
  · intro b
    fin_cases b <;> rfl
  unfold val_main_v175
  refine (shapeCast_apply _ _ _ (ix4 ⟨p.val % 4, by omega⟩ h ⟨p.val / 4 / 128, by omega⟩ ⟨p.val / 4 % 128, by omega⟩) ?_).trans ?_
  · rw [Shape.rowMajor_val_three, Shape.rowMajor_val_four]
    simp
    omega
  unfold val_main_v171
  refine (shapeCast_apply _ _ _ (ix5 ⟨p.val % 4, by omega⟩ h ⟨p.val / 4 / 128, by omega⟩ ⟨p.val / 4 % 128, by omega⟩ 0) ?_).trans ?_
  · rw [Shape.rowMajor_val_five, Shape.rowMajor_val_four]
    simp
  refine (blockL h0 h1 _ h _ _).trans ?_
  exact congrArg (fun k => ((Attn.l A 4 h k : ℝ) : EReal)) (tk_split br p)

include h2 in
/-- The branch's outputs, by token. -/
theorem out (l : Fin 64) : val_main_v174 (F := Ideal) x0 x1 x2 (ix3 p h l) = ((Attn.o A 4 p (ln h l) : ℝ) : EReal) := by
  unfold val_main_v174
  refine (shapeCast_apply _ _ _ (ix4 ⟨p.val / 4, by omega⟩ ⟨p.val % 4, by omega⟩ h l) ?_).trans ?_
  · rw [Shape.rowMajor_val_four, Shape.rowMajor_val_three]
    simp
    omega
  unfold val_main_v173
  refine (transpose_apply _ _ _ _ (ix4 ⟨p.val % 4, by omega⟩ h ⟨p.val / 4, by omega⟩ l) ?_).trans ?_
  · intro b
    fin_cases b <;> rfl
  unfold val_main_v172
  refine (shapeCast_apply _ _ _ (ix5 ⟨p.val % 4, by omega⟩ h ⟨p.val / 4 / 128, by omega⟩ ⟨p.val / 4 % 128, by omega⟩ l) ?_).trans ?_
  · rw [Shape.rowMajor_val_five, Shape.rowMajor_val_four]
    simp
    omega
  refine (blockO h0 h1 h2 _ h _ _ l).trans ?_
  exact congrArg (fun k => ((Attn.o A 4 k (ln h l) : ℝ) : EReal)) (tk_split br p)

end

end Cert.AttnFRefIdeal.Hand.B4
-- ==== Proof.AttnRef16.lean ====
module

public import proofs.«01_k».proof.Proof.AttnRefSlope

@[expose] public section

set_option maxRecDepth 16384

noncomputable section

/-! The reference's branch of dilation 16, read as real numbers. -/

namespace Cert.AttnFRefIdeal.Hand.B16

open Cert.AttnFRefIdeal Cert.AttnFRefIdeal.Gen Cert.AttnFRefIdeal.Value Cert.AttnFRefIdeal.Read Cert.AttnFRefIdeal.Hand Cert.Hand Cert.Hand.Attn Idealize.ShloMosaic Idealize.ShloMosaic.TcCoe Idealize.SL.Sem

variable {x0 x1 x2 : FVec Ideal S8192x512 .f32} {A : Arrs}

theorem br : Br 16 4 := by unfold Br; omega

/-- The blocks of the dilated sequence, from the tokens. -/
theorem lay (x : FVec Ideal S8192x512 .f32) (r : Fin 16) (h : Fin 8) (n : Fin 4) (i : Fin 128) (l : Fin 64) :
    val_main_v180 (F := Ideal) x (ix5 r h n i l) = x (ix2 (tk 16 r.val n.val i.val) (ln h l)) := by
  unfold val_main_v180
  refine (shapeCast_apply _ _ _ (ix4 r h ⟨128 * n.val + i.val, by omega⟩ l) ?_).trans ?_
  · rw [Shape.rowMajor_val_four, Shape.rowMajor_val_five]
    simp
    omega
  unfold val_main_v179
  refine (transpose_apply _ _ _ _ (ix4 ⟨128 * n.val + i.val, by omega⟩ r h l) ?_).trans ?_
  · intro b
    fin_cases b <;> rfl
  unfold val_main_v178
  refine (shapeCast_apply _ _ _ (ix3 (tk 16 r.val n.val i.val) h l) ?_).trans ?_
  · rw [Shape.rowMajor_val_four, Shape.rowMajor_val_three]
    simp [tk]
    omega
  unfold val_main_v0
  refine shapeCast_apply _ _ _ (ix2 (tk 16 r.val n.val i.val) (ln h l)) ?_
  rw [Shape.rowMajor_val_two, Shape.rowMajor_val_three]
  simp [tk, ln]
  omega

theorem prev (x : FVec Ideal S8192x512 .f32) (r : Fin 16) (h : Fin 8) (n : Fin 4) (i : Fin 128) (l : Fin 64) : val_main_v186 (F := Ideal) x (ix5 r h n i l)
    = if hn : n.val < 1 then 0 else val_main_v183 (F := Ideal) x (ix5 r h ⟨n.val - 1, by omega⟩ i l) := by
  pointwise [val_main_v186, val_main_v185, val_main_v184, val_main_cst_27]

/-- A block's keys: the block before and the block itself. -/
theorem keys {x : FVec Ideal S8192x512 .f32} {X : Fin 8192 → Fin 512 → ℝ} (h1 : ∀ p c, x (ix2 p c) = ((X p c : ℝ) : EReal))
    (r : Fin 16) (h : Fin 8) (n : Fin 4) (j : Fin 256) (l : Fin 64) :
    val_main_v187 (F := Ideal) x (ix5 r h n j l) = ((kk 16 X r.val n.val j.val (ln h l) : ℝ) : EReal) := by
  have e : ∀ (n : Fin 4) (i : Fin 128), val_main_v183 (F := Ideal) x (ix5 r h n i l) = ((X (tk 16 r.val n.val i.val) (ln h l) : ℝ) : EReal) := fun n i => (lay x r h n i l).trans (h1 _ _)
  pointwise [val_main_v187]
  simp only [prev, e]
  unfold kk tk
  split_ifs <;> first
    | rfl
    | omega
    | exact congrArg (fun k => ((X k (ln h l) : ℝ) : EReal)) (Fin.ext (by simp only; omega))

/-- The scores. -/
theorem score (h0 : ∀ p c, x0 (ix2 p c) = ((A.Q p c : ℝ) : EReal)) (h1 : ∀ p c, x1 (ix2 p c) = ((A.K p c : ℝ) : EReal))
    (r : Fin 16) (h : Fin 8) (n : Fin 4) (i : Fin 128) (j : Fin 256) : val_main_v197 (F := Ideal) x0 x1 (ix5 r h n i j)
    = (((∑ l, A.Q (tk 16 r.val n.val i.val) (ln h l) * kk 16 A.K r.val n.val j.val (ln h l)) * (1 / 8) : ℝ) : EReal) := by
  pointwise [val_main_v197, val_main_v196, val_main_cst_29, val_main_v195]
  simp only [lay, h0, keys h1, ← EReal.coe_mul, sum_coe, ofBits_8th]

/-- The mask. -/
theorem mask (n : Fin 4) (i : Fin 128) (j : Fin 256) : val_main_v226 (F := Ideal) (ix3 n i j)
    = if (i.val ≤ j.val ∧ j.val ≤ i.val + 128) ∧ ¬ (n.val = 0 ∧ j.val < 128) then 1#1 else 0#1 := by
  pointwise [val_main_v198, val_main_v199, val_main_v200, val_main_c_30, val_main_v201, val_main_v202, val_main_v203, val_main_v204, val_main_v205, val_main_v206, val_main_v207, val_main_c_31, val_main_v208, val_main_v209, val_main_c_32, val_main_v210, val_main_v211, val_main_v212, val_main_v213, val_main_v214, val_main_c_33, val_main_v215, val_main_v216, val_main_c_34, val_main_v217, val_main_v218, val_main_v219, val_main_v220, val_main_v221, val_main_v222, val_main_v223, val_main_v224, val_main_v225, val_main_v226]
  exact seen_at ⟨n.val, by omega⟩ i j

/-- The distances, weighted by the slopes. -/
theorem bias (h : Fin 8) (i : Fin 128) (j : Fin 256) (hp : i.val ≤ j.val ∧ j.val ≤ i.val + 128) : val_main_v235 (F := Ideal) (ix3 h i j)
    = ((-(Attn.slope h) * ((16 * Attn.step i.val j.val : ℕ) : ℝ) : ℝ) : EReal) := by
  pointwise [val_main_v198, val_main_v199, val_main_v200, val_main_c_30, val_main_v201, val_main_v202, val_main_v203, val_main_v204, val_main_v205, val_main_v206, val_main_v227, val_main_c_35, val_main_v228, val_main_v229, val_main_v230, val_main_v231, val_main_v232, val_main_v233, val_main_v234, val_main_v235]
  refine (congrArg₂ (fun a b => -a * b) (v13 h) (dist_at 16 (by omega) i j hp)).trans ?_
  rw [← EReal.coe_neg, ← EReal.coe_mul]

section
variable (h0 : ∀ p c, x0 (ix2 p c) = ((A.Q p c : ℝ) : EReal)) (h1 : ∀ p c, x1 (ix2 p c) = ((A.K p c : ℝ) : EReal)) (h2 : ∀ p c, x2 (ix2 p c) = ((A.W p c : ℝ) : EReal))
  (r : Fin 16) (h : Fin 8) (n : Fin 4) (i : Fin 128)
include h0 h1

/-- The scores, masked. -/
theorem masked (j : Fin 256) : val_main_v240 (F := Ideal) x0 x1 (ix5 r h n i j) = Attn.S A 16 h (tk 16 r.val n.val i.val) j := by
  have e : val_main_v239 (F := Ideal) x0 x1 (ix5 r h n i j) = val_main_v197 (F := Ideal) x0 x1 (ix5 r h n i j) + val_main_v235 (F := Ideal) (ix3 h i j) := by
    pointwise [val_main_v239, val_main_v238, val_main_v237, val_main_v236]
  have e' : val_main_v240 (F := Ideal) x0 x1 (ix5 r h n i j) = Scalar.select (val_main_v226 (F := Ideal) (ix3 n i j)) (val_main_v239 (F := Ideal) x0 x1 (ix5 r h n i j)) ⊥ := by
    pointwise [val_main_v240, val_main_call3_v2, val_main_call3_v1, val_main_call3_v0, val_main_cst_36]
    exact congrArg (Scalar.select _ _) ofBits_bot
  rw [e', e, mask, S_tk br r.isLt n.isLt i j]
  by_cases hp : (i.val ≤ j.val ∧ j.val ≤ i.val + 128) ∧ ¬ (n.val = 0 ∧ j.val < 128)
  · rw [if_pos hp, if_pos hp, score h0 h1, bias h i j hp.1, ← EReal.coe_add]
    rfl
  · rw [if_neg hp, if_neg hp]
    rfl

theorem rmax : val_main_v241 (F := Ideal) x0 x1 (ix4 r h n i) = ((rowM (Attn.S A 16 h (tk 16 r.val n.val i.val)) : ℝ) : EReal) := by
  pointwise [val_main_v241, val_main_cst_37]
  rw [ofBits_bot, ← sup_coe (good A 16 h _)]
  exact congrArg (fun f => Finset.fold max ⊥ f Finset.univ) (funext (masked h0 h1 r h n i))

theorem weight (j : Fin 256) : val_main_v245 (F := Ideal) x0 x1 (ix5 r h n i j) = ((rowE (Attn.S A 16 h (tk 16 r.val n.val i.val)) j : ℝ) : EReal) := by
  pointwise [val_main_v245, val_main_v244, val_main_v243, val_main_v242]
  refine (congrArg₂ (fun a b => Ideal.exp (a - b)) (masked h0 h1 r h n i j) (rmax h0 h1 r h n i)).trans (exp_row (good A 16 h _) j)

theorem total : val_main_v246 (F := Ideal) x0 x1 (ix4 r h n i) = ((rowD (Attn.S A 16 h (tk 16 r.val n.val i.val)) : ℝ) : EReal) := by
  pointwise [val_main_v246, val_main_cst_38]
  refine (Finset.sum_congr rfl fun j _ => weight h0 h1 r h n i j).trans ?_
  rw [sum_coe]
  rfl

/-- The log-sum-exps. -/
theorem blockL : val_main_v252 (F := Ideal) x0 x1 (ix5 r h n i 0) = ((Attn.l A 16 h (tk 16 r.val n.val i.val) : ℝ) : EReal) := by
  have e1 : val_main_v242 (F := Ideal) x0 x1 (ix5 r h n i 0) = val_main_v241 (F := Ideal) x0 x1 (ix4 r h n i) := by
    pointwise [val_main_v242]
  have e2 : val_main_v247 (F := Ideal) x0 x1 (ix5 r h n i 0) = val_main_v246 (F := Ideal) x0 x1 (ix4 r h n i) := by
    pointwise [val_main_v247]
  have e3 : ∀ k, val_main_v252 (F := Ideal) x0 x1 k = val_main_v242 (F := Ideal) x0 x1 k + Ideal.log (val_main_v247 (F := Ideal) x0 x1 k) := by
    unfold val_main_v252 val_main_v251
    exact add_log _ _
  rw [e3, e1, e2, rmax h0 h1 r h n i, total h0 h1 r h n i, log_row (good A 16 h _), ← EReal.coe_add, Attn.l, rowL]

include h2 in
/-- The outputs. -/
theorem blockO (l : Fin 64) : val_main_v250 (F := Ideal) x0 x1 x2 (ix5 r h n i l) = ((Attn.o A 16 (tk 16 r.val n.val i.val) (ln h l) : ℝ) : EReal) := by
  have ev : val_main_v194 (F := Ideal) x2 = val_main_v187 (F := Ideal) x2 := rfl
  pointwise [val_main_v250, val_main_v249, val_main_v248, val_main_v247]
  rw [ev, total h0 h1 r h n i]
  refine (congrArg (fun a => Ideal.div a _) ((Finset.sum_congr rfl fun j _ => (congrArg₂ (· * ·) (weight h0 h1 r h n i j) (keys h2 r h n j l)).trans (EReal.coe_mul _ _).symm).trans
    (sum_coe _))).trans ((div_row (good A 16 h _) _).trans ?_)
  exact congrArg (fun x : ℝ => (x : EReal)) (o_tk br r.isLt n.isLt i A h l)

end

section
variable (h0 : ∀ p c, x0 (ix2 p c) = ((A.Q p c : ℝ) : EReal)) (h1 : ∀ p c, x1 (ix2 p c) = ((A.K p c : ℝ) : EReal)) (h2 : ∀ p c, x2 (ix2 p c) = ((A.W p c : ℝ) : EReal))
  (p : Fin 8192) (h : Fin 8)
include h0 h1

/-- The branch's log-sum-exps, by token. -/
theorem lse : val_main_v259 (F := Ideal) x0 x1 (ix2 p h) = ((Attn.l A 16 h p : ℝ) : EReal) := by
  unfold val_main_v259
  refine (shapeCast_apply _ _ _ (ix3 ⟨p.val / 16, by omega⟩ ⟨p.val % 16, by omega⟩ h) ?_).trans ?_
  · rw [Shape.rowMajor_val_three, Shape.rowMajor_val_two]
    simp
    omega
  unfold val_main_v258
  refine (transpose_apply _ _ _ _ (ix3 ⟨p.val % 16, by omega⟩ h ⟨p.val / 16, by omega⟩) ?_).trans ?_
  · intro b
    fin_cases b <;> rfl
  unfold val_main_v257
  refine (shapeCast_apply _ _ _ (ix4 ⟨p.val % 16, by omega⟩ h ⟨p.val / 16 / 128, by omega⟩ ⟨p.val / 16 % 128, by omega⟩) ?_).trans ?_
  · rw [Shape.rowMajor_val_three, Shape.rowMajor_val_four]
    simp
    omega
  unfold val_main_v253
  refine (shapeCast_apply _ _ _ (ix5 ⟨p.val % 16, by omega⟩ h ⟨p.val / 16 / 128, by omega⟩ ⟨p.val / 16 % 128, by omega⟩ 0) ?_).trans ?_
  · rw [Shape.rowMajor_val_five, Shape.rowMajor_val_four]
    simp
  refine (blockL h0 h1 _ h _ _).trans ?_
  exact congrArg (fun k => ((Attn.l A 16 h k : ℝ) : EReal)) (tk_split br p)

include h2 in
/-- The branch's outputs, by token. -/
theorem out (l : Fin 64) : val_main_v256 (F := Ideal) x0 x1 x2 (ix3 p h l) = ((Attn.o A 16 p (ln h l) : ℝ) : EReal) := by
  unfold val_main_v256
  refine (shapeCast_apply _ _ _ (ix4 ⟨p.val / 16, by omega⟩ ⟨p.val % 16, by omega⟩ h l) ?_).trans ?_
  · rw [Shape.rowMajor_val_four, Shape.rowMajor_val_three]
    simp
    omega
  unfold val_main_v255
  refine (transpose_apply _ _ _ _ (ix4 ⟨p.val % 16, by omega⟩ h ⟨p.val / 16, by omega⟩ l) ?_).trans ?_
  · intro b
    fin_cases b <;> rfl
  unfold val_main_v254
  refine (shapeCast_apply _ _ _ (ix5 ⟨p.val % 16, by omega⟩ h ⟨p.val / 16 / 128, by omega⟩ ⟨p.val / 16 % 128, by omega⟩ l) ?_).trans ?_
  · rw [Shape.rowMajor_val_five, Shape.rowMajor_val_four]
    simp
    omega
  refine (blockO h0 h1 h2 _ h _ _ l).trans ?_
  exact congrArg (fun k => ((Attn.o A 16 k (ln h l) : ℝ) : EReal)) (tk_split br p)

end

end Cert.AttnFRefIdeal.Hand.B16
-- ==== Proof.AttnRef.lean ====
module

public import proofs.«01_k».proof.Proof.AttnRef1
public import proofs.«01_k».proof.Proof.AttnRef4
public import proofs.«01_k».proof.Proof.AttnRef16

@[expose] public section

set_option maxRecDepth 16384

noncomputable section

/-! The reference's three branches, joined. -/

namespace Cert.AttnFRefIdeal.Hand

open Cert.AttnFRefIdeal Cert.AttnFRefIdeal.Gen Cert.AttnFRefIdeal.Value Cert.AttnFRefIdeal.Read Cert.Hand Cert.Hand.Attn Idealize.ShloMosaic Idealize.ShloMosaic.TcCoe Idealize.SL.Sem

theorem cat3_0 {n m : ℕ} (x y z : FVec Ideal ⟨3, ![1, n, m]⟩ .f32) (hc : Shape.Concatenates [⟨3, ![1, n, m]⟩, ⟨3, ![1, n, m]⟩, ⟨3, ![1, n, m]⟩] ⟨3, ![3, n, m]⟩ 0) (a : Fin n) (b : Fin m) :
    concatenate ⟨3, ![3, n, m]⟩ 0 [⟨⟨3, ![1, n, m]⟩, x⟩, ⟨⟨3, ![1, n, m]⟩, y⟩, ⟨⟨3, ![1, n, m]⟩, z⟩] hc (ix3 0 a b) = x (ix3 0 a b) :=
  concatenate_apply_piece (t := ⟨3, ![3, n, m]⟩) 0 [⟨⟨3, ![1, n, m]⟩, x⟩, ⟨⟨3, ![1, n, m]⟩, y⟩, ⟨⟨3, ![1, n, m]⟩, z⟩] hc (ix3 0 a b) 0 (by simp) ⟨3, ![1, n, m]⟩ x rfl rfl 0 rfl _
    (fun b hb => by fin_cases b <;> first | rfl | exact absurd rfl hb) rfl

theorem cat3_1 {n m : ℕ} (x y z : FVec Ideal ⟨3, ![1, n, m]⟩ .f32) (hc : Shape.Concatenates [⟨3, ![1, n, m]⟩, ⟨3, ![1, n, m]⟩, ⟨3, ![1, n, m]⟩] ⟨3, ![3, n, m]⟩ 0) (a : Fin n) (b : Fin m) :
    concatenate ⟨3, ![3, n, m]⟩ 0 [⟨⟨3, ![1, n, m]⟩, x⟩, ⟨⟨3, ![1, n, m]⟩, y⟩, ⟨⟨3, ![1, n, m]⟩, z⟩] hc (ix3 1 a b) = y (ix3 0 a b) :=
  concatenate_apply_piece (t := ⟨3, ![3, n, m]⟩) 0 [⟨⟨3, ![1, n, m]⟩, x⟩, ⟨⟨3, ![1, n, m]⟩, y⟩, ⟨⟨3, ![1, n, m]⟩, z⟩] hc (ix3 1 a b) 1 (by simp) ⟨3, ![1, n, m]⟩ y rfl rfl 1 rfl _
    (fun b hb => by fin_cases b <;> first | rfl | exact absurd rfl hb) rfl

theorem cat3_2 {n m : ℕ} (x y z : FVec Ideal ⟨3, ![1, n, m]⟩ .f32) (hc : Shape.Concatenates [⟨3, ![1, n, m]⟩, ⟨3, ![1, n, m]⟩, ⟨3, ![1, n, m]⟩] ⟨3, ![3, n, m]⟩ 0) (a : Fin n) (b : Fin m) :
    concatenate ⟨3, ![3, n, m]⟩ 0 [⟨⟨3, ![1, n, m]⟩, x⟩, ⟨⟨3, ![1, n, m]⟩, y⟩, ⟨⟨3, ![1, n, m]⟩, z⟩] hc (ix3 2 a b) = z (ix3 0 a b) :=
  concatenate_apply_piece (t := ⟨3, ![3, n, m]⟩) 0 [⟨⟨3, ![1, n, m]⟩, x⟩, ⟨⟨3, ![1, n, m]⟩, y⟩, ⟨⟨3, ![1, n, m]⟩, z⟩] hc (ix3 2 a b) 2 (by simp) ⟨3, ![1, n, m]⟩ z rfl rfl 2 rfl _
    (fun b hb => by fin_cases b <;> first | rfl | exact absurd rfl hb) rfl

theorem cat4_0 {n m q : ℕ} (x y z : FVec Ideal ⟨4, ![1, n, m, q]⟩ .f32) (hc : Shape.Concatenates [⟨4, ![1, n, m, q]⟩, ⟨4, ![1, n, m, q]⟩, ⟨4, ![1, n, m, q]⟩] ⟨4, ![3, n, m, q]⟩ 0) (a : Fin n) (b : Fin m) (l : Fin q) :
    concatenate ⟨4, ![3, n, m, q]⟩ 0 [⟨⟨4, ![1, n, m, q]⟩, x⟩, ⟨⟨4, ![1, n, m, q]⟩, y⟩, ⟨⟨4, ![1, n, m, q]⟩, z⟩] hc (ix4 0 a b l) = x (ix4 0 a b l) :=
  concatenate_apply_piece (t := ⟨4, ![3, n, m, q]⟩) 0 [⟨⟨4, ![1, n, m, q]⟩, x⟩, ⟨⟨4, ![1, n, m, q]⟩, y⟩, ⟨⟨4, ![1, n, m, q]⟩, z⟩] hc (ix4 0 a b l) 0 (by simp) ⟨4, ![1, n, m, q]⟩ x rfl rfl 0 rfl _
    (fun b hb => by fin_cases b <;> first | rfl | exact absurd rfl hb) rfl

theorem cat4_1 {n m q : ℕ} (x y z : FVec Ideal ⟨4, ![1, n, m, q]⟩ .f32) (hc : Shape.Concatenates [⟨4, ![1, n, m, q]⟩, ⟨4, ![1, n, m, q]⟩, ⟨4, ![1, n, m, q]⟩] ⟨4, ![3, n, m, q]⟩ 0) (a : Fin n) (b : Fin m) (l : Fin q) :
    concatenate ⟨4, ![3, n, m, q]⟩ 0 [⟨⟨4, ![1, n, m, q]⟩, x⟩, ⟨⟨4, ![1, n, m, q]⟩, y⟩, ⟨⟨4, ![1, n, m, q]⟩, z⟩] hc (ix4 1 a b l) = y (ix4 0 a b l) :=
  concatenate_apply_piece (t := ⟨4, ![3, n, m, q]⟩) 0 [⟨⟨4, ![1, n, m, q]⟩, x⟩, ⟨⟨4, ![1, n, m, q]⟩, y⟩, ⟨⟨4, ![1, n, m, q]⟩, z⟩] hc (ix4 1 a b l) 1 (by simp) ⟨4, ![1, n, m, q]⟩ y rfl rfl 1 rfl _
    (fun b hb => by fin_cases b <;> first | rfl | exact absurd rfl hb) rfl

theorem cat4_2 {n m q : ℕ} (x y z : FVec Ideal ⟨4, ![1, n, m, q]⟩ .f32) (hc : Shape.Concatenates [⟨4, ![1, n, m, q]⟩, ⟨4, ![1, n, m, q]⟩, ⟨4, ![1, n, m, q]⟩] ⟨4, ![3, n, m, q]⟩ 0) (a : Fin n) (b : Fin m) (l : Fin q) :
    concatenate ⟨4, ![3, n, m, q]⟩ 0 [⟨⟨4, ![1, n, m, q]⟩, x⟩, ⟨⟨4, ![1, n, m, q]⟩, y⟩, ⟨⟨4, ![1, n, m, q]⟩, z⟩] hc (ix4 2 a b l) = z (ix4 0 a b l) :=
  concatenate_apply_piece (t := ⟨4, ![3, n, m, q]⟩) 0 [⟨⟨4, ![1, n, m, q]⟩, x⟩, ⟨⟨4, ![1, n, m, q]⟩, y⟩, ⟨⟨4, ![1, n, m, q]⟩, z⟩] hc (ix4 2 a b l) 2 (by simp) ⟨4, ![1, n, m, q]⟩ z rfl rfl 2 rfl _
    (fun b hb => by fin_cases b <;> first | rfl | exact absurd rfl hb) rfl

theorem fold3 (f : Fin 3 → EReal) : Finset.fold max ⊥ f Finset.univ = max (max (f 0) (f 1)) (f 2) := by
  have : (Finset.univ : Finset (Fin 3)) = {0, 1, 2} := by decide
  rw [this]
  simp [max_assoc]

variable {x0 x1 x2 : FVec Ideal S8192x512 .f32} {A : Arrs}

/-- The branches' log-sum-exps, largest, and outputs. -/
def LS (A : Arrs) (p : Fin 8192) (h : Fin 8) : Fin 3 → ℝ := ![Attn.l A 1 h p, Attn.l A 4 h p, Attn.l A 16 h p]
def mxL (A : Arrs) (p : Fin 8192) (h : Fin 8) : ℝ := max (max (Attn.l A 1 h p) (Attn.l A 4 h p)) (Attn.l A 16 h p)
def OS (A : Arrs) (p : Fin 8192) (c : Fin 512) : Fin 3 → ℝ := ![Attn.o A 1 p c, Attn.o A 4 p c, Attn.o A 16 p c]

section
variable (h0 : ∀ p c, x0 (ix2 p c) = ((A.Q p c : ℝ) : EReal)) (h1 : ∀ p c, x1 (ix2 p c) = ((A.K p c : ℝ) : EReal)) (h2 : ∀ p c, x2 (ix2 p c) = ((A.W p c : ℝ) : EReal))
  (p : Fin 8192) (h : Fin 8)
include h0 h1

theorem v260 : val_main_v260 (F := Ideal) x0 x1 (ix3 0 p h) = ((Attn.l A 1 h p : ℝ) : EReal) := by
  pointwise [val_main_v260]
  exact B1.lse h0 h1 p h
theorem v263_0 : val_main_v263 (F := Ideal) x0 x1 (ix3 0 p h) = ((Attn.l A 1 h p : ℝ) : EReal) := by
  unfold val_main_v263
  rw [cat3_0]
  exact v260 h0 h1 p h
theorem v261 : val_main_v261 (F := Ideal) x0 x1 (ix3 0 p h) = ((Attn.l A 4 h p : ℝ) : EReal) := by
  pointwise [val_main_v261]
  exact B4.lse h0 h1 p h
theorem v263_1 : val_main_v263 (F := Ideal) x0 x1 (ix3 1 p h) = ((Attn.l A 4 h p : ℝ) : EReal) := by
  unfold val_main_v263
  rw [cat3_1]
  exact v261 h0 h1 p h
theorem v262 : val_main_v262 (F := Ideal) x0 x1 (ix3 0 p h) = ((Attn.l A 16 h p : ℝ) : EReal) := by
  pointwise [val_main_v262]
  exact B16.lse h0 h1 p h
theorem v263_2 : val_main_v263 (F := Ideal) x0 x1 (ix3 2 p h) = ((Attn.l A 16 h p : ℝ) : EReal) := by
  unfold val_main_v263
  rw [cat3_2]
  exact v262 h0 h1 p h

theorem v263 (k : Fin 3) : val_main_v263 (F := Ideal) x0 x1 (ix3 k p h) = ((LS A p h k : ℝ) : EReal) := by
  have e : ∀ k : Fin 3, k = 0 ∨ k = 1 ∨ k = 2 := by decide
  rcases e k with rfl | rfl | rfl
  · exact v263_0 h0 h1 p h
  · exact v263_1 h0 h1 p h
  · exact v263_2 h0 h1 p h

theorem v266 : val_main_v266 (F := Ideal) x0 x1 (ix2 p h) = ((mxL A p h : ℝ) : EReal) := by
  pointwise [val_main_v266, val_main_v265, val_main_v264, val_main_cst_39, val_main_cst_40]
  rw [ofBits_bot]
  have e : Finset.fold max ⊥ (fun k => val_main_v263 (F := Ideal) x0 x1 (ix3 k p h)) Finset.univ = ((mxL A p h : ℝ) : EReal) := by
    rw [fold3, v263 h0 h1, v263 h0 h1, v263 h0 h1, mxL, EReal.coe_strictMono.monotone.map_max, EReal.coe_strictMono.monotone.map_max]
    rfl
  exact (congrArg (max ⊥) e).trans (bot_sup_eq _)

theorem v270 (k : Fin 3) : val_main_v270 (F := Ideal) x0 x1 (ix3 k p h) = ((Real.exp (LS A p h k - mxL A p h) : ℝ) : EReal) := by
  pointwise [val_main_v270, val_main_v269, val_main_v268, val_main_v267]
  rw [v263 h0 h1, v266 h0 h1, ← EReal.coe_sub, Ideal.exp_coe]

theorem v271 : val_main_v271 (F := Ideal) x0 x1 (ix2 p h) = ((tot (Attn.l A 1 h p) (Attn.l A 4 h p) (Attn.l A 16 h p) : ℝ) : EReal) := by
  pointwise [val_main_v271, val_main_cst_41]
  refine (Finset.sum_congr rfl fun k _ => v270 h0 h1 p h k).trans ?_
  rw [sum_coe, Fin.sum_univ_three]
  rfl

theorem v284 : val_main_v284 (F := Ideal) x0 x1 (ix2 p h)
    = ((Real.exp (Attn.l A 1 h p) + Real.exp (Attn.l A 4 h p) + Real.exp (Attn.l A 16 h p) : ℝ) : EReal) := by
  pointwise [val_main_v284, val_main_v283, val_main_cst_43]
  refine (Finset.sum_congr rfl fun k _ => (congrArg Ideal.exp (v263 h0 h1 p h k)).trans (Ideal.exp_coe _)).trans ?_
  rw [sum_coe, Fin.sum_univ_three]
  rfl

theorem v285 : val_main_v285 (F := Ideal) x0 x1 (ix2 p h) = ((Attn.lse A h p : ℝ) : EReal) := by
  have e : val_main_v285 (F := Ideal) x0 x1 (ix2 p h) = Ideal.log (val_main_v284 (F := Ideal) x0 x1 (ix2 p h)) := by
    unfold val_main_v285
    exact log_at _ _
  rw [e, v284 h0 h1, Ideal.log_coe, if_neg (not_le.2 (by positivity)), log_sum_exp]
  rfl

include h2

theorem v276 (l : Fin 64) : val_main_v276 (F := Ideal) x0 x1 x2 (ix4 0 p h l) = ((Attn.o A 1 p (ln h l) : ℝ) : EReal) := by
  pointwise [val_main_v276]
  exact B1.out h0 h1 h2 p h l
theorem v279_0 (l : Fin 64) : val_main_v279 (F := Ideal) x0 x1 x2 (ix4 0 p h l) = ((Attn.o A 1 p (ln h l) : ℝ) : EReal) := by
  unfold val_main_v279
  rw [cat4_0]
  exact v276 h0 h1 h2 p h l
theorem v277 (l : Fin 64) : val_main_v277 (F := Ideal) x0 x1 x2 (ix4 0 p h l) = ((Attn.o A 4 p (ln h l) : ℝ) : EReal) := by
  pointwise [val_main_v277]
  exact B4.out h0 h1 h2 p h l
theorem v279_1 (l : Fin 64) : val_main_v279 (F := Ideal) x0 x1 x2 (ix4 1 p h l) = ((Attn.o A 4 p (ln h l) : ℝ) : EReal) := by
  unfold val_main_v279
  rw [cat4_1]
  exact v277 h0 h1 h2 p h l
theorem v278 (l : Fin 64) : val_main_v278 (F := Ideal) x0 x1 x2 (ix4 0 p h l) = ((Attn.o A 16 p (ln h l) : ℝ) : EReal) := by
  pointwise [val_main_v278]
  exact B16.out h0 h1 h2 p h l
theorem v279_2 (l : Fin 64) : val_main_v279 (F := Ideal) x0 x1 x2 (ix4 2 p h l) = ((Attn.o A 16 p (ln h l) : ℝ) : EReal) := by
  unfold val_main_v279
  rw [cat4_2]
  exact v278 h0 h1 h2 p h l

theorem v279 (k : Fin 3) (l : Fin 64) : val_main_v279 (F := Ideal) x0 x1 x2 (ix4 k p h l) = ((OS A p (ln h l) k : ℝ) : EReal) := by
  have e : ∀ k : Fin 3, k = 0 ∨ k = 1 ∨ k = 2 := by decide
  rcases e k with rfl | rfl | rfl
  · exact v279_0 h0 h1 h2 p h l
  · exact v279_1 h0 h1 h2 p h l
  · exact v279_2 h0 h1 h2 p h l

theorem v282 (l : Fin 64) : val_main_v282 (F := Ideal) x0 x1 x2 (ix3 p h l) = ((Attn.out A p (ln h l) : ℝ) : EReal) := by
  pointwise [val_main_v282, val_main_v281, val_main_v280, val_main_v275, val_main_v274, val_main_v273, val_main_v272, val_main_cst_42]
  refine (Finset.sum_congr rfl fun k _ => (congrArg₂ (· * ·) ((congrArg₂ Ideal.div (v270 h0 h1 p h k) (v271 h0 h1 p h)).trans (div_tot _ _ _ _)) (v279 h0 h1 h2 p h k l)).trans
    (EReal.coe_mul _ _).symm).trans ?_
  rw [sum_coe, Fin.sum_univ_three]
  have e : Attn.hd (ln h l) = h := Fin.ext (by simp only [Attn.hd, ln]; omega)
  refine congrArg (fun x : ℝ => (x : EReal)) ?_
  simp only [Attn.out, e, LS, OS, mxL, Matrix.cons_val]
  ring

end

section
variable (h0 : ∀ p c, x0 (ix2 p c) = ((A.Q p c : ℝ) : EReal)) (h1 : ∀ p c, x1 (ix2 p c) = ((A.K p c : ℝ) : EReal)) (h2 : ∀ p c, x2 (ix2 p c) = ((A.W p c : ℝ) : EReal))
  (p : Fin 8192) (c : Fin 512)
include h0 h1

/-- The log-sum-exps, spread over each head's elements. -/
theorem v288 : val_main_v288 (F := Ideal) x0 x1 (ix2 p c) = ((Attn.lse A (Attn.hd c) p : ℝ) : EReal) := by
  unfold val_main_v288
  refine (shapeCast_apply _ _ _ (ix3 p (Attn.hd c) (⟨c.val % 64, by omega⟩ : Fin 64)) ?_).trans ?_
  · rw [Shape.rowMajor_val_three, Shape.rowMajor_val_two]
    simp [Attn.hd]
    omega
  pointwise [val_main_v287]
  exact v285 h0 h1 p _

include h2 in
/-- The attention's output. -/
theorem v286 : val_main_v286 (F := Ideal) x0 x1 x2 (ix2 p c) = ((Attn.out A p c : ℝ) : EReal) := by
  unfold val_main_v286
  refine (shapeCast_apply _ _ _ (ix3 p (Attn.hd c) (⟨c.val % 64, by omega⟩ : Fin 64)) ?_).trans ?_
  · rw [Shape.rowMajor_val_three, Shape.rowMajor_val_two]
    simp [Attn.hd]
    omega
  refine (v282 h0 h1 h2 p _ _).trans ?_
  exact congrArg (fun k => ((Attn.out A p k : ℝ) : EReal)) (Fin.ext (by simp only [ln, Attn.hd]; omega))

end

end Cert.AttnFRefIdeal.Hand
-- ==== Proof.AttnClaim.lean ====
module

public import proofs.«01_k».proof.Defs
public import proofs.«01_k».proof.Proof.Gen.Pre_attn_fwd_finite
public import proofs.«01_k».proof.Proof.Gen.AttnF.Frame
public import proofs.«01_k».proof.Proof.AttnRes
public import proofs.«01_k».proof.Proof.AttnRef

@[expose] public section

set_option maxRecDepth 16384

noncomputable section

/-! The claims about the attention's forward call. -/

namespace Cert.AttnFIdeal.Hand

open Cert.AttnFIdeal Cert.AttnFIdeal.Gen Cert.Hand Idealize.ShloMosaic Idealize.ShloMosaic.TcCoe Idealize.SL.Sem

/-- The real numbers that the arguments hold. -/
def arrs (m : (ℓ : Loc nD τ sig) → Buf (Elt Ideal) ℓ) (c : Dev nD) : Attn.Arrs where
  Q := fun i j => (m ((c.tc : Thread nD τ).loc main_arg0) (ix2 i j)).toReal
  K := fun i j => (m ((c.tc : Thread nD τ).loc main_arg1) (ix2 i j)).toReal
  W := fun i j => (m ((c.tc : Thread nD τ).loc main_arg2) (ix2 i j)).toReal

/-- Under the precondition every element of every argument is a real number. -/
theorem args (m : (ℓ : Loc nD τ sig) → Buf (Elt Ideal) ℓ) (h : Cert.Pre_AttnFIdeal_attn_fwd_finite m) (c : Dev nD) : Args m c (arrs m c) := by
  have H := congrFun (h c) (Shape.Idx.first Cert.Pre_attn_fwd_finite.Facts.h_S_)
  dsimp only [Cert.Pre_attn_fwd_finite.fn] at H
  obtain ⟨H, e2⟩ := and_split H
  obtain ⟨e0, e1⟩ := and_split H
  haveI : Subsingleton Cert.Pre_attn_fwd_finite.S_.Idx := ⟨fun a b => funext fun i => i.elim0⟩
  have hz {s : Shape} (hb : Cert.Pre_attn_fwd_finite.S_.BroadcastsInDim s ![]) (i : s.Idx) :
      (broadcastInDim s ![] hb (constant Cert.Pre_attn_fwd_finite.S_ .f32 0x00000000#32) : FVec Ideal s .f32) i = 0 := by
    pointwise
  exact
    { h0 := fun i j => finite_of_all _ _ _ _ _ _ (hz _) e0 (ix2 i j)
      h1 := fun i j => finite_of_all _ _ _ _ _ _ (hz _) e1 (ix2 i j)
      h2 := fun i j => finite_of_all _ _ _ _ _ _ (hz _) e2 (ix2 i j) }

end Cert.AttnFIdeal.Hand

namespace Cert.Hand.Attn

open Idealize.ShloMosaic Idealize.ShloMosaic.TcCoe Idealize.SL.Sem

/-- The reference leaves its arguments as they were. -/
theorem frame_ref : Cert.quiescent_AttnFRefIdeal := fun m ρ _ =>
  (θ_run AttnFRefIdeal.defs _ _).mono (fun r h => ⟨fun c => (h c).2.2, sem_eq_zero_of_no_sems (by decide) r.2⟩)
    (AttnFRefIdeal.Value.run (F := Ideal) m ρ)

set_option maxHeartbeats 1600000 in
/-- Kernel and reference leave the same results. -/
theorem algebraic : Cert.algebraic_AttnFIdeal_AttnFRefIdeal_pre_attn_fwd_finite := by
  intro m g m' g' hp hm
  have A := fun c => AttnFIdeal.Hand.args m hp c
  refine ⟨_, _, AttnFIdeal.Value.run_blocks (F := Ideal) m g,
    (θ_run AttnFRefIdeal.defs _ _).mono (fun r h c => ?_) (AttnFRefIdeal.Value.run (F := Ideal) m' g')⟩
  obtain ⟨r0, r1, ha⟩ := h c
  obtain ⟨m0, m1, m2⟩ := hm c
  obtain ⟨h0, h1, h2⟩ := A c
  have g0 : StableHlo.launchContents m' c (Proc.tc.devRef AttnFRefIdeal.main_arg0) = m (c.tc.loc AttnFIdeal.main_arg0) := m0
  have g1 : StableHlo.launchContents m' c (Proc.tc.devRef AttnFRefIdeal.main_arg1) = m (c.tc.loc AttnFIdeal.main_arg1) := m1
  have g2 : StableHlo.launchContents m' c (Proc.tc.devRef AttnFRefIdeal.main_arg2) = m (c.tc.loc AttnFIdeal.main_arg2) := m2
  refine ⟨r0.trans (Eq.trans ?_ (AttnFIdeal.Hand.out6 (A c)).symm), r1.trans (Eq.trans ?_ (AttnFIdeal.Hand.out7 (A c)).symm), ha⟩
  · rw [AttnFRefIdeal.Read.val_main_v286_eq, g0, g1, g2]
    funext y
    idx_vars y
    exact AttnFRefIdeal.Hand.v286 h0 h1 h2 _ _
  · rw [AttnFRefIdeal.Read.val_main_v288_eq, g0, g1]
    funext y
    idx_vars y
    exact AttnFRefIdeal.Hand.v288 h0 h1 _ _

/-- The claims about this call, in the order in which they are stated. -/
theorem claims : Cert.quiescent_AttnF ∧ Cert.quiescent_AttnFIdeal ∧ Cert.quiescent_AttnFIdeal_pre_attn_fwd_finite ∧ Cert.quiescent_AttnFRefIdeal
    ∧ Cert.quiescent_AttnFRefIdeal_pre_attn_fwd_finite ∧ Cert.preserves_AttnF_AttnFIdeal ∧ Cert.algebraic_AttnFIdeal_AttnFRefIdeal_pre_attn_fwd_finite :=
  ⟨fun m ρ _ => AttnF.Gen.frame m ρ, fun m ρ _ => AttnFIdeal.Gen.frame m ρ, fun m ρ _ => AttnFIdeal.Gen.frame m ρ, frame_ref,
    fun m ρ _ => frame_ref m ρ trivial, IdealRules.named_const.statement Cert.AttnFIdeal.κ "mask" .f32 0xF149F2CA#32 ⊥ rfl, algebraic⟩

end Cert.Hand.Attn
-- ==== Proof.lean ====
/- The claims about the calls, put together from the modules that prove each call's. -/
module

public import proofs.«01_k».proof.Defs
public import proofs.«01_k».proof.Proof.Gen.BwdIn
public import proofs.«01_k».proof.Proof.Gen.BwdIn.Frame
public import proofs.«01_k».proof.Proof.Gen.BwdInIdeal
public import proofs.«01_k».proof.Proof.Gen.BwdInIdeal.Frame
public import proofs.«01_k».proof.Proof.Gen.BwdInIdeal.Value
public import proofs.«01_k».proof.Proof.Gen.BwdInRefIdeal
public import proofs.«01_k».proof.Proof.Gen.BwdInRefIdeal.Run
public import proofs.«01_k».proof.Proof.Gen.BwdInRefIdeal.Read
public import proofs.«01_k».proof.Proof.Gen.Pre_bwd_in_finite
public import proofs.«01_k».proof.Proof.InClaim
public import proofs.«01_k».proof.Proof.Gen.BwdFfnA
public import proofs.«01_k».proof.Proof.Gen.BwdFfnA.Frame
public import proofs.«01_k».proof.Proof.Gen.BwdFfnAIdeal
public import proofs.«01_k».proof.Proof.Gen.BwdFfnAIdeal.Frame
public import proofs.«01_k».proof.Proof.Gen.BwdFfnAIdeal.Value
public import proofs.«01_k».proof.Proof.Gen.BwdFfnARefIdeal
public import proofs.«01_k».proof.Proof.Gen.BwdFfnARefIdeal.Run
public import proofs.«01_k».proof.Proof.Gen.BwdFfnARefIdeal.Read
public import proofs.«01_k».proof.Proof.Gen.Pre_bwd_ffn_a_finite
public import proofs.«01_k».proof.Proof.FfnAClaim
public import proofs.«01_k».proof.Proof.Gen.BwdFfnB
public import proofs.«01_k».proof.Proof.Gen.BwdFfnB.Frame
public import proofs.«01_k».proof.Proof.Gen.BwdFfnBIdeal
public import proofs.«01_k».proof.Proof.Gen.BwdFfnBIdeal.Frame
public import proofs.«01_k».proof.Proof.Gen.BwdFfnBIdeal.Value
public import proofs.«01_k».proof.Proof.Gen.BwdFfnBRefIdeal
public import proofs.«01_k».proof.Proof.Gen.BwdFfnBRefIdeal.Run
public import proofs.«01_k».proof.Proof.Gen.BwdFfnBRefIdeal.Read
public import proofs.«01_k».proof.Proof.Gen.Pre_bwd_ffn_b_finite
public import proofs.«01_k».proof.Proof.FfnBClaim
public import proofs.«01_k».proof.Proof.Gen.FwdTail
public import proofs.«01_k».proof.Proof.Gen.FwdTail.Frame
public import proofs.«01_k».proof.Proof.Gen.FwdTailIdeal
public import proofs.«01_k».proof.Proof.Gen.FwdTailIdeal.Frame
public import proofs.«01_k».proof.Proof.Gen.FwdTailIdeal.Value
public import proofs.«01_k».proof.Proof.Gen.FwdTailRefIdeal
public import proofs.«01_k».proof.Proof.Gen.FwdTailRefIdeal.Run
public import proofs.«01_k».proof.Proof.Gen.FwdTailRefIdeal.Read
public import proofs.«01_k».proof.Proof.Gen.Pre_fwd_tail_finite
public import proofs.«01_k».proof.Proof.TailClaim
public import proofs.«01_k».proof.Proof.Gen.FwdMix
public import proofs.«01_k».proof.Proof.Gen.FwdMix.Frame
public import proofs.«01_k».proof.Proof.Gen.FwdMixIdeal
public import proofs.«01_k».proof.Proof.Gen.FwdMixIdeal.Frame
public import proofs.«01_k».proof.Proof.Gen.FwdMixIdeal.Value
public import proofs.«01_k».proof.Proof.Gen.FwdMixRefIdeal
public import proofs.«01_k».proof.Proof.Gen.FwdMixRefIdeal.Run
public import proofs.«01_k».proof.Proof.Gen.FwdMixRefIdeal.Read
public import proofs.«01_k».proof.Proof.Gen.Pre_fwd_mix_finite
public import proofs.«01_k».proof.Proof.FMixClaim
public import proofs.«01_k».proof.Proof.Gen.FwdFfn
public import proofs.«01_k».proof.Proof.Gen.FwdFfn.Frame
public import proofs.«01_k».proof.Proof.Gen.FwdFfnIdeal
public import proofs.«01_k».proof.Proof.Gen.FwdFfnIdeal.Frame
public import proofs.«01_k».proof.Proof.Gen.FwdFfnIdeal.Value
public import proofs.«01_k».proof.Proof.Gen.FwdFfnRefIdeal
public import proofs.«01_k».proof.Proof.Gen.FwdFfnRefIdeal.Run
public import proofs.«01_k».proof.Proof.Gen.FwdFfnRefIdeal.Read
public import proofs.«01_k».proof.Proof.Gen.Pre_fwd_ffn_finite
public import proofs.«01_k».proof.Proof.FFfnClaim
public import proofs.«01_k».proof.Proof.Gen.AttnF
public import proofs.«01_k».proof.Proof.Gen.AttnF.Frame
public import proofs.«01_k».proof.Proof.Gen.AttnFIdeal
public import proofs.«01_k».proof.Proof.Gen.AttnFIdeal.Frame
public import proofs.«01_k».proof.Proof.Gen.AttnFIdeal.Value
public import proofs.«01_k».proof.Proof.Gen.AttnFRefIdeal
public import proofs.«01_k».proof.Proof.Gen.AttnFRefIdeal.Run
public import proofs.«01_k».proof.Proof.Gen.AttnFRefIdeal.Read
public import proofs.«01_k».proof.Proof.Gen.Pre_attn_fwd_finite
public import proofs.«01_k».proof.Proof.AttnClaim
public import Idealize.ShloMosaic.Adequacy
public import Idealize.ShloMosaic.Init

@[expose] public section

noncomputable section

namespace Cert.Proof

open Idealize.ShloMosaic Idealize.SL.Sem

/-- Every claim about every call. -/
theorem claim : Cert.Claim :=
  ⟨Cert.BwdIn.Gen.facts,
    Cert.BwdInIdeal.Gen.facts,
    Cert.BwdInRefIdeal.Gen.facts,
    Cert.BwdFfnA.Gen.facts,
    Cert.BwdFfnAIdeal.Gen.facts,
    Cert.BwdFfnARefIdeal.Gen.facts,
    Cert.BwdFfnB.Gen.facts,
    Cert.BwdFfnBIdeal.Gen.facts,
    Cert.BwdFfnBRefIdeal.Gen.facts,
    Cert.FwdTail.Gen.facts,
    Cert.FwdTailIdeal.Gen.facts,
    Cert.FwdTailRefIdeal.Gen.facts,
    Cert.FwdMix.Gen.facts,
    Cert.FwdMixIdeal.Gen.facts,
    Cert.FwdMixRefIdeal.Gen.facts,
    Cert.FwdFfn.Gen.facts,
    Cert.FwdFfnIdeal.Gen.facts,
    Cert.FwdFfnRefIdeal.Gen.facts,
    Cert.AttnF.Gen.facts,
    Cert.AttnFIdeal.Gen.facts,
    Cert.AttnFRefIdeal.Gen.facts,
    Cert.Pre_bwd_in_finite.Gen.facts,
    Cert.Pre_bwd_ffn_a_finite.Gen.facts,
    Cert.Pre_bwd_ffn_b_finite.Gen.facts,
    Cert.Pre_fwd_tail_finite.Gen.facts,
    Cert.Pre_fwd_mix_finite.Gen.facts,
    Cert.Pre_fwd_ffn_finite.Gen.facts,
    Cert.Pre_attn_fwd_finite.Gen.facts,
    Cert.Hand.In.claims.1,
    Cert.Hand.In.claims.2.1,
    Cert.Hand.In.claims.2.2.1,
    Cert.Hand.In.claims.2.2.2.1,
    Cert.Hand.In.claims.2.2.2.2.1,
    Cert.Hand.FfnA.claims.1,
    Cert.Hand.FfnA.claims.2.1,
    Cert.Hand.FfnA.claims.2.2.1,
    Cert.Hand.FfnA.claims.2.2.2.1,
    Cert.Hand.FfnA.claims.2.2.2.2.1,
    Cert.Hand.FfnB.claims.1,
    Cert.Hand.FfnB.claims.2.1,
    Cert.Hand.FfnB.claims.2.2.1,
    Cert.Hand.FfnB.claims.2.2.2.1,
    Cert.Hand.FfnB.claims.2.2.2.2.1,
    Cert.Hand.Tail.claims.1,
    Cert.Hand.Tail.claims.2.1,
    Cert.Hand.Tail.claims.2.2.1,
    Cert.Hand.Tail.claims.2.2.2.1,
    Cert.Hand.Tail.claims.2.2.2.2.1,
    Cert.Hand.FMix.claims.1,
    Cert.Hand.FMix.claims.2.1,
    Cert.Hand.FMix.claims.2.2.1,
    Cert.Hand.FMix.claims.2.2.2.1,
    Cert.Hand.FMix.claims.2.2.2.2.1,
    Cert.Hand.FFfn.claims.1,
    Cert.Hand.FFfn.claims.2.1,
    Cert.Hand.FFfn.claims.2.2.1,
    Cert.Hand.FFfn.claims.2.2.2.1,
    Cert.Hand.FFfn.claims.2.2.2.2.1,
    Cert.Hand.Attn.claims.1,
    Cert.Hand.Attn.claims.2.1,
    Cert.Hand.Attn.claims.2.2.1,
    Cert.Hand.Attn.claims.2.2.2.1,
    Cert.Hand.Attn.claims.2.2.2.2.1,
    Cert.Hand.In.claims.2.2.2.2.2.1,
    Cert.Hand.In.claims.2.2.2.2.2.2,
    Cert.Hand.FfnA.claims.2.2.2.2.2.1,
    Cert.Hand.FfnA.claims.2.2.2.2.2.2,
    Cert.Hand.FfnB.claims.2.2.2.2.2.1,
    Cert.Hand.FfnB.claims.2.2.2.2.2.2,
    Cert.Hand.Tail.claims.2.2.2.2.2.1,
    Cert.Hand.Tail.claims.2.2.2.2.2.2,
    Cert.Hand.FMix.claims.2.2.2.2.2.1,
    Cert.Hand.FMix.claims.2.2.2.2.2.2,
    Cert.Hand.FFfn.claims.2.2.2.2.2.1,
    Cert.Hand.FFfn.claims.2.2.2.2.2.2,
    Cert.Hand.Attn.claims.2.2.2.2.2.1,
    Cert.Hand.Attn.claims.2.2.2.2.2.2⟩

end Cert.Proof

end
